-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12))) = (fun _ => 1#1)

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_proj_finite [hPre_proj_finite : Cert.Pre_proj_finite.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_gate_finite [hPre_gate_finite : Cert.Pre_gate_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_gate_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_gate_finite [hPre_gate_finite : Cert.Pre_gate_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_gate_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_proj_finite [hProjBwdIdeal : Cert.ProjBwdIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_proj_finite m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdIdeal_pre_gate_finite [hFfnFwdIdeal : Cert.FfnFwdIdeal.Facts] [hPre_gate_finite : Cert.Pre_gate_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_gate_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnFwdRefIdeal_pre_gate_finite [hFfnFwdRefIdeal : Cert.FfnFwdRefIdeal.Facts] [hPre_gate_finite : Cert.Pre_gate_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_gate_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def preserves_LossHead_LossHeadIdeal : Prop :=
  True

def algebraic_LossHeadIdeal_LossRefIdeal_pre_loss_finite [hLossHeadIdeal : Cert.LossHeadIdeal.Facts] [hLossRefIdeal : Cert.LossRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_loss_finite m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Mix_MixIdeal : Prop :=
  IdealRules.named_const.Statement Cert.MixIdeal.κ "gelu_cubic" .f32 0x3D372713#32 ((8943 / 200000 : ℝ) : EReal)
  ∧ IdealRules.named_const.Statement Cert.MixIdeal.κ "gelu_cubic_slope" .f32 0x3E095D4F#32 ((26829 / 200000 : ℝ) : EReal)

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v248_0)) (v1 : (c : Dev Cert.MixIdeal.nD) → Buf (Elt Ideal) ((c.tc : Thread Cert.MixIdeal.nD Cert.MixIdeal.τ).loc Cert.MixIdeal.main_v248_1)) (v2 : (c : Dev Cert.MixIdeal.nD) → Buf (Elt Ideal) ((c.tc : Thread Cert.MixIdeal.nD Cert.MixIdeal.τ).loc Cert.MixIdeal.main_v248_2)) (v3 : (c : Dev Cert.MixIdeal.nD) → Buf (Elt Ideal) ((c.tc : Thread Cert.MixIdeal.nD Cert.MixIdeal.τ).loc Cert.MixIdeal.main_v248_3)) (v4 : (c : Dev Cert.MixIdeal.nD) → Buf (Elt Ideal) ((c.tc : Thread Cert.MixIdeal.nD Cert.MixIdeal.τ).loc Cert.MixIdeal.main_v248_4)) (v5 : (c : Dev Cert.MixIdeal.nD) → Buf (Elt Ideal) ((c.tc : Thread Cert.MixIdeal.nD Cert.MixIdeal.τ).loc Cert.MixIdeal.main_v248_5)) (v6 : (c : Dev Cert.MixIdeal.nD) → Buf (Elt Ideal) ((c.tc : Thread Cert.MixIdeal.nD Cert.MixIdeal.τ).loc Cert.MixIdeal.main_v248_6)) (v7 : (c : Dev Cert.MixIdeal.nD) → Buf (Elt Ideal) ((c.tc : Thread Cert.MixIdeal.nD Cert.MixIdeal.τ).loc Cert.MixIdeal.main_v248_7)) (v8 : (c : Dev Cert.MixIdeal.nD) → Buf (Elt Ideal) ((c.tc : Thread Cert.MixIdeal.nD Cert.MixIdeal.τ).loc Cert.MixIdeal.main_v248_8)) (v9 : (c : Dev Cert.MixIdeal.nD) → Buf (Elt Ideal) ((c.tc : Thread Cert.MixIdeal.nD Cert.MixIdeal.τ).loc Cert.MixIdeal.main_v248_9)) (v10 : (c : Dev Cert.MixIdeal.nD) → Buf (Elt Ideal) ((c.tc : Thread Cert.MixIdeal.nD Cert.MixIdeal.τ).loc Cert.MixIdeal.main_v248_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v248_0) = v0 c
          ∧ r.2.mem ((c.tc : Thread Cert.MixIdeal.nD Cert.MixIdeal.τ).loc Cert.MixIdeal.main_v248_1) = v1 c
          ∧ r.2.mem ((c.tc : Thread Cert.MixIdeal.nD Cert.MixIdeal.τ).loc Cert.MixIdeal.main_v248_2) = v2 c
          ∧ r.2.mem ((c.tc : Thread Cert.MixIdeal.nD Cert.MixIdeal.τ).loc Cert.MixIdeal.main_v248_3) = v3 c
          ∧ r.2.mem ((c.tc : Thread Cert.MixIdeal.nD Cert.MixIdeal.τ).loc Cert.MixIdeal.main_v248_4) = v4 c
          ∧ r.2.mem ((c.tc : Thread Cert.MixIdeal.nD Cert.MixIdeal.τ).loc Cert.MixIdeal.main_v248_5) = v5 c
          ∧ r.2.mem ((c.tc : Thread Cert.MixIdeal.nD Cert.MixIdeal.τ).loc Cert.MixIdeal.main_v248_6) = v6 c
          ∧ r.2.mem ((c.tc : Thread Cert.MixIdeal.nD Cert.MixIdeal.τ).loc Cert.MixIdeal.main_v248_7) = v7 c
          ∧ r.2.mem ((c.tc : Thread Cert.MixIdeal.nD Cert.MixIdeal.τ).loc Cert.MixIdeal.main_v248_8) = v8 c
          ∧ r.2.mem ((c.tc : Thread Cert.MixIdeal.nD Cert.MixIdeal.τ).loc Cert.MixIdeal.main_v248_9) = v9 c
          ∧ r.2.mem ((c.tc : Thread Cert.MixIdeal.nD Cert.MixIdeal.τ).loc Cert.MixIdeal.main_v248_10) = v10 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v1038) = v0 c
          ∧ r.2.mem ((c.tc : Thread Cert.MixRefIdeal.nD Cert.MixRefIdeal.τ).loc Cert.MixRefIdeal.main_v965) = v1 c
          ∧ r.2.mem ((c.tc : Thread Cert.MixRefIdeal.nD Cert.MixRefIdeal.τ).loc Cert.MixRefIdeal.main_v1039) = v2 c
          ∧ r.2.mem ((c.tc : Thread Cert.MixRefIdeal.nD Cert.MixRefIdeal.τ).loc Cert.MixRefIdeal.main_v1041) = v3 c
          ∧ r.2.mem ((c.tc : Thread Cert.MixRefIdeal.nD Cert.MixRefIdeal.τ).loc Cert.MixRefIdeal.main_v1043) = v4 c
          ∧ r.2.mem ((c.tc : Thread Cert.MixRefIdeal.nD Cert.MixRefIdeal.τ).loc Cert.MixRefIdeal.main_v1044) = v5 c
          ∧ r.2.mem ((c.tc : Thread Cert.MixRefIdeal.nD Cert.MixRefIdeal.τ).loc Cert.MixRefIdeal.main_v1045) = v6 c
          ∧ r.2.mem ((c.tc : Thread Cert.MixRefIdeal.nD Cert.MixRefIdeal.τ).loc Cert.MixRefIdeal.main_v1046) = v7 c
          ∧ r.2.mem ((c.tc : Thread Cert.MixRefIdeal.nD Cert.MixRefIdeal.τ).loc Cert.MixRefIdeal.main_v1047) = v8 c
          ∧ r.2.mem ((c.tc : Thread Cert.MixRefIdeal.nD Cert.MixRefIdeal.τ).loc Cert.MixRefIdeal.main_v483) = v9 c
          ∧ r.2.mem ((c.tc : Thread Cert.MixRefIdeal.nD Cert.MixRefIdeal.τ).loc Cert.MixRefIdeal.main_v478) = v10 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_ProjBwd_ProjBwdIdeal : Prop :=
  True

def algebraic_ProjBwdIdeal_ProjRefIdeal_pre_proj_finite [hProjBwdIdeal : Cert.ProjBwdIdeal.Facts] [hProjRefIdeal : Cert.ProjRefIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjBwdIdeal_proj_finite m →
    (∀ c : Dev Cert.ProjBwdIdeal.nD,
      m' ((c.tc : Thread Cert.ProjRefIdeal.nD Cert.ProjRefIdeal.τ).loc Cert.ProjRefIdeal.main_arg0) = m ((c.tc : Thread Cert.ProjBwdIdeal.nD Cert.ProjBwdIdeal.τ).loc Cert.ProjBwdIdeal.main_arg0)
      ∧ m' ((c.tc : Thread Cert.ProjRefIdeal.nD Cert.ProjRefIdeal.τ).loc Cert.ProjRefIdeal.main_arg1) = m ((c.tc : Thread Cert.ProjBwdIdeal.nD Cert.ProjBwdIdeal.τ).loc Cert.ProjBwdIdeal.main_arg1)
      ∧ m' ((c.tc : Thread Cert.ProjRefIdeal.nD Cert.ProjRefIdeal.τ).loc Cert.ProjRefIdeal.main_arg2) = m ((c.tc : Thread Cert.ProjBwdIdeal.nD Cert.ProjBwdIdeal.τ).loc Cert.ProjBwdIdeal.main_arg2)
      ∧ m' ((c.tc : Thread Cert.ProjRefIdeal.nD Cert.ProjRefIdeal.τ).loc Cert.ProjRefIdeal.main_arg3) = m ((c.tc : Thread Cert.ProjBwdIdeal.nD Cert.ProjBwdIdeal.τ).loc Cert.ProjBwdIdeal.main_arg3)
      ∧ m' ((c.tc : Thread Cert.ProjRefIdeal.nD Cert.ProjRefIdeal.τ).loc Cert.ProjRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v6_0)) (v1 : (c : Dev Cert.ProjBwdIdeal.nD) → Buf (Elt Ideal) ((c.tc : Thread Cert.ProjBwdIdeal.nD Cert.ProjBwdIdeal.τ).loc Cert.ProjBwdIdeal.main_v6_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v6_0) = v0 c
          ∧ r.2.mem ((c.tc : Thread Cert.ProjBwdIdeal.nD Cert.ProjBwdIdeal.τ).loc Cert.ProjBwdIdeal.main_v6_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v40) = v0 c
          ∧ r.2.mem ((c.tc : Thread Cert.ProjRefIdeal.nD Cert.ProjRefIdeal.τ).loc Cert.ProjRefIdeal.main_v41) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v38_0)) (v1 : (c : Dev Cert.FfnBwdIdeal.nD) → Buf (Elt Ideal) ((c.tc : Thread Cert.FfnBwdIdeal.nD Cert.FfnBwdIdeal.τ).loc Cert.FfnBwdIdeal.main_v38_1)) (v2 : (c : Dev Cert.FfnBwdIdeal.nD) → Buf (Elt Ideal) ((c.tc : Thread Cert.FfnBwdIdeal.nD Cert.FfnBwdIdeal.τ).loc Cert.FfnBwdIdeal.main_v38_2)) (v3 : (c : Dev Cert.FfnBwdIdeal.nD) → Buf (Elt Ideal) ((c.tc : Thread Cert.FfnBwdIdeal.nD Cert.FfnBwdIdeal.τ).loc Cert.FfnBwdIdeal.main_v38_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v38_0) = v0 c
          ∧ r.2.mem ((c.tc : Thread Cert.FfnBwdIdeal.nD Cert.FfnBwdIdeal.τ).loc Cert.FfnBwdIdeal.main_v38_1) = v1 c
          ∧ r.2.mem ((c.tc : Thread Cert.FfnBwdIdeal.nD Cert.FfnBwdIdeal.τ).loc Cert.FfnBwdIdeal.main_v38_2) = v2 c
          ∧ r.2.mem ((c.tc : Thread Cert.FfnBwdIdeal.nD Cert.FfnBwdIdeal.τ).loc Cert.FfnBwdIdeal.main_v38_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_v58) = v1 c
          ∧ r.2.mem ((c.tc : Thread Cert.FfnRefIdeal.nD Cert.FfnRefIdeal.τ).loc Cert.FfnRefIdeal.main_v60) = v2 c
          ∧ r.2.mem ((c.tc : Thread Cert.FfnRefIdeal.nD Cert.FfnRefIdeal.τ).loc Cert.FfnRefIdeal.main_v61) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFwd_FfnFwdIdeal : Prop :=
  True

def algebraic_FfnFwdIdeal_FfnFwdRefIdeal_pre_gate_finite [hFfnFwdIdeal : Cert.FfnFwdIdeal.Facts] [hFfnFwdRefIdeal : Cert.FfnFwdRefIdeal.Facts] [hPre_gate_finite : Cert.Pre_gate_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_gate_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v27) = v0 c
          ∧ r.2.mem ((c.tc : Thread Cert.FfnFwdRefIdeal.nD Cert.FfnFwdRefIdeal.τ).loc Cert.FfnFwdRefIdeal.main_v29) = v1 c
          ∧ r.2.mem ((c.tc : Thread Cert.FfnFwdRefIdeal.nD Cert.FfnFwdRefIdeal.τ).loc Cert.FfnFwdRefIdeal.main_v31) = v2 c
          ∧ r.2.mem ((c.tc : Thread Cert.FfnFwdRefIdeal.nD Cert.FfnFwdRefIdeal.τ).loc Cert.FfnFwdRefIdeal.main_v33) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v3_0)) (v1 : (c : Dev Cert.ProjFwdIdeal.nD) → Buf (Elt Ideal) ((c.tc : Thread Cert.ProjFwdIdeal.nD Cert.ProjFwdIdeal.τ).loc Cert.ProjFwdIdeal.main_v3_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v3_0) = v0 c
          ∧ r.2.mem ((c.tc : Thread Cert.ProjFwdIdeal.nD Cert.ProjFwdIdeal.τ).loc Cert.ProjFwdIdeal.main_v3_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v14) = v0 c
          ∧ r.2.mem ((c.tc : Thread Cert.ProjFwdRefIdeal.nD Cert.ProjFwdRefIdeal.τ).loc Cert.ProjFwdRefIdeal.main_v17) = v1 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v7_0)) (v1 : (c : Dev Cert.MergeFwdIdeal.nD) → Buf (Elt Ideal) ((c.tc : Thread Cert.MergeFwdIdeal.nD Cert.MergeFwdIdeal.τ).loc Cert.MergeFwdIdeal.main_v7_1)) (v2 : (c : Dev Cert.MergeFwdIdeal.nD) → Buf (Elt Ideal) ((c.tc : Thread Cert.MergeFwdIdeal.nD Cert.MergeFwdIdeal.τ).loc Cert.MergeFwdIdeal.main_v7_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v7_0) = v0 c
          ∧ r.2.mem ((c.tc : Thread Cert.MergeFwdIdeal.nD Cert.MergeFwdIdeal.τ).loc Cert.MergeFwdIdeal.main_v7_1) = v1 c
          ∧ r.2.mem ((c.tc : Thread Cert.MergeFwdIdeal.nD Cert.MergeFwdIdeal.τ).loc Cert.MergeFwdIdeal.main_v7_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v14) = v0 c
          ∧ r.2.mem ((c.tc : Thread Cert.MergeFwdRefIdeal.nD Cert.MergeFwdRefIdeal.τ).loc Cert.MergeFwdRefIdeal.main_v16) = v1 c
          ∧ r.2.mem ((c.tc : Thread Cert.MergeFwdRefIdeal.nD Cert.MergeFwdRefIdeal.τ).loc Cert.MergeFwdRefIdeal.main_v18) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def Claim : Prop :=
  ∃ (hLossHead : Cert.LossHead.Facts) (hLossHeadIdeal : Cert.LossHeadIdeal.Facts) (hLossRefIdeal : Cert.LossRefIdeal.Facts) (hMix : Cert.Mix.Facts) (hMixIdeal : Cert.MixIdeal.Facts) (hMixRefIdeal : Cert.MixRefIdeal.Facts) (hProjBwd : Cert.ProjBwd.Facts) (hProjBwdIdeal : Cert.ProjBwdIdeal.Facts) (hProjRefIdeal : Cert.ProjRefIdeal.Facts) (hFfnBwd : Cert.FfnBwd.Facts) (hFfnBwdIdeal : Cert.FfnBwdIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hProjFwd : Cert.ProjFwd.Facts) (hProjFwdIdeal : Cert.ProjFwdIdeal.Facts) (hProjFwdRefIdeal : Cert.ProjFwdRefIdeal.Facts) (hMergeFwd : Cert.MergeFwd.Facts) (hMergeFwdIdeal : Cert.MergeFwdIdeal.Facts) (hMergeFwdRefIdeal : Cert.MergeFwdRefIdeal.Facts) (hPre_loss_finite : Cert.Pre_loss_finite.Facts) (hPre_mix_finite : Cert.Pre_mix_finite.Facts) (hPre_proj_finite : Cert.Pre_proj_finite.Facts) (hPre_ffn_finite : Cert.Pre_ffn_finite.Facts) (hPre_gate_finite : Cert.Pre_gate_finite.Facts),
    quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_ProjBwd (hProjBwd := hProjBwd)
    ∧ quiescent_ProjBwdIdeal (hProjBwdIdeal := hProjBwdIdeal)
    ∧ quiescent_ProjBwdIdeal_pre_proj_finite (hProjBwdIdeal := hProjBwdIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdIdeal_pre_gate_finite (hFfnFwdIdeal := hFfnFwdIdeal) (hPre_gate_finite := hPre_gate_finite)
    ∧ quiescent_FfnFwdRefIdeal (hFfnFwdRefIdeal := hFfnFwdRefIdeal)
    ∧ quiescent_FfnFwdRefIdeal_pre_gate_finite (hFfnFwdRefIdeal := hFfnFwdRefIdeal) (hPre_gate_finite := hPre_gate_finite)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ preserves_LossHead_LossHeadIdeal
    ∧ algebraic_LossHeadIdeal_LossRefIdeal_pre_loss_finite (hLossHeadIdeal := hLossHeadIdeal) (hLossRefIdeal := hLossRefIdeal) (hPre_loss_finite := hPre_loss_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_ProjBwd_ProjBwdIdeal
    ∧ algebraic_ProjBwdIdeal_ProjRefIdeal_pre_proj_finite (hProjBwdIdeal := hProjBwdIdeal) (hProjRefIdeal := hProjRefIdeal) (hPre_proj_finite := hPre_proj_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_FfnFwd_FfnFwdIdeal
    ∧ algebraic_FfnFwdIdeal_FfnFwdRefIdeal_pre_gate_finite (hFfnFwdIdeal := hFfnFwdIdeal) (hFfnFwdRefIdeal := hFfnFwdRefIdeal) (hPre_gate_finite := hPre_gate_finite)
    ∧ preserves_ProjFwd_ProjFwdIdeal
    ∧ algebraic_ProjFwdIdeal_ProjFwdRefIdeal (hProjFwdIdeal := hProjFwdIdeal) (hProjFwdRefIdeal := hProjFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
-- ==== Pre_ffn_finite.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1024 .f32) (main_arg2 : FVec F S1024x5632 .f32) (main_arg3 : FVec F S2816x1024 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_gate_finite.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S1x4096x1024 .f32) (main_arg1 : FVec F S1024 .f32) (main_arg2 : FVec F S1024x5632 .f32) (main_arg3 : FVec F S2816x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_loss_finite.lean ====
abbrev S1x4096x1024 : Shape := ⟨3, ![1, 4096, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x4096x1024 .f32) (main_arg1 : FVec F S1024 .f32) (main_arg2 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  main_v13
-- ==== Pre_mix_finite.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S1x4096x4x512 : Shape := ⟨4, ![1, 4096, 4, 512]⟩
abbrev S_ : Shape := ⟨0, ![]⟩

class Facts : Prop where
  bcast_S_S1x4096x8192 : S_.BroadcastsInDim S1x4096x8192 (![] : Fin 0 → Fin S1x4096x8192.rank)
  reducesTo_S1x4096x8192_S_d0_1_2 : S1x4096x8192.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_
  bcast_S_S3x512 : S_.BroadcastsInDim S3x512 (![] : Fin 0 → Fin S3x512.rank)
  reducesTo_S3x512_S_d0_1 : S3x512.ReducesTo [0, 1] S_
  bcast_S_S31x512 : S_.BroadcastsInDim S31x512 (![] : Fin 0 → Fin S31x512.rank)
  reducesTo_S31x512_S_d0_1 : S31x512.ReducesTo [0, 1] S_
  bcast_S_S4x128 : S_.BroadcastsInDim S4x128 (![] : Fin 0 → Fin S4x128.rank)
  reducesTo_S4x128_S_d0_1 : S4x128.ReducesTo [0, 1] S_
  bcast_S_S1x4096x4x512 : S_.BroadcastsInDim S1x4096x4x512 (![] : Fin 0 → Fin S1x4096x4x512.rank)
  reducesTo_S1x4096x4x512_S_d0_1_2_3 : S1x4096x4x512.ReducesTo [0, 1, 2, 3] S_

variable [Facts]

def fn_part3 {F : FTy → Type} [FloatOps F] (main_arg11 : FVec F S1x4096x4x512 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S1x4096x4x512 .f32 := Host.absf main_arg11
  let main_cst_20 : FVec F S_ .f32 := constant S_ .f32 0x7F800000#32
  let main_v55 : FVec F S1x4096x4x512 .f32 := broadcastInDim S1x4096x4x512 ![] bcast_S_S1x4096x4x512 main_cst_20
  let main_v56 : IVec S1x4096x4x512 1 := cmpf .olt main_v54 main_v55
  let main_c_21 : IVec S_ 1 := constantI S_ 1 1#1
  let main_v57 : IVec S_ 1 := (fun x v => Host.reduce IntOp.andi x v reducesTo_S1x4096x4x512_S_d0_1_2_3 h_S_) main_v56 main_c_21
  let main_v58 : IVec S_ 1 := andi main_v53 main_v57
  main_v58

def fn_part2 {F : FTy → Type} [FloatOps F] (main_arg7 : FVec F S512 .f32) (main_arg8 : FVec F S512 .f32) (main_arg9 : FVec F S4x128x128 .f32) (main_arg10 : FVec F S4x128 .f32) (main_arg11 : FVec F S1x4096x4x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S4x128x128 .f32 := Host.absf main_arg9
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S4x128 .f32 := Host.absf main_arg10
  let main_cst_18 : FVec F S_ .f32 := constant S_ .f32 0x7F800000#32
  let main_v50 : FVec F S4x128 .f32 := broadcastInDim S4x128 ![] bcast_S_S4x128 main_cst_18
  fn_part3 (F := F) main_arg11 main_v48 main_v49 main_v50

def fn_part1 {F : FTy → Type} [FloatOps F] (main_arg4 : FVec F S31x512 .f32) (main_arg5 : FVec F S512 .f32) (main_arg6 : FVec F S512 .f32) (main_arg7 : FVec F S512 .f32) (main_arg8 : FVec F S512 .f32) (main_arg9 : FVec F S4x128x128 .f32) (main_arg10 : FVec F S4x128 .f32) (main_arg11 : FVec F S1x4096x4x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S31x512 .f32 := Host.absf main_arg4
  let main_cst_6 : FVec F S_ .f32 := constant S_ .f32 0x7F800000#32
  let main_v20 : FVec F S31x512 .f32 := broadcastInDim S31x512 ![] bcast_S_S31x512 main_cst_6
  let main_v21 : IVec S31x512 1 := cmpf .olt main_v19 main_v20
  let main_c_7 : IVec S_ 1 := constantI S_ 1 1#1
  let main_v22 : IVec S_ 1 := (fun x v => Host.reduce IntOp.andi x v reducesTo_S31x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x4096x8192 .f32) (main_arg1 : FVec F S4x128x128 .f32) (main_arg2 : FVec F S512 .f32) (main_arg3 : FVec F S3x512 .f32) (main_arg4 : FVec F S31x512 .f32) (main_arg5 : FVec F S512 .f32) (main_arg6 : FVec F S512 .f32) (main_arg7 : FVec F S512 .f32) (main_arg8 : FVec F S512 .f32) (main_arg9 : FVec F S4x128x128 .f32) (main_arg10 : FVec F S4x128 .f32) (main_arg11 : FVec F S1x4096x4x512 .f32) (main_arg12 : FVec F S1x4096x8192 .f32) : IVec S_ 1 :=
  let main_v0 : FVec F S1x4096x8192 .f32 := Host.absf main_arg0
  let main_cst : FVec F S_ .f32 := constant S_ .f32 0x7F800000#32
  let main_v1 : FVec F S1x4096x8192 .f32 := broadcastInDim S1x4096x8192 ![] bcast_S_S1x4096x8192 main_cst
  let main_v2 : IVec S1x4096x8192 1 := cmpf .olt main_v0 main_v1
  let main_c : IVec S_ 1 := constantI S_ 1 1#1
  let main_v3 : IVec S_ 1 := (fun x v => Host.reduce IntOp.andi x v reducesTo_S1x4096x8192_S_d0_1_2 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_arg8 main_arg9 main_arg10 main_arg11 main_v13 main_v16
-- ==== Pre_proj_finite.lean ====
abbrev S1x4096x1024 : Shape := ⟨3, ![1, 4096, 1024]⟩
abbrev S1024 : Shape := ⟨1, ![1024]⟩
abbrev S1024x8192 : Shape := ⟨2, ![1024, 8192]⟩
abbrev S1x4096x8192 : Shape := ⟨3, ![1, 4096, 8192]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x8192 : S_.BroadcastsInDim S1024x8192 (![] : Fin 0 → Fin S1024x8192.rank)
  reducesTo_S1024x8192_S_d0_1 : S1024x8192.ReducesTo [0, 1] S_
  bcast_S_S1x4096x8192 : S_.BroadcastsInDim S1x4096x8192 (![] : Fin 0 → Fin S1x4096x8192.rank)
  reducesTo_S1x4096x8192_S_d0_1_2 : S1x4096x8192.ReducesTo [0, 1, 2] S_

variable [Facts]

def fn_part1 {F : FTy → Type} [FloatOps F] (main_v13 : IVec S_ 1) (main_v16 : IVec S1x4096x8192 1) : IVec S_ 1 :=
  let main_c_5 : IVec S_ 1 := constantI S_ 1 1#1
  let main_v17 : IVec S_ 1 := (fun x v => Host.reduce IntOp.andi x v reducesTo_S1x4096x8192_S_d0_1_2 h_S_) main_v16 main_c_5
  let main_v18 : IVec S_ 1 := andi main_v13 main_v17
  main_v18

def fn {F : FTy → Type} [FloatOps F] (main_arg0 : FVec F S1x4096x1024 .f32) (main_arg1 : FVec F S1024 .f32) (main_arg2 : FVec F S1024x8192 .f32) (main_arg3 : FVec F S1x4096x8192 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S1x4096x8192 .f32 := Host.absf main_arg3
  let main_cst_4 : FVec F S_ .f32 := constant S_ .f32 0x7F800000#32
  let main_v15 : FVec F S1x4096x8192 .f32 := broadcastInDim S1x4096x8192 ![] bcast_S_S1x4096x8192 main_cst_4
  let main_v16 : IVec S1x4096x8192 1 := cmpf .olt main_v14 main_v15
  fn_part1 (F := F) main_v13 main_v16
-- ==== LossHead.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_22 : BitVec 32 := 0#32
  let v60 : BitVec 1 := Scalar.cmpi .ne v59 c0_i32_22
  v60

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v61 : BitVec 1 := Scalar.xori v58 v_true
  let v62 : BitVec 32 := Scalar.extui v61
  let c0_i32_23 : BitVec 32 := 0#32
  let v63 : BitVec 1 := Scalar.cmpi .ne v62 c0_i32_23
  v63

def k0_cond3 (i : grid0.Coords) : BitVec 1 :=
  let arg0 : BitVec 32 := BitVec.ofNat 32 (i 0).val
  let c0_i32_24 : BitVec 32 := 0#32
  let v66 : BitVec 1 := Scalar.cmpi .eq arg0 c0_i32_24
  let v67 : BitVec 32 := Scalar.extui v66
  let c0_i32_25 : BitVec 32 := 0#32
  let v68 : BitVec 1 := Scalar.cmpi .ne v67 c0_i32_25
  v68

def k0_cond4 (i : grid0.Coords) : BitVec 1 :=
  let arg0 : BitVec 32 := BitVec.ofNat 32 (i 0).val
  let c0_i32_24 : BitVec 32 := 0#32
  let v66 : BitVec 1 := Scalar.cmpi .eq arg0 c0_i32_24
  let true_26 : BitVec 1 := 1#1
  let v69 : BitVec 1 := Scalar.xori v66 true_26
  let v70 : BitVec 32 := Scalar.extui v69
  let c0_i32_27 : BitVec 32 := 0#32
  let v71 : BitVec 1 := Scalar.cmpi .ne v70 c0_i32_27
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S1x4096x1024, .f32⟩
  | .hbm, ⟨59, _⟩ => ⟨S1x4096x1024, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S4096x1024, .f32⟩
  | .hbm, ⟨73, _⟩ => ⟨S1x1024, .f32⟩
  | .hbm, ⟨74, _⟩ => ⟨S1x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Mix.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S1x4096x4x512 : Shape := ⟨4, ![1, 4096, 4, 512]⟩
abbrev S4096x8192 : Shape := ⟨2, ![4096, 8192]⟩
abbrev S1x512 : Shape := ⟨2, ![1, 512]⟩
abbrev S_ : Shape := ⟨0, ![]⟩
abbrev S8x512 : Shape := ⟨2, ![8, 512]⟩
abbrev S32x512 : Shape := ⟨2, ![32, 512]⟩
abbrev S128x4 : Shape := ⟨2, ![128, 4]⟩
abbrev S4096x512 : Shape := ⟨2, ![4096, 512]⟩
abbrev S1x4096x512 : Shape := ⟨3, ![1, 4096, 512]⟩
abbrev S1x30x512 : Shape := ⟨3, ![1, 30, 512]⟩
abbrev S1x4126x512 : Shape := ⟨3, ![1, 4126, 512]⟩
abbrev S1x1x512 : Shape := ⟨3, ![1, 1, 512]⟩
abbrev S4096x2048 : Shape := ⟨2, ![4096, 2048]⟩
abbrev S32x4096 : Shape := ⟨2, ![32, 4096]⟩
abbrev S512x4096 : Shape := ⟨2, ![512, 4096]⟩
abbrev S32x2048 : Shape := ⟨2, ![32, 2048]⟩
abbrev S512x2048 : Shape := ⟨2, ![512, 2048]⟩
abbrev S512x512 : Shape := ⟨2, ![512, 512]⟩
abbrev S576x4096 : Shape := ⟨2, ![576, 4096]⟩
abbrev S576x2048 : Shape := ⟨2, ![576, 2048]⟩
abbrev S576x1 : Shape := ⟨2, ![576, 1]⟩
abbrev S576x512 : Shape := ⟨2, ![576, 512]⟩
abbrev S576x128 : Shape := ⟨2, ![576, 128]⟩
abbrev S1x128x128 : Shape := ⟨3, ![1, 128, 128]⟩
abbrev S128x128 : Shape := ⟨2, ![128, 128]⟩
abbrev S512x128 : Shape := ⟨2, ![512, 128]⟩
abbrev S128 : Shape := ⟨1, ![128]⟩
abbrev S1x128 : Shape := ⟨2, ![1, 128]⟩
abbrev S544x512 : Shape := ⟨2, ![544, 512]⟩
abbrev S544 : Shape := ⟨1, ![544]⟩
abbrev S544x1 : Shape := ⟨2, ![544, 1]⟩
abbrev S512x1 : Shape := ⟨2, ![512, 1]⟩
abbrev S128x1 : Shape := ⟨2, ![128, 1]⟩

abbrev nBuf : Space → Nat
  | .hbm => 280
  | .vmem => 40
  | .smem => 0
  | _ => 0

abbrev hbmTy0_0 (i : Nat) : BufTy := match i % 128 with
  | 0 => ⟨S1x4096x8192, .f32⟩
  | 1 => ⟨S4x128x128, .f32⟩
  | 2 => ⟨S512, .f32⟩
  | 3 => ⟨S3x512, .f32⟩
  | 4 => ⟨S31x512, .f32⟩
  | 5 => ⟨S512, .f32⟩
  | 6 => ⟨S512, .f32⟩
  | 7 => ⟨S512, .f32⟩
  | 8 => ⟨S512, .f32⟩
  | 9 => ⟨S4x128x128, .f32⟩
  | 10 => ⟨S4x128, .f32⟩
  | 11 => ⟨S1x4096x4x512, .f32⟩
  | 12 => ⟨S1x4096x8192, .f32⟩
  | 13 => ⟨S4096x8192, .f32⟩
  | 14 => ⟨S4096x8192, .bf16⟩
  | 15 => ⟨S1x512, .f32⟩
  | 16 => ⟨S_, .i32⟩
  | 17 => ⟨S_, .f32⟩
  | 18 => ⟨S8x512, .f32⟩
  | 19 => ⟨S_, .i32⟩
  | 20 => ⟨S_, .f32⟩
  | 21 => ⟨S32x512, .f32⟩
  | 22 => ⟨S1x512, .f32⟩
  | 23 => ⟨S1x512, .f32⟩
  | 24 => ⟨S1x512, .f32⟩
  | 25 => ⟨S1x512, .f32⟩
  | 26 => ⟨S128x4, .f32⟩
  | 27 => ⟨S4096x8192, .f32⟩
  | 28 => ⟨S4096x512, .f32⟩
  | 29 => ⟨S4096x8192, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S1x4096x512, .f32⟩
  | 41 => ⟨S_, .f32⟩
  | 42 => ⟨S1x30x512, .f32⟩
  | 43 => ⟨S1x4126x512, .f32⟩
  | 44 => ⟨S1x512, .f32⟩
  | 45 => ⟨S512, .f32⟩
  | 46 => ⟨S1x4096x512, .f32⟩
  | 47 => ⟨S1x1x512, .f32⟩
  | 48 => ⟨S1x4096x512, .f32⟩
  | 49 => ⟨S1x4096x512, .f32⟩
  | 50 => ⟨S_, .f32⟩
  | 51 => ⟨S1x4096x512, .f32⟩
  | 52 => ⟨S1x4096x512, .f32⟩
  | 53 => ⟨S1x512, .f32⟩
  | 54 => ⟨S512, .f32⟩
  | 55 => ⟨S1x4096x512, .f32⟩
  | 56 => ⟨S1x1x512, .f32⟩
  | 57 => ⟨S1x4096x512, .f32⟩
  | 58 => ⟨S1x4096x512, .f32⟩
  | 59 => ⟨S1x4096x512, .f32⟩
  | 60 => ⟨S1x512, .f32⟩
  | 61 => ⟨S512, .f32⟩
  | 62 => ⟨S1x4096x512, .f32⟩
  | 63 => ⟨S1x1x512, .f32⟩
  | 64 => ⟨S1x4096x512, .f32⟩
  | 65 => ⟨S1x4096x512, .f32⟩
  | 66 => ⟨S1x4096x512, .f32⟩
  | 67 => ⟨S1x512, .f32⟩
  | 68 => ⟨S512, .f32⟩
  | 69 => ⟨S1x4096x512, .f32⟩
  | 70 => ⟨S1x1x512, .f32⟩
  | 71 => ⟨S1x4096x512, .f32⟩
  | 72 => ⟨S1x4096x512, .f32⟩
  | 73 => ⟨S1x4096x512, .f32⟩
  | 74 => ⟨S1x512, .f32⟩
  | 75 => ⟨S512, .f32⟩
  | 76 => ⟨S1x4096x512, .f32⟩
  | 77 => ⟨S1x1x512, .f32⟩
  | 78 => ⟨S1x4096x512, .f32⟩
  | 79 => ⟨S1x4096x512, .f32⟩
  | 80 => ⟨S1x4096x512, .f32⟩
  | 81 => ⟨S1x512, .f32⟩
  | 82 => ⟨S512, .f32⟩
  | 83 => ⟨S1x4096x512, .f32⟩
  | 84 => ⟨S1x1x512, .f32⟩
  | 85 => ⟨S1x4096x512, .f32⟩
  | 86 => ⟨S1x4096x512, .f32⟩
  | 87 => ⟨S1x4096x512, .f32⟩
  | 88 => ⟨S1x512, .f32⟩
  | 89 => ⟨S512, .f32⟩
  | 90 => ⟨S1x4096x512, .f32⟩
  | 91 => ⟨S1x1x512, .f32⟩
  | 92 => ⟨S1x4096x512, .f32⟩
  | 93 => ⟨S1x4096x512, .f32⟩
  | 94 => ⟨S1x4096x512, .f32⟩
  | 95 => ⟨S1x512, .f32⟩
  | 96 => ⟨S512, .f32⟩
  | 97 => ⟨S1x4096x512, .f32⟩
  | 98 => ⟨S1x1x512, .f32⟩
  | 99 => ⟨S1x4096x512, .f32⟩
  | 100 => ⟨S1x4096x512, .f32⟩
  | 101 => ⟨S1x4096x512, .f32⟩
  | 102 => ⟨S1x512, .f32⟩
  | 103 => ⟨S512, .f32⟩
  | 104 => ⟨S1x4096x512, .f32⟩
  | 105 => ⟨S1x1x512, .f32⟩
  | 106 => ⟨S1x4096x512, .f32⟩
  | 107 => ⟨S1x4096x512, .f32⟩
  | 108 => ⟨S1x4096x512, .f32⟩
  | 109 => ⟨S1x512, .f32⟩
  | 110 => ⟨S512, .f32⟩
  | 111 => ⟨S1x4096x512, .f32⟩
  | 112 => ⟨S1x1x512, .f32⟩
  | 113 => ⟨S1x4096x512, .f32⟩
  | 114 => ⟨S1x4096x512, .f32⟩
  | 115 => ⟨S1x4096x512, .f32⟩
  | 116 => ⟨S1x512, .f32⟩
  | 117 => ⟨S512, .f32⟩
  | 118 => ⟨S1x4096x512, .f32⟩
  | 119 => ⟨S1x1x512, .f32⟩
  | 120 => ⟨S1x4096x512, .f32⟩
  | 121 => ⟨S1x4096x512, .f32⟩
  | 122 => ⟨S1x4096x512, .f32⟩
  | 123 => ⟨S1x512, .f32⟩
  | 124 => ⟨S512, .f32⟩
  | 125 => ⟨S1x4096x512, .f32⟩
  | 126 => ⟨S1x1x512, .f32⟩
  | 127 => ⟨S1x4096x512, .f32⟩
  | _ => ⟨S1x4096x8192, .f32⟩

abbrev hbmTy0_1 (i : Nat) : BufTy := match i % 128 with
  | 0 => ⟨S1x4096x512, .f32⟩
  | 1 => ⟨S1x4096x512, .f32⟩
  | 2 => ⟨S1x512, .f32⟩
  | 3 => ⟨S512, .f32⟩
  | 4 => ⟨S1x4096x512, .f32⟩
  | 5 => ⟨S1x1x512, .f32⟩
  | 6 => ⟨S1x4096x512, .f32⟩
  | 7 => ⟨S1x4096x512, .f32⟩
  | 8 => ⟨S1x4096x512, .f32⟩
  | 9 => ⟨S1x512, .f32⟩
  | 10 => ⟨S512, .f32⟩
  | 11 => ⟨S1x4096x512, .f32⟩
  | 12 => ⟨S1x1x512, .f32⟩
  | 13 => ⟨S1x4096x512, .f32⟩
  | 14 => ⟨S1x4096x512, .f32⟩
  | 15 => ⟨S1x4096x512, .f32⟩
  | 16 => ⟨S1x512, .f32⟩
  | 17 => ⟨S512, .f32⟩
  | 18 => ⟨S1x4096x512, .f32⟩
  | 19 => ⟨S1x1x512, .f32⟩
  | 20 => ⟨S1x4096x512, .f32⟩
  | 21 => ⟨S1x4096x512, .f32⟩
  | 22 => ⟨S1x4096x512, .f32⟩
  | 23 => ⟨S1x512, .f32⟩
  | 24 => ⟨S512, .f32⟩
  | 25 => ⟨S1x4096x512, .f32⟩
  | 26 => ⟨S1x1x512, .f32⟩
  | 27 => ⟨S1x4096x512, .f32⟩
  | 28 => ⟨S1x4096x512, .f32⟩
  | 29 => ⟨S1x4096x512, .f32⟩
  | 30 => ⟨S1x512, .f32⟩
  | 31 => ⟨S512, .f32⟩
  | 32 => ⟨S1x4096x512, .f32⟩
  | 33 => ⟨S1x1x512, .f32⟩
  | 34 => ⟨S1x4096x512, .f32⟩
  | 35 => ⟨S1x4096x512, .f32⟩
  | 36 => ⟨S1x4096x512, .f32⟩
  | 37 => ⟨S1x512, .f32⟩
  | 38 => ⟨S512, .f32⟩
  | 39 => ⟨S1x4096x512, .f32⟩
  | 40 => ⟨S1x1x512, .f32⟩
  | 41 => ⟨S1x4096x512, .f32⟩
  | 42 => ⟨S1x4096x512, .f32⟩
  | 43 => ⟨S1x4096x512, .f32⟩
  | 44 => ⟨S1x512, .f32⟩
  | 45 => ⟨S512, .f32⟩
  | 46 => ⟨S1x4096x512, .f32⟩
  | 47 => ⟨S1x1x512, .f32⟩
  | 48 => ⟨S1x4096x512, .f32⟩
  | 49 => ⟨S1x4096x512, .f32⟩
  | 50 => ⟨S1x4096x512, .f32⟩
  | 51 => ⟨S1x512, .f32⟩
  | 52 => ⟨S512, .f32⟩
  | 53 => ⟨S1x4096x512, .f32⟩
  | 54 => ⟨S1x1x512, .f32⟩
  | 55 => ⟨S1x4096x512, .f32⟩
  | 56 => ⟨S1x4096x512, .f32⟩
  | 57 => ⟨S1x4096x512, .f32⟩
  | 58 => ⟨S1x512, .f32⟩
  | 59 => ⟨S512, .f32⟩
  | 60 => ⟨S1x4096x512, .f32⟩
  | 61 => ⟨S1x1x512, .f32⟩
  | 62 => ⟨S1x4096x512, .f32⟩
  | 63 => ⟨S1x4096x512, .f32⟩
  | 64 => ⟨S1x4096x512, .f32⟩
  | 65 => ⟨S1x512, .f32⟩
  | 66 => ⟨S512, .f32⟩
  | 67 => ⟨S1x4096x512, .f32⟩
  | 68 => ⟨S1x1x512, .f32⟩
  | 69 => ⟨S1x4096x512, .f32⟩
  | 70 => ⟨S1x4096x512, .f32⟩
  | 71 => ⟨S1x4096x512, .f32⟩
  | 72 => ⟨S1x512, .f32⟩
  | 73 => ⟨S512, .f32⟩
  | 74 => ⟨S1x4096x512, .f32⟩
  | 75 => ⟨S1x1x512, .f32⟩
  | 76 => ⟨S1x4096x512, .f32⟩
  | 77 => ⟨S1x4096x512, .f32⟩
  | 78 => ⟨S1x4096x512, .f32⟩
  | 79 => ⟨S1x512, .f32⟩
  | 80 => ⟨S512, .f32⟩
  | 81 => ⟨S1x4096x512, .f32⟩
  | 82 => ⟨S1x1x512, .f32⟩
  | 83 => ⟨S1x4096x512, .f32⟩
  | 84 => ⟨S1x4096x512, .f32⟩
  | 85 => ⟨S1x4096x512, .f32⟩
  | 86 => ⟨S1x512, .f32⟩
  | 87 => ⟨S512, .f32⟩
  | 88 => ⟨S1x4096x512, .f32⟩
  | 89 => ⟨S1x1x512, .f32⟩
  | 90 => ⟨S1x4096x512, .f32⟩
  | 91 => ⟨S1x4096x512, .f32⟩
  | 92 => ⟨S1x4096x512, .f32⟩
  | 93 => ⟨S1x512, .f32⟩
  | 94 => ⟨S512, .f32⟩
  | 95 => ⟨S1x4096x512, .f32⟩
  | 96 => ⟨S1x1x512, .f32⟩
  | 97 => ⟨S1x4096x512, .f32⟩
  | 98 => ⟨S1x4096x512, .f32⟩
  | 99 => ⟨S1x4096x512, .f32⟩
  | 100 => ⟨S1x512, .f32⟩
  | 101 => ⟨S512, .f32⟩
  | 102 => ⟨S1x4096x512, .f32⟩
  | 103 => ⟨S1x1x512, .f32⟩
  | 104 => ⟨S1x4096x512, .f32⟩
  | 105 => ⟨S1x4096x512, .f32⟩
  | 106 => ⟨S1x4096x512, .f32⟩
  | 107 => ⟨S1x512, .f32⟩
  | 108 => ⟨S512, .f32⟩
  | 109 => ⟨S1x4096x512, .f32⟩
  | 110 => ⟨S1x1x512, .f32⟩
  | 111 => ⟨S1x4096x512, .f32⟩
  | 112 => ⟨S1x4096x512, .f32⟩
  | 113 => ⟨S1x4096x512, .f32⟩
  | 114 => ⟨S1x512, .f32⟩
  | 115 => ⟨S512, .f32⟩
  | 116 => ⟨S1x4096x512, .f32⟩
  | 117 => ⟨S1x1x512, .f32⟩
  | 118 => ⟨S1x4096x512, .f32⟩
  | 119 => ⟨S1x4096x512, .f32⟩
  | 120 => ⟨S1x4096x512, .f32⟩
  | 121 => ⟨S1x512, .f32⟩
  | 122 => ⟨S512, .f32⟩
  | 123 => ⟨S1x4096x512, .f32⟩
  | 124 => ⟨S1x1x512, .f32⟩
  | 125 => ⟨S1x4096x512, .f32⟩
  | 126 => ⟨S1x4096x512, .f32⟩
  | 127 => ⟨S1x4096x512, .f32⟩
  | _ => ⟨S1x4096x8192, .f32⟩

abbrev hbmTy0_2 (i : Nat) : BufTy := match i % 128 with
  | 0 => ⟨S1x512, .f32⟩
  | 1 => ⟨S512, .f32⟩
  | 2 => ⟨S1x4096x512, .f32⟩
  | 3 => ⟨S1x1x512, .f32⟩
  | 4 => ⟨S1x4096x512, .f32⟩
  | 5 => ⟨S1x4096x512, .f32⟩
  | 6 => ⟨S1x4096x512, .f32⟩
  | 7 => ⟨S4096x512, .f32⟩
  | 8 => ⟨S4096x512, .bf16⟩
  | 9 => ⟨S4096x2048, .f32⟩
  | 10 => ⟨S4096x2048, .bf16⟩
  | 11 => ⟨S4096x8192, .f32⟩
  | 12 => ⟨S4096x8192, .bf16⟩
  | 13 => ⟨S4096x8192, .bf16⟩
  | 14 => ⟨S4x128x128, .f32⟩
  | 15 => ⟨S1x512, .f32⟩
  | 16 => ⟨S8x512, .f32⟩
  | 17 => ⟨S32x512, .f32⟩
  | 18 => ⟨S1x512, .f32⟩
  | 19 => ⟨S1x512, .f32⟩
  | 20 => ⟨S1x512, .f32⟩
  | 21 => ⟨S1x512, .f32⟩
  | 22 => ⟨S4x128x128, .f32⟩
  | 23 => ⟨S4x128x128, .f32⟩
  | _ => ⟨S1x4096x8192, .f32⟩

abbrev hbmTy (i : Nat) : BufTy := match i / 128 with
  | 0 => hbmTy0_0 i
  | 1 => hbmTy0_1 i
  | 2 => hbmTy0_2 i
  | _ => ⟨S1x4096x8192, .f32⟩

abbrev bufTy : (tb : Table) → Fin (tcTables nBuf tb) → BufTy
  | .hbm, ⟨i, _⟩ => hbmTy i
  | .local _ .vmem, ⟨0, _⟩ => ⟨S32x4096, .bf16⟩
  | .local _ .vmem, ⟨1, _⟩ => ⟨S32x4096, .bf16⟩
  | .local _ .vmem, ⟨2, _⟩ => ⟨S512x4096, .bf16⟩
  | .local _ .vmem, ⟨3, _⟩ => ⟨S512x4096, .bf16⟩
  | .local _ .vmem, ⟨4, _⟩ => ⟨S32x4096, .bf16⟩
  | .local _ .vmem, ⟨5, _⟩ => ⟨S32x4096, .bf16⟩
  | .local _ .vmem, ⟨6, _⟩ => ⟨S32x2048, .bf16⟩
  | .local _ .vmem, ⟨7, _⟩ => ⟨S32x2048, .bf16⟩
  | .local _ .vmem, ⟨8, _⟩ => ⟨S512x2048, .bf16⟩
  | .local _ .vmem, ⟨9, _⟩ => ⟨S512x2048, .bf16⟩
  | .local _ .vmem, ⟨10, _⟩ => ⟨S32x2048, .bf16⟩
  | .local _ .vmem, ⟨11, _⟩ => ⟨S32x2048, .bf16⟩
  | .local _ .vmem, ⟨12, _⟩ => ⟨S512x512, .bf16⟩
  | .local _ .vmem, ⟨13, _⟩ => ⟨S512x512, .bf16⟩
  | .local _ .vmem, ⟨14, _⟩ => ⟨S32x512, .bf16⟩
  | .local _ .vmem, ⟨15, _⟩ => ⟨S32x512, .bf16⟩
  | .local _ .vmem, ⟨16, _⟩ => ⟨S4x128x128, .f32⟩
  | .local _ .vmem, ⟨17, _⟩ => ⟨S1x512, .f32⟩
  | .local _ .vmem, ⟨18, _⟩ => ⟨S8x512, .f32⟩
  | .local _ .vmem, ⟨19, _⟩ => ⟨S32x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S4x128x128, .f32⟩
  | .local _ .vmem, ⟨25, _⟩ => ⟨S128x4, .f32⟩
  | .local _ .vmem, ⟨26, _⟩ => ⟨S512x4096, .bf16⟩
  | .local _ .vmem, ⟨27, _⟩ => ⟨S512x4096, .bf16⟩
  | .local _ .vmem, ⟨28, _⟩ => ⟨S4x128x128, .f32⟩
  | .local _ .vmem, ⟨29, _⟩ => ⟨S1x512, .f32⟩
  | .local _ .vmem, ⟨30, _⟩ => ⟨S8x512, .f32⟩
  | .local _ .vmem, ⟨31, _⟩ => ⟨S32x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S4x128x128, .f32⟩
  | .local _ .vmem, ⟨37, _⟩ => ⟨S4x128x128, .f32⟩
  | .local _ .vmem, ⟨38, _⟩ => ⟨S576x4096, .bf16⟩
  | .local _ .vmem, ⟨39, _⟩ => ⟨S576x2048, .bf16⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248_0 : Ref sig .tc := ⟨.hbm, 269, rfl⟩
abbrev main_v248_1 : Ref sig .tc := ⟨.hbm, 270, rfl⟩
abbrev main_v248_2 : Ref sig .tc := ⟨.hbm, 271, rfl⟩
abbrev main_v248_3 : Ref sig .tc := ⟨.hbm, 272, rfl⟩
abbrev main_v248_4 : Ref sig .tc := ⟨.hbm, 273, rfl⟩
abbrev main_v248_5 : Ref sig .tc := ⟨.hbm, 274, rfl⟩
abbrev main_v248_6 : Ref sig .tc := ⟨.hbm, 275, rfl⟩
abbrev main_v248_7 : Ref sig .tc := ⟨.hbm, 276, rfl⟩
abbrev main_v248_8 : Ref sig .tc := ⟨.hbm, 277, rfl⟩
abbrev main_v248_9 : Ref sig .tc := ⟨.hbm, 278, rfl⟩
abbrev main_v248_10 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg28_0 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem27_0 : DmaSem sig := 36
abbrev cc0_sem28_0 : DmaSem sig := 37

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v137 : BitVec 32 := Scalar.extui v0
  let c0_i32_57 : BitVec 32 := 0#32
  let v138 : BitVec 1 := Scalar.cmpi .ne v137 c0_i32_57
  v138

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_58 : BitVec 1 := 1#1
  let v139 : BitVec 1 := Scalar.xori v0 true_58
  let v140 : BitVec 32 := Scalar.extui v139
  let c0_i32_60 : BitVec 32 := 0#32
  let v141 : BitVec 1 := Scalar.cmpi .ne v140 c0_i32_60
  v141

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v166 : BitVec 32 := Scalar.extui v0
  let c0_i32_72 : BitVec 32 := 0#32
  let v167 : BitVec 1 := Scalar.cmpi .ne v166 c0_i32_72
  v167

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_73 : BitVec 1 := 1#1
  let v168 : BitVec 1 := Scalar.xori v0 true_73
  let v169 : BitVec 32 := Scalar.extui v168
  let c0_i32_75 : BitVec 32 := 0#32
  let v170 : BitVec 1 := Scalar.cmpi .ne v169 c0_i32_75
  v170

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v195 : BitVec 32 := Scalar.extui v0
  let c0_i32_87 : BitVec 32 := 0#32
  let v196 : BitVec 1 := Scalar.cmpi .ne v195 c0_i32_87
  v196

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_88 : BitVec 1 := 1#1
  let v197 : BitVec 1 := Scalar.xori v0 true_88
  let v198 : BitVec 32 := Scalar.extui v197
  let c0_i32_90 : BitVec 32 := 0#32
  let v199 : BitVec 1 := Scalar.cmpi .ne v198 c0_i32_90
  v199

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let v224 : BitVec 32 := Scalar.extui v0
  let c0_i32_101 : BitVec 32 := 0#32
  let v225 : BitVec 1 := Scalar.cmpi .ne v224 c0_i32_101
  v225

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let true_102 : BitVec 1 := 1#1
  let v226 : BitVec 1 := Scalar.xori v0 true_102
  let v227 : BitVec 32 := Scalar.extui v226
  let c0_i32_104 : BitVec 32 := 0#32
  let v228 : BitVec 1 := Scalar.cmpi .ne v227 c0_i32_104
  v228

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_51 : BitVec 32 := 0#32
  let v125 : BitVec 1 := Scalar.cmpi .ne v124 c0_i32_51
  v125

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v126 : BitVec 1 := Scalar.xori v0 v_true
  let v127 : BitVec 32 := Scalar.extui v126
  let c0_i32_52 : BitVec 32 := 0#32
  let v128 : BitVec 1 := Scalar.cmpi .ne v127 c0_i32_52
  v128

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v153 : BitVec 32 := Scalar.extui v0
  let c0_i32_66 : BitVec 32 := 0#32
  let v154 : BitVec 1 := Scalar.cmpi .ne v153 c0_i32_66
  v154

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_67 : BitVec 1 := 1#1
  let v155 : BitVec 1 := Scalar.xori v0 true_67
  let v156 : BitVec 32 := Scalar.extui v155
  let c0_i32_68 : BitVec 32 := 0#32
  let v157 : BitVec 1 := Scalar.cmpi .ne v156 c0_i32_68
  v157

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v182 : BitVec 32 := Scalar.extui v0
  let c0_i32_81 : BitVec 32 := 0#32
  let v183 : BitVec 1 := Scalar.cmpi .ne v182 c0_i32_81
  v183

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_82 : BitVec 1 := 1#1
  let v184 : BitVec 1 := Scalar.xori v0 true_82
  let v185 : BitVec 32 := Scalar.extui v184
  let c0_i32_83 : BitVec 32 := 0#32
  let v186 : BitVec 1 := Scalar.cmpi .ne v185 c0_i32_83
  v186

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let v211 : BitVec 32 := Scalar.extui v0
  let c0_i32_96 : BitVec 32 := 0#32
  let v212 : BitVec 1 := Scalar.cmpi .ne v211 c0_i32_96
  v212

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let true_97 : BitVec 1 := 1#1
  let v213 : BitVec 1 := Scalar.xori v0 true_97
  let v214 : BitVec 32 := Scalar.extui v213
  let c0_i32_98 : BitVec 32 := 0#32
  let v215 : BitVec 1 := Scalar.cmpi .ne v214 c0_i32_98
  v215

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let v441 : BitVec 32 := Scalar.extui v0
  let c0_i32_194 : BitVec 32 := 0#32
  let v442 : BitVec 1 := Scalar.cmpi .ne v441 c0_i32_194
  v442

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let true_195 : BitVec 1 := 1#1
  let v443 : BitVec 1 := Scalar.xori v0 true_195
  let v444 : BitVec 32 := Scalar.extui v443
  let c0_i32_196 : BitVec 32 := 0#32
  let v445 : BitVec 1 := Scalar.cmpi .ne v444 c0_i32_196
  v445

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let v449 : BitVec 32 := Scalar.extui v0
  let c0_i32_198 : BitVec 32 := 0#32
  let v450 : BitVec 1 := Scalar.cmpi .ne v449 c0_i32_198
  v450

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let true_199 : BitVec 1 := 1#1
  let v451 : BitVec 1 := Scalar.xori v0 true_199
  let v452 : BitVec 32 := Scalar.extui v451
  let c0_i32_200 : BitVec 32 := 0#32
  let v453 : BitVec 1 := Scalar.cmpi .ne v452 c0_i32_200
  v453

def k0_cond38 (i : grid0.Coords) : BitVec 1 :=
  let arg0 : BitVec 32 := BitVec.ofNat 32 (i 0).val
  let c0_i32 : BitVec 32 := 0#32
  let v0 : BitVec 1 := Scalar.cmpi .eq arg0 c0_i32
  let v1754 : BitVec 32 := Scalar.extui v0
  let c0_i32_726 : BitVec 32 := 0#32
  let v1755 : BitVec 1 := Scalar.cmpi .ne v1754 c0_i32_726
  v1755

def k0_cond39 (i : grid0.Coords) : BitVec 1 :=
  let arg0 : BitVec 32 := BitVec.ofNat 32 (i 0).val
  let c0_i32 : BitVec 32 := 0#32
  let v0 : BitVec 1 := Scalar.cmpi .eq arg0 c0_i32
  let true_727 : BitVec 1 := 1#1
  let v1756 : BitVec 1 := Scalar.xori v0 true_727
  let v1757 : BitVec 32 := Scalar.extui v1756
  let c0_i32_728 : BitVec 32 := 0#32
  let v1758 : BitVec 1 := Scalar.cmpi .ne v1757 c0_i32_728
  v1758

def k0_cond40 (i : grid0.Coords) : BitVec 1 :=
  let arg0 : BitVec 32 := BitVec.ofNat 32 (i 0).val
  let c0_i32 : BitVec 32 := 0#32
  let v0 : BitVec 1 := Scalar.cmpi .eq arg0 c0_i32
  let v1761 : BitVec 32 := Scalar.extui v0
  let c0_i32_730 : BitVec 32 := 0#32
  let v1762 : BitVec 1 := Scalar.cmpi .ne v1761 c0_i32_730
  v1762

def k0_cond41 (i : grid0.Coords) : BitVec 1 :=
  let arg0 : BitVec 32 := BitVec.ofNat 32 (i 0).val
  let c0_i32 : BitVec 32 := 0#32
  let v0 : BitVec 1 := Scalar.cmpi .eq arg0 c0_i32
  let true_731 : BitVec 1 := 1#1
  let v1763 : BitVec 1 := Scalar.xori v0 true_731
  let v1764 : BitVec 32 := Scalar.extui v1763
  let c0_i32_732 : BitVec 32 := 0#32
  let v1765 : BitVec 1 := Scalar.cmpi .ne v1764 c0_i32_732
  v1765

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let v1199 : BitVec 32 := Scalar.extui v0
  let c0_i32_500 : BitVec 32 := 0#32
  let v1200 : BitVec 1 := Scalar.cmpi .ne v1199 c0_i32_500
  v1200

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let true_501 : BitVec 1 := 1#1
  let v1201 : BitVec 1 := Scalar.xori v0 true_501
  let v1202 : BitVec 32 := Scalar.extui v1201
  let c0_i32_503 : BitVec 32 := 0#32
  let v1203 : BitVec 1 := Scalar.cmpi .ne v1202 c0_i32_503
  v1203

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let v1379 : BitVec 32 := Scalar.extui v0
  let c0_i32_572 : BitVec 32 := 0#32
  let v1380 : BitVec 1 := Scalar.cmpi .ne v1379 c0_i32_572
  v1380

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let true_573 : BitVec 1 := 1#1
  let v1381 : BitVec 1 := Scalar.xori v0 true_573
  let v1382 : BitVec 32 := Scalar.extui v1381
  let c0_i32_575 : BitVec 32 := 0#32
  let v1383 : BitVec 1 := Scalar.cmpi .ne v1382 c0_i32_575
  v1383

def k0_cond30 (i : grid0.Coords) : BitVec 1 :=
  let arg0 : BitVec 32 := BitVec.ofNat 32 (i 0).val
  let c0_i32 : BitVec 32 := 0#32
  let v0 : BitVec 1 := Scalar.cmpi .eq arg0 c0_i32
  let v1559 : BitVec 32 := Scalar.extui v0
  let c0_i32_644 : BitVec 32 := 0#32
  let v1560 : BitVec 1 := Scalar.cmpi .ne v1559 c0_i32_644
  v1560

def k0_cond31 (i : grid0.Coords) : BitVec 1 :=
  let arg0 : BitVec 32 := BitVec.ofNat 32 (i 0).val
  let c0_i32 : BitVec 32 := 0#32
  let v0 : BitVec 1 := Scalar.cmpi .eq arg0 c0_i32
  let true_645 : BitVec 1 := 1#1
  let v1561 : BitVec 1 := Scalar.xori v0 true_645
  let v1562 : BitVec 32 := Scalar.extui v1561
  let c0_i32_647 : BitVec 32 := 0#32
  let v1563 : BitVec 1 := Scalar.cmpi .ne v1562 c0_i32_647
  v1563

def k0_cond34 (i : grid0.Coords) : BitVec 1 :=
  let arg0 : BitVec 32 := BitVec.ofNat 32 (i 0).val
  let c0_i32 : BitVec 32 := 0#32
  let v0 : BitVec 1 := Scalar.cmpi .eq arg0 c0_i32
  let v1739 : BitVec 32 := Scalar.extui v0
  let c0_i32_716 : BitVec 32 := 0#32
  let v1740 : BitVec 1 := Scalar.cmpi .ne v1739 c0_i32_716
  v1740

def k0_cond35 (i : grid0.Coords) : BitVec 1 :=
  let arg0 : BitVec 32 := BitVec.ofNat 32 (i 0).val
  let c0_i32 : BitVec 32 := 0#32
  let v0 : BitVec 1 := Scalar.cmpi .eq arg0 c0_i32
  let true_717 : BitVec 1 := 1#1
  let v1741 : BitVec 1 := Scalar.xori v0 true_717
  let v1742 : BitVec 32 := Scalar.extui v1741
  let c0_i32_719 : BitVec 32 := 0#32
  let v1743 : BitVec 1 := Scalar.cmpi .ne v1742 c0_i32_719
  v1743

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let v1204 : BitVec 32 := Scalar.extui v0
  let c0_i32_505 : BitVec 32 := 0#32
  let v1205 : BitVec 1 := Scalar.cmpi .ne v1204 c0_i32_505
  v1205

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let true_506 : BitVec 1 := 1#1
  let v1206 : BitVec 1 := Scalar.xori v0 true_506
  let v1207 : BitVec 32 := Scalar.extui v1206
  let c0_i32_508 : BitVec 32 := 0#32
  let v1208 : BitVec 1 := Scalar.cmpi .ne v1207 c0_i32_508
  v1208

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let v1384 : BitVec 32 := Scalar.extui v0
  let c0_i32_577 : BitVec 32 := 0#32
  let v1385 : BitVec 1 := Scalar.cmpi .ne v1384 c0_i32_577
  v1385

def k0_cond29 (i : grid0.Coords) : BitVec 1 :=
  let arg0 : BitVec 32 := BitVec.ofNat 32 (i 0).val
  let c0_i32 : BitVec 32 := 0#32
  let v0 : BitVec 1 := Scalar.cmpi .eq arg0 c0_i32
  let true_578 : BitVec 1 := 1#1
  let v1386 : BitVec 1 := Scalar.xori v0 true_578
  let v1387 : BitVec 32 := Scalar.extui v1386
  let c0_i32_580 : BitVec 32 := 0#32
  let v1388 : BitVec 1 := Scalar.cmpi .ne v1387 c0_i32_580
  v1388

def k0_cond32 (i : grid0.Coords) : BitVec 1 :=
  let arg0 : BitVec 32 := BitVec.ofNat 32 (i 0).val
  let c0_i32 : BitVec 32 := 0#32
  let v0 : BitVec 1 := Scalar.cmpi .eq arg0 c0_i32
  let v1564 : BitVec 32 := Scalar.extui v0
  let c0_i32_649 : BitVec 32 := 0#32
  let v1565 : BitVec 1 := Scalar.cmpi .ne v1564 c0_i32_649
  v1565

def k0_cond33 (i : grid0.Coords) : BitVec 1 :=
  let arg0 : BitVec 32 := BitVec.ofNat 32 (i 0).val
  let c0_i32 : BitVec 32 := 0#32
  let v0 : BitVec 1 := Scalar.cmpi .eq arg0 c0_i32
  let true_650 : BitVec 1 := 1#1
  let v1566 : BitVec 1 := Scalar.xori v0 true_650
  let v1567 : BitVec 32 := Scalar.extui v1566
  let c0_i32_652 : BitVec 32 := 0#32
  let v1568 : BitVec 1 := Scalar.cmpi .ne v1567 c0_i32_652
  v1568

def k0_cond36 (i : grid0.Coords) : BitVec 1 :=
  let arg0 : BitVec 32 := BitVec.ofNat 32 (i 0).val
  let c0_i32 : BitVec 32 := 0#32
  let v0 : BitVec 1 := Scalar.cmpi .eq arg0 c0_i32
  let v1744 : BitVec 32 := Scalar.extui v0
  let c0_i32_721 : BitVec 32 := 0#32
  let v1745 : BitVec 1 := Scalar.cmpi .ne v1744 c0_i32_721
  v1745

def k0_cond37 (i : grid0.Coords) : BitVec 1 :=
  let arg0 : BitVec 32 := BitVec.ofNat 32 (i 0).val
  let c0_i32 : BitVec 32 := 0#32
  let v0 : BitVec 1 := Scalar.cmpi .eq arg0 c0_i32
  let true_722 : BitVec 1 := 1#1
  let v1746 : BitVec 1 := Scalar.xori v0 true_722
  let v1747 : BitVec 32 := Scalar.extui v1746
  let c0_i32_724 : BitVec 32 := 0#32
  let v1748 : BitVec 1 := Scalar.cmpi .ne v1747 c0_i32_724
  v1748

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S4x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== MixIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== MixRefIdeal.lean ====
abbrev S1x4096x8192 : Shape := ⟨3, ![1, 4096, 8192]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S1x4096x4x512 : Shape := ⟨4, ![1, 4096, 4, 512]⟩
abbrev S4x128x1 : Shape := ⟨3, ![4, 128, 1]⟩
abbrev S1x4096x512 : Shape := ⟨3, ![1, 4096, 512]⟩
abbrev S1x4096x1536 : Shape := ⟨3, ![1, 4096, 1536]⟩
abbrev S1x4096x1024 : Shape := ⟨3, ![1, 4096, 1024]⟩
abbrev S1x4096x4096 : Shape := ⟨3, ![1, 4096, 4096]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4098x128 : Shape := ⟨3, ![1, 4098, 128]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S4x128x1x4096 : Shape := ⟨4, ![4, 128, 1, 4096]⟩
abbrev S1x1x512 : Shape := ⟨3, ![1, 1, 512]⟩
abbrev S1x2x512 : Shape := ⟨3, ![1, 2, 512]⟩
abbrev S1x4098x512 : Shape := ⟨3, ![1, 4098, 512]⟩
abbrev S1x512 : Shape := ⟨2, ![1, 512]⟩
abbrev S1x30x512 : Shape := ⟨3, ![1, 30, 512]⟩
abbrev S1x4126x512 : Shape := ⟨3, ![1, 4126, 512]⟩
abbrev S1x4096 : Shape := ⟨2, ![1, 4096]⟩
abbrev S1x32x128x4x128 : Shape := ⟨5, ![1, 32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4x128 : Shape := ⟨3, ![128, 4, 128]⟩
abbrev S1x1x128x4x128 : Shape := ⟨5, ![1, 1, 128, 4, 128]⟩
abbrev S1x4096x1x512 : Shape := ⟨4, ![1, 4096, 1, 512]⟩
abbrev S1x128x4x128 : Shape := ⟨4, ![1, 128, 4, 128]⟩
abbrev S4x1x4096x128 : Shape := ⟨4, ![4, 1, 4096, 128]⟩
abbrev S4096x4096 : Shape := ⟨2, ![4096, 4096]⟩
abbrev S4096x8192 : Shape := ⟨2, ![4096, 8192]⟩
abbrev S5x512 : Shape := ⟨2, ![5, 512]⟩
abbrev S8x512 : Shape := ⟨2, ![8, 512]⟩
abbrev S32x512 : Shape := ⟨2, ![32, 512]⟩

abbrev nBuf : Space → Nat
  | .hbm => 1349
  | .vmem => 0
  | .smem => 0
  | _ => 0

abbrev hbmTy0_0 (i : Nat) : BufTy := match i % 128 with
  | 0 => ⟨S1x4096x8192, .f32⟩
  | 1 => ⟨S4x128x128, .f32⟩
  | 2 => ⟨S512, .f32⟩
  | 3 => ⟨S3x512, .f32⟩
  | 4 => ⟨S31x512, .f32⟩
  | 5 => ⟨S512, .f32⟩
  | 6 => ⟨S512, .f32⟩
  | 7 => ⟨S512, .f32⟩
  | 8 => ⟨S512, .f32⟩
  | 9 => ⟨S4x128x128, .f32⟩
  | 10 => ⟨S4x128, .f32⟩
  | 11 => ⟨S1x4096x4x512, .f32⟩
  | 12 => ⟨S1x4096x8192, .f32⟩
  | 13 => ⟨S4x128x1, .f32⟩
  | 14 => ⟨S4x128x128, .f32⟩
  | 15 => ⟨S1x4096x512, .f32⟩
  | 16 => ⟨S1x4096x1536, .f32⟩
  | 17 => ⟨S1x4096x1024, .f32⟩
  | 18 => ⟨S1x4096x1024, .f32⟩
  | 19 => ⟨S1x4096x4096, .f32⟩
  | 20 => ⟨S1x4096x4x128, .f32⟩
  | 21 => ⟨S_, .f32⟩
  | 22 => ⟨S_, .f32⟩
  | 23 => ⟨S1x4096x4x128, .f32⟩
  | 24 => ⟨S4096, .i32⟩
  | 25 => ⟨S1x4096x1x128, .f32⟩
  | 26 => ⟨S1x4096x128, .f32⟩
  | 27 => ⟨S_, .f32⟩
  | 28 => ⟨S1x2x128, .f32⟩
  | 29 => ⟨S1x4098x128, .f32⟩
  | 30 => ⟨S_, .f32⟩
  | 31 => ⟨S1x2x128, .f32⟩
  | 32 => ⟨S1x4096x128, .f32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .f32⟩
  | 40 => ⟨S1x4096x1, .f32⟩
  | 41 => ⟨S1x4096x128, .f32⟩
  | 42 => ⟨S1x4096x128, .f32⟩
  | 43 => ⟨S1x4096x128, .f32⟩
  | 44 => ⟨S1x4096x1x128, .f32⟩
  | 45 => ⟨S1x4096x128, .f32⟩
  | 46 => ⟨S1x4096x128, .f32⟩
  | 47 => ⟨S1x4096x1x128, .f32⟩
  | 48 => ⟨S1x4096x128, .f32⟩
  | 49 => ⟨S_, .f32⟩
  | 50 => ⟨S1x4x128, .f32⟩
  | 51 => ⟨S1x4100x128, .f32⟩
  | 52 => ⟨S_, .f32⟩
  | 53 => ⟨S1x4x128, .f32⟩
  | 54 => ⟨S1x4096x128, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S1x4096x1, .f32⟩
  | 63 => ⟨S1x4096x128, .f32⟩
  | 64 => ⟨S1x4096x128, .f32⟩
  | 65 => ⟨S1x4096x128, .f32⟩
  | 66 => ⟨S1x4096x1x128, .f32⟩
  | 67 => ⟨S1x4096x128, .f32⟩
  | 68 => ⟨S1x4096x128, .f32⟩
  | 69 => ⟨S1x4096x1x128, .f32⟩
  | 70 => ⟨S1x4096x128, .f32⟩
  | 71 => ⟨S_, .f32⟩
  | 72 => ⟨S1x8x128, .f32⟩
  | 73 => ⟨S1x4104x128, .f32⟩
  | 74 => ⟨S_, .f32⟩
  | 75 => ⟨S1x8x128, .f32⟩
  | 76 => ⟨S1x4096x128, .f32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .f32⟩
  | 84 => ⟨S1x4096x1, .f32⟩
  | 85 => ⟨S1x4096x128, .f32⟩
  | 86 => ⟨S1x4096x128, .f32⟩
  | 87 => ⟨S1x4096x128, .f32⟩
  | 88 => ⟨S1x4096x1x128, .f32⟩
  | 89 => ⟨S1x4096x128, .f32⟩
  | 90 => ⟨S1x4096x128, .f32⟩
  | 91 => ⟨S1x4096x1x128, .f32⟩
  | 92 => ⟨S1x4096x128, .f32⟩
  | 93 => ⟨S_, .f32⟩
  | 94 => ⟨S1x16x128, .f32⟩
  | 95 => ⟨S1x4112x128, .f32⟩
  | 96 => ⟨S_, .f32⟩
  | 97 => ⟨S1x16x128, .f32⟩
  | 98 => ⟨S1x4096x128, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .f32⟩
  | 106 => ⟨S1x4096x1, .f32⟩
  | 107 => ⟨S1x4096x128, .f32⟩
  | 108 => ⟨S1x4096x128, .f32⟩
  | 109 => ⟨S1x4096x128, .f32⟩
  | 110 => ⟨S1x4096x1x128, .f32⟩
  | 111 => ⟨S1x4096x128, .f32⟩
  | 112 => ⟨S1x4096x128, .f32⟩
  | 113 => ⟨S1x4096x1x128, .f32⟩
  | 114 => ⟨S1x4096x1x128, .f32⟩
  | 115 => ⟨S1x4096x1x128, .f32⟩
  | 116 => ⟨S1x4096x1x128, .f32⟩
  | 117 => ⟨S1x4096x4x128, .f32⟩
  | 118 => ⟨S4x128x1x4096, .f32⟩
  | 119 => ⟨S1x4096x4x128, .f32⟩
  | 120 => ⟨S1x4096x512, .f32⟩
  | 121 => ⟨S1x1x512, .f32⟩
  | 122 => ⟨S1x4096x512, .f32⟩
  | 123 => ⟨S1x4096x512, .f32⟩
  | 124 => ⟨S1x4096x512, .f32⟩
  | 125 => ⟨S1x4096x512, .f32⟩
  | 126 => ⟨S1x4096x512, .f32⟩
  | 127 => ⟨S1x4096x512, .f32⟩
  | _ => ⟨S1x4096x8192, .f32⟩

abbrev hbmTy0_1 (i : Nat) : BufTy := match i % 128 with
  | 0 => ⟨S_, .f32⟩
  | 1 => ⟨S1x2x512, .f32⟩
  | 2 => ⟨S1x4098x512, .f32⟩
  | 3 => ⟨S_, .f32⟩
  | 4 => ⟨S1x2x512, .f32⟩
  | 5 => ⟨S1x512, .f32⟩
  | 6 => ⟨S512, .f32⟩
  | 7 => ⟨S1x4096x512, .f32⟩
  | 8 => ⟨S1x1x512, .f32⟩
  | 9 => ⟨S1x4096x512, .f32⟩
  | 10 => ⟨S1x4096x512, .f32⟩
  | 11 => ⟨S_, .f32⟩
  | 12 => ⟨S1x4096x512, .f32⟩
  | 13 => ⟨S1x4096x512, .f32⟩
  | 14 => ⟨S1x512, .f32⟩
  | 15 => ⟨S512, .f32⟩
  | 16 => ⟨S1x4096x512, .f32⟩
  | 17 => ⟨S1x1x512, .f32⟩
  | 18 => ⟨S1x4096x512, .f32⟩
  | 19 => ⟨S1x4096x512, .f32⟩
  | 20 => ⟨S1x4096x512, .f32⟩
  | 21 => ⟨S1x512, .f32⟩
  | 22 => ⟨S512, .f32⟩
  | 23 => ⟨S1x4096x512, .f32⟩
  | 24 => ⟨S1x1x512, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S_, .f32⟩
  | 34 => ⟨S1x4096x512, .f32⟩
  | 35 => ⟨S1x4096x512, .f32⟩
  | 36 => ⟨S_, .f32⟩
  | 37 => ⟨S1x4096x512, .f32⟩
  | 38 => ⟨S1x4096x512, .f32⟩
  | 39 => ⟨S_, .f32⟩
  | 40 => ⟨S1x4096x512, .f32⟩
  | 41 => ⟨S1x4096x512, .f32⟩
  | 42 => ⟨S1x4096x512, .f32⟩
  | 43 => ⟨S1x4096x512, .f32⟩
  | 44 => ⟨S_, .f32⟩
  | 45 => ⟨S1x30x512, .f32⟩
  | 46 => ⟨S1x4126x512, .f32⟩
  | 47 => ⟨S_, .f32⟩
  | 48 => ⟨S1x30x512, .f32⟩
  | 49 => ⟨S1x512, .f32⟩
  | 50 => ⟨S512, .f32⟩
  | 51 => ⟨S1x4096x512, .f32⟩
  | 52 => ⟨S1x1x512, .f32⟩
  | 53 => ⟨S1x4096x512, .f32⟩
  | 54 => ⟨S1x4096x512, .f32⟩
  | 55 => ⟨S_, .f32⟩
  | 56 => ⟨S1x4096x512, .f32⟩
  | 57 => ⟨S1x4096x512, .f32⟩
  | 58 => ⟨S1x512, .f32⟩
  | 59 => ⟨S512, .f32⟩
  | 60 => ⟨S1x4096x512, .f32⟩
  | 61 => ⟨S1x1x512, .f32⟩
  | 62 => ⟨S1x4096x512, .f32⟩
  | 63 => ⟨S1x4096x512, .f32⟩
  | 64 => ⟨S1x4096x512, .f32⟩
  | 65 => ⟨S1x512, .f32⟩
  | 66 => ⟨S512, .f32⟩
  | 67 => ⟨S1x4096x512, .f32⟩
  | 68 => ⟨S1x1x512, .f32⟩
  | 69 => ⟨S1x4096x512, .f32⟩
  | 70 => ⟨S1x4096x512, .f32⟩
  | 71 => ⟨S1x4096x512, .f32⟩
  | 72 => ⟨S1x512, .f32⟩
  | 73 => ⟨S512, .f32⟩
  | 74 => ⟨S1x4096x512, .f32⟩
  | 75 => ⟨S1x1x512, .f32⟩
  | 76 => ⟨S1x4096x512, .f32⟩
  | 77 => ⟨S1x4096x512, .f32⟩
  | 78 => ⟨S1x4096x512, .f32⟩
  | 79 => ⟨S1x512, .f32⟩
  | 80 => ⟨S512, .f32⟩
  | 81 => ⟨S1x4096x512, .f32⟩
  | 82 => ⟨S1x1x512, .f32⟩
  | 83 => ⟨S1x4096x512, .f32⟩
  | 84 => ⟨S1x4096x512, .f32⟩
  | 85 => ⟨S1x4096x512, .f32⟩
  | 86 => ⟨S1x512, .f32⟩
  | 87 => ⟨S512, .f32⟩
  | 88 => ⟨S1x4096x512, .f32⟩
  | 89 => ⟨S1x1x512, .f32⟩
  | 90 => ⟨S1x4096x512, .f32⟩
  | 91 => ⟨S1x4096x512, .f32⟩
  | 92 => ⟨S1x4096x512, .f32⟩
  | 93 => ⟨S1x512, .f32⟩
  | 94 => ⟨S512, .f32⟩
  | 95 => ⟨S1x4096x512, .f32⟩
  | 96 => ⟨S1x1x512, .f32⟩
  | 97 => ⟨S1x4096x512, .f32⟩
  | 98 => ⟨S1x4096x512, .f32⟩
  | 99 => ⟨S1x4096x512, .f32⟩
  | 100 => ⟨S1x512, .f32⟩
  | 101 => ⟨S512, .f32⟩
  | 102 => ⟨S1x4096x512, .f32⟩
  | 103 => ⟨S1x1x512, .f32⟩
  | 104 => ⟨S1x4096x512, .f32⟩
  | 105 => ⟨S1x4096x512, .f32⟩
  | 106 => ⟨S1x4096x512, .f32⟩
  | 107 => ⟨S1x512, .f32⟩
  | 108 => ⟨S512, .f32⟩
  | 109 => ⟨S1x4096x512, .f32⟩
  | 110 => ⟨S1x1x512, .f32⟩
  | 111 => ⟨S1x4096x512, .f32⟩
  | 112 => ⟨S1x4096x512, .f32⟩
  | 113 => ⟨S1x4096x512, .f32⟩
  | 114 => ⟨S1x512, .f32⟩
  | 115 => ⟨S512, .f32⟩
  | 116 => ⟨S1x4096x512, .f32⟩
  | 117 => ⟨S1x1x512, .f32⟩
  | 118 => ⟨S1x4096x512, .f32⟩
  | 119 => ⟨S1x4096x512, .f32⟩
  | 120 => ⟨S1x4096x512, .f32⟩
  | 121 => ⟨S1x512, .f32⟩
  | 122 => ⟨S512, .f32⟩
  | 123 => ⟨S1x4096x512, .f32⟩
  | 124 => ⟨S1x1x512, .f32⟩
  | 125 => ⟨S1x4096x512, .f32⟩
  | 126 => ⟨S1x4096x512, .f32⟩
  | 127 => ⟨S1x4096x512, .f32⟩
  | _ => ⟨S1x4096x8192, .f32⟩

abbrev hbmTy0_2 (i : Nat) : BufTy := match i % 128 with
  | 0 => ⟨S1x512, .f32⟩
  | 1 => ⟨S512, .f32⟩
  | 2 => ⟨S1x4096x512, .f32⟩
  | 3 => ⟨S1x1x512, .f32⟩
  | 4 => ⟨S1x4096x512, .f32⟩
  | 5 => ⟨S1x4096x512, .f32⟩
  | 6 => ⟨S1x4096x512, .f32⟩
  | 7 => ⟨S1x512, .f32⟩
  | 8 => ⟨S512, .f32⟩
  | 9 => ⟨S1x4096x512, .f32⟩
  | 10 => ⟨S1x1x512, .f32⟩
  | 11 => ⟨S1x4096x512, .f32⟩
  | 12 => ⟨S1x4096x512, .f32⟩
  | 13 => ⟨S1x4096x512, .f32⟩
  | 14 => ⟨S1x512, .f32⟩
  | 15 => ⟨S512, .f32⟩
  | 16 => ⟨S1x4096x512, .f32⟩
  | 17 => ⟨S1x1x512, .f32⟩
  | 18 => ⟨S1x4096x512, .f32⟩
  | 19 => ⟨S1x4096x512, .f32⟩
  | 20 => ⟨S1x4096x512, .f32⟩
  | 21 => ⟨S1x512, .f32⟩
  | 22 => ⟨S512, .f32⟩
  | 23 => ⟨S1x4096x512, .f32⟩
  | 24 => ⟨S1x1x512, .f32⟩
  | 25 => ⟨S1x4096x512, .f32⟩
  | 26 => ⟨S1x4096x512, .f32⟩
  | 27 => ⟨S1x4096x512, .f32⟩
  | 28 => ⟨S1x512, .f32⟩
  | 29 => ⟨S512, .f32⟩
  | 30 => ⟨S1x4096x512, .f32⟩
  | 31 => ⟨S1x1x512, .f32⟩
  | 32 => ⟨S1x4096x512, .f32⟩
  | 33 => ⟨S1x4096x512, .f32⟩
  | 34 => ⟨S1x4096x512, .f32⟩
  | 35 => ⟨S1x512, .f32⟩
  | 36 => ⟨S512, .f32⟩
  | 37 => ⟨S1x4096x512, .f32⟩
  | 38 => ⟨S1x1x512, .f32⟩
  | 39 => ⟨S1x4096x512, .f32⟩
  | 40 => ⟨S1x4096x512, .f32⟩
  | 41 => ⟨S1x4096x512, .f32⟩
  | 42 => ⟨S1x512, .f32⟩
  | 43 => ⟨S512, .f32⟩
  | 44 => ⟨S1x4096x512, .f32⟩
  | 45 => ⟨S1x1x512, .f32⟩
  | 46 => ⟨S1x4096x512, .f32⟩
  | 47 => ⟨S1x4096x512, .f32⟩
  | 48 => ⟨S1x4096x512, .f32⟩
  | 49 => ⟨S1x512, .f32⟩
  | 50 => ⟨S512, .f32⟩
  | 51 => ⟨S1x4096x512, .f32⟩
  | 52 => ⟨S1x1x512, .f32⟩
  | 53 => ⟨S1x4096x512, .f32⟩
  | 54 => ⟨S1x4096x512, .f32⟩
  | 55 => ⟨S1x4096x512, .f32⟩
  | 56 => ⟨S1x512, .f32⟩
  | 57 => ⟨S512, .f32⟩
  | 58 => ⟨S1x4096x512, .f32⟩
  | 59 => ⟨S1x1x512, .f32⟩
  | 60 => ⟨S1x4096x512, .f32⟩
  | 61 => ⟨S1x4096x512, .f32⟩
  | 62 => ⟨S1x4096x512, .f32⟩
  | 63 => ⟨S1x512, .f32⟩
  | 64 => ⟨S512, .f32⟩
  | 65 => ⟨S1x4096x512, .f32⟩
  | 66 => ⟨S1x1x512, .f32⟩
  | 67 => ⟨S1x4096x512, .f32⟩
  | 68 => ⟨S1x4096x512, .f32⟩
  | 69 => ⟨S1x4096x512, .f32⟩
  | 70 => ⟨S1x512, .f32⟩
  | 71 => ⟨S512, .f32⟩
  | 72 => ⟨S1x4096x512, .f32⟩
  | 73 => ⟨S1x1x512, .f32⟩
  | 74 => ⟨S1x4096x512, .f32⟩
  | 75 => ⟨S1x4096x512, .f32⟩
  | 76 => ⟨S1x4096x512, .f32⟩
  | 77 => ⟨S1x512, .f32⟩
  | 78 => ⟨S512, .f32⟩
  | 79 => ⟨S1x4096x512, .f32⟩
  | 80 => ⟨S1x1x512, .f32⟩
  | 81 => ⟨S1x4096x512, .f32⟩
  | 82 => ⟨S1x4096x512, .f32⟩
  | 83 => ⟨S1x4096x512, .f32⟩
  | 84 => ⟨S1x512, .f32⟩
  | 85 => ⟨S512, .f32⟩
  | 86 => ⟨S1x4096x512, .f32⟩
  | 87 => ⟨S1x1x512, .f32⟩
  | 88 => ⟨S1x4096x512, .f32⟩
  | 89 => ⟨S1x4096x512, .f32⟩
  | 90 => ⟨S1x4096x512, .f32⟩
  | 91 => ⟨S1x512, .f32⟩
  | 92 => ⟨S512, .f32⟩
  | 93 => ⟨S1x4096x512, .f32⟩
  | 94 => ⟨S1x1x512, .f32⟩
  | 95 => ⟨S1x4096x512, .f32⟩
  | 96 => ⟨S1x4096x512, .f32⟩
  | 97 => ⟨S1x4096x512, .f32⟩
  | 98 => ⟨S1x512, .f32⟩
  | 99 => ⟨S512, .f32⟩
  | 100 => ⟨S1x4096x512, .f32⟩
  | 101 => ⟨S1x1x512, .f32⟩
  | 102 => ⟨S1x4096x512, .f32⟩
  | 103 => ⟨S1x4096x512, .f32⟩
  | 104 => ⟨S1x4096x512, .f32⟩
  | 105 => ⟨S1x512, .f32⟩
  | 106 => ⟨S512, .f32⟩
  | 107 => ⟨S1x4096x512, .f32⟩
  | 108 => ⟨S1x1x512, .f32⟩
  | 109 => ⟨S1x4096x512, .f32⟩
  | 110 => ⟨S1x4096x512, .f32⟩
  | 111 => ⟨S1x4096x512, .f32⟩
  | 112 => ⟨S1x512, .f32⟩
  | 113 => ⟨S512, .f32⟩
  | 114 => ⟨S1x4096x512, .f32⟩
  | 115 => ⟨S1x1x512, .f32⟩
  | 116 => ⟨S1x4096x512, .f32⟩
  | 117 => ⟨S1x4096x512, .f32⟩
  | 118 => ⟨S1x4096x512, .f32⟩
  | 119 => ⟨S1x512, .f32⟩
  | 120 => ⟨S512, .f32⟩
  | 121 => ⟨S1x4096x512, .f32⟩
  | 122 => ⟨S1x1x512, .f32⟩
  | 123 => ⟨S1x4096x512, .f32⟩
  | 124 => ⟨S1x4096x512, .f32⟩
  | 125 => ⟨S1x4096x512, .f32⟩
  | 126 => ⟨S1x512, .f32⟩
  | 127 => ⟨S512, .f32⟩
  | _ => ⟨S1x4096x8192, .f32⟩

abbrev hbmTy0_3 (i : Nat) : BufTy := match i % 128 with
  | 0 => ⟨S1x4096x512, .f32⟩
  | 1 => ⟨S1x1x512, .f32⟩
  | 2 => ⟨S1x4096x512, .f32⟩
  | 3 => ⟨S1x4096x512, .f32⟩
  | 4 => ⟨S1x4096x512, .f32⟩
  | 5 => ⟨S1x512, .f32⟩
  | 6 => ⟨S512, .f32⟩
  | 7 => ⟨S1x4096x512, .f32⟩
  | 8 => ⟨S1x1x512, .f32⟩
  | 9 => ⟨S1x4096x512, .f32⟩
  | 10 => ⟨S1x4096x512, .f32⟩
  | 11 => ⟨S1x4096x512, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S1x4096x512, .f32⟩
  | 19 => ⟨S1x4096x512, .f32⟩
  | 20 => ⟨S1x4096x512, .f32⟩
  | 21 => ⟨S_, .f32⟩
  | 22 => ⟨S1x4096x512, .f32⟩
  | 23 => ⟨S1x4096x512, .f32⟩
  | 24 => ⟨S_, .f32⟩
  | 25 => ⟨S1x4096, .f32⟩
  | 26 => ⟨S1x4096x1, .f32⟩
  | 27 => ⟨S_, .f32⟩
  | 28 => ⟨S1x4096x1, .f32⟩
  | 29 => ⟨S1x4096x1, .f32⟩
  | 30 => ⟨S1x4096x512, .f32⟩
  | 31 => ⟨S1x4096x512, .f32⟩
  | 32 => ⟨S_, .f32⟩
  | 33 => ⟨S1x4096x1, .f32⟩
  | 34 => ⟨S1x4096x1, .f32⟩
  | 35 => ⟨S1x4096x1, .f32⟩
  | 36 => ⟨S1x4096x1, .f32⟩
  | 37 => ⟨S_, .f32⟩
  | 38 => ⟨S1x4096x1, .f32⟩
  | 39 => ⟨S1x4096x1, .f32⟩
  | 40 => ⟨S1x4096x512, .f32⟩
  | 41 => ⟨S1x4096x512, .f32⟩
  | 42 => ⟨S1x1x512, .f32⟩
  | 43 => ⟨S1x4096x512, .f32⟩
  | 44 => ⟨S1x4096x512, .f32⟩
  | 45 => ⟨S1x1x512, .f32⟩
  | 46 => ⟨S1x4096x512, .f32⟩
  | 47 => ⟨S1x4096x512, .f32⟩
  | 48 => ⟨S1x4096x512, .f32⟩
  | 49 => ⟨S1x4096x512, .f32⟩
  | 50 => ⟨S_, .f32⟩
  | 51 => ⟨S1x4096x512, .f32⟩
  | 52 => ⟨S1x4096x512, .f32⟩
  | 53 => ⟨S_, .f32⟩
  | 54 => ⟨S1x4096x512, .f32⟩
  | 55 => ⟨S1x4096x512, .f32⟩
  | 56 => ⟨S_, .f32⟩
  | 57 => ⟨S1x4096x512, .f32⟩
  | 58 => ⟨S1x4096x512, .f32⟩
  | 59 => ⟨S1x4096x512, .f32⟩
  | 60 => ⟨S1x4096x512, .f32⟩
  | 61 => ⟨S1x4096x1024, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S_, .f32⟩
  | 71 => ⟨S1x4096x1024, .f32⟩
  | 72 => ⟨S1x4096x1024, .f32⟩
  | 73 => ⟨S1x4096x1024, .f32⟩
  | 74 => ⟨S_, .f32⟩
  | 75 => ⟨S1x4096x1024, .f32⟩
  | 76 => ⟨S1x4096x1024, .f32⟩
  | 77 => ⟨S1x4096x1024, .f32⟩
  | 78 => ⟨S_, .f32⟩
  | 79 => ⟨S1x4096x1024, .f32⟩
  | 80 => ⟨S1x4096x1024, .f32⟩
  | 81 => ⟨S_, .f32⟩
  | 82 => ⟨S1x4096x1024, .f32⟩
  | 83 => ⟨S1x4096x1024, .f32⟩
  | 84 => ⟨S1x4096x1024, .f32⟩
  | 85 => ⟨S_, .f32⟩
  | 86 => ⟨S1x4096x1024, .f32⟩
  | 87 => ⟨S1x4096x1024, .f32⟩
  | 88 => ⟨S_, .f32⟩
  | 89 => ⟨S1x4096x1024, .f32⟩
  | 90 => ⟨S1x4096x1024, .f32⟩
  | 91 => ⟨S1x4096x1024, .f32⟩
  | 92 => ⟨S1x4096x512, .f32⟩
  | 93 => ⟨S1x4096x512, .f32⟩
  | 94 => ⟨S_, .f32⟩
  | 95 => ⟨S1x4096, .f32⟩
  | 96 => ⟨S1x4096x1, .f32⟩
  | 97 => ⟨S_, .f32⟩
  | 98 => ⟨S1x4096x1, .f32⟩
  | 99 => ⟨S1x4096x1, .f32⟩
  | 100 => ⟨S1x4096x512, .f32⟩
  | 101 => ⟨S1x4096x512, .f32⟩
  | 102 => ⟨S1x4096x512, .f32⟩
  | 103 => ⟨S_, .f32⟩
  | 104 => ⟨S1x4096x512, .f32⟩
  | 105 => ⟨S1x4096x512, .f32⟩
  | 106 => ⟨S_, .f32⟩
  | 107 => ⟨S1x4096, .f32⟩
  | 108 => ⟨S1x4096x1, .f32⟩
  | 109 => ⟨S_, .f32⟩
  | 110 => ⟨S1x4096x1, .f32⟩
  | 111 => ⟨S1x4096x1, .f32⟩
  | 112 => ⟨S1x4096x512, .f32⟩
  | 113 => ⟨S1x4096x512, .f32⟩
  | 114 => ⟨S_, .f32⟩
  | 115 => ⟨S1x4096x1, .f32⟩
  | 116 => ⟨S1x4096x1, .f32⟩
  | 117 => ⟨S1x4096x1, .f32⟩
  | 118 => ⟨S1x4096x1, .f32⟩
  | 119 => ⟨S_, .f32⟩
  | 120 => ⟨S1x4096x1, .f32⟩
  | 121 => ⟨S1x4096x1, .f32⟩
  | 122 => ⟨S1x4096x512, .f32⟩
  | 123 => ⟨S1x4096x512, .f32⟩
  | 124 => ⟨S1x1x512, .f32⟩
  | 125 => ⟨S1x4096x512, .f32⟩
  | 126 => ⟨S1x4096x512, .f32⟩
  | 127 => ⟨S1x1x512, .f32⟩
  | _ => ⟨S1x4096x8192, .f32⟩

abbrev hbmTy0_4 (i : Nat) : BufTy := match i % 128 with
  | 0 => ⟨S1x4096x512, .f32⟩
  | 1 => ⟨S1x4096x512, .f32⟩
  | 2 => ⟨S1x32x128x4x128, .f32⟩
  | 3 => ⟨S128, .i32⟩
  | 4 => ⟨S1x128, .i32⟩
  | 5 => ⟨S_, .i32⟩
  | 6 => ⟨S_, .i32⟩
  | 7 => ⟨S1x128, .i32⟩
  | 8 => ⟨S1x128, .i32⟩
  | 9 => ⟨S1x128, .i32⟩
  | 10 => ⟨S_, .i32⟩
  | 11 => ⟨S1x128, .i32⟩
  | 12 => ⟨S1x128, .i1⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i1⟩
  | 19 => ⟨S_, .i32⟩
  | 20 => ⟨S1x128, .i32⟩
  | 21 => ⟨S1x128, .i32⟩
  | 22 => ⟨S1x128, .i32⟩
  | 23 => ⟨S128x1, .i32⟩
  | 24 => ⟨S_, .i32⟩
  | 25 => ⟨S_, .i32⟩
  | 26 => ⟨S128x1, .i32⟩
  | 27 => ⟨S128x1, .i32⟩
  | 28 => ⟨S128x1, .i32⟩
  | 29 => ⟨S_, .i32⟩
  | 30 => ⟨S128x1, .i32⟩
  | 31 => ⟨S128x1, .i1⟩
  | 32 => ⟨S128x1, .i32⟩
  | 33 => ⟨S128x1, .i32⟩
  | 34 => ⟨S_, .i32⟩
  | 35 => ⟨S128x1, .i32⟩
  | 36 => ⟨S128x1, .i1⟩
  | 37 => ⟨S128x1, .i1⟩
  | 38 => ⟨S_, .i32⟩
  | 39 => ⟨S128x1, .i32⟩
  | 40 => ⟨S128x1, .i32⟩
  | 41 => ⟨S128x1, .i32⟩
  | 42 => ⟨S128x128, .i32⟩
  | 43 => ⟨S128x128, .i32⟩
  | 44 => ⟨S128x128, .i1⟩
  | 45 => ⟨S1x128x128, .i1⟩
  | 46 => ⟨S_, .f32⟩
  | 47 => ⟨S4x128x128, .i1⟩
  | 48 => ⟨S4x128x128, .f32⟩
  | 49 => ⟨S4x128x128, .f32⟩
  | 50 => ⟨S_, .f32⟩
  | 51 => ⟨S4x128x128, .f32⟩
  | 52 => ⟨S4x1x32x128x128, .f32⟩
  | 53 => ⟨S1x32x128x4x128, .f32⟩
  | 54 => ⟨S128x4x128, .f32⟩
  | 55 => ⟨S1x1x128x4x128, .f32⟩
  | 56 => ⟨S1x32x128x4x128, .f32⟩
  | 57 => ⟨S1x32x128x4x128, .f32⟩
  | 58 => ⟨S1x4096x512, .f32⟩
  | 59 => ⟨S1x4096x512, .f32⟩
  | 60 => ⟨S1x4096x1x512, .f32⟩
  | 61 => ⟨S1x4096x1x512, .f32⟩
  | 62 => ⟨S1x4096x1x512, .f32⟩
  | 63 => ⟨S1x4096x1x512, .f32⟩
  | 64 => ⟨S1x4096x4x512, .f32⟩
  | 65 => ⟨S1x4096x1x512, .f32⟩
  | 66 => ⟨S1x4096x512, .f32⟩
  | 67 => ⟨S1x4096x1x512, .f32⟩
  | 68 => ⟨S1x4096x512, .f32⟩
  | 69 => ⟨S1x4096x1x512, .f32⟩
  | 70 => ⟨S1x4096x512, .f32⟩
  | 71 => ⟨S1x4096x1x512, .f32⟩
  | 72 => ⟨S1x4096x512, .f32⟩
  | 73 => ⟨S1x4096x512, .f32⟩
  | 74 => ⟨S1x4096x512, .f32⟩
  | 75 => ⟨S1x32x128x4x128, .f32⟩
  | 76 => ⟨S_, .f32⟩
  | 77 => ⟨S1x128x4x128, .f32⟩
  | 78 => ⟨S1x1x128x4x128, .f32⟩
  | 79 => ⟨S_, .f32⟩
  | 80 => ⟨S128x4x128, .f32⟩
  | 81 => ⟨S4x128x128, .f32⟩
  | 82 => ⟨S4x1x32x128x128, .f32⟩
  | 83 => ⟨S4x128x128, .f32⟩
  | 84 => ⟨S4x1x32x128x128, .f32⟩
  | 85 => ⟨S1x32x128x4x128, .f32⟩
  | 86 => ⟨S_, .f32⟩
  | 87 => ⟨S4x128x128, .f32⟩
  | 88 => ⟨S4x128x128, .f32⟩
  | 89 => ⟨S1x4096x512, .f32⟩
  | 90 => ⟨S_, .f32⟩
  | 91 => ⟨S1x512, .f32⟩
  | 92 => ⟨S1x1x512, .f32⟩
  | 93 => ⟨S_, .f32⟩
  | 94 => ⟨S512, .f32⟩
  | 95 => ⟨S1x4096x512, .f32⟩
  | 96 => ⟨S_, .f32⟩
  | 97 => ⟨S1x512, .f32⟩
  | 98 => ⟨S1x1x512, .f32⟩
  | 99 => ⟨S1x4096x512, .f32⟩
  | 100 => ⟨S1x4096x512, .f32⟩
  | 101 => ⟨S_, .f32⟩
  | 102 => ⟨S512, .f32⟩
  | 103 => ⟨S1x4096x512, .f32⟩
  | 104 => ⟨S_, .f32⟩
  | 105 => ⟨S1x4096, .f32⟩
  | 106 => ⟨S1x4096x1, .f32⟩
  | 107 => ⟨S1x4096x512, .f32⟩
  | 108 => ⟨S1x4096x512, .f32⟩
  | 109 => ⟨S1x4096x1, .f32⟩
  | 110 => ⟨S1x4096x512, .f32⟩
  | 111 => ⟨S_, .f32⟩
  | 112 => ⟨S1x4096, .f32⟩
  | 113 => ⟨S1x4096x1, .f32⟩
  | 114 => ⟨S_, .f32⟩
  | 115 => ⟨S1x4096x1, .f32⟩
  | 116 => ⟨S1x4096x1, .f32⟩
  | 117 => ⟨S_, .f32⟩
  | 118 => ⟨S4096, .f32⟩
  | 119 => ⟨S1x4096, .f32⟩
  | 120 => ⟨S1x4096x512, .f32⟩
  | 121 => ⟨S1x4096x512, .f32⟩
  | 122 => ⟨S1x4096x512, .f32⟩
  | 123 => ⟨S_, .f32⟩
  | 124 => ⟨S1x4096, .f32⟩
  | 125 => ⟨S1x4096x1, .f32⟩
  | 126 => ⟨S1x4096x512, .f32⟩
  | 127 => ⟨S1x4096x1, .f32⟩
  | _ => ⟨S1x4096x8192, .f32⟩

abbrev hbmTy0_5 (i : Nat) : BufTy := match i % 128 with
  | 0 => ⟨S_, .f32⟩
  | 1 => ⟨S1x4096x1, .f32⟩
  | 2 => ⟨S1x4096x1, .f32⟩
  | 3 => ⟨S_, .f32⟩
  | 4 => ⟨S4096, .f32⟩
  | 5 => ⟨S1x4096, .f32⟩
  | 6 => ⟨S1x4096x512, .f32⟩
  | 7 => ⟨S1x4096x512, .f32⟩
  | 8 => ⟨S1x4096x1024, .f32⟩
  | 9 => ⟨S1x4096x1024, .f32⟩
  | 10 => ⟨S1x4096x1024, .f32⟩
  | 11 => ⟨S_, .f32⟩
  | 12 => ⟨S1x4096x1024, .f32⟩
  | 13 => ⟨S1x4096x1024, .f32⟩
  | 14 => ⟨S1x4096x1024, .f32⟩
  | 15 => ⟨S_, .f32⟩
  | 16 => ⟨S1x4096x1024, .f32⟩
  | 17 => ⟨S1x4096x1024, .f32⟩
  | 18 => ⟨S1x4096x1024, .f32⟩
  | 19 => ⟨S_, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S1x4096x1024, .f32⟩
  | 26 => ⟨S1x4096x1024, .f32⟩
  | 27 => ⟨S1x4096x512, .f32⟩
  | 28 => ⟨S1x4096x512, .f32⟩
  | 29 => ⟨S1x4096x512, .f32⟩
  | 30 => ⟨S1x4096x512, .f32⟩
  | 31 => ⟨S_, .f32⟩
  | 32 => ⟨S1x512, .f32⟩
  | 33 => ⟨S1x1x512, .f32⟩
  | 34 => ⟨S_, .f32⟩
  | 35 => ⟨S512, .f32⟩
  | 36 => ⟨S1x4096x512, .f32⟩
  | 37 => ⟨S_, .f32⟩
  | 38 => ⟨S1x512, .f32⟩
  | 39 => ⟨S1x1x512, .f32⟩
  | 40 => ⟨S1x4096x512, .f32⟩
  | 41 => ⟨S1x4096x512, .f32⟩
  | 42 => ⟨S_, .f32⟩
  | 43 => ⟨S512, .f32⟩
  | 44 => ⟨S1x4096x512, .f32⟩
  | 45 => ⟨S_, .f32⟩
  | 46 => ⟨S1x4096, .f32⟩
  | 47 => ⟨S1x4096x1, .f32⟩
  | 48 => ⟨S1x4096x512, .f32⟩
  | 49 => ⟨S1x4096x512, .f32⟩
  | 50 => ⟨S1x4096x1, .f32⟩
  | 51 => ⟨S1x4096x512, .f32⟩
  | 52 => ⟨S_, .f32⟩
  | 53 => ⟨S1x4096, .f32⟩
  | 54 => ⟨S1x4096x1, .f32⟩
  | 55 => ⟨S_, .f32⟩
  | 56 => ⟨S1x4096x1, .f32⟩
  | 57 => ⟨S1x4096x1, .f32⟩
  | 58 => ⟨S_, .f32⟩
  | 59 => ⟨S4096, .f32⟩
  | 60 => ⟨S1x4096, .f32⟩
  | 61 => ⟨S1x4096x512, .f32⟩
  | 62 => ⟨S1x4096x512, .f32⟩
  | 63 => ⟨S1x4096x512, .f32⟩
  | 64 => ⟨S_, .f32⟩
  | 65 => ⟨S1x4096, .f32⟩
  | 66 => ⟨S1x4096x1, .f32⟩
  | 67 => ⟨S1x4096x512, .f32⟩
  | 68 => ⟨S1x4096x1, .f32⟩
  | 69 => ⟨S_, .f32⟩
  | 70 => ⟨S1x4096x1, .f32⟩
  | 71 => ⟨S1x4096x1, .f32⟩
  | 72 => ⟨S_, .f32⟩
  | 73 => ⟨S4096, .f32⟩
  | 74 => ⟨S1x4096, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S_, .f32⟩
  | 81 => ⟨S1x512, .f32⟩
  | 82 => ⟨S1x1x512, .f32⟩
  | 83 => ⟨S_, .f32⟩
  | 84 => ⟨S512, .f32⟩
  | 85 => ⟨S_, .f32⟩
  | 86 => ⟨S1x4126x512, .f32⟩
  | 87 => ⟨S1x512, .f32⟩
  | 88 => ⟨S_, .f32⟩
  | 89 => ⟨S31x512, .f32⟩
  | 90 => ⟨S1x4096x512, .f32⟩
  | 91 => ⟨S1x4096x512, .f32⟩
  | 92 => ⟨S1x4096x512, .f32⟩
  | 93 => ⟨S_, .f32⟩
  | 94 => ⟨S1x512, .f32⟩
  | 95 => ⟨S1x1x512, .f32⟩
  | 96 => ⟨S_, .f32⟩
  | 97 => ⟨S512, .f32⟩
  | 98 => ⟨S_, .f32⟩
  | 99 => ⟨S1x4126x512, .f32⟩
  | 100 => ⟨S1x4126x512, .f32⟩
  | 101 => ⟨S1x512, .f32⟩
  | 102 => ⟨S_, .f32⟩
  | 103 => ⟨S31x512, .f32⟩
  | 104 => ⟨S31x512, .f32⟩
  | 105 => ⟨S1x4096x512, .f32⟩
  | 106 => ⟨S1x4096x512, .f32⟩
  | 107 => ⟨S1x4096x512, .f32⟩
  | 108 => ⟨S_, .f32⟩
  | 109 => ⟨S1x512, .f32⟩
  | 110 => ⟨S1x1x512, .f32⟩
  | 111 => ⟨S_, .f32⟩
  | 112 => ⟨S512, .f32⟩
  | 113 => ⟨S_, .f32⟩
  | 114 => ⟨S1x4126x512, .f32⟩
  | 115 => ⟨S1x4126x512, .f32⟩
  | 116 => ⟨S1x512, .f32⟩
  | 117 => ⟨S_, .f32⟩
  | 118 => ⟨S31x512, .f32⟩
  | 119 => ⟨S31x512, .f32⟩
  | 120 => ⟨S1x4096x512, .f32⟩
  | 121 => ⟨S1x4096x512, .f32⟩
  | 122 => ⟨S1x4096x512, .f32⟩
  | 123 => ⟨S_, .f32⟩
  | 124 => ⟨S1x512, .f32⟩
  | 125 => ⟨S1x1x512, .f32⟩
  | 126 => ⟨S_, .f32⟩
  | 127 => ⟨S512, .f32⟩
  | _ => ⟨S1x4096x8192, .f32⟩

abbrev hbmTy0_6 (i : Nat) : BufTy := match i % 128 with
  | 0 => ⟨S_, .f32⟩
  | 1 => ⟨S1x4126x512, .f32⟩
  | 2 => ⟨S1x4126x512, .f32⟩
  | 3 => ⟨S1x512, .f32⟩
  | 4 => ⟨S_, .f32⟩
  | 5 => ⟨S31x512, .f32⟩
  | 6 => ⟨S31x512, .f32⟩
  | 7 => ⟨S1x4096x512, .f32⟩
  | 8 => ⟨S1x4096x512, .f32⟩
  | 9 => ⟨S1x4096x512, .f32⟩
  | 10 => ⟨S_, .f32⟩
  | 11 => ⟨S1x512, .f32⟩
  | 12 => ⟨S1x1x512, .f32⟩
  | 13 => ⟨S_, .f32⟩
  | 14 => ⟨S512, .f32⟩
  | 15 => ⟨S_, .f32⟩
  | 16 => ⟨S1x4126x512, .f32⟩
  | 17 => ⟨S1x4126x512, .f32⟩
  | 18 => ⟨S1x512, .f32⟩
  | 19 => ⟨S_, .f32⟩
  | 20 => ⟨S31x512, .f32⟩
  | 21 => ⟨S31x512, .f32⟩
  | 22 => ⟨S1x4096x512, .f32⟩
  | 23 => ⟨S1x4096x512, .f32⟩
  | 24 => ⟨S1x4096x512, .f32⟩
  | 25 => ⟨S_, .f32⟩
  | 26 => ⟨S1x512, .f32⟩
  | 27 => ⟨S1x1x512, .f32⟩
  | 28 => ⟨S_, .f32⟩
  | 29 => ⟨S512, .f32⟩
  | 30 => ⟨S_, .f32⟩
  | 31 => ⟨S1x4126x512, .f32⟩
  | 32 => ⟨S1x4126x512, .f32⟩
  | 33 => ⟨S1x512, .f32⟩
  | 34 => ⟨S_, .f32⟩
  | 35 => ⟨S31x512, .f32⟩
  | 36 => ⟨S31x512, .f32⟩
  | 37 => ⟨S1x4096x512, .f32⟩
  | 38 => ⟨S1x4096x512, .f32⟩
  | 39 => ⟨S1x4096x512, .f32⟩
  | 40 => ⟨S_, .f32⟩
  | 41 => ⟨S1x512, .f32⟩
  | 42 => ⟨S1x1x512, .f32⟩
  | 43 => ⟨S_, .f32⟩
  | 44 => ⟨S512, .f32⟩
  | 45 => ⟨S_, .f32⟩
  | 46 => ⟨S1x4126x512, .f32⟩
  | 47 => ⟨S1x4126x512, .f32⟩
  | 48 => ⟨S1x512, .f32⟩
  | 49 => ⟨S_, .f32⟩
  | 50 => ⟨S31x512, .f32⟩
  | 51 => ⟨S31x512, .f32⟩
  | 52 => ⟨S1x4096x512, .f32⟩
  | 53 => ⟨S1x4096x512, .f32⟩
  | 54 => ⟨S1x4096x512, .f32⟩
  | 55 => ⟨S_, .f32⟩
  | 56 => ⟨S1x512, .f32⟩
  | 57 => ⟨S1x1x512, .f32⟩
  | 58 => ⟨S_, .f32⟩
  | 59 => ⟨S512, .f32⟩
  | 60 => ⟨S_, .f32⟩
  | 61 => ⟨S1x4126x512, .f32⟩
  | 62 => ⟨S1x4126x512, .f32⟩
  | 63 => ⟨S1x512, .f32⟩
  | 64 => ⟨S_, .f32⟩
  | 65 => ⟨S31x512, .f32⟩
  | 66 => ⟨S31x512, .f32⟩
  | 67 => ⟨S1x4096x512, .f32⟩
  | 68 => ⟨S1x4096x512, .f32⟩
  | 69 => ⟨S1x4096x512, .f32⟩
  | 70 => ⟨S_, .f32⟩
  | 71 => ⟨S1x512, .f32⟩
  | 72 => ⟨S1x1x512, .f32⟩
  | 73 => ⟨S_, .f32⟩
  | 74 => ⟨S512, .f32⟩
  | 75 => ⟨S_, .f32⟩
  | 76 => ⟨S1x4126x512, .f32⟩
  | 77 => ⟨S1x4126x512, .f32⟩
  | 78 => ⟨S1x512, .f32⟩
  | 79 => ⟨S_, .f32⟩
  | 80 => ⟨S31x512, .f32⟩
  | 81 => ⟨S31x512, .f32⟩
  | 82 => ⟨S1x4096x512, .f32⟩
  | 83 => ⟨S1x4096x512, .f32⟩
  | 84 => ⟨S1x4096x512, .f32⟩
  | 85 => ⟨S_, .f32⟩
  | 86 => ⟨S1x512, .f32⟩
  | 87 => ⟨S1x1x512, .f32⟩
  | 88 => ⟨S_, .f32⟩
  | 89 => ⟨S512, .f32⟩
  | 90 => ⟨S_, .f32⟩
  | 91 => ⟨S1x4126x512, .f32⟩
  | 92 => ⟨S1x4126x512, .f32⟩
  | 93 => ⟨S1x512, .f32⟩
  | 94 => ⟨S_, .f32⟩
  | 95 => ⟨S31x512, .f32⟩
  | 96 => ⟨S31x512, .f32⟩
  | 97 => ⟨S1x4096x512, .f32⟩
  | 98 => ⟨S1x4096x512, .f32⟩
  | 99 => ⟨S1x4096x512, .f32⟩
  | 100 => ⟨S_, .f32⟩
  | 101 => ⟨S1x512, .f32⟩
  | 102 => ⟨S1x1x512, .f32⟩
  | 103 => ⟨S_, .f32⟩
  | 104 => ⟨S512, .f32⟩
  | 105 => ⟨S_, .f32⟩
  | 106 => ⟨S1x4126x512, .f32⟩
  | 107 => ⟨S1x4126x512, .f32⟩
  | 108 => ⟨S1x512, .f32⟩
  | 109 => ⟨S_, .f32⟩
  | 110 => ⟨S31x512, .f32⟩
  | 111 => ⟨S31x512, .f32⟩
  | 112 => ⟨S1x4096x512, .f32⟩
  | 113 => ⟨S1x4096x512, .f32⟩
  | 114 => ⟨S1x4096x512, .f32⟩
  | 115 => ⟨S_, .f32⟩
  | 116 => ⟨S1x512, .f32⟩
  | 117 => ⟨S1x1x512, .f32⟩
  | 118 => ⟨S_, .f32⟩
  | 119 => ⟨S512, .f32⟩
  | 120 => ⟨S_, .f32⟩
  | 121 => ⟨S1x4126x512, .f32⟩
  | 122 => ⟨S1x4126x512, .f32⟩
  | 123 => ⟨S1x512, .f32⟩
  | 124 => ⟨S_, .f32⟩
  | 125 => ⟨S31x512, .f32⟩
  | 126 => ⟨S31x512, .f32⟩
  | 127 => ⟨S1x4096x512, .f32⟩
  | _ => ⟨S1x4096x8192, .f32⟩

abbrev hbmTy0_7 (i : Nat) : BufTy := match i % 128 with
  | 0 => ⟨S1x4096x512, .f32⟩
  | 1 => ⟨S1x4096x512, .f32⟩
  | 2 => ⟨S_, .f32⟩
  | 3 => ⟨S1x512, .f32⟩
  | 4 => ⟨S1x1x512, .f32⟩
  | 5 => ⟨S_, .f32⟩
  | 6 => ⟨S512, .f32⟩
  | 7 => ⟨S_, .f32⟩
  | 8 => ⟨S1x4126x512, .f32⟩
  | 9 => ⟨S1x4126x512, .f32⟩
  | 10 => ⟨S1x512, .f32⟩
  | 11 => ⟨S_, .f32⟩
  | 12 => ⟨S31x512, .f32⟩
  | 13 => ⟨S31x512, .f32⟩
  | 14 => ⟨S1x4096x512, .f32⟩
  | 15 => ⟨S1x4096x512, .f32⟩
  | 16 => ⟨S1x4096x512, .f32⟩
  | 17 => ⟨S_, .f32⟩
  | 18 => ⟨S1x512, .f32⟩
  | 19 => ⟨S1x1x512, .f32⟩
  | 20 => ⟨S_, .f32⟩
  | 21 => ⟨S512, .f32⟩
  | 22 => ⟨S_, .f32⟩
  | 23 => ⟨S1x4126x512, .f32⟩
  | 24 => ⟨S1x4126x512, .f32⟩
  | 25 => ⟨S1x512, .f32⟩
  | 26 => ⟨S_, .f32⟩
  | 27 => ⟨S31x512, .f32⟩
  | 28 => ⟨S31x512, .f32⟩
  | 29 => ⟨S1x4096x512, .f32⟩
  | 30 => ⟨S1x4096x512, .f32⟩
  | 31 => ⟨S1x4096x512, .f32⟩
  | 32 => ⟨S_, .f32⟩
  | 33 => ⟨S1x512, .f32⟩
  | 34 => ⟨S1x1x512, .f32⟩
  | 35 => ⟨S_, .f32⟩
  | 36 => ⟨S512, .f32⟩
  | 37 => ⟨S_, .f32⟩
  | 38 => ⟨S1x4126x512, .f32⟩
  | 39 => ⟨S1x4126x512, .f32⟩
  | 40 => ⟨S1x512, .f32⟩
  | 41 => ⟨S_, .f32⟩
  | 42 => ⟨S31x512, .f32⟩
  | 43 => ⟨S31x512, .f32⟩
  | 44 => ⟨S1x4096x512, .f32⟩
  | 45 => ⟨S1x4096x512, .f32⟩
  | 46 => ⟨S1x4096x512, .f32⟩
  | 47 => ⟨S_, .f32⟩
  | 48 => ⟨S1x512, .f32⟩
  | 49 => ⟨S1x1x512, .f32⟩
  | 50 => ⟨S_, .f32⟩
  | 51 => ⟨S512, .f32⟩
  | 52 => ⟨S_, .f32⟩
  | 53 => ⟨S1x4126x512, .f32⟩
  | 54 => ⟨S1x4126x512, .f32⟩
  | 55 => ⟨S1x512, .f32⟩
  | 56 => ⟨S_, .f32⟩
  | 57 => ⟨S31x512, .f32⟩
  | 58 => ⟨S31x512, .f32⟩
  | 59 => ⟨S1x4096x512, .f32⟩
  | 60 => ⟨S1x4096x512, .f32⟩
  | 61 => ⟨S1x4096x512, .f32⟩
  | 62 => ⟨S_, .f32⟩
  | 63 => ⟨S1x512, .f32⟩
  | 64 => ⟨S1x1x512, .f32⟩
  | 65 => ⟨S_, .f32⟩
  | 66 => ⟨S512, .f32⟩
  | 67 => ⟨S_, .f32⟩
  | 68 => ⟨S1x4126x512, .f32⟩
  | 69 => ⟨S1x4126x512, .f32⟩
  | 70 => ⟨S1x512, .f32⟩
  | 71 => ⟨S_, .f32⟩
  | 72 => ⟨S31x512, .f32⟩
  | 73 => ⟨S31x512, .f32⟩
  | 74 => ⟨S1x4096x512, .f32⟩
  | 75 => ⟨S1x4096x512, .f32⟩
  | 76 => ⟨S1x4096x512, .f32⟩
  | 77 => ⟨S_, .f32⟩
  | 78 => ⟨S1x512, .f32⟩
  | 79 => ⟨S1x1x512, .f32⟩
  | 80 => ⟨S_, .f32⟩
  | 81 => ⟨S512, .f32⟩
  | 82 => ⟨S_, .f32⟩
  | 83 => ⟨S1x4126x512, .f32⟩
  | 84 => ⟨S1x4126x512, .f32⟩
  | 85 => ⟨S1x512, .f32⟩
  | 86 => ⟨S_, .f32⟩
  | 87 => ⟨S31x512, .f32⟩
  | 88 => ⟨S31x512, .f32⟩
  | 89 => ⟨S1x4096x512, .f32⟩
  | 90 => ⟨S1x4096x512, .f32⟩
  | 91 => ⟨S1x4096x512, .f32⟩
  | 92 => ⟨S_, .f32⟩
  | 93 => ⟨S1x512, .f32⟩
  | 94 => ⟨S1x1x512, .f32⟩
  | 95 => ⟨S_, .f32⟩
  | 96 => ⟨S512, .f32⟩
  | 97 => ⟨S_, .f32⟩
  | 98 => ⟨S1x4126x512, .f32⟩
  | 99 => ⟨S1x4126x512, .f32⟩
  | 100 => ⟨S1x512, .f32⟩
  | 101 => ⟨S_, .f32⟩
  | 102 => ⟨S31x512, .f32⟩
  | 103 => ⟨S31x512, .f32⟩
  | 104 => ⟨S1x4096x512, .f32⟩
  | 105 => ⟨S1x4096x512, .f32⟩
  | 106 => ⟨S1x4096x512, .f32⟩
  | 107 => ⟨S_, .f32⟩
  | 108 => ⟨S1x512, .f32⟩
  | 109 => ⟨S1x1x512, .f32⟩
  | 110 => ⟨S_, .f32⟩
  | 111 => ⟨S512, .f32⟩
  | 112 => ⟨S_, .f32⟩
  | 113 => ⟨S1x4126x512, .f32⟩
  | 114 => ⟨S1x4126x512, .f32⟩
  | 115 => ⟨S1x512, .f32⟩
  | 116 => ⟨S_, .f32⟩
  | 117 => ⟨S31x512, .f32⟩
  | 118 => ⟨S31x512, .f32⟩
  | 119 => ⟨S1x4096x512, .f32⟩
  | 120 => ⟨S1x4096x512, .f32⟩
  | 121 => ⟨S1x4096x512, .f32⟩
  | 122 => ⟨S_, .f32⟩
  | 123 => ⟨S1x512, .f32⟩
  | 124 => ⟨S1x1x512, .f32⟩
  | 125 => ⟨S_, .f32⟩
  | 126 => ⟨S512, .f32⟩
  | 127 => ⟨S_, .f32⟩
  | _ => ⟨S1x4096x8192, .f32⟩

abbrev hbmTy0_8 (i : Nat) : BufTy := match i % 128 with
  | 0 => ⟨S1x4126x512, .f32⟩
  | 1 => ⟨S1x4126x512, .f32⟩
  | 2 => ⟨S1x512, .f32⟩
  | 3 => ⟨S_, .f32⟩
  | 4 => ⟨S31x512, .f32⟩
  | 5 => ⟨S31x512, .f32⟩
  | 6 => ⟨S1x4096x512, .f32⟩
  | 7 => ⟨S1x4096x512, .f32⟩
  | 8 => ⟨S1x4096x512, .f32⟩
  | 9 => ⟨S_, .f32⟩
  | 10 => ⟨S1x512, .f32⟩
  | 11 => ⟨S1x1x512, .f32⟩
  | 12 => ⟨S_, .f32⟩
  | 13 => ⟨S512, .f32⟩
  | 14 => ⟨S_, .f32⟩
  | 15 => ⟨S1x4126x512, .f32⟩
  | 16 => ⟨S1x4126x512, .f32⟩
  | 17 => ⟨S1x512, .f32⟩
  | 18 => ⟨S_, .f32⟩
  | 19 => ⟨S31x512, .f32⟩
  | 20 => ⟨S31x512, .f32⟩
  | 21 => ⟨S1x4096x512, .f32⟩
  | 22 => ⟨S1x4096x512, .f32⟩
  | 23 => ⟨S1x4096x512, .f32⟩
  | 24 => ⟨S_, .f32⟩
  | 25 => ⟨S1x512, .f32⟩
  | 26 => ⟨S1x1x512, .f32⟩
  | 27 => ⟨S_, .f32⟩
  | 28 => ⟨S512, .f32⟩
  | 29 => ⟨S_, .f32⟩
  | 30 => ⟨S1x4126x512, .f32⟩
  | 31 => ⟨S1x4126x512, .f32⟩
  | 32 => ⟨S1x512, .f32⟩
  | 33 => ⟨S_, .f32⟩
  | 34 => ⟨S31x512, .f32⟩
  | 35 => ⟨S31x512, .f32⟩
  | 36 => ⟨S1x4096x512, .f32⟩
  | 37 => ⟨S1x4096x512, .f32⟩
  | 38 => ⟨S1x4096x512, .f32⟩
  | 39 => ⟨S_, .f32⟩
  | 40 => ⟨S1x512, .f32⟩
  | 41 => ⟨S1x1x512, .f32⟩
  | 42 => ⟨S_, .f32⟩
  | 43 => ⟨S512, .f32⟩
  | 44 => ⟨S_, .f32⟩
  | 45 => ⟨S1x4126x512, .f32⟩
  | 46 => ⟨S1x4126x512, .f32⟩
  | 47 => ⟨S1x512, .f32⟩
  | 48 => ⟨S_, .f32⟩
  | 49 => ⟨S31x512, .f32⟩
  | 50 => ⟨S31x512, .f32⟩
  | 51 => ⟨S1x4096x512, .f32⟩
  | 52 => ⟨S1x4096x512, .f32⟩
  | 53 => ⟨S1x4096x512, .f32⟩
  | 54 => ⟨S_, .f32⟩
  | 55 => ⟨S1x512, .f32⟩
  | 56 => ⟨S1x1x512, .f32⟩
  | 57 => ⟨S_, .f32⟩
  | 58 => ⟨S512, .f32⟩
  | 59 => ⟨S_, .f32⟩
  | 60 => ⟨S1x4126x512, .f32⟩
  | 61 => ⟨S1x4126x512, .f32⟩
  | 62 => ⟨S1x512, .f32⟩
  | 63 => ⟨S_, .f32⟩
  | 64 => ⟨S31x512, .f32⟩
  | 65 => ⟨S31x512, .f32⟩
  | 66 => ⟨S1x4096x512, .f32⟩
  | 67 => ⟨S1x4096x512, .f32⟩
  | 68 => ⟨S1x4096x512, .f32⟩
  | 69 => ⟨S_, .f32⟩
  | 70 => ⟨S1x512, .f32⟩
  | 71 => ⟨S1x1x512, .f32⟩
  | 72 => ⟨S_, .f32⟩
  | 73 => ⟨S512, .f32⟩
  | 74 => ⟨S_, .f32⟩
  | 75 => ⟨S1x4126x512, .f32⟩
  | 76 => ⟨S1x4126x512, .f32⟩
  | 77 => ⟨S1x512, .f32⟩
  | 78 => ⟨S_, .f32⟩
  | 79 => ⟨S31x512, .f32⟩
  | 80 => ⟨S31x512, .f32⟩
  | 81 => ⟨S1x4096x512, .f32⟩
  | 82 => ⟨S1x4096x512, .f32⟩
  | 83 => ⟨S1x4096x512, .f32⟩
  | 84 => ⟨S_, .f32⟩
  | 85 => ⟨S1x512, .f32⟩
  | 86 => ⟨S1x1x512, .f32⟩
  | 87 => ⟨S_, .f32⟩
  | 88 => ⟨S512, .f32⟩
  | 89 => ⟨S_, .f32⟩
  | 90 => ⟨S1x4126x512, .f32⟩
  | 91 => ⟨S1x4126x512, .f32⟩
  | 92 => ⟨S1x512, .f32⟩
  | 93 => ⟨S_, .f32⟩
  | 94 => ⟨S31x512, .f32⟩
  | 95 => ⟨S31x512, .f32⟩
  | 96 => ⟨S1x4096x512, .f32⟩
  | 97 => ⟨S1x4096x512, .f32⟩
  | 98 => ⟨S1x4096x512, .f32⟩
  | 99 => ⟨S_, .f32⟩
  | 100 => ⟨S1x512, .f32⟩
  | 101 => ⟨S1x1x512, .f32⟩
  | 102 => ⟨S_, .f32⟩
  | 103 => ⟨S512, .f32⟩
  | 104 => ⟨S_, .f32⟩
  | 105 => ⟨S1x4126x512, .f32⟩
  | 106 => ⟨S1x4126x512, .f32⟩
  | 107 => ⟨S1x512, .f32⟩
  | 108 => ⟨S_, .f32⟩
  | 109 => ⟨S31x512, .f32⟩
  | 110 => ⟨S31x512, .f32⟩
  | 111 => ⟨S1x4096x512, .f32⟩
  | 112 => ⟨S1x4096x512, .f32⟩
  | 113 => ⟨S1x4096x512, .f32⟩
  | 114 => ⟨S_, .f32⟩
  | 115 => ⟨S1x512, .f32⟩
  | 116 => ⟨S1x1x512, .f32⟩
  | 117 => ⟨S_, .f32⟩
  | 118 => ⟨S512, .f32⟩
  | 119 => ⟨S_, .f32⟩
  | 120 => ⟨S1x4126x512, .f32⟩
  | 121 => ⟨S1x4126x512, .f32⟩
  | 122 => ⟨S1x512, .f32⟩
  | 123 => ⟨S_, .f32⟩
  | 124 => ⟨S31x512, .f32⟩
  | 125 => ⟨S31x512, .f32⟩
  | 126 => ⟨S1x4096x512, .f32⟩
  | 127 => ⟨S1x4096x512, .f32⟩
  | _ => ⟨S1x4096x8192, .f32⟩

abbrev hbmTy0_9 (i : Nat) : BufTy := match i % 128 with
  | 0 => ⟨S1x4096x512, .f32⟩
  | 1 => ⟨S_, .f32⟩
  | 2 => ⟨S1x512, .f32⟩
  | 3 => ⟨S1x1x512, .f32⟩
  | 4 => ⟨S_, .f32⟩
  | 5 => ⟨S512, .f32⟩
  | 6 => ⟨S_, .f32⟩
  | 7 => ⟨S1x4126x512, .f32⟩
  | 8 => ⟨S1x4126x512, .f32⟩
  | 9 => ⟨S1x512, .f32⟩
  | 10 => ⟨S_, .f32⟩
  | 11 => ⟨S31x512, .f32⟩
  | 12 => ⟨S31x512, .f32⟩
  | 13 => ⟨S1x4096x512, .f32⟩
  | 14 => ⟨S1x4096x512, .f32⟩
  | 15 => ⟨S1x4096x512, .f32⟩
  | 16 => ⟨S_, .f32⟩
  | 17 => ⟨S1x512, .f32⟩
  | 18 => ⟨S1x1x512, .f32⟩
  | 19 => ⟨S_, .f32⟩
  | 20 => ⟨S512, .f32⟩
  | 21 => ⟨S_, .f32⟩
  | 22 => ⟨S1x4126x512, .f32⟩
  | 23 => ⟨S1x4126x512, .f32⟩
  | 24 => ⟨S1x512, .f32⟩
  | 25 => ⟨S_, .f32⟩
  | 26 => ⟨S31x512, .f32⟩
  | 27 => ⟨S31x512, .f32⟩
  | 28 => ⟨S1x30x512, .f32⟩
  | 29 => ⟨S1x4096x512, .f32⟩
  | 30 => ⟨S1x4096x512, .f32⟩
  | 31 => ⟨S1x4096x512, .f32⟩
  | 32 => ⟨S1x4096x512, .f32⟩
  | 33 => ⟨S1x4096x1024, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S_, .f32⟩
  | 40 => ⟨S1x512, .f32⟩
  | 41 => ⟨S1x1x512, .f32⟩
  | 42 => ⟨S_, .f32⟩
  | 43 => ⟨S512, .f32⟩
  | 44 => ⟨S_, .f32⟩
  | 45 => ⟨S1x4098x512, .f32⟩
  | 46 => ⟨S1x512, .f32⟩
  | 47 => ⟨S_, .f32⟩
  | 48 => ⟨S3x512, .f32⟩
  | 49 => ⟨S1x4096x512, .f32⟩
  | 50 => ⟨S1x4096x512, .f32⟩
  | 51 => ⟨S1x4096x512, .f32⟩
  | 52 => ⟨S_, .f32⟩
  | 53 => ⟨S1x512, .f32⟩
  | 54 => ⟨S1x1x512, .f32⟩
  | 55 => ⟨S_, .f32⟩
  | 56 => ⟨S512, .f32⟩
  | 57 => ⟨S_, .f32⟩
  | 58 => ⟨S1x4098x512, .f32⟩
  | 59 => ⟨S1x4098x512, .f32⟩
  | 60 => ⟨S1x512, .f32⟩
  | 61 => ⟨S_, .f32⟩
  | 62 => ⟨S3x512, .f32⟩
  | 63 => ⟨S3x512, .f32⟩
  | 64 => ⟨S1x4096x512, .f32⟩
  | 65 => ⟨S1x4096x512, .f32⟩
  | 66 => ⟨S1x4096x512, .f32⟩
  | 67 => ⟨S_, .f32⟩
  | 68 => ⟨S1x512, .f32⟩
  | 69 => ⟨S1x1x512, .f32⟩
  | 70 => ⟨S_, .f32⟩
  | 71 => ⟨S512, .f32⟩
  | 72 => ⟨S_, .f32⟩
  | 73 => ⟨S1x4098x512, .f32⟩
  | 74 => ⟨S1x4098x512, .f32⟩
  | 75 => ⟨S1x512, .f32⟩
  | 76 => ⟨S_, .f32⟩
  | 77 => ⟨S3x512, .f32⟩
  | 78 => ⟨S3x512, .f32⟩
  | 79 => ⟨S1x2x512, .f32⟩
  | 80 => ⟨S1x4096x512, .f32⟩
  | 81 => ⟨S1x4096x512, .f32⟩
  | 82 => ⟨S1x4096x512, .f32⟩
  | 83 => ⟨S1x4096x1536, .f32⟩
  | 84 => ⟨S1x4096x512, .f32⟩
  | 85 => ⟨S_, .f32⟩
  | 86 => ⟨S1x512, .f32⟩
  | 87 => ⟨S1x1x512, .f32⟩
  | 88 => ⟨S1x4096x512, .f32⟩
  | 89 => ⟨S1x4096x512, .f32⟩
  | 90 => ⟨S_, .f32⟩
  | 91 => ⟨S512, .f32⟩
  | 92 => ⟨S1x4096x4x128, .f32⟩
  | 93 => ⟨S4x128x1x4096, .f32⟩
  | 94 => ⟨S4x1x4096x128, .f32⟩
  | 95 => ⟨S1x4096x4x128, .f32⟩
  | 96 => ⟨S4x128x128, .f32⟩
  | 97 => ⟨S4x128x128, .f32⟩
  | 98 => ⟨S1x4096x1x128, .f32⟩
  | 99 => ⟨S1x4096x128, .f32⟩
  | 100 => ⟨S1x4096x1x128, .f32⟩
  | 101 => ⟨S1x4096x128, .f32⟩
  | 102 => ⟨S1x4096x1x128, .f32⟩
  | 103 => ⟨S1x4096x128, .f32⟩
  | 104 => ⟨S1x4096x1x128, .f32⟩
  | 105 => ⟨S1x4096x128, .f32⟩
  | 106 => ⟨S1x4096x128, .f32⟩
  | 107 => ⟨S1x4096x1x128, .f32⟩
  | 108 => ⟨S_, .f32⟩
  | 109 => ⟨S1x4096x4x128, .f32⟩
  | 110 => ⟨S1x4096x128, .f32⟩
  | 111 => ⟨S1x4096x128, .f32⟩
  | 112 => ⟨S1x4096x128, .f32⟩
  | 113 => ⟨S_, .f32⟩
  | 114 => ⟨S1x4112x128, .f32⟩
  | 115 => ⟨S1x16x128, .f32⟩
  | 116 => ⟨S1x4096x128, .f32⟩
  | 117 => ⟨S1x4096x128, .f32⟩
  | 118 => ⟨S1x4096x1x128, .f32⟩
  | 119 => ⟨S_, .f32⟩
  | 120 => ⟨S1x4096x4x128, .f32⟩
  | 121 => ⟨S1x4096x128, .f32⟩
  | 122 => ⟨S1x4096x1x128, .f32⟩
  | 123 => ⟨S_, .f32⟩
  | 124 => ⟨S1x4096x4x128, .f32⟩
  | 125 => ⟨S1x4096x4x128, .f32⟩
  | 126 => ⟨S1x4096x128, .f32⟩
  | 127 => ⟨S1x4096x128, .f32⟩
  | _ => ⟨S1x4096x8192, .f32⟩

abbrev hbmTy0_10 (i : Nat) : BufTy := match i % 128 with
  | 0 => ⟨S1x4096x128, .f32⟩
  | 1 => ⟨S_, .f32⟩
  | 2 => ⟨S1x4104x128, .f32⟩
  | 3 => ⟨S1x8x128, .f32⟩
  | 4 => ⟨S1x4096x128, .f32⟩
  | 5 => ⟨S1x4096x128, .f32⟩
  | 6 => ⟨S1x4096x1x128, .f32⟩
  | 7 => ⟨S_, .f32⟩
  | 8 => ⟨S1x4096x4x128, .f32⟩
  | 9 => ⟨S1x4096x4x128, .f32⟩
  | 10 => ⟨S1x4096x128, .f32⟩
  | 11 => ⟨S1x4096x1x128, .f32⟩
  | 12 => ⟨S_, .f32⟩
  | 13 => ⟨S1x4096x4x128, .f32⟩
  | 14 => ⟨S1x4096x4x128, .f32⟩
  | 15 => ⟨S1x4096x128, .f32⟩
  | 16 => ⟨S1x4096x128, .f32⟩
  | 17 => ⟨S1x4096x128, .f32⟩
  | 18 => ⟨S_, .f32⟩
  | 19 => ⟨S1x4100x128, .f32⟩
  | 20 => ⟨S1x4x128, .f32⟩
  | 21 => ⟨S1x4096x128, .f32⟩
  | 22 => ⟨S1x4096x128, .f32⟩
  | 23 => ⟨S1x4096x1x128, .f32⟩
  | 24 => ⟨S_, .f32⟩
  | 25 => ⟨S1x4096x4x128, .f32⟩
  | 26 => ⟨S1x4096x4x128, .f32⟩
  | 27 => ⟨S1x4096x128, .f32⟩
  | 28 => ⟨S1x4096x1x128, .f32⟩
  | 29 => ⟨S_, .f32⟩
  | 30 => ⟨S1x4096x4x128, .f32⟩
  | 31 => ⟨S1x4096x4x128, .f32⟩
  | 32 => ⟨S1x4096x128, .f32⟩
  | 33 => ⟨S1x4096x128, .f32⟩
  | 34 => ⟨S1x4096x128, .f32⟩
  | 35 => ⟨S_, .f32⟩
  | 36 => ⟨S1x4098x128, .f32⟩
  | 37 => ⟨S1x2x128, .f32⟩
  | 38 => ⟨S1x4096x128, .f32⟩
  | 39 => ⟨S1x4096x128, .f32⟩
  | 40 => ⟨S1x4096x1x128, .f32⟩
  | 41 => ⟨S_, .f32⟩
  | 42 => ⟨S1x4096x4x128, .f32⟩
  | 43 => ⟨S1x4096x4x128, .f32⟩
  | 44 => ⟨S_, .f32⟩
  | 45 => ⟨S_, .f32⟩
  | 46 => ⟨S1x4096x4x128, .f32⟩
  | 47 => ⟨S1x4096x4x128, .f32⟩
  | 48 => ⟨S1x4096x512, .f32⟩
  | 49 => ⟨S_, .f32⟩
  | 50 => ⟨S1x4096x4096, .f32⟩
  | 51 => ⟨S1x4096x8192, .f32⟩
  | 52 => ⟨S1x4096x4096, .f32⟩
  | 53 => ⟨S4096x4096, .f32⟩
  | 54 => ⟨S1x4096x4096, .f32⟩
  | 55 => ⟨S4096x4096, .f32⟩
  | 56 => ⟨S4096x8192, .f32⟩
  | 57 => ⟨S4096x8192, .bf16⟩
  | 58 => ⟨S1x512, .f32⟩
  | 59 => ⟨S_, .f32⟩
  | 60 => ⟨S5x512, .f32⟩
  | 61 => ⟨S8x512, .f32⟩
  | 62 => ⟨S_, .f32⟩
  | 63 => ⟨S1x512, .f32⟩
  | 64 => ⟨S32x512, .f32⟩
  | 65 => ⟨S1x512, .f32⟩
  | 66 => ⟨S1x512, .f32⟩
  | 67 => ⟨S1x512, .f32⟩
  | 68 => ⟨S1x512, .f32⟩
  | _ => ⟨S1x4096x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S1x4096x8192, .f32⟩

abbrev bufTy : (tb : Table) → Fin (tcTables nBuf tb) → BufTy
  | .hbm, ⟨i, _⟩ => hbmTy i
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_call0_cst : Ref sig .tc := ⟨.hbm, 21, rfl⟩
abbrev main_call0_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_c_8 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_16 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_v128 : Ref sig .tc := ⟨.hbm, 163, rfl⟩
abbrev main_cst_18 : Ref sig .tc := ⟨.hbm, 164, rfl⟩
abbrev main_v129 : Ref sig .tc := ⟨.hbm, 165, rfl⟩
abbrev main_v130 : Ref sig .tc := ⟨.hbm, 166, rfl⟩
abbrev main_cst_19 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_20 : Ref sig .tc := ⟨.hbm, 172, rfl⟩
abbrev main_v135 : Ref sig .tc := ⟨.hbm, 173, rfl⟩
abbrev main_v136 : Ref sig .tc := ⟨.hbm, 174, rfl⟩
abbrev main_cst_21 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_22 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_cst_23 : Ref sig .tc := ⟨.hbm, 396, rfl⟩
abbrev main_v356 : Ref sig .tc := ⟨.hbm, 397, rfl⟩
abbrev main_v357 : Ref sig .tc := ⟨.hbm, 398, rfl⟩
abbrev main_cst_24 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_cst_25 : Ref sig .tc := ⟨.hbm, 405, rfl⟩
abbrev main_v363 : Ref sig .tc := ⟨.hbm, 406, rfl⟩
abbrev main_v364 : Ref sig .tc := ⟨.hbm, 407, rfl⟩
abbrev main_cst_26 : Ref sig .tc := ⟨.hbm, 408, rfl⟩
abbrev main_v365 : Ref sig .tc := ⟨.hbm, 409, rfl⟩
abbrev main_v366 : Ref sig .tc := ⟨.hbm, 410, rfl⟩
abbrev main_cst_27 : Ref sig .tc := ⟨.hbm, 411, rfl⟩
abbrev main_v367 : Ref sig .tc := ⟨.hbm, 412, rfl⟩
abbrev main_v368 : Ref sig .tc := ⟨.hbm, 413, rfl⟩
abbrev main_v369 : Ref sig .tc := ⟨.hbm, 414, rfl⟩
abbrev main_v370 : Ref sig .tc := ⟨.hbm, 415, rfl⟩
abbrev main_cst_28 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_cst_29 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_call1_v0 : Ref sig .tc := ⟨.hbm, 432, rfl⟩
abbrev main_call1_v1 : Ref sig .tc := ⟨.hbm, 433, rfl⟩
abbrev main_call1_cst : Ref sig .tc := ⟨.hbm, 434, rfl⟩
abbrev main_call1_v2 : Ref sig .tc := ⟨.hbm, 435, rfl⟩
abbrev main_call1_v3 : Ref sig .tc := ⟨.hbm, 436, rfl⟩
abbrev main_call1_cst_0 : Ref sig .tc := ⟨.hbm, 437, rfl⟩
abbrev main_call1_v4 : Ref sig .tc := ⟨.hbm, 438, rfl⟩
abbrev main_v385_2 : Ref sig .tc := ⟨.hbm, 439, rfl⟩
abbrev main_call1_cst_1 : Ref sig .tc := ⟨.hbm, 440, rfl⟩
abbrev main_call1_v6 : Ref sig .tc := ⟨.hbm, 441, rfl⟩
abbrev main_call1_v7 : Ref sig .tc := ⟨.hbm, 442, rfl⟩
abbrev main_v385_1 : Ref sig .tc := ⟨.hbm, 443, rfl⟩
abbrev main_v385_0 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_cst_30 : Ref sig .tc := ⟨.hbm, 448, rfl⟩
abbrev main_v389 : Ref sig .tc := ⟨.hbm, 449, rfl⟩
abbrev main_v390 : Ref sig .tc := ⟨.hbm, 450, rfl⟩
abbrev main_cst_31 : Ref sig .tc := ⟨.hbm, 451, rfl⟩
abbrev main_v391 : Ref sig .tc := ⟨.hbm, 452, rfl⟩
abbrev main_v392 : Ref sig .tc := ⟨.hbm, 453, rfl⟩
abbrev main_cst_32 : Ref sig .tc := ⟨.hbm, 454, rfl⟩
abbrev main_v393 : Ref sig .tc := ⟨.hbm, 455, rfl⟩
abbrev main_v394 : Ref sig .tc := ⟨.hbm, 456, rfl⟩
abbrev main_v395 : Ref sig .tc := ⟨.hbm, 457, rfl⟩
abbrev main_cst_33 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_cst_34 : Ref sig .tc := ⟨.hbm, 462, rfl⟩
abbrev main_v399 : Ref sig .tc := ⟨.hbm, 463, rfl⟩
abbrev main_v400 : Ref sig .tc := ⟨.hbm, 464, rfl⟩
abbrev main_cst_35 : Ref sig .tc := ⟨.hbm, 465, rfl⟩
abbrev main_v401 : Ref sig .tc := ⟨.hbm, 466, rfl⟩
abbrev main_v402 : Ref sig .tc := ⟨.hbm, 467, rfl⟩
abbrev main_v403 : Ref sig .tc := ⟨.hbm, 468, rfl⟩
abbrev main_cst_36 : Ref sig .tc := ⟨.hbm, 469, rfl⟩
abbrev main_v404 : Ref sig .tc := ⟨.hbm, 470, rfl⟩
abbrev main_v405 : Ref sig .tc := ⟨.hbm, 471, rfl⟩
abbrev main_cst_37 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_cst_38 : Ref sig .tc := ⟨.hbm, 478, rfl⟩
abbrev main_v411 : Ref sig .tc := ⟨.hbm, 479, rfl⟩
abbrev main_v412 : Ref sig .tc := ⟨.hbm, 480, rfl⟩
abbrev main_cst_39 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_cst_40 : Ref sig .tc := ⟨.hbm, 487, rfl⟩
abbrev main_v418 : Ref sig .tc := ⟨.hbm, 488, rfl⟩
abbrev main_v419 : Ref sig .tc := ⟨.hbm, 489, rfl⟩
abbrev main_cst_41 : Ref sig .tc := ⟨.hbm, 490, rfl⟩
abbrev main_v420 : Ref sig .tc := ⟨.hbm, 491, rfl⟩
abbrev main_v421 : Ref sig .tc := ⟨.hbm, 492, rfl⟩
abbrev main_cst_42 : Ref sig .tc := ⟨.hbm, 493, rfl⟩
abbrev main_v422 : Ref sig .tc := ⟨.hbm, 494, rfl⟩
abbrev main_v423 : Ref sig .tc := ⟨.hbm, 495, rfl⟩
abbrev main_v424 : Ref sig .tc := ⟨.hbm, 496, rfl⟩
abbrev main_v425 : Ref sig .tc := ⟨.hbm, 497, rfl⟩
abbrev main_cst_43 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_cst_44 : Ref sig .tc := ⟨.hbm, 503, rfl⟩
abbrev main_v430 : Ref sig .tc := ⟨.hbm, 504, rfl⟩
abbrev main_v431 : Ref sig .tc := ⟨.hbm, 505, rfl⟩
abbrev main_v432 : Ref sig .tc := ⟨.hbm, 506, rfl⟩
abbrev main_v433 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_c_45 : Ref sig .tc := ⟨.hbm, 517, rfl⟩
abbrev main_call2_v0 : Ref sig .tc := ⟨.hbm, 518, rfl⟩
abbrev main_call2_v1 : Ref sig .tc := ⟨.hbm, 519, rfl⟩
abbrev main_call2_v2 : Ref sig .tc := ⟨.hbm, 520, rfl⟩
abbrev main_call2_v3 : Ref sig .tc := ⟨.hbm, 521, rfl⟩
abbrev main_call2_v4 : Ref sig .tc := ⟨.hbm, 522, rfl⟩
abbrev main_call2_v5 : Ref sig .tc := ⟨.hbm, 523, rfl⟩
abbrev main_call2_v6 : Ref sig .tc := ⟨.hbm, 524, rfl⟩
abbrev main_call2_v7 : Ref sig .tc := ⟨.hbm, 525, rfl⟩
abbrev main_call2_v8 : Ref sig .tc := ⟨.hbm, 526, rfl⟩
abbrev main_call2_c : Ref sig .tc := ⟨.hbm, 527, rfl⟩
abbrev main_call2_v9 : Ref sig .tc := ⟨.hbm, 528, rfl⟩
abbrev main_call2_v10 : Ref sig .tc := ⟨.hbm, 529, rfl⟩
abbrev main_call2_v11 : Ref sig .tc := ⟨.hbm, 530, rfl⟩
abbrev main_call2_c_0 : Ref sig .tc := ⟨.hbm, 531, rfl⟩
abbrev main_call2_v12 : Ref sig .tc := ⟨.hbm, 532, rfl⟩
abbrev main_call2_v13 : Ref sig .tc := ⟨.hbm, 533, rfl⟩
abbrev main_v443 : Ref sig .tc := ⟨.hbm, 534, rfl⟩
abbrev main_v444 : Ref sig .tc := ⟨.hbm, 535, rfl⟩
abbrev main_c_46 : Ref sig .tc := ⟨.hbm, 536, rfl⟩
abbrev main_call3_v0 : Ref sig .tc := ⟨.hbm, 537, rfl⟩
abbrev main_call3_v1 : Ref sig .tc := ⟨.hbm, 538, rfl⟩
abbrev main_call3_v2 : Ref sig .tc := ⟨.hbm, 539, rfl⟩
abbrev main_call3_v3 : Ref sig .tc := ⟨.hbm, 540, rfl⟩
abbrev main_call3_v4 : Ref sig .tc := ⟨.hbm, 541, rfl⟩
abbrev main_call3_v5 : Ref sig .tc := ⟨.hbm, 542, rfl⟩
abbrev main_call3_v6 : Ref sig .tc := ⟨.hbm, 543, rfl⟩
abbrev main_call3_v7 : Ref sig .tc := ⟨.hbm, 544, rfl⟩
abbrev main_call3_v8 : Ref sig .tc := ⟨.hbm, 545, rfl⟩
abbrev main_call3_c : Ref sig .tc := ⟨.hbm, 546, rfl⟩
abbrev main_call3_v9 : Ref sig .tc := ⟨.hbm, 547, rfl⟩
abbrev main_call3_v10 : Ref sig .tc := ⟨.hbm, 548, rfl⟩
abbrev main_call3_v11 : Ref sig .tc := ⟨.hbm, 549, rfl⟩
abbrev main_call3_c_0 : Ref sig .tc := ⟨.hbm, 550, rfl⟩
abbrev main_call3_v12 : Ref sig .tc := ⟨.hbm, 551, rfl⟩
abbrev main_call3_v13 : Ref sig .tc := ⟨.hbm, 552, rfl⟩
abbrev main_v445 : Ref sig .tc := ⟨.hbm, 553, rfl⟩
abbrev main_v446 : Ref sig .tc := ⟨.hbm, 554, rfl⟩
abbrev main_v447 : Ref sig .tc := ⟨.hbm, 555, rfl⟩
abbrev main_v448 : Ref sig .tc := ⟨.hbm, 556, rfl⟩
abbrev main_v449 : Ref sig .tc := ⟨.hbm, 557, rfl⟩
abbrev main_cst_47 : Ref sig .tc := ⟨.hbm, 558, rfl⟩
abbrev main_v450_1 : Ref sig .tc := ⟨.hbm, 559, rfl⟩
abbrev main_call4_v1 : Ref sig .tc := ⟨.hbm, 560, rfl⟩
abbrev main_v450_0 : Ref sig .tc := ⟨.hbm, 561, rfl⟩
abbrev main_call4_cst : Ref sig .tc := ⟨.hbm, 562, rfl⟩
abbrev main_v450_2 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_v454 : Ref sig .tc := ⟨.hbm, 567, rfl⟩
abbrev main_v455 : Ref sig .tc := ⟨.hbm, 568, rfl⟩
abbrev main_v456 : Ref sig .tc := ⟨.hbm, 569, rfl⟩
abbrev main_v457 : Ref sig .tc := ⟨.hbm, 570, rfl⟩
abbrev main_v458 : Ref sig .tc := ⟨.hbm, 571, rfl⟩
abbrev main_v459 : Ref sig .tc := ⟨.hbm, 572, rfl⟩
abbrev main_v460 : Ref sig .tc := ⟨.hbm, 573, rfl⟩
abbrev main_v461 : Ref sig .tc := ⟨.hbm, 574, rfl⟩
abbrev main_v462 : Ref sig .tc := ⟨.hbm, 575, rfl⟩
abbrev main_v463 : Ref sig .tc := ⟨.hbm, 576, rfl⟩
abbrev main_v464 : Ref sig .tc := ⟨.hbm, 577, rfl⟩
abbrev main_v465 : Ref sig .tc := ⟨.hbm, 578, rfl⟩
abbrev main_v466 : Ref sig .tc := ⟨.hbm, 579, rfl⟩
abbrev main_v467 : Ref sig .tc := ⟨.hbm, 580, rfl⟩
abbrev main_v468 : Ref sig .tc := ⟨.hbm, 581, rfl⟩
abbrev main_v469 : Ref sig .tc := ⟨.hbm, 582, rfl⟩
abbrev main_v470 : Ref sig .tc := ⟨.hbm, 583, rfl⟩
abbrev main_v471 : Ref sig .tc := ⟨.hbm, 584, rfl⟩
abbrev main_v472 : Ref sig .tc := ⟨.hbm, 585, rfl⟩
abbrev main_v473 : Ref sig .tc := ⟨.hbm, 586, rfl⟩
abbrev main_v474 : Ref sig .tc := ⟨.hbm, 587, rfl⟩
abbrev main_cst_48 : Ref sig .tc := ⟨.hbm, 588, rfl⟩
abbrev main_v475 : Ref sig .tc := ⟨.hbm, 589, rfl⟩
abbrev main_v476 : Ref sig .tc := ⟨.hbm, 590, rfl⟩
abbrev main_cst_49 : Ref sig .tc := ⟨.hbm, 591, rfl⟩
abbrev main_v477 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_v481 : Ref sig .tc := ⟨.hbm, 596, rfl⟩
abbrev main_v482 : Ref sig .tc := ⟨.hbm, 597, rfl⟩
abbrev main_call5_cst : Ref sig .tc := ⟨.hbm, 598, rfl⟩
abbrev main_call5_v0 : Ref sig .tc := ⟨.hbm, 599, rfl⟩
abbrev main_v483 : Ref sig .tc := ⟨.hbm, 600, rfl⟩
abbrev main_v484 : Ref sig .tc := ⟨.hbm, 601, rfl⟩
abbrev main_cst_50 : Ref sig .tc := ⟨.hbm, 602, rfl⟩
abbrev main_v485 : Ref sig .tc := ⟨.hbm, 603, rfl⟩
abbrev main_v486 : Ref sig .tc := ⟨.hbm, 604, rfl⟩
abbrev main_cst_51 : Ref sig .tc := ⟨.hbm, 605, rfl⟩
abbrev main_v487 : Ref sig .tc := ⟨.hbm, 606, rfl⟩
abbrev main_v488 : Ref sig .tc := ⟨.hbm, 607, rfl⟩
abbrev main_cst_52 : Ref sig .tc := ⟨.hbm, 608, rfl⟩
abbrev main_v489 : Ref sig .tc := ⟨.hbm, 609, rfl⟩
abbrev main_v490 : Ref sig .tc := ⟨.hbm, 610, rfl⟩
abbrev main_v491 : Ref sig .tc := ⟨.hbm, 611, rfl⟩
abbrev main_v492 : Ref sig .tc := ⟨.hbm, 612, rfl⟩
abbrev main_cst_53 : Ref sig .tc := ⟨.hbm, 613, rfl⟩
abbrev main_v493 : Ref sig .tc := ⟨.hbm, 614, rfl⟩
abbrev main_v494 : Ref sig .tc := ⟨.hbm, 615, rfl⟩
abbrev main_cst_54 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_cst_55 : Ref sig .tc := ⟨.hbm, 623, rfl⟩
abbrev main_v501 : Ref sig .tc := ⟨.hbm, 624, rfl⟩
abbrev main_v502 : Ref sig .tc := ⟨.hbm, 625, rfl⟩
abbrev main_cst_56 : Ref sig .tc := ⟨.hbm, 626, rfl⟩
abbrev main_v503 : Ref sig .tc := ⟨.hbm, 627, rfl⟩
abbrev main_v504 : Ref sig .tc := ⟨.hbm, 628, rfl⟩
abbrev main_cst_57 : Ref sig .tc := ⟨.hbm, 629, rfl⟩
abbrev main_v505 : Ref sig .tc := ⟨.hbm, 630, rfl⟩
abbrev main_v506 : Ref sig .tc := ⟨.hbm, 631, rfl⟩
abbrev main_v507 : Ref sig .tc := ⟨.hbm, 632, rfl⟩
abbrev main_v508 : Ref sig .tc := ⟨.hbm, 633, rfl⟩
abbrev main_v509 : Ref sig .tc := ⟨.hbm, 634, rfl⟩
abbrev main_cst_58 : Ref sig .tc := ⟨.hbm, 635, rfl⟩
abbrev main_v510 : Ref sig .tc := ⟨.hbm, 636, rfl⟩
abbrev main_v511 : Ref sig .tc := ⟨.hbm, 637, rfl⟩
abbrev main_v512 : Ref sig .tc := ⟨.hbm, 638, rfl⟩
abbrev main_v513 : Ref sig .tc := ⟨.hbm, 639, rfl⟩
abbrev main_cst_59 : Ref sig .tc := ⟨.hbm, 640, rfl⟩
abbrev main_v514 : Ref sig .tc := ⟨.hbm, 641, rfl⟩
abbrev main_v515 : Ref sig .tc := ⟨.hbm, 642, rfl⟩
abbrev main_cst_60 : Ref sig .tc := ⟨.hbm, 643, rfl⟩
abbrev main_v516 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_v522 : Ref sig .tc := ⟨.hbm, 650, rfl⟩
abbrev main_cst_61 : Ref sig .tc := ⟨.hbm, 651, rfl⟩
abbrev main_v523 : Ref sig .tc := ⟨.hbm, 652, rfl⟩
abbrev main_v524 : Ref sig .tc := ⟨.hbm, 653, rfl⟩
abbrev main_v525 : Ref sig .tc := ⟨.hbm, 654, rfl⟩
abbrev main_cst_62 : Ref sig .tc := ⟨.hbm, 655, rfl⟩
abbrev main_v526 : Ref sig .tc := ⟨.hbm, 656, rfl⟩
abbrev main_v527 : Ref sig .tc := ⟨.hbm, 657, rfl⟩
abbrev main_v528 : Ref sig .tc := ⟨.hbm, 658, rfl⟩
abbrev main_cst_63 : Ref sig .tc := ⟨.hbm, 659, rfl⟩
abbrev main_v529 : Ref sig .tc := ⟨.hbm, 660, rfl⟩
abbrev main_v530 : Ref sig .tc := ⟨.hbm, 661, rfl⟩
abbrev main_cst_64 : Ref sig .tc := ⟨.hbm, 662, rfl⟩
abbrev main_v531 : Ref sig .tc := ⟨.hbm, 663, rfl⟩
abbrev main_v532 : Ref sig .tc := ⟨.hbm, 664, rfl⟩
abbrev main_v533 : Ref sig .tc := ⟨.hbm, 665, rfl⟩
abbrev main_v534 : Ref sig .tc := ⟨.hbm, 666, rfl⟩
abbrev main_call6_v0 : Ref sig .tc := ⟨.hbm, 667, rfl⟩
abbrev main_call6_v1 : Ref sig .tc := ⟨.hbm, 668, rfl⟩
abbrev main_call6_v2 : Ref sig .tc := ⟨.hbm, 669, rfl⟩
abbrev main_v535 : Ref sig .tc := ⟨.hbm, 670, rfl⟩
abbrev main_cst_65 : Ref sig .tc := ⟨.hbm, 671, rfl⟩
abbrev main_v536 : Ref sig .tc := ⟨.hbm, 672, rfl⟩
abbrev main_v537 : Ref sig .tc := ⟨.hbm, 673, rfl⟩
abbrev main_cst_66 : Ref sig .tc := ⟨.hbm, 674, rfl⟩
abbrev main_v538 : Ref sig .tc := ⟨.hbm, 675, rfl⟩
abbrev main_v539 : Ref sig .tc := ⟨.hbm, 676, rfl⟩
abbrev main_cst_67 : Ref sig .tc := ⟨.hbm, 677, rfl⟩
abbrev main_v540 : Ref sig .tc := ⟨.hbm, 678, rfl⟩
abbrev main_v541 : Ref sig .tc := ⟨.hbm, 679, rfl⟩
abbrev main_v542 : Ref sig .tc := ⟨.hbm, 680, rfl⟩
abbrev main_v543 : Ref sig .tc := ⟨.hbm, 681, rfl⟩
abbrev main_cst_68 : Ref sig .tc := ⟨.hbm, 682, rfl⟩
abbrev main_v544 : Ref sig .tc := ⟨.hbm, 683, rfl⟩
abbrev main_v545 : Ref sig .tc := ⟨.hbm, 684, rfl⟩
abbrev main_cst_69 : Ref sig .tc := ⟨.hbm, 685, rfl⟩
abbrev main_v546 : Ref sig .tc := ⟨.hbm, 686, rfl⟩
abbrev main_v547 : Ref sig .tc := ⟨.hbm, 687, rfl⟩
abbrev main_v548 : Ref sig .tc := ⟨.hbm, 688, rfl⟩
abbrev main_v549 : Ref sig .tc := ⟨.hbm, 689, rfl⟩
abbrev main_v550 : Ref sig .tc := ⟨.hbm, 690, rfl⟩
abbrev main_v551 : Ref sig .tc := ⟨.hbm, 691, rfl⟩
abbrev main_cst_70 : Ref sig .tc := ⟨.hbm, 692, rfl⟩
abbrev main_v552 : Ref sig .tc := ⟨.hbm, 693, rfl⟩
abbrev main_v553 : Ref sig .tc := ⟨.hbm, 694, rfl⟩
abbrev main_cst_71 : Ref sig .tc := ⟨.hbm, 695, rfl⟩
abbrev main_v554 : Ref sig .tc := ⟨.hbm, 696, rfl⟩
abbrev main_v555 : Ref sig .tc := ⟨.hbm, 697, rfl⟩
abbrev main_cst_72 : Ref sig .tc := ⟨.hbm, 698, rfl⟩
abbrev main_v556 : Ref sig .tc := ⟨.hbm, 699, rfl⟩
abbrev main_v557 : Ref sig .tc := ⟨.hbm, 700, rfl⟩
abbrev main_v558 : Ref sig .tc := ⟨.hbm, 701, rfl⟩
abbrev main_v559 : Ref sig .tc := ⟨.hbm, 702, rfl⟩
abbrev main_v560 : Ref sig .tc := ⟨.hbm, 703, rfl⟩
abbrev main_cst_73 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_cst_74 : Ref sig .tc := ⟨.hbm, 709, rfl⟩
abbrev main_v565 : Ref sig .tc := ⟨.hbm, 710, rfl⟩
abbrev main_v566 : Ref sig .tc := ⟨.hbm, 711, rfl⟩
abbrev main_cst_75 : Ref sig .tc := ⟨.hbm, 712, rfl⟩
abbrev main_v567 : Ref sig .tc := ⟨.hbm, 713, rfl⟩
abbrev main_v568 : Ref sig .tc := ⟨.hbm, 714, rfl⟩
abbrev main_v569 : Ref sig .tc := ⟨.hbm, 715, rfl⟩
abbrev main_v570 : Ref sig .tc := ⟨.hbm, 716, rfl⟩
abbrev main_v571 : Ref sig .tc := ⟨.hbm, 717, rfl⟩
abbrev main_v572 : Ref sig .tc := ⟨.hbm, 718, rfl⟩
abbrev main_v573 : Ref sig .tc := ⟨.hbm, 719, rfl⟩
abbrev main_cst_76 : Ref sig .tc := ⟨.hbm, 720, rfl⟩
abbrev main_v574 : Ref sig .tc := ⟨.hbm, 721, rfl⟩
abbrev main_v575 : Ref sig .tc := ⟨.hbm, 722, rfl⟩
abbrev main_cst_77 : Ref sig .tc := ⟨.hbm, 723, rfl⟩
abbrev main_v576 : Ref sig .tc := ⟨.hbm, 724, rfl⟩
abbrev main_cst_78 : Ref sig .tc := ⟨.hbm, 725, rfl⟩
abbrev main_v577 : Ref sig .tc := ⟨.hbm, 726, rfl⟩
abbrev main_v578 : Ref sig .tc := ⟨.hbm, 727, rfl⟩
abbrev main_cst_79 : Ref sig .tc := ⟨.hbm, 728, rfl⟩
abbrev main_v579 : Ref sig .tc := ⟨.hbm, 729, rfl⟩
abbrev main_v580 : Ref sig .tc := ⟨.hbm, 730, rfl⟩
abbrev main_v581 : Ref sig .tc := ⟨.hbm, 731, rfl⟩
abbrev main_v582 : Ref sig .tc := ⟨.hbm, 732, rfl⟩
abbrev main_cst_80 : Ref sig .tc := ⟨.hbm, 733, rfl⟩
abbrev main_v583 : Ref sig .tc := ⟨.hbm, 734, rfl⟩
abbrev main_v584 : Ref sig .tc := ⟨.hbm, 735, rfl⟩
abbrev main_cst_81 : Ref sig .tc := ⟨.hbm, 736, rfl⟩
abbrev main_v585 : Ref sig .tc := ⟨.hbm, 737, rfl⟩
abbrev main_cst_82 : Ref sig .tc := ⟨.hbm, 738, rfl⟩
abbrev main_v586 : Ref sig .tc := ⟨.hbm, 739, rfl⟩
abbrev main_v587 : Ref sig .tc := ⟨.hbm, 740, rfl⟩
abbrev main_v588 : Ref sig .tc := ⟨.hbm, 741, rfl⟩
abbrev main_cst_83 : Ref sig .tc := ⟨.hbm, 742, rfl⟩
abbrev main_v589 : Ref sig .tc := ⟨.hbm, 743, rfl⟩
abbrev main_v590 : Ref sig .tc := ⟨.hbm, 744, rfl⟩
abbrev main_v591 : Ref sig .tc := ⟨.hbm, 745, rfl⟩
abbrev main_v592 : Ref sig .tc := ⟨.hbm, 746, rfl⟩
abbrev main_v593 : Ref sig .tc := ⟨.hbm, 747, rfl⟩
abbrev main_cst_84 : Ref sig .tc := ⟨.hbm, 748, rfl⟩
abbrev main_v594 : Ref sig .tc := ⟨.hbm, 749, rfl⟩
abbrev main_v595 : Ref sig .tc := ⟨.hbm, 750, rfl⟩
abbrev main_cst_85 : Ref sig .tc := ⟨.hbm, 751, rfl⟩
abbrev main_v596 : Ref sig .tc := ⟨.hbm, 752, rfl⟩
abbrev main_cst_86 : Ref sig .tc := ⟨.hbm, 753, rfl⟩
abbrev main_v597 : Ref sig .tc := ⟨.hbm, 754, rfl⟩
abbrev main_v598 : Ref sig .tc := ⟨.hbm, 755, rfl⟩
abbrev main_v599 : Ref sig .tc := ⟨.hbm, 756, rfl⟩
abbrev main_cst_87 : Ref sig .tc := ⟨.hbm, 757, rfl⟩
abbrev main_v600 : Ref sig .tc := ⟨.hbm, 758, rfl⟩
abbrev main_v601 : Ref sig .tc := ⟨.hbm, 759, rfl⟩
abbrev main_v602 : Ref sig .tc := ⟨.hbm, 760, rfl⟩
abbrev main_v603 : Ref sig .tc := ⟨.hbm, 761, rfl⟩
abbrev main_v604 : Ref sig .tc := ⟨.hbm, 762, rfl⟩
abbrev main_cst_88 : Ref sig .tc := ⟨.hbm, 763, rfl⟩
abbrev main_v605 : Ref sig .tc := ⟨.hbm, 764, rfl⟩
abbrev main_v606 : Ref sig .tc := ⟨.hbm, 765, rfl⟩
abbrev main_cst_89 : Ref sig .tc := ⟨.hbm, 766, rfl⟩
abbrev main_v607 : Ref sig .tc := ⟨.hbm, 767, rfl⟩
abbrev main_cst_90 : Ref sig .tc := ⟨.hbm, 768, rfl⟩
abbrev main_v608 : Ref sig .tc := ⟨.hbm, 769, rfl⟩
abbrev main_v609 : Ref sig .tc := ⟨.hbm, 770, rfl⟩
abbrev main_v610 : Ref sig .tc := ⟨.hbm, 771, rfl⟩
abbrev main_cst_91 : Ref sig .tc := ⟨.hbm, 772, rfl⟩
abbrev main_v611 : Ref sig .tc := ⟨.hbm, 773, rfl⟩
abbrev main_v612 : Ref sig .tc := ⟨.hbm, 774, rfl⟩
abbrev main_v613 : Ref sig .tc := ⟨.hbm, 775, rfl⟩
abbrev main_v614 : Ref sig .tc := ⟨.hbm, 776, rfl⟩
abbrev main_v615 : Ref sig .tc := ⟨.hbm, 777, rfl⟩
abbrev main_cst_92 : Ref sig .tc := ⟨.hbm, 778, rfl⟩
abbrev main_v616 : Ref sig .tc := ⟨.hbm, 779, rfl⟩
abbrev main_v617 : Ref sig .tc := ⟨.hbm, 780, rfl⟩
abbrev main_cst_93 : Ref sig .tc := ⟨.hbm, 781, rfl⟩
abbrev main_v618 : Ref sig .tc := ⟨.hbm, 782, rfl⟩
abbrev main_cst_94 : Ref sig .tc := ⟨.hbm, 783, rfl⟩
abbrev main_v619 : Ref sig .tc := ⟨.hbm, 784, rfl⟩
abbrev main_v620 : Ref sig .tc := ⟨.hbm, 785, rfl⟩
abbrev main_v621 : Ref sig .tc := ⟨.hbm, 786, rfl⟩
abbrev main_cst_95 : Ref sig .tc := ⟨.hbm, 787, rfl⟩
abbrev main_v622 : Ref sig .tc := ⟨.hbm, 788, rfl⟩
abbrev main_v623 : Ref sig .tc := ⟨.hbm, 789, rfl⟩
abbrev main_v624 : Ref sig .tc := ⟨.hbm, 790, rfl⟩
abbrev main_v625 : Ref sig .tc := ⟨.hbm, 791, rfl⟩
abbrev main_v626 : Ref sig .tc := ⟨.hbm, 792, rfl⟩
abbrev main_cst_96 : Ref sig .tc := ⟨.hbm, 793, rfl⟩
abbrev main_v627 : Ref sig .tc := ⟨.hbm, 794, rfl⟩
abbrev main_v628 : Ref sig .tc := ⟨.hbm, 795, rfl⟩
abbrev main_cst_97 : Ref sig .tc := ⟨.hbm, 796, rfl⟩
abbrev main_v629 : Ref sig .tc := ⟨.hbm, 797, rfl⟩
abbrev main_cst_98 : Ref sig .tc := ⟨.hbm, 798, rfl⟩
abbrev main_v630 : Ref sig .tc := ⟨.hbm, 799, rfl⟩
abbrev main_v631 : Ref sig .tc := ⟨.hbm, 800, rfl⟩
abbrev main_v632 : Ref sig .tc := ⟨.hbm, 801, rfl⟩
abbrev main_cst_99 : Ref sig .tc := ⟨.hbm, 802, rfl⟩
abbrev main_v633 : Ref sig .tc := ⟨.hbm, 803, rfl⟩
abbrev main_v634 : Ref sig .tc := ⟨.hbm, 804, rfl⟩
abbrev main_v635 : Ref sig .tc := ⟨.hbm, 805, rfl⟩
abbrev main_v636 : Ref sig .tc := ⟨.hbm, 806, rfl⟩
abbrev main_v637 : Ref sig .tc := ⟨.hbm, 807, rfl⟩
abbrev main_cst_100 : Ref sig .tc := ⟨.hbm, 808, rfl⟩
abbrev main_v638 : Ref sig .tc := ⟨.hbm, 809, rfl⟩
abbrev main_v639 : Ref sig .tc := ⟨.hbm, 810, rfl⟩
abbrev main_cst_101 : Ref sig .tc := ⟨.hbm, 811, rfl⟩
abbrev main_v640 : Ref sig .tc := ⟨.hbm, 812, rfl⟩
abbrev main_cst_102 : Ref sig .tc := ⟨.hbm, 813, rfl⟩
abbrev main_v641 : Ref sig .tc := ⟨.hbm, 814, rfl⟩
abbrev main_v642 : Ref sig .tc := ⟨.hbm, 815, rfl⟩
abbrev main_v643 : Ref sig .tc := ⟨.hbm, 816, rfl⟩
abbrev main_cst_103 : Ref sig .tc := ⟨.hbm, 817, rfl⟩
abbrev main_v644 : Ref sig .tc := ⟨.hbm, 818, rfl⟩
abbrev main_v645 : Ref sig .tc := ⟨.hbm, 819, rfl⟩
abbrev main_v646 : Ref sig .tc := ⟨.hbm, 820, rfl⟩
abbrev main_v647 : Ref sig .tc := ⟨.hbm, 821, rfl⟩
abbrev main_v648 : Ref sig .tc := ⟨.hbm, 822, rfl⟩
abbrev main_cst_104 : Ref sig .tc := ⟨.hbm, 823, rfl⟩
abbrev main_v649 : Ref sig .tc := ⟨.hbm, 824, rfl⟩
abbrev main_v650 : Ref sig .tc := ⟨.hbm, 825, rfl⟩
abbrev main_cst_105 : Ref sig .tc := ⟨.hbm, 826, rfl⟩
abbrev main_v651 : Ref sig .tc := ⟨.hbm, 827, rfl⟩
abbrev main_cst_106 : Ref sig .tc := ⟨.hbm, 828, rfl⟩
abbrev main_v652 : Ref sig .tc := ⟨.hbm, 829, rfl⟩
abbrev main_v653 : Ref sig .tc := ⟨.hbm, 830, rfl⟩
abbrev main_v654 : Ref sig .tc := ⟨.hbm, 831, rfl⟩
abbrev main_cst_107 : Ref sig .tc := ⟨.hbm, 832, rfl⟩
abbrev main_v655 : Ref sig .tc := ⟨.hbm, 833, rfl⟩
abbrev main_v656 : Ref sig .tc := ⟨.hbm, 834, rfl⟩
abbrev main_v657 : Ref sig .tc := ⟨.hbm, 835, rfl⟩
abbrev main_v658 : Ref sig .tc := ⟨.hbm, 836, rfl⟩
abbrev main_v659 : Ref sig .tc := ⟨.hbm, 837, rfl⟩
abbrev main_cst_108 : Ref sig .tc := ⟨.hbm, 838, rfl⟩
abbrev main_v660 : Ref sig .tc := ⟨.hbm, 839, rfl⟩
abbrev main_v661 : Ref sig .tc := ⟨.hbm, 840, rfl⟩
abbrev main_cst_109 : Ref sig .tc := ⟨.hbm, 841, rfl⟩
abbrev main_v662 : Ref sig .tc := ⟨.hbm, 842, rfl⟩
abbrev main_cst_110 : Ref sig .tc := ⟨.hbm, 843, rfl⟩
abbrev main_v663 : Ref sig .tc := ⟨.hbm, 844, rfl⟩
abbrev main_v664 : Ref sig .tc := ⟨.hbm, 845, rfl⟩
abbrev main_v665 : Ref sig .tc := ⟨.hbm, 846, rfl⟩
abbrev main_cst_111 : Ref sig .tc := ⟨.hbm, 847, rfl⟩
abbrev main_v666 : Ref sig .tc := ⟨.hbm, 848, rfl⟩
abbrev main_v667 : Ref sig .tc := ⟨.hbm, 849, rfl⟩
abbrev main_v668 : Ref sig .tc := ⟨.hbm, 850, rfl⟩
abbrev main_v669 : Ref sig .tc := ⟨.hbm, 851, rfl⟩
abbrev main_v670 : Ref sig .tc := ⟨.hbm, 852, rfl⟩
abbrev main_cst_112 : Ref sig .tc := ⟨.hbm, 853, rfl⟩
abbrev main_v671 : Ref sig .tc := ⟨.hbm, 854, rfl⟩
abbrev main_v672 : Ref sig .tc := ⟨.hbm, 855, rfl⟩
abbrev main_cst_113 : Ref sig .tc := ⟨.hbm, 856, rfl⟩
abbrev main_v673 : Ref sig .tc := ⟨.hbm, 857, rfl⟩
abbrev main_cst_114 : Ref sig .tc := ⟨.hbm, 858, rfl⟩
abbrev main_v674 : Ref sig .tc := ⟨.hbm, 859, rfl⟩
abbrev main_v675 : Ref sig .tc := ⟨.hbm, 860, rfl⟩
abbrev main_v676 : Ref sig .tc := ⟨.hbm, 861, rfl⟩
abbrev main_cst_115 : Ref sig .tc := ⟨.hbm, 862, rfl⟩
abbrev main_v677 : Ref sig .tc := ⟨.hbm, 863, rfl⟩
abbrev main_v678 : Ref sig .tc := ⟨.hbm, 864, rfl⟩
abbrev main_v679 : Ref sig .tc := ⟨.hbm, 865, rfl⟩
abbrev main_v680 : Ref sig .tc := ⟨.hbm, 866, rfl⟩
abbrev main_v681 : Ref sig .tc := ⟨.hbm, 867, rfl⟩
abbrev main_cst_116 : Ref sig .tc := ⟨.hbm, 868, rfl⟩
abbrev main_v682 : Ref sig .tc := ⟨.hbm, 869, rfl⟩
abbrev main_v683 : Ref sig .tc := ⟨.hbm, 870, rfl⟩
abbrev main_cst_117 : Ref sig .tc := ⟨.hbm, 871, rfl⟩
abbrev main_v684 : Ref sig .tc := ⟨.hbm, 872, rfl⟩
abbrev main_cst_118 : Ref sig .tc := ⟨.hbm, 873, rfl⟩
abbrev main_v685 : Ref sig .tc := ⟨.hbm, 874, rfl⟩
abbrev main_v686 : Ref sig .tc := ⟨.hbm, 875, rfl⟩
abbrev main_v687 : Ref sig .tc := ⟨.hbm, 876, rfl⟩
abbrev main_cst_119 : Ref sig .tc := ⟨.hbm, 877, rfl⟩
abbrev main_v688 : Ref sig .tc := ⟨.hbm, 878, rfl⟩
abbrev main_v689 : Ref sig .tc := ⟨.hbm, 879, rfl⟩
abbrev main_v690 : Ref sig .tc := ⟨.hbm, 880, rfl⟩
abbrev main_v691 : Ref sig .tc := ⟨.hbm, 881, rfl⟩
abbrev main_v692 : Ref sig .tc := ⟨.hbm, 882, rfl⟩
abbrev main_cst_120 : Ref sig .tc := ⟨.hbm, 883, rfl⟩
abbrev main_v693 : Ref sig .tc := ⟨.hbm, 884, rfl⟩
abbrev main_v694 : Ref sig .tc := ⟨.hbm, 885, rfl⟩
abbrev main_cst_121 : Ref sig .tc := ⟨.hbm, 886, rfl⟩
abbrev main_v695 : Ref sig .tc := ⟨.hbm, 887, rfl⟩
abbrev main_cst_122 : Ref sig .tc := ⟨.hbm, 888, rfl⟩
abbrev main_v696 : Ref sig .tc := ⟨.hbm, 889, rfl⟩
abbrev main_v697 : Ref sig .tc := ⟨.hbm, 890, rfl⟩
abbrev main_v698 : Ref sig .tc := ⟨.hbm, 891, rfl⟩
abbrev main_cst_123 : Ref sig .tc := ⟨.hbm, 892, rfl⟩
abbrev main_v699 : Ref sig .tc := ⟨.hbm, 893, rfl⟩
abbrev main_v700 : Ref sig .tc := ⟨.hbm, 894, rfl⟩
abbrev main_v701 : Ref sig .tc := ⟨.hbm, 895, rfl⟩
abbrev main_v702 : Ref sig .tc := ⟨.hbm, 896, rfl⟩
abbrev main_v703 : Ref sig .tc := ⟨.hbm, 897, rfl⟩
abbrev main_cst_124 : Ref sig .tc := ⟨.hbm, 898, rfl⟩
abbrev main_v704 : Ref sig .tc := ⟨.hbm, 899, rfl⟩
abbrev main_v705 : Ref sig .tc := ⟨.hbm, 900, rfl⟩
abbrev main_cst_125 : Ref sig .tc := ⟨.hbm, 901, rfl⟩
abbrev main_v706 : Ref sig .tc := ⟨.hbm, 902, rfl⟩
abbrev main_cst_126 : Ref sig .tc := ⟨.hbm, 903, rfl⟩
abbrev main_v707 : Ref sig .tc := ⟨.hbm, 904, rfl⟩
abbrev main_v708 : Ref sig .tc := ⟨.hbm, 905, rfl⟩
abbrev main_v709 : Ref sig .tc := ⟨.hbm, 906, rfl⟩
abbrev main_cst_127 : Ref sig .tc := ⟨.hbm, 907, rfl⟩
abbrev main_v710 : Ref sig .tc := ⟨.hbm, 908, rfl⟩
abbrev main_v711 : Ref sig .tc := ⟨.hbm, 909, rfl⟩
abbrev main_v712 : Ref sig .tc := ⟨.hbm, 910, rfl⟩
abbrev main_v713 : Ref sig .tc := ⟨.hbm, 911, rfl⟩
abbrev main_v714 : Ref sig .tc := ⟨.hbm, 912, rfl⟩
abbrev main_cst_128 : Ref sig .tc := ⟨.hbm, 913, rfl⟩
abbrev main_v715 : Ref sig .tc := ⟨.hbm, 914, rfl⟩
abbrev main_v716 : Ref sig .tc := ⟨.hbm, 915, rfl⟩
abbrev main_cst_129 : Ref sig .tc := ⟨.hbm, 916, rfl⟩
abbrev main_v717 : Ref sig .tc := ⟨.hbm, 917, rfl⟩
abbrev main_cst_130 : Ref sig .tc := ⟨.hbm, 918, rfl⟩
abbrev main_v718 : Ref sig .tc := ⟨.hbm, 919, rfl⟩
abbrev main_v719 : Ref sig .tc := ⟨.hbm, 920, rfl⟩
abbrev main_v720 : Ref sig .tc := ⟨.hbm, 921, rfl⟩
abbrev main_cst_131 : Ref sig .tc := ⟨.hbm, 922, rfl⟩
abbrev main_v721 : Ref sig .tc := ⟨.hbm, 923, rfl⟩
abbrev main_v722 : Ref sig .tc := ⟨.hbm, 924, rfl⟩
abbrev main_v723 : Ref sig .tc := ⟨.hbm, 925, rfl⟩
abbrev main_v724 : Ref sig .tc := ⟨.hbm, 926, rfl⟩
abbrev main_v725 : Ref sig .tc := ⟨.hbm, 927, rfl⟩
abbrev main_cst_132 : Ref sig .tc := ⟨.hbm, 928, rfl⟩
abbrev main_v726 : Ref sig .tc := ⟨.hbm, 929, rfl⟩
abbrev main_v727 : Ref sig .tc := ⟨.hbm, 930, rfl⟩
abbrev main_cst_133 : Ref sig .tc := ⟨.hbm, 931, rfl⟩
abbrev main_v728 : Ref sig .tc := ⟨.hbm, 932, rfl⟩
abbrev main_cst_134 : Ref sig .tc := ⟨.hbm, 933, rfl⟩
abbrev main_v729 : Ref sig .tc := ⟨.hbm, 934, rfl⟩
abbrev main_v730 : Ref sig .tc := ⟨.hbm, 935, rfl⟩
abbrev main_v731 : Ref sig .tc := ⟨.hbm, 936, rfl⟩
abbrev main_cst_135 : Ref sig .tc := ⟨.hbm, 937, rfl⟩
abbrev main_v732 : Ref sig .tc := ⟨.hbm, 938, rfl⟩
abbrev main_v733 : Ref sig .tc := ⟨.hbm, 939, rfl⟩
abbrev main_v734 : Ref sig .tc := ⟨.hbm, 940, rfl⟩
abbrev main_v735 : Ref sig .tc := ⟨.hbm, 941, rfl⟩
abbrev main_v736 : Ref sig .tc := ⟨.hbm, 942, rfl⟩
abbrev main_cst_136 : Ref sig .tc := ⟨.hbm, 943, rfl⟩
abbrev main_v737 : Ref sig .tc := ⟨.hbm, 944, rfl⟩
abbrev main_v738 : Ref sig .tc := ⟨.hbm, 945, rfl⟩
abbrev main_cst_137 : Ref sig .tc := ⟨.hbm, 946, rfl⟩
abbrev main_v739 : Ref sig .tc := ⟨.hbm, 947, rfl⟩
abbrev main_cst_138 : Ref sig .tc := ⟨.hbm, 948, rfl⟩
abbrev main_v740 : Ref sig .tc := ⟨.hbm, 949, rfl⟩
abbrev main_v741 : Ref sig .tc := ⟨.hbm, 950, rfl⟩
abbrev main_v742 : Ref sig .tc := ⟨.hbm, 951, rfl⟩
abbrev main_cst_139 : Ref sig .tc := ⟨.hbm, 952, rfl⟩
abbrev main_v743 : Ref sig .tc := ⟨.hbm, 953, rfl⟩
abbrev main_v744 : Ref sig .tc := ⟨.hbm, 954, rfl⟩
abbrev main_v745 : Ref sig .tc := ⟨.hbm, 955, rfl⟩
abbrev main_v746 : Ref sig .tc := ⟨.hbm, 956, rfl⟩
abbrev main_v747 : Ref sig .tc := ⟨.hbm, 957, rfl⟩
abbrev main_cst_140 : Ref sig .tc := ⟨.hbm, 958, rfl⟩
abbrev main_v748 : Ref sig .tc := ⟨.hbm, 959, rfl⟩
abbrev main_v749 : Ref sig .tc := ⟨.hbm, 960, rfl⟩
abbrev main_cst_141 : Ref sig .tc := ⟨.hbm, 961, rfl⟩
abbrev main_v750 : Ref sig .tc := ⟨.hbm, 962, rfl⟩
abbrev main_cst_142 : Ref sig .tc := ⟨.hbm, 963, rfl⟩
abbrev main_v751 : Ref sig .tc := ⟨.hbm, 964, rfl⟩
abbrev main_v752 : Ref sig .tc := ⟨.hbm, 965, rfl⟩
abbrev main_v753 : Ref sig .tc := ⟨.hbm, 966, rfl⟩
abbrev main_cst_143 : Ref sig .tc := ⟨.hbm, 967, rfl⟩
abbrev main_v754 : Ref sig .tc := ⟨.hbm, 968, rfl⟩
abbrev main_v755 : Ref sig .tc := ⟨.hbm, 969, rfl⟩
abbrev main_v756 : Ref sig .tc := ⟨.hbm, 970, rfl⟩
abbrev main_v757 : Ref sig .tc := ⟨.hbm, 971, rfl⟩
abbrev main_v758 : Ref sig .tc := ⟨.hbm, 972, rfl⟩
abbrev main_cst_144 : Ref sig .tc := ⟨.hbm, 973, rfl⟩
abbrev main_v759 : Ref sig .tc := ⟨.hbm, 974, rfl⟩
abbrev main_v760 : Ref sig .tc := ⟨.hbm, 975, rfl⟩
abbrev main_cst_145 : Ref sig .tc := ⟨.hbm, 976, rfl⟩
abbrev main_v761 : Ref sig .tc := ⟨.hbm, 977, rfl⟩
abbrev main_cst_146 : Ref sig .tc := ⟨.hbm, 978, rfl⟩
abbrev main_v762 : Ref sig .tc := ⟨.hbm, 979, rfl⟩
abbrev main_v763 : Ref sig .tc := ⟨.hbm, 980, rfl⟩
abbrev main_v764 : Ref sig .tc := ⟨.hbm, 981, rfl⟩
abbrev main_cst_147 : Ref sig .tc := ⟨.hbm, 982, rfl⟩
abbrev main_v765 : Ref sig .tc := ⟨.hbm, 983, rfl⟩
abbrev main_v766 : Ref sig .tc := ⟨.hbm, 984, rfl⟩
abbrev main_v767 : Ref sig .tc := ⟨.hbm, 985, rfl⟩
abbrev main_v768 : Ref sig .tc := ⟨.hbm, 986, rfl⟩
abbrev main_v769 : Ref sig .tc := ⟨.hbm, 987, rfl⟩
abbrev main_cst_148 : Ref sig .tc := ⟨.hbm, 988, rfl⟩
abbrev main_v770 : Ref sig .tc := ⟨.hbm, 989, rfl⟩
abbrev main_v771 : Ref sig .tc := ⟨.hbm, 990, rfl⟩
abbrev main_cst_149 : Ref sig .tc := ⟨.hbm, 991, rfl⟩
abbrev main_v772 : Ref sig .tc := ⟨.hbm, 992, rfl⟩
abbrev main_cst_150 : Ref sig .tc := ⟨.hbm, 993, rfl⟩
abbrev main_v773 : Ref sig .tc := ⟨.hbm, 994, rfl⟩
abbrev main_v774 : Ref sig .tc := ⟨.hbm, 995, rfl⟩
abbrev main_v775 : Ref sig .tc := ⟨.hbm, 996, rfl⟩
abbrev main_cst_151 : Ref sig .tc := ⟨.hbm, 997, rfl⟩
abbrev main_v776 : Ref sig .tc := ⟨.hbm, 998, rfl⟩
abbrev main_v777 : Ref sig .tc := ⟨.hbm, 999, rfl⟩
abbrev main_v778 : Ref sig .tc := ⟨.hbm, 1000, rfl⟩
abbrev main_v779 : Ref sig .tc := ⟨.hbm, 1001, rfl⟩
abbrev main_v780 : Ref sig .tc := ⟨.hbm, 1002, rfl⟩
abbrev main_cst_152 : Ref sig .tc := ⟨.hbm, 1003, rfl⟩
abbrev main_v781 : Ref sig .tc := ⟨.hbm, 1004, rfl⟩
abbrev main_v782 : Ref sig .tc := ⟨.hbm, 1005, rfl⟩
abbrev main_cst_153 : Ref sig .tc := ⟨.hbm, 1006, rfl⟩
abbrev main_v783 : Ref sig .tc := ⟨.hbm, 1007, rfl⟩
abbrev main_cst_154 : Ref sig .tc := ⟨.hbm, 1008, rfl⟩
abbrev main_v784 : Ref sig .tc := ⟨.hbm, 1009, rfl⟩
abbrev main_v785 : Ref sig .tc := ⟨.hbm, 1010, rfl⟩
abbrev main_v786 : Ref sig .tc := ⟨.hbm, 1011, rfl⟩
abbrev main_cst_155 : Ref sig .tc := ⟨.hbm, 1012, rfl⟩
abbrev main_v787 : Ref sig .tc := ⟨.hbm, 1013, rfl⟩
abbrev main_v788 : Ref sig .tc := ⟨.hbm, 1014, rfl⟩
abbrev main_v789 : Ref sig .tc := ⟨.hbm, 1015, rfl⟩
abbrev main_v790 : Ref sig .tc := ⟨.hbm, 1016, rfl⟩
abbrev main_v791 : Ref sig .tc := ⟨.hbm, 1017, rfl⟩
abbrev main_cst_156 : Ref sig .tc := ⟨.hbm, 1018, rfl⟩
abbrev main_v792 : Ref sig .tc := ⟨.hbm, 1019, rfl⟩
abbrev main_v793 : Ref sig .tc := ⟨.hbm, 1020, rfl⟩
abbrev main_cst_157 : Ref sig .tc := ⟨.hbm, 1021, rfl⟩
abbrev main_v794 : Ref sig .tc := ⟨.hbm, 1022, rfl⟩
abbrev main_cst_158 : Ref sig .tc := ⟨.hbm, 1023, rfl⟩
abbrev main_v795 : Ref sig .tc := ⟨.hbm, 1024, rfl⟩
abbrev main_v796 : Ref sig .tc := ⟨.hbm, 1025, rfl⟩
abbrev main_v797 : Ref sig .tc := ⟨.hbm, 1026, rfl⟩
abbrev main_cst_159 : Ref sig .tc := ⟨.hbm, 1027, rfl⟩
abbrev main_v798 : Ref sig .tc := ⟨.hbm, 1028, rfl⟩
abbrev main_v799 : Ref sig .tc := ⟨.hbm, 1029, rfl⟩
abbrev main_v800 : Ref sig .tc := ⟨.hbm, 1030, rfl⟩
abbrev main_v801 : Ref sig .tc := ⟨.hbm, 1031, rfl⟩
abbrev main_v802 : Ref sig .tc := ⟨.hbm, 1032, rfl⟩
abbrev main_cst_160 : Ref sig .tc := ⟨.hbm, 1033, rfl⟩
abbrev main_v803 : Ref sig .tc := ⟨.hbm, 1034, rfl⟩
abbrev main_v804 : Ref sig .tc := ⟨.hbm, 1035, rfl⟩
abbrev main_cst_161 : Ref sig .tc := ⟨.hbm, 1036, rfl⟩
abbrev main_v805 : Ref sig .tc := ⟨.hbm, 1037, rfl⟩
abbrev main_cst_162 : Ref sig .tc := ⟨.hbm, 1038, rfl⟩
abbrev main_v806 : Ref sig .tc := ⟨.hbm, 1039, rfl⟩
abbrev main_v807 : Ref sig .tc := ⟨.hbm, 1040, rfl⟩
abbrev main_v808 : Ref sig .tc := ⟨.hbm, 1041, rfl⟩
abbrev main_cst_163 : Ref sig .tc := ⟨.hbm, 1042, rfl⟩
abbrev main_v809 : Ref sig .tc := ⟨.hbm, 1043, rfl⟩
abbrev main_v810 : Ref sig .tc := ⟨.hbm, 1044, rfl⟩
abbrev main_v811 : Ref sig .tc := ⟨.hbm, 1045, rfl⟩
abbrev main_v812 : Ref sig .tc := ⟨.hbm, 1046, rfl⟩
abbrev main_v813 : Ref sig .tc := ⟨.hbm, 1047, rfl⟩
abbrev main_cst_164 : Ref sig .tc := ⟨.hbm, 1048, rfl⟩
abbrev main_v814 : Ref sig .tc := ⟨.hbm, 1049, rfl⟩
abbrev main_v815 : Ref sig .tc := ⟨.hbm, 1050, rfl⟩
abbrev main_cst_165 : Ref sig .tc := ⟨.hbm, 1051, rfl⟩
abbrev main_v816 : Ref sig .tc := ⟨.hbm, 1052, rfl⟩
abbrev main_cst_166 : Ref sig .tc := ⟨.hbm, 1053, rfl⟩
abbrev main_v817 : Ref sig .tc := ⟨.hbm, 1054, rfl⟩
abbrev main_v818 : Ref sig .tc := ⟨.hbm, 1055, rfl⟩
abbrev main_v819 : Ref sig .tc := ⟨.hbm, 1056, rfl⟩
abbrev main_cst_167 : Ref sig .tc := ⟨.hbm, 1057, rfl⟩
abbrev main_v820 : Ref sig .tc := ⟨.hbm, 1058, rfl⟩
abbrev main_v821 : Ref sig .tc := ⟨.hbm, 1059, rfl⟩
abbrev main_v822 : Ref sig .tc := ⟨.hbm, 1060, rfl⟩
abbrev main_v823 : Ref sig .tc := ⟨.hbm, 1061, rfl⟩
abbrev main_v824 : Ref sig .tc := ⟨.hbm, 1062, rfl⟩
abbrev main_cst_168 : Ref sig .tc := ⟨.hbm, 1063, rfl⟩
abbrev main_v825 : Ref sig .tc := ⟨.hbm, 1064, rfl⟩
abbrev main_v826 : Ref sig .tc := ⟨.hbm, 1065, rfl⟩
abbrev main_cst_169 : Ref sig .tc := ⟨.hbm, 1066, rfl⟩
abbrev main_v827 : Ref sig .tc := ⟨.hbm, 1067, rfl⟩
abbrev main_cst_170 : Ref sig .tc := ⟨.hbm, 1068, rfl⟩
abbrev main_v828 : Ref sig .tc := ⟨.hbm, 1069, rfl⟩
abbrev main_v829 : Ref sig .tc := ⟨.hbm, 1070, rfl⟩
abbrev main_v830 : Ref sig .tc := ⟨.hbm, 1071, rfl⟩
abbrev main_cst_171 : Ref sig .tc := ⟨.hbm, 1072, rfl⟩
abbrev main_v831 : Ref sig .tc := ⟨.hbm, 1073, rfl⟩
abbrev main_v832 : Ref sig .tc := ⟨.hbm, 1074, rfl⟩
abbrev main_v833 : Ref sig .tc := ⟨.hbm, 1075, rfl⟩
abbrev main_v834 : Ref sig .tc := ⟨.hbm, 1076, rfl⟩
abbrev main_v835 : Ref sig .tc := ⟨.hbm, 1077, rfl⟩
abbrev main_cst_172 : Ref sig .tc := ⟨.hbm, 1078, rfl⟩
abbrev main_v836 : Ref sig .tc := ⟨.hbm, 1079, rfl⟩
abbrev main_v837 : Ref sig .tc := ⟨.hbm, 1080, rfl⟩
abbrev main_cst_173 : Ref sig .tc := ⟨.hbm, 1081, rfl⟩
abbrev main_v838 : Ref sig .tc := ⟨.hbm, 1082, rfl⟩
abbrev main_cst_174 : Ref sig .tc := ⟨.hbm, 1083, rfl⟩
abbrev main_v839 : Ref sig .tc := ⟨.hbm, 1084, rfl⟩
abbrev main_v840 : Ref sig .tc := ⟨.hbm, 1085, rfl⟩
abbrev main_v841 : Ref sig .tc := ⟨.hbm, 1086, rfl⟩
abbrev main_cst_175 : Ref sig .tc := ⟨.hbm, 1087, rfl⟩
abbrev main_v842 : Ref sig .tc := ⟨.hbm, 1088, rfl⟩
abbrev main_v843 : Ref sig .tc := ⟨.hbm, 1089, rfl⟩
abbrev main_v844 : Ref sig .tc := ⟨.hbm, 1090, rfl⟩
abbrev main_v845 : Ref sig .tc := ⟨.hbm, 1091, rfl⟩
abbrev main_v846 : Ref sig .tc := ⟨.hbm, 1092, rfl⟩
abbrev main_cst_176 : Ref sig .tc := ⟨.hbm, 1093, rfl⟩
abbrev main_v847 : Ref sig .tc := ⟨.hbm, 1094, rfl⟩
abbrev main_v848 : Ref sig .tc := ⟨.hbm, 1095, rfl⟩
abbrev main_cst_177 : Ref sig .tc := ⟨.hbm, 1096, rfl⟩
abbrev main_v849 : Ref sig .tc := ⟨.hbm, 1097, rfl⟩
abbrev main_cst_178 : Ref sig .tc := ⟨.hbm, 1098, rfl⟩
abbrev main_v850 : Ref sig .tc := ⟨.hbm, 1099, rfl⟩
abbrev main_v851 : Ref sig .tc := ⟨.hbm, 1100, rfl⟩
abbrev main_v852 : Ref sig .tc := ⟨.hbm, 1101, rfl⟩
abbrev main_cst_179 : Ref sig .tc := ⟨.hbm, 1102, rfl⟩
abbrev main_v853 : Ref sig .tc := ⟨.hbm, 1103, rfl⟩
abbrev main_v854 : Ref sig .tc := ⟨.hbm, 1104, rfl⟩
abbrev main_v855 : Ref sig .tc := ⟨.hbm, 1105, rfl⟩
abbrev main_v856 : Ref sig .tc := ⟨.hbm, 1106, rfl⟩
abbrev main_v857 : Ref sig .tc := ⟨.hbm, 1107, rfl⟩
abbrev main_cst_180 : Ref sig .tc := ⟨.hbm, 1108, rfl⟩
abbrev main_v858 : Ref sig .tc := ⟨.hbm, 1109, rfl⟩
abbrev main_v859 : Ref sig .tc := ⟨.hbm, 1110, rfl⟩
abbrev main_cst_181 : Ref sig .tc := ⟨.hbm, 1111, rfl⟩
abbrev main_v860 : Ref sig .tc := ⟨.hbm, 1112, rfl⟩
abbrev main_cst_182 : Ref sig .tc := ⟨.hbm, 1113, rfl⟩
abbrev main_v861 : Ref sig .tc := ⟨.hbm, 1114, rfl⟩
abbrev main_v862 : Ref sig .tc := ⟨.hbm, 1115, rfl⟩
abbrev main_v863 : Ref sig .tc := ⟨.hbm, 1116, rfl⟩
abbrev main_cst_183 : Ref sig .tc := ⟨.hbm, 1117, rfl⟩
abbrev main_v864 : Ref sig .tc := ⟨.hbm, 1118, rfl⟩
abbrev main_v865 : Ref sig .tc := ⟨.hbm, 1119, rfl⟩
abbrev main_v866 : Ref sig .tc := ⟨.hbm, 1120, rfl⟩
abbrev main_v867 : Ref sig .tc := ⟨.hbm, 1121, rfl⟩
abbrev main_v868 : Ref sig .tc := ⟨.hbm, 1122, rfl⟩
abbrev main_cst_184 : Ref sig .tc := ⟨.hbm, 1123, rfl⟩
abbrev main_v869 : Ref sig .tc := ⟨.hbm, 1124, rfl⟩
abbrev main_v870 : Ref sig .tc := ⟨.hbm, 1125, rfl⟩
abbrev main_cst_185 : Ref sig .tc := ⟨.hbm, 1126, rfl⟩
abbrev main_v871 : Ref sig .tc := ⟨.hbm, 1127, rfl⟩
abbrev main_cst_186 : Ref sig .tc := ⟨.hbm, 1128, rfl⟩
abbrev main_v872 : Ref sig .tc := ⟨.hbm, 1129, rfl⟩
abbrev main_v873 : Ref sig .tc := ⟨.hbm, 1130, rfl⟩
abbrev main_v874 : Ref sig .tc := ⟨.hbm, 1131, rfl⟩
abbrev main_cst_187 : Ref sig .tc := ⟨.hbm, 1132, rfl⟩
abbrev main_v875 : Ref sig .tc := ⟨.hbm, 1133, rfl⟩
abbrev main_v876 : Ref sig .tc := ⟨.hbm, 1134, rfl⟩
abbrev main_v877 : Ref sig .tc := ⟨.hbm, 1135, rfl⟩
abbrev main_v878 : Ref sig .tc := ⟨.hbm, 1136, rfl⟩
abbrev main_v879 : Ref sig .tc := ⟨.hbm, 1137, rfl⟩
abbrev main_cst_188 : Ref sig .tc := ⟨.hbm, 1138, rfl⟩
abbrev main_v880 : Ref sig .tc := ⟨.hbm, 1139, rfl⟩
abbrev main_v881 : Ref sig .tc := ⟨.hbm, 1140, rfl⟩
abbrev main_cst_189 : Ref sig .tc := ⟨.hbm, 1141, rfl⟩
abbrev main_v882 : Ref sig .tc := ⟨.hbm, 1142, rfl⟩
abbrev main_cst_190 : Ref sig .tc := ⟨.hbm, 1143, rfl⟩
abbrev main_v883 : Ref sig .tc := ⟨.hbm, 1144, rfl⟩
abbrev main_v884 : Ref sig .tc := ⟨.hbm, 1145, rfl⟩
abbrev main_v885 : Ref sig .tc := ⟨.hbm, 1146, rfl⟩
abbrev main_cst_191 : Ref sig .tc := ⟨.hbm, 1147, rfl⟩
abbrev main_v886 : Ref sig .tc := ⟨.hbm, 1148, rfl⟩
abbrev main_v887 : Ref sig .tc := ⟨.hbm, 1149, rfl⟩
abbrev main_v888 : Ref sig .tc := ⟨.hbm, 1150, rfl⟩
abbrev main_v889 : Ref sig .tc := ⟨.hbm, 1151, rfl⟩
abbrev main_v890 : Ref sig .tc := ⟨.hbm, 1152, rfl⟩
abbrev main_cst_192 : Ref sig .tc := ⟨.hbm, 1153, rfl⟩
abbrev main_v891 : Ref sig .tc := ⟨.hbm, 1154, rfl⟩
abbrev main_v892 : Ref sig .tc := ⟨.hbm, 1155, rfl⟩
abbrev main_cst_193 : Ref sig .tc := ⟨.hbm, 1156, rfl⟩
abbrev main_v893 : Ref sig .tc := ⟨.hbm, 1157, rfl⟩
abbrev main_cst_194 : Ref sig .tc := ⟨.hbm, 1158, rfl⟩
abbrev main_v894 : Ref sig .tc := ⟨.hbm, 1159, rfl⟩
abbrev main_v895 : Ref sig .tc := ⟨.hbm, 1160, rfl⟩
abbrev main_v896 : Ref sig .tc := ⟨.hbm, 1161, rfl⟩
abbrev main_cst_195 : Ref sig .tc := ⟨.hbm, 1162, rfl⟩
abbrev main_v897 : Ref sig .tc := ⟨.hbm, 1163, rfl⟩
abbrev main_v898 : Ref sig .tc := ⟨.hbm, 1164, rfl⟩
abbrev main_v899 : Ref sig .tc := ⟨.hbm, 1165, rfl⟩
abbrev main_v900 : Ref sig .tc := ⟨.hbm, 1166, rfl⟩
abbrev main_v901 : Ref sig .tc := ⟨.hbm, 1167, rfl⟩
abbrev main_cst_196 : Ref sig .tc := ⟨.hbm, 1168, rfl⟩
abbrev main_v902 : Ref sig .tc := ⟨.hbm, 1169, rfl⟩
abbrev main_v903 : Ref sig .tc := ⟨.hbm, 1170, rfl⟩
abbrev main_cst_197 : Ref sig .tc := ⟨.hbm, 1171, rfl⟩
abbrev main_v904 : Ref sig .tc := ⟨.hbm, 1172, rfl⟩
abbrev main_cst_198 : Ref sig .tc := ⟨.hbm, 1173, rfl⟩
abbrev main_v905 : Ref sig .tc := ⟨.hbm, 1174, rfl⟩
abbrev main_v906 : Ref sig .tc := ⟨.hbm, 1175, rfl⟩
abbrev main_v907 : Ref sig .tc := ⟨.hbm, 1176, rfl⟩
abbrev main_cst_199 : Ref sig .tc := ⟨.hbm, 1177, rfl⟩
abbrev main_v908 : Ref sig .tc := ⟨.hbm, 1178, rfl⟩
abbrev main_v909 : Ref sig .tc := ⟨.hbm, 1179, rfl⟩
abbrev main_v910 : Ref sig .tc := ⟨.hbm, 1180, rfl⟩
abbrev main_v911 : Ref sig .tc := ⟨.hbm, 1181, rfl⟩
abbrev main_v912 : Ref sig .tc := ⟨.hbm, 1182, rfl⟩
abbrev main_v913 : Ref sig .tc := ⟨.hbm, 1183, rfl⟩
abbrev main_v914 : Ref sig .tc := ⟨.hbm, 1184, rfl⟩
abbrev main_v915 : Ref sig .tc := ⟨.hbm, 1185, rfl⟩
abbrev main_v916 : Ref sig .tc := ⟨.hbm, 1186, rfl⟩
abbrev main_v917 : Ref sig .tc := ⟨.hbm, 1187, rfl⟩
abbrev main_v918 : Ref sig .tc := ⟨.hbm, 1188, rfl⟩
abbrev main_v919 : Ref sig .tc := ⟨.hbm, 1189, rfl⟩
abbrev main_v920 : Ref sig .tc := ⟨.hbm, 1190, rfl⟩
abbrev main_cst_200 : Ref sig .tc := ⟨.hbm, 1191, rfl⟩
abbrev main_v921 : Ref sig .tc := ⟨.hbm, 1192, rfl⟩
abbrev main_v922 : Ref sig .tc := ⟨.hbm, 1193, rfl⟩
abbrev main_cst_201 : Ref sig .tc := ⟨.hbm, 1194, rfl⟩
abbrev main_v923 : Ref sig .tc := ⟨.hbm, 1195, rfl⟩
abbrev main_cst_202 : Ref sig .tc := ⟨.hbm, 1196, rfl⟩
abbrev main_v924 : Ref sig .tc := ⟨.hbm, 1197, rfl⟩
abbrev main_v925 : Ref sig .tc := ⟨.hbm, 1198, rfl⟩
abbrev main_cst_203 : Ref sig .tc := ⟨.hbm, 1199, rfl⟩
abbrev main_v926 : Ref sig .tc := ⟨.hbm, 1200, rfl⟩
abbrev main_v927 : Ref sig .tc := ⟨.hbm, 1201, rfl⟩
abbrev main_v928 : Ref sig .tc := ⟨.hbm, 1202, rfl⟩
abbrev main_v929 : Ref sig .tc := ⟨.hbm, 1203, rfl⟩
abbrev main_cst_204 : Ref sig .tc := ⟨.hbm, 1204, rfl⟩
abbrev main_v930 : Ref sig .tc := ⟨.hbm, 1205, rfl⟩
abbrev main_v931 : Ref sig .tc := ⟨.hbm, 1206, rfl⟩
abbrev main_cst_205 : Ref sig .tc := ⟨.hbm, 1207, rfl⟩
abbrev main_v932 : Ref sig .tc := ⟨.hbm, 1208, rfl⟩
abbrev main_cst_206 : Ref sig .tc := ⟨.hbm, 1209, rfl⟩
abbrev main_v933 : Ref sig .tc := ⟨.hbm, 1210, rfl⟩
abbrev main_v934 : Ref sig .tc := ⟨.hbm, 1211, rfl⟩
abbrev main_v935 : Ref sig .tc := ⟨.hbm, 1212, rfl⟩
abbrev main_cst_207 : Ref sig .tc := ⟨.hbm, 1213, rfl⟩
abbrev main_v936 : Ref sig .tc := ⟨.hbm, 1214, rfl⟩
abbrev main_v937 : Ref sig .tc := ⟨.hbm, 1215, rfl⟩
abbrev main_v938 : Ref sig .tc := ⟨.hbm, 1216, rfl⟩
abbrev main_v939 : Ref sig .tc := ⟨.hbm, 1217, rfl⟩
abbrev main_v940 : Ref sig .tc := ⟨.hbm, 1218, rfl⟩
abbrev main_cst_208 : Ref sig .tc := ⟨.hbm, 1219, rfl⟩
abbrev main_v941 : Ref sig .tc := ⟨.hbm, 1220, rfl⟩
abbrev main_v942 : Ref sig .tc := ⟨.hbm, 1221, rfl⟩
abbrev main_cst_209 : Ref sig .tc := ⟨.hbm, 1222, rfl⟩
abbrev main_v943 : Ref sig .tc := ⟨.hbm, 1223, rfl⟩
abbrev main_cst_210 : Ref sig .tc := ⟨.hbm, 1224, rfl⟩
abbrev main_v944 : Ref sig .tc := ⟨.hbm, 1225, rfl⟩
abbrev main_v945 : Ref sig .tc := ⟨.hbm, 1226, rfl⟩
abbrev main_v946 : Ref sig .tc := ⟨.hbm, 1227, rfl⟩
abbrev main_cst_211 : Ref sig .tc := ⟨.hbm, 1228, rfl⟩
abbrev main_v947 : Ref sig .tc := ⟨.hbm, 1229, rfl⟩
abbrev main_v948 : Ref sig .tc := ⟨.hbm, 1230, rfl⟩
abbrev main_v949 : Ref sig .tc := ⟨.hbm, 1231, rfl⟩
abbrev main_v950 : Ref sig .tc := ⟨.hbm, 1232, rfl⟩
abbrev main_v951 : Ref sig .tc := ⟨.hbm, 1233, rfl⟩
abbrev main_v952 : Ref sig .tc := ⟨.hbm, 1234, rfl⟩
abbrev main_v953 : Ref sig .tc := ⟨.hbm, 1235, rfl⟩
abbrev main_v954 : Ref sig .tc := ⟨.hbm, 1236, rfl⟩
abbrev main_cst_212 : Ref sig .tc := ⟨.hbm, 1237, rfl⟩
abbrev main_v955 : Ref sig .tc := ⟨.hbm, 1238, rfl⟩
abbrev main_v956 : Ref sig .tc := ⟨.hbm, 1239, rfl⟩
abbrev main_v957 : Ref sig .tc := ⟨.hbm, 1240, rfl⟩
abbrev main_v958 : Ref sig .tc := ⟨.hbm, 1241, rfl⟩
abbrev main_cst_213 : Ref sig .tc := ⟨.hbm, 1242, rfl⟩
abbrev main_v959 : Ref sig .tc := ⟨.hbm, 1243, rfl⟩
abbrev main_v960 : Ref sig .tc := ⟨.hbm, 1244, rfl⟩
abbrev main_v961 : Ref sig .tc := ⟨.hbm, 1245, rfl⟩
abbrev main_v962 : Ref sig .tc := ⟨.hbm, 1246, rfl⟩
abbrev main_v963 : Ref sig .tc := ⟨.hbm, 1247, rfl⟩
abbrev main_v964 : Ref sig .tc := ⟨.hbm, 1248, rfl⟩
abbrev main_v965 : Ref sig .tc := ⟨.hbm, 1249, rfl⟩
abbrev main_v966 : Ref sig .tc := ⟨.hbm, 1250, rfl⟩
abbrev main_v967 : Ref sig .tc := ⟨.hbm, 1251, rfl⟩
abbrev main_v968 : Ref sig .tc := ⟨.hbm, 1252, rfl⟩
abbrev main_v969 : Ref sig .tc := ⟨.hbm, 1253, rfl⟩
abbrev main_v970 : Ref sig .tc := ⟨.hbm, 1254, rfl⟩
abbrev main_v971 : Ref sig .tc := ⟨.hbm, 1255, rfl⟩
abbrev main_v972 : Ref sig .tc := ⟨.hbm, 1256, rfl⟩
abbrev main_v973 : Ref sig .tc := ⟨.hbm, 1257, rfl⟩
abbrev main_v974 : Ref sig .tc := ⟨.hbm, 1258, rfl⟩
abbrev main_v975 : Ref sig .tc := ⟨.hbm, 1259, rfl⟩
abbrev main_cst_214 : Ref sig .tc := ⟨.hbm, 1260, rfl⟩
abbrev main_v976 : Ref sig .tc := ⟨.hbm, 1261, rfl⟩
abbrev main_v977 : Ref sig .tc := ⟨.hbm, 1262, rfl⟩
abbrev main_v978 : Ref sig .tc := ⟨.hbm, 1263, rfl⟩
abbrev main_v979 : Ref sig .tc := ⟨.hbm, 1264, rfl⟩
abbrev main_cst_215 : Ref sig .tc := ⟨.hbm, 1265, rfl⟩
abbrev main_v980 : Ref sig .tc := ⟨.hbm, 1266, rfl⟩
abbrev main_v981 : Ref sig .tc := ⟨.hbm, 1267, rfl⟩
abbrev main_v982 : Ref sig .tc := ⟨.hbm, 1268, rfl⟩
abbrev main_v983 : Ref sig .tc := ⟨.hbm, 1269, rfl⟩
abbrev main_v984 : Ref sig .tc := ⟨.hbm, 1270, rfl⟩
abbrev main_cst_216 : Ref sig .tc := ⟨.hbm, 1271, rfl⟩
abbrev main_v985 : Ref sig .tc := ⟨.hbm, 1272, rfl⟩
abbrev main_v986 : Ref sig .tc := ⟨.hbm, 1273, rfl⟩
abbrev main_v987 : Ref sig .tc := ⟨.hbm, 1274, rfl⟩
abbrev main_cst_217 : Ref sig .tc := ⟨.hbm, 1275, rfl⟩
abbrev main_v988 : Ref sig .tc := ⟨.hbm, 1276, rfl⟩
abbrev main_v989 : Ref sig .tc := ⟨.hbm, 1277, rfl⟩
abbrev main_v990 : Ref sig .tc := ⟨.hbm, 1278, rfl⟩
abbrev main_v991 : Ref sig .tc := ⟨.hbm, 1279, rfl⟩
abbrev main_v992 : Ref sig .tc := ⟨.hbm, 1280, rfl⟩
abbrev main_cst_218 : Ref sig .tc := ⟨.hbm, 1281, rfl⟩
abbrev main_v993 : Ref sig .tc := ⟨.hbm, 1282, rfl⟩
abbrev main_v994 : Ref sig .tc := ⟨.hbm, 1283, rfl⟩
abbrev main_v995 : Ref sig .tc := ⟨.hbm, 1284, rfl⟩
abbrev main_v996 : Ref sig .tc := ⟨.hbm, 1285, rfl⟩
abbrev main_v997 : Ref sig .tc := ⟨.hbm, 1286, rfl⟩
abbrev main_cst_219 : Ref sig .tc := ⟨.hbm, 1287, rfl⟩
abbrev main_v998 : Ref sig .tc := ⟨.hbm, 1288, rfl⟩
abbrev main_v999 : Ref sig .tc := ⟨.hbm, 1289, rfl⟩
abbrev main_v1000 : Ref sig .tc := ⟨.hbm, 1290, rfl⟩
abbrev main_v1001 : Ref sig .tc := ⟨.hbm, 1291, rfl⟩
abbrev main_cst_220 : Ref sig .tc := ⟨.hbm, 1292, rfl⟩
abbrev main_v1002 : Ref sig .tc := ⟨.hbm, 1293, rfl⟩
abbrev main_v1003 : Ref sig .tc := ⟨.hbm, 1294, rfl⟩
abbrev main_v1004 : Ref sig .tc := ⟨.hbm, 1295, rfl⟩
abbrev main_v1005 : Ref sig .tc := ⟨.hbm, 1296, rfl⟩
abbrev main_v1006 : Ref sig .tc := ⟨.hbm, 1297, rfl⟩
abbrev main_cst_221 : Ref sig .tc := ⟨.hbm, 1298, rfl⟩
abbrev main_v1007 : Ref sig .tc := ⟨.hbm, 1299, rfl⟩
abbrev main_v1008 : Ref sig .tc := ⟨.hbm, 1300, rfl⟩
abbrev main_v1009 : Ref sig .tc := ⟨.hbm, 1301, rfl⟩
abbrev main_v1010 : Ref sig .tc := ⟨.hbm, 1302, rfl⟩
abbrev main_v1011 : Ref sig .tc := ⟨.hbm, 1303, rfl⟩
abbrev main_cst_222 : Ref sig .tc := ⟨.hbm, 1304, rfl⟩
abbrev main_v1012 : Ref sig .tc := ⟨.hbm, 1305, rfl⟩
abbrev main_v1013 : Ref sig .tc := ⟨.hbm, 1306, rfl⟩
abbrev main_v1014 : Ref sig .tc := ⟨.hbm, 1307, rfl⟩
abbrev main_v1015 : Ref sig .tc := ⟨.hbm, 1308, rfl⟩
abbrev main_cst_223 : Ref sig .tc := ⟨.hbm, 1309, rfl⟩
abbrev main_v1016 : Ref sig .tc := ⟨.hbm, 1310, rfl⟩
abbrev main_v1017 : Ref sig .tc := ⟨.hbm, 1311, rfl⟩
abbrev main_v1018 : Ref sig .tc := ⟨.hbm, 1312, rfl⟩
abbrev main_v1019 : Ref sig .tc := ⟨.hbm, 1313, rfl⟩
abbrev main_v1020 : Ref sig .tc := ⟨.hbm, 1314, rfl⟩
abbrev main_cst_224 : Ref sig .tc := ⟨.hbm, 1315, rfl⟩
abbrev main_v1021 : Ref sig .tc := ⟨.hbm, 1316, rfl⟩
abbrev main_v1022 : Ref sig .tc := ⟨.hbm, 1317, rfl⟩
abbrev main_v1023 : Ref sig .tc := ⟨.hbm, 1318, rfl⟩
abbrev main_v1024 : Ref sig .tc := ⟨.hbm, 1319, rfl⟩
abbrev main_v1025 : Ref sig .tc := ⟨.hbm, 1320, rfl⟩
abbrev main_cst_225 : Ref sig .tc := ⟨.hbm, 1321, rfl⟩
abbrev main_v1026 : Ref sig .tc := ⟨.hbm, 1322, rfl⟩
abbrev main_v1027 : Ref sig .tc := ⟨.hbm, 1323, rfl⟩
abbrev main_call7_call0_cst : Ref sig .tc := ⟨.hbm, 1324, rfl⟩
abbrev main_call7_call0_v0 : Ref sig .tc := ⟨.hbm, 1325, rfl⟩
abbrev main_v1028 : Ref sig .tc := ⟨.hbm, 1326, rfl⟩
abbrev main_v1029 : Ref sig .tc := ⟨.hbm, 1327, rfl⟩
abbrev main_v1030 : Ref sig .tc := ⟨.hbm, 1328, rfl⟩
abbrev main_cst_226 : Ref sig .tc := ⟨.hbm, 1329, rfl⟩
abbrev main_v1031 : Ref sig .tc := ⟨.hbm, 1330, rfl⟩
abbrev main_v1032 : Ref sig .tc := ⟨.hbm, 1331, rfl⟩
abbrev main_v1033 : Ref sig .tc := ⟨.hbm, 1332, rfl⟩
abbrev main_v1034 : Ref sig .tc := ⟨.hbm, 1333, rfl⟩
abbrev main_v1035 : Ref sig .tc := ⟨.hbm, 1334, rfl⟩
abbrev main_v1036 : Ref sig .tc := ⟨.hbm, 1335, rfl⟩
abbrev main_v1037 : Ref sig .tc := ⟨.hbm, 1336, rfl⟩
abbrev main_v1038 : Ref sig .tc := ⟨.hbm, 1337, rfl⟩
abbrev main_v1039 : Ref sig .tc := ⟨.hbm, 1338, rfl⟩
abbrev main_cst_227 : Ref sig .tc := ⟨.hbm, 1339, rfl⟩
abbrev main_v1040 : Ref sig .tc := ⟨.hbm, 1340, rfl⟩
abbrev main_v1041 : Ref sig .tc := ⟨.hbm, 1341, rfl⟩
abbrev main_cst_228 : Ref sig .tc := ⟨.hbm, 1342, rfl⟩
abbrev main_v1042 : Ref sig .tc := ⟨.hbm, 1343, rfl⟩
abbrev main_v1043 : Ref sig .tc := ⟨.hbm, 1344, rfl⟩
abbrev main_v1044 : Ref sig .tc := ⟨.hbm, 1345, rfl⟩
abbrev main_v1045 : Ref sig .tc := ⟨.hbm, 1346, rfl⟩
abbrev main_v1046 : Ref sig .tc := ⟨.hbm, 1347, rfl⟩
abbrev main_v1047 : Ref sig .tc := ⟨.hbm, 1348, rfl⟩

abbrev nD : Nat := 1
abbrev τ : Topo := Topo.v7x

variable {F : FTy → Type} [FloatOps F]
-- ==== ProjBwd.lean ====
abbrev S1x4096x1024 : Shape := ⟨3, ![1, 4096, 1024]⟩
abbrev S1024 : Shape := ⟨1, ![1024]⟩
abbrev S1024x8192 : Shape := ⟨2, ![1024, 8192]⟩
abbrev S1x4096x8192 : Shape := ⟨3, ![1, 4096, 8192]⟩
abbrev S4096x8192 : Shape := ⟨2, ![4096, 8192]⟩
abbrev S4096x1024 : Shape := ⟨2, ![4096, 1024]⟩
abbrev S1x1024 : Shape := ⟨2, ![1, 1024]⟩
abbrev S256x8192 : Shape := ⟨2, ![256, 8192]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S1x4096x8192, .f32⟩
  | .hbm, ⟨4, _⟩ => ⟨S1x4096x1024, .f32⟩
  | .hbm, ⟨5, _⟩ => ⟨S4096x8192, .f32⟩
  | .hbm, ⟨6, _⟩ => ⟨S4096x8192, .bf16⟩
  | .hbm, ⟨7, _⟩ => ⟨S1024x8192, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1024, .f32⟩
  | .local _ .vmem, ⟨0, _⟩ => ⟨S256x8192, .bf16⟩
  | .local _ .vmem, ⟨1, _⟩ => ⟨S256x8192, .bf16⟩
  | .local _ .vmem, ⟨2, _⟩ => ⟨S1024x8192, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_17 : BitVec 32 := 0#32
  let v40 : BitVec 1 := Scalar.cmpi .ne v39 c0_i32_17
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjRefIdeal.lean ====
abbrev S1x4096x1024 : Shape := ⟨3, ![1, 4096, 1024]⟩
abbrev S1024 : Shape := ⟨1, ![1024]⟩
abbrev S1024x8192 : Shape := ⟨2, ![1024, 8192]⟩
abbrev S1x4096x8192 : Shape := ⟨3, ![1, 4096, 8192]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S1x4096x8192, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x8192, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== FfnBwd.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 54
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x4096x1024, .f32⟩
  | .hbm, ⟨5, _⟩ => ⟨S4096x1024, .f32⟩
  | .hbm, ⟨6, _⟩ => ⟨S1024x5632, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x5632, .f32⟩
  | .hbm, ⟨46, _⟩ => ⟨S4096x5632, .bf16⟩
  | .hbm, ⟨47, _⟩ => ⟨S4096x1024, .f32⟩
  | .hbm, ⟨48, _⟩ => ⟨S1x1024, .f32⟩
  | .hbm, ⟨49, _⟩ => ⟨S2816x1024, .bf16⟩
  | .hbm, ⟨50, _⟩ => ⟨S4096x1024, .f32⟩
  | .hbm, ⟨51, _⟩ => ⟨S4096x5632, .bf16⟩
  | .hbm, ⟨52, _⟩ => ⟨S4096x1024, .bf16⟩
  | .hbm, ⟨53, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S1024x5632, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_30 : BitVec 32 := 0#32
  let v59 : BitVec 1 := Scalar.cmpi .ne v58 c0_i32_30
  v59

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v60 : BitVec 1 := Scalar.xori v57 v_true
  let v61 : BitVec 32 := Scalar.extui v60
  let c0_i32_31 : BitVec 32 := 0#32
  let v62 : BitVec 1 := Scalar.cmpi .ne v61 c0_i32_31
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S1x4096x2816 : Shape := ⟨3, ![1, 4096, 2816]⟩
abbrev S1x1024 : Shape := ⟨2, ![1, 1024]⟩
abbrev S4096 : Shape := ⟨1, ![4096]⟩
abbrev S4096x1024 : Shape := ⟨2, ![4096, 1024]⟩
abbrev S4096x5632 : Shape := ⟨2, ![4096, 5632]⟩

abbrev nBuf : Space → Nat
  | .hbm => 93
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x5632, .f32⟩
  | .hbm, ⟨26, _⟩ => ⟨S1x4096x2816, .f32⟩
  | .hbm, ⟨27, _⟩ => ⟨S1x4096x2816, .f32⟩
  | .hbm, ⟨28, _⟩ => ⟨S1x4096x2816, .f32⟩
  | .hbm, ⟨29, _⟩ => ⟨S1x4096x2816, .f32⟩
  | .hbm, ⟨30, _⟩ => ⟨S_, .f32⟩
  | .hbm, ⟨31, _⟩ => ⟨S1x4096x2816, .f32⟩
  | .hbm, ⟨32, _⟩ => ⟨S1x4096x2816, .f32⟩
  | .hbm, ⟨33, _⟩ => ⟨S_, .f32⟩
  | .hbm, ⟨34, _⟩ => ⟨S1x4096x2816, .f32⟩
  | .hbm, ⟨35, _⟩ => ⟨S1x4096x2816, .f32⟩
  | .hbm, ⟨36, _⟩ => ⟨S_, .f32⟩
  | .hbm, ⟨37, _⟩ => ⟨S1x4096x2816, .f32⟩
  | .hbm, ⟨38, _⟩ => ⟨S1x4096x2816, .f32⟩
  | .hbm, ⟨39, _⟩ => ⟨S1x4096x2816, .f32⟩
  | .hbm, ⟨40, _⟩ => ⟨S1x4096x2816, .f32⟩
  | .hbm, ⟨41, _⟩ => ⟨S1x4096x2816, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x4096x1024, .f32⟩
  | .hbm, ⟨50, _⟩ => ⟨S1x4096x1024, .f32⟩
  | .hbm, ⟨51, _⟩ => ⟨S1x4096x2816, .f32⟩
  | .hbm, ⟨52, _⟩ => ⟨S1x4096x2816, .f32⟩
  | .hbm, ⟨53, _⟩ => ⟨S1x4096x2816, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S1x4096x5632, .f32⟩
  | .hbm, ⟨59, _⟩ => ⟨S1x4096x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1, .f32⟩
  | .hbm, ⟨76, _⟩ => ⟨S_, .f32⟩
  | .hbm, ⟨77, _⟩ => ⟨S1x4096x1, .f32⟩
  | .hbm, ⟨78, _⟩ => ⟨S1x4096x1, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S4096x1024, .f32⟩
  | .hbm, ⟨88, _⟩ => ⟨S4096x5632, .f32⟩
  | .hbm, ⟨89, _⟩ => ⟨S4096x5632, .bf16⟩
  | .hbm, ⟨90, _⟩ => ⟨S4096x1024, .f32⟩
  | .hbm, ⟨91, _⟩ => ⟨S4096x1024, .bf16⟩
  | .hbm, ⟨92, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== FfnFwd.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S4096x1024, .f32⟩
  | .hbm, ⟨9, _⟩ => ⟨S4096x1024, .bf16⟩
  | .hbm, ⟨10, _⟩ => ⟨S4096x2816, .bf16⟩
  | .hbm, ⟨11, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x5632, .bf16⟩
  | .local _ .vmem, ⟨12, _⟩ => ⟨S256x5632, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S1x4096x1024 : Shape := ⟨3, ![1, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S1x4096x2816 : Shape := ⟨3, ![1, 4096, 2816]⟩
abbrev S4096x1024 : Shape := ⟨2, ![4096, 1024]⟩
abbrev S4096x2816 : Shape := ⟨2, ![4096, 2816]⟩
abbrev S4096x5632 : Shape := ⟨2, ![4096, 5632]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x5632, .f32⟩
  | .hbm, ⟨21, _⟩ => ⟨S1x4096x2816, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S_, .f32⟩
  | .hbm, ⟨26, _⟩ => ⟨S1x4096x2816, .f32⟩
  | .hbm, ⟨27, _⟩ => ⟨S1x4096x2816, .f32⟩
  | .hbm, ⟨28, _⟩ => ⟨S_, .f32⟩
  | .hbm, ⟨29, _⟩ => ⟨S1x4096x2816, .f32⟩
  | .hbm, ⟨30, _⟩ => ⟨S1x4096x2816, .f32⟩
  | .hbm, ⟨31, _⟩ => ⟨S_, .f32⟩
  | .hbm, ⟨32, _⟩ => ⟨S1x4096x2816, .f32⟩
  | .hbm, ⟨33, _⟩ => ⟨S1x4096x2816, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S_, .f32⟩
  | .hbm, ⟨38, _⟩ => ⟨S1x4096x2816, .f32⟩
  | .hbm, ⟨39, _⟩ => ⟨S1x4096x2816, .f32⟩
  | .hbm, ⟨40, _⟩ => ⟨S1x4096x2816, .f32⟩
  | .hbm, ⟨41, _⟩ => ⟨S1x4096x2816, .f32⟩
  | .hbm, ⟨42, _⟩ => ⟨S1x4096x2816, .f32⟩
  | .hbm, ⟨43, _⟩ => ⟨S1x4096x2816, .f32⟩
  | .hbm, ⟨44, _⟩ => ⟨S1x4096x2816, .f32⟩
  | .hbm, ⟨45, _⟩ => ⟨S1x4096x5632, .f32⟩
  | .hbm, ⟨46, _⟩ => ⟨S1x4096x1024, .f32⟩
  | .hbm, ⟨47, _⟩ => ⟨S_, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x2816, .f32⟩
  | .hbm, ⟨55, _⟩ => ⟨S4096x2816, .bf16⟩
  | .hbm, ⟨56, _⟩ => ⟨S4096x5632, .f32⟩
  | .hbm, ⟨57, _⟩ => ⟨S4096x5632, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== ProjFwd.lean ====
abbrev S1x4096x1024 : Shape := ⟨3, ![1, 4096, 1024]⟩
abbrev S1024 : Shape := ⟨1, ![1024]⟩
abbrev S1024x8192 : Shape := ⟨2, ![1024, 8192]⟩
abbrev S4096x1024 : Shape := ⟨2, ![4096, 1024]⟩
abbrev S1x1024 : Shape := ⟨2, ![1, 1024]⟩
abbrev S4096x8192 : Shape := ⟨2, ![4096, 8192]⟩
abbrev S256x1024 : Shape := ⟨2, ![256, 1024]⟩
abbrev S256x8192 : Shape := ⟨2, ![256, 8192]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S4096x1024, .f32⟩
  | .hbm, ⟨4, _⟩ => ⟨S1x1024, .f32⟩
  | .hbm, ⟨5, _⟩ => ⟨S1024x8192, .bf16⟩
  | .hbm, ⟨6, _⟩ => ⟨S4096x1024, .bf16⟩
  | .hbm, ⟨7, _⟩ => ⟨S4096x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8192, .bf16⟩
  | .local _ .vmem, ⟨4, _⟩ => ⟨S256x1024, .bf16⟩
  | .local _ .vmem, ⟨5, _⟩ => ⟨S256x1024, .bf16⟩
  | .local _ .vmem, ⟨6, _⟩ => ⟨S256x8192, .bf16⟩
  | .local _ .vmem, ⟨7, _⟩ => ⟨S256x8192, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjFwdRefIdeal.lean ====
abbrev S1x4096x1024 : Shape := ⟨3, ![1, 4096, 1024]⟩
abbrev S1024 : Shape := ⟨1, ![1024]⟩
abbrev S1024x8192 : Shape := ⟨2, ![1024, 8192]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1x4096x8192 : Shape := ⟨3, ![1, 4096, 8192]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x8192, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S4096x1024, .f32⟩
  | .hbm, ⟨20, _⟩ => ⟨S4096x1024, .bf16⟩
  | .hbm, ⟨21, _⟩ => ⟨S1x4096x8192, .f32⟩
  | .hbm, ⟨22, _⟩ => ⟨S4096x8192, .f32⟩
  | .hbm, ⟨23, _⟩ => ⟨S4096x8192, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MergeFwd.lean ====
abbrev S1x4096x1024 : Shape := ⟨3, ![1, 4096, 1024]⟩
abbrev S1x4096x4x512 : Shape := ⟨4, ![1, 4096, 4, 512]⟩
abbrev S1x4096x8192 : Shape := ⟨3, ![1, 4096, 8192]⟩
abbrev S4x512x1024 : Shape := ⟨3, ![4, 512, 1024]⟩
abbrev S1024x1024 : Shape := ⟨2, ![1024, 1024]⟩
abbrev S4096x1024 : Shape := ⟨2, ![4096, 1024]⟩
abbrev S4096x2048 : Shape := ⟨2, ![4096, 2048]⟩
abbrev S4096x8192 : Shape := ⟨2, ![4096, 8192]⟩
abbrev S4096x4096 : Shape := ⟨2, ![4096, 4096]⟩
abbrev S512x1024 : Shape := ⟨2, ![512, 1024]⟩
abbrev S512x2048 : Shape := ⟨2, ![512, 2048]⟩
abbrev S512x4096 : Shape := ⟨2, ![512, 4096]⟩
abbrev S3x512x4096 : Shape := ⟨3, ![3, 512, 4096]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512x512 : Shape := ⟨2, ![512, 512]⟩
abbrev S1x512x1024 : Shape := ⟨3, ![1, 512, 1024]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4x512, .f32⟩
  | .hbm, ⟨2, _⟩ => ⟨S1x4096x8192, .f32⟩
  | .hbm, ⟨3, _⟩ => ⟨S4x512x1024, .f32⟩
  | .hbm, ⟨4, _⟩ => ⟨S1024x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | .hbm, ⟨8, _⟩ => ⟨S4096x8192, .f32⟩
  | .hbm, ⟨9, _⟩ => ⟨S4096x8192, .bf16⟩
  | .hbm, ⟨10, _⟩ => ⟨S4x512x1024, .bf16⟩
  | .hbm, ⟨11, _⟩ => ⟨S1024x1024, .bf16⟩
  | .hbm, ⟨12, _⟩ => ⟨S4096x1024, .f32⟩
  | .hbm, ⟨13, _⟩ => ⟨S4096x1024, .bf16⟩
  | .hbm, ⟨14, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S3x512x4096, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_60 : BitVec 32 := 0#32
  c0_i32_60
def k0_mult2 : BitVec 32 :=
  let c512_i32_66 : BitVec 32 := 512#32
  c512_i32_66
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_60 : BitVec 32 := 2#32
  let v110 : BitVec 32 := Scalar.addi arg0 c2_i32_60
  let c512_i32_61 : BitVec 32 := 512#32
  let v111 : BitVec 32 := Scalar.muli v110 c512_i32_61
  v111
def k0_off1 (i : grid0.Coords) : Fin 1 → Nat :=
  let arg0 : BitVec 32 := BitVec.ofNat 32 (i 0).val
  let c2_i32_60 : BitVec 32 := 2#32
  let v110 : BitVec 32 := Scalar.addi arg0 c2_i32_60
  let c3_i32_68 : BitVec 32 := 3#32
  let c0_i32_69 : BitVec 32 := 0#32
  let v123 : BitVec 1 := Scalar.cmpi .eq c3_i32_68 c0_i32_69
  let c1_i32_70 : BitVec 32 := 1#32
  let v124 : BitVec 32 := Scalar.select v123 c1_i32_70 c3_i32_68
  let v125 : BitVec 32 := Scalar.remsi v110 v124
  let c0_i32_72 : BitVec 32 := 0#32
  let v127 : BitVec 1 := Scalar.cmpi .slt v125 c0_i32_72
  let c0_i32_73 : BitVec 32 := 0#32
  let v128 : BitVec 1 := Scalar.cmpi .slt v124 c0_i32_73
  let v129 : BitVec 1 := Scalar.xori v127 v128
  let c0_i32_71 : BitVec 32 := 0#32
  let v126 : BitVec 1 := Scalar.cmpi .ne v125 c0_i32_71
  let v130 : BitVec 1 := Scalar.andi v129 v126
  let v131 : BitVec 32 := Scalar.addi v125 v124
  let v132 : BitVec 32 := Scalar.select v130 v131 v125
  ![v132.toNat]
def k0_off2 (i : grid0.Coords) : Fin 3 → Nat :=
  let arg0 : BitVec 32 := BitVec.ofNat 32 (i 0).val
  let c2_i32_60 : BitVec 32 := 2#32
  let v110 : BitVec 32 := Scalar.addi arg0 c2_i32_60
  let c3_i32_62 : BitVec 32 := 3#32
  let c0_i32_63 : BitVec 32 := 0#32
  let v113 : BitVec 1 := Scalar.cmpi .eq c3_i32_62 c0_i32_63
  let c1_i32_64 : BitVec 32 := 1#32
  let v114 : BitVec 32 := Scalar.select v113 c1_i32_64 c3_i32_62
  let v115 : BitVec 32 := Scalar.remsi v110 v114
  let c0_i32_66 : BitVec 32 := 0#32
  let v117 : BitVec 1 := Scalar.cmpi .slt v115 c0_i32_66
  let c0_i32_67 : BitVec 32 := 0#32
  let v118 : BitVec 1 := Scalar.cmpi .slt v114 c0_i32_67
  let v119 : BitVec 1 := Scalar.xori v117 v118
  let c0_i32_65 : BitVec 32 := 0#32
  let v116 : BitVec 1 := Scalar.cmpi .ne v115 c0_i32_65
  let v120 : BitVec 1 := Scalar.andi v119 v116
  let v121 : BitVec 32 := Scalar.addi v115 v114
  let v122 : BitVec 32 := Scalar.select v120 v121 v115
  let c0_i32_74 : BitVec 32 := 0#32
  let c0_i32_75 : BitVec 32 := 0#32
  ![v122.toNat, 0, 0]
def k0_off3 (i : grid0.Coords) : Fin 2 → Nat :=
  let arg0 : BitVec 32 := BitVec.ofNat 32 (i 0).val
  let c2_i32_60 : BitVec 32 := 2#32
  let v110 : BitVec 32 := Scalar.addi arg0 c2_i32_60
  let c512_i32_61 : BitVec 32 := 512#32
  let v111 : BitVec 32 := Scalar.muli v110 c512_i32_61
  let v112 : BitVec 32 := v111
  let c4096_i32_76 : BitVec 32 := 4096#32
  ![v112.toNat, 4096]
def k0_mult4 (i : grid0.Coords) : BitVec 32 :=
  let arg0 : BitVec 32 := BitVec.ofNat 32 (i 0).val
  let c512_i32 : BitVec 32 := 512#32
  let v7 : BitVec 32 := Scalar.muli arg0 c512_i32
  v7
def k0_off4 (i : grid0.Coords) : Fin 1 → Nat :=
  let arg0 : BitVec 32 := BitVec.ofNat 32 (i 0).val
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi arg0 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  ![v28.toNat]
def k0_off5 (i : grid0.Coords) : Fin 3 → Nat :=
  let arg0 : BitVec 32 := BitVec.ofNat 32 (i 0).val
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi arg0 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c512_i32 : BitVec 32 := 512#32
  let v7 : BitVec 32 := Scalar.muli arg0 c512_i32
  let v8 : BitVec 32 := v7
  let c4096_i32 : BitVec 32 := 4096#32
  ![v8.toNat, 4096]
def k0_off7 (i : grid0.Coords) : Fin 3 → Nat :=
  let arg0 : BitVec 32 := BitVec.ofNat 32 (i 0).val
  let c3_i32_14 : BitVec 32 := 3#32
  let c0_i32_15 : BitVec 32 := 0#32
  let v34 : BitVec 1 := Scalar.cmpi .eq c3_i32_14 c0_i32_15
  let c1_i32_16 : BitVec 32 := 1#32
  let v35 : BitVec 32 := Scalar.select v34 c1_i32_16 c3_i32_14
  let v36 : BitVec 32 := Scalar.remsi arg0 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let v52 : Index := Scalar.indexCast v43
  let c0_27 : Index := 0#32
  let c0_28 : Index := 0#32
  ![v52.toNat, 0, 0]
def k0_off8 (i : grid0.Coords) : Fin 3 → Nat :=
  let arg0 : BitVec 32 := BitVec.ofNat 32 (i 0).val
  let c3_i32_14 : BitVec 32 := 3#32
  let c0_i32_15 : BitVec 32 := 0#32
  let v34 : BitVec 1 := Scalar.cmpi .eq c3_i32_14 c0_i32_15
  let c1_i32_16 : BitVec 32 := 1#32
  let v35 : BitVec 32 := Scalar.select v34 c1_i32_16 c3_i32_14
  let v36 : BitVec 32 := Scalar.remsi arg0 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let v66 : Index := Scalar.indexCast v43
  let c0_34 : Index := 0#32
  let c1024_35 : Index := 1024#32
  ![v66.toNat, 0, 1024]
def k0_off9 (i : grid0.Coords) : Fin 3 → Nat :=
  let arg0 : BitVec 32 := BitVec.ofNat 32 (i 0).val
  let c3_i32_14 : BitVec 32 := 3#32
  let c0_i32_15 : BitVec 32 := 0#32
  let v34 : BitVec 1 := Scalar.cmpi .eq c3_i32_14 c0_i32_15
  let c1_i32_16 : BitVec 32 := 1#32
  let v35 : BitVec 32 := Scalar.select v34 c1_i32_16 c3_i32_14
  let v36 : BitVec 32 := Scalar.remsi arg0 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let v80 : Index := Scalar.indexCast v43
  let c0_42 : Index := 0#32
  let c2048_43 : Index := 2048#32
  ![v80.toNat, 0, 2048]
def k0_off10 (i : grid0.Coords) : Fin 3 → Nat :=
  let arg0 : BitVec 32 := BitVec.ofNat 32 (i 0).val
  let c3_i32_14 : BitVec 32 := 3#32
  let c0_i32_15 : BitVec 32 := 0#32
  let v34 : BitVec 1 := Scalar.cmpi .eq c3_i32_14 c0_i32_15
  let c1_i32_16 : BitVec 32 := 1#32
  let v35 : BitVec 32 := Scalar.select v34 c1_i32_16 c3_i32_14
  let v36 : BitVec 32 := Scalar.remsi arg0 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let v94 : Index := Scalar.indexCast v43
  let c0_49 : Index := 0#32
  let c3072_50 : Index := 3072#32
  ![v94.toNat, 0, 3072]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S1x4096x1024 : Shape := ⟨3, ![1, 4096, 1024]⟩
abbrev S1x4096x4x512 : Shape := ⟨4, ![1, 4096, 4, 512]⟩
abbrev S1x4096x8192 : Shape := ⟨3, ![1, 4096, 8192]⟩
abbrev S4x512x1024 : Shape := ⟨3, ![4, 512, 1024]⟩
abbrev S1024x1024 : Shape := ⟨2, ![1024, 1024]⟩
abbrev S4x1024x1x4096 : Shape := ⟨4, ![4, 1024, 1, 4096]⟩
abbrev S1x4096x4x1024 : Shape := ⟨4, ![1, 4096, 4, 1024]⟩
abbrev S1x4096x4096 : Shape := ⟨3, ![1, 4096, 4096]⟩
abbrev S_ : Shape := ⟨0, ![]⟩
abbrev S4096x1024 : Shape := ⟨2, ![4096, 1024]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4x512, .f32⟩
  | .hbm, ⟨2, _⟩ => ⟨S1x4096x8192, .f32⟩
  | .hbm, ⟨3, _⟩ => ⟨S4x512x1024, .f32⟩
  | .hbm, ⟨4, _⟩ => ⟨S1024x1024, .f32⟩
  | .hbm, ⟨5, _⟩ => ⟨S4x1024x1x4096, .f32⟩
  | .hbm, ⟨6, _⟩ => ⟨S1x4096x4x1024, .f32⟩
  | .hbm, ⟨7, _⟩ => ⟨S1x4096x4096, .f32⟩
  | .hbm, ⟨8, _⟩ => ⟨S1x4096x4x1024, .f32⟩
  | .hbm, ⟨9, _⟩ => ⟨S1x4096x4x1024, .f32⟩
  | .hbm, ⟨10, _⟩ => ⟨S1x4096x4x1024, .f32⟩
  | .hbm, ⟨11, _⟩ => ⟨S_, .f32⟩
  | .hbm, ⟨12, _⟩ => ⟨S1x4096x4x1024, .f32⟩
  | .hbm, ⟨13, _⟩ => ⟨S1x4096x4x1024, .f32⟩
  | .hbm, ⟨14, _⟩ => ⟨S_, .f32⟩
  | .hbm, ⟨15, _⟩ => ⟨S1x4096x4x1024, .f32⟩
  | .hbm, ⟨16, _⟩ => ⟨S1x4096x4x1024, .f32⟩
  | .hbm, ⟨17, _⟩ => ⟨S1x4096x4x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x4096, .f32⟩
  | .hbm, ⟨26, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.HostSum.lean ====
/- Sums of the host over two axes of a three-axis array, and the folds a running total is. -/
module

public import Idealize.ShloMosaic.Lib.Pointwise

@[expose] public section

noncomputable section

namespace Cert.HostSum

open Idealize.ShloMosaic

/-- A sum over the indices that drop to `j`, by a list of them without repetition. -/
theorem hostReduceAdd_fiber {s t : Shape} {axes : List (Fin s.rank)} (h : s.ReducesTo axes t) (x : s.Idx → EReal) (init : EReal) (j : t.Idx)
    {ι : Type} [Fintype ι] (e : ι → s.Idx) (hinj : Function.Injective e) (hmem : ∀ k, h.drop (e k) = j)
    (hsurj : ∀ i, h.drop i = j → ∃ k, e k = i) : Ideal.hostReduceAdd h x init j = init + ∑ k, x (e k) := by
  unfold Ideal.hostReduceAdd
  congr 1
  refine (Finset.sum_bij (fun k _ => e k) ?_ ?_ ?_ ?_).symm
  · intro k _; exact Finset.mem_filter.mpr ⟨Finset.mem_univ _, hmem k⟩
  · intro a _ b _ hab; exact hinj hab
  · intro i hi; obtain ⟨k, hk⟩ := hsurj i (Finset.mem_filter.mp hi).2; exact ⟨k, Finset.mem_univ _, hk⟩
  · intro k _; rfl

variable {n0 n1 n2 : Nat}

/-- The sum over the first two axes. -/
theorem sum01 (h : Shape.ReducesTo ⟨3, ![n0, n1, n2]⟩ [0, 1] ⟨1, ![n2]⟩) (x : (⟨3, ![n0, n1, n2]⟩ : Shape).Idx → EReal) (init : EReal) (c : Fin n2) :
    Ideal.hostReduceAdd h x init (ix1 c) = init + ∑ a : Fin n0, ∑ b : Fin n1, x (ix3 a b c) := by
  rw [hostReduceAdd_fiber h x init (ix1 c) (fun p : Fin n0 × Fin n1 => ix3 p.1 p.2 c), Fintype.sum_prod_type]
  · rintro ⟨a, b⟩ ⟨a', b'⟩ hab
    exact Prod.ext (congrFun hab 0) (congrFun hab 1)
  · intro p; funext b; match b with | ⟨0, _⟩ => rfl
  · intro i hi
    have h2 : i 2 = c := congrFun hi 0
    exact ⟨(i 0, i 1), by funext b; match b with | ⟨0, _⟩ => rfl | ⟨1, _⟩ => rfl | ⟨2, _⟩ => exact h2.symm⟩

/-- A sum over the first two of five axes. -/
theorem sum01_5 {n3 n4 : ℕ} (h : Shape.ReducesTo ⟨5, ![n0, n1, n2, n3, n4]⟩ [0, 1] ⟨3, ![n2, n3, n4]⟩)
    (x : (⟨5, ![n0, n1, n2, n3, n4]⟩ : Shape).Idx → EReal) (init : EReal) (c : Fin n2) (d : Fin n3) (e : Fin n4) :
    Ideal.hostReduceAdd h x init (ix3 c d e) = init + ∑ a : Fin n0, ∑ b : Fin n1, x (ix5 a b c d e) := by
  rw [hostReduceAdd_fiber h x init (ix3 c d e) (fun p : Fin n0 × Fin n1 => ix5 p.1 p.2 c d e), Fintype.sum_prod_type]
  · rintro ⟨a, b⟩ ⟨a', b'⟩ hab
    exact Prod.ext (congrFun hab 0) (congrFun hab 1)
  · intro p; funext b; match b with | ⟨0, _⟩ => rfl | ⟨1, _⟩ => rfl | ⟨2, _⟩ => rfl
  · intro i hi
    have h2 : i 2 = c := congrFun hi 0
    have h3 : i 3 = d := congrFun hi 1
    have h4 : i 4 = e := congrFun hi 2
    exact ⟨(i 0, i 1), by funext b; match b with | ⟨0, _⟩ => rfl | ⟨1, _⟩ => rfl | ⟨2, _⟩ => exact h2.symm | ⟨3, _⟩ => exact h3.symm | ⟨4, _⟩ => exact h4.symm⟩

/-- The sum over the first and the last axis. -/
theorem sum02 (h : Shape.ReducesTo ⟨3, ![n0, n1, n2]⟩ [0, 2] ⟨1, ![n1]⟩) (x : (⟨3, ![n0, n1, n2]⟩ : Shape).Idx → EReal) (init : EReal) (b : Fin n1) :
    Ideal.hostReduceAdd h x init (ix1 b) = init + ∑ a : Fin n0, ∑ c : Fin n2, x (ix3 a b c) := by
  rw [hostReduceAdd_fiber h x init (ix1 b) (fun p : Fin n0 × Fin n2 => ix3 p.1 b p.2), Fintype.sum_prod_type]
  · rintro ⟨a, c⟩ ⟨a', c'⟩ hab
    exact Prod.ext (congrFun hab 0) (congrFun hab 2)
  · intro p; funext b; match b with | ⟨0, _⟩ => rfl
  · intro i hi
    have h1 : i 1 = b := congrFun hi 0
    exact ⟨(i 0, i 2), by funext d; match d with | ⟨0, _⟩ => rfl | ⟨1, _⟩ => exact h1.symm | ⟨2, _⟩ => rfl⟩

end Cert.HostSum

end
-- ==== Proof.LossCases.lean ====
/- The loss head's body, one grid point at a time: what each of its three output windows is left holding. -/
module

public import proofs.«01_k».proof.Proof.Gen.LossHeadIdeal.Value
public import Idealize.ShloMosaic.Lib.Tactic

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- The gradient of the input that a tile stores, of its rows `x`, the gain `g` and its targets `y`. -/
def dxTile (x : Vec F S512x1024 .f32) (g : Vec F S1x1024 .f32) (y : Vec F S512x1024 .f32) : Vec F S512x1024 .f32 :=
  k0_pay3 (k0_pay7 x) (k0_pay10 g) (k0_pay11 x g y) (k0_pay12 x)

/-- The gradient of the gain that a tile contributes. -/
def dgTile (x : Vec F S512x1024 .f32) (g : Vec F S1x1024 .f32) (y : Vec F S512x1024 .f32) : Vec F S1x1024 .f32 :=
  k0_pay2 (k0_pay7 x) (k0_pay11 x g y) (k0_pay12 x)

/-- The loss that a tile contributes, in every lane. -/
def lossTile (x : Vec F S512x1024 .f32) (g : Vec F S1x1024 .f32) (y : Vec F S512x1024 .f32) : Vec F S1x128 .f32 :=
  k0_pay5 (k0_pay9 x g y)

/-- At the first tile window 3 is left with that tile's gradient of the input. -/
theorem out3_A (c : Dev nD) (t : Fin cfg0.N) (h0 : t.val % 8 = 0) (h1 : ¬1 ≤ t.val) :
    (outsAt0 m c t.val t.isLt).1 = dxTile (iblk m c 0 t) (iblk m c 1 t) (iblk m c 2 t) := by
  rw [outsAt0_A m c t h0 h1 h0 h1]
  dsimp only
  unfold out0_A_3
  rw [View.read_writes_eq_canon]
  swap; · exact fun _ => cover0_A_3 ..
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

/-- At a later tile window 3 is left with that tile's gradient of the input. -/
theorem out3_B (c : Dev nD) (t : Fin cfg0.N) (h0 : ¬t.val % 8 = 0) (h1 : 1 ≤ t.val) :
    (outsAt0 m c t.val t.isLt).1 = dxTile (iblk m c 0 t) (iblk m c 1 t) (iblk m c 2 t) := by
  rw [outsAt0_B m c t h0 h1 h0 h1]
  dsimp only
  unfold out0_B_3
  rw [View.read_writes_eq_canon]
  swap; · exact fun _ => cover0_B_3 ..
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

/-- The first tile sets window 4 to its gradient of the gain. -/
theorem out4_A (c : Dev nD) (t : Fin cfg0.N) (h0 : t.val % 8 = 0) (h1 : ¬1 ≤ t.val) :
    (outsAt0 m c t.val t.isLt).2.1 = dgTile (iblk m c 0 t) (iblk m c 1 t) (iblk m c 2 t) := by
  rw [outsAt0_A m c t h0 h1 h0 h1]
  dsimp only
  unfold out0_A_4
  rw [View.read_writes_eq_canon]
  swap; · exact fun _ => cover0_A_4 ..
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

/-- A later tile adds its gradient of the gain to window 4. -/
theorem out4_B (c : Dev nD) (t : Fin cfg0.N) (h0 : ¬t.val % 8 = 0) (h1 : 1 ≤ t.val) :
    (outsAt0 m c t.val t.isLt).2.1 = addf (outsAt0 m c (t.val - 1) (Nat.lt_of_le_of_lt (Nat.sub_le _ _) t.isLt)).2.1
      (dgTile (iblk m c 0 t) (iblk m c 1 t) (iblk m c 2 t)) := by
  rw [outsAt0_B m c t h0 h1 h0 h1]
  dsimp only
  unfold out0_B_4
  rw [View.read_writes_eq_canon]
  swap; · exact fun _ => cover0_B_4 ..
  unfold kernelRun0_B
  dsimp only
  sl_unfold_words
  rw [View.canon_unit_zero hz]
  unfold k0_pay4
  simp only [View.readAt_eq_ld, (hs0_0 t).read_unread, (hs0_1 t).read_unread, (hs0_2 t).read_unread, (hs0_4 t).read_unread, View.ld_unit_zero (S := S512x1024) hz, View.ld_unit_zero (S := S1x1024) hz, shapeCast_self]
  rfl

/-- The first tile sets window 5 to its loss. -/
theorem out5_A (c : Dev nD) (t : Fin cfg0.N) (h0 : t.val % 8 = 0) (h1 : ¬1 ≤ t.val) :
    (outsAt0 m c t.val t.isLt).2.2 = lossTile (iblk m c 0 t) (iblk m c 1 t) (iblk m c 2 t) := by
  rw [outsAt0_A m c t h0 h1 h0 h1]
  dsimp only
  unfold out0_A_5
  rw [View.read_writes_eq_canon]
  swap; · exact fun _ => cover0_A_5 ..
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

/-- A later tile adds its loss to window 5. -/
theorem out5_B (c : Dev nD) (t : Fin cfg0.N) (h0 : ¬t.val % 8 = 0) (h1 : 1 ≤ t.val) :
    (outsAt0 m c t.val t.isLt).2.2 = addf (outsAt0 m c (t.val - 1) (Nat.lt_of_le_of_lt (Nat.sub_le _ _) t.isLt)).2.2
      (lossTile (iblk m c 0 t) (iblk m c 1 t) (iblk m c 2 t)) := by
  rw [outsAt0_B m c t h0 h1 h0 h1]
  dsimp only
  unfold out0_B_5
  rw [View.read_writes_eq_canon]
  swap; · exact fun _ => cover0_B_5 ..
  unfold kernelRun0_B
  dsimp only
  sl_unfold_words
  rw [View.canon_unit_zero hz]
  unfold k0_pay6
  simp only [View.readAt_eq_ld, (hs0_0 t).read_unread, (hs0_1 t).read_unread, (hs0_2 t).read_unread, (hs0_5 t).read_unread, View.ld_unit_zero (S := S512x1024) hz, View.ld_unit_zero (S := S1x1024) hz, View.ld_unit_zero (S := S1x128) hz, shapeCast_self]
  rfl

/-- Window 3 after any point: that tile's gradient of the input. -/
theorem out3 (c : Dev nD) (t : Fin cfg0.N) :
    (outsAt0 m c t.val t.isLt).1 = dxTile (iblk m c 0 t) (iblk m c 1 t) (iblk m c 2 t) := by
  have hN : t.val < 8 := lt_of_lt_of_eq t.isLt N_0
  by_cases h : t.val = 0
  · exact out3_A m c t (by omega) (by omega)
  · exact out3_B m c t (by omega) (by omega)

/-- The sum of the tiles up to `n` in point order, of what tile `t` contributes. -/
def running {S : Shape} (f : (t : Fin cfg0.N) → Vec F S .f32) : (n : ℕ) → n < cfg0.N → FVec F S .f32
  | 0, h => f ⟨0, h⟩
  | n + 1, h => addf (running f n (Nat.lt_of_succ_lt h)) (f ⟨n + 1, h⟩)

/-- Window 4 after point `n`: the gradients of the gain, summed up to it. -/
theorem out4 (c : Dev nD) : ∀ (n : ℕ) (h : n < cfg0.N),
    (outsAt0 m c n h).2.1 = running (fun t => dgTile (iblk m c 0 t) (iblk m c 1 t) (iblk m c 2 t)) n h
  | 0, h => out4_A m c ⟨0, h⟩ rfl (by dsimp only; omega)
  | n + 1, h => by
    have hN : n + 1 < 8 := lt_of_lt_of_eq h N_0
    refine (out4_B m c ⟨n + 1, h⟩ (by dsimp only; omega) (by dsimp only; omega)).trans ?_
    show addf (outsAt0 m c n _).2.1 _ = addf (running _ n _) _
    rw [out4 c n]

/-- Window 5 after point `n`: the losses, summed up to it. -/
theorem out5 (c : Dev nD) : ∀ (n : ℕ) (h : n < cfg0.N),
    (outsAt0 m c n h).2.2 = running (fun t => lossTile (iblk m c 0 t) (iblk m c 1 t) (iblk m c 2 t)) n h
  | 0, h => out5_A m c ⟨0, h⟩ rfl (by dsimp only; omega)
  | n + 1, h => by
    have hN : n + 1 < 8 := lt_of_lt_of_eq h N_0
    refine (out5_B m c ⟨n + 1, h⟩ (by dsimp only; omega) (by dsimp only; omega)).trans ?_
    show addf (outsAt0 m c n _).2.2 _ = addf (running _ n _) _
    rw [out5 c n]

end Cert.LossHeadIdeal.Hand

end
-- ==== Proof.LossReads.lean ====
/- What the loss head's windows read of its arguments, and where its results lie. -/
module

public import proofs.«01_k».proof.Proof.LossCases
public import Idealize.ShloMosaic.Lib.Pointwise
public import Idealize.ShloMosaic.Lib.Claim

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The three argument arrays, as one device holds them. -/
abbrev argX (c : Dev nD) : FVec F S1x4096x1024 .f32 := m ((c : Thread nD τ).loc main_arg0)
abbrev argG (c : Dev nD) : FVec F S1024 .f32 := m ((c : Thread nD τ).loc main_arg1)
abbrev argY (c : Dev nD) : FVec F S1x4096x1024 .f32 := m ((c : Thread nD τ).loc main_arg2)

theorem V0 (c : Dev nD) : V m c main_v0 = shapeCast S4096x1024 (argX m c) shapeCasts_S1x4096x1024_S4096x1024 := by
  unfold V; after_results_simp <;> rfl
theorem V1 (c : Dev nD) : V m c main_v1 = shapeCast S1x1024 (argG m c) shapeCasts_S1024_S1x1024 := by
  unfold V; after_results_simp <;> rfl
theorem V2 (c : Dev nD) : V m c main_v2 = shapeCast S4096x1024 (argY m c) shapeCasts_S1x4096x1024_S4096x1024 := by
  unfold V; after_results_simp <;> rfl

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = t.val ∧ win0_3.index t 1 = 0 :=
  (by decide +kernel : ∀ t : Fin grid0.N, win0_3.index t 0 = t.val ∧ win0_3.index t 1 = 0)

/-- Row `a` of tile `t` is row `512 t + a` of the array. -/
abbrev row (t : Fin cfg0.N) (a : Fin 512) : Fin 4096 :=
  ⟨512 * t.val + a.val, by have := lt_of_lt_of_eq t.isLt N_0; have := a.isLt; omega⟩

theorem iblk0 (c : Dev nD) (t : Fin cfg0.N) (a : Fin 512) (k : Fin 1024) :
    (iblk m c 0 t : Vec F S512x1024 .f32) (ix2 a k) = argX m c (ix3 0 (row t a) k) := by
  have h : (iblk m c 0 t : Vec F S512x1024 .f32) (ix2 a k) = V m c main_v0 (ix2 (row t a) k) := by
    unfold iblk
    rw [View.read_apply]
    show V m c main_v0 _ = _
    congr 1
    funext b
    apply Fin.ext
    match b with
    | ⟨0, _⟩ => show win0_0.index t 0 * 512 + 1 * a.val = 512 * t.val + a.val; rw [(idx_0 t).1]; omega
    | ⟨1, _⟩ => show win0_0.index t 1 * 1024 + 1 * k.val = k.val; rw [(idx_0 t).2]; omega
  rw [h, V0]
  pointwise

theorem iblk1 (c : Dev nD) (t : Fin cfg0.N) (k : Fin 1024) :
    (iblk m c 1 t : Vec F S1x1024 .f32) (ix2 0 k) = argG m c (ix1 k) := by
  have h : (iblk m c 1 t : Vec F S1x1024 .f32) (ix2 0 k) = V m c main_v1 (ix2 0 k) := by
    unfold iblk
    rw [View.read_apply]
    show V m c main_v1 _ = _
    congr 1
    funext b
    apply Fin.ext
    match b with
    | ⟨0, _⟩ => show win0_1.index t 0 * 1 + 1 * 0 = 0; rw [(idx_1 t).1]
    | ⟨1, _⟩ => show win0_1.index t 1 * 1024 + 1 * k.val = k.val; rw [(idx_1 t).2]; omega
  rw [h, V1]
  pointwise

theorem iblk2 (c : Dev nD) (t : Fin cfg0.N) (a : Fin 512) (k : Fin 1024) :
    (iblk m c 2 t : Vec F S512x1024 .f32) (ix2 a k) = argY m c (ix3 0 (row t a) k) := by
  have h : (iblk m c 2 t : Vec F S512x1024 .f32) (ix2 a k) = V m c main_v2 (ix2 (row t a) k) := by
    unfold iblk
    rw [View.read_apply]
    show V m c main_v2 _ = _
    congr 1
    funext b
    apply Fin.ext
    match b with
    | ⟨0, _⟩ => show win0_2.index t 0 * 512 + 1 * a.val = 512 * t.val + a.val; rw [(idx_2 t).1]; omega
    | ⟨1, _⟩ => show win0_2.index t 1 * 1024 + 1 * k.val = k.val; rw [(idx_2 t).2]; omega
  rw [h, V2]
  pointwise

/-- The tile of a row, and the row's place in it. -/
abbrev tileOf (r : Fin 4096) : Fin cfg0.N := ⟨r.val / 512, by rw [show cfg0.N = 8 from N_0]; have := r.isLt; omega⟩
abbrev inTile (r : Fin 4096) : Fin 512 := ⟨r.val % 512, Nat.mod_lt _ (by decide)⟩

/-- The first result at row `r`: what `r`'s tile stores at `r`'s place in it. -/
theorem final3 (c : Dev nD) (r : Fin 4096) (k : Fin 1024) :
    ((dats m 0 c).arrAt 3 cfg0.N : Vec F S4096x1024 .f32) (ix2 r k)
      = dxTile (iblk m c 0 (tileOf r)) (iblk m c 1 (tileOf r)) (iblk m c 2 (tileOf r)) (ix2 (inTile r) k) := by
  have hb := congrFun ((Value.blocks3 m c (tileOf r) (flush0_3 (tileOf r))).trans (Value.flushed3 m c (tileOf r))) (ix2 (inTile r) k)
  rw [View.read_apply] at hb
  refine Eq.trans ?_ (hb.trans ?_)
  · show (dats m 0 c).arrAt 3 cfg0.N _ = (dats m 0 c).arrAt 3 cfg0.N _
    congr 1
    funext b
    apply Fin.ext
    match b with
    | ⟨0, _⟩ => show r.val = win0_3.index (tileOf r) 0 * 512 + 1 * (r.val % 512); rw [(idx_3 _).1]; dsimp only; omega
    | ⟨1, _⟩ => show k.val = win0_3.index (tileOf r) 1 * 1024 + 1 * k.val; rw [(idx_3 _).2]; omega
  · rw [out3]; rfl

end Cert.LossHeadIdeal.Hand

end
-- ==== Proof.Lift.lean ====
/- Extended reals that are reals: the operations of the idealized programs on them, and the literals both programs write. -/
module

public import Idealize.ShloMosaic.Lib.Pointwise

@[expose] public section

noncomputable section

namespace Cert.Lift

open Idealize.ShloMosaic

/-- A sum of reals is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real other than zero is the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {v : ℝ} (hv : 0 < v) : Ideal.rsqrt (v : EReal) = (((Real.sqrt v)⁻¹ : ℝ) : EReal) := by
  rw [Ideal.rsqrt_coe, if_neg (not_lt.mpr hv.le), if_neg hv.ne']

/-- An extended real whose absolute value is below infinity is a real. -/
theorem real_of_abs_lt {v : EReal} (h : v ≠ ⊤) (h' : v ≠ ⊥) : ∃ r : ℝ, v = (r : EReal) :=
  ⟨v.toReal, (EReal.coe_toReal h h').symm⟩

/-- The number added to a mean of squares. -/
def eps : ℝ := 8796093 / 8796093022208

theorem eps_pos : 0 < eps := by unfold eps; norm_num

theorem lit_eps : Ideal.ofBits .f32 897988541#32 = ((eps : ℝ) : EReal) := by
  simp [Ideal.ofBits, Ideal.ieee, eps]; norm_num; rw [← EReal.coe_mul]; norm_num
theorem lit_1024 : Ideal.ofBits .f32 1149239296#32 = ((1024 : ℝ) : EReal) := by
  simp [Ideal.ofBits, Ideal.ieee]; norm_num; rw [← EReal.coe_mul]; norm_num
theorem lit_inv1024 : Ideal.ofBits .f32 981467136#32 = ((1 / 1024 : ℝ) : EReal) := by
  simp [Ideal.ofBits, Ideal.ieee]; norm_num; rw [← EReal.coe_mul]; norm_num
theorem lit_half : Ideal.ofBits .f32 1056964608#32 = ((1 / 2 : ℝ) : EReal) := by
  simp [Ideal.ofBits, Ideal.ieee]; norm_num; rw [← EReal.coe_mul]; norm_num
theorem lit_neg_half : Ideal.ofBits .f32 3204448256#32 = ((-(1 / 2) : ℝ) : EReal) := by
  simp [Ideal.ofBits, Ideal.ieee]; norm_num; rw [← EReal.coe_mul]; norm_num
theorem lit_one : Ideal.ofBits .f32 1065353216#32 = ((1 : ℝ) : EReal) := by
  simp [Ideal.ofBits, Ideal.ieee]; norm_num; rw [← EReal.coe_mul]; norm_num
theorem lit_two : Ideal.ofBits .f32 1073741824#32 = ((2 : ℝ) : EReal) := by
  simp [Ideal.ofBits, Ideal.ieee]; norm_num; rw [← EReal.coe_mul]; norm_num
theorem lit_inf : Ideal.ofBits .f32 2139095040#32 = (⊤ : EReal) := by
  simp [Ideal.ofBits, Ideal.ieee]

end Cert.Lift

end
-- ==== Proof.Rms.lean ====
/- The mathematics of the mean-square norm of one row of 1024 and of its gradient, over the reals. -/
module

public import proofs.«01_k».proof.Proof.Lift

@[expose] public section

noncomputable section

namespace Cert.Rms

/-- The mean of the squares of a row, plus the small constant. -/
def ms (x : Fin 1024 → ℝ) : ℝ := (∑ j, x j * x j) / 1024 + Cert.Lift.eps

/-- What a row is multiplied by: one over the root of `ms`. -/
def rs (x : Fin 1024 → ℝ) : ℝ := (Real.sqrt (ms x))⁻¹

theorem ms_pos (x : Fin 1024 → ℝ) : 0 < ms x :=
  add_pos_of_nonneg_of_pos (div_nonneg (Finset.sum_nonneg fun j _ => mul_self_nonneg (x j)) (by norm_num)) Cert.Lift.eps_pos

theorem sqrt_ms_pos (x : Fin 1024 → ℝ) : 0 < Real.sqrt (ms x) := Real.sqrt_pos.mpr (ms_pos x)

/-- The derivative of `v ↦ 1/√v` is a cube. -/
theorem rs_div_ms (x : Fin 1024 → ℝ) : rs x / ms x = rs x * rs x * rs x := by
  have h := (sqrt_ms_pos x).ne'
  have hs : Real.sqrt (ms x) * Real.sqrt (ms x) = ms x := Real.mul_self_sqrt (ms_pos x).le
  have h1 : rs x * Real.sqrt (ms x) = 1 := inv_mul_cancel₀ h
  rw [div_eq_iff (ms_pos x).ne', ← hs]
  calc rs x = rs x * (rs x * Real.sqrt (ms x)) * (rs x * Real.sqrt (ms x)) := by rw [h1]; ring
    _ = _ := by rw [hs]; ring_nf; rw [show Real.sqrt (ms x) ^ 2 = ms x by rw [sq, hs]]

/-- The gradient of `x · rs x` with cotangent `d`, as the kernels write it. -/
def grad (x d : Fin 1024 → ℝ) (k : Fin 1024) : ℝ :=
  rs x * (d k - x k * rs x * ((∑ j, d j * (x j * rs x)) / 1024))

/-- The same gradient as the chain rule through the mean of squares leaves it: one summand per use of `x`. -/
theorem grad_eq (x d : Fin 1024 → ℝ) (k : Fin 1024) :
    d k * rs x + x k * (((∑ j, x j * d j) * (-(1 / 2) * (rs x / ms x))) / 1024)
      + (((∑ j, x j * d j) * (-(1 / 2) * (rs x / ms x))) / 1024) * x k = grad x d k := by
  have hsum : ∑ j, d j * (x j * rs x) = (∑ j, x j * d j) * rs x := by
    rw [Finset.sum_mul]; exact Finset.sum_congr rfl fun j _ => by ring
  rw [rs_div_ms, grad, hsum]
  ring

end Cert.Rms

end
-- ==== Proof.LossTiles.lean ====
/- The loss head's three tile results at an index, where what it reads is real. -/
module

public import proofs.«01_k».proof.Proof.LossReads
public import proofs.«01_k».proof.Proof.Rms

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Cert.Lift Cert.Rms

/-- A row's distance from its targets. -/
def err (x g y : Fin 1024 → ℝ) (k : Fin 1024) : ℝ := x k * rs x * g k - y k

variable (x : Vec Ideal S512x1024 .f32) (g : Vec Ideal S1x1024 .f32) (y : Vec Ideal S512x1024 .f32)
variable (X : Fin 512 → Fin 1024 → ℝ) (G : Fin 1024 → ℝ) (Y : Fin 512 → Fin 1024 → ℝ)
  (hx : ∀ a k, x (ix2 a k) = (X a k : EReal)) (hg : ∀ k, g (ix2 0 k) = (G k : EReal)) (hy : ∀ a k, y (ix2 a k) = (Y a k : EReal))

/-- The reciprocal root mean square of row `a`, as the kernel computes it. -/
theorem rs_at (a : Fin 512) (hx : ∀ a k, x (ix2 a k) = (X a k : EReal)) :
    Ideal.rsqrt (Ideal.div (∑ j, x (ix2 a j) * x (ix2 a j)) (Ideal.ofBits FTy.f32 1149239296#32) + Ideal.ofBits FTy.f32 897988541#32)
      = ((rs (X a) : ℝ) : EReal) := by
  simp only [hx, ← EReal.coe_mul, sum_coe, lit_1024, lit_eps, div_coe (by norm_num : (1024 : ℝ) ≠ 0), ← EReal.coe_add]
  exact rsqrt_coe (ms_pos (X a))

include hx hg hy

/-- The gradient of the input: the norm's gradient at the gain times a 1024th of the distance. -/
theorem dxTile_at (a : Fin 512) (k : Fin 1024) :
    dxTile x g y (ix2 a k) = ((grad (X a) (fun j => err (X a) G (Y a) j * (1 / 1024) * G j) k : ℝ) : EReal) := by
  pointwise [dxTile, k0_pay3, k0_pay1, k0_pay7, k0_pay10, k0_pay11, k0_pay8, k0_pay12]
  simp only [rs_at x X _ hx]
  simp only [hx, hg, hy, lit_inv1024, lit_1024, ← EReal.coe_mul, ← EReal.coe_sub, sum_coe, div_coe (by norm_num : (1024 : ℝ) ≠ 0)]
  rfl

/-- The gradient of the gain: over the tile's rows, the normed row times a 1024th of the distance. -/
theorem dgTile_at (k : Fin 1024) :
    dgTile x g y (ix2 0 k) = ((∑ a, err (X a) G (Y a) k * (1 / 1024) * (X a k * rs (X a)) : ℝ) : EReal) := by
  pointwise [dgTile, k0_pay2, k0_pay1, k0_pay7, k0_pay11, k0_pay8, k0_pay12]
  simp only [rs_at x X _ hx]
  simp only [hx, hg, hy, lit_inv1024, ← EReal.coe_mul, ← EReal.coe_sub, sum_coe]
  rfl

/-- The loss: half the sum of the rows' mean squared distances. -/
theorem lossTile_at (k : Fin 128) :
    lossTile x g y (ix2 0 k) = ((1 / 2 * ∑ a, (∑ j, err (X a) G (Y a) j * err (X a) G (Y a) j) / 1024 : ℝ) : EReal) := by
  pointwise [lossTile, k0_pay5, k0_pay9, k0_pay7, k0_pay8]
  simp only [rs_at x X _ hx]
  simp only [hx, hg, hy, lit_half, lit_1024, ← EReal.coe_mul, ← EReal.coe_sub, sum_coe, div_coe (by norm_num : (1024 : ℝ) ≠ 0)]
  rfl

end Cert.LossHeadIdeal.Hand

end
-- ==== Proof.Tiles.lean ====
/- Sums over tiles of rows, and arrays compared index by index. -/
module

public import Idealize.ShloMosaic.Lib.Pointwise

@[expose] public section

noncomputable section

namespace Cert.Tiles

/-- A sum over `T` tiles of `B` rows each is the sum over the rows. -/
theorem sum_tiles {M : Type} [AddCommMonoid M] (B : ℕ) (f : ℕ → M) :
    ∀ T : ℕ, ∑ t ∈ Finset.range T, ∑ a ∈ Finset.range B, f (B * t + a) = ∑ r ∈ Finset.range (B * T), f r
  | 0 => by simp
  | T + 1 => by rw [Finset.sum_range_succ, sum_tiles B f T, Nat.mul_succ, Finset.sum_range_add]

/-- Two arrays of two axes are equal where they are at every row and column. -/
theorem ext2 {α : Type} {n0 n1 : Nat} (u v : (⟨2, ![n0, n1]⟩ : Idealize.ShloMosaic.Shape).Idx → α)
    (h : ∀ (a : Fin n0) (b : Fin n1), u (Idealize.ShloMosaic.ix2 a b) = v (Idealize.ShloMosaic.ix2 a b)) : u = v := by
  funext i
  rw [Idealize.ShloMosaic.eq_ix2 i]
  exact h _ _

/-- The same of arrays of one row. -/
theorem ext2_row {α : Type} {n1 : Nat} (u v : (⟨2, ![1, n1]⟩ : Idealize.ShloMosaic.Shape).Idx → α)
    (h : ∀ b : Fin n1, u (Idealize.ShloMosaic.ix2 0 b) = v (Idealize.ShloMosaic.ix2 0 b)) : u = v :=
  ext2 u v fun a b => by rw [show a = 0 from Subsingleton.elim _ _]; exact h b

end Cert.Tiles

end
-- ==== Proof.LossFinal.lean ====
/- The loss head's three results after the run, for arguments that are real numbers. -/
module

public import proofs.«01_k».proof.Proof.LossTiles
public import proofs.«01_k».proof.Proof.Tiles

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Cert.Rms

/-! ## What the three results are, of real arguments given by row number -/

/-- The gradient of row `r` of the input. -/
def dxR (X : ℕ → Fin 1024 → ℝ) (G : Fin 1024 → ℝ) (Y : ℕ → Fin 1024 → ℝ) (r : ℕ) (k : Fin 1024) : ℝ :=
  grad (X r) (fun j => err (X r) G (Y r) j * (1 / 1024) * G j) k

/-- What row `r` adds to the gradient of the gain. -/
def dgR (X : ℕ → Fin 1024 → ℝ) (G : Fin 1024 → ℝ) (Y : ℕ → Fin 1024 → ℝ) (r : ℕ) (k : Fin 1024) : ℝ :=
  err (X r) G (Y r) k * (1 / 1024) * (X r k * rs (X r))

/-- The mean squared distance of row `r` from its targets. -/
def lossR (X : ℕ → Fin 1024 → ℝ) (G : Fin 1024 → ℝ) (Y : ℕ → Fin 1024 → ℝ) (r : ℕ) : ℝ :=
  (∑ j, err (X r) G (Y r) j * err (X r) G (Y r) j) / 1024

/-- The three results. -/
def specDx (X : ℕ → Fin 1024 → ℝ) (G : Fin 1024 → ℝ) (Y : ℕ → Fin 1024 → ℝ) : FVec Ideal S4096x1024 .f32 :=
  fun i => ((dxR X G Y (i 0).val (i 1) : ℝ) : EReal)
def specDg (X : ℕ → Fin 1024 → ℝ) (G : Fin 1024 → ℝ) (Y : ℕ → Fin 1024 → ℝ) : FVec Ideal S1x1024 .f32 :=
  fun i => ((∑ r ∈ Finset.range 4096, dgR X G Y r (i 1) : ℝ) : EReal)
def specLoss (X : ℕ → Fin 1024 → ℝ) (G : Fin 1024 → ℝ) (Y : ℕ → Fin 1024 → ℝ) : FVec Ideal S1x128 .f32 :=
  fun _ => ((1 / 2 * ∑ r ∈ Finset.range 4096, lossR X G Y r : ℝ) : EReal)

/-- A running total of real tiles is the real total. -/
theorem running_real {S : Shape} (f : (t : Fin cfg0.N) → Vec Ideal S .f32) (g : ℕ → ℝ) (i : S.Idx) (hf : ∀ t, f t i = (g t.val : EReal)) :
    ∀ (n : ℕ) (h : n < cfg0.N), running f n h i = ((∑ t ∈ Finset.range (n + 1), g t : ℝ) : EReal)
  | 0, h => by rw [Finset.sum_range_one]; exact hf ⟨0, h⟩
  | n + 1, h => by
    rw [Finset.sum_range_succ, EReal.coe_add]
    show running f n _ i + f ⟨n + 1, h⟩ i = _
    rw [running_real f g i hf n, hf]

variable (m : (ℓ : Loc nD τ sig) → Buf (Elt Ideal) ℓ) (c : Dev nD)

/-- The last tile. -/
abbrev tLast : Fin cfg0.N := ⟨7, by rw [show cfg0.N = 8 from N_0]; decide⟩

/-- An accumulator is written back once, after the last tile. -/
theorem last_block (w : Fin cfg0.W) (hw : ∀ t : Fin cfg0.N, (cfg0.win w).flush t = true ↔ t.val % 8 = 7) :
    ((cfg0.win w).blk tLast).view.read (Elt Ideal) ((dats m 0 c).arrAt w cfg0.N) = (dats m 0 c).flushed w tLast := by
  have hN : cfg0.N = 8 := N_0
  refine (dats m 0 c).read_blk_arrAt_eq_flushed w (fun t t' h h' hne => absurd (Fin.ext ?_) hne) cfg0.N tLast tLast.isLt ((hw _).mpr rfl)
  have := (hw t).mp h; have := (hw t').mp h'; have := t.isLt; have := t'.isLt; omega

theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)

/-- The second result: the running total of the gain's gradient after the last tile. -/
theorem final4 (k : Fin 1024) :
    ((dats m 0 c).arrAt 4 cfg0.N : Vec Ideal S1x1024 .f32) (ix2 0 k)
      = running (fun t => dgTile (iblk m c 0 t) (iblk m c 1 t) (iblk m c 2 t)) 7 tLast.isLt (ix2 0 k) := by
  have hb := congrFun ((last_block m c 4 flush0_4).trans (Value.flushed4 m c tLast)) (ix2 0 k)
  rw [View.read_apply] at hb
  refine Eq.trans ?_ (hb.trans ?_)
  · show (dats m 0 c).arrAt 4 cfg0.N _ = (dats m 0 c).arrAt 4 cfg0.N _
    congr 1
    funext b
    apply Fin.ext
    match b with
    | ⟨0, _⟩ => show 0 = win0_4.index tLast 0 * 1 + 1 * 0; rw [(idx_4 _).1]
    | ⟨1, _⟩ => show k.val = win0_4.index tLast 1 * 1024 + 1 * k.val; rw [(idx_4 _).2]; omega
  · rw [← out4]; rfl

/-- The third result: the running total of the loss after the last tile. -/
theorem final5 (k : Fin 128) :
    ((dats m 0 c).arrAt 5 cfg0.N : Vec Ideal S1x128 .f32) (ix2 0 k)
      = running (fun t => lossTile (iblk m c 0 t) (iblk m c 1 t) (iblk m c 2 t)) 7 tLast.isLt (ix2 0 k) := by
  have hb := congrFun ((last_block m c 5 flush0_5).trans (Value.flushed5 m c tLast)) (ix2 0 k)
  rw [View.read_apply] at hb
  refine Eq.trans ?_ (hb.trans ?_)
  · show (dats m 0 c).arrAt 5 cfg0.N _ = (dats m 0 c).arrAt 5 cfg0.N _
    congr 1
    funext b
    apply Fin.ext
    match b with
    | ⟨0, _⟩ => show 0 = win0_5.index tLast 0 * 1 + 1 * 0; rw [(idx_5 _).1]
    | ⟨1, _⟩ => show k.val = win0_5.index tLast 1 * 128 + 1 * k.val; rw [(idx_5 _).2]; omega
  · rw [← out5]; rfl

variable (X : ℕ → Fin 1024 → ℝ) (G : Fin 1024 → ℝ) (Y : ℕ → Fin 1024 → ℝ)
  (hX : ∀ (r : Fin 4096) k, argX m c (ix3 0 r k) = (X r k : EReal)) (hG : ∀ k, argG m c (ix1 k) = (G k : EReal))
  (hY : ∀ (r : Fin 4096) k, argY m c (ix3 0 r k) = (Y r k : EReal))
include hX hG hY

theorem kernel_dx : ((dats m 0 c).arrAt 3 cfg0.N : Vec Ideal S4096x1024 .f32) = specDx X G Y := by
  refine Cert.Tiles.ext2 (n0 := 4096) (n1 := 1024) _ _ fun r k => ?_
  rw [final3, dxTile_at _ _ _ (fun a => X (row (tileOf r) a)) G (fun a => Y (row (tileOf r) a))
    (fun a k => by rw [iblk0, hX]) (fun k => by rw [iblk1, hG]) (fun a k => by rw [iblk2, hY])]
  have hr : (row (tileOf r) (inTile r)).val = r.val := by show 512 * (r.val / 512) + r.val % 512 = _; omega
  rw [hr]
  rfl

theorem kernel_dg : ((dats m 0 c).arrAt 4 cfg0.N : Vec Ideal S1x1024 .f32) = specDg X G Y := by
  refine Cert.Tiles.ext2_row (n1 := 1024) _ _ fun k => ?_
  rw [final4, running_real _ (fun t => ∑ a ∈ Finset.range 512, dgR X G Y (512 * t + a) k), Cert.Tiles.sum_tiles 512 (fun r => dgR X G Y r k) 8]
  · rfl
  · intro t
    rw [dgTile_at _ _ _ (fun a => X (row t a)) G (fun a => Y (row t a))
      (fun a k => by rw [iblk0, hX]) (fun k => by rw [iblk1, hG]) (fun a k => by rw [iblk2, hY]), Finset.sum_range]
    rfl

theorem kernel_loss : ((dats m 0 c).arrAt 5 cfg0.N : Vec Ideal S1x128 .f32) = specLoss X G Y := by
  refine Cert.Tiles.ext2_row (n1 := 128) _ _ fun k => ?_
  rw [final5, running_real _ (fun t => 1 / 2 * ∑ a ∈ Finset.range 512, lossR X G Y (512 * t + a)), ← Finset.mul_sum, Cert.Tiles.sum_tiles 512 (lossR X G Y) 8]
  · rfl
  · intro t
    rw [lossTile_at _ _ _ (fun a => X (row t a)) G (fun a => Y (row t a))
      (fun a k => by rw [iblk0, hX]) (fun k => by rw [iblk1, hG]) (fun a k => by rw [iblk2, hY]), Finset.sum_range]
    rfl

end Cert.LossHeadIdeal.Hand

end
-- ==== Proof.LossRef.lean ====
/- The reference's three results, for arguments that are real numbers. -/
module

public import proofs.«01_k».proof.Proof.Gen.LossRefIdeal.Run
public import proofs.«01_k».proof.Proof.HostSum
public import proofs.«01_k».proof.Proof.LossFinal

@[expose] public section

set_option maxRecDepth 16384

noncomputable section

namespace Cert.LossRefIdeal.Hand

open Cert.LossRefIdeal Cert.LossRefIdeal.Gen Idealize.ShloMosaic Idealize.ShloMosaic.TcCoe Idealize.SL.Sem
open Cert.LossHeadIdeal.Hand (err dxR dgR lossR specDx specDg specLoss)
open Cert.Lift Cert.Rms

variable (m : (ℓ : Loc nD τ sig) → Buf (Elt Ideal) ℓ) (ρ : Dev nD → PrngReg)

/-- The mean of squares of row `r` and its reciprocal root, as the reference computes them. -/
theorem ms_at (x : FVec Ideal S1x4096x1024 .f32) (X : ℕ → Fin 1024 → ℝ) (hx : ∀ (r : Fin 4096) k, x (ix3 0 r k) = (X r k : EReal)) (r : Fin 4096) :
    Ideal.div (∑ j, x (ix3 0 r j) * x (ix3 0 r j)) (Ideal.ofBits FTy.f32 1149239296#32) + Ideal.ofBits FTy.f32 897988541#32
      = ((ms (X r) : ℝ) : EReal) := by
  simp only [hx, ← EReal.coe_mul, sum_coe, lit_1024, lit_eps, div_coe (by norm_num : (1024 : ℝ) ≠ 0), ← EReal.coe_add]
  rfl

theorem rsqrt_ms (x : Fin 1024 → ℝ) : Ideal.rsqrt ((ms x : ℝ) : EReal) = ((rs x : ℝ) : EReal) := rsqrt_coe (ms_pos x)

/-- The reference's run: its results are the same three functions of the arguments' real values. -/
theorem run_spec (X : Dev nD → ℕ → Fin 1024 → ℝ) (G : Dev nD → Fin 1024 → ℝ) (Y : Dev nD → ℕ → Fin 1024 → ℝ)
    (hX : ∀ c (r : Fin 4096) k, (m ((c.tc : Thread nD τ).loc main_arg0) : FVec Ideal S1x4096x1024 .f32) (ix3 0 r k) = (X c r k : EReal))
    (hG : ∀ c (k : Fin 1024), (m ((c.tc : Thread nD τ).loc main_arg1) : FVec Ideal S1024 .f32) (ix1 k) = (G c k : EReal))
    (hY : ∀ c (r : Fin 4096) k, (m ((c.tc : Thread nD τ).loc main_arg2) : FVec Ideal S1x4096x1024 .f32) (ix3 0 r k) = (Y c r k : EReal)) :
    θ_run defs (onTc (τ := τ) (main (F := Ideal))) ⟨m, fun _ => 0, ρ⟩ fun r => ∀ c : Dev nD,
      r.2.mem ((c.tc : Thread nD τ).loc main_v52) = specDx (X c) (G c) (Y c)
      ∧ r.2.mem ((c.tc : Thread nD τ).loc main_v53) = specDg (X c) (G c) (Y c)
      ∧ r.2.mem ((c.tc : Thread nD τ).loc main_v54) = specLoss (X c) (G c) (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h1024 : (1024 : ℝ) ≠ 0 := by norm_num
  refine (θ_run defs _ _).mono (fun q h c => ?_) (Value.run m ρ)
  refine ⟨(h c).1.trans ?_, (h c).2.1.trans ?_, (h c).2.2.1.trans ?_, (h c).2.2.2⟩
  · refine Cert.Tiles.ext2 (n0 := 4096) (n1 := 1024) _ _ fun r k => ?_
    show _ = ((dxR (X c) (G c) (Y c) r.val k : ℝ) : EReal)
    pointwise [Value.res_main_v52]
    simp only [Cert.HostSum.sum01, Cert.HostSum.sum02]
    pointwise
    simp only [ms_at _ (X c) (hX c), rsqrt_ms, Finset.univ_unique, Finset.sum_singleton]
    simp only [hX c, hG c, hY c, lit_half, lit_neg_half, lit_two, lit_1024, div_coe h1024, div_coe (ms_pos _).ne', ← EReal.coe_mul, ← EReal.coe_sub, sum_coe, ← EReal.coe_add]
    congr 1
    rw [dxR, ← grad_eq]
    simp only [show ∀ a : ℝ, 1 / 2 / 1024 * (2 * a) = a * (1 / 1024) from fun a => by ring]
    unfold err
    simp only [neg_div]
  · refine Cert.Tiles.ext2_row (n1 := 1024) _ _ fun k => ?_
    show _ = ((∑ r ∈ Finset.range 4096, dgR (X c) (G c) (Y c) r k : ℝ) : EReal)
    pointwise
    simp only [Cert.HostSum.sum01, Cert.HostSum.sum02]
    pointwise
    simp only [ms_at _ (X c) (hX c), rsqrt_ms, Finset.univ_unique, Finset.sum_singleton]
    simp only [hX c, hG c, hY c, lit_half, lit_two, lit_1024, div_coe h1024, ← EReal.coe_mul, ← EReal.coe_sub, sum_coe]
    congr 1
    rw [Finset.sum_range]
    refine Finset.sum_congr rfl fun r _ => ?_
    unfold dgR err
    ring
  · refine Cert.Tiles.ext2_row (n1 := 128) _ _ fun k => ?_
    show _ = ((1 / 2 * ∑ r ∈ Finset.range 4096, lossR (X c) (G c) (Y c) r : ℝ) : EReal)
    pointwise
    simp only [ms_at _ (X c) (hX c), rsqrt_ms, Finset.univ_unique, Finset.sum_singleton]
    simp only [hX c, hG c, hY c, lit_half, lit_1024, div_coe h1024, ← EReal.coe_mul, ← EReal.coe_sub, sum_coe]
    rw [Finset.sum_range]
    rfl

end Cert.LossRefIdeal.Hand

end
-- ==== Proof.Finite.lean ====
/- What `jnp.all(jnp.abs(x) < jnp.inf)` says of an array of extended reals: its elements are real numbers. -/
module

public import proofs.«01_k».proof.Proof.Lift
public import Idealize.ShloMosaic.Lib.ReduceAll
public import Idealize.ShloMosaic.Lib.Pointwise

@[expose] public section

noncomputable section

namespace Cert.Finite

open Idealize.ShloMosaic

/-- Where the printed test of an array answers one, the array is real. -/
theorem real_of_all {s t : Shape} (x : FVec Ideal s .f32) {axes : List (Fin s.rank)} {hb : (⟨0, ![]⟩ : Shape).BroadcastsInDim s (![] : Fin 0 → Fin s.rank)}
    {h : s.ReducesTo axes t} {hu : 0 < (⟨0, ![]⟩ : Shape).numel} {init : IVec ⟨0, ![]⟩ 1} {j : t.Idx} (ht : ∀ i, h.drop i = j)
    (e : Host.reduce IntOp.andi (cmpf .olt (Host.absf x) (broadcastInDim s ![] hb (constant ⟨0, ![]⟩ .f32 0x7F800000#32))) init h hu j = 1#1) :
    ∃ r : s.Idx → ℝ, ∀ i, x i = (r i : EReal) := by
  have hall : ∀ i, ∃ v : ℝ, x i = (v : EReal) := by
    intro i
    have hi := Host.reduce_andi_eq_one _ init h hu j e i (ht i)
    have hi' : FloatOps.cmpf (F := Ideal) .olt (FloatOps.absf (x i)) (Ideal.ofBits .f32 0x7F800000#32) = 1#1 := hi
    rw [Cert.Lift.lit_inf] at hi'
    have hlt : max (x i) (-x i) < ⊤ := by
      by_contra hc
      simp [FloatOps.cmpf, FloatOps.absf, Ideal.cmp, hc] at hi'
    refine Cert.Lift.real_of_abs_lt (ne_of_lt ((le_max_left _ _).trans_lt hlt)) fun hb' => ?_
    rw [hb'] at hlt
    simp at hlt
  choose r hr using hall
  exact ⟨r, hr⟩

/-- The same where the array is tested whole. -/
theorem real_of_test {s : Shape} (x : FVec Ideal s .f32) {axes : List (Fin s.rank)} {hb : (⟨0, ![]⟩ : Shape).BroadcastsInDim s (![] : Fin 0 → Fin s.rank)}
    {h : s.ReducesTo axes ⟨0, ![]⟩} {hu : 0 < (⟨0, ![]⟩ : Shape).numel} {init : IVec ⟨0, ![]⟩ 1}
    (e : Host.reduce IntOp.andi (cmpf .olt (Host.absf x) (broadcastInDim s ![] hb (constant ⟨0, ![]⟩ .f32 0x7F800000#32))) init h hu = fun _ => 1#1) :
    ∃ r : s.Idx → ℝ, ∀ i, x i = (r i : EReal) :=
  real_of_all (j := fun a => a.elim0) x (fun _ => funext fun a => a.elim0) (congrFun e _)

/-- Two tests both answer one where their conjunction does. -/
theorem of_andi {u : Shape} {a b : IVec u 1} (h : andi a b = fun _ => 1#1) : (a = fun _ => 1#1) ∧ b = fun _ => 1#1 := by
  have key : ∀ p q : BitVec 1, p &&& q = 1#1 → p = 1#1 ∧ q = 1#1 := by decide
  exact ⟨funext fun i => (key _ _ (congrFun h i)).1, funext fun i => (key _ _ (congrFun h i)).2⟩

end Cert.Finite

end
-- ==== Proof.LossClaim.lean ====
/- The loss head's claims: its value against the reference, and the reference's own run. -/
module

public import proofs.«01_k».proof.Defs
public import proofs.«01_k».proof.Proof.Gen.LossHeadIdeal.Value
public import proofs.«01_k».proof.Proof.Gen.LossRefIdeal
public import proofs.«01_k».proof.Proof.Gen.Pre_loss_finite
public import proofs.«01_k».proof.Proof.LossRef
public import proofs.«01_k».proof.Proof.Finite

@[expose] public section

noncomputable section

namespace Cert.Proof

open Idealize.ShloMosaic Idealize.SL.Sem Idealize.ShloMosaic.TcCoe

/-- A row of a real array by its number, where the array has 4096 rows. -/
def rowOf {S : Shape} (f : S.Idx → ℝ) (e : Fin 4096 → Fin 1024 → S.Idx) (r : ℕ) (k : Fin 1024) : ℝ :=
  if h : r < 4096 then f (e ⟨r, h⟩ k) else 0

theorem rowOf_val {S : Shape} (f : S.Idx → ℝ) (e : Fin 4096 → Fin 1024 → S.Idx) (r : Fin 4096) (k : Fin 1024) : rowOf f e r k = f (e r k) :=
  dif_pos r.isLt

/-- The precondition read: the three arguments are real on every device. -/
theorem loss_real (m : (ℓ : Loc Cert.LossHeadIdeal.nD Cert.LossHeadIdeal.τ Cert.LossHeadIdeal.sig) → Buf (Elt Ideal) ℓ)
    (h : Cert.Pre_LossHeadIdeal_loss_finite (hPre_loss_finite := Cert.Pre_loss_finite.Gen.facts) m) (c : Dev Cert.LossHeadIdeal.nD) :
    ∃ (X : ℕ → Fin 1024 → ℝ) (G : Fin 1024 → ℝ) (Y : ℕ → Fin 1024 → ℝ),
      (∀ (r : Fin 4096) k, Cert.LossHeadIdeal.Hand.argX m c (ix3 0 r k) = (X r k : EReal))
      ∧ (∀ k, Cert.LossHeadIdeal.Hand.argG m c (ix1 k) = (G k : EReal))
      ∧ (∀ (r : Fin 4096) k, Cert.LossHeadIdeal.Hand.argY m c (ix3 0 r k) = (Y r k : EReal)) := by
  have hc := h c
  dsimp only [Cert.Pre_loss_finite.fn] at hc
  obtain ⟨h01, h2⟩ := Cert.Finite.of_andi hc
  obtain ⟨h0, h1⟩ := Cert.Finite.of_andi h01
  obtain ⟨x, hx⟩ := Cert.Finite.real_of_test _ h0
  obtain ⟨g, hg⟩ := Cert.Finite.real_of_test _ h1
  obtain ⟨y, hy⟩ := Cert.Finite.real_of_test _ h2
  exact ⟨rowOf x (fun r k => ix3 0 r k), fun k => g (ix1 k), rowOf y (fun r k => ix3 0 r k),
    fun r k => by rw [rowOf_val]; exact hx _, fun k => hg _, fun r k => by rw [rowOf_val]; exact hy _⟩

open Cert.LossRefIdeal in
/-- The reference's run changes no argument and moves no counter: it has none. -/
theorem loss_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems (by decide) r.2⟩) (Value.run m ρ)

/-- The loss head and the reference end with equal results. -/
theorem loss_algebraic : Cert.algebraic_LossHeadIdeal_LossRefIdeal_pre_loss_finite (hLossHeadIdeal := Cert.LossHeadIdeal.Gen.facts)
    (hLossRefIdeal := Cert.LossRefIdeal.Gen.facts) (hPre_loss_finite := Cert.Pre_loss_finite.Gen.facts) := by
  intro m g m' g' hpre hargs
  choose X G Y hX hG hY using loss_real m hpre
  refine ⟨fun c => Cert.LossHeadIdeal.Hand.specDx (X c) (G c) (Y c), fun c => Cert.LossHeadIdeal.Hand.specDg (X c) (G c) (Y c),
    fun c => Cert.LossHeadIdeal.Hand.specLoss (X c) (G c) (Y c), ?_, ?_⟩
  · refine (θ_run _ _ _).mono (fun r h c => ?_) (Cert.LossHeadIdeal.Value.run_blocks m g)
    exact ⟨(h c).1.trans (Cert.LossHeadIdeal.Hand.kernel_dx m c _ _ _ (hX c) (hG c) (hY c)),
      (h c).2.1.trans (Cert.LossHeadIdeal.Hand.kernel_dg m c _ _ _ (hX c) (hG c) (hY c)),
      (h c).2.2.1.trans (Cert.LossHeadIdeal.Hand.kernel_loss m c _ _ _ (hX c) (hG c) (hY c)), (h c).2.2.2⟩
  · exact Cert.LossRefIdeal.Hand.run_spec m' g' X G Y (fun c r k => by rw [(hargs c).1]; exact hX c r k)
      (fun c k => by rw [(hargs c).2.1]; exact hG c k) (fun c r k => by rw [(hargs c).2.2]; exact hY c r k)

end Cert.Proof

end
-- ==== Proof.MixReal.lean ====
/- The real functions of the mixers' backward pass: the approximate gelu and its slope, the layer normalisation and its gradient. -/
module

public import proofs.«01_k».proof.Proof.Lift

@[expose] public section

noncomputable section

namespace Cert.Mix

open Idealize.ShloMosaic

/-- A matrix of extended reals which holds the reals `f`, at every row and column. -/
def Is2 {n m : ℕ} (v : (⟨2, ![n, m]⟩ : Shape).Idx → EReal) (f : ℕ → ℕ → ℝ) : Prop :=
  ∀ (r : Fin n) (k : Fin m), v (ix2 r k) = ((f r k : ℝ) : EReal)

/-- A stack of matrices which holds the reals `f`. -/
def Is3 {a n m : ℕ} (v : (⟨3, ![a, n, m]⟩ : Shape).Idx → EReal) (f : ℕ → ℕ → ℕ → ℝ) : Prop :=
  ∀ (h : Fin a) (r : Fin n) (k : Fin m), v (ix3 h r k) = ((f h r k : ℝ) : EReal)

theorem Is2.eq {n m : ℕ} {v : (⟨2, ![n, m]⟩ : Shape).Idx → EReal} {f : ℕ → ℕ → ℝ} (h : Is2 v f) (r : Fin n) (k : Fin m) :
    v (ix2 r k) = ((f r k : ℝ) : EReal) := h r k

theorem Is3.eq {a n m : ℕ} {v : (⟨3, ![a, n, m]⟩ : Shape).Idx → EReal} {f : ℕ → ℕ → ℕ → ℝ} (h : Is3 v f) (b : Fin a) (r : Fin n) (k : Fin m) :
    v (ix3 b r k) = ((f b r k : ℝ) : EReal) := h b r k

/-- The reals held may be rewritten inside the matrix. -/
theorem Is2.congr {n m : ℕ} {v : (⟨2, ![n, m]⟩ : Shape).Idx → EReal} {f g : ℕ → ℕ → ℝ} (h : Is2 v f)
    (e : ∀ (r : Fin n) (k : Fin m), f r k = g r k) : Is2 v g := fun r k => by rw [h r k, e r k]

theorem Is2.of_eq {n m : ℕ} {v w : (⟨2, ![n, m]⟩ : Shape).Idx → EReal} {f : ℕ → ℕ → ℝ} (h : Is2 w f) (e : v = w) : Is2 v f := e ▸ h

/-- The single-precision word for the square root of two over pi, as a real. -/
def c0 : ℝ := 6693141 / 8388608
/-- The coefficient of the cube under gelu's hyperbolic tangent. -/
def c1 : ℝ := 8943 / 200000

/-- Gelu's hyperbolic tangent. -/
def th (x : ℝ) : ℝ := Real.tanh (c0 * (x + c1 * x * x * x))
/-- The approximate gelu. -/
def gel (x : ℝ) : ℝ := 1 / 2 * x * (1 + th x)
/-- Its slope. -/
def gelD (x : ℝ) : ℝ := 1 / 2 * (1 + th x) + 1 / 2 * x * (1 - th x * th x) * (c0 * (1 + 26829 / 200000 * x * x))

/-- The mean of row `r` of `f` over its 512 columns. -/
def mu (f : ℕ → ℕ → ℝ) (r : ℕ) : ℝ := (∑ k : Fin 512, f r k) / 512
/-- A row with its mean taken off. -/
def cen (f : ℕ → ℕ → ℝ) (r k : ℕ) : ℝ := f r k - mu f r
/-- The variance of a row, with the small number added. -/
def vr (f : ℕ → ℕ → ℝ) (r : ℕ) : ℝ := (∑ k : Fin 512, cen f r k * cen f r k) / 512 + Lift.eps
/-- One over the standard deviation. -/
def rs (f : ℕ → ℕ → ℝ) (r : ℕ) : ℝ := (Real.sqrt (vr f r))⁻¹
/-- The normalised row. -/
def nrm (f : ℕ → ℕ → ℝ) (r k : ℕ) : ℝ := cen f r k * rs f r
/-- The gradient through the normalisation of a row `f`, from the gradient `d` of the normalised row. -/
def lnB (f d : ℕ → ℕ → ℝ) (r k : ℕ) : ℝ := rs f r * (d r k - mu d r - nrm f r k * mu (fun r k => d r k * nrm f r k) r)

/-- The gelus of the gate's halves, the gain-and-shift of the normalised one, and the gradient of the mixed half. -/
def gU (P : ℕ → ℕ → ℝ) (r k : ℕ) : ℝ := gel (P r (3072 + k))
def gV (P : ℕ → ℕ → ℝ) (r k : ℕ) : ℝ := gel (P r (3584 + k))
def nG (P G B : ℕ → ℕ → ℝ) (r k : ℕ) : ℝ := nrm (gV P) r k * G 0 k + B 0 k
def zG (P D : ℕ → ℕ → ℝ) (r k : ℕ) : ℝ := D r (1536 + k) * gU P r k

theorem vr_pos (f : ℕ → ℕ → ℝ) (r : ℕ) : 0 < vr f r := by
  have : 0 ≤ ∑ k : Fin 512, cen f r k * cen f r k := Finset.sum_nonneg fun k _ => mul_self_nonneg _
  have := Lift.eps_pos
  unfold vr; positivity

theorem lit_c0 : Ideal.ofBits .f32 1061962282#32 = ((c0 : ℝ) : EReal) := by
  simp [Ideal.ofBits, Ideal.ieee, c0]; norm_num; rw [← EReal.coe_mul]; norm_num
theorem lit_512 : Ideal.ofBits .f32 1140850688#32 = ((512 : ℝ) : EReal) := by
  simp [Ideal.ofBits, Ideal.ieee]; norm_num; rw [← EReal.coe_mul]; norm_num
theorem lit_three : Ideal.ofBits .f32 1077936128#32 = ((3 : ℝ) : EReal) := by
  simp [Ideal.ofBits, Ideal.ieee]; norm_num; rw [← EReal.coe_mul]; norm_num

end Cert.Mix

end
-- ==== Proof.MixSgu.lean ====
/- The spatial gate's backward pass on one tile of 512 rows (four blocks of 128 rows, four heads of 128 columns): what the kernel's payloads hold. -/
module

public import proofs.«01_k».proof.Proof.MixReal
public import proofs.«01_k».proof.Proof.Gen.MixIdeal.Skeleton

@[expose] public section

noncomputable section

namespace Cert.Mix

open Cert.MixIdeal Cert.MixIdeal.Gen
open Idealize.ShloMosaic hiding Ideal
open Idealize.ShloMosaic (Ideal)

theorem named_c1 (b : BitVec 32) : Named.named (F := Ideal) κ "gelu_cubic" (φ := .f32) b = ((c1 : ℝ) : EReal) := rfl
theorem named_c3 (b : BitVec 32) : Named.named (F := Ideal) κ "gelu_cubic_slope" (φ := .f32) b = ((26829 / 200000 : ℝ) : EReal) := rfl
theorem tanh_coe (x : ℝ) : Ideal.tanh (x : EReal) = ((Real.tanh x : ℝ) : EReal) := rfl

/-- A chunk mixes the rows of its own chunk and of the chunks before: `j` reaches `i`. -/
def reach (i j : ℕ) : Prop := j / 64 ≤ i / 64
instance (i j : ℕ) : Decidable (reach i j) := inferInstanceAs (Decidable (_ ≤ _))

/-- The mixing matrix of a head with its masked entries zero. -/
def wm (W : ℕ → ℕ → ℝ) (i j : ℕ) : ℝ := if reach i j then W i j else 0
/-- A tile's part of the gradient of head `h`'s mixing matrix, from the normalised half `N` and the gradient `Z` of the mixed half. -/
def dwT (N Z : ℕ → ℕ → ℝ) (h i j : ℕ) : ℝ :=
  if reach i j then ∑ b : Fin 4, ∑ c : Fin 128, Z (128 * b + i) (128 * h + c) * N (128 * b + j) (128 * h + c) else 0
/-- A tile's part of the gradient of the bias of head `h`, channel by channel. -/
def dbT (Z : ℕ → ℕ → ℝ) (h i c : ℕ) : ℝ := ∑ b : Fin 4, Z (128 * b + i) (128 * h + c)
/-- The gradient of the normalised half: the transposed mixing of its own block of 128 rows. -/
def dvT (W : ℕ → ℕ → ℕ → ℝ) (Z : ℕ → ℕ → ℝ) (r k : ℕ) : ℝ :=
  ∑ i : Fin 128, wm (W (k / 128)) i (r % 128) * Z (128 * (r / 128) + i) k
/-- The mixed half: each block of 128 rows mixed by the head's matrix, and the row's bias. -/
def zzT (W : ℕ → ℕ → ℕ → ℝ) (B : ℕ → ℕ → ℝ) (N : ℕ → ℕ → ℝ) (r k : ℕ) : ℝ :=
  ∑ j : Fin 128, wm (W (k / 128)) (r % 128) j * N (128 * (r / 128) + j) k + B (k / 128) (r % 128)

/-- The gelu of the gate's half. -/
theorem gelu_u {v : FVec Ideal S512x512 .bf16} {f : ℕ → ℕ → ℝ} (h : Is2 (n := 512) (m := 512) v f) :
    Is2 (n := 512) (m := 512) (k0_pay185 (F := Ideal) (k0_pay183 v) (k0_pay184 v)) (fun r k => gel (f r k)) := by
  intro r k
  pointwise [k0_pay185, k0_pay183, k0_pay184, k0_pay181]
  simp only [h.eq, Lift.lit_half, lit_c0, named_c1, ← EReal.coe_mul, ← EReal.coe_add, tanh_coe, ← EReal.coe_one]
  rfl

/-- The gated half's gelu, normalised over the row, with its reciprocal deviations. -/
theorem nrm_v {v : FVec Ideal S512x512 .f32} {f : ℕ → ℕ → ℝ} (h : Is2 (n := 512) (m := 512) v f) :
    Is2 (n := 512) (m := 512) (k0_pay189 (F := Ideal) v) (nrm fun r k => gel (f r k))
      ∧ Is2 (n := 512) (m := 1) (k0_pay188 (F := Ideal) v) (fun r _ => rs (fun r k => gel (f r k)) r) := by
  have hc : ∀ (r k : Fin 512), k0_pay187 (F := Ideal) v (ix2 r k) = ((cen (fun r k => gel (f r k)) r k : ℝ) : EReal) := by
    intro r k
    pointwise [k0_pay187, k0_pay186]
    simp only [h.eq, Lift.lit_half, lit_c0, named_c1, ← EReal.coe_mul, ← EReal.coe_add, tanh_coe, ← EReal.coe_one, Lift.sum_coe, lit_512,
      Lift.div_coe (by norm_num : (512 : ℝ) ≠ 0), ← EReal.coe_sub]
    rfl
  have hr : ∀ (r : Fin 512) (k : Fin 1), k0_pay188 (F := Ideal) v (ix2 r k) = ((rs (fun r k => gel (f r k)) r : ℝ) : EReal) := by
    intro r k
    pointwise [k0_pay188]
    simp only [hc, ← EReal.coe_mul, ← EReal.coe_add, Lift.sum_coe, lit_512, Lift.lit_eps, Lift.div_coe (by norm_num : (512 : ℝ) ≠ 0)]
    exact Lift.rsqrt_coe (vr_pos _ _)
  refine ⟨fun r k => ?_, hr⟩
  pointwise [k0_pay189]
  simp only [hc, hr, ← EReal.coe_mul]
  rfl

/-- The normalised half with its gain and its shift. -/
theorem vn_v {v : FVec Ideal S512x512 .f32} {g b : Vec Ideal S1x512 .f32} {f G B : ℕ → ℕ → ℝ} (h : Is2 (n := 512) (m := 512) v f)
    (hg : Is2 (n := 1) (m := 512) g G) (hb : Is2 (n := 1) (m := 512) b B) :
    Is2 (n := 512) (m := 512) (k0_pay190 (F := Ideal) v g b) (fun r k => nrm (fun r k => gel (f r k)) r k * G 0 k + B 0 k) := by
  have hn := (nrm_v h).1
  intro r k
  pointwise [k0_pay190]
  simp only [hn.eq, hg.eq, hb.eq, ← EReal.coe_mul, ← EReal.coe_add]
  rfl

/-- The gradient of the mixed half, in both widths. -/
theorem dz_v {u d : FVec Ideal S512x512 .f32} {U D : ℕ → ℕ → ℝ} (hu : Is2 (n := 512) (m := 512) u U) (hd : Is2 (n := 512) (m := 512) d D) :
    Is2 (n := 512) (m := 512) (k0_pay192 (F := Ideal) u d) (fun r k => D r k * U r k)
      ∧ Is2 (n := 512) (m := 512) (k0_pay193 (F := Ideal) u d) (fun r k => D r k * U r k) := by
  constructor <;> intro r k
  · pointwise [k0_pay192]
    simp only [hu.eq, hd.eq, ← EReal.coe_mul]
  · pointwise [k0_pay193, k0_pay192]
    simp only [hu.eq, hd.eq, ← EReal.coe_mul]

/-- The chunk of a column. -/
theorem chunk_col (i j : Fin 128) : k0_pay194 (ix2 i j) = BitVec.ofNat 32 (j.val / 64) := by
  pointwise [k0_pay194]
  revert j
  decide +kernel

/-- The mask the kernel computes. -/
def mask : IVec S128x128 1 := k0_pay199 k0_pay194 k0_pay195 k0_pay196 k0_pay197 k0_pay198

/-- It is set where the column's chunk is not after the row's. -/
theorem mask_eq (i j : Fin 128) : mask (ix2 i j) = if reach i j then 1#1 else 0#1 := by
  have hrow : ∀ i : Fin 128, Scalar.select
      (IntOp.andi (k0_pay196 (ix2 i (0 : Fin 128))) (IntOp.cmpi CmpIPredicate.ne (k0_pay197 (ix2 i (0 : Fin 128))) 0#32))
      (IntOp.subi (k0_pay195 (ix2 i (0 : Fin 128))) 1#32) (k0_pay195 (ix2 i (0 : Fin 128))) = BitVec.ofNat 32 (i.val / 64) := by
    intro i
    pointwise [k0_pay196, k0_pay195, k0_pay197]
    revert i
    decide +kernel
  have h5 : k0_pay195 (ix2 i j) = k0_pay195 (ix2 i (0 : Fin 128)) := by pointwise [k0_pay195]
  have h6 : k0_pay196 (ix2 i j) = k0_pay196 (ix2 i (0 : Fin 128)) := by pointwise [k0_pay196]
  have h7 : k0_pay197 (ix2 i j) = k0_pay197 (ix2 i (0 : Fin 128)) := by pointwise [k0_pay197]
  pointwise [mask, k0_pay199, k0_pay198]
  rw [chunk_col, h5, h6, h7, hrow]
  have : ∀ a b : Fin 2, IntOp.cmpi CmpIPredicate.sle (BitVec.ofNat 32 a.val) (BitVec.ofNat 32 b.val) = if a.val ≤ b.val then 1#1 else 0#1 := by
    decide +kernel
  exact this ⟨j.val / 64, by omega⟩ ⟨i.val / 64, by omega⟩

theorem select_ite {α : Type} (p : Prop) [Decidable p] (a b : α) : Scalar.select (if p then 1#1 else 0#1) a b = if p then a else b := by
  split <;> simp [Scalar.select]

theorem coe_ite (p : Prop) [Decidable p] (a : ℝ) : (if p then (a : EReal) else 0) = (((if p then a else 0 : ℝ)) : EReal) := by
  split <;> simp

/-- The first head's part of the gradient of the mixing matrix: as the first tile stores it, and as a later tile adds it. -/
theorem dw_0 {vn db : FVec Ideal S512x512 .bf16} {acc : Vec Ideal S1x128x128 .f32} {N Z : ℕ → ℕ → ℝ} {A : ℕ → ℕ → ℝ}
    (hn : Is2 (n := 512) (m := 512) vn N) (hz : Is2 (n := 512) (m := 512) db Z) (ha : Is3 (a := 1) (n := 128) (m := 128) acc fun _ => A) :
    Is3 (a := 1) (n := 128) (m := 128) (k0_pay219 mask (k0_pay215 vn db (k0_pay212 vn db (k0_pay205 vn db k0_pay201)))) (fun _ => dwT N Z 0)
      ∧ Is3 (a := 1) (n := 128) (m := 128) (k0_pay220 mask (k0_pay215 vn db (k0_pay212 vn db (k0_pay205 vn db k0_pay201))) acc) (fun _ i j => A i j + dwT N Z 0 i j) := by
  constructor <;> intro o i j
  · pointwise [k0_pay219, k0_pay215, k0_pay212, k0_pay205, k0_pay201, k0_pay220, k0_pay218]
    simp only [hn.eq, hz.eq, mask_eq, select_ite, ← EReal.coe_mul, ← EReal.coe_add, Lift.sum_coe, coe_ite, zero_add]
    simp [dwT, Fin.sum_univ_four]
  · pointwise [k0_pay219, k0_pay215, k0_pay212, k0_pay205, k0_pay201, k0_pay220, k0_pay218]
    simp only [hn.eq, hz.eq, ha.eq, mask_eq, select_ite, ← EReal.coe_mul, ← EReal.coe_add, Lift.sum_coe, coe_ite, zero_add]
    simp [dwT, Fin.sum_univ_four]

/-- The first head's part of the gradient of the bias. -/
theorem db_0 {dz : FVec Ideal S512x512 .f32} {acc : Vec Ideal S1x128x128 .f32} {Z : ℕ → ℕ → ℝ} {A : ℕ → ℕ → ℝ}
    (hz : Is2 (n := 512) (m := 512) dz Z) (ha : Is3 (a := 1) (n := 128) (m := 128) acc fun _ => A) :
    Is3 (a := 1) (n := 128) (m := 128) (k0_pay221 (k0_pay216 dz (k0_pay209 dz (k0_pay206 dz k0_pay202)))) (fun _ => dbT Z 0)
      ∧ Is3 (a := 1) (n := 128) (m := 128) (k0_pay222 (k0_pay216 dz (k0_pay209 dz (k0_pay206 dz k0_pay202))) acc) (fun _ i j => A i j + dbT Z 0 i j) := by
  constructor <;> intro o i j
  · pointwise [k0_pay221, k0_pay216, k0_pay209, k0_pay206, k0_pay202, k0_pay222]
    simp only [hz.eq, ← EReal.coe_add, zero_add]
    simp [dbT, Fin.sum_univ_four]
  · pointwise [k0_pay221, k0_pay216, k0_pay209, k0_pay206, k0_pay202, k0_pay222]
    simp only [hz.eq, ha.eq, ← EReal.coe_add, zero_add]
    simp [dbT, Fin.sum_univ_four]

/-- The second head's part of the gradient of the mixing matrix: as the first tile stores it, and as a later tile adds it. -/
theorem dw_1 {vn db : FVec Ideal S512x512 .bf16} {acc : Vec Ideal S1x128x128 .f32} {N Z : ℕ → ℕ → ℝ} {A : ℕ → ℕ → ℝ}
    (hn : Is2 (n := 512) (m := 512) vn N) (hz : Is2 (n := 512) (m := 512) db Z) (ha : Is3 (a := 1) (n := 128) (m := 128) acc fun _ => A) :
    Is3 (a := 1) (n := 128) (m := 128) (k0_pay264 vn db mask (k0_pay252 vn db (k0_pay242 vn db (k0_pay232 vn db k0_pay225)))) (fun _ => dwT N Z 1)
      ∧ Is3 (a := 1) (n := 128) (m := 128) (k0_pay265 vn db mask (k0_pay252 vn db (k0_pay242 vn db (k0_pay232 vn db k0_pay225))) acc) (fun _ i j => A i j + dwT N Z 1 i j) := by
  constructor <;> intro o i j
  · pointwise [k0_pay264, k0_pay252, k0_pay242, k0_pay232, k0_pay225, k0_pay265, k0_pay263]
    simp only [hn.eq, hz.eq, mask_eq, select_ite, ← EReal.coe_mul, ← EReal.coe_add, Lift.sum_coe, coe_ite, zero_add]
    simp [dwT, Fin.sum_univ_four]
  · pointwise [k0_pay264, k0_pay252, k0_pay242, k0_pay232, k0_pay225, k0_pay265, k0_pay263]
    simp only [hn.eq, hz.eq, ha.eq, mask_eq, select_ite, ← EReal.coe_mul, ← EReal.coe_add, Lift.sum_coe, coe_ite, zero_add]
    simp [dwT, Fin.sum_univ_four]

/-- The second head's part of the gradient of the bias. -/
theorem db_1 {dz : FVec Ideal S512x512 .f32} {acc : Vec Ideal S1x128x128 .f32} {Z : ℕ → ℕ → ℝ} {A : ℕ → ℕ → ℝ}
    (hz : Is2 (n := 512) (m := 512) dz Z) (ha : Is3 (a := 1) (n := 128) (m := 128) acc fun _ => A) :
    Is3 (a := 1) (n := 128) (m := 128) (k0_pay266 dz (k0_pay253 dz (k0_pay243 dz (k0_pay233 dz k0_pay226)))) (fun _ => dbT Z 1)
      ∧ Is3 (a := 1) (n := 128) (m := 128) (k0_pay267 dz (k0_pay253 dz (k0_pay243 dz (k0_pay233 dz k0_pay226))) acc) (fun _ i j => A i j + dbT Z 1 i j) := by
  constructor <;> intro o i j
  · pointwise [k0_pay266, k0_pay253, k0_pay243, k0_pay233, k0_pay226, k0_pay267, k0_pay262]
    simp only [hz.eq, ← EReal.coe_add, zero_add]
    simp [dbT, Fin.sum_univ_four]
  · pointwise [k0_pay266, k0_pay253, k0_pay243, k0_pay233, k0_pay226, k0_pay267, k0_pay262]
    simp only [hz.eq, ha.eq, ← EReal.coe_add, zero_add]
    simp [dbT, Fin.sum_univ_four]

/-- The third head's part of the gradient of the mixing matrix: as the first tile stores it, and as a later tile adds it. -/
theorem dw_2 {vn db : FVec Ideal S512x512 .bf16} {acc : Vec Ideal S1x128x128 .f32} {N Z : ℕ → ℕ → ℝ} {A : ℕ → ℕ → ℝ}
    (hn : Is2 (n := 512) (m := 512) vn N) (hz : Is2 (n := 512) (m := 512) db Z) (ha : Is3 (a := 1) (n := 128) (m := 128) acc fun _ => A) :
    Is3 (a := 1) (n := 128) (m := 128) (k0_pay293 vn db mask (k0_pay283 vn db (k0_pay277 vn db (k0_pay272 vn db k0_pay270)))) (fun _ => dwT N Z 2)
      ∧ Is3 (a := 1) (n := 128) (m := 128) (k0_pay294 vn db mask (k0_pay283 vn db (k0_pay277 vn db (k0_pay272 vn db k0_pay270))) acc) (fun _ i j => A i j + dwT N Z 2 i j) := by
  constructor <;> intro o i j
  · pointwise [k0_pay293, k0_pay283, k0_pay277, k0_pay272, k0_pay270, k0_pay294, k0_pay292]
    simp only [hn.eq, hz.eq, mask_eq, select_ite, ← EReal.coe_mul, ← EReal.coe_add, Lift.sum_coe, coe_ite, zero_add]
    simp [dwT, Fin.sum_univ_four]
  · pointwise [k0_pay293, k0_pay283, k0_pay277, k0_pay272, k0_pay270, k0_pay294, k0_pay292]
    simp only [hn.eq, hz.eq, ha.eq, mask_eq, select_ite, ← EReal.coe_mul, ← EReal.coe_add, Lift.sum_coe, coe_ite, zero_add]
    simp [dwT, Fin.sum_univ_four]

/-- The third head's part of the gradient of the bias. -/
theorem db_2 {dz : FVec Ideal S512x512 .f32} {acc : Vec Ideal S1x128x128 .f32} {Z : ℕ → ℕ → ℝ} {A : ℕ → ℕ → ℝ}
    (hz : Is2 (n := 512) (m := 512) dz Z) (ha : Is3 (a := 1) (n := 128) (m := 128) acc fun _ => A) :
    Is3 (a := 1) (n := 128) (m := 128) (k0_pay295 (k0_pay290 dz (k0_pay284 dz (k0_pay278 dz (k0_pay273 dz))))) (fun _ => dbT Z 2)
      ∧ Is3 (a := 1) (n := 128) (m := 128) (k0_pay296 (k0_pay290 dz (k0_pay284 dz (k0_pay278 dz (k0_pay273 dz)))) acc) (fun _ i j => A i j + dbT Z 2 i j) := by
  constructor <;> intro o i j
  · pointwise [k0_pay295, k0_pay290, k0_pay284, k0_pay278, k0_pay273, k0_pay296]
    simp only [hz.eq, ← EReal.coe_add, zero_add]
    simp [dbT, Fin.sum_univ_four]
  · pointwise [k0_pay295, k0_pay290, k0_pay284, k0_pay278, k0_pay273, k0_pay296]
    simp only [hz.eq, ha.eq, ← EReal.coe_add, zero_add]
    simp [dbT, Fin.sum_univ_four]

/-- The fourth head's part of the gradient of the mixing matrix: as the first tile stores it, and as a later tile adds it. -/
theorem dw_3 {vn db : FVec Ideal S512x512 .bf16} {acc : Vec Ideal S1x128x128 .f32} {N Z : ℕ → ℕ → ℝ} {A : ℕ → ℕ → ℝ}
    (hn : Is2 (n := 512) (m := 512) vn N) (hz : Is2 (n := 512) (m := 512) db Z) (ha : Is3 (a := 1) (n := 128) (m := 128) acc fun _ => A) :
    Is3 (a := 1) (n := 128) (m := 128) (k0_pay323 mask (k0_pay320 vn db (k0_pay312 vn db (k0_pay308 vn db k0_pay299)) (k0_pay316 db) (k0_pay317 vn))) (fun _ => dwT N Z 3)
      ∧ Is3 (a := 1) (n := 128) (m := 128) (k0_pay324 mask (k0_pay320 vn db (k0_pay312 vn db (k0_pay308 vn db k0_pay299)) (k0_pay316 db) (k0_pay317 vn)) acc) (fun _ i j => A i j + dwT N Z 3 i j) := by
  constructor <;> intro o i j
  · pointwise [k0_pay323, k0_pay320, k0_pay312, k0_pay308, k0_pay299, k0_pay316, k0_pay317, k0_pay324, k0_pay322]
    simp only [hn.eq, hz.eq, mask_eq, select_ite, ← EReal.coe_mul, ← EReal.coe_add, Lift.sum_coe, coe_ite, zero_add]
    simp [dwT, Fin.sum_univ_four]
  · pointwise [k0_pay323, k0_pay320, k0_pay312, k0_pay308, k0_pay299, k0_pay316, k0_pay317, k0_pay324, k0_pay322]
    simp only [hn.eq, hz.eq, ha.eq, mask_eq, select_ite, ← EReal.coe_mul, ← EReal.coe_add, Lift.sum_coe, coe_ite, zero_add]
    simp [dwT, Fin.sum_univ_four]

/-- The fourth head's part of the gradient of the bias. -/
theorem db_3 {dz : FVec Ideal S512x512 .f32} {acc : Vec Ideal S1x128x128 .f32} {Z : ℕ → ℕ → ℝ} {A : ℕ → ℕ → ℝ}
    (hz : Is2 (n := 512) (m := 512) dz Z) (ha : Is3 (a := 1) (n := 128) (m := 128) acc fun _ => A) :
    Is3 (a := 1) (n := 128) (m := 128) (k0_pay325 (k0_pay321 dz (k0_pay313 dz (k0_pay309 dz k0_pay300)))) (fun _ => dbT Z 3)
      ∧ Is3 (a := 1) (n := 128) (m := 128) (k0_pay326 (k0_pay321 dz (k0_pay313 dz (k0_pay309 dz k0_pay300))) acc) (fun _ i j => A i j + dbT Z 3 i j) := by
  constructor <;> intro o i j
  · pointwise [k0_pay325, k0_pay321, k0_pay313, k0_pay309, k0_pay300, k0_pay326]
    simp only [hz.eq, ← EReal.coe_add, zero_add]
    simp [dbT, Fin.sum_univ_four]
  · pointwise [k0_pay325, k0_pay321, k0_pay313, k0_pay309, k0_pay300, k0_pay326]
    simp only [hz.eq, ha.eq, ← EReal.coe_add, zero_add]
    simp [dbT, Fin.sum_univ_four]

end Cert.Mix

end
-- ==== Proof.MixDv.lean ====
/- The gradient of the normalised half of the spatial gate on one tile, the parts of the normalisation's gain and shift in it, and the gradient of the half itself. -/
module

public import proofs.«01_k».proof.Proof.MixSgu

@[expose] public section

noncomputable section

namespace Cert.Mix

open Cert.MixIdeal Cert.MixIdeal.Gen
open Idealize.ShloMosaic hiding Ideal
open Idealize.ShloMosaic (Ideal)

/-- One head's columns of the gradient of the normalised half. -/
def dvH (W : ℕ → ℕ → ℝ) (Z : ℕ → ℕ → ℝ) (h r c : ℕ) : ℝ := ∑ i : Fin 128, wm W i (r % 128) * Z (128 * (r / 128) + i) (128 * h + c)

theorem dvH_block (W : ℕ → ℕ → ℝ) (Z : ℕ → ℕ → ℝ) (h b r c : ℕ) (h0 : 128 * b ≤ r) (h1 : r < 128 * b + 128) :
    dvH W Z h r c = ∑ i : Fin 128, wm W i (r - 128 * b) * Z (128 * b + i) (128 * h + c) := by
  unfold dvH
  rw [show r % 128 = r - 128 * b by omega, show r / 128 = b by omega]

theorem dvT_eq (W : ℕ → ℕ → ℕ → ℝ) (Z : ℕ → ℕ → ℝ) (r k : ℕ) : dvT W Z r k = dvH (W (k / 128)) Z (k / 128) r (k % 128) := by
  unfold dvT dvH
  rw [Nat.div_add_mod]

/-- The first head's mixing matrix as the kernel masks it. -/
theorem wm_0 {w : Vec Ideal S1x128x128 .f32} {W : ℕ → ℕ → ℝ} (hw : Is3 (a := 1) (n := 128) (m := 128) w fun _ => W) :
    Is2 (n := 128) (m := 128) (k0_pay200 (F := Ideal) k0_pay194 k0_pay195 k0_pay196 k0_pay197 k0_pay198 w) (wm W) := by
  intro i j
  pointwise [k0_pay200]
  rw [show k0_pay199 k0_pay194 k0_pay195 k0_pay196 k0_pay197 k0_pay198 = mask from rfl]
  simp only [hw.eq, mask_eq, select_ite, coe_ite]
  rfl

/-- The second head's mixing matrix as the kernel masks it. -/
theorem wm_1 {w : Vec Ideal S1x128x128 .f32} {W : ℕ → ℕ → ℝ} (hw : Is3 (a := 1) (n := 128) (m := 128) w fun _ => W) :
    Is2 (n := 128) (m := 128) (k0_pay224 (F := Ideal) mask w) (wm W) := by
  intro i j
  pointwise [k0_pay224]
  simp only [hw.eq, mask_eq, select_ite, coe_ite]
  rfl

/-- The third head's mixing matrix as the kernel masks it. -/
theorem wm_2 {w : Vec Ideal S1x128x128 .f32} {W : ℕ → ℕ → ℝ} (hw : Is3 (a := 1) (n := 128) (m := 128) w fun _ => W) :
    Is2 (n := 128) (m := 128) (k0_pay269 (F := Ideal) mask w) (wm W) := by
  intro i j
  pointwise [k0_pay269]
  simp only [hw.eq, mask_eq, select_ite, coe_ite]
  rfl

/-- The fourth head's mixing matrix as the kernel masks it. -/
theorem wm_3 {w : Vec Ideal S1x128x128 .f32} {W : ℕ → ℕ → ℝ} (hw : Is3 (a := 1) (n := 128) (m := 128) w fun _ => W) :
    Is2 (n := 128) (m := 128) (k0_pay298 (F := Ideal) mask w) (wm W) := by
  intro i j
  pointwise [k0_pay298]
  simp only [hw.eq, mask_eq, select_ite, coe_ite]
  rfl

/-- The first head's columns. -/
theorem dvh_0 {db : FVec Ideal S512x512 .bf16} {w : Vec Ideal S1x128x128 .f32} {W Z : ℕ → ℕ → ℝ}
    (hz : Is2 (n := 512) (m := 512) db Z) (hw : Is3 (a := 1) (n := 128) (m := 128) w fun _ => W) :
    Is2 (n := 512) (m := 128) (k0_pay223 (F := Ideal) (k0_pay207 db (k0_pay200 k0_pay194 k0_pay195 k0_pay196 k0_pay197 k0_pay198 w)) (k0_pay210 db (k0_pay200 k0_pay194 k0_pay195 k0_pay196 k0_pay197 k0_pay198 w)) (k0_pay213 db (k0_pay200 k0_pay194 k0_pay195 k0_pay196 k0_pay197 k0_pay198 w)) (k0_pay217 db (k0_pay200 k0_pay194 k0_pay195 k0_pay196 k0_pay197 k0_pay198 w))) (dvH W Z 0) := by
  intro r c
  pointwise [k0_pay223, k0_pay207, k0_pay210, k0_pay213, k0_pay217]
  simp only [(wm_0 hw).eq, hz.eq, ← EReal.coe_mul, Lift.sum_coe]
  split_ifs with a b d
  · rw [dvH_block W Z 0 0 r c (by omega) (by omega)] <;> simp
  · rw [dvH_block W Z 0 1 r c (by omega) (by omega)] <;> simp
  · rw [dvH_block W Z 0 2 r c (by omega) (by omega)] <;> simp [Nat.sub_sub]
  · rw [dvH_block W Z 0 3 r c (by omega) (by omega)] <;> simp [Nat.sub_sub]

/-- The second head's columns. -/
theorem dvh_1 {db : FVec Ideal S512x512 .bf16} {w : Vec Ideal S1x128x128 .f32} {W Z : ℕ → ℕ → ℝ}
    (hz : Is2 (n := 512) (m := 512) db Z) (hw : Is3 (a := 1) (n := 128) (m := 128) w fun _ => W) :
    Is2 (n := 512) (m := 128) (k0_pay268 (F := Ideal) db (k0_pay224 mask w) (k0_pay234 db (k0_pay224 mask w)) (k0_pay244 db (k0_pay224 mask w)) (k0_pay254 db (k0_pay224 mask w))) (dvH W Z 1) := by
  intro r c
  pointwise [k0_pay268, k0_pay234, k0_pay244, k0_pay254]
  simp only [(wm_1 hw).eq, hz.eq, ← EReal.coe_mul, Lift.sum_coe]
  split_ifs with a b d
  · rw [dvH_block W Z 1 0 r c (by omega) (by omega)] <;> simp
  · rw [dvH_block W Z 1 1 r c (by omega) (by omega)] <;> simp
  · rw [dvH_block W Z 1 2 r c (by omega) (by omega)] <;> simp [Nat.sub_sub]
  · rw [dvH_block W Z 1 3 r c (by omega) (by omega)] <;> simp [Nat.sub_sub]

/-- The third head's columns. -/
theorem dvh_2 {db : FVec Ideal S512x512 .bf16} {w : Vec Ideal S1x128x128 .f32} {W Z : ℕ → ℕ → ℝ}
    (hz : Is2 (n := 512) (m := 512) db Z) (hw : Is3 (a := 1) (n := 128) (m := 128) w fun _ => W) :
    Is2 (n := 512) (m := 128) (k0_pay297 (F := Ideal) (k0_pay274 db (k0_pay269 mask w)) (k0_pay279 db (k0_pay269 mask w)) (k0_pay285 db (k0_pay269 mask w)) (k0_pay291 db (k0_pay269 mask w))) (dvH W Z 2) := by
  intro r c
  pointwise [k0_pay297, k0_pay274, k0_pay279, k0_pay285, k0_pay291]
  simp only [(wm_2 hw).eq, hz.eq, ← EReal.coe_mul, Lift.sum_coe]
  split_ifs with a b d
  · rw [dvH_block W Z 2 0 r c (by omega) (by omega)] <;> simp
  · rw [dvH_block W Z 2 1 r c (by omega) (by omega)] <;> simp
  · rw [dvH_block W Z 2 2 r c (by omega) (by omega)] <;> simp [Nat.sub_sub]
  · rw [dvH_block W Z 2 3 r c (by omega) (by omega)] <;> simp [Nat.sub_sub]

/-- All four heads side by side. -/
theorem dvn_v {db : FVec Ideal S512x512 .bf16} {x0 x1 x2 : FVec Ideal S512x128 .f32} {w : Vec Ideal S1x128x128 .f32} {W : ℕ → ℕ → ℕ → ℝ} {Z : ℕ → ℕ → ℝ}
    (hz : Is2 (n := 512) (m := 512) db Z) (h0 : Is2 (n := 512) (m := 128) x0 (dvH (W 0) Z 0)) (h1 : Is2 (n := 512) (m := 128) x1 (dvH (W 1) Z 1))
    (h2 : Is2 (n := 512) (m := 128) x2 (dvH (W 2) Z 2)) (hw : Is3 (a := 1) (n := 128) (m := 128) w fun _ => W 3) :
    Is2 (n := 512) (m := 512) (k0_pay327 (F := Ideal) db x0 x1 x2 (k0_pay298 mask w) (k0_pay310 db (k0_pay298 mask w)) (k0_pay314 db (k0_pay298 mask w)) (k0_pay318 db (k0_pay298 mask w))) (dvT W Z) := by
  intro r k
  pointwise [k0_pay327, k0_pay310, k0_pay314, k0_pay318]
  simp only [(wm_3 hw).eq, hz.eq, h0.eq, h1.eq, h2.eq, ← EReal.coe_mul, Lift.sum_coe]
  rw [dvT_eq]
  split_ifs with a b c d e f
  · rw [show k.val / 128 = 0 by omega, show k.val % 128 = k.val by omega]
  · rw [show k.val / 128 = 1 by omega, show k.val % 128 = k.val - 128 by omega]
  · rw [show k.val / 128 = 2 by omega, show k.val % 128 = k.val - 128 - 128 by omega]
  · rw [show k.val / 128 = 3 by omega, show k.val % 128 = k.val - 128 - 128 - 128 by omega, dvH_block _ Z 3 0 r _ (by omega) (by omega)] <;> simp
  · rw [show k.val / 128 = 3 by omega, show k.val % 128 = k.val - 128 - 128 - 128 by omega, dvH_block _ Z 3 1 r _ (by omega) (by omega)] <;> simp
  · rw [show k.val / 128 = 3 by omega, show k.val % 128 = k.val - 128 - 128 - 128 by omega, dvH_block _ Z 3 2 r _ (by omega) (by omega)] <;> simp [Nat.sub_sub]
  · rw [show k.val / 128 = 3 by omega, show k.val % 128 = k.val - 128 - 128 - 128 by omega, dvH_block _ Z 3 3 r _ (by omega) (by omega)] <;> simp [Nat.sub_sub]

/-- The part of the tile in the gain's gradient and in the shift's: as the first tile stores it, and as a later tile adds it. -/
theorem dsl_v {n : FVec Ideal S512x512 .f32} {db : FVec Ideal S512x512 .bf16} {x0 x1 x2 : FVec Ideal S512x128 .f32} {x3 : FVec Ideal S128x128 .bf16}
    {x4 x5 x6 : FVec Ideal S128x128 .f32} {acc : Vec Ideal S1x512 .f32} {N D A : ℕ → ℕ → ℝ} (hn : Is2 (n := 512) (m := 512) n N)
    (hd : Is2 (n := 512) (m := 512) (k0_pay327 (F := Ideal) db x0 x1 x2 x3 x4 x5 x6) D) (ha : Is2 (n := 1) (m := 512) acc A) :
    Is2 (n := 1) (m := 512) (k0_pay328 (F := Ideal) n db x0 x1 x2 x3 x4 x5 x6) (fun _ k => ∑ r : Fin 512, D r k * N r k)
      ∧ Is2 (n := 1) (m := 512) (k0_pay329 (F := Ideal) n db x0 x1 x2 x3 x4 x5 x6 acc) (fun _ k => A 0 k + ∑ r : Fin 512, D r k * N r k)
      ∧ Is2 (n := 1) (m := 512) (k0_pay330 (F := Ideal) db x0 x1 x2 x3 x4 x5 x6) (fun _ k => ∑ r : Fin 512, D r k)
      ∧ Is2 (n := 1) (m := 512) (k0_pay331 (F := Ideal) db x0 x1 x2 x3 x4 x5 x6 acc) (fun _ k => A 0 k + ∑ r : Fin 512, D r k) := by
  refine ⟨?_, ?_, ?_, ?_⟩ <;> intro o k
  · pointwise [k0_pay328]
    simp only [hd.eq, hn.eq, ← EReal.coe_mul, Lift.sum_coe]
  · pointwise [k0_pay329, k0_pay328]
    simp only [hd.eq, hn.eq, ha.eq, ← EReal.coe_mul, ← EReal.coe_add, Lift.sum_coe]
    rw [show o = 0 from Subsingleton.elim _ _]; rfl
  · pointwise [k0_pay330]
    simp only [hd.eq, Lift.sum_coe]
  · pointwise [k0_pay331, k0_pay330]
    simp only [hd.eq, ha.eq, ← EReal.coe_add, Lift.sum_coe]
    rw [show o = 0 from Subsingleton.elim _ _]; rfl

/-- The gradient of the half that is mixed, through the gain, the normalisation and gelu. -/
theorem dpv_v {pv dn : FVec Ideal S512x512 .f32} {g : Vec Ideal S1x512 .f32} {f D G : ℕ → ℕ → ℝ} (h : Is2 (n := 512) (m := 512) pv f)
    (hd : Is2 (n := 512) (m := 512) dn D) (hg : Is2 (n := 1) (m := 512) g G) :
    Is2 (n := 512) (m := 512) (k0_pay1 (F := Ideal) pv (k0_pay186 pv) (k0_pay188 pv) (k0_pay189 pv) (k0_pay333 dn g) (k0_pay334 (k0_pay189 pv) dn g))
      (fun r k => lnB (fun r k => gel (f r k)) (fun r k => D r k * G 0 k) r k * gelD (f r k)) := by
  have hn := (nrm_v h).1
  have hr := (nrm_v h).2
  have h2 : Is2 (n := 512) (m := 512) (k0_pay332 (F := Ideal) dn g) (fun r k => D r k * G 0 k) := by
    intro r k
    pointwise [k0_pay332]
    simp only [hd.eq, hg.eq, ← EReal.coe_mul]
    rfl
  have ht : Is2 (n := 512) (m := 512) (k0_pay186 (F := Ideal) pv) (fun r k => th (f r k)) := by
    intro r k
    pointwise [k0_pay186]
    simp only [h.eq, Lift.lit_half, lit_c0, named_c1, ← EReal.coe_mul, ← EReal.coe_add, tanh_coe]
    rfl
  intro r k
  pointwise [k0_pay1, k0_pay333, k0_pay334]
  simp only [h.eq, hn.eq, hr.eq, h2.eq, ht.eq, Lift.lit_half, lit_c0, named_c3, ← EReal.coe_mul, ← EReal.coe_add, ← EReal.coe_sub, Lift.sum_coe, lit_512,
    Lift.div_coe (by norm_num : (512 : ℝ) ≠ 0), ← EReal.coe_one]
  rfl

end Cert.Mix

end
-- ==== Proof.MixSguCases.lean ====
/- The spatial gate's four gradients, one grid point at a time: what their windows are left holding, as real numbers. -/
module

public import proofs.«01_k».proof.Proof.Gen.MixIdeal.Frame
public import proofs.«01_k».proof.Proof.MixDv
public import Idealize.ShloMosaic.Lib.Tactic
public import Idealize.ShloMosaic.Lib.Pipeline.ValueKit.Tiles

@[expose] public section

set_option maxRecDepth 16384

noncomputable section

namespace Cert.MixIdeal.Hand

open Cert.MixIdeal Cert.MixIdeal.Gen Cert.Mix Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (m : (ℓ : Loc nD τ sig) → Buf (Elt Ideal) ℓ)

/-- The gate's two halves, the gradient of the gate's result, the gain, the shift and the heads' mixing matrices, as a tile loads them. -/
def rdU (c : Dev nD) (t : Fin cfg0.N) : Vec Ideal S512x512 .bf16 :=
  View.readAt (Elt Ideal) (ms0_1 t).view (Rect.unit (s := S512x4096) ![0, 3072] S512x512.size inb_S512x4096_S512x512_0_3072).toLoadRect ((hs0_1 t).unread (iblk m c 1 t))
def rdV (c : Dev nD) (t : Fin cfg0.N) : Vec Ideal S512x512 .bf16 :=
  View.readAt (Elt Ideal) (ms0_1 t).view (Rect.unit (s := S512x4096) ![0, 3584] S512x512.size inb_S512x4096_S512x512_0_3584).toLoadRect ((hs0_1 t).unread (iblk m c 1 t))
def rdD (c : Dev nD) (t : Fin cfg0.N) : Vec Ideal S512x512 .bf16 :=
  View.readAt (Elt Ideal) (ms0_4 t).view (Rect.unit (s := S512x2048) ![0, 1536] S512x512.size inb_S512x2048_S512x512_0_1536).toLoadRect ((hs0_4 t).unread (iblk m c 4 t))
def rdG (c : Dev nD) (t : Fin cfg0.N) : Vec Ideal S1x512 .f32 :=
  View.readAt (Elt Ideal) (ms0_14 t).view (Rect.unit (s := S1x512) ![0, 0] S1x512.size inb_S1x512_S1x512_0_0).toLoadRect ((hs0_14 t).unread (iblk m c 14 t))
def rdB (c : Dev nD) (t : Fin cfg0.N) : Vec Ideal S1x512 .f32 :=
  View.readAt (Elt Ideal) (ms0_15 t).view (Rect.unit (s := S1x512) ![0, 0] S1x512.size inb_S1x512_S1x512_0_0).toLoadRect ((hs0_15 t).unread (iblk m c 15 t))
def rdW0 (c : Dev nD) (t : Fin cfg0.N) : Vec Ideal S1x128x128 .f32 :=
  View.readAt (Elt Ideal) (ms0_16 t).view (Rect.unit (s := S4x128x128) ![0, 0, 0] S1x128x128.size inb_S4x128x128_S1x128x128_0_0_0).toLoadRect ((hs0_16 t).unread (iblk m c 16 t))
def rdW1 (c : Dev nD) (t : Fin cfg0.N) : Vec Ideal S1x128x128 .f32 :=
  View.readAt (Elt Ideal) (ms0_16 t).view (Rect.unit (s := S4x128x128) ![1, 0, 0] S1x128x128.size inb_S4x128x128_S1x128x128_1_0_0).toLoadRect ((hs0_16 t).unread (iblk m c 16 t))
def rdW2 (c : Dev nD) (t : Fin cfg0.N) : Vec Ideal S1x128x128 .f32 :=
  View.readAt (Elt Ideal) (ms0_16 t).view (Rect.unit (s := S4x128x128) ![2, 0, 0] S1x128x128.size inb_S4x128x128_S1x128x128_2_0_0).toLoadRect ((hs0_16 t).unread (iblk m c 16 t))
def rdW3 (c : Dev nD) (t : Fin cfg0.N) : Vec Ideal S1x128x128 .f32 :=
  View.readAt (Elt Ideal) (ms0_16 t).view (Rect.unit (s := S4x128x128) ![3, 0, 0] S1x128x128.size inb_S4x128x128_S1x128x128_3_0_0).toLoadRect ((hs0_16 t).unread (iblk m c 16 t))

section
variable {m}
variable {c : Dev nD} {t : Fin cfg0.N} {P : ℕ → ℕ → ℝ} {W : ℕ → ℕ → ℕ → ℝ}
theorem rdU_v (h : Is2 (n := 512) (m := 4096) (iblk m c 1 t) P) : Is2 (n := 512) (m := 512) (rdU m c t) (fun r k => P r (3072 + k)) := by
  intro r k; unfold rdU; rw [View.readAt_eq_ld, (hs0_1 t).read_unread, View.ld_unit]; pointwise; rw [h.eq]
theorem rdV_v (h : Is2 (n := 512) (m := 4096) (iblk m c 1 t) P) : Is2 (n := 512) (m := 512) (rdV m c t) (fun r k => P r (3584 + k)) := by
  intro r k; unfold rdV; rw [View.readAt_eq_ld, (hs0_1 t).read_unread, View.ld_unit]; pointwise; rw [h.eq]
theorem rdD_v (h : Is2 (n := 512) (m := 2048) (iblk m c 4 t) P) : Is2 (n := 512) (m := 512) (rdD m c t) (fun r k => P r (1536 + k)) := by
  intro r k; unfold rdD; rw [View.readAt_eq_ld, (hs0_4 t).read_unread, View.ld_unit]; pointwise; rw [h.eq]
theorem rdG_v (h : Is2 (n := 1) (m := 512) (iblk m c 14 t) P) : Is2 (n := 1) (m := 512) (rdG m c t) P := by
  intro r k; unfold rdG; rw [View.readAt_eq_ld, (hs0_14 t).read_unread, View.ld_unit_zero (S := S1x512) hz, h.eq]
theorem rdB_v (h : Is2 (n := 1) (m := 512) (iblk m c 15 t) P) : Is2 (n := 1) (m := 512) (rdB m c t) P := by
  intro r k; unfold rdB; rw [View.readAt_eq_ld, (hs0_15 t).read_unread, View.ld_unit_zero (S := S1x512) hz, h.eq]
theorem rdW0_v (h : Is3 (a := 4) (n := 128) (m := 128) (iblk m c 16 t) W) : Is3 (a := 1) (n := 128) (m := 128) (rdW0 m c t) (fun _ => W 0) := by
  intro o r k; unfold rdW0; rw [View.readAt_eq_ld, (hs0_16 t).read_unread, View.ld_unit]; pointwise; rw [h.eq]; rfl
theorem rdW1_v (h : Is3 (a := 4) (n := 128) (m := 128) (iblk m c 16 t) W) : Is3 (a := 1) (n := 128) (m := 128) (rdW1 m c t) (fun _ => W 1) := by
  intro o r k; unfold rdW1; rw [View.readAt_eq_ld, (hs0_16 t).read_unread, View.ld_unit]; pointwise; rw [h.eq]; rfl
theorem rdW2_v (h : Is3 (a := 4) (n := 128) (m := 128) (iblk m c 16 t) W) : Is3 (a := 1) (n := 128) (m := 128) (rdW2 m c t) (fun _ => W 2) := by
  intro o r k; unfold rdW2; rw [View.readAt_eq_ld, (hs0_16 t).read_unread, View.ld_unit]; pointwise; rw [h.eq]; rfl
theorem rdW3_v (h : Is3 (a := 4) (n := 128) (m := 128) (iblk m c 16 t) W) : Is3 (a := 1) (n := 128) (m := 128) (rdW3 m c t) (fun _ => W 3) := by
  intro o r k; unfold rdW3; rw [View.readAt_eq_ld, (hs0_16 t).read_unread, View.ld_unit]; pointwise; rw [h.eq]; rfl
end

/-- The gelus, the gain-and-shift and the gradient of the mixed half, as the tile computes them. -/
def tU (c : Dev nD) (t : Fin cfg0.N) : FVec Ideal S512x512 .f32 := k0_pay185 (k0_pay183 (rdU m c t)) (k0_pay184 (rdU m c t))
def tN (c : Dev nD) (t : Fin cfg0.N) : FVec Ideal S512x512 .f32 := k0_pay189 (k0_pay182 (rdV m c t))
def tVn (c : Dev nD) (t : Fin cfg0.N) : FVec Ideal S512x512 .bf16 := k0_pay190 (k0_pay182 (rdV m c t)) (rdG m c t) (rdB m c t)
def tDz (c : Dev nD) (t : Fin cfg0.N) : FVec Ideal S512x512 .f32 := k0_pay192 (tU m c t) (k0_pay191 (rdD m c t))
def tDb (c : Dev nD) (t : Fin cfg0.N) : FVec Ideal S512x512 .bf16 := k0_pay193 (tU m c t) (k0_pay191 (rdD m c t))
/-- The gradient of the normalised half, as the tile computes it. -/
def tDn (c : Dev nD) (t : Fin cfg0.N) : FVec Ideal S512x512 .f32 := k0_pay327 (tDb m c t) (k0_pay223 (k0_pay207 (tDb m c t) (k0_pay200 k0_pay194 k0_pay195 k0_pay196 k0_pay197 k0_pay198 (rdW0 m c t))) (k0_pay210 (tDb m c t) (k0_pay200 k0_pay194 k0_pay195 k0_pay196 k0_pay197 k0_pay198 (rdW0 m c t))) (k0_pay213 (tDb m c t) (k0_pay200 k0_pay194 k0_pay195 k0_pay196 k0_pay197 k0_pay198 (rdW0 m c t))) (k0_pay217 (tDb m c t) (k0_pay200 k0_pay194 k0_pay195 k0_pay196 k0_pay197 k0_pay198 (rdW0 m c t)))) (k0_pay268 (tDb m c t) (k0_pay224 mask (rdW1 m c t)) (k0_pay234 (tDb m c t) (k0_pay224 mask (rdW1 m c t))) (k0_pay244 (tDb m c t) (k0_pay224 mask (rdW1 m c t))) (k0_pay254 (tDb m c t) (k0_pay224 mask (rdW1 m c t)))) (k0_pay297 (k0_pay274 (tDb m c t) (k0_pay269 mask (rdW2 m c t))) (k0_pay279 (tDb m c t) (k0_pay269 mask (rdW2 m c t))) (k0_pay285 (tDb m c t) (k0_pay269 mask (rdW2 m c t))) (k0_pay291 (tDb m c t) (k0_pay269 mask (rdW2 m c t)))) (k0_pay298 mask (rdW3 m c t)) (k0_pay310 (tDb m c t) (k0_pay298 mask (rdW3 m c t))) (k0_pay314 (tDb m c t) (k0_pay298 mask (rdW3 m c t))) (k0_pay318 (tDb m c t) (k0_pay298 mask (rdW3 m c t)))

section
variable {m}
variable {c : Dev nD} {t : Fin cfg0.N} {P D G B A : ℕ → ℕ → ℝ} {W A3 : ℕ → ℕ → ℕ → ℝ}

section
variable (hP : Is2 (n := 512) (m := 4096) (iblk m c 1 t) P) (hD : Is2 (n := 512) (m := 2048) (iblk m c 4 t) D)
include hP

theorem tU_v : Is2 (n := 512) (m := 512) (tU m c t) (gU P) := gelu_u (rdU_v hP)
theorem half_v : Is2 (n := 512) (m := 512) (k0_pay182 (F := Ideal) (rdV m c t)) (fun r k => P r (3584 + k)) := by
  intro r k; pointwise [k0_pay182]; rw [(rdV_v hP).eq]
theorem tN_v : Is2 (n := 512) (m := 512) (tN m c t) (nrm (gV P)) := (nrm_v (half_v hP)).1
theorem tVn_v (hG : Is2 (n := 1) (m := 512) (iblk m c 14 t) G) (hB : Is2 (n := 1) (m := 512) (iblk m c 15 t) B) : Is2 (n := 512) (m := 512) (tVn m c t) (nG P G B) := vn_v (half_v hP) (rdG_v hG) (rdB_v hB)
include hD
theorem tDz_v : Is2 (n := 512) (m := 512) (tDz m c t) (zG P D) ∧ Is2 (n := 512) (m := 512) (tDb m c t) (zG P D) := by
  have hd : Is2 (n := 512) (m := 512) (k0_pay191 (F := Ideal) (rdD m c t)) (fun r k => D r (1536 + k)) := by
    intro r k; pointwise [k0_pay191]; rw [(rdD_v hD).eq]
  exact dz_v (tU_v hP) hd
theorem tDn_v (hW : Is3 (a := 4) (n := 128) (m := 128) (iblk m c 16 t) W) : Is2 (n := 512) (m := 512) (tDn m c t) (dvT W (zG P D)) :=
  have hz := (tDz_v hP hD).2
  dvn_v hz (dvh_0 hz (rdW0_v hW)) (dvh_1 hz (rdW1_v hW)) (dvh_2 hz (rdW2_v hW)) (rdW3_v hW)
end

/-- What the tile before left in window 25, as a tile loads it. -/
def rd25 (t : Fin cfg0.N) (x : Vec Ideal S1x512 .f32) : Vec Ideal S1x512 .f32 :=
  View.readAt (Elt Ideal) (ms0_25 t).view (Rect.unit ![0, 0] S1x512.size inb_S1x512_S1x512_0_0).toLoadRect ((hs0_25 t).unread x)
theorem rd25_v {x : Vec Ideal S1x512 .f32} (h : Is2 (n := 1) (m := 512) x A) : Is2 (n := 1) (m := 512) (rd25 t x) A := by
  intro r k; unfold rd25; rw [View.readAt_eq_ld, (hs0_25 t).read_unread, View.ld_unit_zero (S := S1x512) hz, h.eq]

/-- Window 25 (the gain's gradient) after the first tile. -/
theorem w25_A (ha : t.val % 8 = 0) (hb : ¬1 ≤ t.val) (hP : Is2 (n := 512) (m := 4096) (iblk m c 1 t) P) (hD : Is2 (n := 512) (m := 2048) (iblk m c 4 t) D) (hW : Is3 (a := 4) (n := 128) (m := 128) (iblk m c 16 t) W) :
    Is2 (n := 1) (m := 512) (outsAt0 m c t.val t.isLt).2.2.2.2.2.2.2.1 (fun _ k => ∑ r : Fin 512, dvT W (zG P D) r k * nrm (gV P) r k) := by
  rw [outsAt0_A m c t ha ha hb ha hb ha hb ha hb ha hb ha hb ha hb ha hb ha hb ha hb ha hb ha hb ha hb ha hb ha hb ha hb ha hb ha hb ha hb ha hb]
  dsimp only
  unfold out0_A_25
  rw [View.read_writes_eq_canon]
  swap; · exact fun _ => cover0_A_25 ..
  unfold kernelRun0_A
  dsimp only
  rw [View.canon_unit_zero hz]
  refine ((dsl_v (tN_v hP) (tDn_v hP hD hW) (A := fun _ _ => 0) (acc := fun _ => ((0 : ℝ) : EReal)) (fun _ _ => rfl)).1).of_eq ?_
  sl_unfold_words
  rfl

/-- Window 25 (the gain's gradient) after a later tile. -/
theorem w25_B (ha : ¬t.val % 8 = 0) (hb : 1 ≤ t.val) (hP : Is2 (n := 512) (m := 4096) (iblk m c 1 t) P) (hD : Is2 (n := 512) (m := 2048) (iblk m c 4 t) D) (hW : Is3 (a := 4) (n := 128) (m := 128) (iblk m c 16 t) W)
    (hA : Is2 (n := 1) (m := 512) ((outsAt0 m c (t.val - 1) (Nat.lt_of_le_of_lt (Nat.sub_le _ _) t.isLt)).2.2.2.2.2.2.2.1) A) :
    Is2 (n := 1) (m := 512) (outsAt0 m c t.val t.isLt).2.2.2.2.2.2.2.1 (fun _ k => A 0 k + ∑ r : Fin 512, dvT W (zG P D) r k * nrm (gV P) r k) := by
  rw [outsAt0_B m c t ha ha hb ha hb ha hb ha hb ha hb ha hb ha hb ha hb ha hb ha hb ha hb ha hb ha hb ha hb ha hb ha hb ha hb ha hb ha hb ha hb]
  dsimp only
  unfold out0_B_25
  rw [View.read_writes_eq_canon]
  swap; · exact fun _ => cover0_B_25 ..
  unfold kernelRun0_B
  dsimp only
  rw [View.canon_unit_zero hz]
  refine ((dsl_v (tN_v hP) (tDn_v hP hD hW) (rd25_v (t := t) hA)).2.1).of_eq ?_
  sl_unfold_words
  rfl

/-- What the tile before left in window 26, as a tile loads it. -/
def rd26 (t : Fin cfg0.N) (x : Vec Ideal S1x512 .f32) : Vec Ideal S1x512 .f32 :=
  View.readAt (Elt Ideal) (ms0_26 t).view (Rect.unit ![0, 0] S1x512.size inb_S1x512_S1x512_0_0).toLoadRect ((hs0_26 t).unread x)
theorem rd26_v {x : Vec Ideal S1x512 .f32} (h : Is2 (n := 1) (m := 512) x A) : Is2 (n := 1) (m := 512) (rd26 t x) A := by
  intro r k; unfold rd26; rw [View.readAt_eq_ld, (hs0_26 t).read_unread, View.ld_unit_zero (S := S1x512) hz, h.eq]

/-- Window 26 (the shift's gradient) after the first tile. -/
theorem w26_A (ha : t.val % 8 = 0) (hb : ¬1 ≤ t.val) (hP : Is2 (n := 512) (m := 4096) (iblk m c 1 t) P) (hD : Is2 (n := 512) (m := 2048) (iblk m c 4 t) D) (hW : Is3 (a := 4) (n := 128) (m := 128) (iblk m c 16 t) W) :
    Is2 (n := 1) (m := 512) (outsAt0 m c t.val t.isLt).2.2.2.2.2.2.2.2.1 (fun _ k => ∑ r : Fin 512, dvT W (zG P D) r k) := by
  rw [outsAt0_A m c t ha ha hb ha hb ha hb ha hb ha hb ha hb ha hb ha hb ha hb ha hb ha hb ha hb ha hb ha hb ha hb ha hb ha hb ha hb ha hb ha hb]
  dsimp only
  unfold out0_A_26
  rw [View.read_writes_eq_canon]
  swap; · exact fun _ => cover0_A_26 ..
  unfold kernelRun0_A
  dsimp only
  rw [View.canon_unit_zero hz]
  refine ((dsl_v (tN_v hP) (tDn_v hP hD hW) (A := fun _ _ => 0) (acc := fun _ => ((0 : ℝ) : EReal)) (fun _ _ => rfl)).2.2.1).of_eq ?_
  sl_unfold_words
  rfl

/-- Window 26 (the shift's gradient) after a later tile. -/
theorem w26_B (ha : ¬t.val % 8 = 0) (hb : 1 ≤ t.val) (hP : Is2 (n := 512) (m := 4096) (iblk m c 1 t) P) (hD : Is2 (n := 512) (m := 2048) (iblk m c 4 t) D) (hW : Is3 (a := 4) (n := 128) (m := 128) (iblk m c 16 t) W)
    (hA : Is2 (n := 1) (m := 512) ((outsAt0 m c (t.val - 1) (Nat.lt_of_le_of_lt (Nat.sub_le _ _) t.isLt)).2.2.2.2.2.2.2.2.1) A) :
    Is2 (n := 1) (m := 512) (outsAt0 m c t.val t.isLt).2.2.2.2.2.2.2.2.1 (fun _ k => A 0 k + ∑ r : Fin 512, dvT W (zG P D) r k) := by
  rw [outsAt0_B m c t ha ha hb ha hb ha hb ha hb ha hb ha hb ha hb ha hb ha hb ha hb ha hb ha hb ha hb ha hb ha hb ha hb ha hb ha hb ha hb ha hb]
  dsimp only
  unfold out0_B_26
  rw [View.read_writes_eq_canon]
  swap; · exact fun _ => cover0_B_26 ..
  unfold kernelRun0_B
  dsimp only
  rw [View.canon_unit_zero hz]
  refine ((dsl_v (tN_v hP) (tDn_v hP hD hW) (rd26_v (t := t) hA)).2.2.2).of_eq ?_
  sl_unfold_words
  rfl

/-- Slab 0 of what the tile before left in window 27, as a tile loads it. -/
def rd27_0 (t : Fin cfg0.N) (x : Vec Ideal S4x128x128 .f32) : Vec Ideal S1x128x128 .f32 :=
  View.readAt (Elt Ideal) (ms0_27 t).view (Rect.unit (s := S4x128x128) ![0, 0, 0] S1x128x128.size inb_S4x128x128_S1x128x128_0_0_0).toLoadRect ((hs0_27 t).unread x)
theorem rd27_0_v {x : Vec Ideal S4x128x128 .f32} (h : Is3 (a := 4) (n := 128) (m := 128) x W) :
    Is3 (a := 1) (n := 128) (m := 128) (rd27_0 t x) (fun _ => W 0) := by
  intro o r k; unfold rd27_0; rw [View.readAt_eq_ld, (hs0_27 t).read_unread, View.ld_unit]; pointwise; rw [h.eq]; rfl
/-- Slab 1 of what the tile before left in window 27, as a tile loads it. -/
def rd27_1 (t : Fin cfg0.N) (x : Vec Ideal S4x128x128 .f32) : Vec Ideal S1x128x128 .f32 :=
  View.readAt (Elt Ideal) (ms0_27 t).view (Rect.unit (s := S4x128x128) ![1, 0, 0] S1x128x128.size inb_S4x128x128_S1x128x128_1_0_0).toLoadRect ((hs0_27 t).unread x)
theorem rd27_1_v {x : Vec Ideal S4x128x128 .f32} (h : Is3 (a := 4) (n := 128) (m := 128) x W) :
    Is3 (a := 1) (n := 128) (m := 128) (rd27_1 t x) (fun _ => W 1) := by
  intro o r k; unfold rd27_1; rw [View.readAt_eq_ld, (hs0_27 t).read_unread, View.ld_unit]; pointwise; rw [h.eq]; rfl
/-- Slab 2 of what the tile before left in window 27, as a tile loads it. -/
def rd27_2 (t : Fin cfg0.N) (x : Vec Ideal S4x128x128 .f32) : Vec Ideal S1x128x128 .f32 :=
  View.readAt (Elt Ideal) (ms0_27 t).view (Rect.unit (s := S4x128x128) ![2, 0, 0] S1x128x128.size inb_S4x128x128_S1x128x128_2_0_0).toLoadRect ((hs0_27 t).unread x)
theorem rd27_2_v {x : Vec Ideal S4x128x128 .f32} (h : Is3 (a := 4) (n := 128) (m := 128) x W) :
    Is3 (a := 1) (n := 128) (m := 128) (rd27_2 t x) (fun _ => W 2) := by
  intro o r k; unfold rd27_2; rw [View.readAt_eq_ld, (hs0_27 t).read_unread, View.ld_unit]; pointwise; rw [h.eq]; rfl
/-- Slab 3 of what the tile before left in window 27, as a tile loads it. -/
def rd27_3 (t : Fin cfg0.N) (x : Vec Ideal S4x128x128 .f32) : Vec Ideal S1x128x128 .f32 :=
  View.readAt (Elt Ideal) (ms0_27 t).view (Rect.unit (s := S4x128x128) ![3, 0, 0] S1x128x128.size inb_S4x128x128_S1x128x128_3_0_0).toLoadRect ((hs0_27 t).unread x)
theorem rd27_3_v {x : Vec Ideal S4x128x128 .f32} (h : Is3 (a := 4) (n := 128) (m := 128) x W) :
    Is3 (a := 1) (n := 128) (m := 128) (rd27_3 t x) (fun _ => W 3) := by
  intro o r k; unfold rd27_3; rw [View.readAt_eq_ld, (hs0_27 t).read_unread, View.ld_unit]; pointwise; rw [h.eq]; rfl

/-- Window 27 (the mixing matrices' gradients) after the first tile. -/
theorem w27_A (ha : t.val % 8 = 0) (hb : ¬1 ≤ t.val) (hP : Is2 (n := 512) (m := 4096) (iblk m c 1 t) P) (hD : Is2 (n := 512) (m := 2048) (iblk m c 4 t) D) (hG : Is2 (n := 1) (m := 512) (iblk m c 14 t) G) (hB : Is2 (n := 1) (m := 512) (iblk m c 15 t) B) :
    Is3 (a := 4) (n := 128) (m := 128) (outsAt0 m c t.val t.isLt).2.2.2.2.2.2.2.2.2.1 (fun h i j => dwT (nG P G B) (zG P D) h i j) := by
  rw [outsAt0_A m c t ha ha hb ha hb ha hb ha hb ha hb ha hb ha hb ha hb ha hb ha hb ha hb ha hb ha hb ha hb ha hb ha hb ha hb ha hb ha hb ha hb]
  dsimp only
  unfold out0_A_27
  rw [View.read_writes_eq_canon]
  swap; · exact fun _ => cover0_A_27 ..
  unfold kernelRun0_A
  dsimp only
  intro h i j
  canon_tiles x hx
  · have e := (dw_3 (tVn_v hP hG hB) (tDz_v hP hD).2 (A := fun _ _ => 0) (acc := fun _ => ((0 : ℝ) : EReal)) (fun _ _ _ => rfl)).1 (x 0) (x 1) (x 2)
    rw [← eq_ix3] at e
    have h0 : h.val = 3 := by change h.val = _ at hx0; omega
    change i.val = _ at hx1
    change j.val = _ at hx2
    refine Eq.trans ?_ (e.trans (by rw [h0, hx1, hx2]))
    sl_unfold_words
    rfl
  · have e := (dw_2 (tVn_v hP hG hB) (tDz_v hP hD).2 (A := fun _ _ => 0) (acc := fun _ => ((0 : ℝ) : EReal)) (fun _ _ _ => rfl)).1 (x 0) (x 1) (x 2)
    rw [← eq_ix3] at e
    have h0 : h.val = 2 := by change h.val = _ at hx0; omega
    change i.val = _ at hx1
    change j.val = _ at hx2
    refine Eq.trans ?_ (e.trans (by rw [h0, hx1, hx2]))
    sl_unfold_words
    rfl
  · have e := (dw_1 (tVn_v hP hG hB) (tDz_v hP hD).2 (A := fun _ _ => 0) (acc := fun _ => ((0 : ℝ) : EReal)) (fun _ _ _ => rfl)).1 (x 0) (x 1) (x 2)
    rw [← eq_ix3] at e
    have h0 : h.val = 1 := by change h.val = _ at hx0; omega
    change i.val = _ at hx1
    change j.val = _ at hx2
    refine Eq.trans ?_ (e.trans (by rw [h0, hx1, hx2]))
    sl_unfold_words
    rfl
  · have e := (dw_0 (tVn_v hP hG hB) (tDz_v hP hD).2 (A := fun _ _ => 0) (acc := fun _ => ((0 : ℝ) : EReal)) (fun _ _ _ => rfl)).1 (x 0) (x 1) (x 2)
    rw [← eq_ix3] at e
    have h0 : h.val = 0 := by change h.val = _ at hx0; omega
    change i.val = _ at hx1
    change j.val = _ at hx2
    refine Eq.trans ?_ (e.trans (by rw [h0, hx1, hx2]))
    sl_unfold_words
    rfl

/-- Window 27 (the mixing matrices' gradients) after a later tile. -/
theorem w27_B (ha : ¬t.val % 8 = 0) (hb : 1 ≤ t.val) (hP : Is2 (n := 512) (m := 4096) (iblk m c 1 t) P) (hD : Is2 (n := 512) (m := 2048) (iblk m c 4 t) D) (hG : Is2 (n := 1) (m := 512) (iblk m c 14 t) G) (hB : Is2 (n := 1) (m := 512) (iblk m c 15 t) B)
    (hA : Is3 (a := 4) (n := 128) (m := 128) ((outsAt0 m c (t.val - 1) (Nat.lt_of_le_of_lt (Nat.sub_le _ _) t.isLt)).2.2.2.2.2.2.2.2.2.1) A3) :
    Is3 (a := 4) (n := 128) (m := 128) (outsAt0 m c t.val t.isLt).2.2.2.2.2.2.2.2.2.1 (fun h i j => A3 h i j + dwT (nG P G B) (zG P D) h i j) := by
  rw [outsAt0_B m c t ha ha hb ha hb ha hb ha hb ha hb ha hb ha hb ha hb ha hb ha hb ha hb ha hb ha hb ha hb ha hb ha hb ha hb ha hb ha hb ha hb]
  dsimp only
  unfold out0_B_27
  rw [View.read_writes_eq_canon]
  swap; · exact fun _ => cover0_B_27 ..
  unfold kernelRun0_B
  dsimp only
  intro h i j
  canon_tiles x hx
  · have e := (dw_3 (tVn_v hP hG hB) (tDz_v hP hD).2 (rd27_3_v (t := t) hA)).2 (x 0) (x 1) (x 2)
    rw [← eq_ix3] at e
    have h0 : h.val = 3 := by change h.val = _ at hx0; omega
    change i.val = _ at hx1
    change j.val = _ at hx2
    refine Eq.trans ?_ (e.trans (by rw [h0, hx1, hx2]))
    sl_unfold_words
    rfl
  · have e := (dw_2 (tVn_v hP hG hB) (tDz_v hP hD).2 (rd27_2_v (t := t) hA)).2 (x 0) (x 1) (x 2)
    rw [← eq_ix3] at e
    have h0 : h.val = 2 := by change h.val = _ at hx0; omega
    change i.val = _ at hx1
    change j.val = _ at hx2
    refine Eq.trans ?_ (e.trans (by rw [h0, hx1, hx2]))
    sl_unfold_words
    rfl
  · have e := (dw_1 (tVn_v hP hG hB) (tDz_v hP hD).2 (rd27_1_v (t := t) hA)).2 (x 0) (x 1) (x 2)
    rw [← eq_ix3] at e
    have h0 : h.val = 1 := by change h.val = _ at hx0; omega
    change i.val = _ at hx1
    change j.val = _ at hx2
    refine Eq.trans ?_ (e.trans (by rw [h0, hx1, hx2]))
    sl_unfold_words
    rfl
  · have e := (dw_0 (tVn_v hP hG hB) (tDz_v hP hD).2 (rd27_0_v (t := t) hA)).2 (x 0) (x 1) (x 2)
    rw [← eq_ix3] at e
    have h0 : h.val = 0 := by change h.val = _ at hx0; omega
    change i.val = _ at hx1
    change j.val = _ at hx2
    refine Eq.trans ?_ (e.trans (by rw [h0, hx1, hx2]))
    sl_unfold_words
    rfl

/-- Slab 0 of what the tile before left in window 28, as a tile loads it. -/
def rd28_0 (t : Fin cfg0.N) (x : Vec Ideal S4x128x128 .f32) : Vec Ideal S1x128x128 .f32 :=
  View.readAt (Elt Ideal) (ms0_28 t).view (Rect.unit (s := S4x128x128) ![0, 0, 0] S1x128x128.size inb_S4x128x128_S1x128x128_0_0_0).toLoadRect ((hs0_28 t).unread x)
theorem rd28_0_v {x : Vec Ideal S4x128x128 .f32} (h : Is3 (a := 4) (n := 128) (m := 128) x W) :
    Is3 (a := 1) (n := 128) (m := 128) (rd28_0 t x) (fun _ => W 0) := by
  intro o r k; unfold rd28_0; rw [View.readAt_eq_ld, (hs0_28 t).read_unread, View.ld_unit]; pointwise; rw [h.eq]; rfl
/-- Slab 1 of what the tile before left in window 28, as a tile loads it. -/
def rd28_1 (t : Fin cfg0.N) (x : Vec Ideal S4x128x128 .f32) : Vec Ideal S1x128x128 .f32 :=
  View.readAt (Elt Ideal) (ms0_28 t).view (Rect.unit (s := S4x128x128) ![1, 0, 0] S1x128x128.size inb_S4x128x128_S1x128x128_1_0_0).toLoadRect ((hs0_28 t).unread x)
theorem rd28_1_v {x : Vec Ideal S4x128x128 .f32} (h : Is3 (a := 4) (n := 128) (m := 128) x W) :
    Is3 (a := 1) (n := 128) (m := 128) (rd28_1 t x) (fun _ => W 1) := by
  intro o r k; unfold rd28_1; rw [View.readAt_eq_ld, (hs0_28 t).read_unread, View.ld_unit]; pointwise; rw [h.eq]; rfl
/-- Slab 2 of what the tile before left in window 28, as a tile loads it. -/
def rd28_2 (t : Fin cfg0.N) (x : Vec Ideal S4x128x128 .f32) : Vec Ideal S1x128x128 .f32 :=
  View.readAt (Elt Ideal) (ms0_28 t).view (Rect.unit (s := S4x128x128) ![2, 0, 0] S1x128x128.size inb_S4x128x128_S1x128x128_2_0_0).toLoadRect ((hs0_28 t).unread x)
theorem rd28_2_v {x : Vec Ideal S4x128x128 .f32} (h : Is3 (a := 4) (n := 128) (m := 128) x W) :
    Is3 (a := 1) (n := 128) (m := 128) (rd28_2 t x) (fun _ => W 2) := by
  intro o r k; unfold rd28_2; rw [View.readAt_eq_ld, (hs0_28 t).read_unread, View.ld_unit]; pointwise; rw [h.eq]; rfl
/-- Slab 3 of what the tile before left in window 28, as a tile loads it. -/
def rd28_3 (t : Fin cfg0.N) (x : Vec Ideal S4x128x128 .f32) : Vec Ideal S1x128x128 .f32 :=
  View.readAt (Elt Ideal) (ms0_28 t).view (Rect.unit (s := S4x128x128) ![3, 0, 0] S1x128x128.size inb_S4x128x128_S1x128x128_3_0_0).toLoadRect ((hs0_28 t).unread x)
theorem rd28_3_v {x : Vec Ideal S4x128x128 .f32} (h : Is3 (a := 4) (n := 128) (m := 128) x W) :
    Is3 (a := 1) (n := 128) (m := 128) (rd28_3 t x) (fun _ => W 3) := by
  intro o r k; unfold rd28_3; rw [View.readAt_eq_ld, (hs0_28 t).read_unread, View.ld_unit]; pointwise; rw [h.eq]; rfl

/-- Window 28 (the bias's gradient, channel by channel) after the first tile. -/
theorem w28_A (ha : t.val % 8 = 0) (hb : ¬1 ≤ t.val) (hP : Is2 (n := 512) (m := 4096) (iblk m c 1 t) P) (hD : Is2 (n := 512) (m := 2048) (iblk m c 4 t) D) :
    Is3 (a := 4) (n := 128) (m := 128) (outsAt0 m c t.val t.isLt).2.2.2.2.2.2.2.2.2.2 (fun h i j => dbT (zG P D) h i j) := by
  rw [outsAt0_A m c t ha ha hb ha hb ha hb ha hb ha hb ha hb ha hb ha hb ha hb ha hb ha hb ha hb ha hb ha hb ha hb ha hb ha hb ha hb ha hb ha hb]
  dsimp only
  unfold out0_A_28
  rw [View.read_writes_eq_canon]
  swap; · exact fun _ => cover0_A_28 ..
  unfold kernelRun0_A
  dsimp only
  intro h i j
  canon_tiles x hx
  · have e := (db_3 (tDz_v hP hD).1 (A := fun _ _ => 0) (acc := fun _ => ((0 : ℝ) : EReal)) (fun _ _ _ => rfl)).1 (x 0) (x 1) (x 2)
    rw [← eq_ix3] at e
    have h0 : h.val = 3 := by change h.val = _ at hx0; omega
    change i.val = _ at hx1
    change j.val = _ at hx2
    refine Eq.trans ?_ (e.trans (by rw [h0, hx1, hx2]))
    sl_unfold_words
    rfl
  · have e := (db_2 (tDz_v hP hD).1 (A := fun _ _ => 0) (acc := fun _ => ((0 : ℝ) : EReal)) (fun _ _ _ => rfl)).1 (x 0) (x 1) (x 2)
    rw [← eq_ix3] at e
    have h0 : h.val = 2 := by change h.val = _ at hx0; omega
    change i.val = _ at hx1
    change j.val = _ at hx2
    refine Eq.trans ?_ (e.trans (by rw [h0, hx1, hx2]))
    sl_unfold_words
    rfl
  · have e := (db_1 (tDz_v hP hD).1 (A := fun _ _ => 0) (acc := fun _ => ((0 : ℝ) : EReal)) (fun _ _ _ => rfl)).1 (x 0) (x 1) (x 2)
    rw [← eq_ix3] at e
    have h0 : h.val = 1 := by change h.val = _ at hx0; omega
    change i.val = _ at hx1
    change j.val = _ at hx2
    refine Eq.trans ?_ (e.trans (by rw [h0, hx1, hx2]))
    sl_unfold_words
    rfl
  · have e := (db_0 (tDz_v hP hD).1 (A := fun _ _ => 0) (acc := fun _ => ((0 : ℝ) : EReal)) (fun _ _ _ => rfl)).1 (x 0) (x 1) (x 2)
    rw [← eq_ix3] at e
    have h0 : h.val = 0 := by change h.val = _ at hx0; omega
    change i.val = _ at hx1
    change j.val = _ at hx2
    refine Eq.trans ?_ (e.trans (by rw [h0, hx1, hx2]))
    sl_unfold_words
    rfl

/-- Window 28 (the bias's gradient, channel by channel) after a later tile. -/
theorem w28_B (ha : ¬t.val % 8 = 0) (hb : 1 ≤ t.val) (hP : Is2 (n := 512) (m := 4096) (iblk m c 1 t) P) (hD : Is2 (n := 512) (m := 2048) (iblk m c 4 t) D)
    (hA : Is3 (a := 4) (n := 128) (m := 128) ((outsAt0 m c (t.val - 1) (Nat.lt_of_le_of_lt (Nat.sub_le _ _) t.isLt)).2.2.2.2.2.2.2.2.2.2) A3) :
    Is3 (a := 4) (n := 128) (m := 128) (outsAt0 m c t.val t.isLt).2.2.2.2.2.2.2.2.2.2 (fun h i j => A3 h i j + dbT (zG P D) h i j) := by
  rw [outsAt0_B m c t ha ha hb ha hb ha hb ha hb ha hb ha hb ha hb ha hb ha hb ha hb ha hb ha hb ha hb ha hb ha hb ha hb ha hb ha hb ha hb ha hb]
  dsimp only
  unfold out0_B_28
  rw [View.read_writes_eq_canon]
  swap; · exact fun _ => cover0_B_28 ..
  unfold kernelRun0_B
  dsimp only
  intro h i j
  canon_tiles x hx
  · have e := (db_3 (tDz_v hP hD).1 (rd28_3_v (t := t) hA)).2 (x 0) (x 1) (x 2)
    rw [← eq_ix3] at e
    have h0 : h.val = 3 := by change h.val = _ at hx0; omega
    change i.val = _ at hx1
    change j.val = _ at hx2
    refine Eq.trans ?_ (e.trans (by rw [h0, hx1, hx2]))
    sl_unfold_words
    rfl
  · have e := (db_2 (tDz_v hP hD).1 (rd28_2_v (t := t) hA)).2 (x 0) (x 1) (x 2)
    rw [← eq_ix3] at e
    have h0 : h.val = 2 := by change h.val = _ at hx0; omega
    change i.val = _ at hx1
    change j.val = _ at hx2
    refine Eq.trans ?_ (e.trans (by rw [h0, hx1, hx2]))
    sl_unfold_words
    rfl
  · have e := (db_1 (tDz_v hP hD).1 (rd28_1_v (t := t) hA)).2 (x 0) (x 1) (x 2)
    rw [← eq_ix3] at e
    have h0 : h.val = 1 := by change h.val = _ at hx0; omega
    change i.val = _ at hx1
    change j.val = _ at hx2
    refine Eq.trans ?_ (e.trans (by rw [h0, hx1, hx2]))
    sl_unfold_words
    rfl
  · have e := (db_0 (tDz_v hP hD).1 (rd28_0_v (t := t) hA)).2 (x 0) (x 1) (x 2)
    rw [← eq_ix3] at e
    have h0 : h.val = 0 := by change h.val = _ at hx0; omega
    change i.val = _ at hx1
    change j.val = _ at hx2
    refine Eq.trans ?_ (e.trans (by rw [h0, hx1, hx2]))
    sl_unfold_words
    rfl

end

end Cert.MixIdeal.Hand

end
-- ==== Proof.MixReads.lean ====
/- What the mixers' windows read of the program's arguments: the projection, the gradient of the mixers' result, and the small parameters. -/
module

public import proofs.«01_k».proof.Proof.MixSguCases
public import Idealize.ShloMosaic.Lib.Pointwise
public import Idealize.ShloMosaic.Lib.Claim
public import Idealize.ShloMosaic.Lib.StableHlo.RunRead

@[expose] public section

set_option maxRecDepth 16384

noncomputable section

namespace Cert.MixIdeal.Hand

open Cert.MixIdeal Cert.MixIdeal.Gen Cert.Mix Idealize.ShloMosaic Idealize.ShloMosaic.TcCoe Idealize.SL.Sem
open Idealize.ShloMosaic.Pipeline (Dat)

variable (m : (ℓ : Loc nD τ sig) → Buf (Elt Ideal) ℓ)

abbrev argP (c : Dev nD) : FVec Ideal S1x4096x8192 .f32 := m ((c : Thread nD τ).loc main_arg0)
abbrev argY (c : Dev nD) : FVec Ideal S1x4096x4x512 .f32 := m ((c : Thread nD τ).loc main_arg11)

theorem V1 (c : Dev nD) : V m c main_v1 = truncf .bf16 (shapeCast S4096x8192 (argP m c) shapeCasts_S1x4096x8192_S4096x8192) bitsLt_bf16_f32 := by
  show StableHlo.after _ _ (Proc.devRef .tc main_v1) = _
  after_reads_simp <;> rfl
theorem V245 (c : Dev nD) : V m c main_v245 = truncf .bf16 (shapeCast S4096x2048 (argY m c) shapeCasts_S1x4096x4x512_S4096x2048) bitsLt_bf16_f32 := by
  show StableHlo.after _ _ (Proc.devRef .tc main_v245) = _
  after_reads_simp <;> rfl
theorem V7 (c : Dev nD) : V m c main_v7 = shapeCast S1x512 (m ((c : Thread nD τ).loc main_arg7)) shapeCasts_S512_S1x512 := by
  show StableHlo.after _ _ (Proc.devRef .tc main_v7) = _
  after_reads_simp <;> rfl
theorem V8 (c : Dev nD) : V m c main_v8 = shapeCast S1x512 (m ((c : Thread nD τ).loc main_arg8)) shapeCasts_S512_S1x512 := by
  show StableHlo.after _ _ (Proc.devRef .tc main_v8) = _
  after_reads_simp <;> rfl

theorem idx_1 : ∀ t : Fin cfg0.N, win0_1.index t 0 = t.val ∧ win0_1.index t 1 = 0 :=
  (by decide +kernel : ∀ t : Fin grid0.N, win0_1.index t 0 = t.val ∧ win0_1.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_14 : ∀ t : Fin cfg0.N, win0_14.index t 0 = 0 ∧ win0_14.index t 1 = 0 :=
  (by decide +kernel : ∀ t : Fin grid0.N, win0_14.index t 0 = 0 ∧ win0_14.index t 1 = 0)
theorem idx_15 : ∀ t : Fin cfg0.N, win0_15.index t 0 = 0 ∧ win0_15.index t 1 = 0 :=
  (by decide +kernel : ∀ t : Fin grid0.N, win0_15.index t 0 = 0 ∧ win0_15.index t 1 = 0)
theorem idx_16 : ∀ t : Fin cfg0.N, win0_16.index t 0 = 0 ∧ win0_16.index t 1 = 0 ∧ win0_16.index t 2 = 0 :=
  (by decide +kernel : ∀ t : Fin grid0.N, win0_16.index t 0 = 0 ∧ win0_16.index t 1 = 0 ∧ win0_16.index t 2 = 0)

/-- Row `a` of tile `t` is row `512 t + a` of the array. -/
abbrev row (t : Fin cfg0.N) (a : Fin 512) : Fin 4096 :=
  ⟨512 * t.val + a.val, by have := lt_of_lt_of_eq t.isLt N_0; have := a.isLt; omega⟩

variable {X Y : ℕ → ℕ → ℝ} {c : Dev nD}

/-- A tile's rows of the projection's first half. -/
theorem blk_1 (hX : ∀ (r : Fin 4096) (k : Fin 8192), argP m c (ix3 0 r k) = ((X r k : ℝ) : EReal)) (t : Fin cfg0.N) :
    Is2 (n := 512) (m := 4096) (iblk m c 1 t) (fun r k => X (512 * t + r) k) := by
  intro a k
  have h : (iblk m c 1 t : Vec Ideal S512x4096 .bf16) (ix2 a k) = V m c main_v1 (ix2 (row t a) ⟨k, by have := k.isLt; omega⟩) := by
    unfold iblk
    rw [View.read_apply]
    show V m c main_v1 _ = _
    congr 1
    funext b
    apply Fin.ext
    match b with
    | ⟨0, _⟩ => show win0_1.index t 0 * 512 + 1 * a.val = 512 * t.val + a.val; rw [(idx_1 t).1]; omega
    | ⟨1, _⟩ => show win0_1.index t 1 * 4096 + 1 * k.val = k.val; rw [(idx_1 t).2]; omega
  rw [h, V1]
  pointwise
  exact hX _ _

/-- A tile's rows of the gradient of the mixers' result, its four parts side by side. -/
theorem blk_4 (hY : ∀ (r : Fin 4096) (b : Fin 4) (k : Fin 512), argY m c (ix4 0 r b k) = ((Y r (512 * b + k) : ℝ) : EReal)) (t : Fin cfg0.N) :
    Is2 (n := 512) (m := 2048) (iblk m c 4 t) (fun r k => Y (512 * t + r) k) := by
  intro a k
  have h : (iblk m c 4 t : Vec Ideal S512x2048 .bf16) (ix2 a k) = V m c main_v245 (ix2 (row t a) k) := by
    unfold iblk
    rw [View.read_apply]
    show V m c main_v245 _ = _
    congr 1
    funext b
    apply Fin.ext
    match b with
    | ⟨0, _⟩ => show win0_4.index t 0 * 512 + 1 * a.val = 512 * t.val + a.val; rw [(idx_4 t).1]; omega
    | ⟨1, _⟩ => show win0_4.index t 1 * 2048 + 1 * k.val = k.val; rw [(idx_4 t).2]; omega
  rw [h, V245]
  pointwise
  refine (hY _ _ _).trans ?_
  congr 2
  have := k.isLt
  show 512 * (k.val / 512) + k.val % 512 = k.val
  omega

theorem blk_14 {G : ℕ → ℝ} (hG : ∀ k : Fin 512, (m ((c : Thread nD τ).loc main_arg7) : FVec Ideal S512 .f32) (ix1 k) = ((G k : ℝ) : EReal)) (t : Fin cfg0.N) :
    Is2 (n := 1) (m := 512) (iblk m c 14 t) (fun _ k => G k) := by
  intro a k
  have h : (iblk m c 14 t : Vec Ideal S1x512 .f32) (ix2 a k) = V m c main_v7 (ix2 a k) := by
    unfold iblk
    rw [View.read_apply]
    show V m c main_v7 _ = _
    congr 1
    funext b
    apply Fin.ext
    match b with
    | ⟨0, _⟩ => show win0_14.index t 0 * 1 + 1 * a.val = a.val; rw [(idx_14 t).1]; omega
    | ⟨1, _⟩ => show win0_14.index t 1 * 512 + 1 * k.val = k.val; rw [(idx_14 t).2]; omega
  rw [h, V7]
  pointwise
  exact hG k

theorem blk_15 {G : ℕ → ℝ} (hG : ∀ k : Fin 512, (m ((c : Thread nD τ).loc main_arg8) : FVec Ideal S512 .f32) (ix1 k) = ((G k : ℝ) : EReal)) (t : Fin cfg0.N) :
    Is2 (n := 1) (m := 512) (iblk m c 15 t) (fun _ k => G k) := by
  intro a k
  have h : (iblk m c 15 t : Vec Ideal S1x512 .f32) (ix2 a k) = V m c main_v8 (ix2 a k) := by
    unfold iblk
    rw [View.read_apply]
    show V m c main_v8 _ = _
    congr 1
    funext b
    apply Fin.ext
    match b with
    | ⟨0, _⟩ => show win0_15.index t 0 * 1 + 1 * a.val = a.val; rw [(idx_15 t).1]; omega
    | ⟨1, _⟩ => show win0_15.index t 1 * 512 + 1 * k.val = k.val; rw [(idx_15 t).2]; omega
  rw [h, V8]
  pointwise
  exact hG k

theorem blk_16 {W : ℕ → ℕ → ℕ → ℝ} (hW : Is3 (a := 4) (n := 128) (m := 128) (m ((c : Thread nD τ).loc main_arg9)) W) (t : Fin cfg0.N) :
    Is3 (a := 4) (n := 128) (m := 128) (iblk m c 16 t) W := by
  intro g a k
  have h : (iblk m c 16 t : Vec Ideal S4x128x128 .f32) (ix3 g a k) = V m c main_arg9 (ix3 g a k) := by
    unfold iblk
    rw [View.read_apply]
    show V m c main_arg9 _ = _
    congr 1
    funext b
    apply Fin.ext
    match b with
    | ⟨0, _⟩ => show win0_16.index t 0 * 4 + 1 * g.val = g.val; rw [(idx_16 t).1]; omega
    | ⟨1, _⟩ => show win0_16.index t 1 * 128 + 1 * a.val = a.val; rw [(idx_16 t).2.1]; omega
    | ⟨2, _⟩ => show win0_16.index t 2 * 128 + 1 * k.val = k.val; rw [(idx_16 t).2.2]; omega
  rw [h, V_main_arg9]
  exact hW g a k

end Cert.MixIdeal.Hand

end
-- ==== Proof.MixTiles.lean ====
/- From tiles to the whole array: the sums of the spatial gating unit taken block by block, over any rows. -/
module

public import proofs.«01_k».proof.Proof.MixSgu
public import proofs.«01_k».proof.Proof.Tiles

@[expose] public section

noncomputable section

namespace Cert.Mix

open Idealize.ShloMosaic hiding Ideal
open Idealize.ShloMosaic (Ideal)

/-- What a running total of tiles holds after `n + 1` of them. -/
theorem total2 {N a b : ℕ} (o : (n : ℕ) → n < N → ((⟨2, ![a, b]⟩ : Shape).Idx → EReal)) (g : ℕ → ℕ → ℕ → ℝ)
    (h0 : ∀ t : Fin N, ¬1 ≤ t.val → Is2 (o t.val t.isLt) (g t.val))
    (hs : ∀ (t : Fin N) (A : ℕ → ℕ → ℝ), 1 ≤ t.val → Is2 (o (t.val - 1) (Nat.lt_of_le_of_lt (Nat.sub_le _ _) t.isLt)) A →
      Is2 (o t.val t.isLt) (fun r k => A r k + g t.val r k)) :
    ∀ (n : ℕ) (h : n < N), Is2 (o n h) (fun r k => ∑ t ∈ Finset.range (n + 1), g t r k)
  | 0, h => (h0 ⟨0, h⟩ (Nat.not_succ_le_zero 0)).congr fun r k => (Finset.sum_range_one (fun t => g t r k)).symm
  | n + 1, h => (hs ⟨n + 1, h⟩ _ (Nat.le_add_left 1 n) (total2 o g h0 hs n (by omega))).congr fun r k =>
      (Finset.sum_range_succ (fun t => g t r k) (n + 1)).symm

theorem total3 {N d a b : ℕ} (o : (n : ℕ) → n < N → ((⟨3, ![d, a, b]⟩ : Shape).Idx → EReal)) (g : ℕ → ℕ → ℕ → ℕ → ℝ)
    (h0 : ∀ t : Fin N, ¬1 ≤ t.val → Is3 (o t.val t.isLt) (g t.val))
    (hs : ∀ (t : Fin N) (A : ℕ → ℕ → ℕ → ℝ), 1 ≤ t.val → Is3 (o (t.val - 1) (Nat.lt_of_le_of_lt (Nat.sub_le _ _) t.isLt)) A →
      Is3 (o t.val t.isLt) (fun p r k => A p r k + g t.val p r k)) :
    ∀ (n : ℕ) (h : n < N), Is3 (o n h) (fun p r k => ∑ t ∈ Finset.range (n + 1), g t p r k)
  | 0, h => fun p r k => by rw [h0 ⟨0, h⟩ (Nat.not_succ_le_zero 0) p r k]; beta_reduce; rw [zero_add, Finset.sum_range_one]
  | n + 1, h => fun p r k => by
    rw [hs ⟨n + 1, h⟩ _ (Nat.le_add_left 1 n) (total3 o g h0 hs n (by omega)) p r k]; beta_reduce; rw [Finset.sum_range_succ _ (n + 1)]

/-- A sum over the rows of all tiles is the sum over all rows. -/
theorem sum_rows (f : ℕ → ℝ) : ∑ t ∈ Finset.range 8, ∑ r : Fin 512, f (512 * t + r) = ∑ r ∈ Finset.range 4096, f r := by
  rw [← Tiles.sum_tiles 512 f 8]
  exact Finset.sum_congr rfl fun t _ => (Finset.sum_range fun r => f (512 * t + r)).symm

/-- A sum over the four blocks of all tiles is the sum over all blocks. -/
theorem sum_blocks (f : ℕ → ℝ) : ∑ t ∈ Finset.range 8, ∑ b : Fin 4, f (4 * t + b) = ∑ b ∈ Finset.range 32, f b := by
  rw [← Tiles.sum_tiles 4 f 8]
  exact Finset.sum_congr rfl fun t _ => (Finset.sum_range fun r => f (4 * t + r)).symm

/-- The gradient of the normalised half, taken in a tile, is that of the whole array at the tile's rows. -/
theorem dvT_tile (W : ℕ → ℕ → ℕ → ℝ) (Z : ℕ → ℕ → ℝ) (t r k : ℕ) :
    dvT W (fun r k => Z (512 * t + r) k) r k = dvT W Z (512 * t + r) k := by
  unfold dvT
  rw [show (512 * t + r) % 128 = r % 128 by omega, show (512 * t + r) / 128 = 4 * t + r / 128 by omega]
  refine Finset.sum_congr rfl fun i _ => ?_
  beta_reduce
  rw [show 512 * t + (128 * (r / 128) + i.val) = 128 * (4 * t + r / 128) + i.val by omega]

/-- The gradient of the mixing matrix, over all blocks of rows. -/
def dwA (N Z : ℕ → ℕ → ℝ) (h i j : ℕ) : ℝ :=
  if reach i j then ∑ b ∈ Finset.range 32, ∑ c : Fin 128, Z (128 * b + i) (128 * h + c) * N (128 * b + j) (128 * h + c) else 0
/-- The gradient of its bias, channel by channel, over all blocks of rows. -/
def dbA (Z : ℕ → ℕ → ℝ) (h i c : ℕ) : ℝ := ∑ b ∈ Finset.range 32, Z (128 * b + i) (128 * h + c)

theorem dwT_tiles (N Z : ℕ → ℕ → ℝ) (h i j : ℕ) :
    ∑ t ∈ Finset.range 8, dwT (fun r k => N (512 * t + r) k) (fun r k => Z (512 * t + r) k) h i j = dwA N Z h i j := by
  unfold dwT dwA
  split
  · rw [← sum_blocks]
    refine Finset.sum_congr rfl fun t _ => Finset.sum_congr rfl fun b _ => Finset.sum_congr rfl fun c _ => ?_
    beta_reduce
    rw [show 512 * t + (128 * b.val + i) = 128 * (4 * t + b.val) + i by omega, show 512 * t + (128 * b.val + j) = 128 * (4 * t + b.val) + j by omega]
  · exact Finset.sum_const_zero

theorem dbT_tiles (Z : ℕ → ℕ → ℝ) (h i c : ℕ) :
    ∑ t ∈ Finset.range 8, dbT (fun r k => Z (512 * t + r) k) h i c = dbA Z h i c := by
  unfold dbT dbA
  rw [← sum_blocks]
  refine Finset.sum_congr rfl fun t _ => Finset.sum_congr rfl fun b _ => ?_
  beta_reduce
  rw [show 512 * t + (128 * b.val + i) = 128 * (4 * t + b.val) + i by omega]

end Cert.Mix

end
-- ==== Proof.MixSguFinal.lean ====
/- The whole arrays of the spatial gating unit's four parameter gradients, after the last tile. -/
module

public import proofs.«01_k».proof.Proof.MixReads
public import proofs.«01_k».proof.Proof.MixTiles
public import proofs.«01_k».proof.Proof.Gen.MixIdeal.Value

@[expose] public section

set_option maxRecDepth 16384

noncomputable section

namespace Cert.MixIdeal.Hand

open Cert.MixIdeal Cert.MixIdeal.Gen Cert.Mix Idealize.ShloMosaic Idealize.ShloMosaic.TcCoe Idealize.SL.Sem
open Idealize.ShloMosaic.Pipeline (Dat)

variable (m : (ℓ : Loc nD τ sig) → Buf (Elt Ideal) ℓ) (c : Dev nD)

/-- The last tile. -/
abbrev tLast : Fin cfg0.N := ⟨7, by rw [show cfg0.N = 8 from N_0]; decide⟩

/-- An accumulator is written back once, after the last tile. -/
theorem last_block (w : Fin cfg0.W) (hw : ∀ t : Fin cfg0.N, (cfg0.win w).flush t = true ↔ t.val % 8 = 7) :
    ((cfg0.win w).blk tLast).view.read (Elt Ideal) ((dats m 0 c).arrAt w cfg0.N) = (dats m 0 c).flushed w tLast := by
  have hN : cfg0.N = 8 := N_0
  refine (dats m 0 c).read_blk_arrAt_eq_flushed w (fun t t' h h' hne => absurd (Fin.ext ?_) hne) cfg0.N tLast tLast.isLt ((hw _).mpr rfl)
  have := (hw t).mp h; have := (hw t').mp h'; have := t.isLt; have := t'.isLt; omega

theorem idx_25 : ∀ t : Fin cfg0.N, win0_25.index t 0 = 0 ∧ win0_25.index t 1 = 0 :=
  (by decide +kernel : ∀ t : Fin grid0.N, win0_25.index t 0 = 0 ∧ win0_25.index t 1 = 0)
theorem final25 (i : Fin 1) (k : Fin 512) :
    ((dats m 0 c).arrAt 25 cfg0.N : Vec Ideal S1x512 .f32) (ix2 i k) = (outsAt0 m c 7 tLast.isLt).2.2.2.2.2.2.2.1 (ix2 i k) := by
  have hb := congrFun ((last_block m c 25 flush0_25).trans (Value.flushed25 m c tLast)) (ix2 i k)
  rw [View.read_apply] at hb
  refine Eq.trans ?_ (hb.trans rfl)
  show (dats m 0 c).arrAt 25 cfg0.N _ = (dats m 0 c).arrAt 25 cfg0.N _
  congr 1
  funext b
  apply Fin.ext
  match b with
  | ⟨0, _⟩ => show i.val = win0_25.index tLast 0 * 1 + 1 * i.val; rw [(idx_25 _).1]; omega
  | ⟨1, _⟩ => show k.val = win0_25.index tLast 1 * 512 + 1 * k.val; rw [(idx_25 _).2]; omega
theorem idx_26 : ∀ t : Fin cfg0.N, win0_26.index t 0 = 0 ∧ win0_26.index t 1 = 0 :=
  (by decide +kernel : ∀ t : Fin grid0.N, win0_26.index t 0 = 0 ∧ win0_26.index t 1 = 0)
theorem final26 (i : Fin 1) (k : Fin 512) :
    ((dats m 0 c).arrAt 26 cfg0.N : Vec Ideal S1x512 .f32) (ix2 i k) = (outsAt0 m c 7 tLast.isLt).2.2.2.2.2.2.2.2.1 (ix2 i k) := by
  have hb := congrFun ((last_block m c 26 flush0_26).trans (Value.flushed26 m c tLast)) (ix2 i k)
  rw [View.read_apply] at hb
  refine Eq.trans ?_ (hb.trans rfl)
  show (dats m 0 c).arrAt 26 cfg0.N _ = (dats m 0 c).arrAt 26 cfg0.N _
  congr 1
  funext b
  apply Fin.ext
  match b with
  | ⟨0, _⟩ => show i.val = win0_26.index tLast 0 * 1 + 1 * i.val; rw [(idx_26 _).1]; omega
  | ⟨1, _⟩ => show k.val = win0_26.index tLast 1 * 512 + 1 * k.val; rw [(idx_26 _).2]; omega
theorem idx_27 : ∀ t : Fin cfg0.N, win0_27.index t 0 = 0 ∧ win0_27.index t 1 = 0 ∧ win0_27.index t 2 = 0 :=
  (by decide +kernel : ∀ t : Fin grid0.N, win0_27.index t 0 = 0 ∧ win0_27.index t 1 = 0 ∧ win0_27.index t 2 = 0)
theorem final27 (g : Fin 4) (i k : Fin 128) :
    ((dats m 0 c).arrAt 27 cfg0.N : Vec Ideal S4x128x128 .f32) (ix3 g i k) = (outsAt0 m c 7 tLast.isLt).2.2.2.2.2.2.2.2.2.1 (ix3 g i k) := by
  have hb := congrFun ((last_block m c 27 flush0_27).trans (Value.flushed27 m c tLast)) (ix3 g i k)
  rw [View.read_apply] at hb
  refine Eq.trans ?_ (hb.trans rfl)
  show (dats m 0 c).arrAt 27 cfg0.N _ = (dats m 0 c).arrAt 27 cfg0.N _
  congr 1
  funext b
  apply Fin.ext
  match b with
  | ⟨0, _⟩ => show g.val = win0_27.index tLast 0 * 4 + 1 * g.val; rw [(idx_27 _).1]; omega
  | ⟨1, _⟩ => show i.val = win0_27.index tLast 1 * 128 + 1 * i.val; rw [(idx_27 _).2.1]; omega
  | ⟨2, _⟩ => show k.val = win0_27.index tLast 2 * 128 + 1 * k.val; rw [(idx_27 _).2.2]; omega
theorem idx_28 : ∀ t : Fin cfg0.N, win0_28.index t 0 = 0 ∧ win0_28.index t 1 = 0 ∧ win0_28.index t 2 = 0 :=
  (by decide +kernel : ∀ t : Fin grid0.N, win0_28.index t 0 = 0 ∧ win0_28.index t 1 = 0 ∧ win0_28.index t 2 = 0)
theorem final28 (g : Fin 4) (i k : Fin 128) :
    ((dats m 0 c).arrAt 28 cfg0.N : Vec Ideal S4x128x128 .f32) (ix3 g i k) = (outsAt0 m c 7 tLast.isLt).2.2.2.2.2.2.2.2.2.2 (ix3 g i k) := by
  have hb := congrFun ((last_block m c 28 flush0_28).trans (Value.flushed28 m c tLast)) (ix3 g i k)
  rw [View.read_apply] at hb
  refine Eq.trans ?_ (hb.trans rfl)
  show (dats m 0 c).arrAt 28 cfg0.N _ = (dats m 0 c).arrAt 28 cfg0.N _
  congr 1
  funext b
  apply Fin.ext
  match b with
  | ⟨0, _⟩ => show g.val = win0_28.index tLast 0 * 4 + 1 * g.val; rw [(idx_28 _).1]; omega
  | ⟨1, _⟩ => show i.val = win0_28.index tLast 1 * 128 + 1 * i.val; rw [(idx_28 _).2.1]; omega
  | ⟨2, _⟩ => show k.val = win0_28.index tLast 2 * 128 + 1 * k.val; rw [(idx_28 _).2.2]; omega

variable {X Y : ℕ → ℕ → ℝ} {G B : ℕ → ℝ} {W : ℕ → ℕ → ℕ → ℝ}

theorem mod_of_not {t : Fin cfg0.N} (h : ¬1 ≤ t.val) : t.val % 8 = 0 := by omega
theorem not_mod_of {t : Fin cfg0.N} (h : 1 ≤ t.val) : ¬t.val % 8 = 0 := by
  have := lt_of_lt_of_eq t.isLt (show cfg0.N = 8 from N_0); omega

/-- The gradient of the gain: every row's contribution. -/
theorem kernel_dslg (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hW : Is3 (a := 4) (n := 128) (m := 128) (m ((c : Thread nD τ).loc main_arg9)) W) :
    Is2 (n := 1) (m := 512) ((dats m 0 c).arrAt 25 cfg0.N) (fun _ k => ∑ r ∈ Finset.range 4096, dvT W (zG X Y) r k * nrm (gV X) r k) := by
  have ht := total2 (a := 1) (b := 512) (fun n h => (outsAt0 m c n h).2.2.2.2.2.2.2.1)
    (fun t _ k => ∑ r : Fin 512, dvT W (zG X Y) (512 * t + r) k * nrm (gV X) (512 * t + r) k)
    (fun t hb => (w25_A (m := m) (t := t) (mod_of_not hb) hb (blk_1 m hX _) (blk_4 m hY _) (blk_16 m hW _)).congr fun r k =>
      Finset.sum_congr rfl fun r _ => congrArg₂ (· * ·) (dvT_tile W (zG X Y) t.val r k) rfl)
    (fun t A hb hA => (w25_B (m := m) (t := t) (not_mod_of hb) hb (blk_1 m hX _) (blk_4 m hY _) (blk_16 m hW _) hA).congr fun r k => by
      obtain rfl : r = 0 := Subsingleton.elim _ _
      exact congrArg (A 0 k + ·) (Finset.sum_congr rfl fun r _ => congrArg₂ (· * ·) (dvT_tile W (zG X Y) t.val r k) rfl))
    7 tLast.isLt
  intro i k
  rw [final25]
  refine (ht i k).trans ?_
  rw [EReal.coe_eq_coe_iff]
  exact sum_rows (fun r => dvT W (zG X Y) r k * nrm (gV X) r k)

/-- The gradient of the shift. -/
theorem kernel_dslb (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hW : Is3 (a := 4) (n := 128) (m := 128) (m ((c : Thread nD τ).loc main_arg9)) W) :
    Is2 (n := 1) (m := 512) ((dats m 0 c).arrAt 26 cfg0.N) (fun _ k => ∑ r ∈ Finset.range 4096, dvT W (zG X Y) r k) := by
  have ht := total2 (a := 1) (b := 512) (fun n h => (outsAt0 m c n h).2.2.2.2.2.2.2.2.1)
    (fun t _ k => ∑ r : Fin 512, dvT W (zG X Y) (512 * t + r) k)
    (fun t hb => (w26_A (m := m) (t := t) (mod_of_not hb) hb (blk_1 m hX _) (blk_4 m hY _) (blk_16 m hW _)).congr fun r k =>
      Finset.sum_congr rfl fun r _ => dvT_tile W (zG X Y) t.val r k)
    (fun t A hb hA => (w26_B (m := m) (t := t) (not_mod_of hb) hb (blk_1 m hX _) (blk_4 m hY _) (blk_16 m hW _) hA).congr fun r k => by
      obtain rfl : r = 0 := Subsingleton.elim _ _
      exact congrArg (A 0 k + ·) (Finset.sum_congr rfl fun r _ => dvT_tile W (zG X Y) t.val r k))
    7 tLast.isLt
  intro i k
  rw [final26]
  refine (ht i k).trans ?_
  rw [EReal.coe_eq_coe_iff]
  exact sum_rows (fun r => dvT W (zG X Y) r k)

/-- The gradient of the heads' mixing matrices. -/
theorem kernel_dgw (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hG : ∀ k : Fin 512, (m ((c : Thread nD τ).loc main_arg7) : FVec Ideal S512 .f32) (ix1 k) = ((G k : ℝ) : EReal))
    (hB : ∀ k : Fin 512, (m ((c : Thread nD τ).loc main_arg8) : FVec Ideal S512 .f32) (ix1 k) = ((B k : ℝ) : EReal)) :
    Is3 (a := 4) (n := 128) (m := 128) ((dats m 0 c).arrAt 27 cfg0.N) (dwA (nG X (fun _ => G) (fun _ => B)) (zG X Y)) := by
  have ht := total3 (d := 4) (a := 128) (b := 128) (fun n h => (outsAt0 m c n h).2.2.2.2.2.2.2.2.2.1)
    (fun t => dwT (fun r k => nG X (fun _ => G) (fun _ => B) (512 * t + r) k) (fun r k => zG X Y (512 * t + r) k))
    (fun t hb => by
      have h := w27_A (m := m) (t := t) (mod_of_not hb) hb (blk_1 m hX _) (blk_4 m hY _) (blk_14 m hG _) (blk_15 m hB _)
      intro g i k
      exact h g i k)
    (fun t A hb hA => by
      have h := w27_B (m := m) (t := t) (not_mod_of hb) hb (blk_1 m hX _) (blk_4 m hY _) (blk_14 m hG _) (blk_15 m hB _) hA
      intro g i k
      exact h g i k)
    7 tLast.isLt
  intro g i k
  rw [final27]
  refine (ht g i k).trans ?_
  rw [EReal.coe_eq_coe_iff]
  exact dwT_tiles _ _ g i k

/-- The gradient of their biases, channel by channel. -/
theorem kernel_dgb (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal)) :
    Is3 (a := 4) (n := 128) (m := 128) ((dats m 0 c).arrAt 28 cfg0.N) (dbA (zG X Y)) := by
  have ht := total3 (d := 4) (a := 128) (b := 128) (fun n h => (outsAt0 m c n h).2.2.2.2.2.2.2.2.2.2)
    (fun t => dbT (fun r k => zG X Y (512 * t + r) k))
    (fun t hb => w28_A (m := m) (t := t) (mod_of_not hb) hb (blk_1 m hX _) (blk_4 m hY _))
    (fun t A hb hA => w28_B (m := m) (t := t) (not_mod_of hb) hb (blk_1 m hX _) (blk_4 m hY _) hA)
    7 tLast.isLt
  intro g i k
  rw [final28]
  refine (ht g i k).trans ?_
  rw [EReal.coe_eq_coe_iff]
  exact dbT_tiles _ g i k

end Cert.MixIdeal.Hand

end
-- ==== Proof.MixSguRef.lean ====
/- The reference's spatial gating unit, for arguments that are real numbers. -/
module

public import proofs.«01_k».proof.Proof.Gen.MixRefIdeal.Run
public import proofs.«01_k».proof.Proof.MixSgu
public import proofs.«01_k».proof.Proof.MixTiles
public import proofs.«01_k».proof.Proof.HostSum
public import Idealize.ShloMosaic.Lib.Pointwise

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem

/-- An array of one sequence of 4096 rows which holds the reals `f`. -/
def IsR {n : ℕ} (v : (⟨3, ![1, 4096, n]⟩ : Shape).Idx → EReal) (f : ℕ → ℕ → ℝ) : Prop :=
  ∀ (r : Fin 4096) (k : Fin n), v (ix3 0 r k) = ((f r k : ℝ) : EReal)

theorem IsR.eq {n : ℕ} {v : (⟨3, ![1, 4096, n]⟩ : Shape).Idx → EReal} {f : ℕ → ℕ → ℝ} (h : IsR v f) (r : Fin 4096) (k : Fin n) :
    v (ix3 0 r k) = ((f r k : ℝ) : EReal) := h r k

theorem lit_44715 : Ideal.ofBits .f32 1194240768#32 = ((44715 : ℝ) : EReal) := by
  simp [Ideal.ofBits, Ideal.ieee]; norm_num; rw [← EReal.coe_mul]; norm_num
theorem lit_million : Ideal.ofBits .f32 1232348160#32 = ((1000000 : ℝ) : EReal) := by
  simp [Ideal.ofBits, Ideal.ieee]; norm_num; rw [← EReal.coe_mul]; norm_num

variable (V0 : Valuation τ sig (Elt Ideal)) {X Y : ℕ → ℕ → ℝ} {G B : ℕ → ℝ} {W : ℕ → ℕ → ℕ → ℝ}

/-- The gelu of the gate's two halves. -/
theorem r408 (hX : IsR (n := 8192) (V0 (Proc.devRef .tc main_arg0)) X) :
    IsR (n := 1024) (res_main_v408 V0) (fun r k => gel (X r (3072 + k))) := by
  intro r k
  pointwise [res_main_v408, res_main_v407, res_main_v398, res_main_v5]
  simp only [← EReal.coe_one, hX.eq, Lift.lit_half, lit_c0, lit_44715, lit_million, Lift.div_coe (by norm_num : (1000000 : ℝ) ≠ 0), ← EReal.coe_mul, ← EReal.coe_add, tanh_coe]
  rw [EReal.coe_eq_coe_iff]
  unfold gel th
  rw [show 44715 * (X r (3072 + k) * X r (3072 + k) * X r (3072 + k)) / 1000000 = c1 * X r (3072 + k) * X r (3072 + k) * X r (3072 + k) by unfold c1; ring]
  ring

/-- The row means and the centred rows. -/
theorem r410 (hX : IsR (n := 8192) (V0 (Proc.devRef .tc main_arg0)) X) : IsR (n := 512) (res_main_v410 V0) (gV X) := by
  intro r k
  pointwise [res_main_v410]
  rw [r408 V0 hX]
  unfold gV
  exact congrArg (fun j => ((gel (X r j) : ℝ) : EReal)) (by dsimp only; omega)

theorem r409 (hX : IsR (n := 8192) (V0 (Proc.devRef .tc main_arg0)) X) : IsR (n := 512) (res_main_v409 V0) (gU X) := by
  intro r k
  pointwise [res_main_v409]
  exact r408 V0 hX r _

theorem r425 (hX : IsR (n := 8192) (V0 (Proc.devRef .tc main_arg0)) X) : IsR (n := 512) (res_main_v425 V0) (cen (gV X)) := by
  intro r k
  pointwise [res_main_v425, res_main_v414]
  simp only [(r410 V0 hX).eq, lit_512, Lift.sum_coe, Lift.div_coe (by norm_num : (512 : ℝ) ≠ 0), ← EReal.coe_sub]
  rfl

theorem r416 (hX : IsR (n := 8192) (V0 (Proc.devRef .tc main_arg0)) X) : IsR (n := 512) (res_main_v416 V0) (cen (gV X)) := r425 V0 hX

/-- One over the standard deviation of a row. -/
theorem r428 (hX : IsR (n := 8192) (V0 (Proc.devRef .tc main_arg0)) X) (r : Fin 4096) :
    (res_main_v428 V0) (ix3 0 r 0) = ((rs (gV X) r : ℝ) : EReal) := by
  pointwise [res_main_v428, res_main_v427]
  simp only [(r416 V0 hX).eq, lit_512, Lift.lit_eps, ← EReal.coe_mul, Lift.sum_coe, Lift.div_coe (by norm_num : (512 : ℝ) ≠ 0), ← EReal.coe_add]
  exact Lift.rsqrt_coe (vr_pos (gV X) r)

theorem r433 (hX : IsR (n := 8192) (V0 (Proc.devRef .tc main_arg0)) X) : IsR (n := 512) (res_main_v433 V0) (nrm (gV X)) := by
  intro r k
  pointwise [res_main_v433]
  rw [r425 V0 hX, r428 V0 hX, ← EReal.coe_mul]
  rfl

/-- The normalised half with its gain and shift, its rows in blocks of 128 and its columns in heads of 128. -/
theorem r440 (hX : IsR (n := 8192) (V0 (Proc.devRef .tc main_arg0)) X)
    (hG : ∀ k : Fin 512, (V0 (Proc.devRef .tc main_arg7) : FVec Ideal S512 .f32) (ix1 k) = ((G k : ℝ) : EReal))
    (hB : ∀ k : Fin 512, (V0 (Proc.devRef .tc main_arg8) : FVec Ideal S512 .f32) (ix1 k) = ((B k : ℝ) : EReal))
    (b : Fin 32) (i : Fin 128) (h : Fin 4) (c : Fin 128) :
    (res_main_v440 V0) (ix5 0 b i h c) = ((nG X (fun _ => G) (fun _ => B) (128 * b + i) (128 * h + c) : ℝ) : EReal) := by
  pointwise [res_main_v440, res_main_v434]
  rw [r433 V0 hX, hG, hB, ← EReal.coe_mul, ← EReal.coe_add, mul_comm 128 b.val, mul_comm 128 h.val]
  rfl

/-- The chunk of 64 a row lies in, by the quotient that rounds down. -/
def chunk (i : ℕ) : BitVec 32 :=
  Scalar.select
    (IntOp.andi
      (IntOp.cmpi CmpIPredicate.ne (if BitVec.ofNat 32 i = 0 then (0 : BitVec 32) else if (BitVec.ofNat 32 i).msb = true then (-1 : BitVec 32) else (1 : BitVec 32))
        (if 64#32 = 0 then (0 : BitVec 32) else if BitVec.msb 64#32 = true then (-1 : BitVec 32) else (1 : BitVec 32)))
      (IntOp.cmpi CmpIPredicate.ne (IntOp.remsi ArithUnit.host (BitVec.ofNat 32 i) 64#32) 0#32))
    (IntOp.subi (IntOp.divsi ArithUnit.host (BitVec.ofNat 32 i) 64#32) 1#32)
    (IntOp.divsi ArithUnit.host (BitVec.ofNat 32 i) 64#32)

theorem chunk_eq : ∀ i : Fin 128, chunk i = BitVec.ofNat 32 (i.val / 64) := by decide +kernel

/-- The chunk mask. -/
theorem r450_1 (h : Fin 4) (i j : Fin 128) : (res_main_v450_1 V0) (ix3 h i j) = if reach i j then 1#1 else 0#1 := by
  pointwise [res_main_v450_1, res_main_v442, res_main_v444, res_main_call2_v0, res_main_call2_v2, res_main_call3_v0, res_main_call3_v2, res_main_v441]
  change IntOp.cmpi .sle (chunk j) (chunk i) = _
  rw [chunk_eq, chunk_eq]
  have : ∀ a b : Fin 2, IntOp.cmpi CmpIPredicate.sle (BitVec.ofNat 32 a.val) (BitVec.ofNat 32 b.val) = if a.val ≤ b.val then 1#1 else 0#1 := by
    decide +kernel
  exact this ⟨j.val / 64, by omega⟩ ⟨i.val / 64, by omega⟩

theorem r450_0 (hW : Is3 (a := 4) (n := 128) (m := 128) (V0 (Proc.devRef .tc main_arg9)) W) (h : Fin 4) (i j : Fin 128) :
    (res_main_v450_0 V0) (ix3 h i j) = ((wm (W h) i j : ℝ) : EReal) := by
  pointwise [res_main_v450_0]
  rw [r450_1, select_ite, hW h i j]
  exact coe_ite _ _

/-- The gradient of the mixed half. -/
theorem r474 (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (b : Fin 32) (i : Fin 128) (h : Fin 4) (c : Fin 128) :
    (res_main_v474 V0) (ix5 0 b i h c) = ((zG X Y (128 * b + i) (128 * h + c) : ℝ) : EReal) := by
  pointwise [res_main_v474, res_main_v471]
  rw [r409 V0 hX, hY, ← EReal.coe_mul, mul_comm, mul_comm 128 b.val, mul_comm 128 h.val]
  rfl

/-- The gradient of the normalised half. -/
theorem r484 (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (hW : Is3 (a := 4) (n := 128) (m := 128) (V0 (Proc.devRef .tc main_arg9)) W) :
    IsR (n := 512) (res_main_v484 V0) (dvT W (zG X Y)) := by
  intro r k
  pointwise [res_main_v484, res_main_v479]
  simp only [r474 V0 hX hY, r450_0 V0 hW, ← EReal.coe_mul, Lift.sum_coe]
  rw [EReal.coe_eq_coe_iff]
  refine Finset.sum_congr rfl fun i _ => ?_
  rw [mul_comm, show 128 * (k.val / 128) + k.val % 128 = k.val by omega]

/-- The product that sums over the one part, the 32 blocks and the 128 lanes, at an index. -/
theorem dot3_apply (lhs : S4x1x32x128x128.Idx → EReal) (rhs : S1x32x128x4x128.Idx → EReal) (acc : S4x128x128.Idx → EReal) (h : Fin 4) (i j : Fin 128) :
    Ideal.matmul dot_S4x1x32x128x128_S1x32x128x4x128_S4x128x128_123_014_4_2_0_3 lhs rhs acc (ix3 h i j)
      = acc (ix3 h i j) + ∑ a : Fin 1, ∑ b : Fin 32, ∑ c : Fin 128, lhs (ix5 h a b c i) * rhs (ix5 a b j h c) := by
  unfold Ideal.matmul
  congr 1
  rw [← Fintype.sum_equiv (⟨fun p : Fin 1 × Fin 32 × Fin 128 => fun q => match q with | ⟨0, _⟩ => p.1 | ⟨1, _⟩ => p.2.1 | ⟨2, _⟩ => p.2.2,
      fun k => (k ⟨0, by decide⟩, k ⟨1, by decide⟩, k ⟨2, by decide⟩), fun _ => rfl, fun k => by funext q; match q with | ⟨0, _⟩ => rfl | ⟨1, _⟩ => rfl | ⟨2, _⟩ => rfl⟩ :
        Fin 1 × Fin 32 × Fin 128 ≃ (dot_S4x1x32x128x128_S1x32x128x4x128_S4x128x128_123_014_4_2_0_3).contr.Idx)
    (fun p => lhs (ix5 h p.1 p.2.1 p.2.2 i) * rhs (ix5 p.1 p.2.1 j h p.2.2)) _ ?_]
  · simp only [Fintype.sum_prod_type]
  · rintro ⟨a, b, c⟩
    congr 2
    · funext q; match q with | ⟨0, _⟩ => rfl | ⟨1, _⟩ => rfl | ⟨2, _⟩ => rfl | ⟨3, _⟩ => rfl | ⟨4, _⟩ => rfl
    · funext q; match q with | ⟨0, _⟩ => rfl | ⟨1, _⟩ => rfl | ⟨2, _⟩ => rfl | ⟨3, _⟩ => rfl | ⟨4, _⟩ => rfl

theorem rdgw (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (hG : ∀ k : Fin 512, (V0 (Proc.devRef .tc main_arg7) : FVec Ideal S512 .f32) (ix1 k) = ((G k : ℝ) : EReal))
    (hB : ∀ k : Fin 512, (V0 (Proc.devRef .tc main_arg8) : FVec Ideal S512 .f32) (ix1 k) = ((B k : ℝ) : EReal)) :
    Is3 (a := 4) (n := 128) (m := 128) (select (res_main_v450_1 V0) (Host.dotGeneral (φ₁ := .f32) (φ₂ := .f32) dot_S4x1x32x128x128_S1x32x128x4x128_S4x128x128_123_014_4_2_0_3 none (res_main_v479 V0) (res_main_v440 V0)) (broadcastInDim S4x128x128 ![] bcast_S_S4x128x128 (constant (F := Ideal) S_ .f32 0x00000000#32))) (dwA (nG X (fun _ => G) (fun _ => B)) (zG X Y)) := by
  intro h i j
  pointwise [res_main_v479]
  rw [dot3_apply, r450_1]
  pointwise
  simp only [Fintype.sum_unique, Fin.default_eq_zero, r474 V0 hX hY, r440 V0 hX hG hB, ← EReal.coe_mul, Lift.sum_coe]
  unfold dwA
  by_cases hr : reach i.val j.val
  · rw [if_pos hr, if_pos hr, Finset.sum_range]
    rfl
  · rw [if_neg hr, if_neg hr]
    rfl

theorem rdgb (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal)) :
    Is3 (a := 4) (n := 128) (m := 128) (transpose S4x128x128 [1, 0, 2] (Host.reduceAdd (shapeCast _ (Host.reduceAdd (res_main_v474 V0) (constant S_ .f32 0x00000000#32) reducesTo_S1x32x128x4x128_S1x128x4x128_d1 h_S_) shapeCasts_S1x128x4x128_S1x1x128x4x128) (constant S_ .f32 0x00000000#32) reducesTo_S1x1x128x4x128_S128x4x128_d0_1 h_S_) transposes_S128x4x128_S4x128x128_1_0_2) (dbA (zG X Y)) := by
  intro h i c
  pointwise
  rw [Cert.HostSum.sum01_5]
  pointwise
  simp only [r474 V0 hX hY, Finset.univ_unique, Finset.sum_singleton, Lift.sum_coe]
  rw [EReal.coe_eq_coe_iff]; unfold dbA; rw [Finset.sum_range]

theorem rdslb (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (hW : Is3 (a := 4) (n := 128) (m := 128) (V0 (Proc.devRef .tc main_arg9)) W) :
    Is2 (n := 1) (m := 512) (shapeCast S1x512 (Host.reduceAdd (shapeCast _ (Host.reduceAdd (res_main_v484 V0) (constant S_ .f32 0x00000000#32) reducesTo_S1x4096x512_S1x512_d1 h_S_) shapeCasts_S1x512_S1x1x512) (constant S_ .f32 0x00000000#32) reducesTo_S1x1x512_S512_d0_1 h_S_) shapeCasts_S512_S1x512)
      (fun _ k => ∑ r ∈ Finset.range 4096, dvT W (zG X Y) r k) := by
  intro i k
  pointwise
  simp only [Cert.HostSum.sum01]
  pointwise
  simp only [(r484 V0 hX hY hW).eq, Finset.univ_unique, Finset.sum_singleton, Lift.sum_coe]
  rw [EReal.coe_eq_coe_iff, Finset.sum_range]

theorem rdslg (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (hW : Is3 (a := 4) (n := 128) (m := 128) (V0 (Proc.devRef .tc main_arg9)) W) :
    Is2 (n := 1) (m := 512) (shapeCast S1x512 (Host.reduceAdd (shapeCast _ (Host.reduceAdd (mulf (res_main_v433 V0) (res_main_v484 V0)) (constant S_ .f32 0x00000000#32) reducesTo_S1x4096x512_S1x512_d1 h_S_) shapeCasts_S1x512_S1x1x512) (constant S_ .f32 0x00000000#32) reducesTo_S1x1x512_S512_d0_1 h_S_) shapeCasts_S512_S1x512)
      (fun _ k => ∑ r ∈ Finset.range 4096, dvT W (zG X Y) r k * nrm (gV X) r k) := by
  intro i k
  pointwise
  simp only [Cert.HostSum.sum01]
  pointwise
  simp only [(r484 V0 hX hY hW).eq, (r433 V0 hX).eq, ← EReal.coe_mul, Finset.univ_unique, Finset.sum_singleton, Lift.sum_coe]
  rw [EReal.coe_eq_coe_iff, Finset.sum_range]
  exact Finset.sum_congr rfl fun r _ => mul_comm _ _

end Cert.MixRefIdeal.Hand

end
-- ==== Proof.MixPool.lean ====
/- The causal pooling and its transpose on one tile: the rotations of the kernel, and what they hold. A tile has 32 rows before its own 512 and 32 after them. -/
module

public import proofs.«01_k».proof.Proof.MixReal
public import proofs.«01_k».proof.Proof.Gen.MixIdeal.Skeleton

@[expose] public section

noncomputable section

namespace Cert.Mix

open Cert.MixIdeal Cert.MixIdeal.Gen
open Idealize.ShloMosaic hiding Ideal
open Idealize.ShloMosaic (Ideal)

/-- The rows from `a` to `b` hold the reals `f`. -/
def On (a b : ℕ) {m : ℕ} (v : (⟨2, ![576, m]⟩ : Shape).Idx → EReal) (f : ℕ → ℕ → ℝ) : Prop :=
  ∀ (r : Fin 576) (k : Fin m), a ≤ r.val → r.val < b → v (ix2 r k) = ((f r k : ℝ) : EReal)

theorem On.congr {a b m : ℕ} {v : (⟨2, ![576, m]⟩ : Shape).Idx → EReal} {f g : ℕ → ℕ → ℝ} (h : On a b v f)
    (e : ∀ r k, a ≤ r → r < b → f r k = g r k) : On a b v g := fun r k ha hb => by rw [h r k ha hb, e r k ha hb]

theorem On.mono {a b a' b' m : ℕ} {v : (⟨2, ![576, m]⟩ : Shape).Idx → EReal} {f : ℕ → ℕ → ℝ} (h : On a b v f) (ha : a ≤ a') (hb : b' ≤ b) :
    On a' b' v f := fun r k h1 h2 => h r k (ha.trans h1) (h2.trans_le hb)

/-- A column holds the reals `f`. -/
def OnC (v : (⟨2, ![576, 1]⟩ : Shape).Idx → EReal) (f : ℕ → ℝ) : Prop :=
  ∀ r : Fin 576, v (ix2 r (0 : Fin 1)) = ((f r : ℝ) : EReal)

/-- An array and its rotation by `s` rows, added. -/
def rot (s : BitVec 32) (v : FVec Ideal S576x128 .f32) : FVec Ideal S576x128 .f32 :=
  addf v (dynamicRotate 0 s none v rotates_S576x128_d0)

theorem rotate_at {v : FVec Ideal S576x128 .f32} (s : BitVec 32) (r q : Fin 576) (k : Fin 128) (h : (r.val + 576 - s.toNat % 576) % 576 = q.val) :
    dynamicRotate 0 s none v rotates_S576x128_d0 (ix2 r k) = v (ix2 q k) := by
  pointwise
  exact congrArg (fun x => v (ix2 x k)) (Fin.ext h)

/-- Rotated towards later rows, a row sees the row `s` before it. -/
theorem rot_fwd {a b : ℕ} {v : FVec Ideal S576x128 .f32} {f : ℕ → ℕ → ℝ} (s : ℕ) (hs : s < 576) (h : On a b (m := 128) v f) :
    On (a + s) b (m := 128) (rot (BitVec.ofNat 32 s) v) (fun r k => f r k + f (r - s) k) := by
  intro r k ha hb
  have hr := r.isLt
  have h1 := h r k (by omega) hb
  have h2 := h ⟨r.val - s, by omega⟩ k (by show a ≤ r.val - s; omega) (by show r.val - s < b; omega)
  have e : dynamicRotate 0 (BitVec.ofNat 32 s) none v rotates_S576x128_d0 (ix2 r k) = v (ix2 ⟨r.val - s, by omega⟩ k) :=
    rotate_at _ r _ k (by rw [BitVec.toNat_ofNat]; show _ = r.val - s; omega)
  show v (ix2 r k) + dynamicRotate 0 (BitVec.ofNat 32 s) none v rotates_S576x128_d0 (ix2 r k) = _
  rw [e, h1, h2, ← EReal.coe_add]

/-- Rotated towards earlier rows, a row sees the row `s` after it. -/
theorem rot_bwd {a b : ℕ} {v : FVec Ideal S576x128 .f32} {f : ℕ → ℕ → ℝ} (s : ℕ) (hs : s < 576) (hs0 : 0 < s) (hb' : b ≤ 576) (h : On a b (m := 128) v f) :
    On a (b - s) (m := 128) (rot (BitVec.ofNat 32 (576 - s)) v) (fun r k => f r k + f (r + s) k) := by
  intro r k ha hb
  have hr := r.isLt
  have h1 := h r k (by omega) (by omega)
  have h2 := h ⟨r.val + s, by omega⟩ k (by show a ≤ r.val + s; omega) (by show r.val + s < b; omega)
  have e : dynamicRotate 0 (BitVec.ofNat 32 (576 - s)) none v rotates_S576x128_d0 (ix2 r k) = v (ix2 ⟨r.val + s, by omega⟩ k) :=
    rotate_at _ r _ k (by rw [BitVec.toNat_ofNat]; show _ = r.val + s; omega)
  show v (ix2 r k) + dynamicRotate 0 (BitVec.ofNat 32 (576 - s)) none v rotates_S576x128_d0 (ix2 r k) = _
  rw [e, h1, h2, ← EReal.coe_add]

/-- The number of rows a window of `w` rows sees at row `n`, the array having 32 rows before its first. -/
def cnt (w n : ℕ) : ℝ := ((min w (max 1 (n - 31)) : ℕ) : ℝ)

theorem cnt_ne {w : ℕ} (hw : 0 < w) (n : ℕ) : cnt w n ≠ 0 := by
  unfold cnt
  exact Nat.cast_ne_zero.mpr (by omega)

/-- The kernel's column of these numbers. -/
def cntV (w : BitVec 32) (v : IVec S576x1 32) : FVec Ideal S576x1 .f32 :=
  sitofp .f32 (minsi (broadcast S576x1 w) (maxsi (broadcast S576x1 1#32) (addi v (broadcast S576x1 1#32))))

theorem cnt_word (w n : ℕ) (hw : w ≤ 16) (hn : n < 4608) (x : BitVec 32) (hx : x.toInt = (n : ℤ) - 31) :
    (IntOp.minsi (BitVec.ofNat 32 w) (IntOp.maxsi 1#32 x)).toInt = ((min w (max 1 (n - 31)) : ℕ) : ℤ) := by
  have h1 : (1#32 : BitVec 32).toInt = 1 := by decide
  have h2 : (BitVec.ofNat 32 w).toInt = w := by
    rw [BitVec.toInt_ofNat']
    norm_num [Int.bmod]
    omega
  have e : (IntOp.maxsi 1#32 x).toInt = max 1 ((n : ℤ) - 31) := by
    unfold IntOp.maxsi
    rw [BitVec.slt, h1, hx]
    by_cases h : (n : ℤ) - 31 < 1 <;> simp only [h, decide_true, decide_false, if_true, if_false, Bool.false_eq_true, h1, hx] <;> omega
  unfold IntOp.minsi
  rw [BitVec.slt, h2, e]
  by_cases h : (w : ℤ) < max 1 ((n : ℤ) - 31) <;> simp only [h, decide_true, decide_false, if_true, if_false, Bool.false_eq_true, h2, e] <;> omega

theorem cntV_eq (w : ℕ) (hw : w ≤ 16) (t : ℕ) (ht : t < 8) : OnC (cntV (BitVec.ofNat 32 w) (k0_pay8 (BitVec.ofNat 32 t))) (fun e => cnt w (512 * t + e)) := by
  intro e
  pointwise [cntV, k0_pay8]
  show (((BitVec.toInt _ : ℤ) : ℝ) : EReal) = _
  rw [cnt_word w (512 * t + e.val) hw (by omega)]
  · unfold cnt; rw [Int.cast_natCast]
  · have he := e.isLt
    have h1 : IntOp.addi (IntOp.addi (Scalar.subi (Scalar.muli (BitVec.ofNat 32 t) 512#32) 32#32) (BitVec.ofNat 32 e.val)) 1#32
        = BitVec.ofNat 32 (512 * t + e.val) - 31#32 := by
      have ha : Scalar.subi (Scalar.muli (BitVec.ofNat 32 t) 512#32) 32#32 = BitVec.ofNat 32 (512 * t) - 32#32 := by
        interval_cases t <;> rfl
      have hb : BitVec.ofNat 32 (512 * t + e.val) = BitVec.ofNat 32 (512 * t) + BitVec.ofNat 32 e.val := BitVec.ofNat_add _ _
      rw [ha, hb]
      show BitVec.ofNat 32 (512 * t) - 32#32 + BitVec.ofNat 32 e.val + 1#32 = _
      generalize BitVec.ofNat 32 (512 * t) = x
      generalize BitVec.ofNat 32 e.val = y
      apply BitVec.eq_of_toNat_eq
      have := x.isLt
      have := y.isLt
      simp only [BitVec.toNat_add, BitVec.toNat_sub, BitVec.toNat_ofNat]
      omega
    rw [h1]
    have h2 : (BitVec.ofNat 32 (512 * t + e.val)).toNat = 512 * t + e.val := by rw [BitVec.toNat_ofNat]; omega
    generalize BitVec.ofNat 32 (512 * t + e.val) = x at h2
    rw [BitVec.toInt_eq_toNat_cond, BitVec.toNat_sub, h2]
    norm_num
    split <;> omega

/-- What is pooled at row `n` over a window of `w` rows, less the row itself. -/
def poolF (w : ℕ) (f : ℕ → ℕ → ℝ) (n k : ℕ) : ℝ := (∑ s ∈ Finset.range w, f (n - s) k) / cnt w n - f n k
/-- The transpose of that. -/
def poolB (w : ℕ) (f : ℕ → ℕ → ℝ) (n k : ℕ) : ℝ := ∑ s ∈ Finset.range w, f (n + s) k / cnt w (n + s) - f n k

/-- The sums over the windows of two, four, eight and sixteen rows. -/
def up2 (v : FVec Ideal S576x128 .f32) := rot 1#32 v
def up4 (v : FVec Ideal S576x128 .f32) := rot 2#32 (up2 v)
def up8 (v : FVec Ideal S576x128 .f32) := rot 4#32 (up4 v)
def up16 (v : FVec Ideal S576x128 .f32) := rot 8#32 (up8 v)
def dn2 (v : FVec Ideal S576x128 .f32) := rot 575#32 v
def dn4 (v : FVec Ideal S576x128 .f32) := rot 574#32 (dn2 v)
def dn8 (v : FVec Ideal S576x128 .f32) := rot 572#32 (dn4 v)
def dn16 (v : FVec Ideal S576x128 .f32) := rot 568#32 (dn8 v)

theorem sum_double_sub (w : ℕ) (f : ℕ → ℕ → ℝ) (r k : ℕ) : ∑ s ∈ Finset.range w, f (r - s) k + ∑ s ∈ Finset.range w, f (r - w - s) k
    = ∑ s ∈ Finset.range (w + w), f (r - s) k := by
  rw [Finset.sum_range_add]
  exact congrArg _ (Finset.sum_congr rfl fun s _ => by rw [Nat.sub_sub])
theorem sum_double_add (w : ℕ) (f : ℕ → ℕ → ℝ) (r k : ℕ) : ∑ s ∈ Finset.range w, f (r + s) k + ∑ s ∈ Finset.range w, f (r + w + s) k
    = ∑ s ∈ Finset.range (w + w), f (r + s) k := by
  rw [Finset.sum_range_add]
  exact congrArg _ (Finset.sum_congr rfl fun s _ => by rw [Nat.add_assoc])

variable {v : FVec Ideal S576x128 .f32} {f : ℕ → ℕ → ℝ}

theorem up2_v {a b : ℕ} (h : On a b (m := 128) v f) : On (a + 1) b (m := 128) (up2 v) (fun r k => ∑ s ∈ Finset.range 2, f (r - s) k) :=
  (rot_fwd 1 (by omega) h).congr fun r k _ _ => by rw [Finset.sum_range_succ, Finset.sum_range_one]; rfl
theorem up4_v {a b : ℕ} (h : On a b (m := 128) v f) : On (a + 3) b (m := 128) (up4 v) (fun r k => ∑ s ∈ Finset.range 4, f (r - s) k) :=
  (rot_fwd 2 (by omega) (up2_v h)).congr fun r k _ _ => sum_double_sub 2 f r k
theorem up8_v {a b : ℕ} (h : On a b (m := 128) v f) : On (a + 7) b (m := 128) (up8 v) (fun r k => ∑ s ∈ Finset.range 8, f (r - s) k) :=
  (rot_fwd 4 (by omega) (up4_v h)).congr fun r k _ _ => sum_double_sub 4 f r k
theorem up16_v {a b : ℕ} (h : On a b (m := 128) v f) : On (a + 15) b (m := 128) (up16 v) (fun r k => ∑ s ∈ Finset.range 16, f (r - s) k) :=
  (rot_fwd 8 (by omega) (up8_v h)).congr fun r k _ _ => sum_double_sub 8 f r k
theorem dn2_v {a : ℕ} (h : On a 576 (m := 128) v f) : On a 575 (m := 128) (dn2 v) (fun r k => ∑ s ∈ Finset.range 2, f (r + s) k) :=
  (rot_bwd 1 (by omega) (by omega) (by omega) h).congr fun r k _ _ => by rw [Finset.sum_range_succ, Finset.sum_range_one]; rfl
theorem dn4_v {a : ℕ} (h : On a 576 (m := 128) v f) : On a 573 (m := 128) (dn4 v) (fun r k => ∑ s ∈ Finset.range 4, f (r + s) k) :=
  (rot_bwd 2 (by omega) (by omega) (by omega) (dn2_v h)).congr fun r k _ _ => sum_double_add 2 f r k
theorem dn8_v {a : ℕ} (h : On a 576 (m := 128) v f) : On a 569 (m := 128) (dn8 v) (fun r k => ∑ s ∈ Finset.range 8, f (r + s) k) :=
  (rot_bwd 4 (by omega) (by omega) (by omega) (dn4_v h)).congr fun r k _ _ => sum_double_add 4 f r k
theorem dn16_v {a : ℕ} (h : On a 576 (m := 128) v f) : On a 561 (m := 128) (dn16 v) (fun r k => ∑ s ∈ Finset.range 16, f (r + s) k) :=
  (rot_bwd 8 (by omega) (by omega) (by omega) (dn8_v h)).congr fun r k _ _ => sum_double_add 8 f r k

/-- A window's sum divided by its number of rows, less the row. -/
def upEnd (u v : FVec Ideal S576x128 .f32) (n : FVec Ideal S576x1 .f32) : FVec Ideal S576x128 .f32 :=
  subf (divf u (broadcastTo S576x128 n broadcasts_S576x1_S576x128)) v
def quo (v : FVec Ideal S576x128 .f32) (n : FVec Ideal S576x1 .f32) : FVec Ideal S576x128 .f32 :=
  divf v (broadcastTo S576x128 n broadcasts_S576x1_S576x128)

theorem quo_v {a b w t : ℕ} {n : FVec Ideal S576x1 .f32} (hw : 0 < w) (h : On a b (m := 128) v f) (hn : OnC n fun e => cnt w (512 * t + e)) :
    On a b (m := 128) (quo v n) (fun r k => f r k / cnt w (512 * t + r)) := by
  intro r k ha hb
  pointwise [quo]
  rw [h r k ha hb, hn r, Lift.div_coe (cnt_ne hw _)]

theorem up_v {a w t : ℕ} {u : FVec Ideal S576x128 .f32} {n : FVec Ideal S576x1 .f32} {F : ℕ → ℕ → ℝ} (hw : 0 < w) (hwa : w ≤ a + 1)
    (hu : On a 576 (m := 128) u (fun r k => ∑ s ∈ Finset.range w, F (512 * t + (r - s)) k)) (h : On 0 576 (m := 128) v fun r k => F (512 * t + r) k)
    (hn : OnC n fun e => cnt w (512 * t + e)) :
    On a 576 (m := 128) (upEnd u v n) (fun r k => poolF w F (512 * t + r) k) := by
  intro r k ha hb
  have e := quo_v hw hu hn r k ha hb
  show quo u n (ix2 r k) - v (ix2 r k) = _
  rw [e, h r k (by omega) hb, ← EReal.coe_sub]
  unfold poolF
  refine congrArg (fun x : ℝ => ((x / cnt w (512 * t + r.val) - F (512 * t + r.val) k : ℝ) : EReal)) ?_
  refine Finset.sum_congr rfl fun s hs => ?_
  have := Finset.mem_range.mp hs
  rw [show 512 * t + (r.val - s) = 512 * t + r.val - s by omega]

theorem dn_v {b w t : ℕ} {u : FVec Ideal S576x128 .f32} {F : ℕ → ℕ → ℝ} (hb : b ≤ 576)
    (hu : On 32 b (m := 128) u (fun r k => ∑ s ∈ Finset.range w, F (512 * t + (r + s)) k / cnt w (512 * t + (r + s))))
    (h : On 32 576 (m := 128) v fun r k => F (512 * t + r) k) :
    On 32 b (m := 128) (subf u v) (fun r k => poolB w F (512 * t + r) k) := by
  intro r k h1 h2
  show u (ix2 r k) - v (ix2 r k) = _
  rw [hu r k h1 h2, h r k h1 (by omega), ← EReal.coe_sub]
  unfold poolB
  refine congrArg (fun x : ℝ => ((x - F (512 * t + r.val) k : ℝ) : EReal)) ?_
  exact Finset.sum_congr rfl fun s _ => by rw [Nat.add_assoc]

end Cert.Mix

end
-- ==== Proof.MixScratch.lean ====
/- What the kernel's two scratch arrays hold: a tile's own rows, and 32 rows of its neighbours before and after them, zero beyond the array's ends. -/
module

public import proofs.«01_k».proof.Proof.MixReads
public import proofs.«01_k».proof.Proof.MixPool

@[expose] public section

set_option maxRecDepth 16384

noncomputable section

namespace Cert.MixIdeal.Hand

open Cert.MixIdeal Cert.MixIdeal.Gen Cert.Mix Idealize.ShloMosaic Idealize.ShloMosaic.TcCoe Idealize.SL.Sem

section Stack
variable {n a P o : ℕ} {h : ∀ b, (![o, 0] : Fin 2 → ℕ) b + (⟨2, ![a, P]⟩ : Shape).size b ≤ (⟨2, ![n, P]⟩ : Shape).size b}
  {w : Vec Ideal (⟨2, ![a, P]⟩ : Shape) .bf16}

theorem canon_in {L : List (View.Piece (Elt Ideal) (⟨2, ![n, P]⟩ : Shape) .bf16)} {y : (⟨2, ![n, P]⟩ : Shape).Idx} (r : Fin a) (k : Fin P)
    (h0 : (y 0).val = o + r.val) (h1 : (y 1).val = k.val) :
    View.canon ((⟨Rect.unit (s := ⟨2, ![n, P]⟩) ![o, 0] (⟨2, ![a, P]⟩ : Shape).size h, w⟩ : View.Piece (Elt Ideal) (⟨2, ![n, P]⟩ : Shape) .bf16) :: L) y = w (ix2 r k) := by
  have e : y = (Rect.unit (s := ⟨2, ![n, P]⟩) ![o, 0] (⟨2, ![a, P]⟩ : Shape).size h).emb (ix2 r k) := by
    funext b
    apply Fin.ext
    match b with
    | ⟨0, _⟩ => show (y 0).val = o + 1 * r.val; omega
    | ⟨1, _⟩ => show (y 1).val = 0 + 1 * k.val; omega
  rw [e]
  exact View.canon_cons_emb (Val := Elt Ideal) (e := .bf16) (Rect.unit (s := ⟨2, ![n, P]⟩) ![o, 0] (⟨2, ![a, P]⟩ : Shape).size h) w L _

theorem canon_out {L : List (View.Piece (Elt Ideal) (⟨2, ![n, P]⟩ : Shape) .bf16)} {y : (⟨2, ![n, P]⟩ : Shape).Idx}
    (hy : (y 0).val < o ∨ o + a ≤ (y 0).val) :
    View.canon ((⟨Rect.unit (s := ⟨2, ![n, P]⟩) ![o, 0] (⟨2, ![a, P]⟩ : Shape).size h, w⟩ : View.Piece (Elt Ideal) (⟨2, ![n, P]⟩ : Shape) .bf16) :: L) y
      = View.canon L y := by
  refine View.canon_cons_of_not_mem _ L ?_
  intro hx
  have e : o ≤ (y 0).val ∧ (y 0).val < o + a := (Rect.mem_set_unit (inb := h)).mp hx 0
  omega
end Stack

/-- The rows of an array with 32 rows of zeros before it and zeros after it. -/
def padR (X : ℕ → ℕ → ℝ) (n k : ℕ) : ℝ := if 32 ≤ n ∧ n < 4128 then X (n - 32) k else 0

variable (m : (ℓ : Loc nD τ sig) → Buf (Elt Ideal) ℓ)

theorem idx_0 : ∀ t : Fin cfg0.N, win0_0.index t 0 = 16 * t.val - 1 ∧ win0_0.index t 1 = 0 :=
  (by decide +kernel : ∀ t : Fin grid0.N, win0_0.index t 0 = 16 * t.val - 1 ∧ win0_0.index t 1 = 0)
theorem idx_2 : ∀ t : Fin cfg0.N, win0_2.index t 0 = min (16 * (t.val + 1)) 127 ∧ win0_2.index t 1 = 0 :=
  (by decide +kernel : ∀ t : Fin grid0.N, win0_2.index t 0 = min (16 * (t.val + 1)) 127 ∧ win0_2.index t 1 = 0)
theorem idx_5 : ∀ t : Fin cfg0.N, win0_5.index t 0 = min (16 * (t.val + 1)) 127 ∧ win0_5.index t 1 = 0 :=
  (by decide +kernel : ∀ t : Fin grid0.N, win0_5.index t 0 = min (16 * (t.val + 1)) 127 ∧ win0_5.index t 1 = 0)
theorem first_tile : ∀ t : Fin cfg0.N, Scalar.cmpi CmpIPredicate.sgt (BitVec.ofNat 32 (grid0.coords t 0).val) 0#32 = if 1 ≤ t.val then 1#1 else 0#1 :=
  (by decide +kernel : ∀ t : Fin grid0.N, Scalar.cmpi CmpIPredicate.sgt (BitVec.ofNat 32 (grid0.coords t 0).val) 0#32 = if 1 ≤ t.val then 1#1 else 0#1)
theorem last_tile : ∀ t : Fin cfg0.N, Scalar.cmpi CmpIPredicate.slt (BitVec.ofNat 32 (grid0.coords t 0).val) 7#32 = if t.val < 7 then 1#1 else 0#1 :=
  (by decide +kernel : ∀ t : Fin grid0.N, Scalar.cmpi CmpIPredicate.slt (BitVec.ofNat 32 (grid0.coords t 0).val) 7#32 = if t.val < 7 then 1#1 else 0#1)
theorem coord_t : ∀ t : Fin cfg0.N, (grid0.coords t 0).val = t.val :=
  (by decide +kernel : ∀ t : Fin grid0.N, (grid0.coords t 0).val = t.val)

variable {X Y : ℕ → ℕ → ℝ} {c : Dev nD}

/-- The 32 rows before a tile, of the projection's first half. -/
theorem blk_0 (hX : ∀ (r : Fin 4096) (k : Fin 8192), argP m c (ix3 0 r k) = ((X r k : ℝ) : EReal)) (t : Fin cfg0.N) (ht : 1 ≤ t.val) :
    Is2 (n := 32) (m := 4096) (iblk m c 0 t) (fun r k => X (512 * t - 32 + r) k) := by
  intro a k
  have hN := lt_of_lt_of_eq t.isLt N_0
  have h : (iblk m c 0 t : Vec Ideal S32x4096 .bf16) (ix2 a k) = V m c main_v1 (ix2 ⟨512 * t.val - 32 + a.val, by omega⟩ ⟨k, by omega⟩) := by
    unfold iblk
    rw [View.read_apply]
    show V m c main_v1 _ = _
    congr 1
    funext b
    apply Fin.ext
    match b with
    | ⟨0, _⟩ => show win0_0.index t 0 * 32 + 1 * a.val = 512 * t.val - 32 + a.val; rw [(idx_0 t).1]; omega
    | ⟨1, _⟩ => show win0_0.index t 1 * 4096 + 1 * k.val = k.val; rw [(idx_0 t).2]; omega
  rw [h, V1]
  pointwise
  exact hX _ _

/-- The 32 rows after a tile. -/
theorem blk_2 (hX : ∀ (r : Fin 4096) (k : Fin 8192), argP m c (ix3 0 r k) = ((X r k : ℝ) : EReal)) (t : Fin cfg0.N) (ht : t.val < 7) :
    Is2 (n := 32) (m := 4096) (iblk m c 2 t) (fun r k => X (512 * t + 512 + r) k) := by
  intro a k
  have h : (iblk m c 2 t : Vec Ideal S32x4096 .bf16) (ix2 a k) = V m c main_v1 (ix2 ⟨512 * t.val + 512 + a.val, by omega⟩ ⟨k, by omega⟩) := by
    unfold iblk
    rw [View.read_apply]
    show V m c main_v1 _ = _
    congr 1
    funext b
    apply Fin.ext
    match b with
    | ⟨0, _⟩ => show win0_2.index t 0 * 32 + 1 * a.val = 512 * t.val + 512 + a.val; rw [(idx_2 t).1]; omega
    | ⟨1, _⟩ => show win0_2.index t 1 * 4096 + 1 * k.val = k.val; rw [(idx_2 t).2]; omega
  rw [h, V1]
  pointwise
  exact hX _ _

/-- The 32 rows after a tile, of the gradient of the mixers' result. -/
theorem blk_5 (hY : ∀ (r : Fin 4096) (b : Fin 4) (k : Fin 512), argY m c (ix4 0 r b k) = ((Y r (512 * b + k) : ℝ) : EReal)) (t : Fin cfg0.N) (ht : t.val < 7) :
    Is2 (n := 32) (m := 2048) (iblk m c 5 t) (fun r k => Y (512 * t + 512 + r) k) := by
  intro a k
  have h : (iblk m c 5 t : Vec Ideal S32x2048 .bf16) (ix2 a k) = V m c main_v245 (ix2 ⟨512 * t.val + 512 + a.val, by omega⟩ k) := by
    unfold iblk
    rw [View.read_apply]
    show V m c main_v245 _ = _
    congr 1
    funext b
    apply Fin.ext
    match b with
    | ⟨0, _⟩ => show win0_5.index t 0 * 32 + 1 * a.val = 512 * t.val + 512 + a.val; rw [(idx_5 t).1]; omega
    | ⟨1, _⟩ => show win0_5.index t 1 * 2048 + 1 * k.val = k.val; rw [(idx_5 t).2]; omega
  rw [h, V245]
  pointwise
  rw [hY]
  exact congrArg (fun x : ℕ => ((Y (512 * t.val + 512 + a.val) x : ℝ) : EReal)) (by show 512 * (k.val / 512) + k.val % 512 = k.val; omega)

/-- The blocks as a tile loads them. -/
def ld0 (c : Dev nD) (t : Fin cfg0.N) : Vec Ideal S32x4096 .bf16 :=
  View.readAt (Elt Ideal) (ms0_0 t).view (Rect.unit (s := S32x4096) ![0, 0] S32x4096.size (by decide +kernel)).toLoadRect ((hs0_0 t).unread (iblk m c 0 t))
theorem ld0_eq (c : Dev nD) (t : Fin cfg0.N) : ld0 m c t = iblk m c 0 t := by
  unfold ld0; rw [View.readAt_eq_ld, (hs0_0 t).read_unread, View.ld_unit_zero (S := S32x4096) hz]
def ld1 (c : Dev nD) (t : Fin cfg0.N) : Vec Ideal S512x4096 .bf16 :=
  View.readAt (Elt Ideal) (ms0_1 t).view (Rect.unit (s := S512x4096) ![0, 0] S512x4096.size (by decide +kernel)).toLoadRect ((hs0_1 t).unread (iblk m c 1 t))
theorem ld1_eq (c : Dev nD) (t : Fin cfg0.N) : ld1 m c t = iblk m c 1 t := by
  unfold ld1; rw [View.readAt_eq_ld, (hs0_1 t).read_unread, View.ld_unit_zero (S := S512x4096) hz]
def ld2 (c : Dev nD) (t : Fin cfg0.N) : Vec Ideal S32x4096 .bf16 :=
  View.readAt (Elt Ideal) (ms0_2 t).view (Rect.unit (s := S32x4096) ![0, 0] S32x4096.size (by decide +kernel)).toLoadRect ((hs0_2 t).unread (iblk m c 2 t))
theorem ld2_eq (c : Dev nD) (t : Fin cfg0.N) : ld2 m c t = iblk m c 2 t := by
  unfold ld2; rw [View.readAt_eq_ld, (hs0_2 t).read_unread, View.ld_unit_zero (S := S32x4096) hz]
def ld4 (c : Dev nD) (t : Fin cfg0.N) : Vec Ideal S512x2048 .bf16 :=
  View.readAt (Elt Ideal) (ms0_4 t).view (Rect.unit (s := S512x2048) ![0, 0] S512x2048.size (by decide +kernel)).toLoadRect ((hs0_4 t).unread (iblk m c 4 t))
theorem ld4_eq (c : Dev nD) (t : Fin cfg0.N) : ld4 m c t = iblk m c 4 t := by
  unfold ld4; rw [View.readAt_eq_ld, (hs0_4 t).read_unread, View.ld_unit_zero (S := S512x2048) hz]
def ld5 (c : Dev nD) (t : Fin cfg0.N) : Vec Ideal S32x2048 .bf16 :=
  View.readAt (Elt Ideal) (ms0_5 t).view (Rect.unit (s := S32x2048) ![0, 0] S32x2048.size (by decide +kernel)).toLoadRect ((hs0_5 t).unread (iblk m c 5 t))
theorem ld5_eq (c : Dev nD) (t : Fin cfg0.N) : ld5 m c t = iblk m c 5 t := by
  unfold ld5; rw [View.readAt_eq_ld, (hs0_5 t).read_unread, View.ld_unit_zero (S := S32x2048) hz]

/-- The writes to the first scratch array: the rows after, the tile's own, the rows before. -/
def scE (c : Dev nD) (t : Fin cfg0.N) : List (View.Piece (Elt Ideal) S576x4096 .bf16) :=
  [⟨Rect.unit (s := S576x4096) ![544, 0] S32x4096.size (by decide +kernel), k0_pay4 (grid0.coords t) (ld2 m c t)⟩,
   ⟨Rect.unit (s := S576x4096) ![32, 0] S512x4096.size (by decide +kernel), k0_pay3 (ld1 m c t)⟩,
   ⟨Rect.unit (s := S576x4096) ![0, 0] S32x4096.size (by decide +kernel), k0_pay2 (grid0.coords t) (ld0 m c t)⟩]
/-- The writes to the second. -/
def scF (c : Dev nD) (t : Fin cfg0.N) : List (View.Piece (Elt Ideal) S576x2048 .bf16) :=
  [⟨Rect.unit (s := S576x2048) ![544, 0] S32x2048.size (by decide +kernel), k0_pay7 (BitVec.ofNat 32 (grid0.coords t 0).val) (ld5 m c t)⟩,
   ⟨Rect.unit (s := S576x2048) ![32, 0] S512x2048.size (by decide +kernel), k0_pay6 (ld4 m c t)⟩,
   ⟨Rect.unit (s := S576x2048) ![0, 0] S32x2048.size (by decide +kernel), k0_pay5 (F := Ideal)⟩]

theorem scE_v (hX : ∀ (r : Fin 4096) (k : Fin 8192), argP m c (ix3 0 r k) = ((X r k : ℝ) : EReal)) (t : Fin cfg0.N) :
    On 0 576 (m := 4096) (View.canon (scE m c t)) (fun e k => padR X (512 * t + e) k) := by
  intro e k _ _
  have hN := lt_of_lt_of_eq t.isLt N_0
  unfold scE padR
  by_cases h1 : 544 ≤ e.val
  · rw [canon_in (P := 4096) (a := 32) ⟨e.val - 544, by omega⟩ k (by show e.val = 544 + (e.val - 544); omega) rfl]
    pointwise [k0_pay4]
    rw [last_tile, select_ite]
    split_ifs with h2 h3 h3
    · rw [ld2_eq, blk_2 m hX t h2]
      exact congrArg (fun x : ℕ => ((X x k : ℝ) : EReal)) (by show 512 * t.val + 512 + (e.val - 544) = 512 * t.val + e.val - 32; omega)
    · omega
    · omega
    · exact EReal.coe_zero.symm
  rw [canon_out (P := 4096) (a := 32) (by show e.val < 544 ∨ _; omega)]
  by_cases h2 : 32 ≤ e.val
  · rw [canon_in (P := 4096) (a := 512) ⟨e.val - 32, by omega⟩ k (by show e.val = 32 + (e.val - 32); omega) rfl]
    pointwise [k0_pay3]
    rw [ld1_eq, blk_1 m hX t, if_pos (by omega)]
    exact congrArg (fun x : ℕ => ((X x k : ℝ) : EReal)) (by show 512 * t.val + (e.val - 32) = 512 * t.val + e.val - 32; omega)
  rw [canon_out (P := 4096) (a := 512) (by show e.val < 32 ∨ _; omega)]
  rw [canon_in (P := 4096) (a := 32) ⟨e.val, by omega⟩ k (by show e.val = 0 + e.val; omega) rfl]
  pointwise [k0_pay2]
  rw [first_tile, select_ite]
  split_ifs with h2 h3 h3
  · rw [ld0_eq, blk_0 m hX t h2]
    exact congrArg (fun x : ℕ => ((X x k : ℝ) : EReal)) (by show 512 * t.val - 32 + e.val = 512 * t.val + e.val - 32; omega)
  · omega
  · omega
  · exact EReal.coe_zero.symm

theorem scF_v (hY : ∀ (r : Fin 4096) (b : Fin 4) (k : Fin 512), argY m c (ix4 0 r b k) = ((Y r (512 * b + k) : ℝ) : EReal)) (t : Fin cfg0.N) :
    On 32 576 (m := 2048) (View.canon (scF m c t)) (fun e k => padR Y (512 * t + e) k) := by
  intro e k he _
  have hN := lt_of_lt_of_eq t.isLt N_0
  unfold scF padR
  by_cases h1 : 544 ≤ e.val
  · rw [canon_in (P := 2048) (a := 32) ⟨e.val - 544, by omega⟩ k (by show e.val = 544 + (e.val - 544); omega) rfl]
    pointwise [k0_pay7]
    rw [last_tile, select_ite]
    split_ifs with h2 h3 h3
    · rw [ld5_eq, blk_5 m hY t h2]
      exact congrArg (fun x : ℕ => ((Y x k : ℝ) : EReal)) (by show 512 * t.val + 512 + (e.val - 544) = 512 * t.val + e.val - 32; omega)
    · omega
    · omega
    · exact EReal.coe_zero.symm
  rw [canon_out (P := 2048) (a := 32) (by show e.val < 544 ∨ _; omega),
    canon_in (P := 2048) (a := 512) ⟨e.val - 32, by omega⟩ k (by show e.val = 32 + (e.val - 32); omega) rfl]
  pointwise [k0_pay6]
  rw [ld4_eq, blk_4 m hY t, if_pos (by omega)]
  exact congrArg (fun x : ℕ => ((Y x k : ℝ) : EReal)) (by show 512 * t.val + (e.val - 32) = 512 * t.val + e.val - 32; omega)

/-- A load of some columns of a scratch array. -/
theorem load_v {P q o a b : ℕ} {f : ℕ → ℕ → ℝ} {L : List (View.Piece (Elt Ideal) (⟨2, ![576, P]⟩ : Shape) .bf16)} {κ : Kind} {sp : Space}
    {v : View sig κ sp (⟨2, ![576, P]⟩ : Shape) .bf16}
    {h : ∀ x, (![0, o] : Fin 2 → ℕ) x + (⟨2, ![576, q]⟩ : Shape).size x ≤ (⟨2, ![576, P]⟩ : Shape).size x} (ho : o + q ≤ P)
    (hL : On a b (m := P) (View.canon L) f) :
    On a b (m := q) (v.readCov (Val := Elt Ideal) L (Rect.unit (s := ⟨2, ![576, P]⟩) ![0, o] (⟨2, ![576, q]⟩ : Shape).size h).toLoadRect) (fun r k => f r (o + k)) := by
  intro r k ha hb
  rw [View.readCov_eq_canon']
  refine Eq.trans (congrArg (View.canon L) (funext fun x => Fin.ext ?_)) (hL r ⟨o + k, by omega⟩ ha hb)
  match x with
  | ⟨0, _⟩ => show 0 + 1 * r.val = r.val; omega
  | ⟨1, _⟩ => show o + 1 * k.val = o + k.val; omega

/-- The projection's columns the pooling reads, with the rows around the tile. -/
def rdE (c : Dev nD) (t : Fin cfg0.N) : Vec Ideal S576x512 .bf16 :=
  scM0_0.view.readCov (Val := Elt Ideal) (scE m c t) (Rect.unit (s := S576x4096) ![0, 0] S576x512.size (by decide +kernel)).toLoadRect
/-- The gradient's columns it reads. -/
def rdF (c : Dev nD) (t : Fin cfg0.N) : Vec Ideal S576x512 .bf16 :=
  scM0_1.view.readCov (Val := Elt Ideal) (scF m c t) (Rect.unit (s := S576x2048) ![0, 0] S576x512.size (by decide +kernel)).toLoadRect

theorem rdE_v (hX : ∀ (r : Fin 4096) (k : Fin 8192), argP m c (ix3 0 r k) = ((X r k : ℝ) : EReal)) (t : Fin cfg0.N) :
    On 0 576 (m := 512) (rdE m c t) (fun e k => padR X (512 * t + e) k) :=
  (load_v (P := 4096) (o := 0) (by omega) (scE_v m hX t)).congr fun r k _ _ => by rw [Nat.zero_add]
theorem rdF_v (hY : ∀ (r : Fin 4096) (b : Fin 4) (k : Fin 512), argY m c (ix4 0 r b k) = ((Y r (512 * b + k) : ℝ) : EReal)) (t : Fin cfg0.N) :
    On 32 576 (m := 512) (rdF m c t) (fun e k => padR Y (512 * t + e) k) :=
  (load_v (P := 2048) (o := 0) (by omega) (scF_v m hY t)).congr fun r k _ _ => by rw [Nat.zero_add]

end Cert.MixIdeal.Hand

end
-- ==== Proof.MixPoolPay.lean ====
/- The pooling mixer's backward products on one tile, for a group of 128 columns: what the kernel's payloads hold. -/
module

public import proofs.«01_k».proof.Proof.MixPool

@[expose] public section

noncomputable section

namespace Cert.Mix

open Cert.MixIdeal Cert.MixIdeal.Gen
open Idealize.ShloMosaic hiding Ideal
open Idealize.ShloMosaic (Ideal)

/-- The own rows of a tile, and `q` columns from column `o` on. -/
theorem own_v {φ : FTy} {p q o : ℕ} {v : FVec Ideal (⟨2, ![576, p]⟩ : Shape) φ} {f : ℕ → ℕ → ℝ} (hs : (⟨2, ![576, p]⟩ : Shape).Slices ![32, o] ⟨2, ![512, q]⟩)
    (ho : o + q ≤ p) (h : On 32 576 (m := p) v f) : Is2 (n := 512) (m := q) (extractStridedSlice (⟨2, ![512, q]⟩ : Shape) ![32, o] v hs) (fun r k => f (32 + r) (o + k)) := by
  intro r k
  have e := h ⟨32 + r, by omega⟩ ⟨o + k, by omega⟩ (by show 32 ≤ 32 + r.val; omega) (by show 32 + r.val < 576; omega)
  refine Eq.trans (congrArg v (funext fun a => Fin.ext ?_)) e
  match a with
  | ⟨0, _⟩ => rfl
  | ⟨1, _⟩ => rfl

/-- All rows of a tile, and `q` columns from column `o` on. -/
theorem cols_v {φ : FTy} {a b p q o : ℕ} {v : FVec Ideal (⟨2, ![576, p]⟩ : Shape) φ} {f : ℕ → ℕ → ℝ} (hs : (⟨2, ![576, p]⟩ : Shape).Slices ![0, o] ⟨2, ![576, q]⟩)
    (ho : o + q ≤ p) (h : On a b (m := p) v f) : On a b (m := q) (extractStridedSlice (⟨2, ![576, q]⟩ : Shape) ![0, o] v hs) (fun r k => f r (o + k)) := by
  intro r k ha hb
  have e := h r ⟨o + k, by omega⟩ ha hb
  refine Eq.trans (congrArg v (funext fun a => Fin.ext ?_)) e
  match a with
  | ⟨0, _⟩ => exact Nat.zero_add _
  | ⟨1, _⟩ => rfl

/-- The gradient of the scales: the gradient's rows against the pooled rows mixed by the group's matrix. -/
def psP (d : FVec Ideal S512x128 .bf16) (y : FVec Ideal S512x128 .f32) (w : FVec Ideal S128x128 .bf16) : FVec Ideal S1x128 .f32 :=
  shapeCast S1x128 (multiReduction .add [0] S128 (mulf y (matmul dot_S512x128_S128x128_S512x128_1_0_0_1_n_n none d w (constant S512x128 .f32 0x00000000#32)))
    0x00000000#32 reduces_S512x128_S128 (.inl rfl) rfl) shapeCasts_S128_S1x128

/-- The gradient of the group's matrix. -/
def pwP (d z : FVec Ideal S512x128 .bf16) : FVec Ideal S128x128 .f32 :=
  matmul dot_S512x128_S512x128_S128x128_0_0_1_1_n_n none d z (constant S128x128 .f32 0x00000000#32)

/-- The gradient with its scale. -/
def scP (y : FVec Ideal S576x128 .f32) (s : Vec Ideal S1x128 .f32) : FVec Ideal S576x128 .bf16 :=
  truncf .bf16 (mulf y (broadcastTo S576x128 (shapeCast S1x128 s shapeCasts_S1x128_S1x128) broadcasts_S1x128_S576x128)) bitsLt_bf16_f32

/-- The gradient of the pooled rows. -/
def ddP (z : FVec Ideal S576x128 .bf16) (w : FVec Ideal S128x128 .bf16) : FVec Ideal S576x128 .f32 :=
  matmul dot_S576x128_S128x128_S576x128_1_1_0_0_n_n none z w (constant S576x128 .f32 0x00000000#32)

def wP (w : Vec Ideal S1x128x128 .f32) : FVec Ideal S128x128 .bf16 := truncf .bf16 (shapeCast S128x128 w shapeCasts_S1x128x128_S128x128) bitsLt_bf16_f32

variable {f g : ℕ → ℕ → ℝ}

theorem wP_v {w : Vec Ideal S1x128x128 .f32} (hw : Is3 (a := 1) (n := 128) (m := 128) w fun _ => g) : Is2 (n := 128) (m := 128) (wP w) g := by
  intro i j
  pointwise [wP]
  exact hw 0 i j

theorem psP_v {d : FVec Ideal S512x128 .bf16} {y : FVec Ideal S512x128 .f32} {w : FVec Ideal S128x128 .bf16} {h : ℕ → ℕ → ℝ}
    (hd : Is2 (n := 512) (m := 128) d f) (hy : Is2 (n := 512) (m := 128) y g) (hw : Is2 (n := 128) (m := 128) w h) :
    Is2 (n := 1) (m := 128) (psP d y w) (fun _ k => ∑ r : Fin 512, g r k * ∑ c : Fin 128, f r c * h c k) := by
  intro r k
  pointwise [psP]
  simp only [hd.eq, hy.eq, hw.eq, ← EReal.coe_mul, Lift.sum_coe]

theorem pwP_v {d z : FVec Ideal S512x128 .bf16} (hd : Is2 (n := 512) (m := 128) d f) (hz : Is2 (n := 512) (m := 128) z g) :
    Is2 (n := 128) (m := 128) (pwP d z) (fun a b => ∑ r : Fin 512, f r a * g r b) := by
  intro a b
  pointwise [pwP]
  simp only [hd.eq, hz.eq, ← EReal.coe_mul, Lift.sum_coe]

theorem scP_v {a b : ℕ} {y : FVec Ideal S576x128 .f32} {s : Vec Ideal S1x128 .f32} (hy : On a b (m := 128) y f) (hs : Is2 (n := 1) (m := 128) s g) :
    On a b (m := 128) (scP y s) (fun r k => f r k * g 0 k) := by
  intro r k h1 h2
  pointwise [scP]
  rw [hy r k h1 h2, hs.eq, ← EReal.coe_mul]
  rfl

theorem ddP_v {a b : ℕ} {z : FVec Ideal S576x128 .bf16} {w : FVec Ideal S128x128 .bf16} (hz : On a b (m := 128) z f) (hw : Is2 (n := 128) (m := 128) w g) :
    On a b (m := 128) (ddP z w) (fun r k => ∑ c : Fin 128, f r c * g k c) := by
  intro r k h1 h2
  pointwise [ddP]
  simp only [fun c : Fin 128 => hz r c h1 h2, hw.eq, ← EReal.coe_mul, Lift.sum_coe]

end Cert.Mix

end
-- ==== Proof.MixPoolTile.lean ====
/- The pooling's backward products of one tile, from the tile's loads. -/
module

public import proofs.«01_k».proof.Proof.MixScratch
public import proofs.«01_k».proof.Proof.MixPoolPay

@[expose] public section

set_option maxRecDepth 16384

noncomputable section

namespace Cert.MixIdeal.Hand

open Cert.MixIdeal Cert.MixIdeal.Gen Cert.Mix Idealize.ShloMosaic Idealize.ShloMosaic.TcCoe Idealize.SL.Sem

variable (m : (ℓ : Loc nD τ sig) → Buf (Elt Ideal) ℓ)

/-- A group's mixing matrix and its columns of the scales, as a tile loads them. -/
def rdM (c : Dev nD) (t : Fin cfg0.N) (o : ℕ) (h : ∀ a, (![o, 0, 0] : Fin 3 → ℕ) a + S1x128x128.size a ≤ S4x128x128.size a) : Vec Ideal S1x128x128 .f32 :=
  View.readAt (Elt Ideal) (ms0_8 t).view (Rect.unit (s := S4x128x128) ![o, 0, 0] S1x128x128.size h).toLoadRect ((hs0_8 t).unread (iblk m c 8 t))
def rdS (c : Dev nD) (t : Fin cfg0.N) (o : ℕ) (h : ∀ a, (![0, o] : Fin 2 → ℕ) a + S1x128.size a ≤ S1x512.size a) : Vec Ideal S1x128 .f32 :=
  View.readAt (Elt Ideal) (ms0_9 t).view (Rect.unit (s := S1x512) ![0, o] S1x128.size h).toLoadRect ((hs0_9 t).unread (iblk m c 9 t))
/-- What the tile before left in the windows of their gradients. -/
def rd19 (t : Fin cfg0.N) (x : Vec Ideal S4x128x128 .f32) (o : ℕ) (h : ∀ a, (![o, 0, 0] : Fin 3 → ℕ) a + S1x128x128.size a ≤ S4x128x128.size a) : Vec Ideal S1x128x128 .f32 :=
  View.readAt (Elt Ideal) (ms0_19 t).view (Rect.unit (s := S4x128x128) ![o, 0, 0] S1x128x128.size h).toLoadRect ((hs0_19 t).unread x)
def rd20 (t : Fin cfg0.N) (x : Vec Ideal S1x512 .f32) (o : ℕ) (h : ∀ a, (![0, o] : Fin 2 → ℕ) a + S1x128.size a ≤ S1x512.size a) : Vec Ideal S1x128 .f32 :=
  View.readAt (Elt Ideal) (ms0_20 t).view (Rect.unit (s := S1x512) ![0, o] S1x128.size h).toLoadRect ((hs0_20 t).unread x)

theorem ld3_v {x : Vec Ideal S4x128x128 .f32} {W : ℕ → ℕ → ℕ → ℝ} (hx : Is3 (a := 4) (n := 128) (m := 128) x W) {o : ℕ}
    (h : ∀ a, (![o, 0, 0] : Fin 3 → ℕ) a + S1x128x128.size a ≤ S4x128x128.size a) :
    Is3 (a := 1) (n := 128) (m := 128) (View.ld (Val := Elt Ideal) x (Rect.unit (s := S4x128x128) ![o, 0, 0] S1x128x128.size h)) (fun _ => W o) := by
  intro q r k
  have h0 : o + 1 ≤ 4 := h 0
  rw [View.ld_unit]
  refine Eq.trans (congrArg x (funext fun b => Fin.ext ?_)) (hx ⟨o, by omega⟩ r k)
  match b with
  | ⟨0, _⟩ => show o + q.val = o; omega
  | ⟨1, _⟩ => show 0 + r.val = r.val; omega
  | ⟨2, _⟩ => show 0 + k.val = k.val; omega

theorem ld2_v {x : Vec Ideal S1x512 .f32} {S : ℕ → ℝ} (hx : Is2 (n := 1) (m := 512) x fun _ => S) {o : ℕ}
    (h : ∀ a, (![0, o] : Fin 2 → ℕ) a + S1x128.size a ≤ S1x512.size a) :
    Is2 (n := 1) (m := 128) (View.ld (Val := Elt Ideal) x (Rect.unit (s := S1x512) ![0, o] S1x128.size h)) (fun _ k => S (o + k)) := by
  intro r k
  have h0 : o + 128 ≤ 512 := h 1
  rw [View.ld_unit]
  refine Eq.trans (congrArg x (funext fun b => Fin.ext ?_)) (hx 0 ⟨o + k.val, by omega⟩)
  match b with
  | ⟨0, _⟩ => show 0 + r.val = 0; omega
  | ⟨1, _⟩ => rfl

section
variable {m} {c : Dev nD} {t : Fin cfg0.N} {W : ℕ → ℕ → ℕ → ℝ} {S : ℕ → ℝ} {o : ℕ}
theorem rdM_v (hW : Is3 (a := 4) (n := 128) (m := 128) (iblk m c 8 t) W) (h) : Is3 (a := 1) (n := 128) (m := 128) (rdM m c t o h) (fun _ => W o) := by
  unfold rdM; rw [View.readAt_eq_ld, (hs0_8 t).read_unread]; exact ld3_v hW h
theorem rdS_v (hS : Is2 (n := 1) (m := 512) (iblk m c 9 t) fun _ => S) (h) : Is2 (n := 1) (m := 128) (rdS m c t o h) (fun _ k => S (o + k)) := by
  unfold rdS; rw [View.readAt_eq_ld, (hs0_9 t).read_unread]; exact ld2_v hS h
theorem rd19_v {x : Vec Ideal S4x128x128 .f32} (hx : Is3 (a := 4) (n := 128) (m := 128) x W) (h) : Is3 (a := 1) (n := 128) (m := 128) (rd19 t x o h) (fun _ => W o) := by
  unfold rd19; rw [View.readAt_eq_ld, (hs0_19 t).read_unread]; exact ld3_v hx h
theorem rd20_v {x : Vec Ideal S1x512 .f32} (hx : Is2 (n := 1) (m := 512) x fun _ => S) (h) : Is2 (n := 1) (m := 128) (rd20 t x o h) (fun _ k => S (o + k)) := by
  unfold rd20; rw [View.readAt_eq_ld, (hs0_20 t).read_unread]; exact ld2_v hx h
end

/-- The window of a column: 2, 4, 8 and 16 rows for the four groups of 128 columns. -/
def win (k : ℕ) : ℕ := 2 ^ (k / 128 + 1)
/-- The pooled rows, less the row. -/
def poolD (X : ℕ → ℕ → ℝ) (n k : ℕ) : ℝ := poolF (win k) (padR X) n k

/-- The number of rows of a window, at a tile's rows. -/
def tC (t : Fin cfg0.N) (w : BitVec 32) : FVec Ideal S576x1 .f32 := cntV w (k0_pay8 (BitVec.ofNat 32 (grid0.coords t 0).val))
theorem tC_v (t : Fin cfg0.N) (w : ℕ) (hw : w ≤ 16) : OnC (tC t (BitVec.ofNat 32 w)) (fun e => cnt w (512 * t + e)) := by
  unfold tC
  rw [coord_t]
  exact cntV_eq w hw t.val (lt_of_lt_of_eq t.isLt N_0)

/-- A group's columns of a tile's rows and of the rows around it. -/
def tX (c : Dev nD) (t : Fin cfg0.N) (o : ℕ) (h : S576x512.Slices ![0, o] S576x128) : FVec Ideal S576x128 .f32 :=
  extractStridedSlice S576x128 ![0, o] (k0_pay11 (rdE m c t)) h
/-- The same columns of the gradient, and its own rows alone. -/
def tG (c : Dev nD) (t : Fin cfg0.N) (o : ℕ) (h : S576x512.Slices ![0, o] S576x128) : FVec Ideal S576x128 .f32 :=
  extractStridedSlice S576x128 ![0, o] (k0_pay18 (rdF m c t)) h
def tY (c : Dev nD) (t : Fin cfg0.N) (o : ℕ) (h : S576x512.Slices ![32, o] S512x128) : FVec Ideal S512x128 .f32 :=
  extractStridedSlice S512x128 ![32, o] (k0_pay18 (rdF m c t)) h

section
variable {m} {c : Dev nD} {t : Fin cfg0.N} {X Y : ℕ → ℕ → ℝ} {o : ℕ}
theorem pay11_v {a b : ℕ} {v : Vec Ideal S576x512 .bf16} {f : ℕ → ℕ → ℝ} (h : On a b (m := 512) v f) : On a b (m := 512) (k0_pay11 (F := Ideal) v) f := by
  intro r k ha hb
  pointwise [k0_pay11]
  exact h r k ha hb
theorem pay18_v {a b : ℕ} {v : Vec Ideal S576x512 .bf16} {f : ℕ → ℕ → ℝ} (h : On a b (m := 512) v f) : On a b (m := 512) (k0_pay18 (F := Ideal) v) f := by
  intro r k ha hb
  pointwise [k0_pay18]
  exact h r k ha hb
theorem tX_v (hX : ∀ (r : Fin 4096) (k : Fin 8192), argP m c (ix3 0 r k) = ((X r k : ℝ) : EReal)) (h) (ho : o + 128 ≤ 512) :
    On 0 576 (m := 128) (tX m c t o h) (fun e k => padR X (512 * t + e) (o + k)) :=
  cols_v (φ := .f32) (p := 512) (q := 128) h ho (pay11_v (rdE_v m hX t))
theorem tG_v (hY : ∀ (r : Fin 4096) (b : Fin 4) (k : Fin 512), argY m c (ix4 0 r b k) = ((Y r (512 * b + k) : ℝ) : EReal)) (h) (ho : o + 128 ≤ 512) :
    On 32 576 (m := 128) (tG m c t o h) (fun e k => padR Y (512 * t + e) (o + k)) :=
  cols_v (φ := .f32) (p := 512) (q := 128) h ho (pay18_v (rdF_v m hY t))
theorem tY_v (hY : ∀ (r : Fin 4096) (b : Fin 4) (k : Fin 512), argY m c (ix4 0 r b k) = ((Y r (512 * b + k) : ℝ) : EReal)) (h) (ho : o + 128 ≤ 512) :
    Is2 (n := 512) (m := 128) (tY m c t o h) (fun r k => Y (512 * t + r) (o + k)) :=
  (own_v (φ := .f32) (p := 512) (q := 128) h ho (pay18_v (rdF_v m hY t))).congr fun r k => by
    have := lt_of_lt_of_eq t.isLt N_0
    beta_reduce; unfold padR
    rw [if_pos (by omega), show 512 * t.val + (32 + r.val) - 32 = 512 * t.val + r.val by omega]
end

/-- The pooled own rows of the four groups. -/
def tD0 (c : Dev nD) (t : Fin cfg0.N) : FVec Ideal S512x128 .bf16 := extractStridedSlice S512x128 ![32, 0]
  (upEnd (up2 (tX m c t 0 slices_S576x512_o0_0_S576x128)) (tX m c t 0 slices_S576x512_o0_0_S576x128) (tC t 2#32)) slices_S576x128_o32_0_S512x128
def tD1 (c : Dev nD) (t : Fin cfg0.N) : FVec Ideal S512x128 .bf16 := extractStridedSlice S512x128 ![32, 0]
  (upEnd (up4 (tX m c t 128 slices_S576x512_o0_128_S576x128)) (tX m c t 128 slices_S576x512_o0_128_S576x128) (tC t 4#32)) slices_S576x128_o32_0_S512x128
def tD2 (c : Dev nD) (t : Fin cfg0.N) : FVec Ideal S512x128 .bf16 := extractStridedSlice S512x128 ![32, 0]
  (upEnd (up8 (tX m c t 256 slices_S576x512_o0_256_S576x128)) (tX m c t 256 slices_S576x512_o0_256_S576x128) (tC t 8#32)) slices_S576x128_o32_0_S512x128
def tD3 (c : Dev nD) (t : Fin cfg0.N) : FVec Ideal S512x128 .bf16 := extractStridedSlice S512x128 ![32, 0]
  (upEnd (up16 (tX m c t 384 slices_S576x512_o0_384_S576x128)) (tX m c t 384 slices_S576x512_o0_384_S576x128) (tC t 16#32)) slices_S576x128_o32_0_S512x128

section
variable {m} {c : Dev nD} {t : Fin cfg0.N} {X Y : ℕ → ℕ → ℝ} {W : ℕ → ℕ → ℕ → ℝ} {S : ℕ → ℝ}

theorem own_pool {o w : ℕ} (hw : w = 2 ^ (o + 1)) {u : FVec Ideal S576x128 .f32} (h : On 32 576 (m := 128) u (fun r k => poolF w (fun n k => padR X n (128 * o + k)) (512 * t + r) k)) :
    Is2 (n := 512) (m := 128) (extractStridedSlice S512x128 ![32, 0] u slices_S576x128_o32_0_S512x128) (fun r k => poolD X (512 * t + r + 32) (128 * o + k)) :=
  fun r k => (own_v (φ := .f32) (p := 128) (q := 128) (o := 0) slices_S576x128_o32_0_S512x128 (by omega) h r k).trans (by
    have e : win (128 * o + k.val) = w := by unfold win; rw [hw, show (128 * o + k.val) / 128 = o by omega]
    beta_reduce
    unfold poolD
    rw [e, Nat.zero_add, show 512 * t.val + (32 + r.val) = 512 * t.val + r.val + 32 by omega]
    rfl)

theorem tD0_v (hX : ∀ (r : Fin 4096) (k : Fin 8192), argP m c (ix3 0 r k) = ((X r k : ℝ) : EReal)) :
    Is2 (n := 512) (m := 128) (tD0 m c t) (fun r k => poolD X (512 * t + r + 32) (128 * 0 + k)) :=
  own_pool rfl ((up_v (a := 1) (F := fun n k => padR X n (128 * 0 + k)) (by omega) (by omega) (up2_v (tX_v hX (o := 0) _ (by omega))) (tX_v hX (o := 0) _ (by omega)) (tC_v t 2 (by omega))).mono (by omega) (by omega))
theorem tD1_v (hX : ∀ (r : Fin 4096) (k : Fin 8192), argP m c (ix3 0 r k) = ((X r k : ℝ) : EReal)) :
    Is2 (n := 512) (m := 128) (tD1 m c t) (fun r k => poolD X (512 * t + r + 32) (128 * 1 + k)) :=
  own_pool rfl ((up_v (a := 3) (F := fun n k => padR X n (128 * 1 + k)) (by omega) (by omega) (up4_v (tX_v hX (o := 128) _ (by omega))) (tX_v hX (o := 128) _ (by omega)) (tC_v t 4 (by omega))).mono (by omega) (by omega))
theorem tD2_v (hX : ∀ (r : Fin 4096) (k : Fin 8192), argP m c (ix3 0 r k) = ((X r k : ℝ) : EReal)) :
    Is2 (n := 512) (m := 128) (tD2 m c t) (fun r k => poolD X (512 * t + r + 32) (128 * 2 + k)) :=
  own_pool rfl ((up_v (a := 7) (F := fun n k => padR X n (128 * 2 + k)) (by omega) (by omega) (up8_v (tX_v hX (o := 256) _ (by omega))) (tX_v hX (o := 256) _ (by omega)) (tC_v t 8 (by omega))).mono (by omega) (by omega))
theorem tD3_v (hX : ∀ (r : Fin 4096) (k : Fin 8192), argP m c (ix3 0 r k) = ((X r k : ℝ) : EReal)) :
    Is2 (n := 512) (m := 128) (tD3 m c t) (fun r k => poolD X (512 * t + r + 32) (128 * 3 + k)) :=
  own_pool rfl ((up_v (a := 15) (F := fun n k => padR X n (128 * 3 + k)) (by omega) (by omega) (up16_v (tX_v hX (o := 384) _ (by omega))) (tX_v hX (o := 384) _ (by omega)) (tC_v t 16 (by omega))).mono (by omega) (by omega))

/-- A tile's part of the scales' gradient, and of the mixing matrices' gradients. -/
def dpsT (X Y : ℕ → ℕ → ℝ) (W : ℕ → ℕ → ℕ → ℝ) (t k : ℕ) : ℝ :=
  ∑ r : Fin 512, Y (512 * t + r) k * ∑ c : Fin 128, poolD X (512 * t + r + 32) (128 * (k / 128) + c) * W (k / 128) c (k % 128)
def dpwT (X Y : ℕ → ℕ → ℝ) (S : ℕ → ℝ) (t g a b : ℕ) : ℝ :=
  ∑ r : Fin 512, poolD X (512 * t + r + 32) (128 * g + a) * (Y (512 * t + r) (128 * g + b) * S (128 * g + b))

/-- A group's columns of the scales' gradient. -/
theorem ps_v {g : ℕ} {d : FVec Ideal S512x128 .bf16} (hd : Is2 (n := 512) (m := 128) d (fun r k => poolD X (512 * t + r + 32) (128 * g + k)))
    (hY : ∀ (r : Fin 4096) (b : Fin 4) (k : Fin 512), argY m c (ix4 0 r b k) = ((Y r (512 * b + k) : ℝ) : EReal))
    (hW : Is3 (a := 4) (n := 128) (m := 128) (iblk m c 8 t) W) (hg : g < 4) (h h') :
    Is2 (n := 1) (m := 128) (psP d (tY m c t (128 * g) h) (wP (rdM m c t g h'))) (fun _ k => dpsT X Y W t (128 * g + k)) :=
  fun r k => (psP_v hd (tY_v hY h (by omega)) (wP_v (rdM_v hW h')) r k).trans (by
    unfold dpsT
    beta_reduce
    rw [show (128 * g + k.val) / 128 = g by omega, show (128 * g + k.val) % 128 = k.val by omega])

/-- A group's matrix of the mixing matrices' gradient. -/
theorem pw_v {g : ℕ} {d : FVec Ideal S512x128 .bf16} (hd : Is2 (n := 512) (m := 128) d (fun r k => poolD X (512 * t + r + 32) (128 * g + k)))
    (hY : ∀ (r : Fin 4096) (b : Fin 4) (k : Fin 512), argY m c (ix4 0 r b k) = ((Y r (512 * b + k) : ℝ) : EReal))
    (hS : Is2 (n := 1) (m := 512) (iblk m c 9 t) fun _ => S) (hg : g < 4) (h h') :
    Is2 (n := 128) (m := 128) (pwP d (extractStridedSlice S512x128 ![32, 0] (scP (tG m c t (128 * g) h) (rdS m c t (128 * g) h')) slices_S576x128_o32_0_S512x128))
      (fun a b => dpwT X Y S t g a b) :=
  (pwP_v hd (own_v (φ := .bf16) (p := 128) (q := 128) (o := 0) slices_S576x128_o32_0_S512x128 (by omega) (scP_v (tG_v hY h (by omega)) (rdS_v hS h')))).congr fun a b => by
    have := lt_of_lt_of_eq t.isLt N_0
    unfold dpwT
    refine Finset.sum_congr rfl fun r _ => ?_
    beta_reduce
    unfold padR
    rw [if_pos (by omega), show 512 * t.val + (32 + r.val) - 32 = 512 * t.val + r.val by omega, Nat.zero_add]
end

end Cert.MixIdeal.Hand

end
-- ==== Proof.MixPoolCases.lean ====
/- The scales' and the mixing matrices' gradients after each tile: the first tile writes, the later ones add. -/
module

public import proofs.«01_k».proof.Proof.MixPoolTile

@[expose] public section

set_option maxRecDepth 16384
set_option maxHeartbeats 1000000

noncomputable section

namespace Cert.MixIdeal.Hand

open Cert.MixIdeal Cert.MixIdeal.Gen Cert.Mix Idealize.ShloMosaic Idealize.ShloMosaic.TcCoe Idealize.SL.Sem

/-- A sum with what was there, for a row of 128 numbers and for a matrix. -/
theorem add_row {v x : Vec Ideal S1x128 .f32} {f g : ℕ → ℝ} (hv : Is2 (n := 1) (m := 128) v fun _ => f) (hx : Is2 (n := 1) (m := 128) x fun _ => g) :
    Is2 (n := 1) (m := 128) (addf (F := Ideal) (φ := .f32) (shapeCast S1x128 v shapeCasts_S1x128_S1x128) x) (fun _ k => f k + g k) := by
  intro r k
  pointwise
  rw [hv.eq, hx.eq, ← EReal.coe_add]
theorem slab_of {x : FVec Ideal S128x128 .f32} {g : ℕ → ℕ → ℝ} (hx : Is2 (n := 128) (m := 128) x g) :
    Is3 (a := 1) (n := 128) (m := 128) (shapeCast S1x128x128 x shapeCasts_S128x128_S1x128x128) (fun _ => g) := by
  intro q r k
  pointwise
  exact hx r k
theorem add_slab {v : Vec Ideal S1x128x128 .f32} {x : FVec Ideal S128x128 .f32} {f g : ℕ → ℕ → ℝ} (hv : Is3 (a := 1) (n := 128) (m := 128) v fun _ => f)
    (hx : Is2 (n := 128) (m := 128) x g) :
    Is3 (a := 1) (n := 128) (m := 128) (shapeCast S1x128x128 (addf (F := Ideal) (φ := .f32) (shapeCast S128x128 v shapeCasts_S1x128x128_S128x128) x)
      shapeCasts_S128x128_S1x128x128) (fun _ r k => f r k + g r k) := by
  intro q r k
  pointwise
  rw [hx.eq]
  erw [hv.eq 0 r k]
  rw [← EReal.coe_add]

/-- An entry of a row, of a matrix, at an index of a wider array. -/
theorem at_row {v : Vec Ideal S1x128 .f32} {f : ℕ → ℝ} {F : ℕ → ℝ} {o : ℕ} (hv : Is2 (n := 1) (m := 128) v fun _ => f) (hf : ∀ k, f k = F (o + k)) (x : S1x128.Idx) {k : ℕ}
    (hk : k = o + (x 1).val) : v x = ((F k : ℝ) : EReal) := by
  have e := hv (x 0) (x 1)
  rw [← eq_ix2] at e
  rw [e, hk]
  exact congrArg _ (hf _)
theorem at_slab {v : Vec Ideal S1x128x128 .f32} {f : ℕ → ℕ → ℝ} {F : ℕ → ℕ → ℕ → ℝ} {o : ℕ} (hv : Is3 (a := 1) (n := 128) (m := 128) v fun _ => f) (hf : ∀ r k, f r k = F o r k)
    (x : S1x128x128.Idx) {g r k : ℕ} (hg : g = o) (hr : r = (x 1).val) (hk : k = (x 2).val) : v x = ((F g r k : ℝ) : EReal) := by
  have e := hv (x 0) (x 1) (x 2)
  rw [← eq_ix3] at e
  rw [e, hg, hr, hk]
  exact congrArg _ (hf _ _)

variable {m : (ℓ : Loc nD τ sig) → Buf (Elt Ideal) ℓ} {c : Dev nD} {t : Fin cfg0.N} {X Y : ℕ → ℕ → ℝ} {W A3 : ℕ → ℕ → ℕ → ℝ} {S A : ℕ → ℝ}

/-- The scales' gradient after the first tile. -/
theorem w20_A (ha : t.val % 8 = 0) (hb : ¬1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hW : Is3 (a := 4) (n := 128) (m := 128) (iblk m c 8 t) W) :
    Is2 (n := 1) (m := 512) (outsAt0 m c t.val t.isLt).2.2.1 (fun _ k => dpsT X Y W t k) := by
  rw [outsAt0_A m c t ha ha hb ha hb ha hb ha hb ha hb ha hb ha hb ha hb ha hb ha hb ha hb ha hb ha hb ha hb ha hb ha hb ha hb ha hb ha hb ha hb]
  dsimp only
  unfold out0_A_20
  rw [View.read_writes_eq_canon]
  swap; · exact fun _ => cover0_A_20 ..
  unfold kernelRun0_A
  dsimp only
  intro h k
  canon_tiles x hx
  · refine Eq.trans ?_ (at_row (F := fun k => dpsT X Y W t k) (ps_v (g := 3) (tD3_v hX) hY hW (by omega) slices_S576x512_o32_384_S512x128 inb_S4x128x128_S1x128x128_3_0_0) (fun _ => rfl) x hx1)
    sl_unfold_words
    rfl
  · refine Eq.trans ?_ (at_row (F := fun k => dpsT X Y W t k) (ps_v (g := 2) (tD2_v hX) hY hW (by omega) slices_S576x512_o32_256_S512x128 inb_S4x128x128_S1x128x128_2_0_0) (fun _ => rfl) x hx1)
    sl_unfold_words
    rfl
  · refine Eq.trans ?_ (at_row (F := fun k => dpsT X Y W t k) (ps_v (g := 1) (tD1_v hX) hY hW (by omega) slices_S576x512_o32_128_S512x128 inb_S4x128x128_S1x128x128_1_0_0) (fun _ => rfl) x hx1)
    sl_unfold_words
    rfl
  · refine Eq.trans ?_ (at_row (F := fun k => dpsT X Y W t k) (ps_v (g := 0) (tD0_v hX) hY hW (by omega) slices_S576x512_o32_0_S512x128 inb_S4x128x128_S1x128x128_0_0_0) (fun _ => rfl) x (hx1.trans (Nat.zero_add _).symm))
    sl_unfold_words
    rfl

/-- The mixing matrices' gradients after the first tile. -/
theorem w19_A (ha : t.val % 8 = 0) (hb : ¬1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hS : Is2 (n := 1) (m := 512) (iblk m c 9 t) fun _ => S) :
    Is3 (a := 4) (n := 128) (m := 128) (outsAt0 m c t.val t.isLt).2.1 (fun g a b => dpwT X Y S t g a b) := by
  rw [outsAt0_A m c t ha ha hb ha hb ha hb ha hb ha hb ha hb ha hb ha hb ha hb ha hb ha hb ha hb ha hb ha hb ha hb ha hb ha hb ha hb ha hb ha hb]
  dsimp only
  unfold out0_A_19
  rw [View.read_writes_eq_canon]
  swap; · exact fun _ => cover0_A_19 ..
  unfold kernelRun0_A
  dsimp only
  intro h i k
  canon_tiles x hx
  · refine Eq.trans ?_ (at_slab (F := fun g a b => dpwT X Y S t g a b) (slab_of (pw_v (g := 3) (tD3_v hX) hY hS (by omega) slices_S576x512_o0_384_S576x128 inb_S1x512_S1x128_0_384)) (fun _ _ => rfl) x (by change h.val = _ at hx0; omega) hx1 hx2)
    sl_unfold_words
    rfl
  · refine Eq.trans ?_ (at_slab (F := fun g a b => dpwT X Y S t g a b) (slab_of (pw_v (g := 2) (tD2_v hX) hY hS (by omega) slices_S576x512_o0_256_S576x128 inb_S1x512_S1x128_0_256)) (fun _ _ => rfl) x (by change h.val = _ at hx0; omega) hx1 hx2)
    sl_unfold_words
    rfl
  · refine Eq.trans ?_ (at_slab (F := fun g a b => dpwT X Y S t g a b) (slab_of (pw_v (g := 1) (tD1_v hX) hY hS (by omega) slices_S576x512_o0_128_S576x128 inb_S1x512_S1x128_0_128)) (fun _ _ => rfl) x (by change h.val = _ at hx0; omega) hx1 hx2)
    sl_unfold_words
    rfl
  · refine Eq.trans ?_ (at_slab (F := fun g a b => dpwT X Y S t g a b) (slab_of (pw_v (g := 0) (tD0_v hX) hY hS (by omega) slices_S576x512_o0_0_S576x128 inb_S1x512_S1x128_0_0)) (fun _ _ => rfl) x (by change h.val = _ at hx0; omega) hx1 hx2)
    sl_unfold_words
    rfl

/-- The scales' gradient after a later tile. -/
theorem w20_B (ha : ¬t.val % 8 = 0) (hb : 1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hW : Is3 (a := 4) (n := 128) (m := 128) (iblk m c 8 t) W)
    (hA : Is2 (n := 1) (m := 512) ((outsAt0 m c (t.val - 1) (Nat.lt_of_le_of_lt (Nat.sub_le _ _) t.isLt)).2.2.1) fun _ => A) :
    Is2 (n := 1) (m := 512) (outsAt0 m c t.val t.isLt).2.2.1 (fun _ k => A k + dpsT X Y W t k) := by
  rw [outsAt0_B m c t ha ha hb ha hb ha hb ha hb ha hb ha hb ha hb ha hb ha hb ha hb ha hb ha hb ha hb ha hb ha hb ha hb ha hb ha hb ha hb ha hb]
  dsimp only
  unfold out0_B_20
  rw [View.read_writes_eq_canon]
  swap; · exact fun _ => cover0_B_20 ..
  unfold kernelRun0_B
  dsimp only
  intro h k
  canon_tiles x hx
  · refine Eq.trans ?_ (at_row (F := fun k => A k + dpsT X Y W t k) (add_row (rd20_v (t := t) hA inb_S1x512_S1x128_0_384) (ps_v (g := 3) (tD3_v hX) hY hW (by omega) slices_S576x512_o32_384_S512x128 inb_S4x128x128_S1x128x128_3_0_0)) (fun _ => rfl) x hx1)
    sl_unfold_words
    rfl
  · refine Eq.trans ?_ (at_row (F := fun k => A k + dpsT X Y W t k) (add_row (rd20_v (t := t) hA inb_S1x512_S1x128_0_256) (ps_v (g := 2) (tD2_v hX) hY hW (by omega) slices_S576x512_o32_256_S512x128 inb_S4x128x128_S1x128x128_2_0_0)) (fun _ => rfl) x hx1)
    sl_unfold_words
    rfl
  · refine Eq.trans ?_ (at_row (F := fun k => A k + dpsT X Y W t k) (add_row (rd20_v (t := t) hA inb_S1x512_S1x128_0_128) (ps_v (g := 1) (tD1_v hX) hY hW (by omega) slices_S576x512_o32_128_S512x128 inb_S4x128x128_S1x128x128_1_0_0)) (fun _ => rfl) x hx1)
    sl_unfold_words
    rfl
  · refine Eq.trans ?_ (at_row (F := fun k => A k + dpsT X Y W t k) (add_row (rd20_v (t := t) hA inb_S1x512_S1x128_0_0) (ps_v (g := 0) (tD0_v hX) hY hW (by omega) slices_S576x512_o32_0_S512x128 inb_S4x128x128_S1x128x128_0_0_0)) (fun _ => rfl) x (hx1.trans (Nat.zero_add _).symm))
    sl_unfold_words
    rfl

/-- The mixing matrices' gradients after a later tile. -/
theorem w19_B (ha : ¬t.val % 8 = 0) (hb : 1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hS : Is2 (n := 1) (m := 512) (iblk m c 9 t) fun _ => S)
    (hA : Is3 (a := 4) (n := 128) (m := 128) ((outsAt0 m c (t.val - 1) (Nat.lt_of_le_of_lt (Nat.sub_le _ _) t.isLt)).2.1) A3) :
    Is3 (a := 4) (n := 128) (m := 128) (outsAt0 m c t.val t.isLt).2.1 (fun g a b => A3 g a b + dpwT X Y S t g a b) := by
  rw [outsAt0_B m c t ha ha hb ha hb ha hb ha hb ha hb ha hb ha hb ha hb ha hb ha hb ha hb ha hb ha hb ha hb ha hb ha hb ha hb ha hb ha hb ha hb]
  dsimp only
  unfold out0_B_19
  rw [View.read_writes_eq_canon]
  swap; · exact fun _ => cover0_B_19 ..
  unfold kernelRun0_B
  dsimp only
  intro h i k
  canon_tiles x hx
  · refine Eq.trans ?_ (at_slab (F := fun g a b => A3 g a b + dpwT X Y S t g a b) (add_slab (rd19_v (t := t) hA inb_S4x128x128_S1x128x128_3_0_0) (pw_v (g := 3) (tD3_v hX) hY hS (by omega) slices_S576x512_o0_384_S576x128 inb_S1x512_S1x128_0_384)) (fun _ _ => rfl) x (by change h.val = _ at hx0; omega) hx1 hx2)
    sl_unfold_words
    rfl
  · refine Eq.trans ?_ (at_slab (F := fun g a b => A3 g a b + dpwT X Y S t g a b) (add_slab (rd19_v (t := t) hA inb_S4x128x128_S1x128x128_2_0_0) (pw_v (g := 2) (tD2_v hX) hY hS (by omega) slices_S576x512_o0_256_S576x128 inb_S1x512_S1x128_0_256)) (fun _ _ => rfl) x (by change h.val = _ at hx0; omega) hx1 hx2)
    sl_unfold_words
    rfl
  · refine Eq.trans ?_ (at_slab (F := fun g a b => A3 g a b + dpwT X Y S t g a b) (add_slab (rd19_v (t := t) hA inb_S4x128x128_S1x128x128_1_0_0) (pw_v (g := 1) (tD1_v hX) hY hS (by omega) slices_S576x512_o0_128_S576x128 inb_S1x512_S1x128_0_128)) (fun _ _ => rfl) x (by change h.val = _ at hx0; omega) hx1 hx2)
    sl_unfold_words
    rfl
  · refine Eq.trans ?_ (at_slab (F := fun g a b => A3 g a b + dpwT X Y S t g a b) (add_slab (rd19_v (t := t) hA inb_S4x128x128_S1x128x128_0_0_0) (pw_v (g := 0) (tD0_v hX) hY hS (by omega) slices_S576x512_o0_0_S576x128 inb_S1x512_S1x128_0_0)) (fun _ _ => rfl) x (by change h.val = _ at hx0; omega) hx1 hx2)
    sl_unfold_words
    rfl

end Cert.MixIdeal.Hand

end
-- ==== Proof.MixPoolFinal.lean ====
/- The gradients of the pooling mixer's scales and mixing matrices as the kernel leaves them: sums over all rows. -/
module

public import proofs.«01_k».proof.Proof.MixPoolCases
public import proofs.«01_k».proof.Proof.MixSguFinal

@[expose] public section

set_option maxRecDepth 16384

noncomputable section

namespace Cert.MixIdeal.Hand

open Cert.MixIdeal Cert.MixIdeal.Gen Cert.Mix Idealize.ShloMosaic Idealize.ShloMosaic.TcCoe Idealize.SL.Sem

variable (m : (ℓ : Loc nD τ sig) → Buf (Elt Ideal) ℓ) (c : Dev nD)

theorem V2 (c : Dev nD) : V m c main_v2 = shapeCast S1x512 (m ((c : Thread nD τ).loc main_arg2)) shapeCasts_S512_S1x512 := by
  show StableHlo.after _ _ (Proc.devRef .tc main_v2) = _
  after_reads_simp <;> rfl

theorem idx_8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem idx_9 : ∀ t : Fin cfg0.N, win0_9.index t 0 = 0 ∧ win0_9.index t 1 = 0 :=
  (by decide +kernel : ∀ t : Fin grid0.N, win0_9.index t 0 = 0 ∧ win0_9.index t 1 = 0)
theorem idx_19 : ∀ t : Fin cfg0.N, win0_19.index t 0 = 0 ∧ win0_19.index t 1 = 0 ∧ win0_19.index t 2 = 0 :=
  (by decide +kernel : ∀ t : Fin grid0.N, win0_19.index t 0 = 0 ∧ win0_19.index t 1 = 0 ∧ win0_19.index t 2 = 0)
theorem idx_20 : ∀ t : Fin cfg0.N, win0_20.index t 0 = 0 ∧ win0_20.index t 1 = 0 :=
  (by decide +kernel : ∀ t : Fin grid0.N, win0_20.index t 0 = 0 ∧ win0_20.index t 1 = 0)

variable {m c}

theorem blk_8 {W : ℕ → ℕ → ℕ → ℝ} (hW : Is3 (a := 4) (n := 128) (m := 128) (m ((c : Thread nD τ).loc main_arg1)) W) (t : Fin cfg0.N) :
    Is3 (a := 4) (n := 128) (m := 128) (iblk m c 8 t) W := by
  intro g a k
  have h : (iblk m c 8 t : Vec Ideal S4x128x128 .f32) (ix3 g a k) = V m c main_arg1 (ix3 g a k) := by
    unfold iblk
    rw [View.read_apply]
    show V m c main_arg1 _ = _
    congr 1
    funext b
    apply Fin.ext
    match b with
    | ⟨0, _⟩ => show win0_8.index t 0 * 4 + 1 * g.val = g.val; rw [(idx_8 t).1]; omega
    | ⟨1, _⟩ => show win0_8.index t 1 * 128 + 1 * a.val = a.val; rw [(idx_8 t).2.1]; omega
    | ⟨2, _⟩ => show win0_8.index t 2 * 128 + 1 * k.val = k.val; rw [(idx_8 t).2.2]; omega
  rw [h, V_main_arg1]
  exact hW g a k

theorem blk_9 {S : ℕ → ℝ} (hS : ∀ k : Fin 512, (m ((c : Thread nD τ).loc main_arg2) : FVec Ideal S512 .f32) (ix1 k) = ((S k : ℝ) : EReal)) (t : Fin cfg0.N) :
    Is2 (n := 1) (m := 512) (iblk m c 9 t) (fun _ => S) := by
  intro a k
  have h : (iblk m c 9 t : Vec Ideal S1x512 .f32) (ix2 a k) = V m c main_v2 (ix2 a k) := by
    unfold iblk
    rw [View.read_apply]
    show V m c main_v2 _ = _
    congr 1
    funext b
    apply Fin.ext
    match b with
    | ⟨0, _⟩ => show win0_9.index t 0 * 1 + 1 * a.val = a.val; rw [(idx_9 t).1]; omega
    | ⟨1, _⟩ => show win0_9.index t 1 * 512 + 1 * k.val = k.val; rw [(idx_9 t).2]; omega
  rw [h, V2]
  pointwise
  exact hS k

variable (m c)

theorem final19 (g : Fin 4) (i k : Fin 128) :
    ((dats m 0 c).arrAt 19 cfg0.N : Vec Ideal S4x128x128 .f32) (ix3 g i k) = (outsAt0 m c 7 tLast.isLt).2.1 (ix3 g i k) := by
  have hb := congrFun ((last_block m c 19 flush0_19).trans (Value.flushed19 m c tLast)) (ix3 g i k)
  rw [View.read_apply] at hb
  refine Eq.trans ?_ (hb.trans rfl)
  show (dats m 0 c).arrAt 19 cfg0.N _ = (dats m 0 c).arrAt 19 cfg0.N _
  congr 1
  funext b
  apply Fin.ext
  match b with
  | ⟨0, _⟩ => show g.val = win0_19.index tLast 0 * 4 + 1 * g.val; rw [(idx_19 _).1]; omega
  | ⟨1, _⟩ => show i.val = win0_19.index tLast 1 * 128 + 1 * i.val; rw [(idx_19 _).2.1]; omega
  | ⟨2, _⟩ => show k.val = win0_19.index tLast 2 * 128 + 1 * k.val; rw [(idx_19 _).2.2]; omega

theorem final20 (i : Fin 1) (k : Fin 512) :
    ((dats m 0 c).arrAt 20 cfg0.N : Vec Ideal S1x512 .f32) (ix2 i k) = (outsAt0 m c 7 tLast.isLt).2.2.1 (ix2 i k) := by
  have hb := congrFun ((last_block m c 20 flush0_20).trans (Value.flushed20 m c tLast)) (ix2 i k)
  rw [View.read_apply] at hb
  refine Eq.trans ?_ (hb.trans rfl)
  show (dats m 0 c).arrAt 20 cfg0.N _ = (dats m 0 c).arrAt 20 cfg0.N _
  congr 1
  funext b
  apply Fin.ext
  match b with
  | ⟨0, _⟩ => show i.val = win0_20.index tLast 0 * 1 + 1 * i.val; rw [(idx_20 _).1]; omega
  | ⟨1, _⟩ => show k.val = win0_20.index tLast 1 * 512 + 1 * k.val; rw [(idx_20 _).2]; omega

variable {X Y : ℕ → ℕ → ℝ} {S : ℕ → ℝ} {W : ℕ → ℕ → ℕ → ℝ}

/-- The gradients of the scales and of the mixing matrices, over all rows. -/
def dpsA (X Y : ℕ → ℕ → ℝ) (W : ℕ → ℕ → ℕ → ℝ) (k : ℕ) : ℝ :=
  ∑ r ∈ Finset.range 4096, Y r k * ∑ c : Fin 128, poolD X (r + 32) (128 * (k / 128) + c) * W (k / 128) c (k % 128)
def dpwA (X Y : ℕ → ℕ → ℝ) (S : ℕ → ℝ) (g a b : ℕ) : ℝ :=
  ∑ r ∈ Finset.range 4096, poolD X (r + 32) (128 * g + a) * (Y r (128 * g + b) * S (128 * g + b))

theorem kernel_dps (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hW : Is3 (a := 4) (n := 128) (m := 128) (m ((c : Thread nD τ).loc main_arg1)) W) :
    Is2 (n := 1) (m := 512) ((dats m 0 c).arrAt 20 cfg0.N) (fun _ k => dpsA X Y W k) := by
  have ht := total2 (a := 1) (b := 512) (fun n h => (outsAt0 m c n h).2.2.1) (fun t _ k => dpsT X Y W t k)
    (fun t hb => w20_A (m := m) (t := t) (mod_of_not hb) hb hX hY (blk_8 hW _))
    (fun t A hb hA => (w20_B (m := m) (t := t) (A := A 0) (not_mod_of hb) hb hX hY (blk_8 hW _) (fun i k => by
      obtain rfl : i = 0 := Subsingleton.elim _ _
      exact hA 0 k)).congr fun r k => by
      obtain rfl : r = 0 := Subsingleton.elim _ _
      rfl) 7 tLast.isLt
  intro i k
  rw [final20]
  refine (ht i k).trans ?_
  rw [EReal.coe_eq_coe_iff]
  exact sum_rows (fun r => Y r k * ∑ c : Fin 128, poolD X (r + 32) (128 * (k.val / 128) + c) * W (k.val / 128) c (k.val % 128))

theorem kernel_dpw (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hS : ∀ k : Fin 512, (m ((c : Thread nD τ).loc main_arg2) : FVec Ideal S512 .f32) (ix1 k) = ((S k : ℝ) : EReal)) :
    Is3 (a := 4) (n := 128) (m := 128) ((dats m 0 c).arrAt 19 cfg0.N) (dpwA X Y S) := by
  have ht := total3 (d := 4) (a := 128) (b := 128) (fun n h => (outsAt0 m c n h).2.1) (dpwT X Y S)
    (fun t hb => w19_A (m := m) (t := t) (mod_of_not hb) hb hX hY (blk_9 hS _))
    (fun t A hb hA => w19_B (m := m) (t := t) (not_mod_of hb) hb hX hY (blk_9 hS _) hA) 7 tLast.isLt
  intro g i k
  rw [final19]
  refine (ht g i k).trans ?_
  rw [EReal.coe_eq_coe_iff]
  exact sum_rows (fun r => poolD X (r + 32) (128 * g + i) * (Y r (128 * g + k) * S (128 * g + k)))

end Cert.MixIdeal.Hand

end
-- ==== Proof.MixCumsum.lean ====
/- A running total along the rows of a four-axis array, and the one from the far end. -/
module

public import Idealize.ShloMosaic.Lib.Pointwise
public import proofs.«01_k».proof.Proof.Lift

@[expose] public section

noncomputable section

namespace Cert.Cumsum

open Idealize.ShloMosaic

/-- A fold of additions over a list of all positions is the sum over them. -/
theorem fold_add (n : ℕ) (h : Fin n → EReal) : (List.finRange n).foldl (fun r i => r + h i) 0 = ∑ i, h i := by
  rw [← List.sum_ofFn, List.ofFn_eq_map, ← List.foldl_map (f := h) (g := fun r x => r + x), List.sum_eq_foldl]

/-- The windowed sum of the host, from nothing: over the places of the window, of the entries it meets. -/
theorem window_sum {s t : Shape} (window strides lo hi : Fin s.rank → ℕ) (h : s.ReduceWindows window strides lo hi t) (x : s.Idx → EReal) (j : t.Idx) :
    Ideal.hostReduceWindowAdd window strides lo hi h x 0 j =
      ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0) := by
  unfold Ideal.hostReduceWindowAdd Host.reduceWindow
  refine (fold_add _ _).trans ?_
  exact Fintype.sum_equiv (Shape.rowMajor (s := (⟨s.rank, window⟩ : Shape))).symm _ _ (fun _ => dite_congr rfl (fun _ => rfl) (fun _ => rfl))

variable {R G K : ℕ}

/-- The places of a window along the second of four axes are its rows. -/
def rows4 (R : ℕ) : Fin R ≃ (⟨4, ![1, R, 1, 1]⟩ : Shape).Idx where
  toFun r := ix4 0 r 0 0
  invFun i := i 1
  left_inv _ := rfl
  right_inv i := by
    funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

/-- A windowed sum along the second axis: the rows which the window meets. -/
theorem row_window (p q : ℕ) (h : (⟨4, ![1, R, G, K]⟩ : Shape).ReduceWindows ![1, R, 1, 1] ![1, 1, 1, 1] ![0, p, 0, 0] ![0, q, 0, 0] ⟨4, ![1, R, G, K]⟩)
    (x : (⟨4, ![1, R, G, K]⟩ : Shape).Idx → EReal) (r : Fin R) (g : Fin G) (k : Fin K) :
    Ideal.hostReduceWindowAdd ![1, R, 1, 1] ![1, 1, 1, 1] ![0, p, 0, 0] ![0, q, 0, 0] h x 0 (ix4 0 r g k) =
      ∑ w : Fin R, (if hin : p ≤ r.val + w.val ∧ r.val + w.val - p < R then x (ix4 0 ⟨r.val + w.val - p, hin.2⟩ g k) else 0) := by
  rw [window_sum]
  refine (Fintype.sum_equiv (rows4 R) _ _ (fun w => ?_)).symm
  by_cases hin : p ≤ r.val + w.val ∧ r.val + w.val - p < R
  · rw [dif_pos hin, dif_pos]
    · refine congrArg x (funext fun a => Fin.ext ?_)
      match a with
      | ⟨0, _⟩ => rfl
      | ⟨1, _⟩ => exact congrArg (· - p) (congrArg (· + w.val) (Nat.mul_one r.val)).symm
      | ⟨2, _⟩ => exact (Nat.mul_one g.val).symm
      | ⟨3, _⟩ => exact (Nat.mul_one k.val).symm
    · intro a
      match a with
      | ⟨0, _⟩ => exact ⟨Nat.zero_le _, Nat.one_pos⟩
      | ⟨1, _⟩ =>
        show p ≤ r.val * 1 + w.val ∧ r.val * 1 + w.val - p < R
        rw [Nat.mul_one]; exact hin
      | ⟨2, _⟩ => exact ⟨Nat.zero_le _, (Nat.mul_one g.val).symm ▸ g.isLt⟩
      | ⟨3, _⟩ => exact ⟨Nat.zero_le _, (Nat.mul_one k.val).symm ▸ k.isLt⟩
  · rw [dif_neg hin, dif_neg]
    intro hall
    have h1 : p ≤ r.val * 1 + w.val ∧ r.val * 1 + w.val - p < R := hall 1
    rw [Nat.mul_one] at h1
    exact hin h1

/-- Running totals: with the padding in front, the rows up to `r`. -/
theorem upto (h : (⟨4, ![1, 4096, G, K]⟩ : Shape).ReduceWindows ![1, 4096, 1, 1] ![1, 1, 1, 1] ![0, 4095, 0, 0] ![0, 0, 0, 0] ⟨4, ![1, 4096, G, K]⟩)
    (x : (⟨4, ![1, 4096, G, K]⟩ : Shape).Idx → EReal) (f : ℕ → ℕ → ℕ → ℝ) (hx : ∀ (r : Fin 4096) (g : Fin G) (k : Fin K), x (ix4 0 r g k) = ((f r g k : ℝ) : EReal))
    (r : Fin 4096) (g : Fin G) (k : Fin K) :
    Ideal.hostReduceWindowAdd ![1, 4096, 1, 1] ![1, 1, 1, 1] ![0, 4095, 0, 0] ![0, 0, 0, 0] h x 0 (ix4 0 r g k) =
      ((∑ n ∈ Finset.range (r.val + 1), f n g k : ℝ) : EReal) := by
  rw [row_window]
  rw [show ∀ F : Fin 4096 → EReal, (∀ w, F w = ((if 4095 ≤ r.val + w.val then f (r.val + w.val - 4095) g k else 0 : ℝ) : EReal)) →
      (∑ w, F w = ((∑ w : Fin 4096, (if 4095 ≤ r.val + w.val then f (r.val + w.val - 4095) g k else 0) : ℝ) : EReal)) from
    fun F hF => (Finset.sum_congr rfl fun w _ => hF w).trans (by rw [Lift.sum_coe])]
  · congr 1
    rw [Fin.sum_univ_eq_sum_range (fun w => if 4095 ≤ r.val + w then f (r.val + w - 4095) g k else 0) 4096]
    rw [← Finset.sum_filter]
    refine (Finset.sum_bij (fun n _ => 4095 - r.val + n) ?_ ?_ ?_ ?_).symm
    · intro n hn; have := Finset.mem_range.mp hn; have := r.isLt
      exact Finset.mem_filter.mpr ⟨Finset.mem_range.mpr (by omega), by omega⟩
    · intro a _ b _ hab; exact Nat.add_left_cancel hab
    · intro w hw
      have hw' := Finset.mem_filter.mp hw; have := Finset.mem_range.mp hw'.1; have := hw'.2; have := r.isLt
      exact ⟨r.val + w - 4095, Finset.mem_range.mpr (by omega), by omega⟩
    · intro n hn; have := Finset.mem_range.mp hn; have := r.isLt
      exact congrArg (fun m => f m g k) (by omega)
  · intro w
    by_cases hin : 4095 ≤ r.val + w.val
    · rw [dif_pos ⟨hin, by omega⟩, if_pos hin, hx]
    · rw [dif_neg (fun h => hin h.1), if_neg hin, EReal.coe_zero]

/-- With the padding behind: the rows from `r` on. -/
theorem from_row (h : (⟨4, ![1, 4096, G, K]⟩ : Shape).ReduceWindows ![1, 4096, 1, 1] ![1, 1, 1, 1] ![0, 0, 0, 0] ![0, 4095, 0, 0] ⟨4, ![1, 4096, G, K]⟩)
    (x : (⟨4, ![1, 4096, G, K]⟩ : Shape).Idx → EReal) (f : ℕ → ℕ → ℕ → ℝ) (hx : ∀ (r : Fin 4096) (g : Fin G) (k : Fin K), x (ix4 0 r g k) = ((f r g k : ℝ) : EReal))
    (r : Fin 4096) (g : Fin G) (k : Fin K) :
    Ideal.hostReduceWindowAdd ![1, 4096, 1, 1] ![1, 1, 1, 1] ![0, 0, 0, 0] ![0, 4095, 0, 0] h x 0 (ix4 0 r g k) =
      ((∑ n ∈ Finset.Ico r.val 4096, f n g k : ℝ) : EReal) := by
  rw [row_window]
  rw [show ∀ F : Fin 4096 → EReal, (∀ w, F w = ((if r.val + w.val < 4096 then f (r.val + w.val) g k else 0 : ℝ) : EReal)) →
      (∑ w, F w = ((∑ w : Fin 4096, (if r.val + w.val < 4096 then f (r.val + w.val) g k else 0) : ℝ) : EReal)) from
    fun F hF => (Finset.sum_congr rfl fun w _ => hF w).trans (by rw [Lift.sum_coe])]
  · congr 1
    rw [Fin.sum_univ_eq_sum_range (fun w => if r.val + w < 4096 then f (r.val + w) g k else 0) 4096, ← Finset.sum_filter]
    refine Finset.sum_bij (fun n _ => r.val + n) ?_ ?_ ?_ ?_
    · intro n hn; have hn' := Finset.mem_filter.mp hn
      exact Finset.mem_Ico.mpr ⟨by omega, hn'.2⟩
    · intro a _ b _ hab; exact Nat.add_left_cancel hab
    · intro w hw
      have hw' := Finset.mem_Ico.mp hw
      exact ⟨w - r.val, Finset.mem_filter.mpr ⟨Finset.mem_range.mpr (by omega), by omega⟩, by omega⟩
    · intro n _; rfl
  · intro w
    by_cases hin : r.val + w.val < 4096
    · rw [dif_pos ⟨Nat.zero_le _, hin⟩, if_pos hin, hx]; rfl
    · rw [dif_neg (fun h => hin h.2), if_neg hin, EReal.coe_zero]

end Cert.Cumsum
-- ==== Proof.MixPoolRef.lean ====
/- The reference's pooling branch: running totals, the pooled rows, and the gradients of the matrices and of the scale. -/
module

public import proofs.«01_k».proof.Proof.MixSguRef
public import proofs.«01_k».proof.Proof.MixPoolFinal
public import proofs.«01_k».proof.Proof.MixCumsum

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem
open Cert.MixIdeal.Hand (padR win poolD)

variable (V0 : Valuation τ sig (Elt Ideal)) {X Y : ℕ → ℕ → ℝ} {S : ℕ → ℝ} {W : ℕ → ℕ → ℕ → ℝ}

/-- The total of a column up to a row. -/
def upTo (X : ℕ → ℕ → ℝ) (r k : ℕ) : ℝ := ∑ n ∈ Finset.range (r + 1), X n k

/-- A running total less the one `w` rows before is the sum of the last `w` rows; what lies before the first row counts as zero. -/
theorem last_rows (w r k : ℕ) (hw : w ≤ 32) (hr : r < 4096) :
    upTo X r k - (if r < w then 0 else upTo X (r - w) k) = ∑ s ∈ Finset.range w, padR X (r + 32 - s) k := by
  have key : ∀ w ≤ 32, ∑ s ∈ Finset.range w, padR X (r + 32 - s) k = upTo X r k - (if r < w then 0 else upTo X (r - w) k) := by
    intro w
    induction w with
    | zero => intro _; rw [Finset.sum_range_zero, if_neg (Nat.not_lt_zero _), Nat.sub_zero, sub_self]
    | succ w ih =>
      intro h
      rw [Finset.sum_range_succ, ih (by omega)]
      by_cases h1 : r < w
      · rw [if_pos h1, if_pos (by omega)]
        unfold padR
        rw [if_neg (by omega), add_zero]
      · rw [if_neg h1]
        unfold padR
        rw [if_pos ⟨by omega, by omega⟩, show r + 32 - w - 32 = r - w by omega]
        by_cases h2 : r < w + 1
        · rw [if_pos h2, show r - w = 0 by omega]
          unfold upTo
          rw [Finset.sum_range_one]; ring
        · rw [if_neg h2]
          have : upTo X (r - w) k = upTo X (r - (w + 1)) k + X (r - w) k := by
            unfold upTo
            rw [show r - w + 1 = (r - (w + 1) + 1) + 1 by omega, Finset.sum_range_succ, show r - (w + 1) + 1 = r - w by omega]
          rw [this]; ring
  exact (key w hw).symm

/-- The pooled row less the row, from running totals. -/
theorem pooled_eq (w r k : ℕ) (hw : w ≤ 16) (hr : r < 4096) :
    (upTo X r k - (if r < w then 0 else upTo X (r - w) k)) / cnt w (r + 32) - X r k = poolF w (padR X) (r + 32) k := by
  unfold poolF
  rw [last_rows w r k (by omega) hr]
  congr 1
  unfold padR
  rw [if_pos ⟨by omega, by omega⟩, Nat.add_sub_cancel]

theorem r7 (hX : IsR (n := 8192) (V0 (Proc.devRef .tc main_arg0)) X) (r : Fin 4096) (g : Fin 4) (k : Fin 128) :
    (res_main_v7 V0) (ix4 0 r g k) = ((X r (128 * g + k) : ℝ) : EReal) := by
  pointwise [res_main_v7]
  rw [hX]
  exact congrArg (fun j => ((X r j : ℝ) : EReal)) (by dsimp only; omega)

/-- The running totals. -/
theorem r8 (hX : IsR (n := 8192) (V0 (Proc.devRef .tc main_arg0)) X) (r : Fin 4096) (g : Fin 4) (k : Fin 128) :
    (res_main_v8 V0) (ix4 0 r g k) = ((upTo X r (128 * g + k) : ℝ) : EReal) := by
  unfold res_main_v8 Host.reduceWindowAdd
  rw [Ideal.hostReduceWindowAdd_def]
  have hz : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  rw [hz]
  exact Cumsum.upto (G := 4) (K := 128) _ (res_main_v7 V0) (fun r g k => X r (128 * g + k)) (r7 V0 hX) r g k

/-- The number of rows of a window. -/
theorem count_word (w r : ℕ) (hw : w ≤ 16) (hr : r < 4096) :
    FloatOps.sitofp (F := Ideal) .f32 (IntOp.minsi (IntOp.addi (BitVec.ofNat 32 r) 1#32) (BitVec.ofNat 32 w)) = ((cnt w (r + 32) : ℝ) : EReal) := by
  show (((BitVec.toInt _ : ℤ) : ℝ) : EReal) = _
  have h1 : IntOp.addi (BitVec.ofNat 32 r) 1#32 = BitVec.ofNat 32 (r + 1) := (BitVec.ofNat_add _ _).symm
  have h2 : ∀ n : ℕ, n < 5000 → (BitVec.ofNat 32 n).toInt = n := by
    intro n hn
    rw [BitVec.toInt_eq_toNat_cond, BitVec.toNat_ofNat, Nat.mod_eq_of_lt (by omega), if_pos (by omega)]
  have h3 : (IntOp.minsi (BitVec.ofNat 32 (r + 1)) (BitVec.ofNat 32 w)).toInt = ((min w (max 1 (r + 32 - 31)) : ℕ) : ℤ) := by
    unfold IntOp.minsi
    by_cases h : w < r + 1
    · rw [if_neg, h2 w (by omega)]
      · omega
      · rw [BitVec.slt_iff_toInt_lt, h2 _ (by omega), h2 _ (by omega)]; omega
    · by_cases h' : r + 1 < w
      · rw [if_pos, h2 _ (by omega)]
        · omega
        · rw [BitVec.slt_iff_toInt_lt, h2 _ (by omega), h2 _ (by omega)]; omega
      · rw [show w = r + 1 by omega, ite_self, h2 _ (by omega)]; omega
  rw [h1, h3]
  unfold cnt
  rw [Int.cast_natCast]

/-- A window of a group's columns. -/
theorem win_eq (g k : ℕ) (hk : k < 128) : win (128 * g + k) = 2 ^ (g + 1) := by
  unfold win
  rw [show (128 * g + k) / 128 = g by omega]

/-- The lagging total, where the rows before the first are zero. -/
theorem lag_eq (r w k : ℕ) (v : Fin 4096 → EReal) (hv : ∀ i : Fin 4096, v i = ((upTo X i k : ℝ) : EReal)) (hr : r < 4096) :
    (if h : r < w then (0 : EReal) else v ⟨r - w, by omega⟩) = (((if r < w then 0 else upTo X (r - w) k : ℝ)) : EReal) := by
  by_cases h : r < w
  · rw [dif_pos h, if_pos h, EReal.coe_zero]
  · rw [dif_neg h, if_neg h, hv]

/-- One group's pooled rows, less the rows. -/
theorem group_eq (w r k : ℕ) (hw : 0 < w) (hw' : w ≤ 16) (hr : r < 4096) (v : Fin 4096 → EReal) (hv : ∀ i : Fin 4096, v i = ((upTo X i k : ℝ) : EReal))
    (x : EReal) (hx : x = ((X r k : ℝ) : EReal)) :
    Ideal.div (v ⟨r, hr⟩ - (if h : r < w then (0 : EReal) else v ⟨r - w, by omega⟩))
        (FloatOps.sitofp (F := Ideal) .f32 (IntOp.minsi (IntOp.addi (BitVec.ofNat 32 r) 1#32) (BitVec.ofNat 32 w))) - x
      = ((poolF w (padR X) (r + 32) k : ℝ) : EReal) := by
  rw [lag_eq r w k v hv hr, count_word w r hw' hr, hv, hx, ← EReal.coe_sub, Lift.div_coe (cnt_ne hw _), ← EReal.coe_sub, ← pooled_eq w r k hw' hr]

/-- The pooled rows, less the rows. -/
theorem r86 (hX : IsR (n := 8192) (V0 (Proc.devRef .tc main_arg0)) X) (r : Fin 4096) (g : Fin 4) (k : Fin 128) :
    (res_main_v86 V0) (ix4 0 r g k) = ((poolD X (r + 32) (128 * g + k) : ℝ) : EReal) := by
  unfold poolD
  rw [win_eq g.val k.val k.isLt]
  match g with
  | ⟨0, _⟩ =>
    pointwise [res_main_v86, res_main_v11, res_main_v21, res_main_v9]
    have h := group_eq (X := X) 2 r.val (128 * 0 + k.val) (by omega) (by omega) r.isLt (fun i => (res_main_v8 V0) (ix4 0 i 0 k)) (fun i => r8 V0 hX i 0 k) _ (r7 V0 hX r 0 k)
    rw [Nat.mul_zero, Nat.zero_add] at h
    exact h
  | ⟨1, _⟩ =>
    pointwise [res_main_v86, res_main_v29, res_main_v39, res_main_v9]
    exact group_eq (X := X) 4 r.val (128 * 1 + k.val) (by omega) (by omega) r.isLt (fun i => (res_main_v8 V0) (ix4 0 i 1 k)) (fun i => r8 V0 hX i 1 k) _ (r7 V0 hX r 1 k)
  | ⟨2, _⟩ =>
    pointwise [res_main_v86, res_main_v47, res_main_v57, res_main_v9]
    exact group_eq (X := X) 8 r.val (128 * 2 + k.val) (by omega) (by omega) r.isLt (fun i => (res_main_v8 V0) (ix4 0 i 2 k)) (fun i => r8 V0 hX i 2 k) _ (r7 V0 hX r 2 k)
  | ⟨3, _⟩ =>
    pointwise [res_main_v86, res_main_v65, res_main_v75, res_main_v9]
    exact group_eq (X := X) 16 r.val (128 * 3 + k.val) (by omega) (by omega) r.isLt (fun i => (res_main_v8 V0) (ix4 0 i 3 k)) (fun i => r8 V0 hX i 3 k) _ (r7 V0 hX r 3 k)

theorem r465 (hY : ∀ (r : Fin 4096) (b : Fin 4) (k : Fin 512), (V0 (Proc.devRef .tc main_arg11) : FVec Ideal S1x4096x4x512 .f32) (ix4 0 r b k) = ((Y r (512 * b + k) : ℝ) : EReal)) :
    IsR (n := 512) (res_main_v465 V0) (fun r k => Y r k) := by
  intro r k
  pointwise [res_main_v465]
  rw [hY]
  exact congrArg (fun j => ((Y r j : ℝ) : EReal)) (by show 512 * 0 + k.val = k.val; omega)

/-- The mixed rows. -/
theorem r89 (hX : IsR (n := 8192) (V0 (Proc.devRef .tc main_arg0)) X) (hW : Is3 (a := 4) (n := 128) (m := 128) (V0 (Proc.devRef .tc main_arg1)) W) :
    IsR (n := 512) (res_main_v89 V0) (fun r k => ∑ c : Fin 128, poolD X (r + 32) (128 * (k / 128) + c) * W (k / 128) c (k % 128)) := by
  intro r k
  pointwise [res_main_v89]
  refine (Finset.sum_congr rfl fun c _ => ?_).trans (Lift.sum_coe _ _)
  rw [hW.eq, r86 V0 hX, ← EReal.coe_mul, mul_comm]

/-- The gradient of the scale. -/
theorem rdps (hX : IsR (n := 8192) (V0 (Proc.devRef .tc main_arg0)) X) (hW : Is3 (a := 4) (n := 128) (m := 128) (V0 (Proc.devRef .tc main_arg1)) W)
    (hY : ∀ (r : Fin 4096) (b : Fin 4) (k : Fin 512), (V0 (Proc.devRef .tc main_arg11) : FVec Ideal S1x4096x4x512 .f32) (ix4 0 r b k) = ((Y r (512 * b + k) : ℝ) : EReal)) :
    Is2 (n := 1) (m := 512) (shapeCast S1x512 (Host.reduceAdd (shapeCast _ (Host.reduceAdd (mulf (res_main_v89 V0) (res_main_v465 V0)) (constant S_ .f32 0x00000000#32) reducesTo_S1x4096x512_S1x512_d1 h_S_) shapeCasts_S1x512_S1x1x512) (constant S_ .f32 0x00000000#32) reducesTo_S1x1x512_S512_d0_1 h_S_) shapeCasts_S512_S1x512)
      (fun _ k => MixIdeal.Hand.dpsA X Y W k) := by
  intro i k
  pointwise
  simp only [Cert.HostSum.sum01]
  pointwise
  simp only [(r89 V0 hX hW).eq, (r465 V0 hY).eq, ← EReal.coe_mul, Finset.univ_unique, Finset.sum_singleton, Lift.sum_coe]
  rw [EReal.coe_eq_coe_iff]
  unfold MixIdeal.Hand.dpsA
  rw [Finset.sum_range]
  exact Finset.sum_congr rfl fun r _ => mul_comm _ _

/-- The cotangent before the scale, by groups. -/
theorem r961 (hY : ∀ (r : Fin 4096) (b : Fin 4) (k : Fin 512), (V0 (Proc.devRef .tc main_arg11) : FVec Ideal S1x4096x4x512 .f32) (ix4 0 r b k) = ((Y r (512 * b + k) : ℝ) : EReal))
    (hS : ∀ k : Fin 512, (V0 (Proc.devRef .tc main_arg2) : FVec Ideal S512 .f32) (ix1 k) = ((S k : ℝ) : EReal)) (g : Fin 4) (b : Fin 128) (r : Fin 4096) :
    (res_main_v961 V0) (ix4 g b 0 r) = ((Y r (128 * g + b) * S (128 * g + b) : ℝ) : EReal) := by
  pointwise [res_main_v961, res_main_v90]
  rw [r465 V0 hY, hS, ← EReal.coe_mul]
  exact congrArg (fun j => ((Y r j * S j : ℝ) : EReal)) (by show g.val * 128 + b.val = _; omega)

/-- The gradient of the matrices. -/
theorem rdpw (hX : IsR (n := 8192) (V0 (Proc.devRef .tc main_arg0)) X)
    (hY : ∀ (r : Fin 4096) (b : Fin 4) (k : Fin 512), (V0 (Proc.devRef .tc main_arg11) : FVec Ideal S1x4096x4x512 .f32) (ix4 0 r b k) = ((Y r (512 * b + k) : ℝ) : EReal))
    (hS : ∀ k : Fin 512, (V0 (Proc.devRef .tc main_arg2) : FVec Ideal S512 .f32) (ix1 k) = ((S k : ℝ) : EReal)) :
    Is3 (a := 4) (n := 128) (m := 128) (transpose S4x128x128 [0, 2, 1] (Host.dotGeneral (φ₁ := .f32) (φ₂ := .f32) dot_S4x128x1x4096_S1x4096x4x128_S4x128x128_23_01_1_3_0_2 none (res_main_v961 V0) (res_main_v86 V0)) transposes_S4x128x128_S4x128x128_0_2_1)
      (MixIdeal.Hand.dpwA X Y S) := by
  intro g a b
  pointwise
  simp only [Fintype.sum_unique, Fin.default_eq_zero, r961 V0 hY hS, r86 V0 hX, ← EReal.coe_mul, Lift.sum_coe]
  rw [EReal.coe_eq_coe_iff]
  unfold MixIdeal.Hand.dpwA
  rw [Finset.sum_range]
  exact Finset.sum_congr rfl fun r _ => mul_comm _ _

end Cert.MixRefIdeal.Hand
-- ==== Proof.MixConvReal.lean ====
/- The long causal convolution over the reals: the gated input, the sum of its 31 shifted products, and the logistic function. -/
module

public import proofs.«01_k».proof.Proof.MixReal

@[expose] public section

noncomputable section

namespace Cert.Mix

open Idealize.ShloMosaic

/-- The logistic function. -/
def sg (x : ℝ) : ℝ := 1 / (1 + Real.exp (-x))

theorem exp_coe (x : ℝ) : Ideal.exp (x : EReal) = ((Real.exp x : ℝ) : EReal) := rfl

theorem sg_coe (x : ℝ) : Ideal.div 1 (1 + Ideal.exp (-(x : EReal))) = ((sg x : ℝ) : EReal) := by
  rw [← EReal.coe_neg, exp_coe, ← EReal.coe_one, ← EReal.coe_add, Lift.div_coe (by have := Real.exp_pos (-x); linarith)]
  rfl

/-- The convolution's input: one part gated by the other. -/
def gte (X : ℕ → ℕ → ℝ) (r k : ℕ) : ℝ := X r (2048 + k) * sg (X r (2560 + k))
/-- That with thirty rows of zeros before it. -/
def xg (X : ℕ → ℕ → ℝ) (i k : ℕ) : ℝ := if i < 30 then 0 else gte X (i - 30) k
theorem xg_own (X : ℕ → ℕ → ℝ) (r k : ℕ) : xg X (30 + r) k = gte X r k := by
  unfold xg
  rw [if_neg (by omega), Nat.add_sub_cancel_left]
/-- The causal convolution with a filter of 31 rows. -/
def convZ (X CW : ℕ → ℕ → ℝ) (r k : ℕ) : ℝ := ∑ j ∈ Finset.range 31, CW j k * xg X (j + r) k
/-- The affine normalised convolution. -/
def nnZ (X CW : ℕ → ℕ → ℝ) (G B : ℕ → ℝ) (r k : ℕ) : ℝ := nrm (convZ X CW) r k * G k + B k
/-- The slope of `x` times its logistic. -/
def siluD (x : ℝ) : ℝ := sg x * (1 + x * (1 - sg x))
/-- The gradient at the affine normalised convolution. -/
def dnZ (X CW Y : ℕ → ℕ → ℝ) (G B : ℕ → ℝ) (r k : ℕ) : ℝ := Y r (1024 + k) * siluD (nnZ X CW G B r k)

/-- The short convolution's input, one part gated by another, with two rows of zeros before it. -/
def qS (X : ℕ → ℕ → ℝ) (n k : ℕ) : ℝ := if n < 2 then 0 else X (n - 2) (1536 + k) * X (n - 2) (512 + k)

/-- A product of two arrays, one moved by `c` rows against the other: either may be moved. -/
theorem shift_sum (L g : ℕ → ℝ) (N c : ℕ) :
    ∑ s ∈ Finset.range N, (if s + c < N then L (s + c) else 0) * g s = ∑ r ∈ Finset.range N, L r * (if r < c then 0 else g (r - c)) := by
  have h1 := Finset.sum_range_add (fun r => if r < c then 0 else (if r < N then L r else 0) * g (r - c)) c N
  have h2 := Finset.sum_range_add (fun r => if r < c then 0 else (if r < N then L r else 0) * g (r - c)) N c
  have h3 : ∑ x ∈ Finset.range c, (if x < c then 0 else (if x < N then L x else 0) * g (x - c)) = 0 :=
    Finset.sum_eq_zero fun x hx => if_pos (Finset.mem_range.mp hx)
  have h4 : ∑ x ∈ Finset.range c, (if N + x < c then 0 else (if N + x < N then L (N + x) else 0) * g (N + x - c)) = 0 :=
    Finset.sum_eq_zero fun x _ => by rw [if_neg (by omega : ¬N + x < N), zero_mul, ite_self]
  rw [h3, zero_add] at h1
  rw [h4, add_zero, add_comm N c, h1] at h2
  refine Eq.trans (Finset.sum_congr rfl fun s _ => ?_) (h2.trans (Finset.sum_congr rfl fun r hr => ?_))
  · rw [if_neg (by omega : ¬c + s < c), Nat.add_sub_cancel_left, add_comm c s]
  · rw [if_pos (Finset.mem_range.mp hr)]
    by_cases h : r < c
    · rw [if_pos h, if_pos h, mul_zero]
    · rw [if_neg h, if_neg h]

end Cert.Mix

end
-- ==== Proof.MixConv.lean ====
/- The saved convolution, which the host computes before the call: its value for arguments that are real numbers. -/
module

public import proofs.«01_k».proof.Proof.MixReads
public import proofs.«01_k».proof.Proof.MixConvReal

@[expose] public section

set_option maxRecDepth 65536

noncomputable section

namespace Cert.MixIdeal.Hand

open Cert.MixIdeal Cert.MixIdeal.Gen Cert.Mix Idealize.ShloMosaic Idealize.ShloMosaic.TcCoe Idealize.SL.Sem
open Idealize.ShloMosaic.Pipeline (Dat)

variable (m : (ℓ : Loc nD τ sig) → Buf (Elt Ideal) ℓ) {X CW : ℕ → ℕ → ℝ}

/-- The gated input. -/
theorem gate_eq {c : Dev nD} (hX : ∀ (r : Fin 4096) (k : Fin 8192), argP m c (ix3 0 r k) = ((X r k : ℝ) : EReal)) (r : Fin 4096) (k : Fin 512) :
    (StableHlo.upto [hostOps0 (F := Ideal), hostOps0_1, hostOps0_2, hostOps0_3, hostOps0_4].flatten (fun b => m (c, b)) 30 (Proc.tc.devRef main_v21) : FVec Ideal S1x4096x512 .f32) (ix3 0 r k)
      = ((gte X r k : ℝ) : EReal) := by
  after_reads_simp
  pointwise
  have hX' : ∀ (r : Fin 4096) (k : Fin 8192), (m (c, Proc.devRef .tc main_arg0) : FVec Ideal S1x4096x8192 .f32) (ix3 0 r k) = ((X r k : ℝ) : EReal) := hX
  rw [hX', hX', sg_coe, ← EReal.coe_mul]
  rfl

/-- What stands before the array the convolution slides over: thirty rows of zeros, then the gated input. -/
theorem pad_eq {c : Dev nD} (hX : ∀ (r : Fin 4096) (k : Fin 8192), argP m c (ix3 0 r k) = ((X r k : ℝ) : EReal)) (k : Fin 512) (i : ℕ) (h1 : ¬ i < 30 → i - 30 < 4096) :
    (if h : i < 30 then (StableHlo.upto [hostOps0 (F := Ideal), hostOps0_1, hostOps0_2, hostOps0_3, hostOps0_4].flatten (fun b => m (c, b)) 30 (Proc.tc.devRef main_v22) : FVec Ideal S1x30x512 .f32) (ix3 0 ⟨i, h⟩ k)
      else (StableHlo.upto [hostOps0 (F := Ideal), hostOps0_1, hostOps0_2, hostOps0_3, hostOps0_4].flatten (fun b => m (c, b)) 30 (Proc.tc.devRef main_v21) : FVec Ideal S1x4096x512 .f32) (ix3 0 ⟨i - 30, h1 h⟩ k))
      = ((xg X i k : ℝ) : EReal) := by
  unfold xg
  by_cases h : i < 30
  · rw [dif_pos h, if_pos h]
    after_reads_simp
    pointwise
    exact EReal.coe_zero.symm
  · rw [dif_neg h, if_neg h]
    exact gate_eq m hX _ k

set_option maxHeartbeats 4000000 in
/-- The saved convolution. -/
theorem V243 {c : Dev nD} (hX : ∀ (r : Fin 4096) (k : Fin 8192), argP m c (ix3 0 r k) = ((X r k : ℝ) : EReal))
    (hC : Is2 (n := 31) (m := 512) (m ((c : Thread nD τ).loc main_arg4)) CW) (r : Fin 4096) (k : Fin 512) :
    ∃ v : Vec Ideal S4096x512 .bf16, V m c main_v243 = v ∧ v (ix2 r k) = ((convZ X CW r k : ℝ) : EReal) := by
  refine ⟨?v, ?a, ?b⟩
  case a =>
    show StableHlo.after _ _ (Proc.devRef .tc main_v243) = _
    after_reads_simp
    rfl
  pointwise
  have hC' : ∀ j : Fin 31, (m (c, Proc.devRef .tc main_arg4) : FVec Ideal S31x512 .f32) (ix2 j k) = ((CW j k : ℝ) : EReal) := fun j => hC j k
  simp only [pad_eq m hX]
  simp only [gate_eq m hX, hC', ← EReal.coe_mul, ← EReal.coe_add]
  rw [EReal.coe_eq_coe_iff]
  unfold convZ
  simp only [Finset.sum_range_succ, Finset.sum_range_zero, zero_add, xg_own]
  rfl

end Cert.MixIdeal.Hand

end
-- ==== Proof.MixConvPay.lean ====
/- The convolution mixer's backward products on one tile: what the kernel's payloads hold. -/
module

public import proofs.«01_k».proof.Proof.MixPoolPay
public import proofs.«01_k».proof.Proof.MixConvReal

@[expose] public section

noncomputable section

namespace Cert.Mix

open Cert.MixIdeal Cert.MixIdeal.Gen
open Idealize.ShloMosaic hiding Ideal
open Idealize.ShloMosaic (Ideal)

theorem lgs_coe (x : ℝ) : Ideal.logistic (x : EReal) = ((sg x : ℝ) : EReal) := sg_coe x

/-- The gated input of the convolution. -/
theorem yg_v {a b : Vec Ideal S512x512 .bf16} {A B : ℕ → ℕ → ℝ} (ha : Is2 (n := 512) (m := 512) a A) (hb : Is2 (n := 512) (m := 512) b B) :
    Is2 (n := 512) (m := 512) (k0_pay87 (F := Ideal) b) (fun r k => sg (B r k))
      ∧ Is2 (n := 512) (m := 512) (k0_pay88 (F := Ideal) a b) (fun r k => A r k * sg (B r k)) := by
  have hs : Is2 (n := 512) (m := 512) (k0_pay87 (F := Ideal) b) (fun r k => sg (B r k)) := by
    intro r k
    pointwise [k0_pay87]
    simp only [hb.eq, lgs_coe]
  refine ⟨hs, fun r k => ?_⟩
  pointwise [k0_pay88, k0_pay86]
  simp only [ha.eq, hs.eq, ← EReal.coe_mul]

/-- The convolution's row statistics: the centred rows, the normalised rows and the reciprocal deviations, over the own rows and the rows that follow. -/
theorem znrm_v {q : Ideal .f32} (hq : q = ((512 : ℝ) : EReal)) {a : Vec Ideal S512x512 .bf16} {b : Vec Ideal S32x512 .bf16} {Z : ℕ → ℕ → ℝ} (ha : Is2 (n := 512) (m := 512) a Z)
    (hb : Is2 (n := 32) (m := 512) b (fun r k => Z (512 + r) k)) :
    Is2 (n := 544) (m := 512) (k0_pay92 (F := Ideal) (k0_pay89 a b) (k0_pay90 a b) q) (nrm Z)
      ∧ Is2 (n := 544) (m := 1) (k0_pay91 (F := Ideal) (k0_pay90 a b) q) (fun r _ => rs Z r) := by
  have hc : Is2 (n := 544) (m := 512) (k0_pay89 (F := Ideal) a b) (cen Z) := by
    intro r k
    by_cases hr : r.val < 512
    · pointwise [k0_pay89]
      simp only [hr, dite_true, ha.eq, Lift.sum_coe, lit_512, Lift.div_coe (by norm_num : (512 : ℝ) ≠ 0), ← EReal.coe_sub]
      rfl
    · have e : 512 + (r.val - 512) = r.val := by omega
      pointwise [k0_pay89]
      simp only [hr, dite_false, hb.eq, e, Lift.sum_coe, lit_512, Lift.div_coe (by norm_num : (512 : ℝ) ≠ 0), ← EReal.coe_sub]
      rfl
  have hr : Is2 (n := 544) (m := 1) (k0_pay91 (F := Ideal) (k0_pay90 a b) q) (fun r _ => rs Z r) := by
    intro r k
    pointwise [k0_pay91, k0_pay90]
    simp only [hc.eq, hq, ← EReal.coe_mul, ← EReal.coe_add, Lift.sum_coe, Lift.lit_eps, Lift.div_coe (by norm_num : (512 : ℝ) ≠ 0)]
    exact Lift.rsqrt_coe (vr_pos _ _)
  refine ⟨fun r k => ?_, hr⟩
  pointwise [k0_pay92]
  simp only [hc.eq, hr.eq, ← EReal.coe_mul]
  rfl

/-- The gradient of the normalised, scaled and shifted rows. -/
theorem dcn_v {q : Ideal .f32} (hq : q = ((512 : ℝ) : EReal)) {a : Vec Ideal S512x512 .bf16} {b : Vec Ideal S32x512 .bf16} {g s : Vec Ideal S1x512 .f32} {d : Vec Ideal S544x512 .bf16} {Z G B D : ℕ → ℕ → ℝ}
    (ha : Is2 (n := 512) (m := 512) a Z) (hb : Is2 (n := 32) (m := 512) b (fun r k => Z (512 + r) k)) (hg : Is2 (n := 1) (m := 512) g G)
    (hs : Is2 (n := 1) (m := 512) s B) (hd : Is2 (n := 544) (m := 512) d D) :
    Is2 (n := 544) (m := 512) (k0_pay93 (F := Ideal) (k0_pay89 a b) (k0_pay90 a b) q g s d)
      (fun r k => D r k * siluD (nrm Z r k * G 0 k + B 0 k)) := by
  have hn := (znrm_v hq ha hb).1
  intro r k
  pointwise [k0_pay93]
  simp only [hn.eq, hg.eq, hs.eq, hd.eq, ← EReal.coe_mul, ← EReal.coe_add, lgs_coe, ← EReal.coe_one, ← EReal.coe_sub]
  rfl

/-- The own rows. -/
theorem now_v {v : FVec Ideal S544x512 .f32} {f : ℕ → ℕ → ℝ} (h : Is2 (n := 544) (m := 512) v f) :
    Is2 (n := 512) (m := 512) (extractStridedSlice S512x512 ![0, 0] v slices_S544x512_o0_0_S512x512) f := by
  intro r k
  have e := h ⟨r.val, by omega⟩ k
  refine Eq.trans (congrArg v (funext fun a => Fin.ext ?_)) e
  match a with
  | ⟨0, _⟩ => exact Nat.zero_add _
  | ⟨1, _⟩ => exact Nat.zero_add _

/-- The sum of the own rows. -/
theorem sum_own {v : FVec Ideal S544x512 .f32} {f : ℕ → ℕ → ℝ} (h : Is2 (n := 544) (m := 512) v f) :
    Is2 (n := 1) (m := 512) (shapeCast S1x512 (multiReduction .add [0] S512 (extractStridedSlice S512x512 ![0, 0] v slices_S544x512_o0_0_S512x512) 0x00000000#32
      reduces_S512x512_S512 (.inl rfl) rfl) shapeCasts_S512_S1x512) (fun _ k => ∑ r ∈ Finset.range 512, f r k) := by
  have hw := now_v h
  generalize extractStridedSlice S512x512 ![0, 0] v slices_S544x512_o0_0_S512x512 = w at hw
  intro o k
  pointwise
  simp only [hw.eq, Lift.sum_coe]
  exact congrArg _ (Finset.sum_range fun r => f r k).symm

/-- The gain's gradient on one tile. -/
theorem dcg_v {q : Ideal .f32} (hq : q = ((512 : ℝ) : EReal)) {a : Vec Ideal S512x512 .bf16} {b : Vec Ideal S32x512 .bf16} {g s : Vec Ideal S1x512 .f32} {d : Vec Ideal S544x512 .bf16} {Z E : ℕ → ℕ → ℝ}
    (ha : Is2 (n := 512) (m := 512) a Z) (hb : Is2 (n := 32) (m := 512) b (fun r k => Z (512 + r) k))
    (hd : Is2 (n := 544) (m := 512) (k0_pay93 (F := Ideal) (k0_pay89 a b) (k0_pay90 a b) q g s d) E) :
    Is2 (n := 1) (m := 512) (k0_pay94 (F := Ideal) (k0_pay89 a b) (k0_pay90 a b) q g s d)
      (fun _ k => ∑ r ∈ Finset.range 512, E r k * nrm Z r k) := by
  have hn := (znrm_v hq ha hb).1
  intro o k
  unfold k0_pay94
  have e : Is2 (n := 544) (m := 512) (mulf (k0_pay93 (F := Ideal) (k0_pay89 a b) (k0_pay90 a b) q g s d) (k0_pay92 (k0_pay89 a b) (k0_pay90 a b) q))
      (fun r k => E r k * nrm Z r k) := by
    intro r k
    pointwise
    simp only [hn.eq, hd.eq, ← EReal.coe_mul]
  exact sum_own e o k

/-- The shift's gradient on one tile. -/
theorem dcb_v {a : FVec Ideal S544x512 .f32} {b : FVec Ideal S544x1 .f32} {c : Ideal .f32} {g s : Vec Ideal S1x512 .f32} {d : Vec Ideal S544x512 .bf16} {E : ℕ → ℕ → ℝ}
    (hd : Is2 (n := 544) (m := 512) (k0_pay93 (F := Ideal) a b c g s d) E) :
    Is2 (n := 1) (m := 512) (k0_pay96 (F := Ideal) a b c g s d) (fun _ k => ∑ r ∈ Finset.range 512, E r k) := by
  intro o k
  unfold k0_pay96
  exact sum_own hd o k

/-- The gradient of the convolution, through the gain and the normalisation. -/
theorem dcz_v {q : Ideal .f32} (hq : q = ((512 : ℝ) : EReal)) {a : Vec Ideal S512x512 .bf16} {b : Vec Ideal S32x512 .bf16} {g : Vec Ideal S1x512 .f32} {e : FVec Ideal S544x512 .f32} {Z E G : ℕ → ℕ → ℝ}
    (ha : Is2 (n := 512) (m := 512) a Z) (hb : Is2 (n := 32) (m := 512) b (fun r k => Z (512 + r) k)) (hg : Is2 (n := 1) (m := 512) g G)
    (he : Is2 (n := 544) (m := 512) e E) :
    Is2 (n := 544) (m := 512) (k0_pay98 (F := Ideal) (k0_pay91 (k0_pay90 a b) q)
      (k0_pay92 (k0_pay89 a b) (k0_pay90 a b) q) e g) (lnB Z (fun r k => E r k * G 0 k)) := by
  have hn := (znrm_v hq ha hb).1
  have hr := (znrm_v hq ha hb).2
  intro r k
  pointwise [k0_pay98]
  simp only [hn.eq, hr.eq, he.eq, hg.eq, ← EReal.coe_mul, ← EReal.coe_sub, Lift.sum_coe, lit_512, Lift.div_coe (by norm_num : (512 : ℝ) ≠ 0)]
  rfl

/-- A rotation towards earlier rows, and the own rows of it: row `r` holds the row `j` after it. -/
theorem later_v {v : FVec Ideal S544x512 .f32} {f : ℕ → ℕ → ℝ} (j : ℕ) (hj : j ≤ 32) (s : BitVec 32) (hs : s.toNat = 544 - j) (h : Is2 (n := 544) (m := 512) v f) :
    Is2 (n := 512) (m := 512) (extractStridedSlice S512x512 ![0, 0] (dynamicRotate 0 s none v rotates_S544x512_d0) slices_S544x512_o0_0_S512x512)
      (fun r k => f (r + j) k) := by
  intro r k
  have e := h ⟨r.val + j, by omega⟩ k
  pointwise
  refine Eq.trans (congrArg (fun x => v (ix2 x k)) (Fin.ext ?_)) e
  show (r.val + 544 - s.toNat % 544) % 544 = r.val + j
  omega

/-- One filter row's gradient on a tile, added to what the row held. -/
theorem tap_v {o : Vec Ideal S1x512 .f32} {d y : FVec Ideal S512x512 .f32} {O D Y : ℕ → ℕ → ℝ} (ho : Is2 (n := 1) (m := 512) o O)
    (hd : Is2 (n := 512) (m := 512) d D) (hy : Is2 (n := 512) (m := 512) y Y) :
    Is2 (n := 1) (m := 512) (k0_pay102 (F := Ideal) y d o) (fun i k => O i k + ∑ r ∈ Finset.range 512, D r k * Y r k) := by
  intro i k
  pointwise [k0_pay102]
  simp only [ho.eq, hd.eq, hy.eq, ← EReal.coe_mul, Lift.sum_coe, ← EReal.coe_add]
  rw [show i = 0 from Subsingleton.elim _ _]
  exact congrArg (fun z : ℝ => ((O 0 k + z : ℝ) : EReal)) (Finset.sum_range fun r => D r k * Y r k).symm

/-- One filter row times a product of a tile. -/
theorem wrow_v {w : Vec Ideal S1x512 .f32} {d : FVec Ideal S512x512 .f32} {W D : ℕ → ℕ → ℝ} (hw : Is2 (n := 1) (m := 512) w W)
    (hd : Is2 (n := 512) (m := 512) d D) :
    Is2 (n := 512) (m := 512) (mulf (broadcastTo S512x512 (shapeCast S1x512 w shapeCasts_S1x512_S1x512) broadcasts_S1x512_S512x512) d)
      (fun r k => W 0 k * D r k) := by
  intro r k
  pointwise
  simp only [hw.eq, hd.eq, ← EReal.coe_mul]
  rfl

end Cert.Mix

end
-- ==== Proof.MixConvTile.lean ====
/- The convolution mixer on one tile: what its loads hold, and the products made of them. -/
module

public import proofs.«01_k».proof.Proof.MixConv
public import proofs.«01_k».proof.Proof.MixConvPay
public import proofs.«01_k».proof.Proof.MixScratch

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- The row of the saved convolution that stands at row `e` of tile `t`: the tile's rows, then the first of the next tile, or the array's last ones where none is next. -/
def zrow (t e : ℕ) : ℕ := if e < 512 then 512 * t + e else 32 * min (16 * (t + 1)) 127 + (e - 512)

section
variable (m : (ℓ : Loc nD τ sig) → Buf (Elt Ideal) ℓ)

theorem idx_6 : ∀ t : Fin cfg0.N, win0_6.index t 0 = t.val ∧ win0_6.index t 1 = 0 :=
  (by decide +kernel : ∀ t : Fin grid0.N, win0_6.index t 0 = t.val ∧ win0_6.index t 1 = 0)
theorem idx_7 : ∀ t : Fin cfg0.N, win0_7.index t 0 = min (16 * (t.val + 1)) 127 ∧ win0_7.index t 1 = 0 :=
  (by decide +kernel : ∀ t : Fin grid0.N, win0_7.index t 0 = min (16 * (t.val + 1)) 127 ∧ win0_7.index t 1 = 0)
theorem idx_12 : ∀ t : Fin cfg0.N, win0_12.index t 0 = 0 ∧ win0_12.index t 1 = 0 :=
  (by decide +kernel : ∀ t : Fin grid0.N, win0_12.index t 0 = 0 ∧ win0_12.index t 1 = 0)
theorem idx_13 : ∀ t : Fin cfg0.N, win0_13.index t 0 = 0 ∧ win0_13.index t 1 = 0 :=
  (by decide +kernel : ∀ t : Fin grid0.N, win0_13.index t 0 = 0 ∧ win0_13.index t 1 = 0)

theorem V5 (c : Dev nD) : V m c main_v5 = shapeCast S1x512 (m ((c : Thread nD τ).loc main_arg5)) shapeCasts_S512_S1x512 := by
  show StableHlo.after _ _ (Proc.devRef .tc main_v5) = _
  after_reads_simp <;> rfl
theorem V6 (c : Dev nD) : V m c main_v6 = shapeCast S1x512 (m ((c : Thread nD τ).loc main_arg6)) shapeCasts_S512_S1x512 := by
  show StableHlo.after _ _ (Proc.devRef .tc main_v6) = _
  after_reads_simp <;> rfl

variable {X Y CW : ℕ → ℕ → ℝ} {c : Dev nD}

theorem blk_6 (hX : ∀ (r : Fin 4096) (k : Fin 8192), argP m c (ix3 0 r k) = ((X r k : ℝ) : EReal))
    (hC : Is2 (n := 31) (m := 512) (m ((c : Thread nD τ).loc main_arg4)) CW) (t : Fin cfg0.N) :
    Is2 (n := 512) (m := 512) (iblk m c 6 t) (fun e k => convZ X CW (zrow t e) k) := by
  intro a k
  have h : (iblk m c 6 t : Vec Ideal S512x512 .bf16) (ix2 a k) = V m c main_v243 (ix2 (row t a) k) := by
    unfold iblk
    rw [View.read_apply]
    show V m c main_v243 _ = _
    congr 1
    funext b
    apply Fin.ext
    match b with
    | ⟨0, _⟩ => show win0_6.index t 0 * 512 + 1 * a.val = 512 * t.val + a.val; rw [(idx_6 t).1]; omega
    | ⟨1, _⟩ => show win0_6.index t 1 * 512 + 1 * k.val = k.val; rw [(idx_6 t).2]; omega
  obtain ⟨v, hv, e⟩ := V243 m hX hC (row t a) k
  rw [h, hv, e]
  exact congrArg (fun x : ℕ => ((convZ X CW x k : ℝ) : EReal)) (if_pos a.isLt).symm

theorem blk_7 (hX : ∀ (r : Fin 4096) (k : Fin 8192), argP m c (ix3 0 r k) = ((X r k : ℝ) : EReal))
    (hC : Is2 (n := 31) (m := 512) (m ((c : Thread nD τ).loc main_arg4)) CW) (t : Fin cfg0.N) :
    Is2 (n := 32) (m := 512) (iblk m c 7 t) (fun e k => convZ X CW (zrow t (512 + e)) k) := by
  intro a k
  have h : (iblk m c 7 t : Vec Ideal S32x512 .bf16) (ix2 a k) = V m c main_v243 (ix2 ⟨32 * min (16 * (t.val + 1)) 127 + a.val, by omega⟩ k) := by
    unfold iblk
    rw [View.read_apply]
    show V m c main_v243 _ = _
    congr 1
    funext b
    apply Fin.ext
    match b with
    | ⟨0, _⟩ => show win0_7.index t 0 * 32 + 1 * a.val = 32 * min (16 * (t.val + 1)) 127 + a.val; rw [(idx_7 t).1]; omega
    | ⟨1, _⟩ => show win0_7.index t 1 * 512 + 1 * k.val = k.val; rw [(idx_7 t).2]; omega
  obtain ⟨v, hv, e⟩ := V243 m hX hC ⟨32 * min (16 * (t.val + 1)) 127 + a.val, by omega⟩ k
  rw [h, hv, e]
  refine congrArg (fun x : ℕ => ((convZ X CW x k : ℝ) : EReal)) ?_
  unfold zrow
  rw [if_neg (by omega), Nat.add_sub_cancel_left]

theorem blk_12 {G : ℕ → ℝ} (hG : ∀ k : Fin 512, (m ((c : Thread nD τ).loc main_arg5) : FVec Ideal S512 .f32) (ix1 k) = ((G k : ℝ) : EReal)) (t : Fin cfg0.N) :
    Is2 (n := 1) (m := 512) (iblk m c 12 t) (fun _ k => G k) := by
  intro a k
  have h : (iblk m c 12 t : Vec Ideal S1x512 .f32) (ix2 a k) = V m c main_v5 (ix2 a k) := by
    unfold iblk
    rw [View.read_apply]
    show V m c main_v5 _ = _
    congr 1
    funext b
    apply Fin.ext
    match b with
    | ⟨0, _⟩ => show win0_12.index t 0 * 1 + 1 * a.val = a.val; rw [(idx_12 t).1]; omega
    | ⟨1, _⟩ => show win0_12.index t 1 * 512 + 1 * k.val = k.val; rw [(idx_12 t).2]; omega
  rw [h, V5]
  pointwise
  exact hG k

theorem blk_13 {G : ℕ → ℝ} (hG : ∀ k : Fin 512, (m ((c : Thread nD τ).loc main_arg6) : FVec Ideal S512 .f32) (ix1 k) = ((G k : ℝ) : EReal)) (t : Fin cfg0.N) :
    Is2 (n := 1) (m := 512) (iblk m c 13 t) (fun _ k => G k) := by
  intro a k
  have h : (iblk m c 13 t : Vec Ideal S1x512 .f32) (ix2 a k) = V m c main_v6 (ix2 a k) := by
    unfold iblk
    rw [View.read_apply]
    show V m c main_v6 _ = _
    congr 1
    funext b
    apply Fin.ext
    match b with
    | ⟨0, _⟩ => show win0_13.index t 0 * 1 + 1 * a.val = a.val; rw [(idx_13 t).1]; omega
    | ⟨1, _⟩ => show win0_13.index t 1 * 512 + 1 * k.val = k.val; rw [(idx_13 t).2]; omega
  rw [h, V6]
  pointwise
  exact hG k

/-- The loads of one tile: the saved convolution's rows and the next ones, the gain, the shift, the gated input's two halves, the gradient's rows from the tile's first on. -/
def rdZ (c : Dev nD) (t : Fin cfg0.N) : Vec Ideal S512x512 .bf16 :=
  View.readAt (Elt Ideal) (ms0_6 t).view (Rect.unit (s := S512x512) ![0, 0] S512x512.size inb_S512x512_S512x512_0_0).toLoadRect ((hs0_6 t).unread (iblk m c 6 t))
def rdZn (c : Dev nD) (t : Fin cfg0.N) : Vec Ideal S32x512 .bf16 :=
  View.readAt (Elt Ideal) (ms0_7 t).view (Rect.unit (s := S32x512) ![0, 0] S32x512.size inb_S32x512_S32x512_0_0).toLoadRect ((hs0_7 t).unread (iblk m c 7 t))
def rdCg (c : Dev nD) (t : Fin cfg0.N) : Vec Ideal S1x512 .f32 :=
  View.readAt (Elt Ideal) (ms0_12 t).view (Rect.unit (s := S1x512) ![0, 0] S1x512.size inb_S1x512_S1x512_0_0).toLoadRect ((hs0_12 t).unread (iblk m c 12 t))
def rdCb (c : Dev nD) (t : Fin cfg0.N) : Vec Ideal S1x512 .f32 :=
  View.readAt (Elt Ideal) (ms0_13 t).view (Rect.unit (s := S1x512) ![0, 0] S1x512.size inb_S1x512_S1x512_0_0).toLoadRect ((hs0_13 t).unread (iblk m c 13 t))
def rdYa (c : Dev nD) (t : Fin cfg0.N) : Vec Ideal S512x512 .bf16 :=
  View.readAt (Elt Ideal) (ms0_1 t).view (Rect.unit (s := S512x4096) ![0, 2048] S512x512.size inb_S512x4096_S512x512_0_2048).toLoadRect ((hs0_1 t).unread (iblk m c 1 t))
def rdYb (c : Dev nD) (t : Fin cfg0.N) : Vec Ideal S512x512 .bf16 :=
  View.readAt (Elt Ideal) (ms0_1 t).view (Rect.unit (s := S512x4096) ![0, 2560] S512x512.size inb_S512x4096_S512x512_0_2560).toLoadRect ((hs0_1 t).unread (iblk m c 1 t))
def rdH (c : Dev nD) (t : Fin cfg0.N) : Vec Ideal S544x512 .bf16 :=
  scM0_1.view.readCov (Val := Elt Ideal) (scF m c t) (Rect.unit (s := S576x2048) ![32, 1024] S544x512.size (by decide +kernel)).toLoadRect

theorem rdZ_v (hX : ∀ (r : Fin 4096) (k : Fin 8192), argP m c (ix3 0 r k) = ((X r k : ℝ) : EReal))
    (hC : Is2 (n := 31) (m := 512) (m ((c : Thread nD τ).loc main_arg4)) CW) (t : Fin cfg0.N) :
    Is2 (n := 512) (m := 512) (rdZ m c t) (fun e k => convZ X CW (zrow t e) k) := by
  intro r k; unfold rdZ; rw [View.readAt_eq_ld, (hs0_6 t).read_unread, View.ld_unit_zero (S := S512x512) hz, (blk_6 m hX hC t).eq]
theorem rdZn_v (hX : ∀ (r : Fin 4096) (k : Fin 8192), argP m c (ix3 0 r k) = ((X r k : ℝ) : EReal))
    (hC : Is2 (n := 31) (m := 512) (m ((c : Thread nD τ).loc main_arg4)) CW) (t : Fin cfg0.N) :
    Is2 (n := 32) (m := 512) (rdZn m c t) (fun e k => convZ X CW (zrow t (512 + e)) k) := by
  intro r k; unfold rdZn; rw [View.readAt_eq_ld, (hs0_7 t).read_unread, View.ld_unit_zero (S := S32x512) hz, (blk_7 m hX hC t).eq]
theorem rdCg_v {G : ℕ → ℝ} (hG : ∀ k : Fin 512, (m ((c : Thread nD τ).loc main_arg5) : FVec Ideal S512 .f32) (ix1 k) = ((G k : ℝ) : EReal)) (t : Fin cfg0.N) :
    Is2 (n := 1) (m := 512) (rdCg m c t) (fun _ k => G k) := by
  intro r k; unfold rdCg; rw [View.readAt_eq_ld, (hs0_12 t).read_unread, View.ld_unit_zero (S := S1x512) hz, (blk_12 m hG t).eq]
theorem rdCb_v {G : ℕ → ℝ} (hG : ∀ k : Fin 512, (m ((c : Thread nD τ).loc main_arg6) : FVec Ideal S512 .f32) (ix1 k) = ((G k : ℝ) : EReal)) (t : Fin cfg0.N) :
    Is2 (n := 1) (m := 512) (rdCb m c t) (fun _ k => G k) := by
  intro r k; unfold rdCb; rw [View.readAt_eq_ld, (hs0_13 t).read_unread, View.ld_unit_zero (S := S1x512) hz, (blk_13 m hG t).eq]
theorem rdYa_v (hX : ∀ (r : Fin 4096) (k : Fin 8192), argP m c (ix3 0 r k) = ((X r k : ℝ) : EReal)) (t : Fin cfg0.N) :
    Is2 (n := 512) (m := 512) (rdYa m c t) (fun r k => X (512 * t + r) (2048 + k)) := by
  intro r k; unfold rdYa; rw [View.readAt_eq_ld, (hs0_1 t).read_unread, View.ld_unit]; pointwise; rw [(blk_1 m hX t).eq]
theorem rdYb_v (hX : ∀ (r : Fin 4096) (k : Fin 8192), argP m c (ix3 0 r k) = ((X r k : ℝ) : EReal)) (t : Fin cfg0.N) :
    Is2 (n := 512) (m := 512) (rdYb m c t) (fun r k => X (512 * t + r) (2560 + k)) := by
  intro r k; unfold rdYb; rw [View.readAt_eq_ld, (hs0_1 t).read_unread, View.ld_unit]; pointwise; rw [(blk_1 m hX t).eq]
theorem rdH_v (hY : ∀ (r : Fin 4096) (b : Fin 4) (k : Fin 512), argY m c (ix4 0 r b k) = ((Y r (512 * b + k) : ℝ) : EReal)) (t : Fin cfg0.N) :
    Is2 (n := 544) (m := 512) (rdH m c t) (fun e k => padR Y (512 * t + (32 + e)) (1024 + k)) := by
  intro r k
  unfold rdH
  rw [View.readCov_eq_canon']
  refine Eq.trans (congrArg (View.canon (scF m c t)) (funext fun x => Fin.ext ?_))
    (scF_v m hY t ⟨32 + r, by omega⟩ ⟨1024 + k, by omega⟩ (by show 32 ≤ 32 + r.val; omega) (by show 32 + r.val < 576; omega))
  match x with
  | ⟨0, _⟩ => show 32 + 1 * r.val = 32 + r.val; omega
  | ⟨1, _⟩ => show 1024 + 1 * k.val = 1024 + k.val; omega

/-- The tile's products. -/
def tE (c : Dev nD) (t : Fin cfg0.N) : FVec Ideal S544x512 .f32 :=
  k0_pay93 (k0_pay89 (rdZ m c t) (rdZn m c t)) (k0_pay90 (rdZ m c t) (rdZn m c t)) (Scalar.ofBits .f32 0x44000000#32) (rdCg m c t) (rdCb m c t) (rdH m c t)
def tDcg (c : Dev nD) (t : Fin cfg0.N) : FVec Ideal S1x512 .f32 :=
  k0_pay94 (k0_pay89 (rdZ m c t) (rdZn m c t)) (k0_pay90 (rdZ m c t) (rdZn m c t)) (Scalar.ofBits .f32 0x44000000#32) (rdCg m c t) (rdCb m c t) (rdH m c t)
def tDcb (c : Dev nD) (t : Fin cfg0.N) : FVec Ideal S1x512 .f32 :=
  k0_pay96 (k0_pay89 (rdZ m c t) (rdZn m c t)) (k0_pay90 (rdZ m c t) (rdZn m c t)) (Scalar.ofBits .f32 0x44000000#32) (rdCg m c t) (rdCb m c t) (rdH m c t)
def tDz2 (c : Dev nD) (t : Fin cfg0.N) : FVec Ideal S544x512 .f32 :=
  k0_pay98 (k0_pay91 (k0_pay90 (rdZ m c t) (rdZn m c t)) (Scalar.ofBits .f32 0x44000000#32))
    (k0_pay92 (k0_pay89 (rdZ m c t) (rdZn m c t)) (k0_pay90 (rdZ m c t) (rdZn m c t)) (Scalar.ofBits .f32 0x44000000#32)) (tE m c t) (rdCg m c t)

end

/-- A statistic of a row depends on that row alone. -/
theorem nrm_at {f g : ℕ → ℕ → ℝ} {i j : ℕ} (h : ∀ k, f i k = g j k) (k : ℕ) : nrm f i k = nrm g j k := by
  simp only [nrm, cen, rs, vr, mu, h]
theorem lnB_at {f g d e : ℕ → ℕ → ℝ} {i j : ℕ} (h : ∀ k, f i k = g j k) (hd : ∀ k, d i k = e j k) (k : ℕ) : lnB f d i k = lnB g e j k := by
  simp only [lnB, nrm, cen, rs, vr, mu, h, hd]
theorem lnB_zero {f d : ℕ → ℕ → ℝ} {i : ℕ} (hd : ∀ k, d i k = 0) (k : ℕ) : lnB f d i k = 0 := by
  simp only [lnB, mu, hd, zero_mul, Finset.sum_const_zero, zero_div, mul_zero, sub_zero]

/-- The gradient at the affine normalised convolution, with rows of zeros after the last. -/
def dnE (X CW Y : ℕ → ℕ → ℝ) (G B : ℕ → ℝ) (n k : ℕ) : ℝ := if n < 4096 then dnZ X CW Y G B n k else 0
/-- The gradient at the convolution, likewise. -/
def dzE (X CW Y : ℕ → ℕ → ℝ) (G B : ℕ → ℝ) (n k : ℕ) : ℝ :=
  if n < 4096 then lnB (convZ X CW) (fun r k => dnZ X CW Y G B r k * G k) n k else 0

theorem zrow_own {t e : ℕ} (he : e < 544) (h : 512 * t + e < 4096) : zrow t e = 512 * t + e := by
  unfold zrow
  split
  · rfl
  · omega

theorem dnE_tile (X CW Y : ℕ → ℕ → ℝ) (G B : ℕ → ℝ) {t e : ℕ} (he : e < 544) (k : ℕ) :
    padR Y (512 * t + (32 + e)) (1024 + k) * siluD (nrm (fun e k => convZ X CW (zrow t e) k) e k * G k + B k) = dnE X CW Y G B (512 * t + e) k := by
  unfold dnE padR
  by_cases h : 512 * t + e < 4096
  · rw [if_pos h, if_pos (by omega)]
    unfold dnZ nnZ
    rw [nrm_at (g := convZ X CW) (j := 512 * t + e) (fun k => by show convZ X CW (zrow t e) k = _; rw [zrow_own he h]) k,
      show 512 * t + (32 + e) - 32 = 512 * t + e by omega]
  · rw [if_neg h, if_neg (by omega), zero_mul]

theorem dzE_tile (X CW Y : ℕ → ℕ → ℝ) (G B : ℕ → ℝ) {t e : ℕ} (he : e < 544) (k : ℕ) :
    lnB (fun e k => convZ X CW (zrow t e) k) (fun e k => dnE X CW Y G B (512 * t + e) k * G k) e k = dzE X CW Y G B (512 * t + e) k := by
  unfold dzE
  by_cases h : 512 * t + e < 4096
  · rw [if_pos h]
    exact lnB_at (fun k => by show convZ X CW (zrow t e) k = _; rw [zrow_own he h])
      (fun k => by show dnE X CW Y G B (512 * t + e) k * G k = _; unfold dnE; rw [if_pos h]) k
  · rw [if_neg h]
    exact lnB_zero (fun k => by show dnE X CW Y G B (512 * t + e) k * G k = _; unfold dnE; rw [if_neg h, zero_mul]) k

section
variable {m : (ℓ : Loc nD τ sig) → Buf (Elt Ideal) ℓ} {X Y CW : ℕ → ℕ → ℝ} {G B : ℕ → ℝ} {c : Dev nD}

theorem tE_v (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) (t : Fin cfg0.N) :
    Is2 (n := 544) (m := 512) (tE m c t) (fun e k => dnE X CW Y G B (512 * t + e) k) :=
  (dcn_v lit_512 (rdZ_v m hX hC t) (rdZn_v m hX hC t) (rdCg_v m hG t) (rdCb_v m hB t) (rdH_v m hY t)).congr
    fun r k => dnE_tile X CW Y G B r.isLt k

/-- The tile's share of the gain's and of the shift's gradient. -/
theorem tDcg_v (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) (t : Fin cfg0.N) :
    Is2 (n := 1) (m := 512) (tDcg m c t) (fun _ k => ∑ r : Fin 512, dnZ X CW Y G B (512 * t + r) k * nrm (convZ X CW) (512 * t + r) k)
      ∧ Is2 (n := 1) (m := 512) (tDcb m c t) (fun _ k => ∑ r : Fin 512, dnZ X CW Y G B (512 * t + r) k) := by
  have hE := tE_v hX hY hC hG hB t
  have hN : t.val < 8 := lt_of_lt_of_eq t.isLt N_0
  have hd : ∀ (r : Fin 512) (k : ℕ), dnE X CW Y G B (512 * t + r) k = dnZ X CW Y G B (512 * t + r) k := fun r k => if_pos (by omega)
  refine ⟨(dcg_v lit_512 (rdZ_v m hX hC t) (rdZn_v m hX hC t) hE).congr fun _ k => ?_, (dcb_v hE).congr fun _ k => ?_⟩
  · rw [Finset.sum_range]
    refine Finset.sum_congr rfl fun r _ => congrArg₂ (· * ·) (hd r k) (nrm_at (fun k => ?_) k)
    show convZ X CW (zrow t r) k = _
    rw [zrow_own (by omega) (by omega)]
  · rw [Finset.sum_range]
    exact Finset.sum_congr rfl fun r _ => hd r k

/-- The tile's gradient at the convolution, with the rows that follow. -/
theorem tDz2_v (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) (t : Fin cfg0.N) :
    Is2 (n := 544) (m := 512) (tDz2 m c t) (fun e k => dzE X CW Y G B (512 * t + e) k) :=
  (dcz_v lit_512 (rdZ_v m hX hC t) (rdZn_v m hX hC t) (rdCg_v m hG t) (tE_v hX hY hC hG hB t)).congr
    fun r k => dzE_tile X CW Y G B r.isLt k
end

end Cert.MixIdeal.Hand

end
-- ==== Proof.MixConvFinal.lean ====
/- The gain's and the shift's gradient of the convolution mixer: each tile's window, and the whole arrays after the last tile. -/
module

public import proofs.«01_k».proof.Proof.MixConvTile
public import proofs.«01_k».proof.Proof.MixSguFinal

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- A tile's row of sums, added to the row before it. -/
theorem add_to {v x : Vec Ideal S1x512 .f32} {f g : ℕ → ℝ} (hv : Is2 (n := 1) (m := 512) v fun _ => f) (hx : Is2 (n := 1) (m := 512) x fun _ => g) :
    Is2 (n := 1) (m := 512) (addf (F := Ideal) (φ := .f32) (shapeCast S1x512 v shapeCasts_S1x512_S1x512) x) (fun _ k => f k + g k) := by
  intro r k
  pointwise
  rw [hv.eq, hx.eq, ← EReal.coe_add]

variable {m : (ℓ : Loc nD τ sig) → Buf (Elt Ideal) ℓ} {c : Dev nD} {t : Fin cfg0.N} {X Y CW A2 : ℕ → ℕ → ℝ} {G B A : ℕ → ℝ}

/-- What the tile before left in window 23, as a tile loads it. -/
def rd23 (t : Fin cfg0.N) (x : Vec Ideal S1x512 .f32) : Vec Ideal S1x512 .f32 :=
  View.readAt (Elt Ideal) (ms0_23 t).view (Rect.unit ![0, 0] S1x512.size inb_S1x512_S1x512_0_0).toLoadRect ((hs0_23 t).unread x)
theorem rd23_v {x : Vec Ideal S1x512 .f32} (h : Is2 (n := 1) (m := 512) x A2) : Is2 (n := 1) (m := 512) (rd23 t x) A2 := by
  intro r k; unfold rd23; rw [View.readAt_eq_ld, (hs0_23 t).read_unread, View.ld_unit_zero (S := S1x512) hz, h.eq]

/-- The gain's gradient after the first tile. -/
theorem w23_A (ha : t.val % 8 = 0) (hb : ¬1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    Is2 (n := 1) (m := 512) (outsAt0 m c t.val t.isLt).2.2.2.2.2.1 (fun _ k => ∑ r : Fin 512, dnZ X CW Y G B (512 * t + r) k * nrm (convZ X CW) (512 * t + r) k) := by
  rw [outsAt0_A m c t ha ha hb ha hb ha hb ha hb ha hb ha hb ha hb ha hb ha hb ha hb ha hb ha hb ha hb ha hb ha hb ha hb ha hb ha hb ha hb ha hb]
  dsimp only
  unfold out0_A_23
  rw [View.read_writes_eq_canon]
  swap; · exact fun _ => cover0_A_23 ..
  unfold kernelRun0_A
  dsimp only
  rw [View.canon_unit_zero hz]
  refine ((tDcg_v hX hY hC hG hB t).1).of_eq ?_
  sl_unfold_words
  rfl

/-- The gain's gradient after a later tile. -/
theorem w23_B (ha : ¬t.val % 8 = 0) (hb : 1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal))
    (hA : Is2 (n := 1) (m := 512) ((outsAt0 m c (t.val - 1) (Nat.lt_of_le_of_lt (Nat.sub_le _ _) t.isLt)).2.2.2.2.2.1) fun _ => A) :
    Is2 (n := 1) (m := 512) (outsAt0 m c t.val t.isLt).2.2.2.2.2.1 (fun _ k => A k + ∑ r : Fin 512, dnZ X CW Y G B (512 * t + r) k * nrm (convZ X CW) (512 * t + r) k) := by
  rw [outsAt0_B m c t ha ha hb ha hb ha hb ha hb ha hb ha hb ha hb ha hb ha hb ha hb ha hb ha hb ha hb ha hb ha hb ha hb ha hb ha hb ha hb ha hb]
  dsimp only
  unfold out0_B_23
  rw [View.read_writes_eq_canon]
  swap; · exact fun _ => cover0_B_23 ..
  unfold kernelRun0_B
  dsimp only
  rw [View.canon_unit_zero hz]
  refine (add_to (rd23_v (t := t) hA) (tDcg_v hX hY hC hG hB t).1).of_eq ?_
  sl_unfold_words
  rfl

theorem idx_23 : ∀ t : Fin cfg0.N, win0_23.index t 0 = 0 ∧ win0_23.index t 1 = 0 :=
  (by decide +kernel : ∀ t : Fin grid0.N, win0_23.index t 0 = 0 ∧ win0_23.index t 1 = 0)
theorem final23 (i : Fin 1) (k : Fin 512) :
    ((dats m 0 c).arrAt 23 cfg0.N : Vec Ideal S1x512 .f32) (ix2 i k) = (outsAt0 m c 7 tLast.isLt).2.2.2.2.2.1 (ix2 i k) := by
  have hb := congrFun ((last_block m c 23 flush0_23).trans (Value.flushed23 m c tLast)) (ix2 i k)
  rw [View.read_apply] at hb
  refine Eq.trans ?_ (hb.trans rfl)
  show (dats m 0 c).arrAt 23 cfg0.N _ = (dats m 0 c).arrAt 23 cfg0.N _
  congr 1
  funext b
  apply Fin.ext
  match b with
  | ⟨0, _⟩ => show i.val = win0_23.index tLast 0 * 1 + 1 * i.val; rw [(idx_23 _).1]; omega
  | ⟨1, _⟩ => show k.val = win0_23.index tLast 1 * 512 + 1 * k.val; rw [(idx_23 _).2]; omega

/-- The gain's gradient: every row's contribution. -/
theorem kernel_dclg (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    Is2 (n := 1) (m := 512) ((dats m 0 c).arrAt 23 cfg0.N) (fun _ k => ∑ r ∈ Finset.range 4096, dnZ X CW Y G B r k * nrm (convZ X CW) r k) := by
  have ht := total2 (a := 1) (b := 512) (fun n h => (outsAt0 m c n h).2.2.2.2.2.1)
    (fun t _ k => ∑ r : Fin 512, dnZ X CW Y G B (512 * t + r) k * nrm (convZ X CW) (512 * t + r) k)
    (fun t hb => w23_A (m := m) (t := t) (mod_of_not hb) hb hX hY hC hG hB)
    (fun t A hb hA => (w23_B (m := m) (t := t) (A := A 0) (not_mod_of hb) hb hX hY hC hG hB (hA.congr fun r k => by rw [show r = 0 from Subsingleton.elim _ _]; rfl)).congr
      fun r k => by rw [show r = 0 from Subsingleton.elim _ _]; rfl)
    7 tLast.isLt
  intro i k
  rw [final23]
  refine (ht i k).trans ?_
  rw [EReal.coe_eq_coe_iff]
  exact sum_rows (fun r => dnZ X CW Y G B r k * nrm (convZ X CW) r k)

/-- What the tile before left in window 24, as a tile loads it. -/
def rd24 (t : Fin cfg0.N) (x : Vec Ideal S1x512 .f32) : Vec Ideal S1x512 .f32 :=
  View.readAt (Elt Ideal) (ms0_24 t).view (Rect.unit ![0, 0] S1x512.size inb_S1x512_S1x512_0_0).toLoadRect ((hs0_24 t).unread x)
theorem rd24_v {x : Vec Ideal S1x512 .f32} (h : Is2 (n := 1) (m := 512) x A2) : Is2 (n := 1) (m := 512) (rd24 t x) A2 := by
  intro r k; unfold rd24; rw [View.readAt_eq_ld, (hs0_24 t).read_unread, View.ld_unit_zero (S := S1x512) hz, h.eq]

/-- The shift's gradient after the first tile. -/
theorem w24_A (ha : t.val % 8 = 0) (hb : ¬1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    Is2 (n := 1) (m := 512) (outsAt0 m c t.val t.isLt).2.2.2.2.2.2.1 (fun _ k => ∑ r : Fin 512, dnZ X CW Y G B (512 * t + r) k) := by
  rw [outsAt0_A m c t ha ha hb ha hb ha hb ha hb ha hb ha hb ha hb ha hb ha hb ha hb ha hb ha hb ha hb ha hb ha hb ha hb ha hb ha hb ha hb ha hb]
  dsimp only
  unfold out0_A_24
  rw [View.read_writes_eq_canon]
  swap; · exact fun _ => cover0_A_24 ..
  unfold kernelRun0_A
  dsimp only
  rw [View.canon_unit_zero hz]
  refine ((tDcg_v hX hY hC hG hB t).2).of_eq ?_
  sl_unfold_words
  rfl

/-- The shift's gradient after a later tile. -/
theorem w24_B (ha : ¬t.val % 8 = 0) (hb : 1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal))
    (hA : Is2 (n := 1) (m := 512) ((outsAt0 m c (t.val - 1) (Nat.lt_of_le_of_lt (Nat.sub_le _ _) t.isLt)).2.2.2.2.2.2.1) fun _ => A) :
    Is2 (n := 1) (m := 512) (outsAt0 m c t.val t.isLt).2.2.2.2.2.2.1 (fun _ k => A k + ∑ r : Fin 512, dnZ X CW Y G B (512 * t + r) k) := by
  rw [outsAt0_B m c t ha ha hb ha hb ha hb ha hb ha hb ha hb ha hb ha hb ha hb ha hb ha hb ha hb ha hb ha hb ha hb ha hb ha hb ha hb ha hb ha hb]
  dsimp only
  unfold out0_B_24
  rw [View.read_writes_eq_canon]
  swap; · exact fun _ => cover0_B_24 ..
  unfold kernelRun0_B
  dsimp only
  rw [View.canon_unit_zero hz]
  refine (add_to (rd24_v (t := t) hA) (tDcg_v hX hY hC hG hB t).2).of_eq ?_
  sl_unfold_words
  rfl

theorem idx_24 : ∀ t : Fin cfg0.N, win0_24.index t 0 = 0 ∧ win0_24.index t 1 = 0 :=
  (by decide +kernel : ∀ t : Fin grid0.N, win0_24.index t 0 = 0 ∧ win0_24.index t 1 = 0)
theorem final24 (i : Fin 1) (k : Fin 512) :
    ((dats m 0 c).arrAt 24 cfg0.N : Vec Ideal S1x512 .f32) (ix2 i k) = (outsAt0 m c 7 tLast.isLt).2.2.2.2.2.2.1 (ix2 i k) := by
  have hb := congrFun ((last_block m c 24 flush0_24).trans (Value.flushed24 m c tLast)) (ix2 i k)
  rw [View.read_apply] at hb
  refine Eq.trans ?_ (hb.trans rfl)
  show (dats m 0 c).arrAt 24 cfg0.N _ = (dats m 0 c).arrAt 24 cfg0.N _
  congr 1
  funext b
  apply Fin.ext
  match b with
  | ⟨0, _⟩ => show i.val = win0_24.index tLast 0 * 1 + 1 * i.val; rw [(idx_24 _).1]; omega
  | ⟨1, _⟩ => show k.val = win0_24.index tLast 1 * 512 + 1 * k.val; rw [(idx_24 _).2]; omega

/-- The shift's gradient: every row's contribution. -/
theorem kernel_dclb (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    Is2 (n := 1) (m := 512) ((dats m 0 c).arrAt 24 cfg0.N) (fun _ k => ∑ r ∈ Finset.range 4096, dnZ X CW Y G B r k) := by
  have ht := total2 (a := 1) (b := 512) (fun n h => (outsAt0 m c n h).2.2.2.2.2.2.1)
    (fun t _ k => ∑ r : Fin 512, dnZ X CW Y G B (512 * t + r) k)
    (fun t hb => w24_A (m := m) (t := t) (mod_of_not hb) hb hX hY hC hG hB)
    (fun t A hb hA => (w24_B (m := m) (t := t) (A := A 0) (not_mod_of hb) hb hX hY hC hG hB (hA.congr fun r k => by rw [show r = 0 from Subsingleton.elim _ _]; rfl)).congr
      fun r k => by rw [show r = 0 from Subsingleton.elim _ _]; rfl)
    7 tLast.isLt
  intro i k
  rw [final24]
  refine (ht i k).trans ?_
  rw [EReal.coe_eq_coe_iff]
  exact sum_rows (fun r => dnZ X CW Y G B r k)

end Cert.MixIdeal.Hand

end
-- ==== Proof.MixRows.lean ====
/- Sums that are kept row by row: an array of rows of 512 numbers, each row read, added to and written back in turn, the last row first. -/
module

public import proofs.«01_k».proof.Proof.MixScratch
public import Idealize.ShloMosaic.Lib.WritesUnit

@[expose] public section

noncomputable section

namespace Cert.MixIdeal.Hand

open Cert.MixIdeal Cert.MixIdeal.Gen Cert.Mix Idealize.ShloMosaic Idealize.ShloMosaic.TcCoe Idealize.SL.Sem

/-- The rows `i, …, N - 1` of `A` with `D` added, the others as they were. -/
def upd (N i : ℕ) (A D : ℕ → ℕ → ℝ) (r k : ℕ) : ℝ := if i ≤ r ∧ r < N then A r k + D r k else A r k

theorem upd_done {N : ℕ} {A D : ℕ → ℕ → ℝ} (hD : ∀ r k, N ≤ r → D r k = 0) (r k : ℕ) : upd N 0 A D r k = A r k + D r k := by
  unfold upd
  split
  · rfl
  · rw [hD r k (by omega), add_zero]

theorem upd_none {N : ℕ} {A D : ℕ → ℕ → ℝ} (r k : ℕ) : upd N N A D r k = A r k := if_neg (by omega)

theorem upd_at {N i : ℕ} {A D : ℕ → ℕ → ℝ} (k : ℕ) : upd N (i + 1) A D i k = A i k := if_neg (by omega)

theorem upd_step {N i : ℕ} (hi : i < N) {A D : ℕ → ℕ → ℝ} (r k : ℕ) : (if r = i then A i k + D i k else upd N (i + 1) A D r k) = upd N i A D r k := by
  unfold upd
  by_cases h : r = i
  · subst h
    rw [if_pos rfl, if_pos ⟨le_refl _, hi⟩]
  · rw [if_neg h]
    by_cases h2 : i ≤ r ∧ r < N
    · rw [if_pos h2, if_pos ⟨by omega, h2.2⟩]
    · rw [if_neg h2, if_neg (by omega)]

variable {n : ℕ} {κ : Kind} {sp : Space} {v : View sig κ sp (⟨2, ![n, 512]⟩ : Shape) .f32} {f : v.ty.Contents (Elt Ideal)}
  {L : List (View.Piece (Elt Ideal) (⟨2, ![n, 512]⟩ : Shape) .f32)} {A D : ℕ → ℕ → ℝ} {N i : ℕ}
  {inb : ∀ a, (![i, 0] : Fin 2 → ℕ) a + S1x512.size a ≤ (⟨2, ![n, 512]⟩ : Shape).size a}

/-- One more row written, over rows that held other values before. -/
theorem rows_over {w : S1x512.Idx → EReal} (hi : i < N) (h : Is2 (n := n) (m := 512) (v.read (Elt Ideal) (v.writes (Elt Ideal) f L)) (upd N (i + 1) A D))
    (hw : Is2 (n := 1) (m := 512) w fun _ k => A i k + D i k) :
    Is2 (n := n) (m := 512) (v.read (Elt Ideal) (v.writes (Elt Ideal) f
      ((⟨Rect.unit (s := ⟨2, ![n, 512]⟩) ![i, 0] S1x512.size inb, w⟩ : View.Piece (Elt Ideal) (⟨2, ![n, 512]⟩ : Shape) .f32) :: L))) (upd N i A D) := by
  intro r k
  rw [← upd_step hi r k]
  by_cases hr : r.val = i
  · rw [if_pos hr]
    exact (View.read_writes_cons_rows_of_mem (Val := Elt Ideal) (v := v) (f := f) inb w L (ix2 r k) (ix2 (0 : Fin 1) k) rfl hr rfl).trans (hw 0 k)
  · rw [if_neg hr]
    exact (View.read_writes_cons_rows_of_not_mem (Val := Elt Ideal) (v := v) (f := f) inb w L (ix2 r k) rfl (W := 1) rfl (by show r.val < i ∨ i + 1 ≤ r.val; omega)).trans (h r k)

/-- One more row written, over rows that were written before. -/
theorem rows_new {w : S1x512.Idx → EReal} (hi : i < N) (h : Is2 (n := n) (m := 512) (View.canon (Val := Elt Ideal) L) (upd N (i + 1) A D))
    (hw : Is2 (n := 1) (m := 512) w fun _ k => A i k + D i k) :
    Is2 (n := n) (m := 512) (View.canon (Val := Elt Ideal)
      ((⟨Rect.unit (s := ⟨2, ![n, 512]⟩) ![i, 0] S1x512.size inb, w⟩ : View.Piece (Elt Ideal) (⟨2, ![n, 512]⟩ : Shape) .f32) :: L)) (upd N i A D) := by
  intro r k
  rw [← upd_step hi r k]
  by_cases hr : r.val = i
  · rw [if_pos hr]
    have e : (ix2 r k : (⟨2, ![n, 512]⟩ : Shape).Idx) = (Rect.unit (s := ⟨2, ![n, 512]⟩) ![i, 0] S1x512.size inb).emb (ix2 (0 : Fin 1) k) := by
      funext x
      apply Fin.ext
      match x with
      | ⟨0, _⟩ => show r.val = i + 1 * 0; omega
      | ⟨1, _⟩ => show k.val = 0 + 1 * k.val; omega
    rw [e]
    exact (View.canon_cons_emb (Val := Elt Ideal) (e := .f32) (Rect.unit (s := ⟨2, ![n, 512]⟩) ![i, 0] S1x512.size inb) w L _).trans (hw 0 k)
  · rw [if_neg hr]
    refine Eq.trans (View.canon_cons_of_not_mem _ L ?_) (h r k)
    intro hx
    have e : i ≤ r.val ∧ r.val < i + 1 := (Rect.mem_set_unit (inb := inb)).mp hx 0
    omega

/-- Rows that start at zero. -/
theorem rows_zero {inz : ∀ a, (![0, 0] : Fin 2 → ℕ) a + (⟨2, ![n, 512]⟩ : Shape).size a ≤ (⟨2, ![n, 512]⟩ : Shape).size a}
    {z : (⟨2, ![n, 512]⟩ : Shape).Idx → EReal} (h : ∀ x, z x = ((0 : ℝ) : EReal)) :
    Is2 (n := n) (m := 512) (View.canon (Val := Elt Ideal)
      [(⟨Rect.unit (s := ⟨2, ![n, 512]⟩) ![0, 0] (⟨2, ![n, 512]⟩ : Shape).size inz, z⟩ : View.Piece (Elt Ideal) (⟨2, ![n, 512]⟩ : Shape) .f32)]) (upd N N (fun _ _ => 0) D) := by
  intro r k
  rw [View.canon_unit_zero (funext fun a => by fin_cases a <;> rfl : (![0, 0] : Fin 2 → ℕ) = fun _ => 0), upd_none]
  exact h _

/-- The row about to be written, read: from an array not yet written, from one being written. -/
theorem old_over {f : v.ty.Contents (Elt Ideal)} (h : Is2 (n := n) (m := 512) (v.read (Elt Ideal) f) A) :
    Is2 (n := 1) (m := 512) (View.readAt (Elt Ideal) v (Rect.unit (s := ⟨2, ![n, 512]⟩) ![i, 0] S1x512.size inb).toLoadRect f) (fun _ => A i) := by
  intro r k
  have hi : i < n := by have := inb 0; simp at this; omega
  rw [View.readAt_eq_ld]
  refine Eq.trans (congrArg (v.read (Elt Ideal) f) (funext fun x => Fin.ext ?_)) (h ⟨i, hi⟩ k)
  match x with
  | ⟨0, _⟩ => show i + 1 * r.val = i; omega
  | ⟨1, _⟩ => show 0 + 1 * k.val = k.val; omega

theorem old_new (h : Is2 (n := n) (m := 512) (View.canon (Val := Elt Ideal) L) (upd N (i + 1) A D)) :
    Is2 (n := 1) (m := 512) (v.readCov (Val := Elt Ideal) L (Rect.unit (s := ⟨2, ![n, 512]⟩) ![i, 0] S1x512.size inb).toLoadRect) (fun _ => A i) := by
  intro r k
  have hi : i < n := by have := inb 0; simp at this; omega
  rw [View.readCov_eq_canon']
  refine Eq.trans (congrArg (View.canon (Val := Elt Ideal) L) (funext fun x => Fin.ext ?_)) ((h ⟨i, hi⟩ k).trans (congrArg _ (upd_at _)))
  match x with
  | ⟨0, _⟩ => show i + 1 * r.val = i; omega
  | ⟨1, _⟩ => show 0 + 1 * k.val = k.val; omega

/-- A row of sums of products, added to what the row held. -/
theorem tap_row {o : Vec Ideal S1x512 .f32} {d y : FVec Ideal S512x512 .f32} {O : ℕ → ℝ} {E Y : ℕ → ℕ → ℝ} (ho : Is2 (n := 1) (m := 512) o fun _ => O)
    (hd : Is2 (n := 512) (m := 512) d E) (hy : Is2 (n := 512) (m := 512) y Y) :
    Is2 (n := 1) (m := 512) (addf (F := Ideal) (φ := .f32) (shapeCast S1x512 o shapeCasts_S1x512_S1x512)
      (shapeCast S1x512 (multiReduction .add [0] S512 (mulf d y) 0x00000000#32 reduces_S512x512_S512 (.inl rfl) rfl) shapeCasts_S512_S1x512))
      (fun _ k => O k + ∑ r ∈ Finset.range 512, E r k * Y r k) := by
  intro i k
  pointwise
  simp only [ho.eq, hd.eq, hy.eq, ← EReal.coe_mul, Lift.sum_coe, ← EReal.coe_add]
  exact congrArg (fun z : ℝ => ((O k + z : ℝ) : EReal)) (Finset.sum_range fun r => E r k * Y r k).symm

end Cert.MixIdeal.Hand

end
-- ==== Proof.MixTaps.lean ====
/- The long convolution's filter gradient: thirty-one rows, each with the products of one tile's rows and the rows after them. -/
module

public import proofs.«01_k».proof.Proof.MixRows
public import proofs.«01_k».proof.Proof.MixConvFinal

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- What one tile adds to row `i` of the filter's gradient. -/
def dcwT (X CW Y : ℕ → ℕ → ℝ) (G B : ℕ → ℝ) (t i k : ℕ) : ℝ :=
  if i < 31 then ∑ r ∈ Finset.range 512, dzE X CW Y G B (512 * t + (r + (30 - i))) k * gte X (512 * t + r) k else 0

section
variable (m : (ℓ : Loc nD τ sig) → Buf (Elt Ideal) ℓ)

/-- The rows of the convolution's gradient `j` after a tile's own rows. -/
def dzAt (c : Dev nD) (t : Fin cfg0.N) : ℕ → FVec Ideal S512x512 .f32
  | 0 => extractStridedSlice S512x512 ![0, 0] (tDz2 m c t) slices_S544x512_o0_0_S512x512
  | j + 1 => extractStridedSlice S512x512 ![0, 0] (dynamicRotate 0 (BitVec.ofNat 32 (543 - j)) none (tDz2 m c t) rotates_S544x512_d0) slices_S544x512_o0_0_S512x512

theorem in_row (j : ℕ) : ∀ a, (![30 - j, 0] : Fin 2 → ℕ) a + S1x512.size a ≤ S32x512.size a := by
  intro a
  match a with
  | ⟨0, _⟩ => show 30 - j + 1 ≤ 32; omega
  | ⟨1, _⟩ => show 0 + 512 ≤ 512; omega

/-- Row `30 - j` of the gradient: what was there, and the tile's share. -/
def tapW (c : Dev nD) (t : Fin cfg0.N) (o : Vec Ideal S1x512 .f32) (j : ℕ) : FVec Ideal S1x512 .f32 :=
  addf (F := Ideal) (φ := .f32) (shapeCast S1x512 o shapeCasts_S1x512_S1x512)
    (shapeCast S1x512 (multiReduction .add [0] S512 (mulf (dzAt m c t j) (k0_pay88 (F := Ideal) (rdYa m c t) (rdYb m c t))) 0x00000000#32
      reduces_S512x512_S512 (.inl rfl) rfl) shapeCasts_S512_S1x512)

/-- The first `j` rows written over the sums of the tiles before. -/
def overs (c : Dev nD) (t : Fin cfg0.N) (x : Vec Ideal S32x512 .f32) : ℕ → List (View.Piece (Elt Ideal) S32x512 .f32)
  | 0 => []
  | j + 1 => ⟨Rect.unit (s := S32x512) ![30 - j, 0] S1x512.size (in_row j),
      tapW m c t (View.readAt (Elt Ideal) (ms0_22 t).view (Rect.unit (s := S32x512) ![30 - j, 0] S1x512.size (in_row j)).toLoadRect ((hs0_22 t).unread x)) j⟩ :: overs c t x j

/-- The first `j` rows written over zeros. -/
def news (c : Dev nD) (t : Fin cfg0.N) : ℕ → List (View.Piece (Elt Ideal) S32x512 .f32)
  | 0 => [⟨Rect.unit (s := S32x512) ![0, 0] S32x512.size (by decide +kernel), broadcast S32x512 (Scalar.ofBits (F := Ideal) .f32 0x00000000#32)⟩]
  | j + 1 => ⟨Rect.unit (s := S32x512) ![30 - j, 0] S1x512.size (in_row j),
      tapW m c t ((ms0_22 t).view.readCov (Val := Elt Ideal) (news c t j) (Rect.unit (s := S32x512) ![30 - j, 0] S1x512.size (in_row j)).toLoadRect) j⟩ :: news c t j

end

variable {m : (ℓ : Loc nD τ sig) → Buf (Elt Ideal) ℓ} {X CW Y : ℕ → ℕ → ℝ} {G B : ℕ → ℝ} {c : Dev nD} {t : Fin cfg0.N} {A : ℕ → ℕ → ℝ}

section
variable (hX : ∀ (r : Fin 4096) (k : Fin 8192), argP m c (ix3 0 r k) = ((X r k : ℝ) : EReal))
  (hY : ∀ (r : Fin 4096) (b : Fin 4) (k : Fin 512), argY m c (ix4 0 r b k) = ((Y r (512 * b + k) : ℝ) : EReal))
  (hC : Is2 (n := 31) (m := 512) (m ((c : Thread nD τ).loc main_arg4)) CW)
  (hG : ∀ k : Fin 512, (m ((c : Thread nD τ).loc main_arg5) : FVec Ideal S512 .f32) (ix1 k) = ((G k : ℝ) : EReal))
  (hB : ∀ k : Fin 512, (m ((c : Thread nD τ).loc main_arg6) : FVec Ideal S512 .f32) (ix1 k) = ((B k : ℝ) : EReal))

include hX hY hC hG hB

theorem dzAt_v (j : ℕ) (hj : j ≤ 30) : Is2 (n := 512) (m := 512) (dzAt m c t j) (fun r k => dzE X CW Y G B (512 * t + (r + j)) k) := by
  cases j with
  | zero =>
    intro r k
    unfold dzAt
    pointwise
    exact tDz2_v hX hY hC hG hB t ⟨r.val, by omega⟩ k
  | succ j =>
    have e : (BitVec.ofNat 32 (543 - j)).toNat = 544 - (j + 1) := by
      rw [BitVec.toNat_ofNat, Nat.mod_eq_of_lt (by omega)]
      omega
    exact later_v (j + 1) (by omega) _ e (tDz2_v hX hY hC hG hB t)

/-- One row of the gradient. -/
theorem tapW_v {o : Vec Ideal S1x512 .f32} {j : ℕ} (hj : j < 31) (ho : Is2 (n := 1) (m := 512) o fun _ => A (30 - j)) :
    Is2 (n := 1) (m := 512) (tapW m c t o j) (fun _ k => A (30 - j) k + dcwT X CW Y G B t (30 - j) k) :=
  (tap_row ho (dzAt_v hX hY hC hG hB j (by omega)) (yg_v (rdYa_v m hX t) (rdYb_v m hX t)).2).congr fun _ k => by
    unfold dcwT
    rw [if_pos (by omega), show 30 - (30 - j) = j by omega]
    rfl

theorem overs_v {x : Vec Ideal S32x512 .f32} (hA : Is2 (n := 32) (m := 512) x A) : ∀ j, j ≤ 31 →
    Is2 (n := 32) (m := 512) ((ms0_22 t).view.read (Elt Ideal) ((ms0_22 t).view.writes (Elt Ideal) ((hs0_22 t).unread x) (overs m c t x j))) (upd 31 (31 - j) A (dcwT X CW Y G B t))
  | 0, _ => by
    intro r k
    rw [upd_none]
    show (ms0_22 t).view.read (Elt Ideal) ((ms0_22 t).view.writes (Elt Ideal) ((hs0_22 t).unread x) []) (ix2 r k) = _
    rw [View.writes_nil, (hs0_22 t).read_unread]
    exact hA r k
  | j + 1, hj => by
    have hO : Is2 (n := 32) (m := 512) ((ms0_22 t).view.read (Elt Ideal) ((hs0_22 t).unread x)) A := by
      rw [(hs0_22 t).read_unread]
      exact hA
    have h := overs_v hA j (by omega)
    rw [show 31 - j = (30 - j) + 1 by omega] at h
    rw [show 31 - (j + 1) = 30 - j by omega]
    exact rows_over (inb := in_row j) (by omega) h (tapW_v hX hY hC hG hB (by omega) (old_over (inb := in_row j) hO))

theorem news_v : ∀ j, j ≤ 31 → Is2 (n := 32) (m := 512) (View.canon (Val := Elt Ideal) (news m c t j)) (upd 31 (31 - j) (fun _ _ => 0) (dcwT X CW Y G B t))
  | 0, _ => rows_zero (inz := by decide +kernel) fun _ => Ideal.ofBits_zero_f32.trans EReal.coe_zero.symm
  | j + 1, hj => by
    have h := news_v j (by omega)
    rw [show 31 - j = (30 - j) + 1 by omega] at h
    rw [show 31 - (j + 1) = 30 - j by omega]
    exact rows_new (inb := in_row j) (by omega) h (tapW_v hX hY hC hG hB (by omega) (old_new (v := (ms0_22 t).view) (inb := in_row j) h))

theorem w22_B (ha : ¬t.val % 8 = 0) (hb : 1 ≤ t.val)
    (hA : Is2 (n := 32) (m := 512) ((outsAt0 m c (t.val - 1) (Nat.lt_of_le_of_lt (Nat.sub_le _ _) t.isLt)).2.2.2.2.1) A) :
    Is2 (n := 32) (m := 512) (outsAt0 m c t.val t.isLt).2.2.2.2.1 (fun i k => A i k + dcwT X CW Y G B t i k) := by
  rw [outsAt0_B m c t ha ha hb ha hb ha hb ha hb ha hb ha hb ha hb ha hb ha hb ha hb ha hb ha hb ha hb ha hb ha hb ha hb ha hb ha hb ha hb ha hb]
  dsimp only
  unfold out0_B_22
  unfold kernelRun0_B
  dsimp only
  refine ((overs_v hX hY hC hG hB hA 31 (by omega)).congr fun r k => upd_done (fun r k h => if_neg (by omega)) r k).of_eq ?_
  sl_unfold_words
  rfl

theorem w22_A (ha : t.val % 8 = 0) (hb : ¬1 ≤ t.val) :
    Is2 (n := 32) (m := 512) (outsAt0 m c t.val t.isLt).2.2.2.2.1 (fun i k => dcwT X CW Y G B t i k) := by
  rw [outsAt0_A m c t ha ha hb ha hb ha hb ha hb ha hb ha hb ha hb ha hb ha hb ha hb ha hb ha hb ha hb ha hb ha hb ha hb ha hb ha hb ha hb ha hb]
  dsimp only
  unfold out0_A_22
  rw [View.read_writes_eq_canon]
  swap; · exact fun _ => cover0_A_22 ..
  unfold kernelRun0_A
  dsimp only
  refine ((news_v hX hY hC hG hB 31 (by omega)).congr fun r k => (upd_done (fun r k h => if_neg (by omega)) r k).trans (zero_add _)).of_eq ?_
  sl_unfold_words
  rfl

end

theorem idx_22 : ∀ t : Fin cfg0.N, win0_22.index t 0 = 0 ∧ win0_22.index t 1 = 0 :=
  (by decide +kernel : ∀ t : Fin grid0.N, win0_22.index t 0 = 0 ∧ win0_22.index t 1 = 0)
theorem final22 (i : Fin 32) (k : Fin 512) :
    ((dats m 0 c).arrAt 22 cfg0.N : Vec Ideal S32x512 .f32) (ix2 i k) = (outsAt0 m c 7 tLast.isLt).2.2.2.2.1 (ix2 i k) := by
  have hb := congrFun ((last_block m c 22 flush0_22).trans (Value.flushed22 m c tLast)) (ix2 i k)
  rw [View.read_apply] at hb
  refine Eq.trans ?_ (hb.trans rfl)
  show (dats m 0 c).arrAt 22 cfg0.N _ = (dats m 0 c).arrAt 22 cfg0.N _
  congr 1
  funext b
  apply Fin.ext
  match b with
  | ⟨0, _⟩ => show i.val = win0_22.index tLast 0 * 32 + 1 * i.val; rw [(idx_22 _).1]; omega
  | ⟨1, _⟩ => show k.val = win0_22.index tLast 1 * 512 + 1 * k.val; rw [(idx_22 _).2]; omega

/-- The long filter's gradient: every row's contribution to each of the thirty-one taps, and one row of zeros. -/
theorem kernel_dcw (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    Is2 (n := 32) (m := 512) ((dats m 0 c).arrAt 22 cfg0.N)
      (fun i k => if i < 31 then ∑ r ∈ Finset.range 4096, dzE X CW Y G B (r + (30 - i)) k * gte X r k else 0) := by
  have ht := total2 (a := 32) (b := 512) (fun n h => (outsAt0 m c n h).2.2.2.2.1) (fun t i k => dcwT X CW Y G B t i k)
    (fun t hb => w22_A (m := m) (t := t) hX hY hC hG hB (mod_of_not hb) hb)
    (fun t A hb hA => w22_B (m := m) (t := t) (A := A) hX hY hC hG hB (not_mod_of hb) hb hA)
    7 tLast.isLt
  intro i k
  rw [final22]
  refine (ht i k).trans ?_
  rw [EReal.coe_eq_coe_iff]
  dsimp only
  by_cases h : i.val < 31
  · rw [if_pos h, ← sum_rows (fun r => dzE X CW Y G B (r + (30 - i)) k * gte X r k)]
    refine Finset.sum_congr rfl fun t _ => ?_
    unfold dcwT
    rw [if_pos h, Finset.sum_range]
    refine Finset.sum_congr rfl fun r _ => ?_
    rw [show 512 * t + (r.val + (30 - i.val)) = 512 * t + r.val + (30 - i.val) by omega]
  · rw [if_neg h]
    exact Finset.sum_eq_zero fun t _ => if_neg h

end Cert.MixIdeal.Hand

end
-- ==== Proof.MixShort.lean ====
/- The short convolution's filter gradient: the products of one tile, and what the window is left holding after it. -/
module

public import proofs.«01_k».proof.Proof.MixRows
public import proofs.«01_k».proof.Proof.MixPoolPay
public import proofs.«01_k».proof.Proof.MixSguFinal

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- The short convolution's input, and the gradient of its result, row by row of the padded arrays. -/
def qF (X : ℕ → ℕ → ℝ) (n k : ℕ) : ℝ := padR X n (1536 + k) * padR X n (512 + k)
def dcF (X Y : ℕ → ℕ → ℝ) (n k : ℕ) : ℝ := padR Y n (512 + k) * padR X n (1024 + k)
/-- A tile's share of the filter's gradient. -/
def dswT (X Y : ℕ → ℕ → ℝ) (t i k : ℕ) : ℝ := if i < 3 then ∑ r ∈ Finset.range 512, dcF X Y (512 * t + (32 + r)) k * qF X (512 * t + (30 + r + i)) k else 0

section
variable (m : (ℓ : Loc nD τ sig) → Buf (Elt Ideal) ℓ)
/-- A load of 512 columns of the first, of the second scratch array. -/
def rdEc (c : Dev nD) (t : Fin cfg0.N) (o : ℕ) (h : ∀ x, (![0, o] : Fin 2 → ℕ) x + S576x512.size x ≤ S576x4096.size x) : Vec Ideal S576x512 .bf16 :=
  scM0_0.view.readCov (Val := Elt Ideal) (scE m c t) (Rect.unit (s := S576x4096) ![0, o] S576x512.size h).toLoadRect
def rdFc (c : Dev nD) (t : Fin cfg0.N) (o : ℕ) (h : ∀ x, (![0, o] : Fin 2 → ℕ) x + S576x512.size x ≤ S576x2048.size x) : Vec Ideal S576x512 .bf16 :=
  scM0_1.view.readCov (Val := Elt Ideal) (scF m c t) (Rect.unit (s := S576x2048) ![0, o] S576x512.size h).toLoadRect
/-- The tile's input and its gradient. -/
def tQ (c : Dev nD) (t : Fin cfg0.N) : FVec Ideal S576x512 .f32 := k0_pay67 (rdEc m c t 512 (by decide +kernel)) (rdEc m c t 1536 (by decide +kernel))
def tDc (c : Dev nD) (t : Fin cfg0.N) : FVec Ideal S576x512 .f32 := k0_pay72 (rdEc m c t 1024 (by decide +kernel)) (rdFc m c t 512 (by decide +kernel))
end

/-- A rotation towards later rows. -/
theorem earlier_on {v : FVec Ideal S576x512 .f32} {f : ℕ → ℕ → ℝ} (j : ℕ) (hj : j ≤ 32) (h : On 0 576 (m := 512) v f) :
    On 32 576 (m := 512) (dynamicRotate 0 (BitVec.ofNat 32 j) none v rotates_S576x512_d0) (fun r k => f (r - j) k) := by
  intro r k ha hb
  have hr := r.isLt
  have e := h ⟨r.val - j, by omega⟩ k (Nat.zero_le _) (by show r.val - j < 576; omega)
  pointwise
  refine Eq.trans (congrArg (fun x => v (ix2 x k)) (Fin.ext ?_)) e
  show (r.val + 576 - (BitVec.ofNat 32 j).toNat % 576) % 576 = r.val - j
  rw [show (BitVec.ofNat 32 j).toNat = j from by simp only [BitVec.toNat_ofNat]; omega]
  omega

section
variable {m : (ℓ : Loc nD τ sig) → Buf (Elt Ideal) ℓ} {X Y : ℕ → ℕ → ℝ} {c : Dev nD}

theorem tQ_v (hX : ∀ (r : Fin 4096) (k : Fin 8192), argP m c (ix3 0 r k) = ((X r k : ℝ) : EReal)) (t : Fin cfg0.N) :
    On 0 576 (m := 512) (tQ m c t) (fun e k => qF X (512 * t + e) k) := by
  have h1 : On 0 576 (m := 512) (rdEc m c t 512 (by decide +kernel)) (fun e k => padR X (512 * t + e) (512 + k)) := load_v (P := 4096) (o := 512) (by omega) (scE_v m hX t)
  have h2 : On 0 576 (m := 512) (rdEc m c t 1536 (by decide +kernel)) (fun e k => padR X (512 * t + e) (1536 + k)) := load_v (P := 4096) (o := 1536) (by omega) (scE_v m hX t)
  intro r k ha hb
  unfold tQ
  pointwise [k0_pay67, k0_pay66, k0_pay65]
  rw [h1 r k ha hb, h2 r k ha hb, ← EReal.coe_mul]
  rfl

theorem tDc_v (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal)) (t : Fin cfg0.N) :
    On 32 576 (m := 512) (tDc m c t) (fun e k => dcF X Y (512 * t + e) k) := by
  have h1 : On 0 576 (m := 512) (rdEc m c t 1024 (by decide +kernel)) (fun e k => padR X (512 * t + e) (1024 + k)) := load_v (P := 4096) (o := 1024) (by omega) (scE_v m hX t)
  have h2 : On 32 576 (m := 512) (rdFc m c t 512 (by decide +kernel)) (fun e k => padR Y (512 * t + e) (512 + k)) := load_v (P := 2048) (o := 512) (by omega) (scF_v m hY t)
  intro r k ha hb
  unfold tDc
  pointwise [k0_pay72, k0_pay71]
  rw [h1 r k (Nat.zero_le _) hb, h2 r k ha hb, ← EReal.coe_mul]
  rfl

/-- A tile's own rows of an array with the rows around it. -/
theorem own_of {v : FVec Ideal S576x512 .f32} {f g : ℕ → ℕ → ℝ} (h : On 32 576 (m := 512) v f) (hg : ∀ r k, f (32 + r) k = g r k) :
    Is2 (n := 512) (m := 512) (extractStridedSlice S512x512 ![32, 0] v slices_S576x512_o32_0_S512x512) g :=
  (own_v slices_S576x512_o32_0_S512x512 (by omega) h).congr fun r k => by rw [Nat.zero_add]; exact hg r k

variable {t : Fin cfg0.N} {A : ℕ → ℕ → ℝ}

/-- One filter row's gradient: what the row held, and the tile's share. -/
theorem sw_row (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal)) {i : ℕ} (hi : i < 3)
    {o : Vec Ideal S1x512 .f32} (ho : Is2 (n := 1) (m := 512) o fun _ => A i) {w : FVec Ideal S512x512 .f32}
    (hw : Is2 (n := 512) (m := 512) w fun r k => qF X (512 * t + (30 + r + i)) k) :
    Is2 (n := 1) (m := 512) (addf (F := Ideal) (φ := .f32) (shapeCast S1x512 o shapeCasts_S1x512_S1x512)
      (shapeCast S1x512 (multiReduction .add [0] S512 (mulf (extractStridedSlice S512x512 ![32, 0] (tDc m c t) slices_S576x512_o32_0_S512x512) w) 0x00000000#32
        reduces_S512x512_S512 (.inl rfl) rfl) shapeCasts_S512_S1x512)) (fun _ k => A i k + dswT X Y t i k) :=
  (tap_row ho (own_of (tDc_v hX hY t) fun _ _ => rfl) hw).congr fun _ k => by unfold dswT; rw [if_pos hi]

theorem q_row (hX : ∀ (r : Fin 4096) (k : Fin 8192), argP m c (ix3 0 r k) = ((X r k : ℝ) : EReal)) (j : ℕ) (hj : j ≤ 2) :
    Is2 (n := 512) (m := 512) (extractStridedSlice S512x512 ![32, 0] (dynamicRotate 0 (BitVec.ofNat 32 j) none (tQ m c t) rotates_S576x512_d0) slices_S576x512_o32_0_S512x512)
      (fun r k => qF X (512 * t + (30 + r + (2 - j))) k) :=
  own_of (earlier_on j (by omega) (tQ_v hX t)) fun r k => congrArg (fun n => qF X n k) (by omega)

theorem q_row0 (hX : ∀ (r : Fin 4096) (k : Fin 8192), argP m c (ix3 0 r k) = ((X r k : ℝ) : EReal)) :
    Is2 (n := 512) (m := 512) (extractStridedSlice S512x512 ![32, 0] (tQ m c t) slices_S576x512_o32_0_S512x512)
      (fun r k => qF X (512 * t + (30 + r + 2)) k) :=
  own_of (f := fun e k => qF X (512 * t + e) k) (fun r k _ hb => tQ_v hX t r k (Nat.zero_le _) hb) fun r k => congrArg (fun n => qF X n k) (by omega)

theorem w21_B (ha : ¬t.val % 8 = 0) (hb : 1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hA : Is2 (n := 8) (m := 512) ((outsAt0 m c (t.val - 1) (Nat.lt_of_le_of_lt (Nat.sub_le _ _) t.isLt)).2.2.2.1) A) :
    Is2 (n := 8) (m := 512) (outsAt0 m c t.val t.isLt).2.2.2.1 (fun i k => A i k + dswT X Y t i k) := by
  rw [outsAt0_B m c t ha ha hb ha hb ha hb ha hb ha hb ha hb ha hb ha hb ha hb ha hb ha hb ha hb ha hb ha hb ha hb ha hb ha hb ha hb ha hb ha hb]
  dsimp only
  unfold out0_B_21
  unfold kernelRun0_B
  dsimp only
  have hO : Is2 (n := 8) (m := 512) ((ms0_21 t).view.read (Elt Ideal) ((hs0_21 t).unread (outsAt0 m c (t.val - 1) (Nat.lt_of_le_of_lt (Nat.sub_le _ _) t.isLt)).2.2.2.1)) A := by
    rw [(hs0_21 t).read_unread]
    exact hA
  have h3 : Is2 (n := 8) (m := 512) ((ms0_21 t).view.read (Elt Ideal) ((ms0_21 t).view.writes (Elt Ideal) ((hs0_21 t).unread
      (outsAt0 m c (t.val - 1) (Nat.lt_of_le_of_lt (Nat.sub_le _ _) t.isLt)).2.2.2.1) [])) (upd 3 3 A (dswT X Y t)) := by
    intro r k
    rw [upd_none, View.writes_nil]
    exact hO r k
  have h2 := rows_over (i := 2) (inb := by decide +kernel) (by omega) h3 (sw_row hX hY (i := 2) (by omega) (old_over (i := 2) (inb := by decide +kernel) hO) (q_row0 hX))
  have h1 := rows_over (i := 1) (inb := by decide +kernel) (by omega) h2 (sw_row hX hY (i := 1) (by omega) (old_over (i := 1) (inb := by decide +kernel) hO) (q_row hX 1 (by omega)))
  have h0 := rows_over (i := 0) (inb := by decide +kernel) (by omega) h1 (sw_row hX hY (i := 0) (by omega) (old_over (i := 0) (inb := by decide +kernel) hO) (q_row hX 2 (by omega)))
  refine (h0.congr fun r k => upd_done (fun r k h => if_neg (by omega)) r k).of_eq ?_
  sl_unfold_words
  rfl

theorem w21_A (ha : t.val % 8 = 0) (hb : ¬1 ≤ t.val) (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal)) :
    Is2 (n := 8) (m := 512) (outsAt0 m c t.val t.isLt).2.2.2.1 (fun i k => dswT X Y t i k) := by
  rw [outsAt0_A m c t ha ha hb ha hb ha hb ha hb ha hb ha hb ha hb ha hb ha hb ha hb ha hb ha hb ha hb ha hb ha hb ha hb ha hb ha hb ha hb ha hb]
  dsimp only
  unfold out0_A_21
  rw [View.read_writes_eq_canon]
  swap; · exact fun _ => cover0_A_21 ..
  unfold kernelRun0_A
  dsimp only
  have h3 := rows_zero (n := 8) (N := 3) (D := dswT X Y t) (inz := by decide +kernel) (z := broadcast S8x512 (Scalar.ofBits (F := Ideal) .f32 0x00000000#32)) fun _ => Ideal.ofBits_zero_f32.trans EReal.coe_zero.symm
  have h2 := rows_new (i := 2) (inb := by decide +kernel) (by omega) h3 (sw_row hX hY (i := 2) (by omega) (old_new (v := (ms0_21 t).view) (i := 2) (inb := by decide +kernel) h3) (q_row0 hX))
  have h1 := rows_new (i := 1) (inb := by decide +kernel) (by omega) h2 (sw_row hX hY (i := 1) (by omega) (old_new (v := (ms0_21 t).view) (i := 1) (inb := by decide +kernel) h2) (q_row hX 1 (by omega)))
  have h0 := rows_new (i := 0) (inb := by decide +kernel) (by omega) h1 (sw_row hX hY (i := 0) (by omega) (old_new (v := (ms0_21 t).view) (i := 0) (inb := by decide +kernel) h1) (q_row hX 2 (by omega)))
  refine (h0.congr fun r k => (upd_done (fun r k h => if_neg (by omega)) r k).trans (zero_add _)).of_eq ?_
  sl_unfold_words
  rfl

theorem idx_21 : ∀ t : Fin cfg0.N, win0_21.index t 0 = 0 ∧ win0_21.index t 1 = 0 :=
  (by decide +kernel : ∀ t : Fin grid0.N, win0_21.index t 0 = 0 ∧ win0_21.index t 1 = 0)
theorem final21 (i : Fin 8) (k : Fin 512) :
    ((dats m 0 c).arrAt 21 cfg0.N : Vec Ideal S8x512 .f32) (ix2 i k) = (outsAt0 m c 7 tLast.isLt).2.2.2.1 (ix2 i k) := by
  have hb := congrFun ((last_block m c 21 flush0_21).trans (Value.flushed21 m c tLast)) (ix2 i k)
  rw [View.read_apply] at hb
  refine Eq.trans ?_ (hb.trans rfl)
  show (dats m 0 c).arrAt 21 cfg0.N _ = (dats m 0 c).arrAt 21 cfg0.N _
  congr 1
  funext b
  apply Fin.ext
  match b with
  | ⟨0, _⟩ => show i.val = win0_21.index tLast 0 * 8 + 1 * i.val; rw [(idx_21 _).1]; omega
  | ⟨1, _⟩ => show k.val = win0_21.index tLast 1 * 512 + 1 * k.val; rw [(idx_21 _).2]; omega

/-- The short filter's gradient: every row's contribution to each of the three taps, and five rows of zeros. -/
theorem kernel_dsw (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal)) :
    Is2 (n := 8) (m := 512) ((dats m 0 c).arrAt 21 cfg0.N) (fun i k => if i < 3 then ∑ r ∈ Finset.range 4096, dcF X Y (32 + r) k * qF X (30 + r + i) k else 0) := by
  have ht := total2 (a := 8) (b := 512) (fun n h => (outsAt0 m c n h).2.2.2.1) (fun t i k => dswT X Y t i k)
    (fun t hb => w21_A (m := m) (t := t) (mod_of_not hb) hb hX hY)
    (fun t A hb hA => w21_B (m := m) (t := t) (A := A) (not_mod_of hb) hb hX hY hA)
    7 tLast.isLt
  intro i k
  rw [final21]
  refine (ht i k).trans ?_
  rw [EReal.coe_eq_coe_iff]
  dsimp only
  by_cases h : i.val < 3
  · rw [if_pos h, ← sum_rows (fun r => dcF X Y (32 + r) k * qF X (30 + r + i) k)]
    refine Finset.sum_congr rfl fun t _ => ?_
    unfold dswT
    rw [if_pos h, Finset.sum_range]
    refine Finset.sum_congr rfl fun r _ => ?_
    rw [show 512 * t + (32 + r.val) = 32 + (512 * t + r.val) by omega, show 512 * t + (30 + r.val + i.val) = 30 + (512 * t + r.val) + i.val by omega]
  · rw [if_neg h]
    exact Finset.sum_eq_zero fun t _ => if_neg h

end

end Cert.MixIdeal.Hand

end
-- ==== Proof.MixDpPool.lean ====
module

public import proofs.«01_k».proof.Proof.MixPoolTile

/-!
The pooled columns of the projection's gradient at a tile's rows. The gradient of the pooled rows goes back through the windows: a row
gathers, from itself and the rows after it, the gradients of the windows that contain it, each divided by its number of rows, and loses its
own.
-/

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- The gradient of the pooled rows: the branch's gradient, scaled, times the group's transposed matrix. -/
def ddR (Y : ℕ → ℕ → ℝ) (S : ℕ → ℝ) (W : ℕ → ℕ → ℕ → ℝ) (n k : ℕ) : ℝ :=
  ∑ c : Fin 128, padR Y n (128 * (k / 128) + c) * S (128 * (k / 128) + c) * W (k / 128) (k % 128) c
/-- The gradient of the pooled rows' source. -/
def dpA (Y : ℕ → ℕ → ℝ) (S : ℕ → ℝ) (W : ℕ → ℕ → ℕ → ℝ) (n k : ℕ) : ℝ := poolB (win k) (ddR Y S W) n k

variable (m : (ℓ : Loc nD τ sig) → Buf (Elt Ideal) ℓ)

/-- A group's columns of the gradient of the pooled rows, and the four groups side by side. -/
def tDD (c : Dev nD) (t : Fin cfg0.N) (g : ℕ) (h : S576x512.Slices ![0, 128 * g] S576x128)
    (h1 : ∀ a, (![0, 128 * g] : Fin 2 → ℕ) a + S1x128.size a ≤ S1x512.size a) (h2 : ∀ a, (![g, 0, 0] : Fin 3 → ℕ) a + S1x128x128.size a ≤ S4x128x128.size a) : FVec Ideal S576x128 .f32 :=
  ddP (scP (tG m c t (128 * g) h) (rdS m c t (128 * g) h1)) (wP (rdM m c t g h2))
def catD (c : Dev nD) (t : Fin cfg0.N) : FVec Ideal S576x512 .f32 :=
  concatenate S576x512 1 [⟨S576x128, tDD m c t 0 slices_S576x512_o0_0_S576x128 (by decide) (by decide)⟩, ⟨S576x128, tDD m c t 1 slices_S576x512_o0_128_S576x128 (by decide) (by decide)⟩,
    ⟨S576x128, tDD m c t 2 slices_S576x512_o0_256_S576x128 (by decide) (by decide)⟩, ⟨S576x128, tDD m c t 3 slices_S576x512_o0_384_S576x128 (by decide) (by decide)⟩]
    concatenates_S576x128_S576x128_S576x128_S576x128_S576x512_d1

/-- The gradient of a group's source rows. -/
def back (v : FVec Ideal S576x128 .f32) (u : FVec Ideal S576x128 .f32) : FVec Ideal S512x128 .bf16 :=
  truncf .bf16 (extractStridedSlice S512x128 ![32, 0] (subf u v) slices_S576x128_o32_0_S512x128) bitsLt_bf16_f32
def sl (c : Dev nD) (t : Fin cfg0.N) (o : ℕ) (h : S576x512.Slices ![0, o] S576x128) : FVec Ideal S576x128 .f32 :=
  extractStridedSlice S576x128 ![0, o] (catD m c t) h
def tB0 (c : Dev nD) (t : Fin cfg0.N) := back (sl m c t 0 slices_S576x512_o0_0_S576x128) (dn2 (quo (sl m c t 0 slices_S576x512_o0_0_S576x128) (tC t 2#32)))
def tB1 (c : Dev nD) (t : Fin cfg0.N) := back (sl m c t 128 slices_S576x512_o0_128_S576x128) (dn4 (quo (sl m c t 128 slices_S576x512_o0_128_S576x128) (tC t 4#32)))
def tB2 (c : Dev nD) (t : Fin cfg0.N) := back (sl m c t 256 slices_S576x512_o0_256_S576x128) (dn8 (quo (sl m c t 256 slices_S576x512_o0_256_S576x128) (tC t 8#32)))
def tB3 (c : Dev nD) (t : Fin cfg0.N) := back (sl m c t 384 slices_S576x512_o0_384_S576x128) (dn16 (quo (sl m c t 384 slices_S576x512_o0_384_S576x128) (tC t 16#32)))

section
variable {m} {c : Dev nD} {t : Fin cfg0.N} {Y : ℕ → ℕ → ℝ} {W : ℕ → ℕ → ℕ → ℝ} {S : ℕ → ℝ}

variable (hY : ∀ (r : Fin 4096) (b : Fin 4) (k : Fin 512), argY m c (ix4 0 r b k) = ((Y r (512 * b + k) : ℝ) : EReal))
  (hS : Is2 (n := 1) (m := 512) (iblk m c 9 t) fun _ => S) (hW : Is3 (a := 4) (n := 128) (m := 128) (iblk m c 8 t) W)
include hY hS hW

theorem tDD_v (g : ℕ) (hg : g < 4) (h h1 h2) : On 32 576 (m := 128) (tDD m c t g h h1 h2) (fun e k => ddR Y S W (512 * t + e) (128 * g + k)) :=
  fun r k ha hb => (ddP_v (scP_v (tG_v hY h (by omega)) (rdS_v hS h1)) (wP_v (rdM_v hW h2)) r k ha hb).trans (by
    unfold ddR
    beta_reduce
    rw [show (128 * g + k.val) / 128 = g by omega, show (128 * g + k.val) % 128 = k.val by omega])

theorem catD_v : On 32 576 (m := 512) (catD m c t) (fun e k => ddR Y S W (512 * t + e) k) := by
  have q0 := tDD_v hY hS hW 0 (by omega) slices_S576x512_o0_0_S576x128 (by decide) (by decide)
  have q1 := tDD_v hY hS hW 1 (by omega) slices_S576x512_o0_128_S576x128 (by decide) (by decide)
  have q2 := tDD_v hY hS hW 2 (by omega) slices_S576x512_o0_256_S576x128 (by decide) (by decide)
  have q3 := tDD_v hY hS hW 3 (by omega) slices_S576x512_o0_384_S576x128 (by decide) (by decide)
  intro r k ha hb
  unfold catD
  generalize tDD m c t 0 slices_S576x512_o0_0_S576x128 (by decide) (by decide) = a0 at q0 ⊢
  generalize tDD m c t 1 slices_S576x512_o0_128_S576x128 (by decide) (by decide) = a1 at q1 ⊢
  generalize tDD m c t 2 slices_S576x512_o0_256_S576x128 (by decide) (by decide) = a2 at q2 ⊢
  generalize tDD m c t 3 slices_S576x512_o0_384_S576x128 (by decide) (by decide) = a3 at q3 ⊢
  have hk := k.isLt
  pointwise
  by_cases c0 : k.val < 128
  · simp only [c0, dite_true]
    refine (q0 r _ ha hb).trans ?_
    exact congrArg (fun j => ((ddR Y S W (512 * t.val + r.val) j : ℝ) : EReal)) (by dsimp only; omega)
  by_cases c1 : k.val - 128 < 128
  · simp only [c0, c1, dite_true, dite_false]
    refine (q1 r _ ha hb).trans ?_
    exact congrArg (fun j => ((ddR Y S W (512 * t.val + r.val) j : ℝ) : EReal)) (by dsimp only; omega)
  by_cases c2 : k.val - 128 - 128 < 128
  · simp only [c0, c1, c2, dite_true, dite_false]
    refine (q2 r _ ha hb).trans ?_
    exact congrArg (fun j => ((ddR Y S W (512 * t.val + r.val) j : ℝ) : EReal)) (by dsimp only; omega)
  simp only [c0, c1, c2, dite_false]
  refine (q3 r _ ha hb).trans ?_
  exact congrArg (fun j => ((ddR Y S W (512 * t.val + r.val) j : ℝ) : EReal)) (by dsimp only; omega)

theorem sl_v (g : ℕ) (hg : g < 4) (h) : On 32 576 (m := 128) (sl m c t (128 * g) h) (fun e k => ddR Y S W (512 * t + e) (128 * g + k)) :=
  cols_v (φ := .f32) (p := 512) (q := 128) h (by omega) (catD_v hY hS hW)
omit hY hS hW in
theorem back_v {g w b : ℕ} (hg : w = 2 ^ (g + 1)) (hb : 544 ≤ b) (hb' : b ≤ 576) {v u : FVec Ideal S576x128 .f32}
    (hu : On 32 b (m := 128) u (fun r k => ∑ s ∈ Finset.range w, ddR Y S W (512 * t + (r + s)) (128 * g + k) / cnt w (512 * t + (r + s))))
    (h : On 32 576 (m := 128) v fun e k => ddR Y S W (512 * t + e) (128 * g + k)) :
    Is2 (n := 512) (m := 128) (back v u) (fun r k => dpA Y S W (512 * t + r + 32) (128 * g + k)) := by
  have e := dn_v (F := fun n k => ddR Y S W n (128 * g + k)) hb' hu h
  intro r k
  have e1 := e ⟨32 + r.val, by omega⟩ k (by dsimp only; omega) (by dsimp only; omega)
  unfold back
  generalize subf u v = x at e1 ⊢
  pointwise
  refine (Eq.trans ?_ e1).trans ?_
  · rfl
  · unfold dpA win
    dsimp only
    rw [show (128 * g + k.val) / 128 = g by omega, ← hg, show 512 * t.val + (32 + r.val) = 512 * t.val + r.val + 32 by omega]
    rfl

theorem tB0_v : Is2 (n := 512) (m := 128) (tB0 m c t) (fun r k => dpA Y S W (512 * t + r + 32) (128 * 0 + k)) :=
  back_v (g := 0) rfl (by omega) (by omega) (dn2_v (quo_v (by omega) (sl_v hY hS hW 0 (by omega) _) (tC_v t 2 (by omega)))) (sl_v hY hS hW 0 (by omega) _)
theorem tB1_v : Is2 (n := 512) (m := 128) (tB1 m c t) (fun r k => dpA Y S W (512 * t + r + 32) (128 * 1 + k)) :=
  back_v (g := 1) rfl (by omega) (by omega) (dn4_v (quo_v (by omega) (sl_v hY hS hW 1 (by omega) _) (tC_v t 4 (by omega)))) (sl_v hY hS hW 1 (by omega) _)
theorem tB2_v : Is2 (n := 512) (m := 128) (tB2 m c t) (fun r k => dpA Y S W (512 * t + r + 32) (128 * 2 + k)) :=
  back_v (g := 2) rfl (by omega) (by omega) (dn8_v (quo_v (by omega) (sl_v hY hS hW 2 (by omega) _) (tC_v t 8 (by omega)))) (sl_v hY hS hW 2 (by omega) _)
theorem tB3_v : Is2 (n := 512) (m := 128) (tB3 m c t) (fun r k => dpA Y S W (512 * t + r + 32) (128 * 3 + k)) :=
  back_v (g := 3) rfl (by omega) (by omega) (dn16_v (quo_v (by omega) (sl_v hY hS hW 3 (by omega) _) (tC_v t 16 (by omega)))) (sl_v hY hS hW 3 (by omega) _)
end

end Cert.MixIdeal.Hand

end

end
-- ==== Proof.MixDpConv.lean ====
/- The short and the long convolution's columns of the projection's gradient, on one tile. -/
module

public import proofs.«01_k».proof.Proof.MixShort
public import proofs.«01_k».proof.Proof.MixTaps

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- The gradient of the short convolution's input, and the short convolution's result, row by row of the padded arrays. -/
def dqF (X Y SW : ℕ → ℕ → ℝ) (n k : ℕ) : ℝ := SW 2 k * dcF X Y n k + SW 1 k * dcF X Y (n + 1) k + SW 0 k * dcF X Y (n + 2) k
def cvF (X SW : ℕ → ℕ → ℝ) (n k : ℕ) : ℝ := SW 2 k * qF X n k + SW 1 k * qF X (n - 1) k + SW 0 k * qF X (n - 2) k
/-- The gradient of the long convolution's input. -/
def dygT (X CW Y : ℕ → ℕ → ℝ) (G B : ℕ → ℝ) (n k : ℕ) : ℕ → ℝ
  | 0 => CW 30 k * dzE X CW Y G B n k
  | j + 1 => dygT X CW Y G B n k j + CW (30 - (j + 1)) k * dzE X CW Y G B (n + (j + 1)) k

section
variable (m : (ℓ : Loc nD τ sig) → Buf (Elt Ideal) ℓ)

/-- A filter with rows of zeros below it, at its own rows. -/
theorem pad_short {x : FVec Ideal S3x512 .f32} {z : FVec Ideal S_ .f32} {W : ℕ → ℕ → ℝ} (hx : Is2 (n := 3) (m := 512) x W) (i : Fin 8) (k : Fin 512) (hi : i.val < 3) :
    pad S8x512 ![0, 0] ![5, 0] ![0, 0] x z pads_S3x512_S8x512_050_000 h_S_ (ix2 i k) = ((W i k : ℝ) : EReal) := by
  pointwise
  simp only [hi, dite_true, if_true]
  exact hx ⟨i.val, hi⟩ k
theorem pad_long {x : FVec Ideal S31x512 .f32} {z : FVec Ideal S_ .f32} {W : ℕ → ℕ → ℝ} (hx : Is2 (n := 31) (m := 512) x W) (i : Fin 32) (k : Fin 512) (hi : i.val < 31) :
    pad S32x512 ![0, 0] ![1, 0] ![0, 0] x z pads_S31x512_S32x512_010_000 h_S_ (ix2 i k) = ((W i k : ℝ) : EReal) := by
  pointwise
  simp only [hi, dite_true, if_true]
  exact hx ⟨i.val, hi⟩ k

theorem V3 (c : Dev nD) {W : ℕ → ℕ → ℝ} (hW : Is2 (n := 3) (m := 512) (m ((c : Thread nD τ).loc main_arg3)) W) :
    ∃ v : FVec Ideal S8x512 .f32, V m c main_v3 = v ∧ ∀ (i : Fin 8) (k : Fin 512), i.val < 3 → v (ix2 i k) = ((W i k : ℝ) : EReal) := by
  refine ⟨pad S8x512 ![0, 0] ![5, 0] ![0, 0] (m ((c : Thread nD τ).loc main_arg3) : FVec Ideal _ .f32) (sitofp (F := Ideal) .f32 (constantI S_ 32 0#32)) pads_S3x512_S8x512_050_000 h_S_, ?a, ?b⟩
  case a =>
    show StableHlo.after _ _ (Proc.devRef .tc main_v3) = _
    after_reads_simp
    rfl
  exact pad_short hW
theorem V4 (c : Dev nD) {W : ℕ → ℕ → ℝ} (hW : Is2 (n := 31) (m := 512) (m ((c : Thread nD τ).loc main_arg4)) W) :
    ∃ v : FVec Ideal S32x512 .f32, V m c main_v4 = v ∧ ∀ (i : Fin 32) (k : Fin 512), i.val < 31 → v (ix2 i k) = ((W i k : ℝ) : EReal) := by
  refine ⟨pad S32x512 ![0, 0] ![1, 0] ![0, 0] (m ((c : Thread nD τ).loc main_arg4) : FVec Ideal _ .f32) (sitofp (F := Ideal) .f32 (constantI S_ 32 0#32)) pads_S31x512_S32x512_010_000 h_S_, ?a, ?b⟩
  case a =>
    show StableHlo.after _ _ (Proc.devRef .tc main_v4) = _
    after_reads_simp
    rfl
  exact pad_long hW

theorem idx_10 : ∀ t : Fin cfg0.N, win0_10.index t 0 = 0 ∧ win0_10.index t 1 = 0 :=
  (by decide +kernel : ∀ t : Fin grid0.N, win0_10.index t 0 = 0 ∧ win0_10.index t 1 = 0)
theorem idx_11 : ∀ t : Fin cfg0.N, win0_11.index t 0 = 0 ∧ win0_11.index t 1 = 0 :=
  (by decide +kernel : ∀ t : Fin grid0.N, win0_11.index t 0 = 0 ∧ win0_11.index t 1 = 0)

/-- A row of the short, of the long convolution's filter, as a tile loads it. -/
def rdSw (c : Dev nD) (t : Fin cfg0.N) (i : ℕ) (h : ∀ a, (![i, 0] : Fin 2 → ℕ) a + S1x512.size a ≤ S8x512.size a) : Vec Ideal S1x512 .f32 :=
  View.readAt (Elt Ideal) (ms0_10 t).view (Rect.unit (s := S8x512) ![i, 0] S1x512.size h).toLoadRect ((hs0_10 t).unread (iblk m c 10 t))
def rdLw (c : Dev nD) (t : Fin cfg0.N) (j : ℕ) : Vec Ideal S1x512 .f32 :=
  View.readAt (Elt Ideal) (ms0_11 t).view (Rect.unit (s := S32x512) ![30 - j, 0] S1x512.size (in_row j)).toLoadRect ((hs0_11 t).unread (iblk m c 11 t))

/-- The gradient of the long convolution's input on a tile, after `j` earlier rows of the filter. -/
def accY (c : Dev nD) (t : Fin cfg0.N) : ℕ → FVec Ideal S512x512 .f32
  | 0 => mulf (broadcastTo S512x512 (shapeCast S1x512 (rdLw m c t 0) shapeCasts_S1x512_S1x512) broadcasts_S1x512_S512x512) (dzAt m c t 0)
  | j + 1 => addf (accY c t j) (mulf (broadcastTo S512x512 (shapeCast S1x512 (rdLw m c t (j + 1)) shapeCasts_S1x512_S1x512) broadcasts_S1x512_S512x512) (dzAt m c t (j + 1)))
end

section
variable {m : (ℓ : Loc nD τ sig) → Buf (Elt Ideal) ℓ} {X Y SW CW : ℕ → ℕ → ℝ} {G B : ℕ → ℝ} {c : Dev nD} {t : Fin cfg0.N}

theorem rdSw_v (hW : Is2 (n := 3) (m := 512) (m ((c : Thread nD τ).loc main_arg3)) SW) (i : ℕ) (hi : i < 3) (h) :
    Is2 (n := 1) (m := 512) (rdSw m c t i h) (fun _ => SW i) := by
  obtain ⟨v, e, hv⟩ := V3 m c hW
  intro r k
  unfold rdSw
  rw [View.readAt_eq_ld, (hs0_10 t).read_unread]
  refine Eq.trans ?_ (hv ⟨i, by omega⟩ k hi)
  rw [← e]
  show (iblk m c 10 t : Vec Ideal S8x512 .f32) _ = _
  unfold iblk
  rw [View.read_apply]
  show V m c main_v3 _ = _
  congr 1
  funext b
  apply Fin.ext
  match b with
  | ⟨0, _⟩ => show win0_10.index t 0 * 8 + 1 * (i + 1 * r.val) = i; rw [(idx_10 t).1]; omega
  | ⟨1, _⟩ => show win0_10.index t 1 * 512 + 1 * (0 + 1 * k.val) = k.val; rw [(idx_10 t).2]; omega
theorem rdLw_v (hW : Is2 (n := 31) (m := 512) (m ((c : Thread nD τ).loc main_arg4)) CW) (j : ℕ) :
    Is2 (n := 1) (m := 512) (rdLw m c t j) (fun _ => CW (30 - j)) := by
  obtain ⟨v, e, hv⟩ := V4 m c hW
  intro r k
  unfold rdLw
  rw [View.readAt_eq_ld, (hs0_11 t).read_unread]
  refine Eq.trans ?_ (hv ⟨30 - j, by omega⟩ k (by dsimp only; omega))
  rw [← e]
  show (iblk m c 11 t : Vec Ideal S32x512 .f32) _ = _
  unfold iblk
  rw [View.read_apply]
  show V m c main_v4 _ = _
  congr 1
  funext b
  apply Fin.ext
  match b with
  | ⟨0, _⟩ => show win0_11.index t 0 * 32 + 1 * (30 - j + 1 * r.val) = 30 - j; rw [(idx_11 t).1]; omega
  | ⟨1, _⟩ => show win0_11.index t 1 * 512 + 1 * (0 + 1 * k.val) = k.val; rw [(idx_11 t).2]; omega

/-- The gradient of the long convolution's input. -/
theorem accY_v (hX : ∀ (r : Fin 4096) (k : Fin 8192), argP m c (ix3 0 r k) = ((X r k : ℝ) : EReal))
    (hY : ∀ (r : Fin 4096) (b : Fin 4) (k : Fin 512), argY m c (ix4 0 r b k) = ((Y r (512 * b + k) : ℝ) : EReal))
    (hC : Is2 (n := 31) (m := 512) (m ((c : Thread nD τ).loc main_arg4)) CW)
    (hG : ∀ k : Fin 512, (m ((c : Thread nD τ).loc main_arg5) : FVec Ideal S512 .f32) (ix1 k) = ((G k : ℝ) : EReal))
    (hB : ∀ k : Fin 512, (m ((c : Thread nD τ).loc main_arg6) : FVec Ideal S512 .f32) (ix1 k) = ((B k : ℝ) : EReal)) :
    ∀ j, j ≤ 30 → Is2 (n := 512) (m := 512) (accY m c t j) (fun r k => dygT X CW Y G B (512 * t + r) k j)
  | 0, _ => wrow_v (rdLw_v hC 0) (dzAt_v hX hY hC hG hB 0 (by omega))
  | j + 1, hj => by
    have h := accY_v hX hY hC hG hB j (by omega)
    have h2 := wrow_v (rdLw_v (t := t) hC (j + 1)) (dzAt_v hX hY hC hG hB (t := t) (j + 1) hj)
    intro r k
    show accY m c t j (ix2 r k) + (mulf _ _ : FVec Ideal S512x512 .f32) (ix2 r k) = _
    rw [h.eq, h2.eq, ← EReal.coe_add]
    show _ = ((dygT X CW Y G B (512 * t + r) k j + CW (30 - (j + 1)) k * dzE X CW Y G B (512 * t + r + (j + 1)) k : ℝ) : EReal)
    rw [Nat.add_assoc (512 * t.val)]

/-- The long convolution's two groups of columns. -/
theorem dya_v {a b : Vec Ideal S512x512 .bf16} {A B D : ℕ → ℕ → ℝ} (ha : Is2 (n := 512) (m := 512) a A) (hb : Is2 (n := 512) (m := 512) b B)
    {d0 d1 : FVec Ideal S512x512 .f32} {w : Vec Ideal S1x512 .f32} (hd : Is2 (n := 512) (m := 512) (k0_pay177 (F := Ideal) d0 d1 w) D) :
    Is2 (n := 512) (m := 512) (k0_pay179 (F := Ideal) (k0_pay87 (F := Ideal) b) d0 d1 w) (fun r k => D r k * sg (B r k))
      ∧ Is2 (n := 512) (m := 512) (k0_pay180 (F := Ideal) (k0_pay86 (F := Ideal) a) (k0_pay87 (F := Ideal) b) d0 d1 w) (fun r k => D r k * A r k * sg (B r k) * (1 - sg (B r k))) := by
  have hs := (yg_v ha hb).1
  constructor
  · intro r k
    pointwise [k0_pay179]
    rw [hd.eq, hs.eq, ← EReal.coe_mul]
  · intro r k
    pointwise [k0_pay180, k0_pay86]
    rw [hd.eq, hs.eq, ha.eq, ← EReal.coe_one, ← EReal.coe_sub]
    simp only [← EReal.coe_mul]

/-- A rotation towards earlier rows: row `r` holds the row `j` after it. -/
theorem later_on {v : FVec Ideal S576x512 .f32} {f : ℕ → ℕ → ℝ} {j : ℕ} (hj : j ≤ 32) (s : BitVec 32) (hs : s.toNat = 576 - j) (h0 : 0 < j) (h : On 32 576 (m := 512) v f) :
    On 32 544 (m := 512) (dynamicRotate 0 s none v rotates_S576x512_d0) (fun r k => f (r + j) k) := by
  intro r k ha hb
  have e := h ⟨r.val + j, by omega⟩ k (by dsimp only; omega) (by dsimp only; omega)
  pointwise
  refine Eq.trans (congrArg (fun x => v (ix2 x k)) (Fin.ext ?_)) e
  show (r.val + 576 - s.toNat % 576) % 576 = r.val + j
  omega

/-- The gradient of the short convolution's input on a tile. -/
theorem dq_on {v : FVec Ideal S576x512 .f32} {w0 w1 w2 : Vec Ideal S1x512 .f32} {D : ℕ → ℕ → ℝ}
    (h0 : Is2 (n := 1) (m := 512) w0 fun _ => SW 0) (h1 : Is2 (n := 1) (m := 512) w1 fun _ => SW 1) (h2 : Is2 (n := 1) (m := 512) w2 fun _ => SW 2)
    (hv : On 32 576 (m := 512) v D) :
    On 32 544 (m := 512) (k0_pay82 (F := Ideal) (k0_pay79 (F := Ideal) v w2 w1) (k0_pay80 (F := Ideal) w0) (k0_pay81 (F := Ideal) v))
      (fun e k => SW 2 k * D e k + SW 1 k * D (e + 1) k + SW 0 k * D (e + 2) k) := by
  have r1 := later_on (j := 1) (by omega) 575#32 rfl (by omega) hv
  have r2 := later_on (j := 2) (by omega) 574#32 rfl (by omega) hv
  unfold k0_pay79 k0_pay81
  generalize dynamicRotate 0 575#32 none v rotates_S576x512_d0 = a1 at r1 ⊢
  generalize dynamicRotate 0 574#32 none v rotates_S576x512_d0 = a2 at r2 ⊢
  intro r k ha hb
  pointwise [k0_pay82, k0_pay80]
  rw [h0.eq, h1.eq, h2.eq, hv r k ha (by omega), r1 r k ha hb, r2 r k ha hb]
  simp only [← EReal.coe_mul, ← EReal.coe_add]

/-- A tile's own rows of a product of two arrays with the rows around them. -/
theorem own_mul {a b : FVec Ideal S576x512 .f32} {f g : ℕ → ℕ → ℝ} (ha : On 32 544 (m := 512) a f) (hb : On 32 544 (m := 512) b g) :
    Is2 (n := 512) (m := 512) (truncf (F := Ideal) .bf16 (extractStridedSlice S512x512 ![32, 0] (mulf (F := Ideal) (φ := .f32) a b) slices_S576x512_o32_0_S512x512) bitsLt_bf16_f32)
      (fun r k => f (32 + r) k * g (32 + r) k) := by
  intro r k
  have e1 := ha ⟨32 + r.val, by omega⟩ k (by dsimp only; omega) (by dsimp only; omega)
  have e2 := hb ⟨32 + r.val, by omega⟩ k (by dsimp only; omega) (by dsimp only; omega)
  pointwise
  refine (congrArg₂ (fun x y : EReal => x * y) e1 e2).trans ?_
  rw [← EReal.coe_mul]

/-- The short convolution's result on a tile. -/
theorem cv_on {x y : Vec Ideal S576x512 .bf16} {w0 w1 w2 : Vec Ideal S1x512 .f32} {Q : ℕ → ℕ → ℝ}
    (h0 : Is2 (n := 1) (m := 512) w0 fun _ => SW 0) (h1 : Is2 (n := 1) (m := 512) w1 fun _ => SW 1) (h2 : Is2 (n := 1) (m := 512) w2 fun _ => SW 2)
    (hq : On 0 576 (m := 512) (k0_pay67 (F := Ideal) x y) Q) :
    On 32 576 (m := 512) (k0_pay70 (F := Ideal) x y w2 w1 w0) (fun e k => SW 2 k * Q e k + SW 1 k * Q (e - 1) k + SW 0 k * Q (e - 2) k) := by
  have r1 := earlier_on 1 (by omega) hq
  have r2 := earlier_on 2 (by omega) hq
  unfold k0_pay70 k0_pay68 k0_pay69
  generalize k0_pay67 (F := Ideal) x y = v at hq r1 r2 ⊢
  change On 32 576 (m := 512) (dynamicRotate 0 1#32 none v rotates_S576x512_d0) _ at r1
  change On 32 576 (m := 512) (dynamicRotate 0 2#32 none v rotates_S576x512_d0) _ at r2
  generalize dynamicRotate 0 1#32 none v rotates_S576x512_d0 = a1 at r1 ⊢
  generalize dynamicRotate 0 2#32 none v rotates_S576x512_d0 = a2 at r2 ⊢
  intro r k ha hb
  pointwise
  rw [h0.eq, h1.eq, h2.eq, hq r k (Nat.zero_le _) hb, r1 r k ha hb, r2 r k ha hb]
  simp only [← EReal.coe_mul, ← EReal.coe_add]
end

end Cert.MixIdeal.Hand

end

end
-- ==== Proof.MixDpSgu.lean ====
/- The gating unit's columns of the projection's gradient, on one tile. -/
module

public import proofs.«01_k».proof.Proof.MixSguCases
public import proofs.«01_k».proof.Proof.MixReads

@[expose] public section

set_option maxRecDepth 16384

noncomputable section

namespace Cert.MixIdeal.Hand

open Cert.MixIdeal Cert.MixIdeal.Gen Cert.Mix Idealize.ShloMosaic Idealize.ShloMosaic.TcCoe Idealize.SL.Sem

/-- A block of 128 rows of a head: the gradient of the gate's result times the mixed rows with their bias, through gelu's slope. -/
def zzP (o p : ℕ) (h : S512x512.Slices ![o, p] S128x128) (w : FVec Ideal S128x128 .bf16) (b : Vec Ideal S128x1 .f32) (pu th d : FVec Ideal S512x512 .f32)
    (vn : FVec Ideal S512x512 .bf16) : FVec Ideal S128x128 .bf16 :=
  let x := extractStridedSlice S128x128 ![o, p] pu h
  let y := extractStridedSlice S128x128 ![o, p] th h
  truncf .bf16 (mulf (mulf (extractStridedSlice S128x128 ![o, p] d h)
      (addf (matmul dot_S128x128_S128x128_S128x128_1_0_0_1_n_n none w (extractStridedSlice S128x128 ![o, p] vn h) (constant S128x128 .f32 0x00000000#32))
        (broadcastTo S128x128 (shapeCast S128x1 b shapeCasts_S128x1_S128x1) broadcasts_S128x1_S128x128)))
    (addf (mulf (broadcast S128x128 (Scalar.ofBits .f32 0x3F000000#32)) (addf (broadcast S128x128 (Scalar.ofBits .f32 0x3F800000#32)) y))
      (mulf (mulf (mulf (broadcast S128x128 (Scalar.ofBits .f32 0x3F000000#32)) x) (subf (broadcast S128x128 (Scalar.ofBits .f32 0x3F800000#32)) (mulf y y)))
        (mulf (broadcast S128x128 (Scalar.ofBits .f32 0x3F4C422A#32)) (addf (broadcast S128x128 (Scalar.ofBits .f32 0x3F800000#32))
          (mulf (mulf (broadcast S128x128 (Named.named κ "gelu_cubic_slope" 0x3E095D4F#32)) x) x)))))) bitsLt_bf16_f32

variable {P D Vn A : ℕ → ℕ → ℝ} {W : ℕ → ℕ → ℝ}

theorem block_v {φ : FTy} {o p : ℕ} (ho : o + 128 ≤ 512) (hp : p + 128 ≤ 512) (h : S512x512.Slices ![o, p] S128x128) {v : FVec Ideal S512x512 φ} (hv : Is2 (n := 512) (m := 512) v A) :
    Is2 (n := 128) (m := 128) (extractStridedSlice S128x128 ![o, p] v h) (fun r k => A (o + r) (p + k)) := by
  intro r k
  pointwise
  exact hv ⟨o + r.val, by omega⟩ ⟨p + k.val, by omega⟩

theorem zzP_v {o p : ℕ} (ho : o + 128 ≤ 512) (hq : p + 128 ≤ 512) (h : S512x512.Slices ![o, p] S128x128) {w : FVec Ideal S128x128 .bf16} {b : Vec Ideal S128x1 .f32} {pu th d : FVec Ideal S512x512 .f32}
    {vn : FVec Ideal S512x512 .bf16} {B : ℕ → ℝ} (hw : Is2 (n := 128) (m := 128) w W) (hb : Is2 (n := 128) (m := 1) b fun r _ => B r)
    (hp : Is2 (n := 512) (m := 512) pu P) (ht : Is2 (n := 512) (m := 512) th fun r k => Cert.Mix.th (P r k)) (hd : Is2 (n := 512) (m := 512) d D)
    (hv : Is2 (n := 512) (m := 512) vn Vn) :
    Is2 (n := 128) (m := 128) (zzP o p h w b pu th d vn)
      (fun r k => D (o + r) (p + k) * (∑ j : Fin 128, W r j * Vn (o + j) (p + k) + B r) * gelD (P (o + r) (p + k))) := by
  have h1 := block_v ho hq h hp
  have h2 := block_v ho hq h ht
  have h3 := block_v ho hq h hd
  have h4 := block_v ho hq h hv
  unfold zzP
  generalize extractStridedSlice S128x128 ![o, p] pu h = x at h1 ⊢
  generalize extractStridedSlice S128x128 ![o, p] th h = y at h2 ⊢
  generalize extractStridedSlice S128x128 ![o, p] d h = z at h3 ⊢
  generalize extractStridedSlice S128x128 ![o, p] vn h = u at h4 ⊢
  intro r k
  dsimp only
  pointwise
  simp only [h1.eq, h2.eq, h3.eq, h4.eq, hw.eq, hb.eq, Lift.lit_half, lit_c0, named_c3, ← EReal.coe_mul, ← EReal.coe_add, ← EReal.coe_sub, Lift.sum_coe, ← EReal.coe_one]
  rfl

section
variable (m : (ℓ : Loc nD τ sig) → Buf (Elt Ideal) ℓ)

theorem idx_17 : ∀ t : Fin cfg0.N, win0_17.index t 0 = 0 ∧ win0_17.index t 1 = 0 :=
  (by decide +kernel : ∀ t : Fin grid0.N, win0_17.index t 0 = 0 ∧ win0_17.index t 1 = 0)

theorem V9 (c : Dev nD) : V m c main_v9 = transpose S128x4 [1, 0] (m ((c : Thread nD τ).loc main_arg10) : FVec Ideal S4x128 .f32) transposes_S4x128_S128x4_1_0 := by
  show StableHlo.after _ _ (Proc.devRef .tc main_v9) = _
  after_reads_simp <;> rfl

/-- A head's bias, as a tile loads it. -/
def rdBias (c : Dev nD) (t : Fin cfg0.N) (g : ℕ) (h : ∀ a, (![0, g] : Fin 2 → ℕ) a + S128x1.size a ≤ S128x4.size a) : Vec Ideal S128x1 .f32 :=
  View.readAt (Elt Ideal) (ms0_17 t).view (Rect.unit (s := S128x4) ![0, g] S128x1.size h).toLoadRect ((hs0_17 t).unread (iblk m c 17 t))
/-- The slope's argument and gelu's inner tanh of the gate's first half. -/
def tPu (c : Dev nD) (t : Fin cfg0.N) : FVec Ideal S512x512 .f32 := k0_pay181 (rdU m c t)
def tTh (c : Dev nD) (t : Fin cfg0.N) : FVec Ideal S512x512 .f32 := k0_pay183 (rdU m c t)
/-- The heads' mixing matrices as a tile masks them. -/
def tW0 (c : Dev nD) (t : Fin cfg0.N) : FVec Ideal S128x128 .bf16 := k0_pay200 k0_pay194 k0_pay195 k0_pay196 k0_pay197 k0_pay198 (rdW0 m c t)
def tW1 (c : Dev nD) (t : Fin cfg0.N) : FVec Ideal S128x128 .bf16 := k0_pay224 mask (rdW1 m c t)
def tW2 (c : Dev nD) (t : Fin cfg0.N) : FVec Ideal S128x128 .bf16 := k0_pay269 mask (rdW2 m c t)
def tW3 (c : Dev nD) (t : Fin cfg0.N) : FVec Ideal S128x128 .bf16 := k0_pay298 mask (rdW3 m c t)
/-- A block of the gate's first half's gradient. -/
def tZ (c : Dev nD) (t : Fin cfg0.N) (w : FVec Ideal S128x128 .bf16) (g o p : ℕ) (h : S512x512.Slices ![o, p] S128x128)
    (h' : ∀ a, (![0, g] : Fin 2 → ℕ) a + S128x1.size a ≤ S128x4.size a) : FVec Ideal S128x128 .bf16 :=
  zzP o p h w (rdBias m c t g h') (tPu m c t) (tTh m c t) (k0_pay191 (rdD m c t)) (tVn m c t)
/-- The gradient of the gate's second half. -/
def tPv (c : Dev nD) (t : Fin cfg0.N) : FVec Ideal S512x512 .bf16 :=
  k0_pay1 (k0_pay182 (rdV m c t)) (k0_pay186 (k0_pay182 (rdV m c t))) (k0_pay188 (k0_pay182 (rdV m c t))) (k0_pay189 (k0_pay182 (rdV m c t)))
    (k0_pay333 (tDn m c t) (rdG m c t)) (k0_pay334 (k0_pay189 (k0_pay182 (rdV m c t))) (tDn m c t) (rdG m c t))
end

/-- The gradient of the gate's halves: of the first, the mixed rows times the result's gradient; of the second, through the normalisation. -/
def dpu (P D G B : ℕ → ℕ → ℝ) (W : ℕ → ℕ → ℕ → ℝ) (C : ℕ → ℕ → ℝ) (r k : ℕ) : ℝ :=
  D r (1536 + k) * (∑ j : Fin 128, wm (W (k / 128)) (r % 128) j * nG P G B (128 * (r / 128) + j) k + C (k / 128) (r % 128)) * gelD (P r (3072 + k))
def dpv (P D G : ℕ → ℕ → ℝ) (W : ℕ → ℕ → ℕ → ℝ) (r k : ℕ) : ℝ :=
  lnB (gV P) (fun r k => dvT W (zG P D) r k * G 0 k) r k * gelD (P r (3584 + k))

section
variable {m : (ℓ : Loc nD τ sig) → Buf (Elt Ideal) ℓ} {c : Dev nD} {t : Fin cfg0.N} {G B C : ℕ → ℕ → ℝ} {W3 : ℕ → ℕ → ℕ → ℝ}

theorem rdBias_v (hC : Is2 (n := 4) (m := 128) (m ((c : Thread nD τ).loc main_arg10)) C) (g : ℕ) (hg : g < 4) (h) :
    Is2 (n := 128) (m := 1) (rdBias m c t g h) (fun r _ => C g r) := by
  intro r k
  unfold rdBias
  rw [View.readAt_eq_ld, (hs0_17 t).read_unread]
  refine Eq.trans (b := V m c main_v9 (ix2 r ⟨g, hg⟩)) ?_ ?_
  · show (iblk m c 17 t : Vec Ideal S128x4 .f32) _ = _
    unfold iblk
    rw [View.read_apply]
    show V m c main_v9 _ = _
    congr 1
    funext b
    apply Fin.ext
    match b with
    | ⟨0, _⟩ => show win0_17.index t 0 * 128 + 1 * (0 + 1 * r.val) = r.val; rw [(idx_17 t).1]; omega
    | ⟨1, _⟩ => show win0_17.index t 1 * 4 + 1 * (g + 1 * k.val) = g; rw [(idx_17 t).2]; omega
  · rw [V9]
    pointwise
    exact hC ⟨g, hg⟩ r

variable (hP : Is2 (n := 512) (m := 4096) (iblk m c 1 t) P) (hD : Is2 (n := 512) (m := 2048) (iblk m c 4 t) D)
include hP

theorem tPu_v : Is2 (n := 512) (m := 512) (tPu m c t) (fun r k => P r (3072 + k)) := by
  intro r k; unfold tPu; pointwise [k0_pay181]; rw [(rdU_v hP).eq]
theorem tTh_v : Is2 (n := 512) (m := 512) (tTh m c t) (fun r k => Cert.Mix.th (P r (3072 + k))) := by
  have h := tPu_v hP
  unfold tPu at h
  intro r k
  unfold tTh
  pointwise [k0_pay183]
  simp only [h.eq, lit_c0, named_c1, ← EReal.coe_mul, ← EReal.coe_add, tanh_coe]
  rfl

include hD
theorem tZ_v (hG : Is2 (n := 1) (m := 512) (iblk m c 14 t) G) (hB : Is2 (n := 1) (m := 512) (iblk m c 15 t) B)
    (hC : Is2 (n := 4) (m := 128) (m ((c : Thread nD τ).loc main_arg10)) C) (g b : ℕ) (hg : g < 4) (hb : b < 4) {w : FVec Ideal S128x128 .bf16}
    (hw : Is2 (n := 128) (m := 128) w (wm (W3 g))) (h h') :
    Is2 (n := 128) (m := 128) (tZ m c t w g (128 * b) (128 * g) h h') (fun r k => dpu P D G B W3 C (128 * b + r) (128 * g + k)) := by
  have hd : Is2 (n := 512) (m := 512) (k0_pay191 (F := Ideal) (rdD m c t)) (fun r k => D r (1536 + k)) := by
    intro r k; pointwise [k0_pay191]; rw [(rdD_v hD).eq]
  exact (zzP_v (by omega) (by omega) h hw (rdBias_v hC g hg h') (tPu_v hP) (tTh_v hP) hd (tVn_v hP hG hB)).congr fun r k => by
    unfold dpu
    rw [show (128 * g + k.val) / 128 = g by omega, show (128 * b + r.val) / 128 = b by omega, show (128 * b + r.val) % 128 = r.val by omega]

theorem tPv_v (hG : Is2 (n := 1) (m := 512) (iblk m c 14 t) G) (hW : Is3 (a := 4) (n := 128) (m := 128) (iblk m c 16 t) W3) :
    Is2 (n := 512) (m := 512) (tPv m c t) (dpv P D G W3) :=
  dpv_v (half_v hP) (tDn_v hP hD hW) (rdG_v hG)
end

end Cert.MixIdeal.Hand

end

end
-- ==== Proof.MixDpTile.lean ====
/- The projection's gradient on one tile, its columns group by group. -/
module

public import proofs.«01_k».proof.Proof.MixDpPool
public import proofs.«01_k».proof.Proof.MixDpConv
public import proofs.«01_k».proof.Proof.MixDpSgu
public import proofs.«01_k».proof.Proof.MixSguFinal
public import proofs.«01_k».proof.Proof.MixPoolFinal

@[expose] public section

set_option maxRecDepth 16384
set_option maxHeartbeats 1000000

noncomputable section

namespace Cert.MixIdeal.Hand

open Cert.MixIdeal Cert.MixIdeal.Gen Cert.Mix Idealize.ShloMosaic Idealize.ShloMosaic.TcCoe Idealize.SL.Sem

section
variable (m : (ℓ : Loc nD τ sig) → Buf (Elt Ideal) ℓ)

/-- The short convolution's three groups of columns. -/
def tQd (c : Dev nD) (t : Fin cfg0.N) : FVec Ideal S576x512 .f32 :=
  k0_pay82 (k0_pay79 (tDc m c t) (rdSw m c t 2 (by decide +kernel)) (rdSw m c t 1 (by decide +kernel))) (k0_pay80 (rdSw m c t 0 (by decide +kernel))) (k0_pay81 (tDc m c t))
def ownP (a b : FVec Ideal S576x512 .f32) : FVec Ideal S512x512 .bf16 :=
  truncf (F := Ideal) .bf16 (extractStridedSlice S512x512 ![32, 0] (mulf (F := Ideal) (φ := .f32) a b) slices_S576x512_o32_0_S512x512) bitsLt_bf16_f32
def tS0 (c : Dev nD) (t : Fin cfg0.N) := ownP (tQd m c t) (k0_pay66 (rdEc m c t 1536 (by decide +kernel)))
def tS1 (c : Dev nD) (t : Fin cfg0.N) := ownP (k0_pay71 (rdFc m c t 512 (by decide +kernel)))
  (k0_pay70 (rdEc m c t 512 (by decide +kernel)) (rdEc m c t 1536 (by decide +kernel)) (rdSw m c t 2 (by decide +kernel)) (rdSw m c t 1 (by decide +kernel)) (rdSw m c t 0 (by decide +kernel)))
def tS2 (c : Dev nD) (t : Fin cfg0.N) := ownP (tQd m c t) (k0_pay65 (rdEc m c t 512 (by decide +kernel)))
/-- The long convolution's two groups of columns. -/
def tL0 (c : Dev nD) (t : Fin cfg0.N) : FVec Ideal S512x512 .bf16 := k0_pay179 (k0_pay87 (rdYb m c t)) (accY m c t 29) (dzAt m c t 30) (rdLw m c t 30)
def tL1 (c : Dev nD) (t : Fin cfg0.N) : FVec Ideal S512x512 .bf16 := k0_pay180 (k0_pay86 (rdYa m c t)) (k0_pay87 (rdYb m c t)) (accY m c t 29) (dzAt m c t 30) (rdLw m c t 30)

/-- What a tile writes of the projection's gradient, the last written first. -/
def dpL (c : Dev nD) (t : Fin cfg0.N) : List (View.Piece (Elt Ideal) S512x4096 .bf16) :=
  [⟨Rect.unit (s := S512x4096) ![0, 3584] S512x512.size (by decide +kernel), tPv m c t⟩,
    ⟨Rect.unit (s := S512x4096) ![384, 3456] S128x128.size (by decide +kernel), tZ m c t (tW3 m c t) 3 384 384 slices_S512x512_o384_384_S128x128 (by decide +kernel)⟩,
    ⟨Rect.unit (s := S512x4096) ![256, 3456] S128x128.size (by decide +kernel), tZ m c t (tW3 m c t) 3 256 384 slices_S512x512_o256_384_S128x128 (by decide +kernel)⟩,
    ⟨Rect.unit (s := S512x4096) ![128, 3456] S128x128.size (by decide +kernel), tZ m c t (tW3 m c t) 3 128 384 slices_S512x512_o128_384_S128x128 (by decide +kernel)⟩,
    ⟨Rect.unit (s := S512x4096) ![0, 3456] S128x128.size (by decide +kernel), tZ m c t (tW3 m c t) 3 0 384 slices_S512x512_o0_384_S128x128 (by decide +kernel)⟩,
    ⟨Rect.unit (s := S512x4096) ![384, 3328] S128x128.size (by decide +kernel), tZ m c t (tW2 m c t) 2 384 256 slices_S512x512_o384_256_S128x128 (by decide +kernel)⟩,
    ⟨Rect.unit (s := S512x4096) ![256, 3328] S128x128.size (by decide +kernel), tZ m c t (tW2 m c t) 2 256 256 slices_S512x512_o256_256_S128x128 (by decide +kernel)⟩,
    ⟨Rect.unit (s := S512x4096) ![128, 3328] S128x128.size (by decide +kernel), tZ m c t (tW2 m c t) 2 128 256 slices_S512x512_o128_256_S128x128 (by decide +kernel)⟩,
    ⟨Rect.unit (s := S512x4096) ![0, 3328] S128x128.size (by decide +kernel), tZ m c t (tW2 m c t) 2 0 256 slices_S512x512_o0_256_S128x128 (by decide +kernel)⟩,
    ⟨Rect.unit (s := S512x4096) ![384, 3200] S128x128.size (by decide +kernel), tZ m c t (tW1 m c t) 1 384 128 slices_S512x512_o384_128_S128x128 (by decide +kernel)⟩,
    ⟨Rect.unit (s := S512x4096) ![256, 3200] S128x128.size (by decide +kernel), tZ m c t (tW1 m c t) 1 256 128 slices_S512x512_o256_128_S128x128 (by decide +kernel)⟩,
    ⟨Rect.unit (s := S512x4096) ![128, 3200] S128x128.size (by decide +kernel), tZ m c t (tW1 m c t) 1 128 128 slices_S512x512_o128_128_S128x128 (by decide +kernel)⟩,
    ⟨Rect.unit (s := S512x4096) ![0, 3200] S128x128.size (by decide +kernel), tZ m c t (tW1 m c t) 1 0 128 slices_S512x512_o0_128_S128x128 (by decide +kernel)⟩,
    ⟨Rect.unit (s := S512x4096) ![384, 3072] S128x128.size (by decide +kernel), tZ m c t (tW0 m c t) 0 384 0 slices_S512x512_o384_0_S128x128 (by decide +kernel)⟩,
    ⟨Rect.unit (s := S512x4096) ![256, 3072] S128x128.size (by decide +kernel), tZ m c t (tW0 m c t) 0 256 0 slices_S512x512_o256_0_S128x128 (by decide +kernel)⟩,
    ⟨Rect.unit (s := S512x4096) ![128, 3072] S128x128.size (by decide +kernel), tZ m c t (tW0 m c t) 0 128 0 slices_S512x512_o128_0_S128x128 (by decide +kernel)⟩,
    ⟨Rect.unit (s := S512x4096) ![0, 3072] S128x128.size (by decide +kernel), tZ m c t (tW0 m c t) 0 0 0 slices_S512x512_o0_0_S128x128 (by decide +kernel)⟩,
    ⟨Rect.unit (s := S512x4096) ![0, 2560] S512x512.size (by decide +kernel), tL1 m c t⟩,
    ⟨Rect.unit (s := S512x4096) ![0, 2048] S512x512.size (by decide +kernel), tL0 m c t⟩,
    ⟨Rect.unit (s := S512x4096) ![0, 1536] S512x512.size (by decide +kernel), tS2 m c t⟩,
    ⟨Rect.unit (s := S512x4096) ![0, 1024] S512x512.size (by decide +kernel), tS1 m c t⟩,
    ⟨Rect.unit (s := S512x4096) ![0, 512] S512x512.size (by decide +kernel), tS0 m c t⟩,
    ⟨Rect.unit (s := S512x4096) ![0, 384] S512x128.size (by decide +kernel), tB3 m c t⟩,
    ⟨Rect.unit (s := S512x4096) ![0, 256] S512x128.size (by decide +kernel), tB2 m c t⟩,
    ⟨Rect.unit (s := S512x4096) ![0, 128] S512x128.size (by decide +kernel), tB1 m c t⟩,
    ⟨Rect.unit (s := S512x4096) ![0, 0] S512x128.size (by decide +kernel), tB0 m c t⟩]

variable {m} {c : Dev nD} {t : Fin cfg0.N}

theorem w18_A (ha : t.val % 8 = 0) (hb : ¬1 ≤ t.val) : (outsAt0 m c t.val t.isLt).1 = View.canon (Val := Elt Ideal) (dpL m c t) := by
  rw [outsAt0_A m c t ha ha hb ha hb ha hb ha hb ha hb ha hb ha hb ha hb ha hb ha hb ha hb ha hb ha hb ha hb ha hb ha hb ha hb ha hb ha hb ha hb]
  dsimp only
  unfold out0_A_18
  rw [View.read_writes_eq_canon]
  swap; · exact fun _ => cover0_A_18 ..
  unfold kernelRun0_A
  dsimp only
  sl_unfold_words
  rfl

theorem w18_B (ha : ¬t.val % 8 = 0) (hb : 1 ≤ t.val) : (outsAt0 m c t.val t.isLt).1 = View.canon (Val := Elt Ideal) (dpL m c t) := by
  rw [outsAt0_B m c t ha ha hb ha hb ha hb ha hb ha hb ha hb ha hb ha hb ha hb ha hb ha hb ha hb ha hb ha hb ha hb ha hb ha hb ha hb ha hb ha hb]
  dsimp only
  unfold out0_B_18
  rw [View.read_writes_eq_canon]
  swap; · exact fun _ => cover0_B_18 ..
  unfold kernelRun0_B
  dsimp only
  sl_unfold_words
  rfl
end

end Cert.MixIdeal.Hand

end

end
-- ==== Proof.MixDpFinal.lean ====
/- The projection's gradient as the kernel leaves it: its own columns tile by tile, the other columns as they came. -/
module

public import proofs.«01_k».proof.Proof.MixDpTile
public import proofs.«01_k».proof.Proof.MixConvFinal

@[expose] public section

set_option maxRecDepth 16384
set_option maxHeartbeats 1000000

noncomputable section

namespace Cert.MixIdeal.Hand

open Cert.MixIdeal Cert.MixIdeal.Gen Cert.Mix Idealize.ShloMosaic Idealize.ShloMosaic.TcCoe Idealize.SL.Sem

section
variable {m : (ℓ : Loc nD τ sig) → Buf (Elt Ideal) ℓ} {c : Dev nD} {t : Fin cfg0.N}

/-- The real arrays that the projection's gradient depends on. -/
structure DpIn where
  X : ℕ → ℕ → ℝ
  Y : ℕ → ℕ → ℝ
  PW : ℕ → ℕ → ℕ → ℝ
  PS : ℕ → ℝ
  SW : ℕ → ℕ → ℝ
  CW : ℕ → ℕ → ℝ
  CG : ℕ → ℝ
  CB : ℕ → ℝ
  G : ℕ → ℝ
  B : ℕ → ℝ
  W : ℕ → ℕ → ℕ → ℝ
  SB : ℕ → ℕ → ℝ

/-- The projection's gradient: the pooled columns, the short convolution's three groups, the long convolution's two, the gate's two halves. -/
def dpK (q : DpIn) (n k : ℕ) : ℝ :=
  if k < 512 then dpA q.Y q.PS q.PW (n + 32) k
  else if k < 1024 then dqF q.X q.Y q.SW (n + 32) (k - 512) * padR q.X (n + 32) (1536 + (k - 512))
  else if k < 1536 then padR q.Y (n + 32) (512 + (k - 1024)) * cvF q.X q.SW (n + 32) (k - 1024)
  else if k < 2048 then dqF q.X q.Y q.SW (n + 32) (k - 1536) * padR q.X (n + 32) (512 + (k - 1536))
  else if k < 2560 then dygT q.X q.CW q.Y q.CG q.CB n (k - 2048) 30 * sg (q.X n (2560 + (k - 2048)))
  else if k < 3072 then dygT q.X q.CW q.Y q.CG q.CB n (k - 2560) 30 * q.X n (2048 + (k - 2560)) * sg (q.X n (2560 + (k - 2560))) * (1 - sg (q.X n (2560 + (k - 2560))))
  else if k < 3584 then dpu q.X q.Y (fun _ => q.G) (fun _ => q.B) q.W q.SB n (k - 3072)
  else dpv q.X q.Y (fun _ => q.G) q.W n (k - 3584)

/-- A block of a tile of the result at one of its numbers. -/
theorem at_blk {a b o p : ℕ} {v : (⟨2, ![a, b]⟩ : Shape).Idx → EReal} {f F : ℕ → ℕ → ℝ} (hv : Is2 (n := a) (m := b) v f) (hf : ∀ r k, r < a → k < b → f r k = F (o + r) (p + k))
    (x : (⟨2, ![a, b]⟩ : Shape).Idx) {i j : ℕ} (hi : i = o + (x 0).val) (hj : j = p + (x 1).val) : v x = ((F i j : ℝ) : EReal) := by
  have e := hv (x 0) (x 1)
  rw [← eq_ix2] at e
  rw [e, hi, hj]
  exact congrArg _ (hf _ _ (x 0).isLt (x 1).isLt)

variable {q : DpIn}
variable (hX : ∀ (r : Fin 4096) (k : Fin 8192), argP m c (ix3 0 r k) = ((q.X r k : ℝ) : EReal))
  (hY : ∀ (r : Fin 4096) (b : Fin 4) (k : Fin 512), argY m c (ix4 0 r b k) = ((q.Y r (512 * b + k) : ℝ) : EReal))
  (hM : Is3 (a := 4) (n := 128) (m := 128) (iblk m c 8 t) q.PW) (hS : Is2 (n := 1) (m := 512) (iblk m c 9 t) fun _ => q.PS)
  (hSW : Is2 (n := 3) (m := 512) (m ((c : Thread nD τ).loc main_arg3)) q.SW)
  (hC : Is2 (n := 31) (m := 512) (m ((c : Thread nD τ).loc main_arg4)) q.CW)
  (hG : ∀ k : Fin 512, (m ((c : Thread nD τ).loc main_arg5) : FVec Ideal S512 .f32) (ix1 k) = ((q.CG k : ℝ) : EReal))
  (hB : ∀ k : Fin 512, (m ((c : Thread nD τ).loc main_arg6) : FVec Ideal S512 .f32) (ix1 k) = ((q.CB k : ℝ) : EReal))
  (hP : Is2 (n := 512) (m := 4096) (iblk m c 1 t) (fun r k => q.X (512 * t + r) k)) (hD : Is2 (n := 512) (m := 2048) (iblk m c 4 t) (fun r k => q.Y (512 * t + r) k))
  (hLG : Is2 (n := 1) (m := 512) (iblk m c 14 t) fun _ => q.G) (hLB : Is2 (n := 1) (m := 512) (iblk m c 15 t) fun _ => q.B)
  (hGW : Is3 (a := 4) (n := 128) (m := 128) (iblk m c 16 t) q.W) (hGB : Is2 (n := 4) (m := 128) (m ((c : Thread nD τ).loc main_arg10)) q.SB)

section
include hX hY hSW
theorem tQd_v : On 32 544 (m := 512) (tQd m c t) (fun e k => dqF q.X q.Y q.SW (512 * t + e) k) :=
  dq_on (rdSw_v hSW 0 (by omega) _) (rdSw_v hSW 1 (by omega) _) (rdSw_v hSW 2 (by omega) _) (tDc_v hX hY t)
omit hX hY hSW in
theorem own_row {f : ℕ → ℕ → ℝ} {g : ℕ → ℕ → ℝ} {a b : FVec Ideal S576x512 .f32} (ha : On 32 544 (m := 512) a fun e k => f (512 * t + e) k)
    (hb : On 32 544 (m := 512) b fun e k => g (512 * t + e) k) : Is2 (n := 512) (m := 512) (ownP a b) (fun r k => f (512 * t + r + 32) k * g (512 * t + r + 32) k) :=
  (own_mul ha hb).congr fun r k => by beta_reduce; rw [show 512 * t.val + (32 + r.val) = 512 * t.val + r.val + 32 by omega]
theorem tS0_v : Is2 (n := 512) (m := 512) (tS0 m c t) (fun r k => dqF q.X q.Y q.SW (512 * t + r + 32) k * padR q.X (512 * t + r + 32) (1536 + k)) :=
  own_row (tQd_v hX hY hSW) (g := fun n k => padR q.X n (1536 + k)) (fun r k ha hb => by
    pointwise [k0_pay66]; exact load_v (P := 4096) (o := 1536) (by omega) (scE_v m hX t) r k (Nat.zero_le _) (by omega))
theorem tS2_v : Is2 (n := 512) (m := 512) (tS2 m c t) (fun r k => dqF q.X q.Y q.SW (512 * t + r + 32) k * padR q.X (512 * t + r + 32) (512 + k)) :=
  own_row (tQd_v hX hY hSW) (g := fun n k => padR q.X n (512 + k)) (fun r k ha hb => by
    pointwise [k0_pay65]; exact load_v (P := 4096) (o := 512) (by omega) (scE_v m hX t) r k (Nat.zero_le _) (by omega))
theorem tS1_v : Is2 (n := 512) (m := 512) (tS1 m c t) (fun r k => padR q.Y (512 * t + r + 32) (512 + k) * cvF q.X q.SW (512 * t + r + 32) k) :=
  own_row (f := fun n k => padR q.Y n (512 + k)) (fun r k ha hb => by
      pointwise [k0_pay71]; exact load_v (P := 2048) (o := 512) (by omega) (scF_v m hY t) r k ha (by omega))
    (fun r k ha hb => (cv_on (rdSw_v hSW 0 (by omega) _) (rdSw_v hSW 1 (by omega) _) (rdSw_v hSW 2 (by omega) _) (tQ_v hX t) r k ha (by omega)).trans (by
      unfold cvF
      beta_reduce
      rw [show 512 * t.val + (r.val - 1) = 512 * t.val + r.val - 1 by omega, show 512 * t.val + (r.val - 2) = 512 * t.val + r.val - 2 by omega]))
end

section
include hX hY hC hG hB
theorem tL_v : Is2 (n := 512) (m := 512) (tL0 m c t) (fun r k => dygT q.X q.CW q.Y q.CG q.CB (512 * t + r) k 30 * sg (q.X (512 * t + r) (2560 + k)))
    ∧ Is2 (n := 512) (m := 512) (tL1 m c t) (fun r k => dygT q.X q.CW q.Y q.CG q.CB (512 * t + r) k 30 * q.X (512 * t + r) (2048 + k) * sg (q.X (512 * t + r) (2560 + k)) * (1 - sg (q.X (512 * t + r) (2560 + k)))) :=
  dya_v (rdYa_v m hX t) (rdYb_v m hX t) (accY_v hX hY hC hG hB 30 (by omega))
end

section
theorem dpK_pool {t : Fin cfg0.N} {q : DpIn} (g : ℕ) (hg : g < 4) : ∀ r k, r < 512 → k < 128 → dpA q.Y q.PS q.PW (512 * t.val + r + 32) (128 * g + k) = dpK q (512 * t.val + (0 + r)) (128 * g + k) := by
  intro r k _ hk
  unfold dpK
  rw [if_pos (by omega), Nat.zero_add]
theorem dpK_s0 {t : Fin cfg0.N} {q : DpIn} : ∀ r k, r < 512 → k < 512 → dqF q.X q.Y q.SW (512 * t.val + r + 32) k * padR q.X (512 * t.val + r + 32) (1536 + k) = dpK q (512 * t.val + (0 + r)) (512 + k) := by
  intro r k _ hk
  unfold dpK
  rw [if_neg (by omega), if_pos (by omega), Nat.zero_add, Nat.add_sub_cancel_left]
theorem dpK_s1 {t : Fin cfg0.N} {q : DpIn} : ∀ r k, r < 512 → k < 512 → padR q.Y (512 * t.val + r + 32) (512 + k) * cvF q.X q.SW (512 * t.val + r + 32) k = dpK q (512 * t.val + (0 + r)) (1024 + k) := by
  intro r k _ hk
  unfold dpK
  rw [if_neg (by omega), if_neg (by omega), if_pos (by omega), Nat.zero_add, Nat.add_sub_cancel_left]
theorem dpK_s2 {t : Fin cfg0.N} {q : DpIn} : ∀ r k, r < 512 → k < 512 → dqF q.X q.Y q.SW (512 * t.val + r + 32) k * padR q.X (512 * t.val + r + 32) (512 + k) = dpK q (512 * t.val + (0 + r)) (1536 + k) := by
  intro r k _ hk
  unfold dpK
  rw [if_neg (by omega), if_neg (by omega), if_neg (by omega), if_pos (by omega), Nat.zero_add, Nat.add_sub_cancel_left]
theorem dpK_l0 {t : Fin cfg0.N} {q : DpIn} : ∀ r k, r < 512 → k < 512 → dygT q.X q.CW q.Y q.CG q.CB (512 * t.val + r) k 30 * sg (q.X (512 * t.val + r) (2560 + k)) = dpK q (512 * t.val + (0 + r)) (2048 + k) := by
  intro r k _ hk
  unfold dpK
  rw [if_neg (by omega), if_neg (by omega), if_neg (by omega), if_neg (by omega), if_pos (by omega), Nat.zero_add, Nat.add_sub_cancel_left]
theorem dpK_l1 {t : Fin cfg0.N} {q : DpIn} : ∀ r k, r < 512 → k < 512 → dygT q.X q.CW q.Y q.CG q.CB (512 * t.val + r) k 30 * q.X (512 * t.val + r) (2048 + k) * sg (q.X (512 * t.val + r) (2560 + k)) * (1 - sg (q.X (512 * t.val + r) (2560 + k))) = dpK q (512 * t.val + (0 + r)) (2560 + k) := by
  intro r k _ hk
  unfold dpK
  rw [if_neg (by omega), if_neg (by omega), if_neg (by omega), if_neg (by omega), if_neg (by omega), if_pos (by omega), Nat.zero_add, Nat.add_sub_cancel_left]
/-- The gate's factor of a tile, in rows of the whole array. -/
theorem dpK_u {t : Fin cfg0.N} {q : DpIn} (g b : ℕ) (hg : g < 4) (hb : b < 4) : ∀ r k, r < 128 → k < 128 →
    dpu (fun r k => q.X (512 * t.val + r) k) (fun r k => q.Y (512 * t.val + r) k) (fun _ => q.G) (fun _ => q.B) q.W q.SB (128 * b + r) (128 * g + k)
      = dpK q (512 * t.val + (128 * b + r)) (3072 + 128 * g + k) := by
  intro r k hr hk
  unfold dpK
  rw [if_neg (by omega), if_neg (by omega), if_neg (by omega), if_neg (by omega), if_neg (by omega), if_neg (by omega), if_pos (by omega),
    show 3072 + 128 * g + k - 3072 = 128 * g + k by omega]
  unfold dpu
  rw [show (512 * t.val + (128 * b + r)) % 128 = (128 * b + r) % 128 by omega, show (512 * t.val + (128 * b + r)) / 128 = 4 * t.val + (128 * b + r) / 128 by omega]
  refine congrArg₂ _ (congrArg₂ _ rfl (congrArg₂ _ (Finset.sum_congr rfl fun j _ => congrArg₂ _ rfl ?_) rfl)) rfl
  rw [show 128 * (4 * t.val + (128 * b + r) / 128) = 512 * t.val + 128 * ((128 * b + r) / 128) by omega, Nat.add_assoc]
  rfl
/-- The layer norm's gradient at a row depends on that row alone. -/
theorem lnB_row {f d f' d' : ℕ → ℕ → ℝ} {r r' k : ℕ} (hf : f r = f' r') (hd : d r = d' r') : lnB f d r k = lnB f' d' r' k := by
  have e : nrm f r = nrm f' r' := by funext j; unfold nrm; unfold cen; unfold rs; unfold vr; unfold cen; unfold mu; simp only [hf]
  have e1 : rs f r = rs f' r' := by unfold rs; unfold vr; unfold cen; unfold mu; simp only [hf]
  unfold lnB
  rw [e, e1, hd]
  unfold mu
  simp only [e, hd]
theorem dpK_v {t : Fin cfg0.N} {q : DpIn} : ∀ r k, r < 512 → k < 512 →
    dpv (fun r k => q.X (512 * t.val + r) k) (fun r k => q.Y (512 * t.val + r) k) (fun _ => q.G) q.W r k = dpK q (512 * t.val + (0 + r)) (3584 + k) := by
  intro r k hr hk
  unfold dpK
  rw [if_neg (by omega), if_neg (by omega), if_neg (by omega), if_neg (by omega), if_neg (by omega), if_neg (by omega), if_neg (by omega), Nat.zero_add, Nat.add_sub_cancel_left]
  refine congrArg (· * _) (lnB_row rfl (funext fun k => ?_))
  exact congrArg (· * q.G k) (dvT_tile q.W (zG q.X q.Y) t.val r k)
end

section
include hX hY hM hS hSW hC hG hB hP hD hLG hLB hGW hGB
/-- A tile of the projection's gradient, number by number. -/
theorem dpL_v : Is2 (n := 512) (m := 4096) (View.canon (dpL m c t)) (fun r k => dpK q (512 * t + r) k) := by
  intro h k
  unfold dpL
  canon_tiles x hx using View.cover_of_tiledBy _ ![128, 128] (by sl_kernel_rfl) _
  · exact at_blk (F := fun r k => dpK q (512 * t + r) k) (tPv_v hP hD hLG hGW) dpK_v x (hx0.trans (Nat.zero_add _).symm) hx1
  · exact at_blk (F := fun r k => dpK q (512 * t + r) k) (tZ_v hP hD hLG hLB hGB 3 3 (by omega) (by omega) (wm_3 (rdW3_v hGW)) _ _) (dpK_u 3 3 (by omega) (by omega)) x hx0 hx1
  · exact at_blk (F := fun r k => dpK q (512 * t + r) k) (tZ_v hP hD hLG hLB hGB 3 2 (by omega) (by omega) (wm_3 (rdW3_v hGW)) _ _) (dpK_u 3 2 (by omega) (by omega)) x hx0 hx1
  · exact at_blk (F := fun r k => dpK q (512 * t + r) k) (tZ_v hP hD hLG hLB hGB 3 1 (by omega) (by omega) (wm_3 (rdW3_v hGW)) _ _) (dpK_u 3 1 (by omega) (by omega)) x hx0 hx1
  · exact at_blk (F := fun r k => dpK q (512 * t + r) k) (tZ_v hP hD hLG hLB hGB 3 0 (by omega) (by omega) (wm_3 (rdW3_v hGW)) _ _) (dpK_u 3 0 (by omega) (by omega)) x (hx0.trans (Nat.zero_add _).symm) hx1
  · exact at_blk (F := fun r k => dpK q (512 * t + r) k) (tZ_v hP hD hLG hLB hGB 2 3 (by omega) (by omega) (wm_2 (rdW2_v hGW)) _ _) (dpK_u 2 3 (by omega) (by omega)) x hx0 hx1
  · exact at_blk (F := fun r k => dpK q (512 * t + r) k) (tZ_v hP hD hLG hLB hGB 2 2 (by omega) (by omega) (wm_2 (rdW2_v hGW)) _ _) (dpK_u 2 2 (by omega) (by omega)) x hx0 hx1
  · exact at_blk (F := fun r k => dpK q (512 * t + r) k) (tZ_v hP hD hLG hLB hGB 2 1 (by omega) (by omega) (wm_2 (rdW2_v hGW)) _ _) (dpK_u 2 1 (by omega) (by omega)) x hx0 hx1
  · exact at_blk (F := fun r k => dpK q (512 * t + r) k) (tZ_v hP hD hLG hLB hGB 2 0 (by omega) (by omega) (wm_2 (rdW2_v hGW)) _ _) (dpK_u 2 0 (by omega) (by omega)) x (hx0.trans (Nat.zero_add _).symm) hx1
  · exact at_blk (F := fun r k => dpK q (512 * t + r) k) (tZ_v hP hD hLG hLB hGB 1 3 (by omega) (by omega) (wm_1 (rdW1_v hGW)) _ _) (dpK_u 1 3 (by omega) (by omega)) x hx0 hx1
  · exact at_blk (F := fun r k => dpK q (512 * t + r) k) (tZ_v hP hD hLG hLB hGB 1 2 (by omega) (by omega) (wm_1 (rdW1_v hGW)) _ _) (dpK_u 1 2 (by omega) (by omega)) x hx0 hx1
  · exact at_blk (F := fun r k => dpK q (512 * t + r) k) (tZ_v hP hD hLG hLB hGB 1 1 (by omega) (by omega) (wm_1 (rdW1_v hGW)) _ _) (dpK_u 1 1 (by omega) (by omega)) x hx0 hx1
  · exact at_blk (F := fun r k => dpK q (512 * t + r) k) (tZ_v hP hD hLG hLB hGB 1 0 (by omega) (by omega) (wm_1 (rdW1_v hGW)) _ _) (dpK_u 1 0 (by omega) (by omega)) x (hx0.trans (Nat.zero_add _).symm) hx1
  · exact at_blk (F := fun r k => dpK q (512 * t + r) k) (tZ_v hP hD hLG hLB hGB 0 3 (by omega) (by omega) (wm_0 (rdW0_v hGW)) _ _) (dpK_u 0 3 (by omega) (by omega)) x hx0 hx1
  · exact at_blk (F := fun r k => dpK q (512 * t + r) k) (tZ_v hP hD hLG hLB hGB 0 2 (by omega) (by omega) (wm_0 (rdW0_v hGW)) _ _) (dpK_u 0 2 (by omega) (by omega)) x hx0 hx1
  · exact at_blk (F := fun r k => dpK q (512 * t + r) k) (tZ_v hP hD hLG hLB hGB 0 1 (by omega) (by omega) (wm_0 (rdW0_v hGW)) _ _) (dpK_u 0 1 (by omega) (by omega)) x hx0 hx1
  · exact at_blk (F := fun r k => dpK q (512 * t + r) k) (tZ_v hP hD hLG hLB hGB 0 0 (by omega) (by omega) (wm_0 (rdW0_v hGW)) _ _) (dpK_u 0 0 (by omega) (by omega)) x (hx0.trans (Nat.zero_add _).symm) hx1
  · exact at_blk (F := fun r k => dpK q (512 * t + r) k) (tL_v hX hY hC hG hB).2 dpK_l1 x (hx0.trans (Nat.zero_add _).symm) hx1
  · exact at_blk (F := fun r k => dpK q (512 * t + r) k) (tL_v hX hY hC hG hB).1 dpK_l0 x (hx0.trans (Nat.zero_add _).symm) hx1
  · exact at_blk (F := fun r k => dpK q (512 * t + r) k) (tS2_v hX hY hSW) dpK_s2 x (hx0.trans (Nat.zero_add _).symm) hx1
  · exact at_blk (F := fun r k => dpK q (512 * t + r) k) (tS1_v hX hY hSW) dpK_s1 x (hx0.trans (Nat.zero_add _).symm) hx1
  · exact at_blk (F := fun r k => dpK q (512 * t + r) k) (tS0_v hX hY hSW) dpK_s0 x (hx0.trans (Nat.zero_add _).symm) hx1
  · exact at_blk (F := fun r k => dpK q (512 * t + r) k) (tB3_v hY hS hM) (dpK_pool 3 (by omega)) x (hx0.trans (Nat.zero_add _).symm) hx1
  · exact at_blk (F := fun r k => dpK q (512 * t + r) k) (tB2_v hY hS hM) (dpK_pool 2 (by omega)) x (hx0.trans (Nat.zero_add _).symm) hx1
  · exact at_blk (F := fun r k => dpK q (512 * t + r) k) (tB1_v hY hS hM) (dpK_pool 1 (by omega)) x (hx0.trans (Nat.zero_add _).symm) hx1
  · exact at_blk (F := fun r k => dpK q (512 * t + r) k) (tB0_v hY hS hM) (dpK_pool 0 (by omega)) x (hx0.trans (Nat.zero_add _).symm) (hx1.trans (Nat.zero_add _).symm)
end

end

section
variable {m : (ℓ : Loc nD τ sig) → Buf (Elt Ideal) ℓ} {c : Dev nD}

/-- The columns the call does not compute: the other gradients it is given. -/
def argO (m : (ℓ : Loc nD τ sig) → Buf (Elt Ideal) ℓ) (c : Dev nD) : FVec Ideal S1x4096x8192 .f32 := m ((c : Thread nD τ).loc main_arg12)
theorem V248 (c : Dev nD) : V m c main_v248_0 = truncf .bf16 (shapeCast S4096x8192 (argO m c) shapeCasts_S1x4096x8192_S4096x8192) bitsLt_bf16_f32 := by
  show StableHlo.after _ _ (Proc.devRef .tc main_v248_0) = _
  after_reads_simp <;> rfl
theorem idx_18 : ∀ t : Fin cfg0.N, win0_18.index t 0 = t.val ∧ win0_18.index t 1 = 0 :=
  (by decide +kernel : ∀ t : Fin grid0.N, win0_18.index t 0 = t.val ∧ win0_18.index t 1 = 0)
/-- A number of the call's own columns is what its tile left there. -/
theorem own18 (t : Fin cfg0.N) (r : Fin 512) (k : Fin 4096) :
    ((dats m 0 c).arrAt 18 cfg0.N : Vec Ideal S4096x8192 .bf16) (ix2 (row t r) ⟨k, by have := k.isLt; omega⟩) = (outsAt0 m c t.val t.isLt).1 (ix2 r k) := by
  have hb := congrFun ((Value.blocks18 m c t (flush0_18 t)).trans (Value.flushed18 m c t)) (ix2 r k)
  rw [View.read_apply] at hb
  refine Eq.trans ?_ (hb.trans rfl)
  show (dats m 0 c).arrAt 18 cfg0.N _ = (dats m 0 c).arrAt 18 cfg0.N _
  congr 1
  funext b
  apply Fin.ext
  match b with
  | ⟨0, _⟩ => show 512 * t.val + r.val = win0_18.index t 0 * 512 + 1 * r.val; rw [(idx_18 t).1]; omega
  | ⟨1, _⟩ => show k.val = win0_18.index t 1 * 4096 + 1 * k.val; rw [(idx_18 t).2]; omega
/-- A number of the other columns is the one given. -/
theorem kernel_dp_other (i : Fin 4096) (k : Fin 8192) (hk : ¬k.val < 4096) : ((dats m 0 c).arrAt 18 cfg0.N : Vec Ideal S4096x8192 .bf16) (ix2 i k) = argO m c (ix3 0 i k) := by
  refine (Value.entry18 m c (ix2 i k) fun t _ h => ?_).trans ?_
  · obtain ⟨x, _, hx⟩ := Finset.mem_map.mp h
    have e : (ix2 (n0 := 4096) (n1 := 8192) i k 1).val = win0_18.index t 1 * 4096 + 1 * (x 1).val := by rw [← hx]; rfl
    have hx1 : (x 1).val < 4096 := (x 1).isLt
    rw [(idx_18 t).2] at e
    change k.val = _ at e
    omega
  · show V m c main_v248_0 (ix2 i k) = _
    rw [V248]
    pointwise

variable {q : DpIn}
/-- The call's own columns of the projection's gradient. -/
theorem kernel_dp (hX : ∀ (r : Fin 4096) (k : Fin 8192), argP m c (ix3 0 r k) = ((q.X r k : ℝ) : EReal))
    (hY : ∀ (r : Fin 4096) (b : Fin 4) (k : Fin 512), argY m c (ix4 0 r b k) = ((q.Y r (512 * b + k) : ℝ) : EReal))
    (hPW : Is3 (a := 4) (n := 128) (m := 128) (m ((c : Thread nD τ).loc main_arg1)) q.PW)
    (hPS : ∀ k : Fin 512, (m ((c : Thread nD τ).loc main_arg2) : FVec Ideal S512 .f32) (ix1 k) = ((q.PS k : ℝ) : EReal))
    (hSW : Is2 (n := 3) (m := 512) (m ((c : Thread nD τ).loc main_arg3)) q.SW)
    (hC : Is2 (n := 31) (m := 512) (m ((c : Thread nD τ).loc main_arg4)) q.CW)
    (hCG : ∀ k : Fin 512, (m ((c : Thread nD τ).loc main_arg5) : FVec Ideal S512 .f32) (ix1 k) = ((q.CG k : ℝ) : EReal))
    (hCB : ∀ k : Fin 512, (m ((c : Thread nD τ).loc main_arg6) : FVec Ideal S512 .f32) (ix1 k) = ((q.CB k : ℝ) : EReal))
    (hG : ∀ k : Fin 512, (m ((c : Thread nD τ).loc main_arg7) : FVec Ideal S512 .f32) (ix1 k) = ((q.G k : ℝ) : EReal))
    (hB : ∀ k : Fin 512, (m ((c : Thread nD τ).loc main_arg8) : FVec Ideal S512 .f32) (ix1 k) = ((q.B k : ℝ) : EReal))
    (hW : Is3 (a := 4) (n := 128) (m := 128) (m ((c : Thread nD τ).loc main_arg9)) q.W)
    (hSB : Is2 (n := 4) (m := 128) (m ((c : Thread nD τ).loc main_arg10)) q.SB) (i : Fin 4096) (k : Fin 8192) (hk : k.val < 4096) :
    ((dats m 0 c).arrAt 18 cfg0.N : Vec Ideal S4096x8192 .bf16) (ix2 i k) = ((dpK q i k : ℝ) : EReal) := by
  have ht : i.val / 512 < cfg0.N := by change _ < 8; have := i.isLt; omega
  have e := own18 (m := m) (c := c) ⟨i.val / 512, ht⟩ ⟨i.val % 512, by omega⟩ ⟨k.val, hk⟩
  have ei : row ⟨i.val / 512, ht⟩ ⟨i.val % 512, by omega⟩ = i := Fin.ext (by change 512 * (i.val / 512) + i.val % 512 = i.val; omega)
  rw [ei] at e
  refine e.trans ?_
  have hv := dpL_v (t := ⟨i.val / 512, ht⟩) hX hY (blk_8 hPW _) (blk_9 hPS _) hSW hC hCG hCB (blk_1 m hX _) (blk_4 m hY _) (blk_14 m hG _) (blk_15 m hB _) (blk_16 m hW _) hSB
  have hw : (outsAt0 m c (i.val / 512) ht).1 = View.canon (Val := Elt Ideal) (dpL m c ⟨i.val / 512, ht⟩) := by
    by_cases h : 1 ≤ i.val / 512
    · exact w18_B (t := ⟨i.val / 512, ht⟩) (not_mod_of h) h
    · exact w18_A (t := ⟨i.val / 512, ht⟩) (mod_of_not h) h
  refine (congrFun hw _).trans ((hv _ _).trans ?_)
  beta_reduce
  rw [show 512 * (i.val / 512) + i.val % 512 = i.val by omega]

end

end Cert.MixIdeal.Hand

end

end
-- ==== Proof.MixConvRef.lean ====
/- The reference's long convolution and its normalisation, for arguments that are real numbers. -/
module

public import proofs.«01_k».proof.Proof.MixSguRef
public import proofs.«01_k».proof.Proof.MixConvReal

@[expose] public section

set_option maxRecDepth 16384

noncomputable section

namespace Cert.Mix

/-- One over the standard deviation, divided by the variance, is its cube. -/
theorem rs_div_vr (f : ℕ → ℕ → ℝ) (r : ℕ) : rs f r / vr f r = rs f r * rs f r * rs f r := by
  have hp := vr_pos f r
  have hs : Real.sqrt (vr f r) * Real.sqrt (vr f r) = vr f r := Real.mul_self_sqrt hp.le
  have h1 : rs f r * Real.sqrt (vr f r) = 1 := inv_mul_cancel₀ (Real.sqrt_pos.mpr hp).ne'
  rw [div_eq_iff hp.ne']
  calc rs f r = rs f r * (rs f r * Real.sqrt (vr f r)) * (rs f r * Real.sqrt (vr f r)) := by rw [h1]; ring
    _ = rs f r * rs f r * rs f r * (Real.sqrt (vr f r) * Real.sqrt (vr f r)) := by ring
    _ = _ := by rw [hs]

theorem cen_sum (f : ℕ → ℕ → ℝ) (r : ℕ) : ∑ k : Fin 512, cen f r k = 0 := by
  unfold cen
  rw [Finset.sum_sub_distrib, Finset.sum_const, Finset.card_univ, Fintype.card_fin, nsmul_eq_mul]
  unfold mu
  push_cast
  ring

/-- The gradient through a normalisation, one summand for each use of the row. -/
theorem lnB_chain (f d : ℕ → ℕ → ℝ) (r k : ℕ) {S : ℝ} (hS : S = ∑ j : Fin 512, cen f r j * d r j) :
    d r k * rs f r + S * (-(1 / 2) * (rs f r / vr f r)) / 512 * (2 * cen f r k)
      + ((∑ j : Fin 512, -(d r j * rs f r)) + ∑ j : Fin 512, -(S * (-(1 / 2) * (rs f r / vr f r)) / 512 * (2 * cen f r j))) / 512 = lnB f d r k := by
  have h0 : ∑ j : Fin 512, -(S * (-(1 / 2) * (rs f r / vr f r)) / 512 * (2 * cen f r j)) = 0 := by
    rw [Finset.sum_neg_distrib, ← Finset.mul_sum, ← Finset.mul_sum, cen_sum]
    ring
  have h1 : ∑ j : Fin 512, -(d r j * rs f r) = -((∑ j : Fin 512, d r j) * rs f r) := by rw [Finset.sum_neg_distrib, Finset.sum_mul]
  have h2 : ∑ j : Fin 512, d r j * nrm f r j = S * rs f r := by
    rw [hS, Finset.sum_mul]
    exact Finset.sum_congr rfl fun j _ => by unfold nrm; ring
  rw [h0, h1, rs_div_vr]
  unfold lnB mu
  rw [h2]
  unfold nrm
  ring

end Cert.Mix

namespace Cert.MixRefIdeal.Hand

open Cert.MixRefIdeal Cert.MixRefIdeal.Gen Cert.MixRefIdeal.Value Cert.Mix Idealize.ShloMosaic Idealize.ShloMosaic.TcCoe Idealize.SL.Sem

variable (V0 : Valuation τ sig (Elt Ideal)) {X Y CW : ℕ → ℕ → ℝ} {G B : ℕ → ℝ}

/-- One row placed among zeros. -/
theorem pad_row {n j hi : ℕ} (hj : j < n) (v : S1x512.Idx → EReal) (z : S_.Idx → EReal)
    (h : S1x512.Pads (![j, 0] : Fin 2 → ℕ) ![hi, 0] ![0, 0] (⟨2, ![n, 512]⟩ : Shape)) (i : Fin n) (k : Fin 512) :
    pad (⟨2, ![n, 512]⟩ : Shape) (![j, 0] : Fin 2 → ℕ) ![hi, 0] ![0, 0] v z h h_S_ (ix2 i k) = if i.val = j then v (ix2 0 k) else z (Shape.Idx.first h_S_) := by
  unfold pad
  by_cases hij : i.val = j
  · rw [if_pos hij, dif_pos]
    · congr 1
      funext a
      apply Fin.ext
      match a with
      | ⟨0, _⟩ => show (i.val - j) / (0 + 1) = 0; omega
      | ⟨1, _⟩ => show (k.val - 0) / (0 + 1) = k.val; omega
    · intro a
      match a with
      | ⟨0, _⟩ => exact ⟨hij.ge, by show (i.val - j) % (0 + 1) = 0; omega, by show (i.val - j) / (0 + 1) < 1; omega⟩
      | ⟨1, _⟩ => exact ⟨Nat.zero_le _, by show (k.val - 0) % (0 + 1) = 0; omega, by show (k.val - 0) / (0 + 1) < 512; omega⟩
  · rw [if_neg hij, dif_neg]
    intro hx
    have h1 : j ≤ i.val := (hx 0).1
    have h2 : (i.val - j) / (0 + 1) < 1 := (hx 0).2.2
    omega

theorem add_at {s : Shape} (a b : FVec Ideal s .f32) (i : s.Idx) : addf (F := Ideal) (φ := .f32) a b i = a i + b i := rfl

/-- One row of a filter's gradient: the sum over the rows, placed among zeros. -/
theorem tap_at {n j hi M : ℕ} {d : FVec Ideal S1x4096x512 .f32} {D E : ℕ → ℕ → ℝ} (hd : IsR (n := 512) d D)
    {p : FVec Ideal (⟨3, ![1, M, 512]⟩ : Shape) .f32} (hp : ∀ (i : Fin M) (k : Fin 512), p (ix3 0 i k) = ((E i k : ℝ) : EReal))
    (hs : (⟨3, ![1, M, 512]⟩ : Shape).Slices (![0, j, 0] : Fin 3 → ℕ) S1x4096x512)
    (h : S1x512.Pads (![j, 0] : Fin 2 → ℕ) ![hi, 0] ![0, 0] (⟨2, ![n, 512]⟩ : Shape)) (i : Fin n) (k : Fin 512) :
    pad (⟨2, ![n, 512]⟩ : Shape) (![j, 0] : Fin 2 → ℕ) ![hi, 0] ![0, 0] (broadcastInDim S1x512 ![1] bcast_S512_S1x512_1 (Host.reduceAdd (F := Ideal) (φ := .f32)
      (shapeCast _ (Host.reduceAdd (F := Ideal) (φ := .f32) (mulf d (extractStridedSlice S1x4096x512 ![0, j, 0] p hs)) (constant (F := Ideal) S_ .f32 0x00000000#32) reducesTo_S1x4096x512_S1x512_d1 h_S_) shapeCasts_S1x512_S1x1x512)
      (constant (F := Ideal) S_ .f32 0x00000000#32) reducesTo_S1x1x512_S512_d0_1 h_S_)) (constant (F := Ideal) S_ .f32 0x00000000#32) h h_S_ (ix2 i k)
      = ((if i.val = j then ∑ r ∈ Finset.range 4096, D r k * E (j + r) k else 0 : ℝ) : EReal) := by
  have hj : j < n := by have := h.2 0; simp at this; omega
  have hM : j + 4096 ≤ M := by have := hs.2 1; simp at this; omega
  rw [pad_row hj]
  by_cases hij : i.val = j
  · have e (r : Fin 4096) : extractStridedSlice S1x4096x512 ![0, j, 0] p hs (ix3 0 r k) = ((E (j + r) k : ℝ) : EReal) := by
      refine Eq.trans (congrArg p (funext fun a => Fin.ext ?_)) (hp ⟨j + r.val, by omega⟩ k)
      match a with
      | ⟨0, _⟩ => rfl
      | ⟨1, _⟩ => rfl
      | ⟨2, _⟩ => show 0 + k.val = k.val; omega
    generalize extractStridedSlice S1x4096x512 ![0, j, 0] p hs = q at e ⊢
    rw [if_pos hij, if_pos hij]
    pointwise
    simp only [Cert.HostSum.sum01]
    pointwise
    simp only [Finset.univ_unique, Finset.sum_singleton, Fin.default_eq_zero, e, hd.eq, ← EReal.coe_mul, Lift.sum_coe]
    rw [EReal.coe_eq_coe_iff, Finset.sum_range]
  · rw [if_neg hij, if_neg hij]
    exact Ideal.ofBits_zero_f32.trans EReal.coe_zero.symm

section
variable (hX : IsR (n := 8192) (V0 (Proc.devRef .tc main_arg0)) X)
include hX

/-- The gated input, with thirty rows of zeros before it. -/
theorem r136 (i : Fin 4126) (k : Fin 512) : (res_main_v136 V0) (ix3 0 i k) = ((xg X i k : ℝ) : EReal) := by
  have hm (r : Fin 4096) (k : Fin 512) : mulf (F := Ideal) (φ := .f32) (res_main_v123 V0) (res_main_v130 V0) (ix3 0 r k) = ((gte X r k : ℝ) : EReal) := by
    pointwise [res_main_v123, res_main_v130, res_main_v4]
    rw [hX, hX, sg_coe, ← EReal.coe_mul]
    exact congrArg (fun j => ((X r (2048 + k) * sg (X r j) : ℝ) : EReal)) (by dsimp only; omega)
  generalize hw : mulf (F := Ideal) (φ := .f32) (res_main_v123 V0) (res_main_v130 V0) = w at hm
  unfold res_main_v136
  rw [hw]
  pointwise
  unfold xg
  by_cases h : i.val < 30
  · rw [if_pos h]
    simp only [h, dite_true]
    exact EReal.coe_zero.symm
  · rw [if_neg h]
    simp only [h, dite_false]
    exact hm _ k

variable (hC : Is2 (n := 31) (m := 512) (V0 (Proc.devRef .tc main_arg4)) CW)
include hC

theorem r355 : IsR (n := 512) (res_main_v355 V0) (convZ X CW) := by
  intro r k
  pointwise [res_main_v355, res_main_v140, res_main_v141, res_main_v148, res_main_v149, res_main_v155, res_main_v156, res_main_v162, res_main_v163, res_main_v169, res_main_v170,
    res_main_v176, res_main_v177, res_main_v183, res_main_v184, res_main_v190, res_main_v191, res_main_v197, res_main_v198, res_main_v204, res_main_v205,
    res_main_v211, res_main_v212, res_main_v218, res_main_v219, res_main_v225, res_main_v226, res_main_v232, res_main_v233, res_main_v239, res_main_v240,
    res_main_v246, res_main_v247, res_main_v253, res_main_v254, res_main_v260, res_main_v261, res_main_v267, res_main_v268, res_main_v274, res_main_v275,
    res_main_v281, res_main_v282, res_main_v288, res_main_v289, res_main_v295, res_main_v296, res_main_v302, res_main_v303, res_main_v309, res_main_v310,
    res_main_v316, res_main_v317, res_main_v323, res_main_v324, res_main_v330, res_main_v331, res_main_v337, res_main_v338, res_main_v344, res_main_v345,
    res_main_v351, res_main_v352]
  simp only [r136 V0 hX, hC.eq, ← EReal.coe_mul, ← EReal.coe_add]
  rw [EReal.coe_eq_coe_iff]
  unfold convZ
  simp only [Finset.sum_range_succ, Finset.sum_range_zero, zero_add]
  rfl

theorem r361 : IsR (n := 512) (res_main_v361 V0) (cen (convZ X CW)) := by
  intro r k
  pointwise [res_main_v361, res_main_v359]
  simp only [(r355 V0 hX hC).eq, lit_512, Lift.sum_coe, Lift.div_coe (by norm_num : (512 : ℝ) ≠ 0), ← EReal.coe_sub]
  rfl

theorem r370 : IsR (n := 512) (res_main_v370 V0) (cen (convZ X CW)) := r361 V0 hX hC

theorem r372 (r : Fin 4096) : (res_main_v372 V0) (ix3 0 r 0) = ((vr (convZ X CW) r : ℝ) : EReal) := by
  pointwise [res_main_v372]
  simp only [(r361 V0 hX hC).eq, lit_512, Lift.lit_eps, ← EReal.coe_mul, Lift.sum_coe, Lift.div_coe (by norm_num : (512 : ℝ) ≠ 0), ← EReal.coe_add]
  rfl

theorem r373 (r : Fin 4096) : (res_main_v373 V0) (ix3 0 r 0) = ((rs (convZ X CW) r : ℝ) : EReal) := by
  pointwise [res_main_v373]
  rw [r372 V0 hX hC]
  exact Lift.rsqrt_coe (vr_pos (convZ X CW) r)

theorem r378 : IsR (n := 512) (res_main_v378 V0) (nrm (convZ X CW)) := by
  intro r k
  pointwise [res_main_v378]
  rw [r370 V0 hX hC, r373 V0 hX hC, ← EReal.coe_mul]
  rfl

variable (hG : ∀ k : Fin 512, (V0 (Proc.devRef .tc main_arg5) : FVec Ideal S512 .f32) (ix1 k) = ((G k : ℝ) : EReal))
  (hB : ∀ k : Fin 512, (V0 (Proc.devRef .tc main_arg6) : FVec Ideal S512 .f32) (ix1 k) = ((B k : ℝ) : EReal))
  (hY : ∀ (r : Fin 4096) (b : Fin 4) (k : Fin 512), (V0 (Proc.devRef .tc main_arg11) : FVec Ideal S1x4096x4x512 .f32) (ix4 0 r b k) = ((Y r (512 * b + k) : ℝ) : EReal))
include hG hB

theorem r384 : IsR (n := 512) (res_main_v384 V0) (nnZ X CW G B) := by
  intro r k
  pointwise [res_main_v384, res_main_v379]
  rw [r378 V0 hX hC, hG, hB, ← EReal.coe_mul, ← EReal.coe_add]
  rfl

theorem r385 : IsR (n := 512) (res_main_v385_2 V0) (fun r k => sg (nnZ X CW G B r k)) := by
  intro r k
  pointwise [res_main_v385_2]
  rw [r384 V0 hX hC hG hB, sg_coe]

include hY

/-- The gradient at the affine normalised convolution. -/
theorem r535 : IsR (n := 512) (res_main_v535 V0) (dnZ X CW Y G B) := by
  intro r k
  pointwise [res_main_v535, res_main_v469]
  rw [r384 V0 hX hC hG hB, r385 V0 hX hC hG hB, hY, ← EReal.coe_one, ← EReal.coe_sub, ← EReal.coe_mul, ← EReal.coe_mul, ← EReal.coe_mul, ← EReal.coe_mul, ← EReal.coe_add]
  rw [EReal.coe_eq_coe_iff]
  unfold dnZ siluD
  norm_num
  ring

theorem r543 : IsR (n := 512) (res_main_v543 V0) (fun r k => dnZ X CW Y G B r k * G k) := by
  intro r k
  pointwise [res_main_v543, res_main_v379]
  rw [r535 V0 hX hC hG hB hY, hG, ← EReal.coe_mul]

theorem r549 : IsR (n := 512) (res_main_v549 V0) (fun r k => dnZ X CW Y G B r k * G k * rs (convZ X CW) r) := by
  intro r k
  pointwise [res_main_v549]
  rw [r543 V0 hX hC hG hB hY, r373 V0 hX hC, ← EReal.coe_mul]

theorem r559 : IsR (n := 512) (res_main_v559 V0) (fun r k => (∑ j : Fin 512, cen (convZ X CW) r j * (dnZ X CW Y G B r j * G j))
    * (-(1 / 2) * (rs (convZ X CW) r / vr (convZ X CW) r)) / 512 * (2 * cen (convZ X CW) r k)) := by
  intro r k
  pointwise [res_main_v559]
  simp only [Cert.HostSum.sum02]
  pointwise
  simp only [(r370 V0 hX hC).eq, (r361 V0 hX hC).eq, (r543 V0 hX hC hG hB hY).eq, r373 V0 hX hC, r372 V0 hX hC, lit_512, Lift.lit_neg_half, Lift.lit_two, Finset.univ_unique, Fin.default_eq_zero,
    Finset.sum_singleton, ← EReal.coe_mul, Lift.sum_coe, Lift.div_coe (vr_pos (convZ X CW) r).ne', Lift.div_coe (by norm_num : (512 : ℝ) ≠ 0)]

/-- The gradient at the convolution. -/
theorem r570 : IsR (n := 512) (res_main_v570 V0) (lnB (convZ X CW) (fun r k => dnZ X CW Y G B r k * G k)) := by
  intro r k
  pointwise [res_main_v570]
  simp only [Cert.HostSum.sum02]
  pointwise
  simp only [(r549 V0 hX hC hG hB hY).eq, (r559 V0 hX hC hG hB hY).eq, lit_512, Finset.univ_unique,
    Finset.sum_singleton, ← EReal.coe_mul, ← EReal.coe_neg, ← EReal.coe_add, Lift.sum_coe, Lift.div_coe (by norm_num : (512 : ℝ) ≠ 0)]
  rw [EReal.coe_eq_coe_iff]
  exact lnB_chain (convZ X CW) (fun r k => dnZ X CW Y G B r k * G k) r k rfl

theorem rdclg : Is2 (n := 1) (m := 512) (shapeCast S1x512 (Host.reduceAdd (shapeCast _ (Host.reduceAdd (mulf (res_main_v378 V0) (res_main_v535 V0)) (constant S_ .f32 0x00000000#32) reducesTo_S1x4096x512_S1x512_d1 h_S_) shapeCasts_S1x512_S1x1x512) (constant S_ .f32 0x00000000#32) reducesTo_S1x1x512_S512_d0_1 h_S_) shapeCasts_S512_S1x512)
      (fun _ k => ∑ r ∈ Finset.range 4096, dnZ X CW Y G B r k * nrm (convZ X CW) r k) := by
  intro i k
  pointwise
  simp only [Cert.HostSum.sum01]
  pointwise
  simp only [(r378 V0 hX hC).eq, (r535 V0 hX hC hG hB hY).eq, ← EReal.coe_mul, Finset.univ_unique, Finset.sum_singleton, Lift.sum_coe]
  rw [EReal.coe_eq_coe_iff, Finset.sum_range]
  exact Finset.sum_congr rfl fun r _ => mul_comm _ _

theorem rdclb : Is2 (n := 1) (m := 512) (shapeCast S1x512 (Host.reduceAdd (shapeCast _ (Host.reduceAdd (res_main_v535 V0) (constant S_ .f32 0x00000000#32) reducesTo_S1x4096x512_S1x512_d1 h_S_) shapeCasts_S1x512_S1x1x512) (constant S_ .f32 0x00000000#32) reducesTo_S1x1x512_S512_d0_1 h_S_) shapeCasts_S512_S1x512)
      (fun _ k => ∑ r ∈ Finset.range 4096, dnZ X CW Y G B r k) := by
  intro i k
  pointwise
  simp only [Cert.HostSum.sum01]
  pointwise
  simp only [(r535 V0 hX hC hG hB hY).eq, Finset.univ_unique, Finset.sum_singleton, Lift.sum_coe]
  rw [EReal.coe_eq_coe_iff, Finset.sum_range]

/-- The long filter's gradient. -/
theorem rdcw : Is2 (n := 32) (m := 512) (concatenate S32x512 0 [⟨S31x512, (addf (F := Ideal) (res_main_v898 V0) (pad S31x512 ![0, 0] ![30, 0] ![0, 0] (broadcastInDim S1x512 ![1] bcast_S512_S1x512_1 (Host.reduceAdd (F := Ideal) (φ := .f32) (shapeCast _ (Host.reduceAdd (F := Ideal) (φ := .f32) (mulf (res_main_v570 V0) (res_main_v140 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S31x512_0300_000 h_S_))⟩, ⟨S1x512, (broadcastInDim S1x512 ![] bcast_S_S1x512 (constant (F := Ideal) S_ .f32 0x00000000#32))⟩] concatenates_S31x512_S1x512_S32x512_d0)
      (fun i k => if i < 31 then ∑ r ∈ Finset.range 4096, lnB (convZ X CW) (fun r k => dnZ X CW Y G B r k * G k) r k * xg X (i + r) k else 0) := by
  have h (i : Fin 31) (k : Fin 512) : addf (F := Ideal) (res_main_v898 V0) (pad S31x512 ![0, 0] ![30, 0] ![0, 0] (broadcastInDim S1x512 ![1] bcast_S512_S1x512_1 (Host.reduceAdd (F := Ideal) (φ := .f32) (shapeCast _ (Host.reduceAdd (F := Ideal) (φ := .f32) (mulf (res_main_v570 V0) (res_main_v140 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S31x512_0300_000 h_S_) (ix2 i k)
      = ((∑ r ∈ Finset.range 4096, lnB (convZ X CW) (fun r k => dnZ X CW Y G B r k * G k) r k * xg X (i + r) k : ℝ) : EReal) := by
    simp only [res_main_v898, res_main_v788, res_main_v678, res_main_v140, res_main_v148, res_main_v155, res_main_v162, res_main_v169, res_main_v176, res_main_v183,
    res_main_v190, res_main_v197, res_main_v204, res_main_v211, res_main_v218, res_main_v225, res_main_v232, res_main_v239, res_main_v246, res_main_v253,
    res_main_v260, res_main_v267, res_main_v274, res_main_v281, res_main_v288, res_main_v295, res_main_v302, res_main_v309, res_main_v316, res_main_v323,
    res_main_v330, res_main_v337, res_main_v344, res_main_v351, add_at, tap_at (r570 V0 hX hC hG hB hY) (r136 V0 hX), ← EReal.coe_add]
    rw [EReal.coe_eq_coe_iff]
    generalize hD : (fun j => ∑ r ∈ Finset.range 4096, lnB (convZ X CW) (fun r k => dnZ X CW Y G B r k * G k) r k * xg X (j + r) k) = D
    have e (j : ℕ) : (∑ r ∈ Finset.range 4096, lnB (convZ X CW) (fun r k => dnZ X CW Y G B r k * G k) r k * xg X (j + r) k) = D j := congrFun hD j
    simp only [e]
    have hs : D i = ∑ j ∈ Finset.range 31, if i.val = j then D j else 0 := by
      rw [Finset.sum_ite_eq, if_pos (Finset.mem_range.mpr i.isLt)]
    rw [hs]
    simp only [Finset.sum_range_succ, Finset.sum_range_zero]
    abel
  generalize addf (F := Ideal) (res_main_v898 V0) (pad S31x512 ![0, 0] ![30, 0] ![0, 0] (broadcastInDim S1x512 ![1] bcast_S512_S1x512_1 (Host.reduceAdd (F := Ideal) (φ := .f32) (shapeCast _ (Host.reduceAdd (F := Ideal) (φ := .f32) (mulf (res_main_v570 V0) (res_main_v140 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S31x512_0300_000 h_S_) = w at h ⊢
  intro i k
  pointwise
  by_cases hi : i.val < 31
  · simp only [hi, dite_true, if_true]
    exact h ⟨i.val, hi⟩ k
  · simp only [hi, dite_false, if_false]
    exact EReal.coe_zero.symm

end

section
variable (hX : IsR (n := 8192) (V0 (Proc.devRef .tc main_arg0)) X)
include hX

/-- The short convolution's input, with two rows of zeros before it. -/
theorem r98 (i : Fin 4098) (k : Fin 512) : (res_main_v98 V0) (ix3 0 i k) = ((qS X i k : ℝ) : EReal) := by
  have hm (r : Fin 4096) (k : Fin 512) : mulf (F := Ideal) (φ := .f32) (res_main_v95 V0) (res_main_v93 V0) (ix3 0 r k) = ((X r (1536 + k) * X r (512 + k) : ℝ) : EReal) := by
    pointwise [res_main_v95, res_main_v93, res_main_v3]
    rw [hX, hX, ← EReal.coe_mul]
    exact congrArg (fun j => ((X r j * X r (512 + k) : ℝ) : EReal)) (by dsimp only; omega)
  generalize hw : mulf (F := Ideal) (φ := .f32) (res_main_v95 V0) (res_main_v93 V0) = w at hm
  unfold res_main_v98
  rw [hw]
  pointwise
  unfold qS
  by_cases h : i.val < 2
  · rw [if_pos h]
    simp only [h, dite_true]
    exact EReal.coe_zero.symm
  · rw [if_neg h]
    simp only [h, dite_false]
    exact hm _ k

variable (hY : ∀ (r : Fin 4096) (b : Fin 4) (k : Fin 512), (V0 (Proc.devRef .tc main_arg11) : FVec Ideal S1x4096x4x512 .f32) (ix4 0 r b k) = ((Y r (512 * b + k) : ℝ) : EReal))
include hY

/-- The gradient at the short convolution. -/
theorem r916 : IsR (n := 512) (res_main_v916 V0) (fun r k => X r (1024 + k) * Y r (512 + k)) := by
  intro r k
  pointwise [res_main_v916, res_main_v94, res_main_v467, res_main_v3]
  rw [hX, hY, ← EReal.coe_mul]
  exact congrArg (fun j => ((X r j * Y r (512 + k) : ℝ) : EReal)) (by dsimp only; omega)

/-- The short filter's gradient. -/
theorem rdsw : Is2 (n := 8) (m := 512) (concatenate S8x512 0 [⟨S3x512, (addf (F := Ideal) (φ := .f32) (addf (F := Ideal) (φ := .f32) (pad S3x512 ![2, 0] ![0, 0] ![0, 0] (broadcastInDim S1x512 ![1] bcast_S512_S1x512_1 (Host.reduceAdd (F := Ideal) (φ := .f32) (shapeCast _ (Host.reduceAdd (F := Ideal) (φ := .f32) (mulf (res_main_v916 V0) (res_main_v117 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_200_000 h_S_) (pad S3x512 ![1, 0] ![1, 0] ![0, 0] (broadcastInDim S1x512 ![1] bcast_S512_S1x512_1 (Host.reduceAdd (F := Ideal) (φ := .f32) (shapeCast _ (Host.reduceAdd (F := Ideal) (φ := .f32) (mulf (res_main_v916 V0) (res_main_v110 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_110_000 h_S_)) (pad S3x512 ![0, 0] ![2, 0] ![0, 0] (broadcastInDim S1x512 ![1] bcast_S512_S1x512_1 (Host.reduceAdd (F := Ideal) (φ := .f32) (shapeCast _ (Host.reduceAdd (F := Ideal) (φ := .f32) (mulf (res_main_v916 V0) (res_main_v102 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_020_000 h_S_))⟩, ⟨S5x512, (broadcastInDim S5x512 ![] bcast_S_S5x512 (constant (F := Ideal) S_ .f32 0x00000000#32))⟩] concatenates_S3x512_S5x512_S8x512_d0)
      (fun i k => if i < 3 then ∑ r ∈ Finset.range 4096, X r (1024 + k) * Y r (512 + k) * qS X (i + r) k else 0) := by
  have h (i : Fin 3) (k : Fin 512) : (addf (F := Ideal) (φ := .f32) (addf (F := Ideal) (φ := .f32) (pad S3x512 ![2, 0] ![0, 0] ![0, 0] (broadcastInDim S1x512 ![1] bcast_S512_S1x512_1 (Host.reduceAdd (F := Ideal) (φ := .f32) (shapeCast _ (Host.reduceAdd (F := Ideal) (φ := .f32) (mulf (res_main_v916 V0) (res_main_v117 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_200_000 h_S_) (pad S3x512 ![1, 0] ![1, 0] ![0, 0] (broadcastInDim S1x512 ![1] bcast_S512_S1x512_1 (Host.reduceAdd (F := Ideal) (φ := .f32) (shapeCast _ (Host.reduceAdd (F := Ideal) (φ := .f32) (mulf (res_main_v916 V0) (res_main_v110 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_110_000 h_S_)) (pad S3x512 ![0, 0] ![2, 0] ![0, 0] (broadcastInDim S1x512 ![1] bcast_S512_S1x512_1 (Host.reduceAdd (F := Ideal) (φ := .f32) (shapeCast _ (Host.reduceAdd (F := Ideal) (φ := .f32) (mulf (res_main_v916 V0) (res_main_v102 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_020_000 h_S_)) (ix2 i k)
      = ((∑ r ∈ Finset.range 4096, X r (1024 + k) * Y r (512 + k) * qS X (i + r) k : ℝ) : EReal) := by
    simp only [res_main_v117, res_main_v110, res_main_v102, add_at, tap_at (r916 V0 hX hY) (r98 V0 hX), ← EReal.coe_add]
    rw [EReal.coe_eq_coe_iff]
    generalize hD : (fun j => ∑ r ∈ Finset.range 4096, X r (1024 + k) * Y r (512 + k) * qS X (j + r) k) = D
    have e (j : ℕ) : (∑ r ∈ Finset.range 4096, X r (1024 + k) * Y r (512 + k) * qS X (j + r) k) = D j := congrFun hD j
    simp only [e]
    have hs : D i = ∑ j ∈ Finset.range 3, if i.val = j then D j else 0 := by
      rw [Finset.sum_ite_eq, if_pos (Finset.mem_range.mpr i.isLt)]
    rw [hs]
    simp only [Finset.sum_range_succ, Finset.sum_range_zero]
    abel
  generalize (addf (F := Ideal) (φ := .f32) (addf (F := Ideal) (φ := .f32) (pad S3x512 ![2, 0] ![0, 0] ![0, 0] (broadcastInDim S1x512 ![1] bcast_S512_S1x512_1 (Host.reduceAdd (F := Ideal) (φ := .f32) (shapeCast _ (Host.reduceAdd (F := Ideal) (φ := .f32) (mulf (res_main_v916 V0) (res_main_v117 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_200_000 h_S_) (pad S3x512 ![1, 0] ![1, 0] ![0, 0] (broadcastInDim S1x512 ![1] bcast_S512_S1x512_1 (Host.reduceAdd (F := Ideal) (φ := .f32) (shapeCast _ (Host.reduceAdd (F := Ideal) (φ := .f32) (mulf (res_main_v916 V0) (res_main_v110 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_110_000 h_S_)) (pad S3x512 ![0, 0] ![2, 0] ![0, 0] (broadcastInDim S1x512 ![1] bcast_S512_S1x512_1 (Host.reduceAdd (F := Ideal) (φ := .f32) (shapeCast _ (Host.reduceAdd (F := Ideal) (φ := .f32) (mulf (res_main_v916 V0) (res_main_v102 V0)) (constant (F := Ideal) S_ .f32 0x00000000#32) reducesTo_S1x4096x512_S1x512_d1 h_S_) shapeCasts_S1x512_S1x1x512) (constant (F := Ideal) S_ .f32 0x00000000#32) reducesTo_S1x1x512_S512_d0_1 h_S_)) (constant (F := Ideal) S_ .f32 0x00000000#32) pads_S1x512_S3x512_020_000 h_S_)) = w at h ⊢
  intro i k
  pointwise
  by_cases hi : i.val < 3
  · simp only [hi, dite_true, if_true]
    exact h ⟨i.val, hi⟩ k
  · simp only [hi, dite_false, if_false]
    exact EReal.coe_zero.symm

end

end Cert.MixRefIdeal.Hand

end
-- ==== Proof.MixDpRef.lean ====
/- The reference's gradient of the projection in the gate's and the long convolution's columns, for arguments that are real numbers. -/
module

public import proofs.«01_k».proof.Proof.MixConvRef
public import proofs.«01_k».proof.Proof.MixDpFinal

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem
open Cert.MixIdeal.Hand (dpu dpv)

variable (V0 : Valuation τ sig (Elt Ideal)) {X Y : ℕ → ℕ → ℝ} {G B : ℕ → ℝ} {W : ℕ → ℕ → ℕ → ℝ} {SB : ℕ → ℕ → ℝ}
variable (hX : IsR (n := 8192) (V0 (Proc.devRef .tc main_arg0)) X)
  (hY : ∀ (r : Fin 4096) (b : Fin 4) (k : Fin 512), (V0 (Proc.devRef .tc main_arg11) : FVec Ideal S1x4096x4x512 .f32) (ix4 0 r b k) = ((Y r (512 * b + k) : ℝ) : EReal))
  (hG : ∀ k : Fin 512, (V0 (Proc.devRef .tc main_arg7) : FVec Ideal S512 .f32) (ix1 k) = ((G k : ℝ) : EReal))
  (hB : ∀ k : Fin 512, (V0 (Proc.devRef .tc main_arg8) : FVec Ideal S512 .f32) (ix1 k) = ((B k : ℝ) : EReal))
  (hW : Is3 (a := 4) (n := 128) (m := 128) (V0 (Proc.devRef .tc main_arg9)) W)
  (hSB : Is2 (n := 4) (m := 128) (V0 (Proc.devRef .tc main_arg10)) SB)

section
include hX
theorem r398 : IsR (n := 1024) (res_main_v398 V0) (fun r k => th (X r (3072 + k))) := by
  intro r k
  pointwise [res_main_v398, res_main_v5]
  simp only [hX.eq, lit_c0, lit_44715, lit_million, Lift.div_coe (by norm_num : (1000000 : ℝ) ≠ 0), ← EReal.coe_mul, ← EReal.coe_add, tanh_coe]
  rw [EReal.coe_eq_coe_iff]
  unfold th
  rw [show 44715 * (X r (3072 + k) * X r (3072 + k) * X r (3072 + k)) / 1000000 = c1 * X r (3072 + k) * X r (3072 + k) * X r (3072 + k) by unfold c1; ring]

theorem r427 (r : Fin 4096) : (res_main_v427 V0) (ix3 0 r 0) = ((vr (gV X) r : ℝ) : EReal) := by
  pointwise [res_main_v427]
  simp only [(r416 V0 hX).eq, lit_512, Lift.lit_eps, ← EReal.coe_mul, Lift.sum_coe, Lift.div_coe (by norm_num : (512 : ℝ) ≠ 0), ← EReal.coe_add]
  rfl
end

section
include hX hG hB hW hSB
/-- The mixed half. -/
theorem r457 : IsR (n := 512) (res_main_v457 V0) (fun r k => (∑ j : Fin 128, wm (W (k / 128)) (r % 128) j * nG X (fun _ => G) (fun _ => B) (128 * (r / 128) + j) k) + SB (k / 128) (r % 128)) := by
  intro r k
  pointwise [res_main_v457]
  simp only [r440 V0 hX hG hB, r450_0 V0 hW, hSB.eq, ← EReal.coe_mul, Lift.sum_coe, ← EReal.coe_add]
  rw [EReal.coe_eq_coe_iff]
  refine congrArg (· + _) (Finset.sum_congr rfl fun i _ => ?_)
  rw [mul_comm, show 128 * (k.val / 128) + k.val % 128 = k.val by omega]
end

section
include hX hY hG hW
theorem r492 : IsR (n := 512) (res_main_v492 V0) (fun r k => dvT W (zG X Y) r k * G k) := by
  intro r k
  pointwise [res_main_v492, res_main_v434]
  rw [r484 V0 hX hY hW, hG, ← EReal.coe_mul]
theorem r498 : IsR (n := 512) (res_main_v498 V0) (fun r k => dvT W (zG X Y) r k * G k * rs (gV X) r) := by
  intro r k
  pointwise [res_main_v498]
  rw [r492 V0 hX hY hG hW, r428 V0 hX, ← EReal.coe_mul]
theorem r508 : IsR (n := 512) (res_main_v508 V0) (fun r k => (∑ j : Fin 512, cen (gV X) r j * (dvT W (zG X Y) r j * G j))
    * (-(1 / 2) * (rs (gV X) r / vr (gV X) r)) / 512 * (2 * cen (gV X) r k)) := by
  intro r k
  pointwise [res_main_v508]
  simp only [Cert.HostSum.sum02]
  pointwise
  simp only [(r416 V0 hX).eq, (r425 V0 hX).eq, (r492 V0 hX hY hG hW).eq, r428 V0 hX, r427 V0 hX, lit_512, Lift.lit_neg_half, Lift.lit_two, Finset.univ_unique, Fin.default_eq_zero,
    Finset.sum_singleton, ← EReal.coe_mul, Lift.sum_coe, Lift.div_coe (vr_pos (gV X) r).ne', Lift.div_coe (by norm_num : (512 : ℝ) ≠ 0)]
/-- The gradient of the normalised half before its gelu. -/
theorem rdv : IsR (n := 512) (addf (F := Ideal) (φ := .f32) (addf (res_main_v498 V0) (res_main_v508 V0)) (broadcastInDim S1x4096x512 ![0, 1] bcast_S1x4096_S1x4096x512_0_1 (broadcastInDim S1x4096 ![1] bcast_S4096_S1x4096_1 (Host.reduceAdd (F := Ideal) (φ := .f32) (Host.divf (F := Ideal) (φ := .f32) (addf (shapeCast _ (Host.reduceAdd (F := Ideal) (φ := .f32) (Host.negf (res_main_v498 V0)) (constant (F := Ideal) S_ .f32 0x00000000#32) reducesTo_S1x4096x512_S1x4096_d2 h_S_) shapeCasts_S1x4096_S1x4096x1) (shapeCast _ (Host.reduceAdd (F := Ideal) (φ := .f32) (Host.negf (res_main_v508 V0)) (constant (F := Ideal) S_ .f32 0x00000000#32) reducesTo_S1x4096x512_S1x4096_d2 h_S_) shapeCasts_S1x4096_S1x4096x1)) (broadcastInDim S1x4096x1 ![] bcast_S_S1x4096x1 (constant (F := Ideal) S_ .f32 0x44000000#32))) (constant (F := Ideal) S_ .f32 0x00000000#32) reducesTo_S1x4096x1_S4096_d0_2 h_S_))))
    (lnB (gV X) fun r k => dvT W (zG X Y) r k * G k) := by
  intro r k
  pointwise
  simp only [Cert.HostSum.sum02]
  pointwise
  simp only [(r498 V0 hX hY hG hW).eq, (r508 V0 hX hY hG hW).eq, lit_512, Finset.univ_unique,
    Finset.sum_singleton, ← EReal.coe_mul, ← EReal.coe_neg, ← EReal.coe_add, Lift.sum_coe, Lift.div_coe (by norm_num : (512 : ℝ) ≠ 0)]
  rw [EReal.coe_eq_coe_iff]
  exact lnB_chain (gV X) (fun r k => dvT W (zG X Y) r k * G k) r k rfl
end

/-- The gradient of the gate's two halves after their gelus. -/
def dgH (X Y : ℕ → ℕ → ℝ) (G B : ℕ → ℝ) (W : ℕ → ℕ → ℕ → ℝ) (SB : ℕ → ℕ → ℝ) (r k : ℕ) : ℝ :=
  if k < 512 then Y r (1536 + k) * ((∑ j : Fin 128, wm (W (k / 128)) (r % 128) j * nG X (fun _ => G) (fun _ => B) (128 * (r / 128) + j) k) + SB (k / 128) (r % 128))
  else lnB (gV X) (fun r k => dvT W (zG X Y) r k * G k) r (k - 512)

section
include hX hY hG hB hW hSB
theorem r520 : IsR (n := 1024) (res_main_v520 V0) (dgH X Y G B W SB) := by
  have hm : IsR (n := 512) (mulf (res_main_v471 V0) (res_main_v457 V0)) (fun r k => Y r (1536 + k) * ((∑ j : Fin 128, wm (W (k / 128)) (r % 128) j * nG X (fun _ => G) (fun _ => B) (128 * (r / 128) + j) k) + SB (k / 128) (r % 128))) := by
    intro r k
    pointwise [res_main_v471]
    rw [r457 V0 hX hG hB hW hSB, hY, ← EReal.coe_mul]
    rfl
  have hv := rdv V0 hX hY hG hW
  unfold res_main_v520
  generalize mulf (res_main_v471 V0) (res_main_v457 V0) = w at hm ⊢
  generalize addf (F := Ideal) (φ := .f32) (addf (res_main_v498 V0) (res_main_v508 V0)) _ = v at hv ⊢
  intro r k
  unfold dgH
  pointwise
  by_cases c0 : k.val < 512
  · simp only [c0, dite_true, if_true]; exact hm r ⟨k, c0⟩
  · simp only [c0, dite_false, if_false]; exact hv r ⟨k - 512, by omega⟩

/-- The gradient of the gate's columns. -/
theorem rgate : IsR (n := 1024) (addf (F := Ideal) (φ := .f32) (addf (mulf (res_main_v520 V0) (res_main_v407 V0)) (res_main_v527 V0)) (mulf (mulf (broadcastInDim S1x4096x1024 ![] bcast_S_S1x4096x1024 (constant (F := Ideal) S_ .f32 0x472EAB00#32)) (Host.divf (res_main_v527 V0) (broadcastInDim S1x4096x1024 ![] bcast_S_S1x4096x1024 (constant (F := Ideal) S_ .f32 0x49742400#32)))) (mulf (broadcastInDim S1x4096x1024 ![] bcast_S_S1x4096x1024 (constant (F := Ideal) S_ .f32 0x40400000#32)) (mulf (res_main_v5 V0) (res_main_v5 V0)))))
    (fun r k => dgH X Y G B W SB r k * gelD (X r (3072 + k))) := by
  have l3 : Ideal.ofBits .f32 1077936128#32 = ((3 : ℝ) : EReal) := by
    simp [Ideal.ofBits, Ideal.ieee]; norm_num; rw [← EReal.coe_mul]; norm_num
  intro r k
  pointwise [res_main_v527, res_main_v407, res_main_v5]
  simp only [← EReal.coe_one, hX.eq, (r398 V0 hX).eq, (r520 V0 hX hY hG hB hW hSB).eq, Lift.lit_half, l3, lit_c0, lit_44715, lit_million, Lift.div_coe (by norm_num : (1000000 : ℝ) ≠ 0), ← EReal.coe_mul, ← EReal.coe_add, ← EReal.coe_sub]
  rw [EReal.coe_eq_coe_iff]
  unfold gelD
  ring
end

end Cert.MixRefIdeal.Hand

end

end
-- ==== Proof.MixDpRefConv.lean ====
/- The reference's gradient of the projection in the columns of the two convolutions, for arguments that are real numbers. -/
module

public import proofs.«01_k».proof.Proof.MixDpRef

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem
open Cert.MixIdeal.Hand (dqF cvF dygT dzE qF dcF padR)

variable (V0 : Valuation τ sig (Elt Ideal)) {X Y CW SW : ℕ → ℕ → ℝ} {G B : ℕ → ℝ}

/-- Rows placed among rows of zeros. -/
theorem pad_rows {M j hi : ℕ} (v : S1x4096x512.Idx → EReal) (z : S_.Idx → EReal)
    (h : S1x4096x512.Pads (![0, j, 0] : Fin 3 → ℕ) ![0, hi, 0] ![0, 0, 0] (⟨3, ![1, M, 512]⟩ : Shape)) (i : Fin M) (k : Fin 512) :
    pad (⟨3, ![1, M, 512]⟩ : Shape) (![0, j, 0] : Fin 3 → ℕ) ![0, hi, 0] ![0, 0, 0] v z h h_S_ (ix3 0 i k)
      = if hr : j ≤ i.val ∧ i.val < j + 4096 then v (ix3 0 ⟨i.val - j, by omega⟩ k) else z (Shape.Idx.first h_S_) := by
  unfold pad
  by_cases hij : j ≤ i.val ∧ i.val < j + 4096
  · rw [dif_pos hij, dif_pos]
    · congr 1
      funext a
      apply Fin.ext
      match a with
      | ⟨0, _⟩ => show (0 - 0) / (0 + 1) = 0; omega
      | ⟨1, _⟩ => show (i.val - j) / (0 + 1) = i.val - j; omega
      | ⟨2, _⟩ => show (k.val - 0) / (0 + 1) = k.val; omega
    · intro a
      match a with
      | ⟨0, _⟩ => exact ⟨le_rfl, by show (0 - 0) % (0 + 1) = 0; omega, by show (0 - 0) / (0 + 1) < 1; omega⟩
      | ⟨1, _⟩ => exact ⟨hij.1, by show (i.val - j) % (0 + 1) = 0; omega, by show (i.val - j) / (0 + 1) < 4096; omega⟩
      | ⟨2, _⟩ => exact ⟨Nat.zero_le _, by show (k.val - 0) % (0 + 1) = 0; omega, by show (k.val - 0) / (0 + 1) < 512; omega⟩
  · rw [dif_neg hij, dif_neg]
    intro hx
    have h1 : j ≤ i.val := (hx 1).1
    have h2 : (i.val - j) / (0 + 1) < 4096 := (hx 1).2.2
    omega

/-- One tap of a convolution turned round: the gradient times the filter's row `j`, `j` rows further down. -/
theorem back_tap {M n j hi : ℕ} {d : FVec Ideal S1x4096x512 .f32} {D C : ℕ → ℕ → ℝ} (hd : IsR (n := 512) d D) {a : FVec Ideal (⟨2, ![n, 512]⟩ : Shape) .f32} (ha : Is2 (n := n) (m := 512) a C)
    (hs : (⟨2, ![n, 512]⟩ : Shape).Slices (![j, 0] : Fin 2 → ℕ) S1x512)
    (h : S1x4096x512.Pads (![0, j, 0] : Fin 3 → ℕ) ![0, hi, 0] ![0, 0, 0] (⟨3, ![1, M, 512]⟩ : Shape)) (i : Fin M) (k : Fin 512) :
    pad (⟨3, ![1, M, 512]⟩ : Shape) (![0, j, 0] : Fin 3 → ℕ) ![0, hi, 0] ![0, 0, 0]
      (mulf (F := Ideal) (φ := .f32) (broadcastInDim S1x4096x512 ![0, 1, 2] bcast_S1x1x512_S1x4096x512_0_1_2 (broadcastInDim S1x1x512 ![2] bcast_S512_S1x1x512_2 (shapeCast S512 (extractStridedSlice S1x512 ![j, 0] a hs) shapeCasts_S1x512_S512))) d)
      (constant (F := Ideal) S_ .f32 0x00000000#32) h h_S_ (ix3 0 i k)
      = ((if j ≤ i.val ∧ i.val < j + 4096 then C j k * D (i.val - j) k else 0 : ℝ) : EReal) := by
  have hj : j < n := by have := hs.2 0; simp at this; omega
  have e (k : Fin 512) : extractStridedSlice S1x512 ![j, 0] a hs (ix2 0 k) = ((C j k : ℝ) : EReal) := by
    refine Eq.trans (congrArg a (funext fun b => Fin.ext ?_)) (ha ⟨j, hj⟩ k)
    match b with
    | ⟨0, _⟩ => rfl
    | ⟨1, _⟩ => show 0 + k.val = k.val; omega
  generalize extractStridedSlice S1x512 ![j, 0] a hs = w at e
  rw [pad_rows]
  by_cases hij : j ≤ i.val ∧ i.val < j + 4096
  · rw [dif_pos hij, if_pos hij]
    pointwise
    rw [e, hd, ← EReal.coe_mul]
  · rw [dif_neg hij, if_neg hij]
    exact Ideal.ofBits_zero_f32.trans EReal.coe_zero.symm

theorem add_at3 {s : Shape} (a b : FVec Ideal s .f32) (i : s.Idx) : addf (F := Ideal) (φ := .f32) a b i = a i + b i := rfl

theorem dygT_sum (X CW Y : ℕ → ℕ → ℝ) (G B : ℕ → ℝ) (n k : ℕ) : ∀ i : ℕ, dygT X CW Y G B n k i = ∑ j ∈ Finset.range (i + 1), CW (30 - j) k * dzE X CW Y G B (n + j) k
  | 0 => (Finset.sum_range_one _).symm
  | i + 1 => by rw [Finset.sum_range_succ, ← dygT_sum X CW Y G B n k i]; rfl

section
variable (hX : IsR (n := 8192) (V0 (Proc.devRef .tc main_arg0)) X)
  (hC : Is2 (n := 31) (m := 512) (V0 (Proc.devRef .tc main_arg4)) CW)
  (hG : ∀ k : Fin 512, (V0 (Proc.devRef .tc main_arg5) : FVec Ideal S512 .f32) (ix1 k) = ((G k : ℝ) : EReal))
  (hB : ∀ k : Fin 512, (V0 (Proc.devRef .tc main_arg6) : FVec Ideal S512 .f32) (ix1 k) = ((B k : ℝ) : EReal))
  (hY : ∀ (r : Fin 4096) (b : Fin 4) (k : Fin 512), (V0 (Proc.devRef .tc main_arg11) : FVec Ideal S1x4096x4x512 .f32) (ix4 0 r b k) = ((Y r (512 * b + k) : ℝ) : EReal))
include hX hC hG hB hY

/-- The long convolution turned round. -/
theorem r906 (i : Fin 4126) (k : Fin 512) : (res_main_v906 V0) (ix3 0 i k)
    = ((∑ j ∈ Finset.range 31, if 30 - j ≤ i.val ∧ i.val < 30 - j + 4096 then CW (30 - j) k * lnB (convZ X CW) (fun r k => dnZ X CW Y G B r k * G k) (i.val - (30 - j)) k else 0 : ℝ) : EReal) := by
  simp only [res_main_v906, res_main_v741, res_main_v141, res_main_v149, res_main_v156, res_main_v163, res_main_v170, res_main_v177, res_main_v184, res_main_v191, res_main_v198,
    res_main_v205, res_main_v212, res_main_v219, res_main_v226, res_main_v233, res_main_v240, res_main_v247, res_main_v254, res_main_v261, res_main_v268, res_main_v275, res_main_v282,
    res_main_v289, res_main_v296, res_main_v303, res_main_v310, res_main_v317, res_main_v324, res_main_v331, res_main_v338, res_main_v345, res_main_v352,
    add_at3, back_tap (r570 V0 hX hC hG hB hY) hC, ← EReal.coe_add]
  rw [EReal.coe_eq_coe_iff]
  simp only [Finset.sum_range_succ, Finset.sum_range_zero, zero_add]

theorem r911 : IsR (n := 512) (res_main_v911 V0) (fun r k => dygT X CW Y G B r k 30) := by
  intro r k
  pointwise [res_main_v911]
  rw [r906 V0 hX hC hG hB hY, EReal.coe_eq_coe_iff]
  have hr := r.isLt
  rw [dygT_sum]
  refine Finset.sum_congr rfl fun j hj => ?_
  have hj := Finset.mem_range.mp hj
  dsimp only
  unfold dzE
  by_cases h : r.val + j < 4096
  · rw [if_pos (by omega), if_pos h, show 30 + r.val - (30 - j) = r.val + j by omega]
  · rw [if_neg (by omega), if_neg h, mul_zero]

/-- The gradient of the long convolution's columns. -/
theorem rlong : IsR (n := 512) (mulf (F := Ideal) (φ := .f32) (res_main_v911 V0) (res_main_v130 V0)) (fun r k => dygT X CW Y G B r k 30 * sg (X r (2560 + k)))
    ∧ IsR (n := 512) (mulf (F := Ideal) (φ := .f32) (mulf (res_main_v123 V0) (res_main_v911 V0)) (mulf (res_main_v130 V0) (subf (broadcastInDim S1x4096x512 ![] bcast_S_S1x4096x512 (constant (F := Ideal) S_ .f32 0x3F800000#32)) (res_main_v130 V0))))
      (fun r k => dygT X CW Y G B r k 30 * X r (2048 + k) * sg (X r (2560 + k)) * (1 - sg (X r (2560 + k)))) := by
  have h130 : IsR (n := 512) (res_main_v130 V0) (fun r k => sg (X r (2560 + k))) := by
    intro r k
    pointwise [res_main_v130, res_main_v4]
    rw [hX, sg_coe]
    exact congrArg (fun j => ((sg (X r j) : ℝ) : EReal)) (by dsimp only; omega)
  constructor
  · intro r k
    pointwise
    rw [r911 V0 hX hC hG hB hY, h130, ← EReal.coe_mul]
  · intro r k
    pointwise [res_main_v123, res_main_v4]
    rw [r911 V0 hX hC hG hB hY, h130, hX, ← EReal.coe_one, ← EReal.coe_sub, ← EReal.coe_mul, ← EReal.coe_mul, ← EReal.coe_mul]
    rw [EReal.coe_eq_coe_iff]
    show X r (2048 + k) * dygT X CW Y G B r k 30 * _ = _
    ring
end

/-- A row of the padded activations and of the short convolution's arrays. -/
theorem padR_own {X : ℕ → ℕ → ℝ} {r : ℕ} (hr : r < 4096) (k : ℕ) : padR X (r + 32) k = X r k := by
  unfold padR
  rw [if_pos (by omega), Nat.add_sub_cancel]
theorem dcF_own {r : ℕ} (k : ℕ) : dcF X Y (r + 32) k = if r < 4096 then X r (1024 + k) * Y r (512 + k) else 0 := by
  unfold dcF
  by_cases h : r < 4096
  · rw [if_pos h, padR_own h, padR_own h, mul_comm]
  · rw [if_neg h]
    unfold padR
    rw [if_neg (by omega), zero_mul]
theorem qF_own {r j : ℕ} (hr : r < 4096) (hj : j < 3) (k : ℕ) : qF X (r + 30 + j) k = qS X (r + j) k := by
  unfold qF qS padR
  by_cases h : r + j < 2
  · rw [if_pos h, if_neg (by omega), zero_mul]
  · rw [if_neg h, if_pos (by omega), if_pos (by omega), show r + 30 + j - 32 = r + j - 2 by omega]

section
variable (hX : IsR (n := 8192) (V0 (Proc.devRef .tc main_arg0)) X)
  (hS : Is2 (n := 3) (m := 512) (V0 (Proc.devRef .tc main_arg3)) SW)
  (hY : ∀ (r : Fin 4096) (b : Fin 4) (k : Fin 512), (V0 (Proc.devRef .tc main_arg11) : FVec Ideal S1x4096x4x512 .f32) (ix4 0 r b k) = ((Y r (512 * b + k) : ℝ) : EReal))
include hX hS
/-- The short convolution. -/
theorem r121 : IsR (n := 512) (res_main_v121 V0) (fun r k => cvF X SW (r + 32) k) := by
  intro r k
  pointwise [res_main_v121, res_main_v103, res_main_v102, res_main_v111, res_main_v110, res_main_v118, res_main_v117]
  simp only [r98 V0 hX, hS.eq, ← EReal.coe_mul, ← EReal.coe_add]
  rw [EReal.coe_eq_coe_iff]
  unfold cvF
  have e0 : qF X (r + 32 - 2) k = qS X r k := qF_own r.isLt (by omega : 0 < 3) k
  have e1 : qF X (r + 32 - 1) k = qS X (1 + r) k := by rw [Nat.add_comm 1]; exact qF_own r.isLt (by omega : 1 < 3) k
  have e2 : qF X (r + 32) k = qS X (2 + r) k := by rw [Nat.add_comm 2]; exact qF_own r.isLt (by omega : 2 < 3) k
  rw [e0, e1, e2]
  show SW 0 k * _ + SW 1 k * _ + SW 2 k * _ = _
  ring
include hY
/-- The short convolution turned round. -/
theorem r945 (i : Fin 4098) (k : Fin 512) : (res_main_v945 V0) (ix3 0 i k)
    = ((∑ j ∈ Finset.range 3, if 2 - j ≤ i.val ∧ i.val < 2 - j + 4096 then SW (2 - j) k * (X (i.val - (2 - j)) (1024 + k) * Y (i.val - (2 - j)) (512 + k)) else 0 : ℝ) : EReal) := by
  simp only [res_main_v945, res_main_v103, res_main_v111, res_main_v118, add_at3, back_tap (r916 V0 hX hY) hS, ← EReal.coe_add]
  rw [EReal.coe_eq_coe_iff]
  simp only [Finset.sum_range_succ, Finset.sum_range_zero, zero_add]

theorem r950 : IsR (n := 512) (res_main_v950 V0) (fun r k => dqF X Y SW (r + 32) k) := by
  intro r k
  pointwise [res_main_v950]
  rw [r945 V0 hX hS hY, EReal.coe_eq_coe_iff]
  have hr := r.isLt
  unfold dqF
  rw [show r.val + 32 + 1 = r.val + 1 + 32 by omega, show r.val + 32 + 2 = r.val + 2 + 32 by omega, dcF_own, dcF_own, dcF_own, if_pos hr]
  simp only [Finset.sum_range_succ, Finset.sum_range_zero, zero_add]
  rw [if_pos (by omega), show 2 + r.val - (2 - 0) = r.val by omega]
  refine congrArg₂ _ (congrArg₂ _ rfl ?_) ?_
  · by_cases h : r.val + 1 < 4096
    · rw [if_pos (by omega), if_pos h, show 2 + r.val - (2 - 1) = r.val + 1 by omega]
    · rw [if_neg (by omega), if_neg h, mul_zero]
  · by_cases h : r.val + 2 < 4096
    · rw [if_pos (by omega), if_pos h, show 2 + r.val - (2 - 2) = r.val + 2 by omega]
    · rw [if_neg (by omega), if_neg h, mul_zero]

/-- The gradient of the short convolution's columns. -/
theorem rshort : IsR (n := 512) (mulf (F := Ideal) (φ := .f32) (res_main_v95 V0) (res_main_v950 V0)) (fun r k => dqF X Y SW (r + 32) k * padR X (r + 32) (1536 + k))
    ∧ IsR (n := 512) (mulf (F := Ideal) (φ := .f32) (res_main_v467 V0) (res_main_v121 V0)) (fun r k => padR Y (r + 32) (512 + k) * cvF X SW (r + 32) k)
    ∧ IsR (n := 512) (mulf (F := Ideal) (φ := .f32) (res_main_v950 V0) (res_main_v93 V0)) (fun r k => dqF X Y SW (r + 32) k * padR X (r + 32) (512 + k)) := by
  refine ⟨fun r k => ?_, fun r k => ?_, fun r k => ?_⟩
  · pointwise [res_main_v95, res_main_v3]
    rw [r950 V0 hX hS hY, hX, ← EReal.coe_mul, mul_comm, padR_own r.isLt]
    exact congrArg (fun j => ((dqF X Y SW (r + 32) k * X r j : ℝ) : EReal)) (by dsimp only; omega)
  · pointwise [res_main_v467]
    rw [r121 V0 hX hS, hY, ← EReal.coe_mul, padR_own r.isLt]
    rfl
  · pointwise [res_main_v93, res_main_v3]
    rw [r950 V0 hX hS hY, hX, ← EReal.coe_mul, padR_own r.isLt]
end

end Cert.MixRefIdeal.Hand

end

end
-- ==== Proof.MixDpRefPool.lean ====
/- The reference's gradient of the projection in the pooled columns, for arguments that are real numbers. -/
module

public import proofs.«01_k».proof.Proof.MixPoolRef
public import proofs.«01_k».proof.Proof.MixDpPool

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem
open Cert.MixIdeal.Hand (ddR dpA padR win)

/-- A sum of differences of neighbours. -/
theorem sum_step (F : ℕ → ℝ) (r : ℕ) : ∀ N, r ≤ N → ∑ n ∈ Finset.Ico r N, (F n - F (n + 1)) = F r - F N := by
  refine Nat.le_induction ?_ ?_
  · rw [Finset.Ico_self, Finset.sum_empty, sub_self]
  · intro N h ih
    rw [Finset.sum_Ico_succ_top h, ih]
    ring
/-- The running total from the last row up, of differences of rows `w` apart, is the sum of `w` rows. -/
theorem sum_apart (E : ℕ → ℝ) (N r : ℕ) (hr : r ≤ N) (hE : ∀ n, N ≤ n → E n = 0) : ∀ w : ℕ, ∑ n ∈ Finset.Ico r N, (E n - E (n + w)) = ∑ s ∈ Finset.range w, E (r + s)
  | 0 => Finset.sum_eq_zero fun n _ => sub_self _
  | w + 1 => by
    have h := sum_step (fun n => E (n + w)) r N hr
    rw [hE (N + w) (by omega), sub_zero] at h
    rw [Finset.sum_range_succ, ← sum_apart E N r hr hE w, ← h, ← Finset.sum_add_distrib]
    exact Finset.sum_congr rfl fun n _ => by rw [show n + (w + 1) = n + 1 + w by omega]; ring

/-- Rows with rows of zeros behind them. -/
theorem pad_end {M hi : ℕ} (v : S1x4096x128.Idx → EReal) (z : S_.Idx → EReal)
    (h : S1x4096x128.Pads (![0, 0, 0] : Fin 3 → ℕ) ![0, hi, 0] ![0, 0, 0] (⟨3, ![1, M, 128]⟩ : Shape)) (i : Fin M) (k : Fin 128) :
    pad (⟨3, ![1, M, 128]⟩ : Shape) (![0, 0, 0] : Fin 3 → ℕ) ![0, hi, 0] ![0, 0, 0] v z h h_S_ (ix3 0 i k)
      = if hr : i.val < 4096 then v (ix3 0 ⟨i.val, hr⟩ k) else z (Shape.Idx.first h_S_) := by
  unfold pad
  by_cases hi' : i.val < 4096
  · rw [dif_pos hi', dif_pos]
    · congr 1
      funext a
      apply Fin.ext
      match a with
      | ⟨0, _⟩ => show (0 - 0) / (0 + 1) = 0; omega
      | ⟨1, _⟩ => show (i.val - 0) / (0 + 1) = i.val; omega
      | ⟨2, _⟩ => show (k.val - 0) / (0 + 1) = k.val; omega
    · intro a
      match a with
      | ⟨0, _⟩ => exact ⟨le_rfl, by show (0 - 0) % (0 + 1) = 0; omega, by show (0 - 0) / (0 + 1) < 1; omega⟩
      | ⟨1, _⟩ => exact ⟨Nat.zero_le _, by show (i.val - 0) % (0 + 1) = 0; omega, by show (i.val - 0) / (0 + 1) < 4096; omega⟩
      | ⟨2, _⟩ => exact ⟨Nat.zero_le _, by show (k.val - 0) % (0 + 1) = 0; omega, by show (k.val - 0) / (0 + 1) < 128; omega⟩
  · rw [dif_neg hi', dif_neg]
    intro hx
    have h2 : (i.val - 0) / (0 + 1) < 4096 := (hx 1).2.2
    omega

/-- Rows less the rows `w` further down. -/
theorem diff_at {M hi w c : ℕ} {d : FVec Ideal S1x4096x128 .f32} {E : ℕ → ℕ → ℝ} (hd : ∀ (r : Fin 4096) (k : Fin 128), d (ix3 0 r k) = ((E r (c + k) : ℝ) : EReal))
    (hE : ∀ n k, 4096 ≤ n → E n k = 0) (hs : (⟨3, ![1, M, 128]⟩ : Shape).Slices (![0, w, 0] : Fin 3 → ℕ) S1x4096x128)
    (h : S1x4096x128.Pads (![0, 0, 0] : Fin 3 → ℕ) ![0, hi, 0] ![0, 0, 0] (⟨3, ![1, M, 128]⟩ : Shape)) (r : Fin 4096) (k : Fin 128) :
    addf (F := Ideal) (φ := .f32) d (extractStridedSlice S1x4096x128 ![0, w, 0] (pad (⟨3, ![1, M, 128]⟩ : Shape) (![0, 0, 0] : Fin 3 → ℕ) ![0, hi, 0] ![0, 0, 0] (Host.negf (F := Ideal) (φ := .f32) d)
      (constant (F := Ideal) S_ .f32 0x00000000#32) h h_S_) hs) (ix3 0 r k) = ((E r (c + k) - E (r + w) (c + k) : ℝ) : EReal) := by
  have hM : w + 4096 ≤ M := by have := hs.2 1; simp at this; omega
  have e : extractStridedSlice S1x4096x128 ![0, w, 0] (pad (⟨3, ![1, M, 128]⟩ : Shape) (![0, 0, 0] : Fin 3 → ℕ) ![0, hi, 0] ![0, 0, 0] (Host.negf (F := Ideal) (φ := .f32) d)
      (constant (F := Ideal) S_ .f32 0x00000000#32) h h_S_) hs (ix3 0 r k) = ((-E (r + w) (c + k) : ℝ) : EReal) := by
    have hp := pad_end (Host.negf (F := Ideal) (φ := .f32) d) (constant (F := Ideal) S_ .f32 0x00000000#32) h ⟨r.val + w, by have := r.isLt; omega⟩ k
    generalize pad (⟨3, ![1, M, 128]⟩ : Shape) _ _ _ _ _ _ _ = p at hp ⊢
    refine Eq.trans (congrArg p (funext fun a => Fin.ext ?_)) (hp.trans ?_)
    · match a with
      | ⟨0, _⟩ => rfl
      | ⟨1, _⟩ => show w + r.val = r.val + w; omega
      | ⟨2, _⟩ => show 0 + k.val = k.val; omega
    · by_cases hr : r.val + w < 4096
      · rw [dif_pos hr, EReal.coe_neg]
        exact congrArg _ (hd _ k)
      · rw [dif_neg hr, hE _ _ (by omega), neg_zero]
        exact Ideal.ofBits_zero_f32.trans EReal.coe_zero.symm
  show d (ix3 0 r k) + _ = _
  rw [e, hd, ← EReal.coe_add]
  rfl

/-- The scaled gradient of a row. -/
def eR (Y : ℕ → ℕ → ℝ) (S : ℕ → ℝ) (W : ℕ → ℕ → ℕ → ℝ) (w n k : ℕ) : ℝ := ddR Y S W (n + 32) k / cnt w (n + 32)

variable (V0 : Valuation τ sig (Elt Ideal)) {Y : ℕ → ℕ → ℝ} {S : ℕ → ℝ} {W : ℕ → ℕ → ℕ → ℝ}

theorem eR_end {w n k : ℕ} (h : 4096 ≤ n) : eR Y S W w n k = 0 := by
  unfold eR ddR padR
  rw [Finset.sum_eq_zero, zero_div]
  intro c _
  rw [if_neg (by omega), zero_mul, zero_mul]

/-- The pooled source's gradient as running totals. -/
theorem dpA_eq (g r k : ℕ) (hk : k < 128) (hr : r < 4096) :
    -ddR Y S W (r + 32) (128 * g + k) + ∑ n ∈ Finset.Ico r 4096, (eR Y S W (2 ^ (g + 1)) n (128 * g + k) - eR Y S W (2 ^ (g + 1)) (n + 2 ^ (g + 1)) (128 * g + k))
      = dpA Y S W (r + 32) (128 * g + k) := by
  rw [sum_apart (fun n => eR Y S W (2 ^ (g + 1)) n (128 * g + k)) 4096 r hr.le fun n h => eR_end h]
  unfold dpA poolB
  rw [win_eq g k hk, neg_add_eq_sub]
  refine congrArg (· - _) (Finset.sum_congr rfl fun s _ => ?_)
  unfold eR
  rw [show r + s + 32 = r + 32 + s by omega]

section
variable (hY : ∀ (r : Fin 4096) (b : Fin 4) (k : Fin 512), (V0 (Proc.devRef .tc main_arg11) : FVec Ideal S1x4096x4x512 .f32) (ix4 0 r b k) = ((Y r (512 * b + k) : ℝ) : EReal))
  (hS : ∀ k : Fin 512, (V0 (Proc.devRef .tc main_arg2) : FVec Ideal S512 .f32) (ix1 k) = ((S k : ℝ) : EReal))
  (hW : Is3 (a := 4) (n := 128) (m := 128) (V0 (Proc.devRef .tc main_arg1)) W)
include hY hS hW

theorem r963 (r : Fin 4096) (g : Fin 4) (k : Fin 128) : (res_main_v963 V0) (ix4 0 r g k) = ((ddR Y S W (r + 32) (128 * g + k) : ℝ) : EReal) := by
  pointwise [res_main_v963]
  simp only [r961 V0 hY hS, hW.eq, ← EReal.coe_mul, Lift.sum_coe]
  rw [EReal.coe_eq_coe_iff]
  unfold ddR
  refine Finset.sum_congr rfl fun c _ => ?_
  rw [show (128 * g.val + k.val) / 128 = g.val by omega, show (128 * g.val + k.val) % 128 = k.val by omega]
  unfold padR
  rw [if_pos (by have := r.isLt; omega), Nat.add_sub_cancel]

/-- One group's scaled gradient. -/
theorem scaled (g w : ℕ) (hg : g < 4) (hw0 : 0 < w) (hw : w ≤ 16) (r : Fin 4096) (k : Fin 128) :
    Ideal.div ((res_main_v963 V0) (ix4 0 r ⟨g, hg⟩ k)) (FloatOps.sitofp (F := Ideal) .f32 (IntOp.minsi (IntOp.addi (BitVec.ofNat 32 r) 1#32) (BitVec.ofNat 32 w)))
      = ((eR Y S W w r (128 * g + k) : ℝ) : EReal) := by
  rw [count_word w r hw r.isLt, r963 V0 hY hS hW, Lift.div_coe (cnt_ne hw0 _)]
  rfl
theorem r978 (r : Fin 4096) (k : Fin 128) : (res_main_v978 V0) (ix3 0 r k) = ((eR Y S W 16 r (128 * 3 + k) : ℝ) : EReal) := by
  pointwise [res_main_v978, res_main_v973, res_main_v75, res_main_v9]
  exact scaled V0 hY hS hW 3 16 (by omega) (by omega) (by omega) r k
theorem r991 (r : Fin 4096) (k : Fin 128) : (res_main_v991 V0) (ix3 0 r k) = ((eR Y S W 8 r (128 * 2 + k) : ℝ) : EReal) := by
  pointwise [res_main_v991, res_main_v971, res_main_v57, res_main_v9]
  exact scaled V0 hY hS hW 2 8 (by omega) (by omega) (by omega) r k
theorem r1005 (r : Fin 4096) (k : Fin 128) : (res_main_v1005 V0) (ix3 0 r k) = ((eR Y S W 4 r (128 * 1 + k) : ℝ) : EReal) := by
  pointwise [res_main_v1005, res_main_v969, res_main_v39, res_main_v9]
  exact scaled V0 hY hS hW 1 4 (by omega) (by omega) (by omega) r k
theorem r1019 (r : Fin 4096) (k : Fin 128) : (res_main_v1019 V0) (ix3 0 r k) = ((eR Y S W 2 r (128 * 0 + k) : ℝ) : EReal) := by
  pointwise [res_main_v1019, res_main_v967, res_main_v21, res_main_v9]
  have h := scaled V0 hY hS hW 0 2 (by omega) (by omega) (by omega) r k
  rw [Nat.mul_zero, Nat.zero_add] at h
  exact h

/-- The groups' differences side by side. -/
theorem rdiffs (r : Fin 4096) (g : Fin 4) (k : Fin 128) : (addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (addf (F := Ideal) (φ := .f32) (res_main_v978 V0) (extractStridedSlice S1x4096x128 ![0, 16, 0] (res_main_v980 V0) slices_S1x4112x128_S1x4096x128_0_16_0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (addf (F := Ideal) (φ := .f32) (res_main_v991 V0) (extractStridedSlice S1x4096x128 ![0, 8, 0] (res_main_v993 V0) slices_S1x4104x128_S1x4096x128_0_8_0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (addf (F := Ideal) (φ := .f32) (res_main_v1005 V0) (extractStridedSlice S1x4096x128 ![0, 4, 0] (res_main_v1007 V0) slices_S1x4100x128_S1x4096x128_0_4_0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (addf (F := Ideal) (φ := .f32) (res_main_v1019 V0) (extractStridedSlice S1x4096x128 ![0, 2, 0] (res_main_v1021 V0) slices_S1x4098x128_S1x4096x128_0_2_0))) (constant (F := Ideal) S_ .f32 0x00000000#32) pads_S1x4096x1x128_S1x4096x4x128_000_000_030_000 h_S_)) (ix4 0 r g k)
    = ((eR Y S W (2 ^ (g.val + 1)) r (128 * g + k) - eR Y S W (2 ^ (g.val + 1)) (r + 2 ^ (g.val + 1)) (128 * g + k) : ℝ) : EReal) := by
  have h3 := diff_at (w := 16) (r978 V0 hY hS hW) (fun n k h => eR_end h) slices_S1x4112x128_S1x4096x128_0_16_0 pads_S1x4096x128_S1x4112x128_000_0160_000
  have h2 := diff_at (w := 8) (r991 V0 hY hS hW) (fun n k h => eR_end h) slices_S1x4104x128_S1x4096x128_0_8_0 pads_S1x4096x128_S1x4104x128_000_080_000
  have h1 := diff_at (w := 4) (r1005 V0 hY hS hW) (fun n k h => eR_end h) slices_S1x4100x128_S1x4096x128_0_4_0 pads_S1x4096x128_S1x4100x128_000_040_000
  have h0 := diff_at (w := 2) (r1019 V0 hY hS hW) (fun n k h => eR_end h) slices_S1x4098x128_S1x4096x128_0_2_0 pads_S1x4096x128_S1x4098x128_000_020_000
  unfold res_main_v980 res_main_v993 res_main_v1007 res_main_v1021
  generalize addf (F := Ideal) (φ := .f32) (res_main_v978 V0) _ = w3 at h3 ⊢
  generalize addf (F := Ideal) (φ := .f32) (res_main_v991 V0) _ = w2 at h2 ⊢
  generalize addf (F := Ideal) (φ := .f32) (res_main_v1005 V0) _ = w1 at h1 ⊢
  generalize addf (F := Ideal) (φ := .f32) (res_main_v1019 V0) _ = w0 at h0 ⊢
  match g with
  | ⟨0, _⟩ =>
    have h := h0 r k
    rw [Nat.mul_zero, Nat.zero_add] at h
    pointwise
    exact h
  | ⟨1, _⟩ => pointwise; exact h1 r k
  | ⟨2, _⟩ => pointwise; exact h2 r k
  | ⟨3, _⟩ => pointwise; exact h3 r k

/-- The gradient of the pooled columns. -/
theorem rpool : IsR (n := 512) (shapeCast S1x4096x512 (addf (F := Ideal) (φ := .f32) (addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (Host.negf (F := Ideal) (φ := .f32) (res_main_v973 V0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (Host.negf (F := Ideal) (φ := .f32) (res_main_v971 V0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (Host.negf (F := Ideal) (φ := .f32) (res_main_v969 V0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (Host.negf (F := Ideal) (φ := .f32) (res_main_v967 V0))) (constant (F := Ideal) S_ .f32 0x00000000#32) pads_S1x4096x1x128_S1x4096x4x128_000_000_030_000 h_S_)) (Host.reduceWindowAdd (F := Ideal) (φ := .f32) ![1, 4096, 1, 1] ![1, 1, 1, 1] ![0, 0, 0, 0] ![0, 4095, 0, 0] (addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (addf (F := Ideal) (φ := .f32) (res_main_v978 V0) (extractStridedSlice S1x4096x128 ![0, 16, 0] (res_main_v980 V0) slices_S1x4112x128_S1x4096x128_0_16_0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (addf (F := Ideal) (φ := .f32) (res_main_v991 V0) (extractStridedSlice S1x4096x128 ![0, 8, 0] (res_main_v993 V0) slices_S1x4104x128_S1x4096x128_0_8_0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (addf (F := Ideal) (φ := .f32) (res_main_v1005 V0) (extractStridedSlice S1x4096x128 ![0, 4, 0] (res_main_v1007 V0) slices_S1x4100x128_S1x4096x128_0_4_0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (addf (F := Ideal) (φ := .f32) (res_main_v1019 V0) (extractStridedSlice S1x4096x128 ![0, 2, 0] (res_main_v1021 V0) slices_S1x4098x128_S1x4096x128_0_2_0))) (constant (F := Ideal) S_ .f32 0x00000000#32) pads_S1x4096x1x128_S1x4096x4x128_000_000_030_000 h_S_)) (broadcastInDim S_ ![] bcast_S_S_ (constant (F := Ideal) S_ .f32 0x00000000#32)) reduceWindows_S1x4096x4x128_S1x4096x4x128_w1s1p0_0_w4096s1p0_4095_w1s1p0_0_w1s1p0_0 h_S_)) shapeCasts_S1x4096x4x128_S1x4096x512)
    (fun r k => dpA Y S W (r + 32) k) := by
  have hd := rdiffs V0 hY hS hW
  generalize (addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (addf (F := Ideal) (φ := .f32) (res_main_v978 V0) (extractStridedSlice S1x4096x128 ![0, 16, 0] (res_main_v980 V0) slices_S1x4112x128_S1x4096x128_0_16_0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (addf (F := Ideal) (φ := .f32) (res_main_v991 V0) (extractStridedSlice S1x4096x128 ![0, 8, 0] (res_main_v993 V0) slices_S1x4104x128_S1x4096x128_0_8_0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (addf (F := Ideal) (φ := .f32) (res_main_v1005 V0) (extractStridedSlice S1x4096x128 ![0, 4, 0] (res_main_v1007 V0) slices_S1x4100x128_S1x4096x128_0_4_0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (addf (F := Ideal) (φ := .f32) (res_main_v1019 V0) (extractStridedSlice S1x4096x128 ![0, 2, 0] (res_main_v1021 V0) slices_S1x4098x128_S1x4096x128_0_2_0))) (constant (F := Ideal) S_ .f32 0x00000000#32) pads_S1x4096x1x128_S1x4096x4x128_000_000_030_000 h_S_)) = w at hd ⊢
  have hs : ∀ (r : Fin 4096) (g : Fin 4) (k : Fin 128), Host.reduceWindowAdd (F := Ideal) (φ := .f32) ![1, 4096, 1, 1] ![1, 1, 1, 1] ![0, 0, 0, 0] ![0, 4095, 0, 0] w (broadcastInDim S_ ![] bcast_S_S_ (constant (F := Ideal) S_ .f32 0x00000000#32)) reduceWindows_S1x4096x4x128_S1x4096x4x128_w1s1p0_0_w4096s1p0_4095_w1s1p0_0_w1s1p0_0 h_S_ (ix4 0 r g k)
      = ((∑ n ∈ Finset.Ico r.val 4096, (eR Y S W (2 ^ (g.val + 1)) n (128 * g + k) - eR Y S W (2 ^ (g.val + 1)) (n + 2 ^ (g.val + 1)) (128 * g + k)) : ℝ) : EReal) := by
    intro r g k
    unfold Host.reduceWindowAdd
    rw [Ideal.hostReduceWindowAdd_def]
    have hz : (broadcastInDim S_ ![] bcast_S_S_ (constant (F := Ideal) S_ .f32 0x00000000#32)) (Shape.Idx.first h_S_) = (0 : EReal) := by
      show Ideal.ofBits .f32 0x00000000#32 = 0
      simp [Ideal.ofBits, Ideal.ieee]
    rw [hz]
    exact Cumsum.from_row (G := 4) (K := 128) _ w (fun n g k => eR Y S W (2 ^ (g + 1)) n (128 * g + k) - eR Y S W (2 ^ (g + 1)) (n + 2 ^ (g + 1)) (128 * g + k)) hd r g k
  generalize Host.reduceWindowAdd (F := Ideal) (φ := .f32) ![1, 4096, 1, 1] ![1, 1, 1, 1] ![0, 0, 0, 0] ![0, 4095, 0, 0] w _ _ _ = u at hs ⊢
  have hn : ∀ (r : Fin 4096) (g : Fin 4) (k : Fin 128), (addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (Host.negf (F := Ideal) (φ := .f32) (res_main_v973 V0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (Host.negf (F := Ideal) (φ := .f32) (res_main_v971 V0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (Host.negf (F := Ideal) (φ := .f32) (res_main_v969 V0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (Host.negf (F := Ideal) (φ := .f32) (res_main_v967 V0))) (constant (F := Ideal) S_ .f32 0x00000000#32) pads_S1x4096x1x128_S1x4096x4x128_000_000_030_000 h_S_)) (ix4 0 r g k) = ((-ddR Y S W (r + 32) (128 * g + k) : ℝ) : EReal) := by
    intro r g k
    rw [EReal.coe_neg]
    match g with
    | ⟨0, _⟩ =>
      have h := r963 V0 hY hS hW r 0 k
      rw [show 128 * ((0 : Fin 4) : ℕ) + (k : ℕ) = k from Nat.zero_add _] at h
      pointwise [res_main_v967]
      exact congrArg _ h
    | ⟨1, _⟩ => pointwise [res_main_v969]; exact congrArg _ (r963 V0 hY hS hW r 1 k)
    | ⟨2, _⟩ => pointwise [res_main_v971]; exact congrArg _ (r963 V0 hY hS hW r 2 k)
    | ⟨3, _⟩ => pointwise [res_main_v973]; exact congrArg _ (r963 V0 hY hS hW r 3 k)
  generalize addf (F := Ideal) (φ := .f32) (addf (F := Ideal) (φ := .f32) (addf (F := Ideal) (φ := .f32) (pad S1x4096x4x128 ![0, 0, 3, 0] ![0, 0, 0, 0] ![0, 0, 0, 0] (broadcastInDim S1x4096x1x128 ![0, 1, 3] bcast_S1x4096x128_S1x4096x1x128_0_1_3 (Host.negf (F := Ideal) (φ := .f32) (res_main_v973 V0))) (constant (F := Ideal) S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (Host.negf (F := Ideal) (φ := .f32) (res_main_v971 V0))) (constant (F := Ideal) S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (Host.negf (F := Ideal) (φ := .f32) (res_main_v969 V0))) (constant (F := Ideal) S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (Host.negf (F := Ideal) (φ := .f32) (res_main_v967 V0))) (constant (F := Ideal) S_ .f32 0x00000000#32) pads_S1x4096x1x128_S1x4096x4x128_000_000_030_000 h_S_) = v at hn ⊢
  intro r k
  pointwise
  rw [hn, hs, ← EReal.coe_add, dpA_eq _ _ _ (Nat.mod_lt _ (by omega)) r.isLt]
  exact congrArg (fun j => ((dpA Y S W (r + 32) j : ℝ) : EReal)) (by dsimp only; omega)
end

end Cert.MixRefIdeal.Hand

end

end
-- ==== Proof.MixDpRefAll.lean ====
/- The reference's gradient of the projection, all its columns. -/
module

public import proofs.«01_k».proof.Proof.MixDpRefConv
public import proofs.«01_k».proof.Proof.MixDpRefPool

@[expose] public section

set_option maxRecDepth 16384

noncomputable section

namespace Cert.MixRefIdeal.Hand

open Cert.MixRefIdeal Cert.MixRefIdeal.Gen Cert.MixRefIdeal.Value Cert.Mix Idealize.ShloMosaic Idealize.ShloMosaic.TcCoe Idealize.SL.Sem
open Cert.MixIdeal.Hand (dpA dqF cvF padR dygT dpu dpv dpK DpIn)

/-- Two groups of columns side by side. -/
theorem side2 {a b : FVec Ideal S1x4096x512 .f32} {f g F : ℕ → ℕ → ℝ} (ha : IsR (n := 512) a f) (hb : IsR (n := 512) b g)
    (h0 : ∀ r k, k < 512 → f r k = F r k) (h1 : ∀ r k, k < 512 → g r k = F r (512 + k)) :
    IsR (n := 1024) (concatenate S1x4096x1024 2 [⟨S1x4096x512, a⟩, ⟨S1x4096x512, b⟩] concatenates_S1x4096x512_S1x4096x512_S1x4096x1024_d2) F := by
  intro r k
  pointwise
  by_cases c0 : k.val < 512
  · simp only [c0, dite_true]
    rw [ha, h0 _ _ c0]
  · simp only [c0, dite_false]
    rw [hb]
    dsimp only
    rw [h1 _ _ (by omega), show 512 + (k.val - 512) = k.val by omega]

/-- Three groups of columns side by side. -/
theorem side3 {a b c : FVec Ideal S1x4096x512 .f32} {f g h F : ℕ → ℕ → ℝ} (ha : IsR (n := 512) a f) (hb : IsR (n := 512) b g) (hc : IsR (n := 512) c h)
    (h0 : ∀ r k, k < 512 → f r k = F r k) (h1 : ∀ r k, k < 512 → g r k = F r (512 + k)) (h2 : ∀ r k, k < 512 → h r k = F r (1024 + k)) :
    IsR (n := 1536) (concatenate S1x4096x1536 2 [⟨S1x4096x512, a⟩, ⟨S1x4096x512, b⟩, ⟨S1x4096x512, c⟩] concatenates_S1x4096x512_S1x4096x512_S1x4096x512_S1x4096x1536_d2) F := by
  intro r k
  pointwise
  by_cases c0 : k.val < 512
  · simp only [c0, dite_true]
    rw [ha, h0 _ _ c0]
  · by_cases c1 : k.val - 512 < 512
    · simp only [c0, c1, dite_true, dite_false]
      rw [hb]
      dsimp only
      rw [h1 _ _ (by omega), show 512 + (k.val - 512) = k.val by omega]
    · simp only [c0, c1, dite_false]
      rw [hc]
      dsimp only
      rw [h2 _ _ (by omega), show 1024 + (k.val - 512 - 512) = k.val by omega]

/-- The groups of the call's own columns side by side. -/
theorem side5 {a : FVec Ideal S1x4096x512 .f32} {b : FVec Ideal S1x4096x1536 .f32} {c d : FVec Ideal S1x4096x1024 .f32} {e : FVec Ideal S1x4096x4096 .f32}
    {f0 f1 f2 f3 F : ℕ → ℕ → ℝ} (ha : IsR (n := 512) a f0) (hb : IsR (n := 1536) b f1) (hc : IsR (n := 1024) c f2) (hd : IsR (n := 1024) d f3)
    (h0 : ∀ r k, k < 512 → f0 r k = F r k) (h1 : ∀ r k, k < 1536 → f1 r k = F r (512 + k)) (h2 : ∀ r k, k < 1024 → f2 r k = F r (2048 + k)) (h3 : ∀ r k, k < 1024 → f3 r k = F r (3072 + k))
    (r : Fin 4096) (k : Fin 8192) (hk : k.val < 4096) :
    concatenate S1x4096x8192 2 [⟨S1x4096x512, a⟩, ⟨S1x4096x1536, b⟩, ⟨S1x4096x1024, c⟩, ⟨S1x4096x1024, d⟩, ⟨S1x4096x4096, e⟩]
      concatenates_S1x4096x512_S1x4096x1536_S1x4096x1024_S1x4096x1024_S1x4096x4096_S1x4096x8192_d2 (ix3 0 r k) = ((F r k : ℝ) : EReal) := by
  pointwise
  by_cases c0 : k.val < 512
  · simp only [c0, dite_true]
    rw [ha, h0 _ _ c0]
  by_cases c1 : k.val - 512 < 1536
  · simp only [c0, c1, dite_true, dite_false]
    rw [hb]
    dsimp only
    rw [h1 _ _ c1, show 512 + (k.val - 512) = k.val by omega]
  by_cases c2 : k.val - 512 - 1536 < 1024
  · simp only [c0, c1, c2, dite_true, dite_false]
    rw [hc]
    dsimp only
    rw [h2 _ _ c2, show 2048 + (k.val - 512 - 1536) = k.val by omega]
  have c3 : k.val - 512 - 1536 - 1024 < 1024 := by omega
  simp only [c0, c1, c2, c3, dite_true, dite_false]
  rw [hd]
  dsimp only
  rw [h3 _ _ c3, show 3072 + (k.val - 512 - 1536 - 1024) = k.val by omega]

variable (V0 : Valuation τ sig (Elt Ideal)) {q : DpIn}

section
variable (hX : IsR (n := 8192) (V0 (Proc.devRef .tc main_arg0)) q.X)
  (hPW : Is3 (a := 4) (n := 128) (m := 128) (V0 (Proc.devRef .tc main_arg1)) q.PW)
  (hPS : ∀ k : Fin 512, (V0 (Proc.devRef .tc main_arg2) : FVec Ideal S512 .f32) (ix1 k) = ((q.PS k : ℝ) : EReal))
  (hSW : Is2 (n := 3) (m := 512) (V0 (Proc.devRef .tc main_arg3)) q.SW)
  (hC : Is2 (n := 31) (m := 512) (V0 (Proc.devRef .tc main_arg4)) q.CW)
  (hCG : ∀ k : Fin 512, (V0 (Proc.devRef .tc main_arg5) : FVec Ideal S512 .f32) (ix1 k) = ((q.CG k : ℝ) : EReal))
  (hCB : ∀ k : Fin 512, (V0 (Proc.devRef .tc main_arg6) : FVec Ideal S512 .f32) (ix1 k) = ((q.CB k : ℝ) : EReal))
  (hG : ∀ k : Fin 512, (V0 (Proc.devRef .tc main_arg7) : FVec Ideal S512 .f32) (ix1 k) = ((q.G k : ℝ) : EReal))
  (hB : ∀ k : Fin 512, (V0 (Proc.devRef .tc main_arg8) : FVec Ideal S512 .f32) (ix1 k) = ((q.B k : ℝ) : EReal))
  (hW : Is3 (a := 4) (n := 128) (m := 128) (V0 (Proc.devRef .tc main_arg9)) q.W)
  (hSB : Is2 (n := 4) (m := 128) (V0 (Proc.devRef .tc main_arg10)) q.SB)
  (hY : ∀ (r : Fin 4096) (b : Fin 4) (k : Fin 512), (V0 (Proc.devRef .tc main_arg11) : FVec Ideal S1x4096x4x512 .f32) (ix4 0 r b k) = ((q.Y r (512 * b + k) : ℝ) : EReal))

include hX hPW hPS hSW hC hCG hCB hG hB hW hSB hY in
/-- The call's own columns. -/
theorem r1032 (r : Fin 4096) (k : Fin 8192) (hk : k.val < 4096) : (res_main_v1032 V0) (ix3 0 r k) = ((dpK q r k : ℝ) : EReal) := by
  obtain ⟨s0, s1, s2⟩ := rshort V0 hX hSW hY
  obtain ⟨l0, l1⟩ := rlong V0 hX hC hCG hCB hY
  have hs := side3 (F := fun r k => dpK q r (512 + k)) s0 s1 s2
    (fun r k hk => by unfold dpK; rw [if_neg (by omega), if_pos (by omega), Nat.add_sub_cancel_left])
    (fun r k hk => by unfold dpK; rw [if_neg (by omega), if_neg (by omega), if_pos (by omega), show 512 + (512 + k) - 1024 = k by omega])
    (fun r k hk => by unfold dpK; rw [if_neg (by omega), if_neg (by omega), if_neg (by omega), if_pos (by omega), show 512 + (1024 + k) - 1536 = k by omega])
  have hl := side2 (F := fun r k => dpK q r (2048 + k)) l0 l1
    (fun r k hk => by unfold dpK; rw [if_neg (by omega), if_neg (by omega), if_neg (by omega), if_neg (by omega), if_pos (by omega), Nat.add_sub_cancel_left])
    (fun r k hk => by
      unfold dpK
      rw [if_neg (by omega), if_neg (by omega), if_neg (by omega), if_neg (by omega), if_neg (by omega), if_pos (by omega), show 2048 + (512 + k) - 2560 = k by omega])
  exact side5 (F := dpK q) (rpool V0 hY hPS hPW) hs hl (rgate V0 hX hY hG hB hW hSB)
    (fun r k hk => by unfold dpK; rw [if_pos hk]) (fun _ _ _ => rfl) (fun _ _ _ => rfl)
    (fun r k hk => by
      unfold dpK
      rw [if_neg (by omega), if_neg (by omega), if_neg (by omega), if_neg (by omega), if_neg (by omega), if_neg (by omega)]
      unfold dgH
      by_cases h : k < 512
      · rw [if_pos h, if_pos (show 3072 + k < 3584 by omega), show 3072 + k - 3072 = k by omega]
        rfl
      · rw [if_neg h, if_neg (show ¬3072 + k < 3584 by omega)]
        unfold dpv
        rw [show 3584 + (3072 + k - 3584) = 3072 + k by omega, show 3072 + k - 3584 = k - 512 by omega]) r k hk

/-- The whole result: the call's own columns, and the given ones beside them. -/
theorem rdp : ∀ (r : Fin 4096) (k : Fin 8192), truncf (F := Ideal) .bf16 (concatenate S4096x8192 1 [⟨S4096x4096, (shapeCast S4096x4096 (extractStridedSlice S1x4096x4096 ![0, 0, 0] (res_main_v1032 V0) slices_S1x4096x8192_S1x4096x4096_0_0_0) shapeCasts_S1x4096x4096_S4096x4096)⟩, ⟨S4096x4096, (shapeCast S4096x4096 (extractStridedSlice S1x4096x4096 ![0, 0, 4096] (V0 (Proc.devRef .tc main_arg12)) slices_S1x4096x8192_S1x4096x4096_0_0_4096) shapeCasts_S1x4096x4096_S4096x4096)⟩] concatenates_S4096x4096_S4096x4096_S4096x8192_d1) bitsLt_bf16_f32 (ix2 r k)
    = if k.val < 4096 then (res_main_v1032 V0) (ix3 0 r k) else (V0 (Proc.devRef .tc main_arg12) : FVec Ideal S1x4096x8192 .f32) (ix3 0 r k) := by
  intro r k
  generalize res_main_v1032 V0 = w
  pointwise
  by_cases c0 : k.val < 4096
  · simp only [c0, dite_true, if_true]
  · simp only [c0, dite_false, if_false]
    exact congrArg (fun j => (V0 (Proc.devRef .tc main_arg12) : FVec Ideal S1x4096x8192 .f32) (ix3 0 r j)) (Fin.ext (by dsimp only; omega))
end

end Cert.MixRefIdeal.Hand

end

end
-- ==== Proof.MixClaim.lean ====
/- The branches' backward call: its arguments read as real numbers, the reference's own run, and the value claim. -/
module

public import proofs.«01_k».proof.Defs
public import proofs.«01_k».proof.Proof.Gen.MixIdeal.Value
public import proofs.«01_k».proof.Proof.Gen.MixRefIdeal
public import proofs.«01_k».proof.Proof.Gen.Pre_mix_finite
public import proofs.«01_k».proof.Proof.MixSguFinal
public import proofs.«01_k».proof.Proof.MixSguRef
public import proofs.«01_k».proof.Proof.MixPoolFinal
public import proofs.«01_k».proof.Proof.MixPoolRef
public import proofs.«01_k».proof.Proof.MixConvFinal
public import proofs.«01_k».proof.Proof.MixTaps
public import proofs.«01_k».proof.Proof.MixShort
public import proofs.«01_k».proof.Proof.MixDpFinal
public import proofs.«01_k».proof.Proof.MixDpRefAll
public import proofs.«01_k».proof.Proof.Finite

@[expose] public section

set_option maxRecDepth 16384

noncomputable section

namespace Cert.Proof

open Idealize.ShloMosaic Idealize.SL.Sem Idealize.ShloMosaic.TcCoe
open Cert.Mix (Is2 Is3)
open Cert.Finite (of_andi real_of_test)

/-- Two matrices which hold the same reals are equal. -/
theorem is2_eq {n m : ℕ} {v w : (⟨2, ![n, m]⟩ : Shape).Idx → EReal} {f : ℕ → ℕ → ℝ} (hv : Is2 v f) (hw : Is2 w f) : v = w :=
  Cert.Tiles.ext2 (n0 := n) (n1 := m) _ _ fun r k => (hv r k).trans (hw r k).symm

/-- Two stacks of matrices which hold the same reals are equal. -/
theorem is3_eq {a n m : ℕ} {v w : (⟨3, ![a, n, m]⟩ : Shape).Idx → EReal} {f : ℕ → ℕ → ℕ → ℝ} (hv : Is3 v f) (hw : Is3 w f) : v = w := by
  funext i
  rw [← ix3_eta i]
  exact (hv _ _ _).trans (hw _ _ _).symm

/-- The real value at a number below `n`, zero above. -/
def at1 {n : ℕ} (f : Fin n → ℝ) (k : ℕ) : ℝ := if h : k < n then f ⟨k, h⟩ else 0

theorem at1_val {n : ℕ} (f : Fin n → ℝ) (k : Fin n) : at1 f k = f k := dif_pos k.isLt

/-- An array of reals along one axis, as numbers. -/
theorem vec_of {n : ℕ} {v : (⟨1, ![n]⟩ : Shape).Idx → EReal} {f : (⟨1, ![n]⟩ : Shape).Idx → ℝ} (h : ∀ i, v i = (f i : EReal)) :
    ∃ g : ℕ → ℝ, ∀ k : Fin n, v (ix1 k) = ((g k : ℝ) : EReal) :=
  ⟨at1 (fun k => f (ix1 k)), fun k => by rw [at1_val, h]⟩

/-- A matrix of reals. -/
theorem mat_of {n m : ℕ} {v : (⟨2, ![n, m]⟩ : Shape).Idx → EReal} {f : (⟨2, ![n, m]⟩ : Shape).Idx → ℝ} (h : ∀ i, v i = (f i : EReal)) :
    ∃ g : ℕ → ℕ → ℝ, Is2 v g :=
  ⟨fun r k => at1 (fun r => at1 (fun k => f (ix2 r k)) k) r, fun r k => by beta_reduce; rw [at1_val, at1_val, h]⟩

/-- A stack of matrices of reals. -/
theorem mats_of {a n m : ℕ} {v : (⟨3, ![a, n, m]⟩ : Shape).Idx → EReal} {f : (⟨3, ![a, n, m]⟩ : Shape).Idx → ℝ} (h : ∀ i, v i = (f i : EReal)) :
    ∃ g : ℕ → ℕ → ℕ → ℝ, Is3 v g :=
  ⟨fun b r k => at1 (fun b => at1 (fun r => at1 (fun k => f (ix3 b r k)) k) r) b, fun b r k => by beta_reduce; rw [at1_val, at1_val, at1_val, h]⟩

/-- One sequence of rows of reals. -/
theorem rows_of {n m : ℕ} {v : (⟨3, ![1, n, m]⟩ : Shape).Idx → EReal} {f : (⟨3, ![1, n, m]⟩ : Shape).Idx → ℝ} (h : ∀ i, v i = (f i : EReal)) :
    ∃ g : ℕ → ℕ → ℝ, ∀ (r : Fin n) (k : Fin m), v (ix3 0 r k) = ((g r k : ℝ) : EReal) :=
  ⟨fun r k => at1 (fun r => at1 (fun k => f (ix3 0 r k)) k) r, fun r k => by beta_reduce; rw [at1_val, at1_val, h]⟩

/-- One sequence of rows of reals in four branches of 512, the branches counted as columns. -/
theorem branches_of {n : ℕ} {v : (⟨4, ![1, n, 4, 512]⟩ : Shape).Idx → EReal} {f : (⟨4, ![1, n, 4, 512]⟩ : Shape).Idx → ℝ} (h : ∀ i, v i = (f i : EReal)) :
    ∃ g : ℕ → ℕ → ℝ, ∀ (r : Fin n) (b : Fin 4) (k : Fin 512), v (ix4 0 r b k) = ((g r (512 * b + k) : ℝ) : EReal) := by
  refine ⟨fun r k => at1 (fun r => at1 (fun b => at1 (fun k => f (ix4 0 r b k)) (k % 512)) (k / 512)) r, fun r b k => ?_⟩
  have h1 : (512 * b.val + k.val) % 512 = k.val := by have := k.isLt; omega
  have h2 : (512 * b.val + k.val) / 512 = b.val := by have := k.isLt; omega
  beta_reduce
  rw [h1, h2, at1_val, at1_val, at1_val, h]

open Cert.MixIdeal in
/-- The arguments of the branches' backward call as real numbers. -/
structure MixReals (m : (ℓ : Loc nD τ sig) → Buf (Elt Ideal) ℓ) (c : Dev nD) where
  /-- The values of the projected activations. -/
  X : ℕ → ℕ → ℝ
  /-- The values of the pooling matrices. -/
  PW : ℕ → ℕ → ℕ → ℝ
  /-- The values of the pooling scale. -/
  PS : ℕ → ℝ
  /-- The values of the short filter. -/
  SW : ℕ → ℕ → ℝ
  /-- The values of the long filter. -/
  CW : ℕ → ℕ → ℝ
  /-- The values of the gain after the long filter. -/
  CG : ℕ → ℝ
  /-- The values of the shift after the long filter. -/
  CB : ℕ → ℝ
  /-- The values of the gating unit's gain. -/
  G : ℕ → ℝ
  /-- The values of the gating unit's shift. -/
  B : ℕ → ℝ
  /-- The values of the gating unit's matrices. -/
  W : ℕ → ℕ → ℕ → ℝ
  /-- The values of the gating unit's biases. -/
  SB : ℕ → ℕ → ℝ
  /-- The values of the result's gradient, its four branches side by side. -/
  Y : ℕ → ℕ → ℝ
  hX : ∀ (r : Fin 4096) (k : Fin 8192), (m ((c.tc : Thread nD τ).loc main_arg0) : FVec Ideal S1x4096x8192 .f32) (ix3 0 r k) = ((X r k : ℝ) : EReal)
  hPW : Is3 (a := 4) (n := 128) (m := 128) (m ((c.tc : Thread nD τ).loc main_arg1)) PW
  hPS : ∀ k : Fin 512, (m ((c.tc : Thread nD τ).loc main_arg2) : FVec Ideal S512 .f32) (ix1 k) = ((PS k : ℝ) : EReal)
  hSW : Is2 (n := 3) (m := 512) (m ((c.tc : Thread nD τ).loc main_arg3)) SW
  hCW : Is2 (n := 31) (m := 512) (m ((c.tc : Thread nD τ).loc main_arg4)) CW
  hCG : ∀ k : Fin 512, (m ((c.tc : Thread nD τ).loc main_arg5) : FVec Ideal S512 .f32) (ix1 k) = ((CG k : ℝ) : EReal)
  hCB : ∀ k : Fin 512, (m ((c.tc : Thread nD τ).loc main_arg6) : FVec Ideal S512 .f32) (ix1 k) = ((CB k : ℝ) : EReal)
  hG : ∀ k : Fin 512, (m ((c.tc : Thread nD τ).loc main_arg7) : FVec Ideal S512 .f32) (ix1 k) = ((G k : ℝ) : EReal)
  hB : ∀ k : Fin 512, (m ((c.tc : Thread nD τ).loc main_arg8) : FVec Ideal S512 .f32) (ix1 k) = ((B k : ℝ) : EReal)
  hW : Is3 (a := 4) (n := 128) (m := 128) (m ((c.tc : Thread nD τ).loc main_arg9)) W
  hSB : Is2 (n := 4) (m := 128) (m ((c.tc : Thread nD τ).loc main_arg10)) SB
  hY : ∀ (r : Fin 4096) (b : Fin 4) (k : Fin 512), (m ((c.tc : Thread nD τ).loc main_arg11) : FVec Ideal S1x4096x4x512 .f32) (ix4 0 r b k) = ((Y r (512 * b + k) : ℝ) : EReal)

/-- The precondition read: every argument it names is real on every device. -/
theorem mix_real (m : (ℓ : Loc Cert.MixIdeal.nD Cert.MixIdeal.τ Cert.MixIdeal.sig) → Buf (Elt Ideal) ℓ)
    (h : Cert.Pre_MixIdeal_mix_finite (hPre_mix_finite := Cert.Pre_mix_finite.Gen.facts) m) (c : Dev Cert.MixIdeal.nD) : Nonempty (MixReals m c) := by
  have hc := h c
  dsimp only [Cert.Pre_mix_finite.fn] at hc
  obtain ⟨hc, t11⟩ := of_andi hc
  obtain ⟨hc, t10⟩ := of_andi hc
  obtain ⟨hc, t9⟩ := of_andi hc
  obtain ⟨hc, t8⟩ := of_andi hc
  obtain ⟨hc, t7⟩ := of_andi hc
  obtain ⟨hc, t6⟩ := of_andi hc
  obtain ⟨hc, t5⟩ := of_andi hc
  obtain ⟨hc, t4⟩ := of_andi hc
  obtain ⟨hc, t3⟩ := of_andi hc
  obtain ⟨hc, t2⟩ := of_andi hc
  obtain ⟨t0, t1⟩ := of_andi hc
  obtain ⟨X, hX⟩ := rows_of (real_of_test _ t0).choose_spec
  obtain ⟨PW, hPW⟩ := mats_of (real_of_test _ t1).choose_spec
  obtain ⟨PS, hPS⟩ := vec_of (real_of_test _ t2).choose_spec
  obtain ⟨SW, hSW⟩ := mat_of (real_of_test _ t3).choose_spec
  obtain ⟨CW, hCW⟩ := mat_of (real_of_test _ t4).choose_spec
  obtain ⟨CG, hCG⟩ := vec_of (real_of_test _ t5).choose_spec
  obtain ⟨CB, hCB⟩ := vec_of (real_of_test _ t6).choose_spec
  obtain ⟨G, hG⟩ := vec_of (real_of_test _ t7).choose_spec
  obtain ⟨B, hB⟩ := vec_of (real_of_test _ t8).choose_spec
  obtain ⟨W, hW⟩ := mats_of (real_of_test _ t9).choose_spec
  obtain ⟨SB, hSB⟩ := mat_of (real_of_test _ t10).choose_spec
  obtain ⟨Y, hY⟩ := branches_of (real_of_test _ t11).choose_spec
  exact ⟨⟨X, PW, PS, SW, CW, CG, CB, G, B, W, SB, Y, hX, hPW, hPS, hSW, hCW, hCG, hCB, hG, hB, hW, hSB, hY⟩⟩

open Cert.MixRefIdeal in
/-- The reference's run changes no argument and moves no counter: it has none. -/
theorem mix_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => (h c).2.2.2.2.2.2.2.2.2.2.2, sem_eq_zero_of_no_sems (by decide) r.2⟩) (Value.run m ρ)

/-- The reals of the arguments in the order in which the projection's gradient takes them. -/
def MixReals.din {m : (ℓ : Loc Cert.MixIdeal.nD Cert.MixIdeal.τ Cert.MixIdeal.sig) → Buf (Elt Ideal) ℓ} {c : Dev Cert.MixIdeal.nD} (q : MixReals m c) :
    Cert.MixIdeal.Hand.DpIn :=
  ⟨q.X, q.Y, q.PW, q.PS, q.SW, q.CW, q.CG, q.CB, q.G, q.B, q.W, q.SB⟩

/-- The short filter's gradient: the kernel sums over its padded rows what the reference sums over its own. -/
theorem short_sum (X Y : ℕ → ℕ → ℝ) (i k : ℕ) :
    (if i < 3 then ∑ r ∈ Finset.range 4096, Cert.MixIdeal.Hand.dcF X Y (32 + r) k * Cert.MixIdeal.Hand.qF X (30 + r + i) k else 0)
      = if i < 3 then ∑ r ∈ Finset.range 4096, X r (1024 + k) * Y r (512 + k) * Cert.Mix.qS X (i + r) k else 0 := by
  by_cases hi : i < 3
  · rw [if_pos hi, if_pos hi]
    refine Finset.sum_congr rfl fun r hr => ?_
    have hr' := Finset.mem_range.mp hr
    rw [Nat.add_comm 32 r, Nat.add_comm 30 r, Cert.MixRefIdeal.Hand.dcF_own, Cert.MixRefIdeal.Hand.qF_own hr' hi, if_pos hr', Nat.add_comm r i]
  · rw [if_neg hi, if_neg hi]

/-- The long filter's gradient: the kernel moves the convolution's gradient, the reference the convolution's input. -/
theorem long_sum (X CW Y : ℕ → ℕ → ℝ) (G B : ℕ → ℝ) (i k : ℕ) :
    (if i < 31 then ∑ r ∈ Finset.range 4096, Cert.MixIdeal.Hand.dzE X CW Y G B (r + (30 - i)) k * Cert.Mix.gte X r k else 0)
      = if i < 31 then ∑ r ∈ Finset.range 4096, Cert.Mix.lnB (Cert.Mix.convZ X CW) (fun r k => Cert.Mix.dnZ X CW Y G B r k * G k) r k * Cert.Mix.xg X (i + r) k else 0 := by
  by_cases hi : i < 31
  · rw [if_pos hi, if_pos hi]
    refine (Cert.Mix.shift_sum (fun r => Cert.Mix.lnB (Cert.Mix.convZ X CW) (fun r k => Cert.Mix.dnZ X CW Y G B r k * G k) r k) (fun r => Cert.Mix.gte X r k) 4096 (30 - i)).trans ?_
    refine Finset.sum_congr rfl fun r _ => ?_
    unfold Cert.Mix.xg
    by_cases h : i + r < 30
    · rw [if_pos h, if_pos (by omega)]
    · rw [if_neg h, if_neg (by omega), show r - (30 - i) = i + r - 30 by omega]
  · rw [if_neg hi, if_neg hi]

open Cert.MixIdeal (cfg0) in
open Cert.MixIdeal.Gen (dats) in
open Cert.MixIdeal.Hand Cert.MixRefIdeal.Hand in
open Cert.MixRefIdeal (main_arg0 main_arg1 main_arg2 main_arg3 main_arg4 main_arg5 main_arg6 main_arg7 main_arg8 main_arg9 main_arg10 main_arg11) in
/-- The kernel and the reference end with equal gradients of every argument of the branches. -/
theorem mix_algebraic : Cert.algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  intro m g m' g' hpre hargs
  refine ⟨fun c => (dats m 0 c).arrAt 18 cfg0.N,
    fun c => (dats m 0 c).arrAt 19 cfg0.N, fun c => (dats m 0 c).arrAt 20 cfg0.N,
    fun c => (dats m 0 c).arrAt 21 cfg0.N, fun c => (dats m 0 c).arrAt 22 cfg0.N,
    fun c => (dats m 0 c).arrAt 23 cfg0.N, fun c => (dats m 0 c).arrAt 24 cfg0.N,
    fun c => (dats m 0 c).arrAt 25 cfg0.N, fun c => (dats m 0 c).arrAt 26 cfg0.N,
    fun c => (dats m 0 c).arrAt 27 cfg0.N, fun c => (dats m 0 c).arrAt 28 cfg0.N, ?_, ?_⟩
  · exact (θ_run _ _ _).mono (fun r h c => h c) (Cert.MixIdeal.Value.run_blocks m g)
  · refine (θ_run _ _ _).mono (fun r h c => ?_) (Cert.MixRefIdeal.Value.run m' g')
    obtain ⟨q⟩ := mix_real m hpre c
    obtain ⟨a0, a1, a2, a3, a4, a5, a6, a7, a8, a9, a10, a11, a12⟩ := hargs c
    have hX : IsR (n := 8192) (StableHlo.launchContents m' c (Proc.devRef .tc main_arg0)) q.X := fun r k => (congrFun a0 _).trans (q.hX r k)
    have hP : Is3 (a := 4) (n := 128) (m := 128) (StableHlo.launchContents m' c (Proc.devRef .tc main_arg1)) q.PW := fun a r k => (congrFun a1 _).trans (q.hPW a r k)
    have hS : ∀ k : Fin 512, (StableHlo.launchContents m' c (Proc.devRef .tc main_arg2) : FVec Ideal Cert.MixRefIdeal.S512 .f32) (ix1 k) = ((q.PS k : ℝ) : EReal) := fun k => (congrFun a2 _).trans (q.hPS k)
    have hSW : Is2 (n := 3) (m := 512) (StableHlo.launchContents m' c (Proc.devRef .tc main_arg3)) q.SW := fun r k => (congrFun a3 _).trans (q.hSW r k)
    have hC : Is2 (n := 31) (m := 512) (StableHlo.launchContents m' c (Proc.devRef .tc main_arg4)) q.CW := fun r k => (congrFun a4 _).trans (q.hCW r k)
    have hCG : ∀ k : Fin 512, (StableHlo.launchContents m' c (Proc.devRef .tc main_arg5) : FVec Ideal Cert.MixRefIdeal.S512 .f32) (ix1 k) = ((q.CG k : ℝ) : EReal) := fun k => (congrFun a5 _).trans (q.hCG k)
    have hCB : ∀ k : Fin 512, (StableHlo.launchContents m' c (Proc.devRef .tc main_arg6) : FVec Ideal Cert.MixRefIdeal.S512 .f32) (ix1 k) = ((q.CB k : ℝ) : EReal) := fun k => (congrFun a6 _).trans (q.hCB k)
    have hG : ∀ k : Fin 512, (StableHlo.launchContents m' c (Proc.devRef .tc main_arg7) : FVec Ideal Cert.MixRefIdeal.S512 .f32) (ix1 k) = ((q.G k : ℝ) : EReal) := fun k => (congrFun a7 _).trans (q.hG k)
    have hB : ∀ k : Fin 512, (StableHlo.launchContents m' c (Proc.devRef .tc main_arg8) : FVec Ideal Cert.MixRefIdeal.S512 .f32) (ix1 k) = ((q.B k : ℝ) : EReal) := fun k => (congrFun a8 _).trans (q.hB k)
    have hW : Is3 (a := 4) (n := 128) (m := 128) (StableHlo.launchContents m' c (Proc.devRef .tc main_arg9)) q.W := fun a r k => (congrFun a9 _).trans (q.hW a r k)
    have hSB : Is2 (n := 4) (m := 128) (StableHlo.launchContents m' c (Proc.devRef .tc main_arg10)) q.SB := fun r k => (congrFun a10 _).trans (q.hSB r k)
    have hY : ∀ (r : Fin 4096) (b : Fin 4) (k : Fin 512), (StableHlo.launchContents m' c (Proc.devRef .tc main_arg11) : FVec Ideal Cert.MixRefIdeal.S1x4096x4x512 .f32) (ix4 0 r b k) = ((q.Y r (512 * b + k) : ℝ) : EReal) := fun r b k => (congrFun a11 _).trans (q.hY r b k)
    obtain ⟨e0, e1, e2, e3, e4, e5, e6, e7, e8, e9, e10, rest⟩ := h c
    refine ⟨e0.trans (Cert.Tiles.ext2 (n0 := 4096) (n1 := 8192) _ _ fun i k => (rdp _ i k).trans ?_),
      e1.trans (is3_eq (rdpw _ hX hY hS) (kernel_dpw m c q.hX q.hY q.hPS)),
      e2.trans (is2_eq (rdps _ hX hP hY) (kernel_dps m c q.hX q.hY q.hPW)),
      e3.trans (is2_eq (rdsw _ hX hY) fun i k => (kernel_dsw (m := m) (c := c) q.hX q.hY i k).trans (congrArg _ (short_sum q.X q.Y i k))),
      e4.trans (is2_eq (rdcw _ hX hC hCG hCB hY)
        fun i k => (kernel_dcw (m := m) (c := c) q.hX q.hY q.hCW q.hCG q.hCB i k).trans (congrArg _ (long_sum q.X q.CW q.Y q.CG q.CB i k))),
      e5.trans (is2_eq (rdclg _ hX hC hCG hCB hY) (kernel_dclg (m := m) (c := c) q.hX q.hY q.hCW q.hCG q.hCB)),
      e6.trans (is2_eq (rdclb _ hX hC hCG hCB hY) (kernel_dclb (m := m) (c := c) q.hX q.hY q.hCW q.hCG q.hCB)),
      e7.trans (is2_eq (rdslg _ hX hY hW) (kernel_dslg m c q.hX q.hY q.hW)),
      e8.trans (is2_eq (rdslb _ hX hY hW) (kernel_dslb m c q.hX q.hY q.hW)),
      e9.trans (is3_eq (rdgw _ hX hY hG hB) (kernel_dgw m c q.hX q.hY q.hG q.hB)),
      e10.trans (is3_eq (rdgb _ hX hY) (kernel_dgb m c q.hX q.hY)), rest⟩
    by_cases hk : k.val < 4096
    · rw [if_pos hk]
      exact (r1032 _ (q := q.din) hX hP hS hSW hC hCG hCB hG hB hW hSB hY i k hk).trans
        (kernel_dp (m := m) (c := c) (q := q.din) q.hX q.hY q.hPW q.hPS q.hSW q.hCW q.hCG q.hCB q.hG q.hB q.hW q.hSB i k hk).symm
    · rw [if_neg hk]
      exact (congrFun a12 _).trans (kernel_dp_other (m := m) (c := c) i k hk).symm

end Cert.Proof

end
-- ==== Proof.Place.lean ====
/- The places of a window's rows: whole rows of a tile after another, or the same rows for each tile. -/
module

public import Idealize.ShloMosaic.Lib.Pointwise

@[expose] public section

namespace Cert.Place

open Idealize.ShloMosaic

/-- Two places with the same coordinates hold the same. -/
theorem pos2 {α : Type} {n p : ℕ} (f : (⟨2, ![n, p]⟩ : Shape).Idx → α) (i : (⟨2, ![n, p]⟩ : Shape).Idx) (r : Fin n) (k : Fin p) (h0 : (i 0).val = r.val) (h1 : (i 1).val = k.val) :
    f i = f (ix2 r k) := congrArg f ((eq_ix2 i).trans (congrArg₂ ix2 (Fin.ext h0) (Fin.ext h1)))

end Cert.Place
-- ==== Proof.ProjCases.lean ====
/- The projection's backward body, one grid point at a time: what its windows read, and what each result window is left holding. -/
module

public import proofs.«01_k».proof.Proof.Gen.ProjBwdIdeal.Value
public import proofs.«01_k».proof.Proof.Rms
public import proofs.«01_k».proof.Proof.Tiles
public import proofs.«01_k».proof.Proof.Place
public import Idealize.ShloMosaic.Lib.Tactic
public import Idealize.ShloMosaic.Lib.Pointwise
public import Idealize.ShloMosaic.Lib.Claim

@[expose] public section

set_option maxRecDepth 16384

noncomputable section

namespace Cert.ProjBwdIdeal.Hand

open Cert.ProjBwdIdeal Cert.ProjBwdIdeal.Gen Idealize.ShloMosaic Idealize.ShloMosaic.TcCoe Idealize.SL.Sem
open Idealize.ShloMosaic.Pipeline (Dat)
open Cert.Lift Cert.Rms

section
variable {F : FTy → Type} [FloatOps F]
variable (m : (ℓ : Loc nD τ sig) → Buf (Elt F) ℓ)

/-- The offset of a whole block. -/
theorem at_zero : (![0, 0] : Fin 2 → Nat) = fun _ => 0 := funext fun a => by fin_cases a <;> rfl

/-- The first tile's gradient of the input. -/
theorem dx_first (c : Dev nD) (t : Fin cfg0.N) (h0 : t.val % 16 = 0) (h1 : ¬1 ≤ t.val) :
    (outsAt0 m c t.val t.isLt).1 = k0_pay7 (iblk m c 0 t) (iblk m c 1 t) (iblk m c 2 t) (iblk m c 3 t) (iblk m c 4 t) := by
  rw [outsAt0_A m c t h0 h1]
  dsimp only
  unfold out0_A_5
  rw [View.read_writes_eq_canon]
  swap; · exact fun _ => cover0_A_5 ..
  unfold kernelRun0_A
  dsimp only
  sl_unfold_words
  rw [View.canon_unit_zero at_zero]
  simp only [View.readAt_eq_ld, (hs0_0 t).read_unread, (hs0_1 t).read_unread, (hs0_2 t).read_unread, (hs0_3 t).read_unread, (hs0_4 t).read_unread,
    View.ld_unit_zero (S := S256x8192) at_zero, View.ld_unit_zero (S := S1024x8192) at_zero, View.ld_unit_zero (S := S256x1024) at_zero, View.ld_unit_zero (S := S1x1024) at_zero]

/-- A later tile's gradient of the input. -/
theorem dx_later (c : Dev nD) (t : Fin cfg0.N) (h0 : ¬t.val % 16 = 0) (h1 : 1 ≤ t.val) :
    (outsAt0 m c t.val t.isLt).1 = k0_pay7 (iblk m c 0 t) (iblk m c 1 t) (iblk m c 2 t) (iblk m c 3 t) (iblk m c 4 t) := by
  rw [outsAt0_B m c t h0 h1]
  dsimp only
  unfold out0_B_5
  rw [View.read_writes_eq_canon]
  swap; · exact fun _ => cover0_B_5 ..
  unfold kernelRun0_B
  dsimp only
  sl_unfold_words
  rw [View.canon_unit_zero at_zero]
  simp only [View.readAt_eq_ld, (hs0_0 t).read_unread, (hs0_1 t).read_unread, (hs0_2 t).read_unread, (hs0_3 t).read_unread, (hs0_4 t).read_unread,
    View.ld_unit_zero (S := S256x8192) at_zero, View.ld_unit_zero (S := S1024x8192) at_zero, View.ld_unit_zero (S := S256x1024) at_zero, View.ld_unit_zero (S := S1x1024) at_zero]

/-- The first tile sets the gain's gradient. -/
theorem dg_first (c : Dev nD) (t : Fin cfg0.N) (h0 : t.val % 16 = 0) (h1 : ¬1 ≤ t.val) :
    (outsAt0 m c t.val t.isLt).2 = k0_pay6 (iblk m c 0 t) (iblk m c 1 t) (iblk m c 2 t) := by
  rw [outsAt0_A m c t h0 h1]
  dsimp only
  unfold out0_A_6
  rw [View.read_writes_eq_canon]
  swap; · exact fun _ => cover0_A_6 ..
  unfold kernelRun0_A
  dsimp only
  sl_unfold_words
  rw [View.canon_unit_zero at_zero]
  simp only [View.readAt_eq_ld, (hs0_0 t).read_unread, (hs0_1 t).read_unread, (hs0_2 t).read_unread,
    View.ld_unit_zero (S := S256x8192) at_zero, View.ld_unit_zero (S := S1024x8192) at_zero, View.ld_unit_zero (S := S256x1024) at_zero]

/-- A later tile adds to the gain's gradient. -/
theorem dg_later (c : Dev nD) (t : Fin cfg0.N) (h0 : ¬t.val % 16 = 0) (h1 : 1 ≤ t.val) :
    (outsAt0 m c t.val t.isLt).2 = addf (outsAt0 m c (t.val - 1) (Nat.lt_of_le_of_lt (Nat.sub_le _ _) t.isLt)).2
      (k0_pay6 (iblk m c 0 t) (iblk m c 1 t) (iblk m c 2 t)) := by
  rw [outsAt0_B m c t h0 h1]
  dsimp only
  unfold out0_B_6
  rw [View.read_writes_eq_canon]
  swap; · exact fun _ => cover0_B_6 ..
  unfold kernelRun0_B
  dsimp only
  sl_unfold_words
  rw [View.canon_unit_zero at_zero]
  unfold k0_pay1
  simp only [View.readAt_eq_ld, (hs0_0 t).read_unread, (hs0_1 t).read_unread, (hs0_2 t).read_unread, (hs0_6 t).read_unread,
    View.ld_unit_zero (S := S256x8192) at_zero, View.ld_unit_zero (S := S1024x8192) at_zero, View.ld_unit_zero (S := S256x1024) at_zero, View.ld_unit_zero (S := S1x1024) at_zero, shapeCast_self]

/-- The argument arrays, as one device holds them. -/
abbrev inX (c : Dev nD) : FVec F S1x4096x1024 .f32 := m ((c : Thread nD τ).loc main_arg0)
abbrev inG (c : Dev nD) : FVec F S1024 .f32 := m ((c : Thread nD τ).loc main_arg1)
abbrev inW (c : Dev nD) : FVec F S1024x8192 .f32 := m ((c : Thread nD τ).loc main_arg2)
abbrev inP (c : Dev nD) : FVec F S1x4096x8192 .f32 := m ((c : Thread nD τ).loc main_arg3)
abbrev inO (c : Dev nD) : FVec F S1x4096x1024 .f32 := m ((c : Thread nD τ).loc main_arg4)

theorem val_P (c : Dev nD) : V m c main_v1 = truncf .bf16 (shapeCast S4096x8192 (inP m c) shapeCasts_S1x4096x8192_S4096x8192) bitsLt_bf16_f32 := by
  unfold V; after_results_simp <;> rfl
theorem val_W (c : Dev nD) : V m c main_v2 = truncf .bf16 (inW m c) bitsLt_bf16_f32 := by
  unfold V; after_results_simp <;> rfl
theorem val_X (c : Dev nD) : V m c main_v3 = shapeCast S4096x1024 (inX m c) shapeCasts_S1x4096x1024_S4096x1024 := by
  unfold V; after_results_simp <;> rfl
theorem val_G (c : Dev nD) : V m c main_v4 = shapeCast S1x1024 (inG m c) shapeCasts_S1024_S1x1024 := by
  unfold V; after_results_simp <;> rfl
theorem val_O (c : Dev nD) : V m c main_v5 = shapeCast S4096x1024 (inO m c) shapeCasts_S1x4096x1024_S4096x1024 := by
  unfold V; after_results_simp <;> rfl

/-- A window that moves a block of rows on with each tile, and one that stays. -/
abbrev Steps (ix : Fin grid0.N → Fin 2 → ℕ) : Prop := ∀ t, ix t 0 = t.val ∧ ix t 1 = 0
abbrev Stays (ix : Fin grid0.N → Fin 2 → ℕ) : Prop := ∀ t, ix t 0 = 0 ∧ ix t 1 = 0
theorem at_0 : Steps win0_0.index := by decide +kernel
theorem at_1 : Stays win0_1.index := by decide +kernel
theorem at_2 : Steps win0_2.index := by decide +kernel
theorem at_3 : Stays win0_3.index := by decide +kernel
theorem at_4 : Steps win0_4.index := by decide +kernel
theorem at_5 : Steps win0_5.index := by decide +kernel
theorem at_6 : Stays win0_6.index := by decide +kernel

/-- Row `a` of tile `t` is row `256 t + a` of the array. -/
abbrev rowAt (t : Fin cfg0.N) (a : Fin 256) : Fin 4096 :=
  ⟨256 * t.val + a.val, by have := lt_of_lt_of_eq t.isLt N_0; have := a.isLt; omega⟩

theorem read_P (c : Dev nD) (t : Fin cfg0.N) (a : Fin 256) (k : Fin 8192) :
    (iblk m c 0 t : Vec F S256x8192 .bf16) (ix2 a k) = V m c main_v1 (ix2 (rowAt t a) k) := by
  refine Cert.Place.pos2 (V m c main_v1) _ _ _ ?_ ?_
  · show win0_0.index t 0 * 256 + 1 * a.val = 256 * t.val + a.val; rw [(at_0 t).1]; omega
  · show win0_0.index t 1 * 8192 + 1 * k.val = k.val; rw [(at_0 t).2]; omega

theorem read_W (c : Dev nD) (t : Fin cfg0.N) (a : Fin 1024) (k : Fin 8192) :
    (iblk m c 1 t : Vec F S1024x8192 .bf16) (ix2 a k) = V m c main_v2 (ix2 a k) := by
  refine Cert.Place.pos2 (V m c main_v2) _ _ _ ?_ ?_
  · show win0_1.index t 0 * 1024 + 1 * a.val = a.val; rw [(at_1 t).1]; omega
  · show win0_1.index t 1 * 8192 + 1 * k.val = k.val; rw [(at_1 t).2]; omega

theorem read_X (c : Dev nD) (t : Fin cfg0.N) (a : Fin 256) (k : Fin 1024) :
    (iblk m c 2 t : Vec F S256x1024 .f32) (ix2 a k) = inX m c (ix3 0 (rowAt t a) k) := by
  have h : (iblk m c 2 t : Vec F S256x1024 .f32) (ix2 a k) = V m c main_v3 (ix2 (rowAt t a) k) := by
    refine Cert.Place.pos2 (V m c main_v3) _ _ _ ?_ ?_
    · show win0_2.index t 0 * 256 + 1 * a.val = 256 * t.val + a.val; rw [(at_2 t).1]; omega
    · show win0_2.index t 1 * 1024 + 1 * k.val = k.val; rw [(at_2 t).2]; omega
  rw [h, val_X]
  pointwise

theorem read_G (c : Dev nD) (t : Fin cfg0.N) (k : Fin 1024) : (iblk m c 3 t : Vec F S1x1024 .f32) (ix2 0 k) = inG m c (ix1 k) := by
  have h : (iblk m c 3 t : Vec F S1x1024 .f32) (ix2 0 k) = V m c main_v4 (ix2 0 k) := by
    refine Cert.Place.pos2 (V m c main_v4) _ _ _ ?_ ?_
    · show win0_3.index t 0 * 1 + 1 * 0 = 0; rw [(at_3 t).1]
    · show win0_3.index t 1 * 1024 + 1 * k.val = k.val; rw [(at_3 t).2]; omega
  rw [h, val_G]
  pointwise

theorem read_O (c : Dev nD) (t : Fin cfg0.N) (a : Fin 256) (k : Fin 1024) :
    (iblk m c 4 t : Vec F S256x1024 .f32) (ix2 a k) = inO m c (ix3 0 (rowAt t a) k) := by
  have h : (iblk m c 4 t : Vec F S256x1024 .f32) (ix2 a k) = V m c main_v5 (ix2 (rowAt t a) k) := by
    refine Cert.Place.pos2 (V m c main_v5) _ _ _ ?_ ?_
    · show win0_4.index t 0 * 256 + 1 * a.val = 256 * t.val + a.val; rw [(at_4 t).1]; omega
    · show win0_4.index t 1 * 1024 + 1 * k.val = k.val; rw [(at_4 t).2]; omega
  rw [h, val_O]
  pointwise

/-- The tile of a row, and the row's place in it. -/
abbrev tileNo (r : Fin 4096) : Fin cfg0.N := ⟨r.val / 256, by rw [show cfg0.N = 16 from N_0]; have := r.isLt; omega⟩
abbrev placeIn (r : Fin 4096) : Fin 256 := ⟨r.val % 256, Nat.mod_lt _ (by decide)⟩

/-- The input's gradient at row `r`: what `r`'s tile stores at `r`'s place in it. -/
theorem dx_at (c : Dev nD) (r : Fin 4096) (k : Fin 1024) :
    ((dats m 0 c).arrAt 5 cfg0.N : Vec F S4096x1024 .f32) (ix2 r k)
      = k0_pay7 (iblk m c 0 (tileNo r)) (iblk m c 1 (tileNo r)) (iblk m c 2 (tileNo r)) (iblk m c 3 (tileNo r)) (iblk m c 4 (tileNo r)) (ix2 (placeIn r) k) := by
  have hb := congrFun ((Value.blocks5 m c (tileNo r) (flush0_5 (tileNo r))).trans (Value.flushed5 m c (tileNo r))) (ix2 (placeIn r) k)
  rw [View.read_apply] at hb
  refine (Cert.Place.pos2 (n := 4096) (p := 1024) _ _ _ _ ?_ ?_).symm.trans (hb.trans ?_)
  · show win0_5.index (tileNo r) 0 * 256 + 1 * (r.val % 256) = r.val; rw [(at_5 _).1]; dsimp only; omega
  · show win0_5.index (tileNo r) 1 * 1024 + 1 * k.val = k.val; rw [(at_5 _).2]; omega
  · have hN : (tileNo r).val < 16 := lt_of_lt_of_eq (tileNo r).isLt N_0
    by_cases h : (tileNo r).val = 0
    · rw [dx_first m c (tileNo r) (by omega) (by omega)]; rfl
    · rw [dx_later m c (tileNo r) (by omega) (by omega)]; rfl
end

end Cert.ProjBwdIdeal.Hand

end
-- ==== Proof.ProjFinal.lean ====
/- The projection's backward results after the run, for arguments that are real numbers. -/
module

public import proofs.«01_k».proof.Proof.ProjCases

@[expose] public section

set_option maxRecDepth 16384

noncomputable section

namespace Cert.ProjBwdIdeal.Hand

open Cert.ProjBwdIdeal Cert.ProjBwdIdeal.Gen Idealize.ShloMosaic Idealize.ShloMosaic.TcCoe Idealize.SL.Sem
open Cert.Lift Cert.Rms

/-- The gradient that comes back through the product with the weights, at row `r`. -/
def back (P : ℕ → Fin 8192 → ℝ) (W : Fin 1024 → Fin 8192 → ℝ) (r : ℕ) (k : Fin 1024) : ℝ := ∑ j, P r j * W k j

section
variable (p : Vec Ideal S256x8192 .bf16) (w : Vec Ideal S1024x8192 .bf16) (x : Vec Ideal S256x1024 .f32) (g : Vec Ideal S1x1024 .f32) (o : Vec Ideal S256x1024 .f32)
variable (D X : Fin 256 → Fin 1024 → ℝ) (G : Fin 1024 → ℝ) (P : Fin 256 → Fin 8192 → ℝ) (W : Fin 1024 → Fin 8192 → ℝ)

/-- A tile's product with the weights. -/
theorem back_at (hp : ∀ a k, p (ix2 a k) = (P a k : EReal)) (hw : ∀ a k, w (ix2 a k) = (W a k : EReal)) (a : Fin 256) (k : Fin 1024) :
    k0_pay2 p w (ix2 a k) = ((∑ j, P a j * W k j : ℝ) : EReal) := by
  pointwise [k0_pay2]
  simp only [hp, hw, ← EReal.coe_mul, sum_coe]

/-- The reciprocal root mean square of a tile's row. -/
theorem scale_at (hx : ∀ a k, x (ix2 a k) = (X a k : EReal)) (a : Fin 256) : k0_pay4 x (ix2 a 0) = ((rs (X a) : ℝ) : EReal) := by
  pointwise [k0_pay4, k0_pay3]
  simp only [hx, ← EReal.coe_mul, sum_coe, lit_1024, lit_eps, div_coe (by norm_num : (1024 : ℝ) ≠ 0), ← EReal.coe_add]
  exact rsqrt_coe (ms_pos (X a))

/-- A tile's normed row. -/
theorem normed_at (hx : ∀ a k, x (ix2 a k) = (X a k : EReal)) (a : Fin 256) (k : Fin 1024) : k0_pay5 x (ix2 a k) = ((X a k * rs (X a) : ℝ) : EReal) := by
  pointwise [k0_pay5, k0_pay3]
  rw [scale_at x X hx, hx, ← EReal.coe_mul]

/-- What a tile adds to the gain's gradient. -/
theorem dg_tile (hd : ∀ a k, k0_pay2 p w (ix2 a k) = (D a k : EReal)) (hx : ∀ a k, x (ix2 a k) = (X a k : EReal)) (k : Fin 1024) :
    k0_pay6 p w x (ix2 0 k) = ((∑ a, D a k * (X a k * rs (X a)) : ℝ) : EReal) := by
  pointwise [k0_pay6]
  simp only [normed_at x X hx, hd, ← EReal.coe_mul, sum_coe]

/-- A tile's gradient of the input: the one given, and the norm's. -/
theorem dx_tile (hd : ∀ a k, k0_pay2 p w (ix2 a k) = (D a k : EReal)) (hx : ∀ a k, x (ix2 a k) = (X a k : EReal)) (hg : ∀ k, g (ix2 0 k) = (G k : EReal)) (a : Fin 256) (k : Fin 1024) :
    k0_pay7 p w x g o (ix2 a k) = o (ix2 a k) + ((grad (X a) (fun j => D a j * G j) k : ℝ) : EReal) := by
  pointwise [k0_pay7]
  simp only [normed_at x X hx, scale_at x X hx, hd, hg, lit_1024, ← EReal.coe_mul, ← EReal.coe_sub, sum_coe, div_coe (by norm_num : (1024 : ℝ) ≠ 0)]
  rfl
end

variable (m : (ℓ : Loc nD τ sig) → Buf (Elt Ideal) ℓ) (c : Dev nD)
variable (X : ℕ → Fin 1024 → ℝ) (G : Fin 1024 → ℝ) (W : Fin 1024 → Fin 8192 → ℝ) (P : ℕ → Fin 8192 → ℝ)

/-- The input's gradient and the gain's, of real arguments given by row number. -/
def dxSpec (o : FVec Ideal S1x4096x1024 .f32) : FVec Ideal S4096x1024 .f32 :=
  fun i => o (ix3 0 (i 0) (i 1)) + ((grad (X (i 0).val) (fun j => back P W (i 0).val j * G j) (i 1) : ℝ) : EReal)
def dgSpec : FVec Ideal S1x1024 .f32 :=
  fun i => ((∑ r ∈ Finset.range 4096, back P W r (i 1) * (X r (i 1) * rs (X r)) : ℝ) : EReal)

variable (hX : ∀ (r : Fin 4096) k, inX m c (ix3 0 r k) = (X r k : EReal)) (hG : ∀ k, inG m c (ix1 k) = (G k : EReal))
  (hW : ∀ a k, inW m c (ix2 a k) = (W a k : EReal)) (hP : ∀ (r : Fin 4096) k, inP m c (ix3 0 r k) = (P r k : EReal))

include hW hP in
/-- A tile's product with the weights, by row number. -/
theorem back_tile (t : Fin cfg0.N) (a : Fin 256) (k : Fin 1024) : k0_pay2 (iblk m c 0 t) (iblk m c 1 t) (ix2 a k) = ((back P W (rowAt t a) k : ℝ) : EReal) := by
  refine back_at _ _ (fun a => P (rowAt t a)) W (fun a k => ?_) (fun a k => ?_) a k
  · rw [read_P, val_P]
    pointwise
    exact hP _ _
  · rw [read_W, val_W]
    pointwise
    exact hW _ _

include hX hG hW hP in
theorem kernel_proj_dx : ((dats m 0 c).arrAt 5 cfg0.N : Vec Ideal S4096x1024 .f32) = dxSpec X G W P (inO m c) := by
  refine Cert.Tiles.ext2 (n0 := 4096) (n1 := 1024) _ _ fun r k => ?_
  rw [dx_at, dx_tile _ _ _ _ _ (fun a => back P W (rowAt (tileNo r) a)) (fun a => X (rowAt (tileNo r) a)) G
    (back_tile m c W P hW hP _) (fun a k => by rw [read_X, hX]) (fun k => by rw [read_G, hG]), read_O]
  have hr : rowAt (tileNo r) (placeIn r) = r := Fin.ext (by show 256 * (r.val / 256) + r.val % 256 = _; omega)
  rw [hr]
  rfl

/-- An accumulator after tile `n` holds the sum of the tiles up to it. -/
theorem dg_upto (f : ℕ → ℝ) (k : Fin 1024) (hf : ∀ t : Fin cfg0.N, k0_pay6 (F := Ideal) (iblk m c 0 t) (iblk m c 1 t) (iblk m c 2 t) (ix2 0 k) = ((f t.val : ℝ) : EReal)) :
    ∀ (n : ℕ) (h : n < cfg0.N), (outsAt0 m c n h).2 (ix2 0 k) = ((∑ t ∈ Finset.range (n + 1), f t : ℝ) : EReal)
  | 0, h => by
    rw [Finset.sum_range_one]
    exact (congrFun (dg_first m c ⟨0, h⟩ rfl (by dsimp only; omega)) _).trans (hf ⟨0, h⟩)
  | n + 1, h => by
    have hN : n + 1 < 16 := lt_of_lt_of_eq h N_0
    rw [Finset.sum_range_succ, EReal.coe_add]
    refine (congrFun (dg_later m c ⟨n + 1, h⟩ (by dsimp only; omega) (by dsimp only; omega)) _).trans ?_
    show (outsAt0 m c n _).2 (ix2 0 k) + k0_pay6 (F := Ideal) _ _ _ (ix2 0 k) = _
    rw [dg_upto f k hf n, hf]

/-- The last tile. -/
abbrev tEnd : Fin cfg0.N := ⟨15, by rw [show cfg0.N = 16 from N_0]; decide⟩

/-- The gain's gradient is written back once, after the last tile. -/
theorem dg_at (k : Fin 1024) : ((dats m 0 c).arrAt 6 cfg0.N : Vec Ideal S1x1024 .f32) (ix2 0 k) = (outsAt0 m c 15 tEnd.isLt).2 (ix2 0 k) := by
  have hN : cfg0.N = 16 := N_0
  have e : ((cfg0.win 6).blk tEnd).view.read (Elt Ideal) ((dats m 0 c).arrAt 6 cfg0.N) = (dats m 0 c).flushed 6 tEnd := by
    refine (dats m 0 c).read_blk_arrAt_eq_flushed 6 (fun t t' h h' hne => absurd (Fin.ext ?_) hne) cfg0.N tEnd tEnd.isLt ((flush0_6 _).mpr rfl)
    have := (flush0_6 t).mp h; have := (flush0_6 t').mp h'; have := t.isLt; have := t'.isLt; omega
  have hb := congrFun (e.trans (Value.flushed6 m c tEnd)) (ix2 0 k)
  rw [View.read_apply] at hb
  refine (Cert.Place.pos2 (n := 1) (p := 1024) _ _ _ _ ?_ ?_).symm.trans (hb.trans rfl)
  · show win0_6.index tEnd 0 * 1 + 1 * 0 = 0; rw [(at_6 _).1]
  · show win0_6.index tEnd 1 * 1024 + 1 * k.val = k.val; rw [(at_6 _).2]; omega

include hX hW hP in
theorem kernel_proj_dg : ((dats m 0 c).arrAt 6 cfg0.N : Vec Ideal S1x1024 .f32) = dgSpec X W P := by
  refine Cert.Tiles.ext2_row (n1 := 1024) _ _ fun k => ?_
  rw [dg_at, dg_upto m c (fun t => ∑ a ∈ Finset.range 256, back P W (256 * t + a) k * (X (256 * t + a) k * rs (X (256 * t + a)))) k,
    Cert.Tiles.sum_tiles 256 (fun r => back P W r k * (X r k * rs (X r))) 16]
  · rfl
  · intro t
    rw [dg_tile _ _ _ (fun a => back P W (rowAt t a)) (fun a => X (rowAt t a)) (back_tile m c W P hW hP _) (fun a k => by rw [read_X, hX]), Finset.sum_range]

end Cert.ProjBwdIdeal.Hand

end
-- ==== Proof.ProjRef.lean ====
/- The reference of the projection's backward call, for arguments that are real numbers. -/
module

public import proofs.«01_k».proof.Proof.Gen.ProjRefIdeal.Run
public import proofs.«01_k».proof.Proof.HostSum
public import proofs.«01_k».proof.Proof.ProjFinal

@[expose] public section

set_option maxRecDepth 16384

noncomputable section

namespace Cert.ProjRefIdeal.Hand

open Cert.ProjRefIdeal Cert.ProjRefIdeal.Gen Idealize.ShloMosaic Idealize.ShloMosaic.TcCoe Idealize.SL.Sem
open Cert.ProjBwdIdeal.Hand (back dxSpec dgSpec)
open Cert.Lift Cert.Rms

/-- The mean of squares of row `r`, as the reference computes it. -/
theorem mean_at (x : FVec Ideal S1x4096x1024 .f32) (X : ℕ → Fin 1024 → ℝ) (hx : ∀ (r : Fin 4096) k, x (ix3 0 r k) = (X r k : EReal)) (r : Fin 4096) :
    Ideal.div (∑ j, x (ix3 0 r j) * x (ix3 0 r j)) (Ideal.ofBits FTy.f32 1149239296#32) + Ideal.ofBits FTy.f32 897988541#32
      = ((ms (X r) : ℝ) : EReal) := by
  simp only [hx, ← EReal.coe_mul, sum_coe, lit_1024, lit_eps, div_coe (by norm_num : (1024 : ℝ) ≠ 0), ← EReal.coe_add]
  rfl

/-- One over its root. -/
theorem root_at (x : Fin 1024 → ℝ) : Ideal.rsqrt ((ms x : ℝ) : EReal) = ((rs x : ℝ) : EReal) := rsqrt_coe (ms_pos x)

/-- The column of means of squares, the gradient that meets the normalized row, the factor of each row that the mean of squares sends back,
and the gradients of the input and of the gain of those, as the reference writes them. -/
def colR (x : FVec Ideal S1x4096x1024 .f32) : FVec Ideal S1x4096x1 .f32 := addf (F := Ideal) (φ := .f32) (Host.divf (F := Ideal) (φ := .f32) (broadcastInDim S1x4096x1 ![0, 1] bcast_S1x4096_S1x4096x1_0_1 (Host.reduceAdd (F := Ideal) (φ := .f32) (mulf (F := Ideal) (φ := .f32) x x) (constant (F := Ideal) S_ .f32 0x00000000#32) reducesTo_S1x4096x1024_S1x4096_d2 h_S_)) (broadcastInDim S1x4096x1 ![] bcast_S_S1x4096x1 (constant (F := Ideal) S_ .f32 0x44800000#32))) (broadcastInDim S1x4096x1 ![] bcast_S_S1x4096x1 (constant (F := Ideal) S_ .f32 0x358637BD#32))
def gainR (d : FVec Ideal S1x4096x1024 .f32) (g : FVec Ideal S1024 .f32) : FVec Ideal S1x4096x1024 .f32 := mulf (F := Ideal) (φ := .f32) d (broadcastInDim S1x4096x1024 ![0, 1, 2] bcast_S1x1x1024_S1x4096x1024_0_1_2 (broadcastInDim S1x1x1024 ![2] bcast_S1024_S1x1x1024_2 g))
def rowR (x u : FVec Ideal S1x4096x1024 .f32) (v : FVec Ideal S1x4096x1 .f32) : FVec Ideal S1x4096 .f32 := broadcastInDim S1x4096 ![1] bcast_S4096_S1x4096_1 (Host.reduceAdd (F := Ideal) (φ := .f32) (Host.divf (F := Ideal) (φ := .f32) (mulf (F := Ideal) (φ := .f32) (shapeCast S1x4096x1 (Host.reduceAdd (F := Ideal) (φ := .f32) (mulf (F := Ideal) (φ := .f32) x u) (constant (F := Ideal) S_ .f32 0x00000000#32) reducesTo_S1x4096x1024_S1x4096_d2 h_S_) shapeCasts_S1x4096_S1x4096x1) (mulf (F := Ideal) (φ := .f32) (broadcastInDim S1x4096x1 ![] bcast_S_S1x4096x1 (constant (F := Ideal) S_ .f32 0xBF000000#32)) (Host.divf (F := Ideal) (φ := .f32) (Host.rsqrt (F := Ideal) (φ := .f32) v) v))) (broadcastInDim S1x4096x1 ![] bcast_S_S1x4096x1 (constant (F := Ideal) S_ .f32 0x44800000#32))) (constant (F := Ideal) S_ .f32 0x00000000#32) reducesTo_S1x4096x1_S4096_d0_2 h_S_)
def sumR (o x u : FVec Ideal S1x4096x1024 .f32) (v : FVec Ideal S1x4096x1 .f32) (z : FVec Ideal S1x4096 .f32) : FVec Ideal S4096x1024 .f32 := shapeCast S4096x1024 (addf (F := Ideal) (φ := .f32) (addf (F := Ideal) (φ := .f32) (addf (F := Ideal) (φ := .f32) o (mulf (F := Ideal) (φ := .f32) u (broadcastInDim S1x4096x1024 ![0, 1, 2] bcast_S1x4096x1_S1x4096x1024_0_1_2 (Host.rsqrt (F := Ideal) (φ := .f32) v)))) (mulf (F := Ideal) (φ := .f32) x (broadcastInDim S1x4096x1024 ![0, 1] bcast_S1x4096_S1x4096x1024_0_1 z))) (mulf (F := Ideal) (φ := .f32) (broadcastInDim S1x4096x1024 ![0, 1] bcast_S1x4096_S1x4096x1024_0_1 z) x)) shapeCasts_S1x4096x1024_S4096x1024
def dgR (x d : FVec Ideal S1x4096x1024 .f32) : FVec Ideal S1x1024 .f32 := shapeCast S1x1024 (Host.reduceAdd (F := Ideal) (φ := .f32) (shapeCast S1x1x1024 (Host.reduceAdd (F := Ideal) (φ := .f32) (mulf (F := Ideal) (φ := .f32) (mulf (F := Ideal) (φ := .f32) x (broadcastInDim S1x4096x1024 ![0, 1, 2] bcast_S1x4096x1_S1x4096x1024_0_1_2 (Host.rsqrt (F := Ideal) (φ := .f32) (colR x)))) d) (constant (F := Ideal) S_ .f32 0x00000000#32) reducesTo_S1x4096x1024_S1x1024_d1 h_S_) shapeCasts_S1x1024_S1x1x1024) (constant (F := Ideal) S_ .f32 0x00000000#32) reducesTo_S1x1x1024_S1024_d0_1 h_S_) shapeCasts_S1024_S1x1024

variable (m : (ℓ : Loc nD τ sig) → Buf (Elt Ideal) ℓ) (c : Dev nD)
/-- The gradient that is given and added to. -/
abbrev given : FVec Ideal S1x4096x1024 .f32 := m ((c.tc : Thread nD τ).loc main_arg4)

variable (X : ℕ → Fin 1024 → ℝ) (G : Fin 1024 → ℝ) (W : Fin 1024 → Fin 8192 → ℝ) (P : ℕ → Fin 8192 → ℝ)
  (hX : ∀ (r : Fin 4096) k, (m ((c.tc : Thread nD τ).loc main_arg0) : FVec Ideal S1x4096x1024 .f32) (ix3 0 r k) = (X r k : EReal))
  (hG : ∀ k : Fin 1024, (m ((c.tc : Thread nD τ).loc main_arg1) : FVec Ideal S1024 .f32) (ix1 k) = (G k : EReal))
  (hW : ∀ (a : Fin 1024) (k : Fin 8192), (m ((c.tc : Thread nD τ).loc main_arg2) : FVec Ideal S1024x8192 .f32) (ix2 a k) = (W a k : EReal))
  (hP : ∀ (r : Fin 4096) (k : Fin 8192), (m ((c.tc : Thread nD τ).loc main_arg3) : FVec Ideal S1x4096x8192 .f32) (ix3 0 r k) = (P r k : EReal))

include hW hP in
/-- The gradient that comes back through the product. -/
theorem ref_back (r : Fin 4096) (k : Fin 1024) :
    (Host.dotGeneral (F := Ideal) (φ₁ := .f32) (φ₂ := .f32) dot_S1x4096x8192_S1024x8192_S1x4096x1024_2_1_01_0_n_n none (m ((c.tc : Thread nD τ).loc main_arg3)) (m ((c.tc : Thread nD τ).loc main_arg2))) (ix3 0 r k)
      = ((back P W r k : ℝ) : EReal) := by
  pointwise
  simp only [hP, hW, ← EReal.coe_mul, sum_coe]
  rfl

omit m c X G W P in
/-- The column of means of squares. -/
theorem col_at (x : FVec Ideal S1x4096x1024 .f32) (X : ℕ → Fin 1024 → ℝ) (hx : ∀ (r : Fin 4096) k, x (ix3 0 r k) = (X r k : EReal)) (r : Fin 4096) :
    colR x (ix3 0 r 0) = ((ms (X r) : ℝ) : EReal) := by
  pointwise [colR]
  exact mean_at x X hx r

omit m c X G W P in
/-- The gradient that meets the normalized row. -/
theorem gain_at (d : FVec Ideal S1x4096x1024 .f32) (g : FVec Ideal S1024 .f32) (D : ℕ → Fin 1024 → ℝ) (G : Fin 1024 → ℝ)
    (hd : ∀ (r : Fin 4096) k, d (ix3 0 r k) = (D r k : EReal)) (hg : ∀ k : Fin 1024, g (ix1 k) = (G k : EReal)) (r : Fin 4096) (k : Fin 1024) :
    gainR d g (ix3 0 r k) = ((D r k * G k : ℝ) : EReal) := by
  pointwise [gainR]
  rw [hd, hg, ← EReal.coe_mul]

omit m c X G W P in
/-- The factor of each row that the mean of squares sends back. -/
theorem row_at (x u : FVec Ideal S1x4096x1024 .f32) (v : FVec Ideal S1x4096x1 .f32) (X U : ℕ → Fin 1024 → ℝ)
    (hx : ∀ (r : Fin 4096) k, x (ix3 0 r k) = (X r k : EReal)) (hu : ∀ (r : Fin 4096) k, u (ix3 0 r k) = (U r k : EReal))
    (hv : ∀ r : Fin 4096, v (ix3 0 r 0) = ((ms (X r) : ℝ) : EReal)) (r : Fin 4096) :
    rowR x u v (ix2 0 r) = (((∑ j, X r j * U r j) * (-(1 / 2) * (rs (X r) / ms (X r))) / 1024 : ℝ) : EReal) := by
  have h1024 : (1024 : ℝ) ≠ 0 := by norm_num
  pointwise [rowR]
  simp only [Cert.HostSum.sum02]
  pointwise
  have hv' : v (ix3 default r default) = ((ms (X r) : ℝ) : EReal) := hv r
  simp only [Finset.univ_unique, Finset.sum_singleton, hx, hu, hv', root_at, lit_neg_half, lit_1024, div_coe h1024, div_coe (ms_pos _).ne', ← EReal.coe_mul, sum_coe]

omit m c X G W P in
/-- The four terms of the reference's gradient of the input, at an index. -/
theorem sum_at (o x u : FVec Ideal S1x4096x1024 .f32) (v : FVec Ideal S1x4096x1 .f32) (z : FVec Ideal S1x4096 .f32) (r : Fin 4096) (k : Fin 1024) :
    sumR o x u v z (ix2 r k)
      = o (ix3 0 r k) + u (ix3 0 r k) * Ideal.rsqrt (v (ix3 0 r 0)) + x (ix3 0 r k) * z (ix2 0 r) + z (ix2 0 r) * x (ix3 0 r k) := by
  pointwise [sumR]

omit m c X G W P in
/-- The gradient of the norm's input and the gradient that is given, of a gradient `d` of the normalized row. -/
theorem tail_dx (x d o : FVec Ideal S1x4096x1024 .f32) (g : FVec Ideal S1024 .f32) (X D : ℕ → Fin 1024 → ℝ) (G : Fin 1024 → ℝ)
    (hx : ∀ (r : Fin 4096) k, x (ix3 0 r k) = (X r k : EReal)) (hg : ∀ k : Fin 1024, g (ix1 k) = (G k : EReal))
    (hd : ∀ (r : Fin 4096) k, d (ix3 0 r k) = (D r k : EReal)) (r : Fin 4096) (k : Fin 1024) :
    sumR o x (gainR d g) (colR x) (rowR x (gainR d g) (colR x)) (ix2 r k)
      = o (ix3 0 r k) + ((grad (X r.val) (fun j => D r.val j * G j) k : ℝ) : EReal) := by
  have hv := col_at x X hx
  have hu := gain_at d g D G hd hg
  generalize colR x = v at hv ⊢
  generalize gainR d g = u at hu ⊢
  have hz := row_at x u v X (fun r k => D r k * G k) hx hu hv
  generalize rowR x u v = z at hz ⊢
  refine (sum_at _ _ u v z r k).trans ?_
  rw [hx, hu, hv, hz, root_at, ← EReal.coe_mul, ← EReal.coe_mul, ← EReal.coe_mul, add_assoc, add_assoc, ← EReal.coe_add, ← EReal.coe_add, ← grad_eq]
  congr 2
  ring

omit m c X G W P in
/-- The gradient of the gain, of a gradient `d` of the normalized row. -/
theorem tail_dg (x d : FVec Ideal S1x4096x1024 .f32) (X D : ℕ → Fin 1024 → ℝ)
    (hx : ∀ (r : Fin 4096) k, x (ix3 0 r k) = (X r k : EReal)) (hd : ∀ (r : Fin 4096) k, d (ix3 0 r k) = (D r k : EReal)) (i : Fin 1) (k : Fin 1024) :
    dgR x d (ix2 i k)
      = ((∑ r ∈ Finset.range 4096, D r k * (X r k * rs (X r)) : ℝ) : EReal) := by
  pointwise [dgR, colR]
  simp only [Cert.HostSum.sum01]
  pointwise
  simp only [mean_at _ X hx, root_at, Finset.univ_unique, Finset.sum_singleton]
  simp only [hx, hd, ← EReal.coe_mul, sum_coe]
  congr 1
  rw [Finset.sum_range]
  exact Finset.sum_congr rfl fun r _ => by ring

include hX hG hW hP in
/-- The reference's gradient of the input. -/
theorem ref_dx : Value.res_main_v40 m c = dxSpec X G W P (m ((c.tc : Thread nD τ).loc main_arg4)) := by
  refine Cert.Tiles.ext2 (n0 := 4096) (n1 := 1024) _ _ fun r k => ?_
  exact tail_dx _ _ (given m c) _ X (back P W) G hX hG (ref_back m c W P hW hP) r k

include hX hW hP in
/-- The reference's gradient of the gain. -/
theorem ref_dg (i : Fin 1) (k : Fin 1024) :
    dgR (m ((c.tc : Thread nD τ).loc main_arg0)) (Host.dotGeneral (F := Ideal) (φ₁ := .f32) (φ₂ := .f32) dot_S1x4096x8192_S1024x8192_S1x4096x1024_2_1_01_0_n_n none (m ((c.tc : Thread nD τ).loc main_arg3)) (m ((c.tc : Thread nD τ).loc main_arg2))) (ix2 i k)
      = ((∑ r ∈ Finset.range 4096, back P W r k * (X r k * rs (X r)) : ℝ) : EReal) :=
  tail_dg _ _ X (back P W) hX (ref_back m c W P hW hP) i k

end Cert.ProjRefIdeal.Hand

end
-- ==== Proof.ProjClaim.lean ====
/- The projection's backward call: its value claim, and the reference's own run. -/
module

public import proofs.«01_k».proof.Defs
public import proofs.«01_k».proof.Proof.Gen.ProjBwdIdeal.Value
public import proofs.«01_k».proof.Proof.Gen.ProjRefIdeal
public import proofs.«01_k».proof.Proof.Gen.Pre_proj_finite
public import proofs.«01_k».proof.Proof.ProjRef
public import proofs.«01_k».proof.Proof.Finite

@[expose] public section

set_option maxRecDepth 16384

noncomputable section

namespace Cert.Proof

open Idealize.ShloMosaic Idealize.SL.Sem Idealize.ShloMosaic.TcCoe

/-- Rows of real numbers by number, for an array of 4096 rows. -/
theorem byRow {n : ℕ} {v : (⟨3, ![1, 4096, n]⟩ : Shape).Idx → EReal} (h : ∃ f : (⟨3, ![1, 4096, n]⟩ : Shape).Idx → ℝ, ∀ i, v i = (f i : EReal)) :
    ∃ g : ℕ → Fin n → ℝ, ∀ (r : Fin 4096) (k : Fin n), v (ix3 0 r k) = ((g r k : ℝ) : EReal) := by
  obtain ⟨f, hf⟩ := h
  exact ⟨fun r k => if h : r < 4096 then f (ix3 0 ⟨r, h⟩ k) else 0, fun r k => by
    rw [hf]
    simp only [r.isLt, dite_true]⟩

/-- The precondition read: every argument it names is real on every device. -/
theorem proj_real (m : (ℓ : Loc Cert.ProjBwdIdeal.nD Cert.ProjBwdIdeal.τ Cert.ProjBwdIdeal.sig) → Buf (Elt Ideal) ℓ)
    (h : Cert.Pre_ProjBwdIdeal_proj_finite (hPre_proj_finite := Cert.Pre_proj_finite.Gen.facts) m) (c : Dev Cert.ProjBwdIdeal.nD) :
    ∃ (X : ℕ → Fin 1024 → ℝ) (G : Fin 1024 → ℝ) (W : Fin 1024 → Fin 8192 → ℝ) (P : ℕ → Fin 8192 → ℝ),
      (∀ (r : Fin 4096) k, Cert.ProjBwdIdeal.Hand.inX m c (ix3 0 r k) = (X r k : EReal))
      ∧ (∀ k, Cert.ProjBwdIdeal.Hand.inG m c (ix1 k) = (G k : EReal))
      ∧ (∀ a k, Cert.ProjBwdIdeal.Hand.inW m c (ix2 a k) = (W a k : EReal))
      ∧ (∀ (r : Fin 4096) k, Cert.ProjBwdIdeal.Hand.inP m c (ix3 0 r k) = (P r k : EReal)) := by
  have hc := h c
  dsimp only [Cert.Pre_proj_finite.fn] at hc
  obtain ⟨hc, t3⟩ := Cert.Finite.of_andi hc
  obtain ⟨hc, t2⟩ := Cert.Finite.of_andi hc
  obtain ⟨t0, t1⟩ := Cert.Finite.of_andi hc
  obtain ⟨X, hX⟩ := byRow (Cert.Finite.real_of_test _ t0)
  obtain ⟨g, hg⟩ := Cert.Finite.real_of_test _ t1
  obtain ⟨w, hw⟩ := Cert.Finite.real_of_test _ t2
  obtain ⟨P, hP⟩ := byRow (Cert.Finite.real_of_test _ t3)
  exact ⟨X, fun k => g (ix1 k), fun a k => w (ix2 a k), P, hX, fun k => hg _, fun a k => hw _, hP⟩

open Cert.ProjRefIdeal in
/-- The reference's run changes no argument and moves no counter: it has none. -/
theorem proj_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run m ρ)

open Cert.ProjBwdIdeal.Hand Cert.ProjRefIdeal.Hand in
/-- The kernel and the reference end with equal gradients of the projection's input and of the gain. -/
theorem proj_algebraic : Cert.algebraic_ProjBwdIdeal_ProjRefIdeal_pre_proj_finite (hProjBwdIdeal := Cert.ProjBwdIdeal.Gen.facts)
    (hProjRefIdeal := Cert.ProjRefIdeal.Gen.facts) (hPre_proj_finite := Cert.Pre_proj_finite.Gen.facts) := by
  intro m g m' g' hpre hargs
  choose X G W P hX hG hW hP using proj_real m hpre
  refine ⟨fun c => dxSpec (X c) (G c) (W c) (P c) (inO m c), fun c => dgSpec (X c) (W c) (P c), ?_, ?_⟩
  · refine (θ_run _ _ _).mono (fun r h c => ?_) (Cert.ProjBwdIdeal.Value.run_blocks m g)
    exact ⟨(h c).1.trans (kernel_proj_dx m c _ _ _ _ (hX c) (hG c) (hW c) (hP c)),
      (h c).2.1.trans (kernel_proj_dg m c _ _ _ (hX c) (hW c) (hP c)), (h c).2.2⟩
  · refine (θ_run _ _ _).mono (fun r h c => ?_) (Cert.ProjRefIdeal.Value.run m' g')
    obtain ⟨a0, a1, a2, a3, a4⟩ := hargs c
    have kX := fun (r : Fin 4096) k => (congrFun a0 _).trans (hX c r k)
    have kG := fun k => (congrFun a1 _).trans (hG c k)
    have kW := fun a k => (congrFun a2 _).trans (hW c a k)
    have kP := fun (r : Fin 4096) k => (congrFun a3 _).trans (hP c r k)
    refine ⟨(h c).1.trans ((ref_dx m' c _ _ _ _ kX kG kW kP).trans ?_), (h c).2.1.trans ?_, (h c).2.2⟩
    · exact congrArg (dxSpec (X c) (G c) (W c) (P c)) a4
    · exact Cert.Tiles.ext2 (n0 := 1) (n1 := 1024) _ _ fun i k => ref_dg m' c _ _ _ kX kW kP i k

end Cert.Proof

end
-- ==== Proof.FfnCases.lean ====
/- The feed-forward's backward body, one grid point at a time: what its windows read, and what each result window is left holding. -/
module

public import proofs.«01_k».proof.Proof.Gen.FfnBwdIdeal.Value
public import proofs.«01_k».proof.Proof.Rms
public import proofs.«01_k».proof.Proof.Tiles
public import proofs.«01_k».proof.Proof.Place
public import Idealize.ShloMosaic.Lib.Tactic
public import Idealize.ShloMosaic.Lib.Pointwise
public import Idealize.ShloMosaic.Lib.Claim

@[expose] public section

set_option maxRecDepth 16384

noncomputable section

namespace Cert.FfnBwdIdeal.Hand

open Cert.FfnBwdIdeal Cert.FfnBwdIdeal.Gen Idealize.ShloMosaic Idealize.ShloMosaic.TcCoe Idealize.SL.Sem
open Idealize.ShloMosaic.Pipeline (Dat)
open Cert.Lift Cert.Rms

section
variable {F : FTy → Type} [FloatOps F]
variable (m : (ℓ : Loc nD τ sig) → Buf (Elt F) ℓ)

/-- The offset of a whole block. -/
theorem at_zero : (![0, 0] : Fin 2 → Nat) = fun _ => 0 := funext fun a => by fin_cases a <;> rfl

/-- What a tile writes of the gradient before the gates, the last written first. -/
def dabL (o : Vec F S256x1024 .f32) (w2 : Vec F S2816x1024 .bf16) (d : Vec F S256x5632 .bf16) : List (View.Piece (Elt F) S256x5632 .bf16) :=
  [⟨Rect.unit (s := S256x5632) ![0, 2816] S256x2816.size inb_S256x5632_S256x2816_0_2816,
      k0_pay10 o w2 (View.ld d (Rect.unit (s := S256x5632) ![0, 2816] S256x2816.size inb_S256x5632_S256x2816_0_2816))⟩,
    ⟨Rect.unit (s := S256x5632) ![0, 0] S256x2816.size inb_S256x5632_S256x2816_0_0,
      k0_pay9 o w2 (View.ld d (Rect.unit (s := S256x5632) ![0, 0] S256x2816.size inb_S256x5632_S256x2816_0_0))⟩]
def dabT (o : Vec F S256x1024 .f32) (w2 : Vec F S2816x1024 .bf16) (d : Vec F S256x5632 .bf16) : Vec F S256x5632 .bf16 := View.canon (dabL o w2 d)

/-- A load of the whole of what the tile has written. -/
theorem read_all (t : Fin cfg0.N) (L : List (View.Piece (Elt F) S256x5632 .bf16)) :
    (ms0_7 t).view.readCov L (Rect.unit (s := S256x5632) ![0, 0] S256x5632.size inb_S256x5632_S256x5632_0_0).toLoadRect = View.canon L := by
  rw [View.readCov_eq_canon']
  funext y
  refine congrArg (View.canon L) (funext fun b => Fin.ext ?_)
  match b with
  | ⟨0, _⟩ => show 0 + 1 * (y 0).val = (y 0).val; omega
  | ⟨1, _⟩ => show 0 + 1 * (y 1).val = (y 1).val; omega

/-- A tile's gradient after the product with the first weights. -/
def backT (o : Vec F S256x1024 .f32) (w2 : Vec F S2816x1024 .bf16) (d : Vec F S256x5632 .bf16) (w13 : Vec F S1024x5632 .bf16) : FVec F S256x1024 .f32 := k0_pay11 (dabT o w2 d) w13
abbrev backAt (c : Dev nD) (t : Fin cfg0.N) : FVec F S256x1024 .f32 := backT (iblk m c 0 t) (iblk m c 5 t) (iblk m c 3 t) (iblk m c 4 t)

/-- The four results of a tile. -/
theorem dx_out (c : Dev nD) (t : Fin cfg0.N) : (outsAt0 m c t.val t.isLt).1
    = k0_pay4 (k0_pay6 (iblk m c 0 t)) (backAt m c t) (k0_pay12 (iblk m c 1 t)) (k0_pay13 (iblk m c 2 t)) (k0_pay14 (iblk m c 1 t)) := by
  have hN : t.val < 16 := lt_of_lt_of_eq t.isLt N_0
  by_cases h : t.val = 0
  on_goal 1 => rw [outsAt0_A m c t (by omega) (by omega)]; dsimp only; unfold out0_A_6; refine (View.read_writes_eq_canon _ _ _ fun _ => cover0_A_6 ..).trans ?_; unfold kernelRun0_A
  on_goal 2 => rw [outsAt0_B m c t (by omega) (by omega)]; dsimp only; unfold out0_B_6; refine (View.read_writes_eq_canon _ _ _ fun _ => cover0_B_6 ..).trans ?_; unfold kernelRun0_B
  all_goals
    dsimp only
    sl_unfold_words
    rw [View.canon_unit_zero at_zero]
    simp only [View.readAt_eq_ld, (hs0_0 t).read_unread, (hs0_1 t).read_unread, (hs0_2 t).read_unread, (hs0_3 t).read_unread, (hs0_4 t).read_unread, (hs0_5 t).read_unread,
      View.ld_unit_zero (S := S256x1024) at_zero, View.ld_unit_zero (S := S1024x5632) at_zero, View.ld_unit_zero (S := S2816x1024) at_zero, View.ld_unit_zero (S := S1x1024) at_zero]
    rw [read_all]
    rfl

theorem dab_out (c : Dev nD) (t : Fin cfg0.N) : (outsAt0 m c t.val t.isLt).2.1 = dabT (iblk m c 0 t) (iblk m c 5 t) (iblk m c 3 t) := by
  have hN : t.val < 16 := lt_of_lt_of_eq t.isLt N_0
  by_cases h : t.val = 0
  on_goal 1 => rw [outsAt0_A m c t (by omega) (by omega)]; dsimp only; unfold out0_A_7; refine (View.read_writes_eq_canon _ _ _ fun _ => cover0_A_7 ..).trans ?_; unfold kernelRun0_A
  on_goal 2 => rw [outsAt0_B m c t (by omega) (by omega)]; dsimp only; unfold out0_B_7; refine (View.read_writes_eq_canon _ _ _ fun _ => cover0_B_7 ..).trans ?_; unfold kernelRun0_B
  all_goals
    dsimp only
    sl_unfold_words
    simp only [View.readAt_eq_ld, (hs0_0 t).read_unread, (hs0_3 t).read_unread, (hs0_5 t).read_unread,
      View.ld_unit_zero (S := S256x1024) at_zero, View.ld_unit_zero (S := S2816x1024) at_zero]
    rfl

theorem dy_out (c : Dev nD) (t : Fin cfg0.N) : (outsAt0 m c t.val t.isLt).2.2.1 = k0_pay7 (iblk m c 0 t) := by
  have hN : t.val < 16 := lt_of_lt_of_eq t.isLt N_0
  by_cases h : t.val = 0
  on_goal 1 => rw [outsAt0_A m c t (by omega) (by omega)]; dsimp only; unfold out0_A_8; refine (View.read_writes_eq_canon _ _ _ fun _ => cover0_A_8 ..).trans ?_; unfold kernelRun0_A
  on_goal 2 => rw [outsAt0_B m c t (by omega) (by omega)]; dsimp only; unfold out0_B_8; refine (View.read_writes_eq_canon _ _ _ fun _ => cover0_B_8 ..).trans ?_; unfold kernelRun0_B
  all_goals
    dsimp only
    sl_unfold_words
    rw [View.canon_unit_zero at_zero]
    simp only [View.readAt_eq_ld, (hs0_0 t).read_unread, View.ld_unit_zero (S := S256x1024) at_zero]

theorem dg_first (c : Dev nD) (t : Fin cfg0.N) (h : t.val = 0) : (outsAt0 m c t.val t.isLt).2.2.2 = k0_pay3 (backAt m c t) (k0_pay12 (iblk m c 1 t)) (k0_pay14 (iblk m c 1 t)) := by
  rw [outsAt0_A m c t (by omega) (by omega)]
  dsimp only
  unfold out0_A_9
  rw [View.read_writes_eq_canon]
  swap; · exact fun _ => cover0_A_9 ..
  unfold kernelRun0_A
  dsimp only
  sl_unfold_words
  rw [View.canon_unit_zero at_zero]
  simp only [View.readAt_eq_ld, (hs0_0 t).read_unread, (hs0_1 t).read_unread, (hs0_2 t).read_unread, (hs0_3 t).read_unread, (hs0_4 t).read_unread, (hs0_5 t).read_unread,
    View.ld_unit_zero (S := S256x1024) at_zero, View.ld_unit_zero (S := S1024x5632) at_zero, View.ld_unit_zero (S := S2816x1024) at_zero, View.ld_unit_zero (S := S1x1024) at_zero]
  rw [read_all]
  rfl

theorem dg_later (c : Dev nD) (t : Fin cfg0.N) (h : ¬t.val = 0) : (outsAt0 m c t.val t.isLt).2.2.2
    = addf (outsAt0 m c (t.val - 1) (Nat.lt_of_le_of_lt (Nat.sub_le _ _) t.isLt)).2.2.2 (k0_pay3 (backAt m c t) (k0_pay12 (iblk m c 1 t)) (k0_pay14 (iblk m c 1 t))) := by
  have hN : t.val < 16 := lt_of_lt_of_eq t.isLt N_0
  rw [outsAt0_B m c t (by omega) (by omega)]
  dsimp only
  unfold out0_B_9
  rw [View.read_writes_eq_canon]
  swap; · exact fun _ => cover0_B_9 ..
  unfold kernelRun0_B
  dsimp only
  sl_unfold_words
  rw [View.canon_unit_zero at_zero]
  unfold k0_pay5
  simp only [View.readAt_eq_ld, (hs0_0 t).read_unread, (hs0_1 t).read_unread, (hs0_2 t).read_unread, (hs0_3 t).read_unread, (hs0_4 t).read_unread, (hs0_5 t).read_unread, (hs0_9 t).read_unread,
    View.ld_unit_zero (S := S256x1024) at_zero, View.ld_unit_zero (S := S1024x5632) at_zero, View.ld_unit_zero (S := S2816x1024) at_zero, View.ld_unit_zero (S := S1x1024) at_zero, shapeCast_self]
  rw [read_all]
  rfl

/-- The argument arrays, as one device holds them. -/
abbrev inX (c : Dev nD) : FVec F S1x4096x1024 .f32 := m ((c : Thread nD τ).loc main_arg0)
abbrev inG (c : Dev nD) : FVec F S1024 .f32 := m ((c : Thread nD τ).loc main_arg1)
abbrev inW (c : Dev nD) : FVec F S1024x5632 .f32 := m ((c : Thread nD τ).loc main_arg2)
abbrev inV (c : Dev nD) : FVec F S2816x1024 .f32 := m ((c : Thread nD τ).loc main_arg3)
abbrev inO (c : Dev nD) : FVec F S1x4096x1024 .f32 := m ((c : Thread nD τ).loc main_arg4)

theorem val_O (c : Dev nD) : V m c main_v35 = shapeCast S4096x1024 (inO m c) shapeCasts_S1x4096x1024_S4096x1024 := by
  unfold V; after_results_simp <;> rfl
theorem val_X (c : Dev nD) : V m c main_v0 = shapeCast S4096x1024 (inX m c) shapeCasts_S1x4096x1024_S4096x1024 := by
  unfold V; after_results_simp <;> rfl
theorem val_G (c : Dev nD) : V m c main_v36 = shapeCast S1x1024 (inG m c) shapeCasts_S1024_S1x1024 := by
  unfold V; after_results_simp <;> rfl
theorem val_W (c : Dev nD) : V m c main_v1 = truncf .bf16 (inW m c) bitsLt_bf16_f32 := by
  unfold V; after_results_simp <;> rfl
theorem val_V (c : Dev nD) : V m c main_v37 = truncf .bf16 (inV m c) bitsLt_bf16_f32 := by
  unfold V; after_results_simp <;> rfl

/-- A window that moves a block of rows on with each tile, and one that stays. -/
abbrev Steps (ix : Fin grid0.N → Fin 2 → ℕ) : Prop := ∀ t, ix t 0 = t.val ∧ ix t 1 = 0
abbrev Stays (ix : Fin grid0.N → Fin 2 → ℕ) : Prop := ∀ t, ix t 0 = 0 ∧ ix t 1 = 0
theorem at_0 : Steps win0_0.index := by decide +kernel
theorem at_1 : Steps win0_1.index := by decide +kernel
theorem at_2 : Stays win0_2.index := by decide +kernel
theorem at_3 : Steps win0_3.index := by decide +kernel
theorem at_4 : Stays win0_4.index := by decide +kernel
theorem at_5 : Stays win0_5.index := by decide +kernel
theorem at_6 : Steps win0_6.index := by decide +kernel
theorem at_7 : Steps win0_7.index := by decide +kernel
theorem at_8 : Steps win0_8.index := by decide +kernel
theorem at_9 : Stays win0_9.index := by decide +kernel

/-- Row `a` of tile `t` is row `256 t + a` of the array. -/
abbrev rowAt (t : Fin cfg0.N) (a : Fin 256) : Fin 4096 :=
  ⟨256 * t.val + a.val, by have := lt_of_lt_of_eq t.isLt N_0; have := a.isLt; omega⟩

/-- What window 0 reads. -/
theorem read_O (c : Dev nD) (t : Fin cfg0.N) (a : Fin 256) (k : Fin 1024) :
    (iblk m c 0 t : Vec F S256x1024 .f32) (ix2 a k) = V m c main_v35 (ix2 (rowAt t a) k) := by
  refine Cert.Place.pos2 (V m c main_v35) _ _ _ ?_ ?_
  · show win0_0.index t 0 * 256 + 1 * a.val = 256 * t.val + a.val; rw [(at_0 t).1]; omega
  · show win0_0.index t 1 * 1024 + 1 * k.val = k.val; rw [(at_0 t).2]; omega

/-- What window 1 reads. -/
theorem read_X (c : Dev nD) (t : Fin cfg0.N) (a : Fin 256) (k : Fin 1024) :
    (iblk m c 1 t : Vec F S256x1024 .f32) (ix2 a k) = V m c main_v0 (ix2 (rowAt t a) k) := by
  refine Cert.Place.pos2 (V m c main_v0) _ _ _ ?_ ?_
  · show win0_1.index t 0 * 256 + 1 * a.val = 256 * t.val + a.val; rw [(at_1 t).1]; omega
  · show win0_1.index t 1 * 1024 + 1 * k.val = k.val; rw [(at_1 t).2]; omega

/-- What window 2 reads. -/
theorem read_G (c : Dev nD) (t : Fin cfg0.N) (a : Fin 1) (k : Fin 1024) :
    (iblk m c 2 t : Vec F S1x1024 .f32) (ix2 a k) = V m c main_v36 (ix2 a k) := by
  refine Cert.Place.pos2 (V m c main_v36) _ _ _ ?_ ?_
  · show win0_2.index t 0 * 1 + 1 * a.val = a.val; rw [(at_2 t).1]; omega
  · show win0_2.index t 1 * 1024 + 1 * k.val = k.val; rw [(at_2 t).2]; omega

/-- What window 3 reads. -/
theorem read_D (c : Dev nD) (t : Fin cfg0.N) (a : Fin 256) (k : Fin 5632) :
    (iblk m c 3 t : Vec F S256x5632 .bf16) (ix2 a k) = V m c main_v34 (ix2 (rowAt t a) k) := by
  refine Cert.Place.pos2 (V m c main_v34) _ _ _ ?_ ?_
  · show win0_3.index t 0 * 256 + 1 * a.val = 256 * t.val + a.val; rw [(at_3 t).1]; omega
  · show win0_3.index t 1 * 5632 + 1 * k.val = k.val; rw [(at_3 t).2]; omega

/-- What window 4 reads. -/
theorem read_W (c : Dev nD) (t : Fin cfg0.N) (a : Fin 1024) (k : Fin 5632) :
    (iblk m c 4 t : Vec F S1024x5632 .bf16) (ix2 a k) = V m c main_v1 (ix2 a k) := by
  refine Cert.Place.pos2 (V m c main_v1) _ _ _ ?_ ?_
  · show win0_4.index t 0 * 1024 + 1 * a.val = a.val; rw [(at_4 t).1]; omega
  · show win0_4.index t 1 * 5632 + 1 * k.val = k.val; rw [(at_4 t).2]; omega

/-- What window 5 reads. -/
theorem read_V (c : Dev nD) (t : Fin cfg0.N) (a : Fin 2816) (k : Fin 1024) :
    (iblk m c 5 t : Vec F S2816x1024 .bf16) (ix2 a k) = V m c main_v37 (ix2 a k) := by
  refine Cert.Place.pos2 (V m c main_v37) _ _ _ ?_ ?_
  · show win0_5.index t 0 * 2816 + 1 * a.val = a.val; rw [(at_5 t).1]; omega
  · show win0_5.index t 1 * 1024 + 1 * k.val = k.val; rw [(at_5 t).2]; omega

/-- The tile of a row, and the row's place in it. -/
abbrev tileNo (r : Fin 4096) : Fin cfg0.N := ⟨r.val / 256, by rw [show cfg0.N = 16 from N_0]; have := r.isLt; omega⟩
abbrev placeIn (r : Fin 4096) : Fin 256 := ⟨r.val % 256, Nat.mod_lt _ (by decide)⟩

/-- A result at row `r`: what `r`'s tile stores at `r`'s place in it. -/
theorem dx_at (c : Dev nD) (r : Fin 4096) (k : Fin 1024) :
    ((dats m 0 c).arrAt 6 cfg0.N : Vec F S4096x1024 .f32) (ix2 r k) = (outsAt0 m c (tileNo r).val (tileNo r).isLt).1 (ix2 (placeIn r) k) := by
  have hb := congrFun ((Value.blocks6 m c (tileNo r) (flush0_6 (tileNo r))).trans (Value.flushed6 m c (tileNo r))) (ix2 (placeIn r) k)
  rw [View.read_apply] at hb
  refine (Cert.Place.pos2 (n := 4096) (p := 1024) _ _ _ _ ?_ ?_).symm.trans (hb.trans rfl)
  · show win0_6.index (tileNo r) 0 * 256 + 1 * (r.val % 256) = r.val; rw [(at_6 _).1]; dsimp only; omega
  · show win0_6.index (tileNo r) 1 * 1024 + 1 * k.val = k.val; rw [(at_6 _).2]; omega

/-- A result at row `r`: what `r`'s tile stores at `r`'s place in it. -/
theorem dab_at (c : Dev nD) (r : Fin 4096) (k : Fin 5632) :
    ((dats m 0 c).arrAt 7 cfg0.N : Vec F S4096x5632 .bf16) (ix2 r k) = (outsAt0 m c (tileNo r).val (tileNo r).isLt).2.1 (ix2 (placeIn r) k) := by
  have hb := congrFun ((Value.blocks7 m c (tileNo r) (flush0_7 (tileNo r))).trans (Value.flushed7 m c (tileNo r))) (ix2 (placeIn r) k)
  rw [View.read_apply] at hb
  refine (Cert.Place.pos2 (n := 4096) (p := 5632) _ _ _ _ ?_ ?_).symm.trans (hb.trans rfl)
  · show win0_7.index (tileNo r) 0 * 256 + 1 * (r.val % 256) = r.val; rw [(at_7 _).1]; dsimp only; omega
  · show win0_7.index (tileNo r) 1 * 5632 + 1 * k.val = k.val; rw [(at_7 _).2]; omega

/-- A result at row `r`: what `r`'s tile stores at `r`'s place in it. -/
theorem dy_at (c : Dev nD) (r : Fin 4096) (k : Fin 1024) :
    ((dats m 0 c).arrAt 8 cfg0.N : Vec F S4096x1024 .bf16) (ix2 r k) = (outsAt0 m c (tileNo r).val (tileNo r).isLt).2.2.1 (ix2 (placeIn r) k) := by
  have hb := congrFun ((Value.blocks8 m c (tileNo r) (flush0_8 (tileNo r))).trans (Value.flushed8 m c (tileNo r))) (ix2 (placeIn r) k)
  rw [View.read_apply] at hb
  refine (Cert.Place.pos2 (n := 4096) (p := 1024) _ _ _ _ ?_ ?_).symm.trans (hb.trans rfl)
  · show win0_8.index (tileNo r) 0 * 256 + 1 * (r.val % 256) = r.val; rw [(at_8 _).1]; dsimp only; omega
  · show win0_8.index (tileNo r) 1 * 1024 + 1 * k.val = k.val; rw [(at_8 _).2]; omega

end

end Cert.FfnBwdIdeal.Hand

end
-- ==== Proof.FfnReal.lean ====
/- The half-step feed-forward's gradients over the reals: rows, columns and hidden channels by number. -/
module

public import proofs.«01_k».proof.Proof.Rms
public import proofs.«01_k».proof.Proof.MixConvReal

@[expose] public section

noncomputable section

namespace Cert.Ffn

open Cert.Rms Cert.Mix

variable (X O : ℕ → Fin 1024 → ℝ) (G : Fin 1024 → ℝ) (W : Fin 1024 → ℕ → ℝ) (V : ℕ → Fin 1024 → ℝ)

/-- The normed input's product with the first weights: 2816 columns to gate, and 2816 columns gated. -/
def up (r j : ℕ) : ℝ := ∑ k, X r k * rs (X r) * G k * W k j
/-- Half the given gradient, back through the second weights. -/
def dn (r q : ℕ) : ℝ := ∑ k, 1 / 2 * O r k * V q k
/-- The derivative of a gated column's product by its two factors' columns. -/
def slopes (Y : ℕ → ℕ → ℝ) (r j : ℕ) : ℝ := if j < 2816 then Y r (2816 + j) * siluD (Y r j) else Y r (j - 2816) * sg (Y r (j - 2816))
/-- The gradient before the gates. -/
def dab (r j : ℕ) : ℝ := (if j < 2816 then dn O V r j else dn O V r (j - 2816)) * slopes (up X G W) r j
/-- That, back through the first weights. -/
def back (r : ℕ) (k : Fin 1024) : ℝ := ∑ j : Fin 5632, dab X O G W V r j * W k j

end Cert.Ffn

end
-- ==== Proof.FfnGate.lean ====
/- The gates' slopes, which the feed-forward's backward call is given, for arguments that are real numbers. -/
module

public import proofs.«01_k».proof.Proof.FfnCases
public import proofs.«01_k».proof.Proof.FfnReal

@[expose] public section

set_option maxRecDepth 16384

noncomputable section

namespace Cert.FfnBwdIdeal.Hand

open Cert.FfnBwdIdeal Cert.FfnBwdIdeal.Gen Idealize.ShloMosaic Idealize.ShloMosaic.TcCoe Idealize.SL.Sem
open Cert.Lift Cert.Rms Cert.Mix Cert.Ffn

/-- The host's normed input times the first weights. -/
def upH (x : FVec Ideal S4096x1024 .f32) (g : FVec Ideal S1x1024 .f32) (w : FVec Ideal S1024x5632 .bf16) : FVec Ideal S4096x5632 .f32 :=
  Host.dotGeneral (F := Ideal) (φ₁ := .bf16) (φ₂ := .bf16) dot_S4096x1024_S1024x5632_S4096x5632_1_0_0_1_n_n none
    (truncf (F := Ideal) .bf16 (mulf (F := Ideal) (φ := .f32) (mulf (F := Ideal) (φ := .f32) x (broadcastInDim S4096x1024 ![0, 1] bcast_S4096x1_S4096x1024_0_1
      (Host.rsqrt (F := Ideal) (φ := .f32) (addf (F := Ideal) (φ := .f32) (Host.divf (F := Ideal) (φ := .f32)
        (broadcastInDim S4096x1 ![0] bcast_S4096_S4096x1_0 (Host.reduceAdd (F := Ideal) (φ := .f32) (mulf (F := Ideal) (φ := .f32) x x) (constant (F := Ideal) S_ .f32 0x00000000#32) reducesTo_S4096x1024_S4096_d1 h_S_))
        (broadcastInDim S4096x1 ![] bcast_S_S4096x1 (constant (F := Ideal) S_ .f32 0x44800000#32))) (broadcastInDim S4096x1 ![] bcast_S_S4096x1 (constant (F := Ideal) S_ .f32 0x358637BD#32))))))
      (broadcastInDim S4096x1024 ![0, 1] bcast_S1x1024_S4096x1024_0_1 g)) bitsLt_bf16_f32) w

/-- One everywhere. -/
def oneH : FVec Ideal S4096x2816 .f32 := broadcastInDim S4096x2816 ![] bcast_S_S4096x2816 (constant (F := Ideal) S_ .f32 0x3F800000#32)
/-- The logistic function of the columns that gate. -/
def sigH (a : FVec Ideal S4096x2816 .f32) : FVec Ideal S4096x2816 .f32 :=
  Host.divf (F := Ideal) (φ := .f32) oneH (addf (F := Ideal) (φ := .f32) oneH (Host.exp (F := Ideal) (φ := .f32) (Host.negf (F := Ideal) (φ := .f32) a)))
/-- The slopes of the gates, of the two groups of columns. -/
def slopeH (a b : FVec Ideal S4096x2816 .f32) : FVec Ideal S4096x5632 .bf16 :=
  truncf (F := Ideal) .bf16 (concatenate S4096x5632 1
    [⟨S4096x2816, mulf (F := Ideal) (φ := .f32) b (mulf (F := Ideal) (φ := .f32) (sigH a) (addf (F := Ideal) (φ := .f32) oneH (mulf (F := Ideal) (φ := .f32) a (subf (F := Ideal) (φ := .f32) oneH (sigH a)))))⟩,
      ⟨S4096x2816, mulf (F := Ideal) (φ := .f32) a (sigH a)⟩] concatenates_S4096x2816_S4096x2816_S4096x5632_d1) bitsLt_bf16_f32

variable (m : (ℓ : Loc nD τ sig) → Buf (Elt Ideal) ℓ) (c : Dev nD)

/-- What the region finds in its slopes' buffer. -/
theorem val_D : V m c main_v34 = slopeH
    (extractStridedSlice S4096x2816 ![0, 0] (upH (shapeCast S4096x1024 (inX m c) shapeCasts_S1x4096x1024_S4096x1024) (shapeCast S1x1024 (inG m c) shapeCasts_S1024_S1x1024) (truncf (F := Ideal) .bf16 (inW m c) bitsLt_bf16_f32)) slices_S4096x5632_S4096x2816_0_0)
    (extractStridedSlice S4096x2816 ![0, 2816] (upH (shapeCast S4096x1024 (inX m c) shapeCasts_S1x4096x1024_S4096x1024) (shapeCast S1x1024 (inG m c) shapeCasts_S1024_S1x1024) (truncf (F := Ideal) .bf16 (inW m c) bitsLt_bf16_f32)) slices_S4096x5632_S4096x2816_0_2816) := by
  unfold V; after_results_simp <;> rfl

omit m c in
theorem up_at (x : FVec Ideal S4096x1024 .f32) (g : FVec Ideal S1x1024 .f32) (w : FVec Ideal S1024x5632 .bf16) (X : ℕ → Fin 1024 → ℝ) (G : Fin 1024 → ℝ) (W : Fin 1024 → ℕ → ℝ)
    (hx : ∀ (r : Fin 4096) k, x (ix2 r k) = (X r k : EReal)) (hg : ∀ k, g (ix2 0 k) = (G k : EReal)) (hw : ∀ a (j : Fin 5632), w (ix2 a j) = (W a j : EReal)) (r : Fin 4096) (j : Fin 5632) :
    upH x g w (ix2 r j) = ((up X G W r j : ℝ) : EReal) := by
  have h : ∀ X : Fin 1024 → ℝ, Ideal.rsqrt (((∑ j, X j * X j) / 1024 + eps : ℝ) : EReal) = ((rs X : ℝ) : EReal) := fun X => rsqrt_coe (ms_pos X)
  pointwise [upH]
  simp only [hx, hg, hw, ← EReal.coe_mul, sum_coe, lit_1024, lit_eps, div_coe (by norm_num : (1024 : ℝ) ≠ 0), ← EReal.coe_add, h]
  rfl

omit m c in
theorem sig_at (a : FVec Ideal S4096x2816 .f32) (A : ℕ → ℕ → ℝ) (ha : ∀ (r : Fin 4096) (q : Fin 2816), a (ix2 r q) = (A r q : EReal)) (r : Fin 4096) (q : Fin 2816) :
    sigH a (ix2 r q) = ((sg (A r q) : ℝ) : EReal) := by
  pointwise [sigH, oneH]
  rw [ha]
  exact sg_coe _

omit m c in
theorem slope_at (y : FVec Ideal S4096x5632 .f32) (Y : ℕ → ℕ → ℝ) (hy : ∀ (r : Fin 4096) (j : Fin 5632), y (ix2 r j) = (Y r j : EReal)) (r : Fin 4096) (j : Fin 5632) :
    slopeH (extractStridedSlice S4096x2816 ![0, 0] y slices_S4096x5632_S4096x2816_0_0) (extractStridedSlice S4096x2816 ![0, 2816] y slices_S4096x5632_S4096x2816_0_2816) (ix2 r j)
      = ((slopes Y r j : ℝ) : EReal) := by
  have ha : ∀ (r : Fin 4096) (q : Fin 2816), extractStridedSlice S4096x2816 ![0, 0] y slices_S4096x5632_S4096x2816_0_0 (ix2 r q) = (Y r q : EReal) := by
    intro r q
    pointwise
    rw [hy]
  have hb : ∀ (r : Fin 4096) (q : Fin 2816), extractStridedSlice S4096x2816 ![0, 2816] y slices_S4096x5632_S4096x2816_0_2816 (ix2 r q) = (Y r (2816 + q) : EReal) := by
    intro r q
    pointwise
    rw [hy]
  have hs := sig_at _ Y ha
  generalize extractStridedSlice S4096x2816 ![0, 0] y slices_S4096x5632_S4096x2816_0_0 = a at ha hs ⊢
  generalize extractStridedSlice S4096x2816 ![0, 2816] y slices_S4096x5632_S4096x2816_0_2816 = b at hb ⊢
  unfold slopes
  pointwise [slopeH, oneH]
  by_cases c0 : j.val < 2816
  · simp only [c0, dite_true, if_true]
    rw [hb, hs, ha, ← EReal.coe_one, ← EReal.coe_sub, ← EReal.coe_mul, ← EReal.coe_add, ← EReal.coe_mul, ← EReal.coe_mul]
    rfl
  · simp only [c0, dite_false, if_false]
    rw [ha, hs, ← EReal.coe_mul]

end Cert.FfnBwdIdeal.Hand

end
-- ==== Proof.FfnFinal.lean ====
/- The feed-forward's backward results after the run, for arguments that are real numbers. -/
module

public import proofs.«01_k».proof.Proof.FfnGate

@[expose] public section

set_option maxRecDepth 16384

noncomputable section

namespace Cert.FfnBwdIdeal.Hand

open Cert.FfnBwdIdeal Cert.FfnBwdIdeal.Gen Idealize.ShloMosaic Idealize.ShloMosaic.TcCoe Idealize.SL.Sem
open Cert.Lift Cert.Rms Cert.Mix Cert.Ffn

section Columns
variable {n P b o : ℕ} {h : ∀ i, (![0, o] : Fin 2 → ℕ) i + (⟨2, ![n, b]⟩ : Shape).size i ≤ (⟨2, ![n, P]⟩ : Shape).size i} {w : Vec Ideal (⟨2, ![n, b]⟩ : Shape) .bf16}

/-- A column that the last piece written covers. -/
theorem cols_in {L : List (View.Piece (Elt Ideal) (⟨2, ![n, P]⟩ : Shape) .bf16)} {y : (⟨2, ![n, P]⟩ : Shape).Idx} (r : Fin n) (k : Fin b)
    (h0 : (y 0).val = r.val) (h1 : (y 1).val = o + k.val) :
    View.canon ((⟨Rect.unit (s := ⟨2, ![n, P]⟩) ![0, o] (⟨2, ![n, b]⟩ : Shape).size h, w⟩ : View.Piece (Elt Ideal) (⟨2, ![n, P]⟩ : Shape) .bf16) :: L) y = w (ix2 r k) := by
  have e : y = (Rect.unit (s := ⟨2, ![n, P]⟩) ![0, o] (⟨2, ![n, b]⟩ : Shape).size h).emb (ix2 r k) := by
    funext i
    apply Fin.ext
    match i with
    | ⟨0, _⟩ => show (y 0).val = 0 + 1 * r.val; omega
    | ⟨1, _⟩ => show (y 1).val = o + 1 * k.val; omega
  rw [e]
  exact View.canon_cons_emb (Val := Elt Ideal) (e := .bf16) (Rect.unit (s := ⟨2, ![n, P]⟩) ![0, o] (⟨2, ![n, b]⟩ : Shape).size h) w L _

/-- A column before the last piece written. -/
theorem cols_out {L : List (View.Piece (Elt Ideal) (⟨2, ![n, P]⟩ : Shape) .bf16)} {y : (⟨2, ![n, P]⟩ : Shape).Idx} (hy : (y 1).val < o) :
    View.canon ((⟨Rect.unit (s := ⟨2, ![n, P]⟩) ![0, o] (⟨2, ![n, b]⟩ : Shape).size h, w⟩ : View.Piece (Elt Ideal) (⟨2, ![n, P]⟩ : Shape) .bf16) :: L) y = View.canon L y := by
  refine View.canon_cons_of_not_mem _ L ?_
  intro hx
  have e : o ≤ (y 1).val ∧ (y 1).val < o + b := (Rect.mem_set_unit (inb := h)).mp hx 1
  omega
end Columns

section
variable (o : Vec Ideal S256x1024 .f32) (w2 : Vec Ideal S2816x1024 .bf16) (d : Vec Ideal S256x5632 .bf16) (w13 : Vec Ideal S1024x5632 .bf16) (x : Vec Ideal S256x1024 .f32) (g : Vec Ideal S1x1024 .f32)
variable (O : Fin 256 → Fin 1024 → ℝ) (V : ℕ → Fin 1024 → ℝ) (S : Fin 256 → ℕ → ℝ) (W : Fin 1024 → ℕ → ℝ) (X D : Fin 256 → Fin 1024 → ℝ) (G : Fin 1024 → ℝ)

/-- Half of a tile's given gradient. -/
theorem dy_tile (ho : ∀ a k, o (ix2 a k) = (O a k : EReal)) (a : Fin 256) (k : Fin 1024) : k0_pay7 o (ix2 a k) = ((1 / 2 * O a k : ℝ) : EReal) := by
  pointwise [k0_pay7, k0_pay6]
  rw [ho, lit_half, ← EReal.coe_mul]

/-- A tile's product with the second weights. -/
theorem dn_tile (ho : ∀ a k, o (ix2 a k) = (O a k : EReal)) (hv : ∀ (q : Fin 2816) k, w2 (ix2 q k) = (V q k : EReal)) (a : Fin 256) (q : Fin 2816) :
    k0_pay8 o w2 (ix2 a q) = ((∑ k, 1 / 2 * O a k * V q k : ℝ) : EReal) := by
  pointwise [k0_pay8]
  simp only [dy_tile o O ho, hv, ← EReal.coe_mul, sum_coe]

/-- A tile's gradient before the gates. -/
theorem dab_tile (ho : ∀ a k, o (ix2 a k) = (O a k : EReal)) (hv : ∀ (q : Fin 2816) k, w2 (ix2 q k) = (V q k : EReal)) (hd : ∀ a (j : Fin 5632), d (ix2 a j) = (S a j : EReal)) (a : Fin 256) (j : Fin 5632) :
    dabT o w2 d (ix2 a j) = (((if j.val < 2816 then ∑ k, 1 / 2 * O a k * V j k else ∑ k, 1 / 2 * O a k * V (j - 2816) k) * S a j : ℝ) : EReal) := by
  unfold dabT dabL
  by_cases c0 : j.val < 2816
  · rw [if_pos c0]
    refine (cols_out (n := 256) (P := 5632) (b := 2816) (o := 2816) c0).trans ((cols_in (n := 256) (P := 5632) (b := 2816) (o := 0) a ⟨j.val, c0⟩ rfl (by show j.val = 0 + j.val; omega)).trans ?_)
    pointwise [k0_pay9]
    rw [dn_tile o w2 O V ho hv]
    rw [hd, ← EReal.coe_mul]
  · rw [if_neg c0]
    have hj := j.isLt
    refine (cols_in (n := 256) (P := 5632) (b := 2816) (o := 2816) a ⟨j.val - 2816, by omega⟩ rfl (by show j.val = 2816 + (j.val - 2816); omega)).trans ?_
    pointwise [k0_pay10]
    rw [dn_tile o w2 O V ho hv]
    rw [hd, ← EReal.coe_mul]
    simp only [show 2816 + (j.val - 2816) = j.val by omega]

/-- A tile's product with the first weights. -/
theorem back_of (y : Vec Ideal S256x5632 .bf16) (Y : Fin 256 → ℕ → ℝ) (hy : ∀ a (j : Fin 5632), y (ix2 a j) = (Y a j : EReal)) (hw : ∀ a (j : Fin 5632), w13 (ix2 a j) = (W a j : EReal)) (a : Fin 256) (k : Fin 1024) :
    k0_pay11 y w13 (ix2 a k) = ((∑ j : Fin 5632, Y a j * W k j : ℝ) : EReal) := by
  pointwise [k0_pay11]
  simp only [hy, hw, ← EReal.coe_mul, sum_coe]

/-- The reciprocal root mean square of a tile's row. -/
theorem scale_at (hx : ∀ a k, x (ix2 a k) = (X a k : EReal)) (a : Fin 256) : k0_pay1 (k0_pay14 x) (ix2 a 0) = ((rs (X a) : ℝ) : EReal) := by
  pointwise [k0_pay1, k0_pay14, k0_pay12]
  simp only [hx, ← EReal.coe_mul, sum_coe, lit_1024, lit_eps, div_coe (by norm_num : (1024 : ℝ) ≠ 0), ← EReal.coe_add]
  exact rsqrt_coe (ms_pos (X a))

/-- A tile's normed row. -/
theorem normed_at (hx : ∀ a k, x (ix2 a k) = (X a k : EReal)) (a : Fin 256) (k : Fin 1024) : k0_pay2 (k0_pay12 x) (k0_pay14 x) (ix2 a k) = ((X a k * rs (X a) : ℝ) : EReal) := by
  pointwise [k0_pay2, k0_pay12]
  rw [scale_at x X hx, hx, ← EReal.coe_mul]

variable (y : FVec Ideal S256x1024 .f32)

/-- What a tile adds to the gain's gradient. -/
theorem dg_tile (hd : ∀ a k, y (ix2 a k) = (D a k : EReal)) (hx : ∀ a k, x (ix2 a k) = (X a k : EReal)) (k : Fin 1024) :
    k0_pay3 y (k0_pay12 x) (k0_pay14 x) (ix2 0 k) = ((∑ a, D a k * (X a k * rs (X a)) : ℝ) : EReal) := by
  pointwise [k0_pay3]
  simp only [normed_at x X hx, hd, ← EReal.coe_mul, sum_coe]

/-- A tile's gradient of the input: the one given, and the norm's. -/
theorem dx_tile (hd : ∀ a k, y (ix2 a k) = (D a k : EReal)) (hx : ∀ a k, x (ix2 a k) = (X a k : EReal)) (hg : ∀ k, g (ix2 0 k) = (G k : EReal)) (a : Fin 256) (k : Fin 1024) :
    k0_pay4 (k0_pay6 o) y (k0_pay12 x) (k0_pay13 g) (k0_pay14 x) (ix2 a k) = o (ix2 a k) + ((grad (X a) (fun j => D a j * G j) k : ℝ) : EReal) := by
  pointwise [k0_pay4, k0_pay6, k0_pay13]
  simp only [normed_at x X hx, scale_at x X hx, hd, hg, lit_1024, ← EReal.coe_mul, ← EReal.coe_sub, sum_coe, div_coe (by norm_num : (1024 : ℝ) ≠ 0)]
  rfl
end

variable (m : (ℓ : Loc nD τ sig) → Buf (Elt Ideal) ℓ) (c : Dev nD)
variable (X : ℕ → Fin 1024 → ℝ) (G : Fin 1024 → ℝ) (W : Fin 1024 → ℕ → ℝ) (U : ℕ → Fin 1024 → ℝ) (O : ℕ → Fin 1024 → ℝ)

/-- The four results, of real arguments given by row and channel number. -/
def dxSpec : FVec Ideal S4096x1024 .f32 := fun i => ((O (i 0).val (i 1) : ℝ) : EReal) + ((grad (X (i 0).val) (fun j => back X O G W U (i 0).val j * G j) (i 1) : ℝ) : EReal)
def dabSpec : FVec Ideal S4096x5632 .bf16 := fun i => ((dab X O G W U (i 0).val (i 1).val : ℝ) : EReal)
def dySpec : FVec Ideal S4096x1024 .bf16 := fun i => ((1 / 2 * O (i 0).val (i 1) : ℝ) : EReal)
def dgSpec : FVec Ideal S1x1024 .f32 := fun i => ((∑ r ∈ Finset.range 4096, back X O G W U r (i 1) * (X r (i 1) * rs (X r)) : ℝ) : EReal)

variable (hX : ∀ (r : Fin 4096) k, inX m c (ix3 0 r k) = (X r k : EReal)) (hG : ∀ k, inG m c (ix1 k) = (G k : EReal))
  (hW : ∀ a (j : Fin 5632), inW m c (ix2 a j) = (W a j : EReal)) (hU : ∀ (q : Fin 2816) k, inV m c (ix2 q k) = (U q k : EReal))
  (hO : ∀ (r : Fin 4096) k, inO m c (ix3 0 r k) = (O r k : EReal))

include hX in
theorem tile_X (t : Fin cfg0.N) (a : Fin 256) (k : Fin 1024) : (iblk m c 1 t : Vec Ideal S256x1024 .f32) (ix2 a k) = ((X (rowAt t a) k : ℝ) : EReal) := by
  rw [read_X, val_X]
  pointwise
  exact hX _ _
include hG in
theorem tile_G (t : Fin cfg0.N) (k : Fin 1024) : (iblk m c 2 t : Vec Ideal S1x1024 .f32) (ix2 0 k) = ((G k : ℝ) : EReal) := by
  rw [read_G, val_G]
  pointwise
  exact hG _
include hW in
theorem tile_W (t : Fin cfg0.N) (a : Fin 1024) (j : Fin 5632) : (iblk m c 4 t : Vec Ideal S1024x5632 .bf16) (ix2 a j) = ((W a j : ℝ) : EReal) := by
  rw [read_W, val_W]
  pointwise
  exact hW _ _
include hU in
theorem tile_V (t : Fin cfg0.N) (q : Fin 2816) (k : Fin 1024) : (iblk m c 5 t : Vec Ideal S2816x1024 .bf16) (ix2 q k) = ((U q k : ℝ) : EReal) := by
  rw [read_V, val_V]
  pointwise
  exact hU _ _
include hO in
theorem tile_O (t : Fin cfg0.N) (a : Fin 256) (k : Fin 1024) : (iblk m c 0 t : Vec Ideal S256x1024 .f32) (ix2 a k) = ((O (rowAt t a) k : ℝ) : EReal) := by
  rw [read_O, val_O]
  pointwise
  exact hO _ _
include hX hG hW in
/-- The slopes that a tile reads. -/
theorem tile_D (t : Fin cfg0.N) (a : Fin 256) (j : Fin 5632) : (iblk m c 3 t : Vec Ideal S256x5632 .bf16) (ix2 a j) = ((slopes (up X G W) (rowAt t a) j : ℝ) : EReal) := by
  rw [read_D, val_D]
  refine slope_at _ (up X G W) (fun r j => up_at _ _ _ X G W (fun r k => ?_) (fun k => ?_) (fun a j => ?_) r j) _ j
  · pointwise
    exact hX _ _
  · pointwise
    exact hG _
  · pointwise
    exact hW _ _

include hX hG hW hU hO in
/-- A tile's gradient before the gates, by row number. -/
theorem tile_dab (t : Fin cfg0.N) (a : Fin 256) (j : Fin 5632) :
    dabT (iblk m c 0 t) (iblk m c 5 t) (iblk m c 3 t) (ix2 a j) = ((dab X O G W U (rowAt t a) j : ℝ) : EReal) :=
  dab_tile _ _ _ (fun a => O (rowAt t a)) U (fun a => slopes (up X G W) (rowAt t a)) (tile_O m c O hO t) (tile_V m c U hU t) (tile_D m c X G W hX hG hW t) a j

include hX hG hW hU hO in
/-- A tile's gradient after the first weights, by row number. -/
theorem tile_back (t : Fin cfg0.N) (a : Fin 256) (k : Fin 1024) : backAt m c t (ix2 a k) = ((back X O G W U (rowAt t a) k : ℝ) : EReal) :=
  back_of _ W _ (fun a => dab X O G W U (rowAt t a)) (tile_dab m c X G W U O hX hG hW hU hO t) (tile_W m c W hW t) a k

theorem row_of (r : Fin 4096) : rowAt (tileNo r) (placeIn r) = r := Fin.ext (by show 256 * (r.val / 256) + r.val % 256 = _; omega)

include hX hG hW hU hO in
theorem kernel_dx : ((dats m 0 c).arrAt 6 cfg0.N : Vec Ideal S4096x1024 .f32) = dxSpec X G W U O := by
  refine Cert.Tiles.ext2 (n0 := 4096) (n1 := 1024) _ _ fun r k => ?_
  rw [dx_at, dx_out, dx_tile _ _ _ (fun a => X (rowAt (tileNo r) a)) (fun a => back X O G W U (rowAt (tileNo r) a)) G _
    (tile_back m c X G W U O hX hG hW hU hO _) (tile_X m c X hX _) (tile_G m c G hG _), tile_O m c O hO, row_of]
  rfl

include hX hG hW hU hO in
theorem kernel_dab : ((dats m 0 c).arrAt 7 cfg0.N : Vec Ideal S4096x5632 .bf16) = dabSpec X G W U O := by
  refine Cert.Tiles.ext2 (n0 := 4096) (n1 := 5632) _ _ fun r k => ?_
  rw [dab_at, dab_out, tile_dab m c X G W U O hX hG hW hU hO, row_of]
  rfl

include hO in
theorem kernel_dy : ((dats m 0 c).arrAt 8 cfg0.N : Vec Ideal S4096x1024 .bf16) = dySpec O := by
  refine Cert.Tiles.ext2 (n0 := 4096) (n1 := 1024) _ _ fun r k => ?_
  rw [dy_at, dy_out, dy_tile _ (fun a => O (rowAt (tileNo r) a)) (tile_O m c O hO _), row_of]
  rfl

/-- The accumulator after tile `n` holds the sum of the tiles up to it. -/
theorem dg_upto (f : ℕ → ℝ) (k : Fin 1024) (hf : ∀ t : Fin cfg0.N, k0_pay3 (F := Ideal) (backAt m c t) (k0_pay12 (iblk m c 1 t)) (k0_pay14 (iblk m c 1 t)) (ix2 0 k) = ((f t.val : ℝ) : EReal)) :
    ∀ (n : ℕ) (h : n < cfg0.N), (outsAt0 m c n h).2.2.2 (ix2 0 k) = ((∑ t ∈ Finset.range (n + 1), f t : ℝ) : EReal)
  | 0, h => by
    rw [Finset.sum_range_one]
    exact (congrFun (dg_first m c ⟨0, h⟩ rfl) _).trans (hf ⟨0, h⟩)
  | n + 1, h => by
    rw [Finset.sum_range_succ, EReal.coe_add]
    refine (congrFun (dg_later m c ⟨n + 1, h⟩ (by dsimp only; omega)) _).trans ?_
    show (outsAt0 m c n _).2.2.2 (ix2 0 k) + k0_pay3 (F := Ideal) _ _ _ (ix2 0 k) = _
    rw [dg_upto f k hf n, hf]

/-- The last tile. -/
abbrev tEnd : Fin cfg0.N := ⟨15, by rw [show cfg0.N = 16 from N_0]; decide⟩

/-- The gain's gradient is written back once, after the last tile. -/
theorem dg_at (k : Fin 1024) : ((dats m 0 c).arrAt 9 cfg0.N : Vec Ideal S1x1024 .f32) (ix2 0 k) = (outsAt0 m c 15 tEnd.isLt).2.2.2 (ix2 0 k) := by
  have hN : cfg0.N = 16 := N_0
  have e : ((cfg0.win 9).blk tEnd).view.read (Elt Ideal) ((dats m 0 c).arrAt 9 cfg0.N) = (dats m 0 c).flushed 9 tEnd := by
    refine (dats m 0 c).read_blk_arrAt_eq_flushed 9 (fun t t' h h' hne => absurd (Fin.ext ?_) hne) cfg0.N tEnd tEnd.isLt ((flush0_9 _).mpr rfl)
    have := (flush0_9 t).mp h; have := (flush0_9 t').mp h'; have := t.isLt; have := t'.isLt; omega
  have hb := congrFun (e.trans (Value.flushed9 m c tEnd)) (ix2 0 k)
  rw [View.read_apply] at hb
  refine (Cert.Place.pos2 (n := 1) (p := 1024) _ _ _ _ ?_ ?_).symm.trans (hb.trans rfl)
  · show win0_9.index tEnd 0 * 1 + 1 * 0 = 0; rw [(at_9 _).1]
  · show win0_9.index tEnd 1 * 1024 + 1 * k.val = k.val; rw [(at_9 _).2]; omega

include hX hG hW hU hO in
theorem kernel_dg : ((dats m 0 c).arrAt 9 cfg0.N : Vec Ideal S1x1024 .f32) = dgSpec X G W U O := by
  refine Cert.Tiles.ext2_row (n1 := 1024) _ _ fun k => ?_
  rw [dg_at, dg_upto m c (fun t => ∑ a ∈ Finset.range 256, back X O G W U (256 * t + a) k * (X (256 * t + a) k * rs (X (256 * t + a)))) k,
    Cert.Tiles.sum_tiles 256 (fun r => back X O G W U r k * (X r k * rs (X r))) 16]
  · rfl
  · intro t
    rw [dg_tile _ (fun a => X (rowAt t a)) (fun a => back X O G W U (rowAt t a)) _ (tile_back m c X G W U O hX hG hW hU hO _) (tile_X m c X hX _), Finset.sum_range]

end Cert.FfnBwdIdeal.Hand

end
-- ==== Proof.FfnRef.lean ====
/- The reference of the feed-forward's backward call, for arguments that are real numbers. -/
module

public import proofs.«01_k».proof.Proof.Gen.FfnRefIdeal.Run
public import proofs.«01_k».proof.Proof.ProjRef
public import proofs.«01_k».proof.Proof.FfnFinal

@[expose] public section

set_option maxRecDepth 16384

noncomputable section

namespace Cert.FfnRefIdeal.Hand

open Cert.FfnRefIdeal Cert.FfnRefIdeal.Gen Idealize.ShloMosaic Idealize.ShloMosaic.TcCoe Idealize.SL.Sem
open Cert.FfnBwdIdeal.Hand (dxSpec dabSpec dySpec dgSpec)
open Cert.Lift Cert.Rms Cert.Mix Cert.Ffn

/-- The normed input times the first weights, as the reference writes it. -/
def upR (x : FVec Ideal S1x4096x1024 .f32) (g : FVec Ideal S1024 .f32) (w : FVec Ideal S1024x5632 .f32) : FVec Ideal S1x4096x5632 .f32 :=
  Host.dotGeneral (F := Ideal) (φ₁ := .f32) (φ₂ := .f32) dot_S1x4096x1024_S1024x5632_S1x4096x5632_2_0_01_1_n_n none
    (mulf (F := Ideal) (φ := .f32) (mulf (F := Ideal) (φ := .f32) x (broadcastInDim S1x4096x1024 ![0, 1, 2] bcast_S1x4096x1_S1x4096x1024_0_1_2
      (Host.rsqrt (F := Ideal) (φ := .f32) (addf (F := Ideal) (φ := .f32) (Host.divf (F := Ideal) (φ := .f32)
        (broadcastInDim S1x4096x1 ![0, 1] bcast_S1x4096_S1x4096x1_0_1 (Host.reduceAdd (F := Ideal) (φ := .f32) (mulf (F := Ideal) (φ := .f32) x x) (constant (F := Ideal) S_ .f32 0x00000000#32) reducesTo_S1x4096x1024_S1x4096_d2 h_S_))
        (broadcastInDim S1x4096x1 ![] bcast_S_S1x4096x1 (constant (F := Ideal) S_ .f32 0x44800000#32))) (broadcastInDim S1x4096x1 ![] bcast_S_S1x4096x1 (constant (F := Ideal) S_ .f32 0x358637BD#32))))))
      (broadcastInDim S1x4096x1024 ![0, 1, 2] bcast_S1x1x1024_S1x4096x1024_0_1_2 (broadcastInDim S1x1x1024 ![2] bcast_S1024_S1x1x1024_2 g))) w

/-- Half the given gradient. -/
def halfR (o : FVec Ideal S1x4096x1024 .f32) : FVec Ideal S1x4096x1024 .f32 :=
  mulf (F := Ideal) (φ := .f32) (broadcastInDim S1x4096x1024 ![] bcast_S_S1x4096x1024 (constant (F := Ideal) S_ .f32 0x3F000000#32)) (shapeCast S1x4096x1024 o shapeCasts_S1x4096x1024_S1x4096x1024)
/-- That, back through the second weights. -/
def dnR (o : FVec Ideal S1x4096x1024 .f32) (v : FVec Ideal S2816x1024 .f32) : FVec Ideal S1x4096x2816 .f32 :=
  Host.dotGeneral (F := Ideal) (φ₁ := .f32) (φ₂ := .f32) dot_S1x4096x1024_S2816x1024_S1x4096x2816_2_1_01_0_n_n none (halfR o) v

/-- One everywhere, and the logistic function of the columns that gate. -/
def oneR : FVec Ideal S1x4096x2816 .f32 := broadcastInDim S1x4096x2816 ![] bcast_S_S1x4096x2816 (constant (F := Ideal) S_ .f32 0x3F800000#32)
def sigR (a : FVec Ideal S1x4096x2816 .f32) : FVec Ideal S1x4096x2816 .f32 :=
  Host.divf (F := Ideal) (φ := .f32) oneR (addf (F := Ideal) (φ := .f32) oneR (Host.exp (F := Ideal) (φ := .f32) (Host.negf (F := Ideal) (φ := .f32) a)))

/-- The gradient before the gates, of the two groups of columns and the gradient after them. -/
def catR (a b d : FVec Ideal S1x4096x2816 .f32) : FVec Ideal S1x4096x5632 .f32 :=
  concatenate S1x4096x5632 2
    [⟨S1x4096x2816, addf (F := Ideal) (φ := .f32) (mulf (F := Ideal) (φ := .f32) (mulf (F := Ideal) (φ := .f32) d b) (sigR a))
        (mulf (F := Ideal) (φ := .f32) (mulf (F := Ideal) (φ := .f32) a (mulf (F := Ideal) (φ := .f32) d b)) (mulf (F := Ideal) (φ := .f32) (sigR a) (subf (F := Ideal) (φ := .f32) oneR (sigR a))))⟩,
      ⟨S1x4096x2816, mulf (F := Ideal) (φ := .f32) (mulf (F := Ideal) (φ := .f32) a (sigR a)) d⟩] concatenates_S1x4096x2816_S1x4096x2816_S1x4096x5632_d2
def dabR (x : FVec Ideal S1x4096x1024 .f32) (g : FVec Ideal S1024 .f32) (w : FVec Ideal S1024x5632 .f32) (v : FVec Ideal S2816x1024 .f32) (o : FVec Ideal S1x4096x1024 .f32) : FVec Ideal S1x4096x5632 .f32 :=
  catR (extractStridedSlice S1x4096x2816 ![0, 0, 0] (upR x g w) slices_S1x4096x5632_S1x4096x2816_0_0_0) (extractStridedSlice S1x4096x2816 ![0, 0, 2816] (upR x g w) slices_S1x4096x5632_S1x4096x2816_0_0_2816) (dnR o v)

section
variable (x o : FVec Ideal S1x4096x1024 .f32) (g : FVec Ideal S1024 .f32) (w : FVec Ideal S1024x5632 .f32) (v : FVec Ideal S2816x1024 .f32)
variable (X O : ℕ → Fin 1024 → ℝ) (G : Fin 1024 → ℝ) (W : Fin 1024 → ℕ → ℝ) (U : ℕ → Fin 1024 → ℝ)
  (hx : ∀ (r : Fin 4096) k, x (ix3 0 r k) = (X r k : EReal)) (hg : ∀ k : Fin 1024, g (ix1 k) = (G k : EReal))
  (hw : ∀ a (j : Fin 5632), w (ix2 a j) = (W a j : EReal)) (hv : ∀ (q : Fin 2816) k, v (ix2 q k) = (U q k : EReal)) (ho : ∀ (r : Fin 4096) k, o (ix3 0 r k) = (O r k : EReal))

include hx hg hw in
theorem up_at (r : Fin 4096) (j : Fin 5632) : upR x g w (ix3 0 r j) = ((up X G W r j : ℝ) : EReal) := by
  have h : ∀ X : Fin 1024 → ℝ, Ideal.rsqrt (((∑ j, X j * X j) / 1024 + eps : ℝ) : EReal) = ((rs X : ℝ) : EReal) := fun X => rsqrt_coe (ms_pos X)
  pointwise [upR]
  simp only [hx, hg, hw, ← EReal.coe_mul, sum_coe, lit_1024, lit_eps, div_coe (by norm_num : (1024 : ℝ) ≠ 0), ← EReal.coe_add, h]
  rfl

include ho in
theorem half_at (r : Fin 4096) (k : Fin 1024) : halfR o (ix3 0 r k) = ((1 / 2 * O r k : ℝ) : EReal) := by
  pointwise [halfR]
  rw [ho, lit_half, ← EReal.coe_mul]

include hv ho in
theorem dn_at (r : Fin 4096) (q : Fin 2816) : dnR o v (ix3 0 r q) = ((dn O U r q : ℝ) : EReal) := by
  pointwise [dnR]
  simp only [half_at o O ho, hv, ← EReal.coe_mul, sum_coe]
  rfl

omit x o g w v X O G W U in
theorem sig_at (a : FVec Ideal S1x4096x2816 .f32) (A : ℕ → ℕ → ℝ) (ha : ∀ (r : Fin 4096) (q : Fin 2816), a (ix3 0 r q) = (A r q : EReal)) (r : Fin 4096) (q : Fin 2816) :
    sigR a (ix3 0 r q) = ((sg (A r q) : ℝ) : EReal) := by
  pointwise [sigR, oneR]
  rw [ha]
  exact sg_coe _

omit x o g w v X O G W U in
theorem cat_at (a b d : FVec Ideal S1x4096x2816 .f32) (Y : ℕ → ℕ → ℝ) (D : ℕ → ℕ → ℝ) (ha : ∀ (r : Fin 4096) (q : Fin 2816), a (ix3 0 r q) = (Y r q : EReal))
    (hb : ∀ (r : Fin 4096) (q : Fin 2816), b (ix3 0 r q) = (Y r (2816 + q) : EReal)) (hd : ∀ (r : Fin 4096) (q : Fin 2816), d (ix3 0 r q) = (D r q : EReal)) (r : Fin 4096) (j : Fin 5632) :
    catR a b d (ix3 0 r j) = (((if j.val < 2816 then D r j else D r (j - 2816)) * slopes Y r j : ℝ) : EReal) := by
  have hs := sig_at a Y ha
  unfold slopes siluD
  pointwise [catR, oneR]
  by_cases c0 : j.val < 2816
  · simp only [c0, dite_true, if_true]
    rw [hb, hs, ha, hd, ← EReal.coe_one]
    simp only [← EReal.coe_sub, ← EReal.coe_mul, ← EReal.coe_add]
    congr 1
    ring
  · simp only [c0, dite_false, if_false]
    rw [ha, hs, hd, ← EReal.coe_mul, ← EReal.coe_mul]
    congr 1
    ring

include hx hg hw hv ho in
theorem dab_at (r : Fin 4096) (j : Fin 5632) : dabR x g w v o (ix3 0 r j) = ((dab X O G W U r j : ℝ) : EReal) := by
  refine cat_at _ _ _ (up X G W) (dn O U) (fun r q => ?_) (fun r q => ?_) (dn_at o v O U hv ho) r j
  · pointwise
    rw [up_at x g w X G W hx hg hw]
  · pointwise
    rw [up_at x g w X G W hx hg hw]

include hx hg hw hv ho in
/-- The gradient back through the first weights. -/
theorem back_at (r : Fin 4096) (k : Fin 1024) :
    (Host.dotGeneral (F := Ideal) (φ₁ := .f32) (φ₂ := .f32) dot_S1x4096x5632_S1024x5632_S1x4096x1024_2_1_01_0_n_n none (dabR x g w v o) w) (ix3 0 r k) = ((back X O G W U r k : ℝ) : EReal) := by
  have hd := dab_at x o g w v X O G W U hx hg hw hv ho
  generalize dabR x g w v o = d at hd ⊢
  pointwise
  simp only [hd, hw, ← EReal.coe_mul, sum_coe]
  rfl
end

variable (m : (ℓ : Loc nD τ sig) → Buf (Elt Ideal) ℓ) (c : Dev nD)
/-- The arguments, as one device holds them. -/
abbrev inX : FVec Ideal S1x4096x1024 .f32 := m ((c.tc : Thread nD τ).loc main_arg0)
abbrev inG : FVec Ideal S1024 .f32 := m ((c.tc : Thread nD τ).loc main_arg1)
abbrev inW : FVec Ideal S1024x5632 .f32 := m ((c.tc : Thread nD τ).loc main_arg2)
abbrev inV : FVec Ideal S2816x1024 .f32 := m ((c.tc : Thread nD τ).loc main_arg3)
abbrev inO : FVec Ideal S1x4096x1024 .f32 := m ((c.tc : Thread nD τ).loc main_arg4)

variable (X O : ℕ → Fin 1024 → ℝ) (G : Fin 1024 → ℝ) (W : Fin 1024 → ℕ → ℝ) (U : ℕ → Fin 1024 → ℝ)
  (hx : ∀ (r : Fin 4096) k, inX m c (ix3 0 r k) = (X r k : EReal)) (hg : ∀ k : Fin 1024, inG m c (ix1 k) = (G k : EReal))
  (hw : ∀ a (j : Fin 5632), inW m c (ix2 a j) = (W a j : EReal)) (hv : ∀ (q : Fin 2816) k, inV m c (ix2 q k) = (U q k : EReal)) (ho : ∀ (r : Fin 4096) k, inO m c (ix3 0 r k) = (O r k : EReal))

include hx hg hw hv ho in
theorem ref_dx : Value.res_main_v56 m c = dxSpec X G W U O := by
  refine Cert.Tiles.ext2 (n0 := 4096) (n1 := 1024) _ _ fun r k => ?_
  refine (Cert.ProjRefIdeal.Hand.tail_dx (inX m c) _ (inO m c) (inG m c) X (back X O G W U) G hx hg (back_at _ _ _ _ _ X O G W U hx hg hw hv ho) r k).trans ?_
  rw [ho]
  rfl

include hx hg hw hv ho in
theorem ref_dg : Value.res_main_v61 m c = dgSpec X G W U O := by
  refine Cert.Tiles.ext2 (n0 := 1) (n1 := 1024) _ _ fun i k => ?_
  exact Cert.ProjRefIdeal.Hand.tail_dg (inX m c) _ X (back X O G W U) hx (back_at _ _ _ _ _ X O G W U hx hg hw hv ho) i k

/-- Three axes to two, at an index. -/
theorem flat_wide (d : FVec Ideal S1x4096x5632 .f32) (r : Fin 4096) (k : Fin 5632) :
    truncf (F := Ideal) .bf16 (shapeCast S4096x5632 d shapeCasts_S1x4096x5632_S4096x5632) bitsLt_bf16_f32 (ix2 r k) = d (ix3 0 r k) := by
  pointwise
theorem flat_row (d : FVec Ideal S1x4096x1024 .f32) (r : Fin 4096) (k : Fin 1024) :
    truncf (F := Ideal) .bf16 (shapeCast S4096x1024 d shapeCasts_S1x4096x1024_S4096x1024) bitsLt_bf16_f32 (ix2 r k) = d (ix3 0 r k) := by
  pointwise

include hx hg hw hv ho in
theorem ref_dab : Value.res_main_v58 m c = dabSpec X G W U O := by
  refine Cert.Tiles.ext2 (n0 := 4096) (n1 := 5632) _ _ fun r k => ?_
  exact (flat_wide (dabR (inX m c) (inG m c) (inW m c) (inV m c) (inO m c)) r k).trans (dab_at _ _ _ _ _ X O G W U hx hg hw hv ho r k)

include ho in
theorem ref_dy : truncf (F := Ideal) .bf16 (shapeCast S4096x1024 (halfR (inO m c)) shapeCasts_S1x4096x1024_S4096x1024) bitsLt_bf16_f32 = dySpec O := by
  refine Cert.Tiles.ext2 (n0 := 4096) (n1 := 1024) _ _ fun r k => ?_
  exact (flat_row _ r k).trans (half_at _ O ho r k)

end Cert.FfnRefIdeal.Hand

end
-- ==== Proof.FfnClaim.lean ====
/- The feed-forward's backward call: its value claim, and the reference's own run. -/
module

public import proofs.«01_k».proof.Defs
public import proofs.«01_k».proof.Proof.Gen.FfnBwdIdeal.Value
public import proofs.«01_k».proof.Proof.Gen.FfnRefIdeal
public import proofs.«01_k».proof.Proof.Gen.Pre_ffn_finite
public import proofs.«01_k».proof.Proof.FfnRef
public import proofs.«01_k».proof.Proof.Finite
public import proofs.«01_k».proof.Proof.ProjClaim

@[expose] public section

set_option maxRecDepth 16384

noncomputable section

namespace Cert.Proof

open Idealize.ShloMosaic Idealize.SL.Sem Idealize.ShloMosaic.TcCoe

/-- Rows of real numbers by number, and columns by number, for an array of two axes. -/
theorem rowsBy {n p : ℕ} {v : (⟨2, ![p, n]⟩ : Shape).Idx → EReal} (h : ∃ f : (⟨2, ![p, n]⟩ : Shape).Idx → ℝ, ∀ i, v i = (f i : EReal)) :
    ∃ g : ℕ → Fin n → ℝ, ∀ (r : Fin p) (k : Fin n), v (ix2 r k) = ((g r k : ℝ) : EReal) := by
  obtain ⟨f, hf⟩ := h
  exact ⟨fun r k => if h : r < p then f (ix2 ⟨r, h⟩ k) else 0, fun r k => by
    rw [hf]
    simp only [r.isLt, dite_true]⟩
theorem colsBy {n p : ℕ} {v : (⟨2, ![p, n]⟩ : Shape).Idx → EReal} (h : ∃ f : (⟨2, ![p, n]⟩ : Shape).Idx → ℝ, ∀ i, v i = (f i : EReal)) :
    ∃ g : Fin p → ℕ → ℝ, ∀ (r : Fin p) (k : Fin n), v (ix2 r k) = ((g r k : ℝ) : EReal) := by
  obtain ⟨f, hf⟩ := h
  exact ⟨fun r k => if h : k < n then f (ix2 r ⟨k, h⟩) else 0, fun r k => by
    rw [hf]
    simp only [k.isLt, dite_true]⟩

/-- The precondition read: every argument it names is real on every device. -/
theorem ffn_real (m : (ℓ : Loc Cert.FfnBwdIdeal.nD Cert.FfnBwdIdeal.τ Cert.FfnBwdIdeal.sig) → Buf (Elt Ideal) ℓ)
    (h : Cert.Pre_FfnBwdIdeal_ffn_finite (hPre_ffn_finite := Cert.Pre_ffn_finite.Gen.facts) m) (c : Dev Cert.FfnBwdIdeal.nD) :
    ∃ (X : ℕ → Fin 1024 → ℝ) (G : Fin 1024 → ℝ) (W : Fin 1024 → ℕ → ℝ) (U O : ℕ → Fin 1024 → ℝ),
      (∀ (r : Fin 4096) k, Cert.FfnBwdIdeal.Hand.inX m c (ix3 0 r k) = (X r k : EReal))
      ∧ (∀ k, Cert.FfnBwdIdeal.Hand.inG m c (ix1 k) = (G k : EReal))
      ∧ (∀ a (j : Fin 5632), Cert.FfnBwdIdeal.Hand.inW m c (ix2 a j) = (W a j : EReal))
      ∧ (∀ (q : Fin 2816) k, Cert.FfnBwdIdeal.Hand.inV m c (ix2 q k) = (U q k : EReal))
      ∧ (∀ (r : Fin 4096) k, Cert.FfnBwdIdeal.Hand.inO m c (ix3 0 r k) = (O r k : EReal)) := by
  have hc := h c
  dsimp only [Cert.Pre_ffn_finite.fn] at hc
  obtain ⟨hc, t4⟩ := Cert.Finite.of_andi hc
  obtain ⟨hc, t3⟩ := Cert.Finite.of_andi hc
  obtain ⟨hc, t2⟩ := Cert.Finite.of_andi hc
  obtain ⟨t0, t1⟩ := Cert.Finite.of_andi hc
  obtain ⟨X, hX⟩ := byRow (Cert.Finite.real_of_test _ t0)
  obtain ⟨g, hg⟩ := Cert.Finite.real_of_test _ t1
  obtain ⟨W, hW⟩ := colsBy (Cert.Finite.real_of_test _ t2)
  obtain ⟨U, hU⟩ := rowsBy (Cert.Finite.real_of_test _ t3)
  obtain ⟨O, hO⟩ := byRow (Cert.Finite.real_of_test _ t4)
  exact ⟨X, fun k => g (ix1 k), W, U, O, hX, fun k => hg _, hW, hU, hO⟩

open Cert.FfnRefIdeal in
/-- The reference's run changes no argument and moves no counter: it has none. -/
theorem ffn_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems (by decide) r.2⟩) (Value.run m ρ)

open Cert.FfnBwdIdeal.Hand Cert.FfnRefIdeal.Hand in
/-- The kernel and the reference end with equal gradients: of the input, before the gates, of the second product's result, and of the gain. -/
theorem ffn_algebraic : Cert.algebraic_FfnBwdIdeal_FfnRefIdeal_pre_ffn_finite (hFfnBwdIdeal := Cert.FfnBwdIdeal.Gen.facts)
    (hFfnRefIdeal := Cert.FfnRefIdeal.Gen.facts) (hPre_ffn_finite := Cert.Pre_ffn_finite.Gen.facts) := by
  intro m g m' g' hpre hargs
  choose X G W U O hX hG hW hU hO using ffn_real m hpre
  refine ⟨fun c => dxSpec (X c) (G c) (W c) (U c) (O c), fun c => dabSpec (X c) (G c) (W c) (U c) (O c),
    fun c => dySpec (O c), fun c => dgSpec (X c) (G c) (W c) (U c) (O c), ?_, ?_⟩
  · refine (θ_run _ _ _).mono (fun r h c => ?_) (Cert.FfnBwdIdeal.Value.run_blocks m g)
    exact ⟨(h c).1.trans (kernel_dx m c _ _ _ _ _ (hX c) (hG c) (hW c) (hU c) (hO c)),
      (h c).2.1.trans (kernel_dab m c _ _ _ _ _ (hX c) (hG c) (hW c) (hU c) (hO c)),
      (h c).2.2.1.trans (kernel_dy m c _ (hO c)),
      (h c).2.2.2.1.trans (kernel_dg m c _ _ _ _ _ (hX c) (hG c) (hW c) (hU c) (hO c)), (h c).2.2.2.2⟩
  · refine (θ_run _ _ _).mono (fun r h c => ?_) (Cert.FfnRefIdeal.Value.run m' g')
    obtain ⟨a0, a1, a2, a3, a4⟩ := hargs c
    have kX := fun (r : Fin 4096) k => (congrFun a0 (ix3 0 r k)).trans (hX c r k)
    have kG := fun k => (congrFun a1 (ix1 k)).trans (hG c k)
    have kW := fun a j => (congrFun a2 (ix2 a j)).trans (hW c a j)
    have kU := fun q k => (congrFun a3 (ix2 q k)).trans (hU c q k)
    have kO := fun (r : Fin 4096) k => (congrFun a4 (ix3 0 r k)).trans (hO c r k)
    exact ⟨(h c).1.trans (ref_dx m' c _ _ _ _ _ kX kG kW kU kO),
      (h c).2.1.trans (ref_dab m' c _ _ _ _ _ kX kG kW kU kO),
      (h c).2.2.1.trans (ref_dy m' c _ kO),
      (h c).2.2.2.1.trans (ref_dg m' c _ _ _ _ _ kX kG kW kU kO), (h c).2.2.2.2⟩

end Cert.Proof

end
-- ==== Proof.FwdNorm.lean ====
/- The norm before a product, of any row of extended reals: what the kernels and the references both compute, and that it is real. -/
module

public import proofs.«01_k».proof.Proof.Rms

@[expose] public section

noncomputable section

namespace Cert.Norm

open Idealize.ShloMosaic
open Cert.Lift Cert.Rms

/-- A row divided by its root mean square. -/
def nrm (x : Fin 1024 → EReal) (k : Fin 1024) : EReal := x k * Ideal.rsqrt (Ideal.div (∑ j, x j * x j) ((1024 : ℝ) : EReal) + ((eps : ℝ) : EReal))

theorem square_nonneg (v : EReal) : 0 ≤ v * v := by
  induction v using EReal.rec with
  | bot => simp
  | top => simp
  | coe a => rw [← EReal.coe_mul]; exact EReal.coe_nonneg.mpr (mul_self_nonneg a)

/-- A row that holds an infinity is divided by infinity, any other by a real number. -/
theorem nrm_real (x : Fin 1024 → EReal) (k : Fin 1024) : ∃ v : ℝ, nrm x k = (v : EReal) := by
  by_cases h : ∀ j, ∃ r : ℝ, x j = (r : EReal)
  · choose f hf using h
    refine ⟨f k * rs f, ?_⟩
    unfold nrm
    have e : Ideal.rsqrt (((∑ j, f j * f j) / 1024 + eps : ℝ) : EReal) = ((rs f : ℝ) : EReal) := rsqrt_coe (ms_pos f)
    simp only [hf, ← EReal.coe_mul, sum_coe, div_coe (by norm_num : (1024 : ℝ) ≠ 0), ← EReal.coe_add, e]
  · obtain ⟨j, hj⟩ := not_forall.mp h
    have hs : x j * x j = ⊤ := by
      generalize x j = v at hj
      induction v using EReal.rec with
      | bot => simp
      | top => simp
      | coe a => exact absurd ⟨a, rfl⟩ hj
    have ht : ∑ j, x j * x j = ⊤ := top_le_iff.mp (hs ▸ Finset.single_le_sum (f := fun j => x j * x j) (fun i _ => square_nonneg (x i)) (Finset.mem_univ j))
    refine ⟨0, ?_⟩
    unfold nrm
    have hd : Ideal.div ⊤ ((1024 : ℝ) : EReal) = ⊤ := by
      have hp : (⊤ : EReal) * ((1024 : ℝ) : EReal)⁻¹ = ⊤ := by
        rw [← EReal.coe_inv]
        exact EReal.top_mul_coe_of_pos (by norm_num)
      simpa [Ideal.div] using hp
    rw [ht, hd, EReal.top_add_coe, Ideal.rsqrt_top, mul_zero, EReal.coe_zero]

end Cert.Norm

end
-- ==== Proof.FfnFwdCases.lean ====
/- The feed-forward's forward body, one grid point at a time: what its windows read, and what each result window is left holding. -/
module

public import proofs.«01_k».proof.Proof.Gen.FfnFwdIdeal.Value
public import proofs.«01_k».proof.Proof.FwdNorm
public import proofs.«01_k».proof.Proof.FfnFinal
public import Idealize.ShloMosaic.Lib.Tactic
public import Idealize.ShloMosaic.Lib.Pointwise
public import Idealize.ShloMosaic.Lib.Claim

@[expose] public section

set_option maxRecDepth 16384

noncomputable section

namespace Cert.FfnFwdIdeal.Hand

open Cert.FfnFwdIdeal Cert.FfnFwdIdeal.Gen Idealize.ShloMosaic Idealize.ShloMosaic.TcCoe Idealize.SL.Sem
open Idealize.ShloMosaic.Pipeline (Dat)
open Cert.Lift Cert.Norm Cert.Mix Cert.Ffn
open Cert.FfnBwdIdeal.Hand (cols_in cols_out)

theorem at_zero : (![0, 0] : Fin 2 → Nat) = fun _ => 0 := funext fun a => by fin_cases a <;> rfl

/-- The logistic function of a real number. -/
theorem logistic_real (x : ℝ) : Ideal.logistic (x : EReal) = ((sg x : ℝ) : EReal) := sg_coe x

section
variable (x : Vec Ideal S256x1024 .f32) (g : Vec Ideal S1x1024 .f32) (w : Vec Ideal S1024x5632 .bf16) (v : Vec Ideal S2816x1024 .bf16)
variable (N : Fin 256 → Fin 1024 → ℝ) (G : Fin 1024 → ℝ) (W : Fin 1024 → ℕ → ℝ)
  (hx : ∀ a k, nrm (fun k => x (ix2 a k)) k = (N a k : EReal)) (hg : ∀ k, g (ix2 0 k) = (G k : EReal)) (hw : ∀ a (j : Fin 5632), w (ix2 a j) = (W a j : EReal))

/-- A row's product with the first weights, of its normed channels. -/
def upN (N G : Fin 1024 → ℝ) (W : Fin 1024 → ℕ → ℝ) (j : ℕ) : ℝ := ∑ k, N k * G k * W k j
/-- A gated column. -/
def gated (Y : ℕ → ℝ) (q : ℕ) : ℝ := Y q * sg (Y q) * Y (2816 + q)

/-- A tile's normed rows. -/
theorem norm_pay (a : Fin 256) (k : Fin 1024) : k0_pay3 x g (ix2 a k) = nrm (fun k => x (ix2 a k)) k * g (ix2 0 k) := by
  pointwise [k0_pay3, k0_pay2]
  simp only [lit_1024, lit_eps]
  rfl

include hx hg hw in
theorem up_pay (a : Fin 256) (j : Fin 5632) : k0_pay4 x g w (ix2 a j) = ((upN (N a) G W j : ℝ) : EReal) := by
  pointwise [k0_pay4]
  simp only [norm_pay, hx, hg, hw, ← EReal.coe_mul, sum_coe]
  rfl

include hx hg hw in
theorem gate_pay (a : Fin 256) (q : Fin 2816) : k0_pay11 x g w (ix2 a q) = ((gated (upN (N a) G W) q : ℝ) : EReal) := by
  have h := up_pay x g w N G W hx hg hw a
  pointwise [k0_pay11, k0_pay8, k0_pay7, k0_pay6, k0_pay5]
  simp only [h, logistic_real, ← EReal.coe_mul]
  rfl

include hx hg hw in
theorem hi_pay (a : Fin 256) (q : Fin 2816) : k0_pay9 x g w (ix2 a q) = ((upN (N a) G W (2816 + q) * siluD (upN (N a) G W q) : ℝ) : EReal) := by
  have h := up_pay x g w N G W hx hg hw a
  pointwise [k0_pay9, k0_pay7, k0_pay6, k0_pay5]
  simp only [h, logistic_real]
  rw [← EReal.coe_one]
  simp only [← EReal.coe_sub, ← EReal.coe_mul, ← EReal.coe_add]
  rfl

include hx hg hw in
theorem lo_pay (a : Fin 256) (q : Fin 2816) : k0_pay10 x g w (ix2 a q) = ((upN (N a) G W q * sg (upN (N a) G W q) : ℝ) : EReal) := by
  have h := up_pay x g w N G W hx hg hw a
  pointwise [k0_pay10, k0_pay8, k0_pay7, k0_pay5]
  simp only [h, logistic_real, ← EReal.coe_mul]

/-- The four results of a tile. -/
theorem h_tile (a : Fin 256) (k : Fin 1024) : out0_5 x g w v (ix2 a k) = nrm (fun k => x (ix2 a k)) k * g (ix2 0 k) := by
  unfold out0_5
  rw [View.canon_unit_zero at_zero]
  simp only [View.ld_unit_zero (S := S256x1024) at_zero, View.ld_unit_zero (S := S1x1024) at_zero]
  exact norm_pay x g a k

theorem s_pay : k0_pay12 x g w v = k0_pay11 x g w := by
  unfold k0_pay12
  simp only [View.ld_unit_zero (S := S256x1024) at_zero, View.ld_unit_zero (S := S1x1024) at_zero, View.ld_unit_zero (S := S1024x5632) at_zero]

include hx hg hw in
theorem s_tile (a : Fin 256) (q : Fin 2816) : out0_6 x g w v (ix2 a q) = ((gated (upN (N a) G W) q : ℝ) : EReal) := by
  unfold out0_6
  rw [View.canon_unit_zero at_zero, s_pay]
  exact gate_pay x g w N G W hx hg hw a q

include hx hg hw in
theorem x_tile (a : Fin 256) (k : Fin 1024) :
    out0_4 x g w v (ix2 a k) = x (ix2 a k) + ((1 / 2 : ℝ) : EReal) * ∑ q : Fin 2816, ((gated (upN (N a) G W) q : ℝ) : EReal) * v (ix2 q k) := by
  have h := gate_pay x g w N G W hx hg hw a
  unfold out0_4
  rw [View.canon_unit_zero at_zero, s_pay]
  simp only [View.ld_unit_zero (S := S256x1024) at_zero, View.ld_unit_zero (S := S2816x1024) at_zero]
  generalize k0_pay11 x g w = s at h ⊢
  pointwise [k0_pay1, k0_pay2]
  simp only [h, lit_half]

include hx hg hw in
theorem slope_tile (a : Fin 256) (j : Fin 5632) : out0_7 x g w v (ix2 a j) = ((slopes (fun _ => upN (N a) G W) 0 j : ℝ) : EReal) := by
  unfold out0_7 slopes
  simp only [View.ld_unit_zero (S := S256x1024) at_zero, View.ld_unit_zero (S := S1x1024) at_zero, View.ld_unit_zero (S := S1024x5632) at_zero]
  by_cases c0 : j.val < 2816
  · rw [if_pos c0]
    exact (cols_out (n := 256) (P := 5632) (b := 2816) (o := 2816) c0).trans ((cols_in (n := 256) (P := 5632) (b := 2816) (o := 0) a ⟨j.val, c0⟩ rfl (by show j.val = 0 + j.val; omega)).trans
      (hi_pay x g w N G W hx hg hw a ⟨j.val, c0⟩))
  · rw [if_neg c0]
    have hj := j.isLt
    exact (cols_in (n := 256) (P := 5632) (b := 2816) (o := 2816) a ⟨j.val - 2816, by omega⟩ rfl (by show j.val = 2816 + (j.val - 2816); omega)).trans
      (lo_pay x g w N G W hx hg hw a ⟨j.val - 2816, by omega⟩)
end

variable (m : (ℓ : Loc nD τ sig) → Buf (Elt Ideal) ℓ) (c : Dev nD)

/-- The argument arrays, as one device holds them. -/
abbrev inX : FVec Ideal S1x4096x1024 .f32 := m ((c : Thread nD τ).loc main_arg0)
abbrev inG : FVec Ideal S1024 .f32 := m ((c : Thread nD τ).loc main_arg1)
abbrev inW : FVec Ideal S1024x5632 .f32 := m ((c : Thread nD τ).loc main_arg2)
abbrev inV : FVec Ideal S2816x1024 .f32 := m ((c : Thread nD τ).loc main_arg3)

theorem val_X : V m c main_v0 = shapeCast S4096x1024 (inX m c) shapeCasts_S1x4096x1024_S4096x1024 := by
  unfold V; after_results_simp <;> rfl
theorem val_G : V m c main_v1 = shapeCast S1x1024 (inG m c) shapeCasts_S1024_S1x1024 := by
  unfold V; after_results_simp <;> rfl
theorem val_W : V m c main_v2 = truncf .bf16 (inW m c) bitsLt_bf16_f32 := by
  unfold V; after_results_simp <;> rfl
theorem val_V : V m c main_v3 = truncf .bf16 (inV m c) bitsLt_bf16_f32 := by
  unfold V; after_results_simp <;> rfl

/-- Row `a` of tile `t` is row `256 t + a` of the array. -/
abbrev rowAt (t : Fin cfg0.N) (a : Fin 256) : Fin 4096 :=
  ⟨256 * t.val + a.val, by have := lt_of_lt_of_eq t.isLt N_0; have := a.isLt; omega⟩
/-- The tile of a row, and the row's place in it. -/
abbrev tileNo (r : Fin 4096) : Fin cfg0.N := ⟨r.val / 256, by rw [show cfg0.N = 16 from N_0]; have := r.isLt; omega⟩
abbrev placeIn (r : Fin 4096) : Fin 256 := ⟨r.val % 256, Nat.mod_lt _ (by decide)⟩
theorem row_of (r : Fin 4096) : rowAt (tileNo r) (placeIn r) = r := Fin.ext (by show 256 * (r.val / 256) + r.val % 256 = _; omega)

/-- A window that moves a block of rows on with each tile, and one that stays. -/
abbrev Steps (ix : Fin grid0.N → Fin 2 → ℕ) : Prop := ∀ t, ix t 0 = t.val ∧ ix t 1 = 0
abbrev Stays (ix : Fin grid0.N → Fin 2 → ℕ) : Prop := ∀ t, ix t 0 = 0 ∧ ix t 1 = 0
theorem at_0 : Steps win0_0.index := by decide +kernel
theorem at_1 : Stays win0_1.index := by decide +kernel
theorem at_2 : Stays win0_2.index := by decide +kernel
theorem at_3 : Stays win0_3.index := by decide +kernel
theorem at_4 : Steps win0_4.index := by decide +kernel
theorem at_5 : Steps win0_5.index := by decide +kernel
theorem at_6 : Steps win0_6.index := by decide +kernel
theorem at_7 : Steps win0_7.index := by decide +kernel

/-- What each input window reads. -/
theorem tile_X (t : Fin cfg0.N) (a : Fin 256) (k : Fin 1024) : (iblk m c 0 t : Vec Ideal S256x1024 .f32) (ix2 a k) = inX m c (ix3 0 (rowAt t a) k) := by
  have e : (iblk m c 0 t : Vec Ideal S256x1024 .f32) (ix2 a k) = V m c main_v0 (ix2 (rowAt t a) k) := by
    refine Cert.Place.pos2 (V m c main_v0) _ _ _ ?_ ?_
    · show win0_0.index t 0 * 256 + 1 * a.val = 256 * t.val + a.val; rw [(at_0 t).1]; omega
    · show win0_0.index t 1 * 1024 + 1 * k.val = k.val; rw [(at_0 t).2]; omega
  rw [e, val_X]
  pointwise
theorem tile_G (t : Fin cfg0.N) (k : Fin 1024) : (iblk m c 1 t : Vec Ideal S1x1024 .f32) (ix2 0 k) = inG m c (ix1 k) := by
  have e : (iblk m c 1 t : Vec Ideal S1x1024 .f32) (ix2 0 k) = V m c main_v1 (ix2 0 k) := by
    refine Cert.Place.pos2 (V m c main_v1) _ _ _ ?_ ?_
    · show win0_1.index t 0 * 1 + 1 * 0 = 0; rw [(at_1 t).1]
    · show win0_1.index t 1 * 1024 + 1 * k.val = k.val; rw [(at_1 t).2]; omega
  rw [e, val_G]
  pointwise
theorem tile_W (t : Fin cfg0.N) (a : Fin 1024) (j : Fin 5632) : (iblk m c 2 t : Vec Ideal S1024x5632 .bf16) (ix2 a j) = inW m c (ix2 a j) := by
  have e : (iblk m c 2 t : Vec Ideal S1024x5632 .bf16) (ix2 a j) = V m c main_v2 (ix2 a j) := by
    refine Cert.Place.pos2 (V m c main_v2) _ _ _ ?_ ?_
    · show win0_2.index t 0 * 1024 + 1 * a.val = a.val; rw [(at_2 t).1]; omega
    · show win0_2.index t 1 * 5632 + 1 * j.val = j.val; rw [(at_2 t).2]; omega
  rw [e, val_W]
  pointwise
theorem tile_V (t : Fin cfg0.N) (q : Fin 2816) (k : Fin 1024) : (iblk m c 3 t : Vec Ideal S2816x1024 .bf16) (ix2 q k) = inV m c (ix2 q k) := by
  have e : (iblk m c 3 t : Vec Ideal S2816x1024 .bf16) (ix2 q k) = V m c main_v3 (ix2 q k) := by
    refine Cert.Place.pos2 (V m c main_v3) _ _ _ ?_ ?_
    · show win0_3.index t 0 * 2816 + 1 * q.val = q.val; rw [(at_3 t).1]; omega
    · show win0_3.index t 1 * 1024 + 1 * k.val = k.val; rw [(at_3 t).2]; omega
  rw [e, val_V]
  pointwise

/-- A result at row `r`: what `r`'s tile stores at `r`'s place in it. -/
theorem x_at (r : Fin 4096) (k : Fin 1024) :
    ((dats m 0 c).arrAt 4 cfg0.N : Vec Ideal S4096x1024 .f32) (ix2 r k) = out0_4 (iblk m c 0 (tileNo r)) (iblk m c 1 (tileNo r)) (iblk m c 2 (tileNo r)) (iblk m c 3 (tileNo r)) (ix2 (placeIn r) k) := by
  have hb := congrFun ((Value.blocks4 m c (tileNo r) (flush0_4 (tileNo r))).trans (Value.flushed4 m c (tileNo r))) (ix2 (placeIn r) k)
  rw [View.read_apply] at hb
  refine Eq.trans ?_ (hb.trans rfl)
  show (dats m 0 c).arrAt 4 cfg0.N _ = (dats m 0 c).arrAt 4 cfg0.N _
  congr 1
  funext b
  apply Fin.ext
  match b with
  | ⟨0, _⟩ => show r.val = win0_4.index (tileNo r) 0 * 256 + 1 * (r.val % 256); rw [(at_4 _).1]; dsimp only; omega
  | ⟨1, _⟩ => show k.val = win0_4.index (tileNo r) 1 * 1024 + 1 * k.val; rw [(at_4 _).2]; omega
theorem h_at (r : Fin 4096) (k : Fin 1024) :
    ((dats m 0 c).arrAt 5 cfg0.N : Vec Ideal S4096x1024 .bf16) (ix2 r k) = out0_5 (iblk m c 0 (tileNo r)) (iblk m c 1 (tileNo r)) (iblk m c 2 (tileNo r)) (iblk m c 3 (tileNo r)) (ix2 (placeIn r) k) := by
  have hb := congrFun ((Value.blocks5 m c (tileNo r) (flush0_5 (tileNo r))).trans (Value.flushed5 m c (tileNo r))) (ix2 (placeIn r) k)
  rw [View.read_apply] at hb
  refine Eq.trans ?_ (hb.trans rfl)
  show (dats m 0 c).arrAt 5 cfg0.N _ = (dats m 0 c).arrAt 5 cfg0.N _
  congr 1
  funext b
  apply Fin.ext
  match b with
  | ⟨0, _⟩ => show r.val = win0_5.index (tileNo r) 0 * 256 + 1 * (r.val % 256); rw [(at_5 _).1]; dsimp only; omega
  | ⟨1, _⟩ => show k.val = win0_5.index (tileNo r) 1 * 1024 + 1 * k.val; rw [(at_5 _).2]; omega
theorem s_at (r : Fin 4096) (k : Fin 2816) :
    ((dats m 0 c).arrAt 6 cfg0.N : Vec Ideal S4096x2816 .bf16) (ix2 r k) = out0_6 (iblk m c 0 (tileNo r)) (iblk m c 1 (tileNo r)) (iblk m c 2 (tileNo r)) (iblk m c 3 (tileNo r)) (ix2 (placeIn r) k) := by
  have hb := congrFun ((Value.blocks6 m c (tileNo r) (flush0_6 (tileNo r))).trans (Value.flushed6 m c (tileNo r))) (ix2 (placeIn r) k)
  rw [View.read_apply] at hb
  refine Eq.trans ?_ (hb.trans rfl)
  show (dats m 0 c).arrAt 6 cfg0.N _ = (dats m 0 c).arrAt 6 cfg0.N _
  congr 1
  funext b
  apply Fin.ext
  match b with
  | ⟨0, _⟩ => show r.val = win0_6.index (tileNo r) 0 * 256 + 1 * (r.val % 256); rw [(at_6 _).1]; dsimp only; omega
  | ⟨1, _⟩ => show k.val = win0_6.index (tileNo r) 1 * 2816 + 1 * k.val; rw [(at_6 _).2]; omega
theorem slope_at (r : Fin 4096) (k : Fin 5632) :
    ((dats m 0 c).arrAt 7 cfg0.N : Vec Ideal S4096x5632 .bf16) (ix2 r k) = out0_7 (iblk m c 0 (tileNo r)) (iblk m c 1 (tileNo r)) (iblk m c 2 (tileNo r)) (iblk m c 3 (tileNo r)) (ix2 (placeIn r) k) := by
  have hb := congrFun ((Value.blocks7 m c (tileNo r) (flush0_7 (tileNo r))).trans (Value.flushed7 m c (tileNo r))) (ix2 (placeIn r) k)
  rw [View.read_apply] at hb
  refine (Cert.Place.pos2 (n := 4096) (p := 5632) _ _ _ _ ?_ ?_).symm.trans (hb.trans rfl)
  · show win0_7.index (tileNo r) 0 * 256 + 1 * (r.val % 256) = r.val; rw [(at_7 _).1]; dsimp only; omega
  · show win0_7.index (tileNo r) 1 * 5632 + 1 * k.val = k.val; rw [(at_7 _).2]; omega

/-- The four results, of normed rows, a gain and first weights that are real, and of any input and second weights. -/
def xSpec (x : FVec Ideal S1x4096x1024 .f32) (v : FVec Ideal S2816x1024 .f32) (N : ℕ → Fin 1024 → ℝ) (G : Fin 1024 → ℝ) (W : Fin 1024 → ℕ → ℝ) : FVec Ideal S4096x1024 .f32 := fun i =>
  x (ix3 0 (i 0) (i 1)) + ((1 / 2 : ℝ) : EReal) * ∑ q : Fin 2816, ((gated (upN (N (i 0).val) G W) q : ℝ) : EReal) * v (ix2 q (i 1))
def hSpec (N : ℕ → Fin 1024 → ℝ) (G : Fin 1024 → ℝ) : FVec Ideal S4096x1024 .bf16 := fun i => (N (i 0).val (i 1) : EReal) * (G (i 1) : EReal)
def sSpec (N : ℕ → Fin 1024 → ℝ) (G : Fin 1024 → ℝ) (W : Fin 1024 → ℕ → ℝ) : FVec Ideal S4096x2816 .bf16 := fun i => ((gated (upN (N (i 0).val) G W) (i 1).val : ℝ) : EReal)
def slopeSpec (N : ℕ → Fin 1024 → ℝ) (G : Fin 1024 → ℝ) (W : Fin 1024 → ℕ → ℝ) : FVec Ideal S4096x5632 .bf16 := fun i => ((slopes (fun _ => upN (N (i 0).val) G W) 0 (i 1).val : ℝ) : EReal)

variable (N : ℕ → Fin 1024 → ℝ) (G : Fin 1024 → ℝ) (W : Fin 1024 → ℕ → ℝ)
  (hN : ∀ (r : Fin 4096) k, nrm (fun k => inX m c (ix3 0 r k)) k = (N r k : EReal)) (hG : ∀ k, inG m c (ix1 k) = (G k : EReal)) (hW : ∀ a (j : Fin 5632), inW m c (ix2 a j) = (W a j : EReal))

include hN in
theorem tile_N (t : Fin cfg0.N) (a : Fin 256) (k : Fin 1024) : nrm (fun k => (iblk m c 0 t : Vec Ideal S256x1024 .f32) (ix2 a k)) k = ((N (rowAt t a) k : ℝ) : EReal) := by
  simp only [tile_X]
  exact hN _ k

include hN hG hW in
theorem kernel_x : ((dats m 0 c).arrAt 4 cfg0.N : Vec Ideal S4096x1024 .f32) = xSpec (inX m c) (inV m c) N G W := by
  refine Cert.Tiles.ext2 (n0 := 4096) (n1 := 1024) _ _ fun r k => ?_
  rw [x_at, x_tile _ _ _ _ (fun a => N (rowAt (tileNo r) a)) G W (tile_N m c N hN _) (fun k => (tile_G m c _ k).trans (hG k)) (fun a j => (tile_W m c _ a j).trans (hW a j)), tile_X, row_of]
  simp only [tile_V]
  rfl

include hN hG in
theorem kernel_h : ((dats m 0 c).arrAt 5 cfg0.N : Vec Ideal S4096x1024 .bf16) = hSpec N G := by
  refine Cert.Tiles.ext2 (n0 := 4096) (n1 := 1024) _ _ fun r k => ?_
  rw [h_at, h_tile, tile_N m c N hN, tile_G, hG, row_of]
  rfl

include hN hG hW in
theorem kernel_s : ((dats m 0 c).arrAt 6 cfg0.N : Vec Ideal S4096x2816 .bf16) = sSpec N G W := by
  refine Cert.Tiles.ext2 (n0 := 4096) (n1 := 2816) _ _ fun r k => ?_
  rw [s_at, s_tile _ _ _ _ (fun a => N (rowAt (tileNo r) a)) G W (tile_N m c N hN _) (fun k => (tile_G m c _ k).trans (hG k)) (fun a j => (tile_W m c _ a j).trans (hW a j)), row_of]
  rfl

include hN hG hW in
theorem kernel_slope : ((dats m 0 c).arrAt 7 cfg0.N : Vec Ideal S4096x5632 .bf16) = slopeSpec N G W := by
  refine Cert.Tiles.ext2 (n0 := 4096) (n1 := 5632) _ _ fun r k => ?_
  rw [slope_at, slope_tile _ _ _ _ (fun a => N (rowAt (tileNo r) a)) G W (tile_N m c N hN _) (fun k => (tile_G m c _ k).trans (hG k)) (fun a j => (tile_W m c _ a j).trans (hW a j)), row_of]
  rfl

end Cert.FfnFwdIdeal.Hand

end
-- ==== Proof.ProjFwdCases.lean ====
/- The projection's forward body, one grid point at a time, and its two results after the run. -/
module

public import proofs.«01_k».proof.Proof.Gen.ProjFwdIdeal.Value
public import proofs.«01_k».proof.Proof.FwdNorm
public import proofs.«01_k».proof.Proof.Tiles
public import proofs.«01_k».proof.Proof.Place
public import Idealize.ShloMosaic.Lib.Tactic
public import Idealize.ShloMosaic.Lib.Pointwise
public import Idealize.ShloMosaic.Lib.Claim

@[expose] public section

set_option maxRecDepth 16384

noncomputable section

namespace Cert.ProjFwdIdeal.Hand

open Cert.ProjFwdIdeal Cert.ProjFwdIdeal.Gen Idealize.ShloMosaic Idealize.ShloMosaic.TcCoe Idealize.SL.Sem
open Idealize.ShloMosaic.Pipeline (Dat)
open Cert.Lift Cert.Norm

theorem at_zero : (![0, 0] : Fin 2 → Nat) = fun _ => 0 := funext fun a => by fin_cases a <;> rfl

/-- A tile's normed rows, and their product with the weights. -/
theorem norm_tile (x : Vec Ideal S256x1024 .f32) (g : Vec Ideal S1x1024 .f32) (w : Vec Ideal S1024x8192 .bf16) (a : Fin 256) (k : Fin 1024) :
    out0_3 x g w (ix2 a k) = nrm (fun k => x (ix2 a k)) k * g (ix2 0 k) := by
  unfold out0_3
  rw [View.canon_unit_zero at_zero]
  simp only [View.ld_unit_zero (S := S256x1024) at_zero, View.ld_unit_zero (S := S1x1024) at_zero]
  pointwise [k0_pay1]
  simp only [lit_1024, lit_eps]
  rfl

theorem prod_tile (x : Vec Ideal S256x1024 .f32) (g : Vec Ideal S1x1024 .f32) (w : Vec Ideal S1024x8192 .bf16) (a : Fin 256) (j : Fin 8192) :
    out0_4 x g w (ix2 a j) = ∑ k, nrm (fun k => x (ix2 a k)) k * g (ix2 0 k) * w (ix2 k j) := by
  unfold out0_4
  rw [View.canon_unit_zero at_zero]
  simp only [View.ld_unit_zero (S := S256x1024) at_zero, View.ld_unit_zero (S := S1x1024) at_zero, View.ld_unit_zero (S := S1024x8192) at_zero]
  pointwise [k0_pay2, k0_pay1]
  simp only [lit_1024, lit_eps]
  rfl

variable (m : (ℓ : Loc nD τ sig) → Buf (Elt Ideal) ℓ) (c : Dev nD)

/-- The argument arrays, as one device holds them. -/
abbrev inX : FVec Ideal S1x4096x1024 .f32 := m ((c : Thread nD τ).loc main_arg0)
abbrev inG : FVec Ideal S1024 .f32 := m ((c : Thread nD τ).loc main_arg1)
abbrev inW : FVec Ideal S1024x8192 .f32 := m ((c : Thread nD τ).loc main_arg2)

theorem val_X : V m c main_v0 = shapeCast S4096x1024 (inX m c) shapeCasts_S1x4096x1024_S4096x1024 := by
  unfold V; after_results_simp <;> rfl
theorem val_G : V m c main_v1 = shapeCast S1x1024 (inG m c) shapeCasts_S1024_S1x1024 := by
  unfold V; after_results_simp <;> rfl
theorem val_W : V m c main_v2 = truncf .bf16 (inW m c) bitsLt_bf16_f32 := by
  unfold V; after_results_simp <;> rfl

/-- Row `a` of tile `t` is row `256 t + a` of the array. -/
abbrev rowAt (t : Fin cfg0.N) (a : Fin 256) : Fin 4096 :=
  ⟨256 * t.val + a.val, by have := lt_of_lt_of_eq t.isLt N_0; have := a.isLt; omega⟩
/-- The tile of a row, and the row's place in it. -/
abbrev tileNo (r : Fin 4096) : Fin cfg0.N := ⟨r.val / 256, by rw [show cfg0.N = 16 from N_0]; have := r.isLt; omega⟩
abbrev placeIn (r : Fin 4096) : Fin 256 := ⟨r.val % 256, Nat.mod_lt _ (by decide)⟩
theorem row_of (r : Fin 4096) : rowAt (tileNo r) (placeIn r) = r := Fin.ext (by show 256 * (r.val / 256) + r.val % 256 = _; omega)

/-- Where each window's block stands at a grid point. -/
theorem at_x : ∀ t : Fin cfg0.N, win0_0.index t 0 = t.val ∧ win0_0.index t 1 = 0 :=
  (by decide +kernel : ∀ t : Fin grid0.N, win0_0.index t 0 = t.val ∧ win0_0.index t 1 = 0)
theorem at_g : ∀ t : Fin cfg0.N, win0_1.index t 0 = 0 ∧ win0_1.index t 1 = 0 :=
  (by decide +kernel : ∀ t : Fin grid0.N, win0_1.index t 0 = 0 ∧ win0_1.index t 1 = 0)
theorem at_w : ∀ t : Fin cfg0.N, win0_2.index t 0 = 0 ∧ win0_2.index t 1 = 0 :=
  (by decide +kernel : ∀ t : Fin grid0.N, win0_2.index t 0 = 0 ∧ win0_2.index t 1 = 0)
theorem at_h : ∀ t : Fin cfg0.N, win0_3.index t 0 = t.val ∧ win0_3.index t 1 = 0 :=
  (by decide +kernel : ∀ t : Fin grid0.N, win0_3.index t 0 = t.val ∧ win0_3.index t 1 = 0)
theorem at_p : ∀ t : Fin cfg0.N, win0_4.index t 0 = t.val ∧ win0_4.index t 1 = 0 :=
  (by decide +kernel : ∀ t : Fin grid0.N, win0_4.index t 0 = t.val ∧ win0_4.index t 1 = 0)

/-- What the input window of rows reads: the array's rows of that tile. -/
theorem tile_X (t : Fin cfg0.N) (a : Fin 256) (k : Fin 1024) : (iblk m c 0 t : Vec Ideal S256x1024 .f32) (ix2 a k) = inX m c (ix3 0 (rowAt t a) k) := by
  have e : (iblk m c 0 t : Vec Ideal S256x1024 .f32) (ix2 a k) = V m c main_v0 (ix2 (rowAt t a) k) := by
    refine Cert.Place.pos2 (V m c main_v0) _ _ _ ?_ ?_
    · show win0_0.index t 0 * 256 + 1 * a.val = 256 * t.val + a.val; rw [(at_x t).1]; omega
    · show win0_0.index t 1 * 1024 + 1 * k.val = k.val; rw [(at_x t).2]; omega
  rw [e, val_X]
  pointwise
theorem tile_G (t : Fin cfg0.N) (k : Fin 1024) : (iblk m c 1 t : Vec Ideal S1x1024 .f32) (ix2 0 k) = inG m c (ix1 k) := by
  have e : (iblk m c 1 t : Vec Ideal S1x1024 .f32) (ix2 0 k) = V m c main_v1 (ix2 0 k) := by
    refine Cert.Place.pos2 (V m c main_v1) _ _ _ ?_ ?_
    · show win0_1.index t 0 * 1 + 1 * 0 = 0; rw [(at_g t).1]
    · show win0_1.index t 1 * 1024 + 1 * k.val = k.val; rw [(at_g t).2]; omega
  rw [e, val_G]
  pointwise
theorem tile_W (t : Fin cfg0.N) (a : Fin 1024) (j : Fin 8192) : (iblk m c 2 t : Vec Ideal S1024x8192 .bf16) (ix2 a j) = inW m c (ix2 a j) := by
  have e : (iblk m c 2 t : Vec Ideal S1024x8192 .bf16) (ix2 a j) = V m c main_v2 (ix2 a j) := by
    refine Cert.Place.pos2 (V m c main_v2) _ _ _ ?_ ?_
    · show win0_2.index t 0 * 1024 + 1 * a.val = a.val; rw [(at_w t).1]; omega
    · show win0_2.index t 1 * 8192 + 1 * j.val = j.val; rw [(at_w t).2]; omega
  rw [e, val_W]
  pointwise

/-- The two results, of the arguments: the normed rows, and their product with the weights. -/
def hSpec (x : FVec Ideal S1x4096x1024 .f32) (g : FVec Ideal S1024 .f32) : FVec Ideal S4096x1024 .bf16 := fun i =>
  nrm (fun k => x (ix3 0 (i 0) k)) (i 1) * g (ix1 (i 1))
def pSpec (x : FVec Ideal S1x4096x1024 .f32) (g : FVec Ideal S1024 .f32) (w : FVec Ideal S1024x8192 .f32) : FVec Ideal S4096x8192 .bf16 := fun i =>
  ∑ k : Fin 1024, nrm (fun k => x (ix3 0 (i 0) k)) k * g (ix1 k) * w (ix2 k (i 1))

theorem kernel_h : ((dats m 0 c).arrAt 3 cfg0.N : Vec Ideal S4096x1024 .bf16) = hSpec (inX m c) (inG m c) := by
  refine Cert.Tiles.ext2 (n0 := 4096) (n1 := 1024) _ _ fun r k => ?_
  have hb := congrFun ((Value.blocks3 m c (tileNo r) (flush0_3 (tileNo r))).trans (Value.flushed3 m c (tileNo r))) (ix2 (placeIn r) k)
  rw [View.read_apply] at hb
  refine Eq.trans ?_ (hb.trans ((norm_tile _ _ _ _ _).trans ?_))
  · show (dats m 0 c).arrAt 3 cfg0.N _ = (dats m 0 c).arrAt 3 cfg0.N _
    congr 1
    funext b
    apply Fin.ext
    match b with
    | ⟨0, _⟩ => show r.val = win0_3.index (tileNo r) 0 * 256 + 1 * (r.val % 256); rw [(at_h _).1]; dsimp only; omega
    | ⟨1, _⟩ => show k.val = win0_3.index (tileNo r) 1 * 1024 + 1 * k.val; rw [(at_h _).2]; omega
  · simp only [tile_X, tile_G, row_of]
    rfl

theorem kernel_p : ((dats m 0 c).arrAt 4 cfg0.N : Vec Ideal S4096x8192 .bf16) = pSpec (inX m c) (inG m c) (inW m c) := by
  refine Cert.Tiles.ext2 (n0 := 4096) (n1 := 8192) _ _ fun r k => ?_
  have hb := congrFun ((Value.blocks4 m c (tileNo r) (flush0_4 (tileNo r))).trans (Value.flushed4 m c (tileNo r))) (ix2 (placeIn r) k)
  rw [View.read_apply] at hb
  refine Eq.trans ?_ (hb.trans ((prod_tile _ _ _ _ _).trans ?_))
  · show (dats m 0 c).arrAt 4 cfg0.N _ = (dats m 0 c).arrAt 4 cfg0.N _
    congr 1
    funext b
    apply Fin.ext
    match b with
    | ⟨0, _⟩ => show r.val = win0_4.index (tileNo r) 0 * 256 + 1 * (r.val % 256); rw [(at_p _).1]; dsimp only; omega
    | ⟨1, _⟩ => show k.val = win0_4.index (tileNo r) 1 * 8192 + 1 * k.val; rw [(at_p _).2]; omega
  · simp only [tile_X, tile_G, tile_W, row_of]
    rfl

end Cert.ProjFwdIdeal.Hand

end
-- ==== Proof.ProjFwdClaim.lean ====
/- The projection's forward call: its value claim, and the reference's own run. -/
module

public import proofs.«01_k».proof.Defs
public import proofs.«01_k».proof.Proof.Gen.ProjFwdIdeal.Value
public import proofs.«01_k».proof.Proof.Gen.ProjFwdRefIdeal
public import proofs.«01_k».proof.Proof.Gen.ProjFwdRefIdeal.Run
public import proofs.«01_k».proof.Proof.ProjFwdCases

@[expose] public section

set_option maxRecDepth 16384

noncomputable section

namespace Cert.ProjFwdRefIdeal.Hand

open Cert.ProjFwdRefIdeal Cert.ProjFwdRefIdeal.Gen Idealize.ShloMosaic Idealize.ShloMosaic.TcCoe Idealize.SL.Sem
open Cert.Lift Cert.Norm
open Cert.ProjFwdIdeal.Hand (hSpec pSpec)

/-- The reference's normed rows. -/
def hR (x : FVec Ideal S1x4096x1024 .f32) (g : FVec Ideal S1024 .f32) : FVec Ideal S1x4096x1024 .f32 :=
  mulf (F := Ideal) (φ := .f32) (mulf (F := Ideal) (φ := .f32) x (broadcastInDim S1x4096x1024 ![0, 1, 2] bcast_S1x4096x1_S1x4096x1024_0_1_2
      (Host.rsqrt (F := Ideal) (φ := .f32) (addf (F := Ideal) (φ := .f32) (Host.divf (F := Ideal) (φ := .f32)
        (broadcastInDim S1x4096x1 ![0, 1] bcast_S1x4096_S1x4096x1_0_1 (Host.reduceAdd (F := Ideal) (φ := .f32) (mulf (F := Ideal) (φ := .f32) x x) (constant (F := Ideal) S_ .f32 0x00000000#32) reducesTo_S1x4096x1024_S1x4096_d2 h_S_))
        (broadcastInDim S1x4096x1 ![] bcast_S_S1x4096x1 (constant (F := Ideal) S_ .f32 0x44800000#32))) (broadcastInDim S1x4096x1 ![] bcast_S_S1x4096x1 (constant (F := Ideal) S_ .f32 0x358637BD#32))))))
      (broadcastInDim S1x4096x1024 ![0, 1, 2] bcast_S1x1x1024_S1x4096x1024_0_1_2 (broadcastInDim S1x1x1024 ![2] bcast_S1024_S1x1x1024_2 g))

theorem h_at (x : FVec Ideal S1x4096x1024 .f32) (g : FVec Ideal S1024 .f32) (r : Fin 4096) (k : Fin 1024) :
    hR x g (ix3 0 r k) = nrm (fun k => x (ix3 0 r k)) k * g (ix1 k) := by
  pointwise [hR]
  simp only [lit_1024, lit_eps]
  rfl

theorem ref_h (x : FVec Ideal S1x4096x1024 .f32) (g : FVec Ideal S1024 .f32) :
    truncf (F := Ideal) .bf16 (shapeCast S4096x1024 (hR x g) shapeCasts_S1x4096x1024_S4096x1024) bitsLt_bf16_f32 = hSpec x g := by
  refine Cert.Tiles.ext2 (n0 := 4096) (n1 := 1024) _ _ fun r k => ?_
  have h := h_at x g r k
  generalize hR x g = y at h ⊢
  refine Eq.trans ?_ h
  pointwise

theorem ref_p (x : FVec Ideal S1x4096x1024 .f32) (g : FVec Ideal S1024 .f32) (w : FVec Ideal S1024x8192 .f32) :
    truncf (F := Ideal) .bf16 (shapeCast S4096x8192 (Host.dotGeneral (F := Ideal) (φ₁ := .f32) (φ₂ := .f32) dot_S1x4096x1024_S1024x8192_S1x4096x8192_2_0_01_1_n_n none (hR x g) w) shapeCasts_S1x4096x8192_S4096x8192) bitsLt_bf16_f32
      = pSpec x g w := by
  refine Cert.Tiles.ext2 (n0 := 4096) (n1 := 8192) _ _ fun r j => ?_
  have h := h_at x g r
  generalize hR x g = y at h ⊢
  pointwise
  simp only [h]
  rfl

end Cert.ProjFwdRefIdeal.Hand

namespace Cert.Proof

open Idealize.ShloMosaic Idealize.SL.Sem Idealize.ShloMosaic.TcCoe

open Cert.ProjFwdRefIdeal in
/-- The reference's run changes no argument and moves no counter: it has none. -/
theorem projfwd_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Value.run m ρ)

open Cert.ProjFwdIdeal.Hand Cert.ProjFwdRefIdeal.Hand in
/-- The kernel and the reference end with equal normed rows and equal projections. -/
theorem projfwd_algebraic : Cert.algebraic_ProjFwdIdeal_ProjFwdRefIdeal (hProjFwdIdeal := Cert.ProjFwdIdeal.Gen.facts)
    (hProjFwdRefIdeal := Cert.ProjFwdRefIdeal.Gen.facts) := by
  intro m g m' g' _ hargs
  refine ⟨fun c => hSpec (inX m c) (inG m c),
    fun c => pSpec (inX m c) (inG m c) (inW m c), ?_, ?_⟩
  · refine (θ_run _ _ _).mono (fun r h c => ?_) (Cert.ProjFwdIdeal.Value.run_blocks m g)
    exact ⟨(h c).1.trans (kernel_h m c), (h c).2.1.trans (kernel_p m c), (h c).2.2⟩
  · refine (θ_run _ _ _).mono (fun r h c => ?_) (Cert.ProjFwdRefIdeal.Value.run m' g')
    obtain ⟨a0, a1, a2⟩ := hargs c
    refine ⟨(h c).1.trans ((ref_h _ _).trans ?_), (h c).2.1.trans ((ref_p _ _ _).trans ?_), (h c).2.2⟩
    · exact congrArg₂ hSpec a0 a1
    · exact (congrArg₂ (fun x g => pSpec x g _) a0 a1).trans (congrArg _ a2)

end Cert.Proof

end
-- ==== Proof.FfnFwdClaim.lean ====
/- The feed-forward's forward call: its reference, its value claim, and the reference's own run. -/
module

public import proofs.«01_k».proof.Defs
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.Pre_gate_finite
public import proofs.«01_k».proof.Proof.FfnFwdCases
public import proofs.«01_k».proof.Proof.FfnClaim
public import proofs.«01_k».proof.Proof.ProjFwdClaim

@[expose] public section

set_option maxRecDepth 16384

noncomputable section

namespace Cert.FfnFwdRefIdeal.Hand

open Cert.FfnFwdRefIdeal Cert.FfnFwdRefIdeal.Gen Idealize.ShloMosaic Idealize.ShloMosaic.TcCoe Idealize.SL.Sem
open Cert.Lift Cert.Norm Cert.Mix Cert.Ffn
open Cert.ProjFwdRefIdeal.Hand (hR h_at)
open Cert.FfnRefIdeal.Hand (oneR sigR sig_at catR cat_at flat_wide)
open Cert.FfnFwdIdeal.Hand (upN gated xSpec hSpec sSpec slopeSpec)

/-- The reference's product with the first weights, its two groups of columns, and the gated one. -/
def upR (x : FVec Ideal S1x4096x1024 .f32) (g : FVec Ideal S1024 .f32) (w : FVec Ideal S1024x5632 .f32) : FVec Ideal S1x4096x5632 .f32 :=
  Host.dotGeneral (F := Ideal) (φ₁ := .f32) (φ₂ := .f32) dot_S1x4096x1024_S1024x5632_S1x4096x5632_2_0_01_1_n_n none (hR x g) w
def loR (y : FVec Ideal S1x4096x5632 .f32) : FVec Ideal S1x4096x2816 .f32 := extractStridedSlice S1x4096x2816 ![0, 0, 0] y slices_S1x4096x5632_S1x4096x2816_0_0_0
def hiR (y : FVec Ideal S1x4096x5632 .f32) : FVec Ideal S1x4096x2816 .f32 := extractStridedSlice S1x4096x2816 ![0, 0, 2816] y slices_S1x4096x5632_S1x4096x2816_0_0_2816
def gateR (a b : FVec Ideal S1x4096x2816 .f32) : FVec Ideal S1x4096x2816 .f32 := mulf (F := Ideal) (φ := .f32) (mulf (F := Ideal) (φ := .f32) a (sigR a)) b
def outR (x : FVec Ideal S1x4096x1024 .f32) (s : FVec Ideal S1x4096x2816 .f32) (v : FVec Ideal S2816x1024 .f32) : FVec Ideal S4096x1024 .f32 :=
  shapeCast S4096x1024 (addf (F := Ideal) (φ := .f32) x (mulf (F := Ideal) (φ := .f32) (broadcastInDim S1x4096x1024 ![] bcast_S_S1x4096x1024 (constant (F := Ideal) S_ .f32 0x3F000000#32))
    (Host.dotGeneral (F := Ideal) (φ₁ := .f32) (φ₂ := .f32) dot_S1x4096x2816_S2816x1024_S1x4096x1024_2_0_01_1_n_n none s v))) shapeCasts_S1x4096x1024_S4096x1024

section
variable (x : FVec Ideal S1x4096x1024 .f32) (g : FVec Ideal S1024 .f32) (w : FVec Ideal S1024x5632 .f32) (v : FVec Ideal S2816x1024 .f32)
variable (N : ℕ → Fin 1024 → ℝ) (G : Fin 1024 → ℝ) (W : Fin 1024 → ℕ → ℝ)
  (hN : ∀ (r : Fin 4096) k, nrm (fun k => x (ix3 0 r k)) k = (N r k : EReal)) (hG : ∀ k, g (ix1 k) = (G k : EReal)) (hW : ∀ a (j : Fin 5632), w (ix2 a j) = (W a j : EReal))

include hN hG hW in
theorem up_at (r : Fin 4096) (j : Fin 5632) : upR x g w (ix3 0 r j) = ((upN (N r) G W j : ℝ) : EReal) := by
  have h := h_at x g r
  unfold upR
  generalize hR x g = y at h ⊢
  pointwise
  simp only [h, hN, hG, hW, ← EReal.coe_mul, sum_coe]
  rfl

include hN hG hW in
theorem lo_at (r : Fin 4096) (q : Fin 2816) : loR (upR x g w) (ix3 0 r q) = ((upN (N r) G W q : ℝ) : EReal) := by
  have h := up_at x g w N G W hN hG hW r
  generalize upR x g w = y at h ⊢
  pointwise [loR]
  rw [h]

include hN hG hW in
theorem hi_at (r : Fin 4096) (q : Fin 2816) : hiR (upR x g w) (ix3 0 r q) = ((upN (N r) G W (2816 + q) : ℝ) : EReal) := by
  have h := up_at x g w N G W hN hG hW r
  generalize upR x g w = y at h ⊢
  pointwise [hiR]
  rw [h]

include hN hG hW in
theorem gate_at (r : Fin 4096) (q : Fin 2816) : gateR (loR (upR x g w)) (hiR (upR x g w)) (ix3 0 r q) = ((gated (upN (N r) G W) q : ℝ) : EReal) := by
  have ha := lo_at x g w N G W hN hG hW
  have hb := hi_at x g w N G W hN hG hW r q
  have hs := sig_at _ (fun r => upN (N r) G W) ha r q
  show loR (upR x g w) (ix3 0 r q) * sigR (loR (upR x g w)) (ix3 0 r q) * hiR (upR x g w) (ix3 0 r q) = _
  rw [ha, hb, hs, ← EReal.coe_mul, ← EReal.coe_mul]
  rfl

include hN hG hW in
theorem ref_x : outR x (gateR (loR (upR x g w)) (hiR (upR x g w))) v = xSpec x v N G W := by
  refine Cert.Tiles.ext2 (n0 := 4096) (n1 := 1024) _ _ fun r k => ?_
  have h := gate_at x g w N G W hN hG hW r
  generalize gateR (loR (upR x g w)) (hiR (upR x g w)) = s at h ⊢
  pointwise [outR]
  simp only [h, lit_half]
  rfl

include hN hG in
theorem ref_h : truncf (F := Ideal) .bf16 (shapeCast S4096x1024 (hR x g) shapeCasts_S1x4096x1024_S4096x1024) bitsLt_bf16_f32 = hSpec N G := by
  refine (Cert.ProjFwdRefIdeal.Hand.ref_h x g).trans (Cert.Tiles.ext2 (n0 := 4096) (n1 := 1024) _ _ fun r k => ?_)
  show nrm (fun k => x (ix3 0 r k)) k * g (ix1 k) = _
  rw [hN, hG]
  rfl

/-- Three axes to two, at an index. -/
theorem flat_gate (d : FVec Ideal S1x4096x2816 .f32) (r : Fin 4096) (k : Fin 2816) :
    truncf (F := Ideal) .bf16 (shapeCast S4096x2816 d shapeCasts_S1x4096x2816_S4096x2816) bitsLt_bf16_f32 (ix2 r k) = d (ix3 0 r k) := by
  pointwise

include hN hG hW in
theorem ref_s : truncf (F := Ideal) .bf16 (shapeCast S4096x2816 (gateR (loR (upR x g w)) (hiR (upR x g w))) shapeCasts_S1x4096x2816_S4096x2816) bitsLt_bf16_f32 = sSpec N G W := by
  refine Cert.Tiles.ext2 (n0 := 4096) (n1 := 2816) _ _ fun r k => ?_
  exact (flat_gate _ r k).trans (gate_at x g w N G W hN hG hW r k)

/-- One everywhere. -/
theorem one_at (r : Fin 4096) (q : Fin 2816) : oneR (ix3 0 r q) = ((1 : ℝ) : EReal) := by
  pointwise [oneR]
  exact EReal.coe_one.symm

include hN hG hW in
theorem ref_slope : truncf (F := Ideal) .bf16 (shapeCast S4096x5632 (catR (loR (upR x g w)) (hiR (upR x g w)) oneR) shapeCasts_S1x4096x5632_S4096x5632) bitsLt_bf16_f32 = slopeSpec N G W := by
  refine Cert.Tiles.ext2 (n0 := 4096) (n1 := 5632) _ _ fun r k => ?_
  refine (flat_wide _ r k).trans ((cat_at _ _ _ (fun r => upN (N r) G W) (fun _ _ => 1) (lo_at x g w N G W hN hG hW) (hi_at x g w N G W hN hG hW) one_at r k).trans ?_)
  show ((_ : ℝ) : EReal) = ((_ : ℝ) : EReal)
  congr 1
  simp only [ite_self, one_mul]
  rfl
end

variable (m : (ℓ : Loc nD τ sig) → Buf (Elt Ideal) ℓ) (c : Dev nD)
/-- The arguments, as one device holds them. -/
abbrev inX : FVec Ideal S1x4096x1024 .f32 := m ((c.tc : Thread nD τ).loc main_arg0)
abbrev inG : FVec Ideal S1024 .f32 := m ((c.tc : Thread nD τ).loc main_arg1)
abbrev inW : FVec Ideal S1024x5632 .f32 := m ((c.tc : Thread nD τ).loc main_arg2)
abbrev inV : FVec Ideal S2816x1024 .f32 := m ((c.tc : Thread nD τ).loc main_arg3)

end Cert.FfnFwdRefIdeal.Hand

namespace Cert.Proof

open Idealize.ShloMosaic Idealize.SL.Sem Idealize.ShloMosaic.TcCoe

/-- The precondition read: the gain and the first weights are real on every device. -/
theorem gate_real (m : (ℓ : Loc Cert.FfnFwdIdeal.nD Cert.FfnFwdIdeal.τ Cert.FfnFwdIdeal.sig) → Buf (Elt Ideal) ℓ)
    (h : Cert.Pre_FfnFwdIdeal_gate_finite (hPre_gate_finite := Cert.Pre_gate_finite.Gen.facts) m) (c : Dev Cert.FfnFwdIdeal.nD) :
    ∃ (G : Fin 1024 → ℝ) (W : Fin 1024 → ℕ → ℝ), (∀ k, Cert.FfnFwdIdeal.Hand.inG m c (ix1 k) = (G k : EReal))
      ∧ ∀ a (j : Fin 5632), Cert.FfnFwdIdeal.Hand.inW m c (ix2 a j) = (W a j : EReal) := by
  have hc := h c
  dsimp only [Cert.Pre_gate_finite.fn] at hc
  obtain ⟨t0, t1⟩ := Cert.Finite.of_andi hc
  obtain ⟨g, hg⟩ := Cert.Finite.real_of_test _ t0
  obtain ⟨W, hW⟩ := colsBy (Cert.Finite.real_of_test _ t1)
  exact ⟨fun k => g (ix1 k), W, fun k => hg _, hW⟩

open Cert.FfnFwdRefIdeal in
/-- The reference's run changes no argument and moves no counter: it has none. -/
theorem ffnfwd_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2, sem_eq_zero_of_no_sems (by decide) r.2⟩) (Value.run m ρ)

open Cert.FfnFwdIdeal.Hand Cert.FfnFwdRefIdeal.Hand in
/-- The kernel and the reference end with equal outputs, normed rows, gated columns and slopes of the gate. -/
theorem ffnfwd_algebraic : Cert.algebraic_FfnFwdIdeal_FfnFwdRefIdeal_pre_gate_finite (hFfnFwdIdeal := Cert.FfnFwdIdeal.Gen.facts)
    (hFfnFwdRefIdeal := Cert.FfnFwdRefIdeal.Gen.facts) (hPre_gate_finite := Cert.Pre_gate_finite.Gen.facts) := by
  intro m g m' g' hpre hargs
  choose G W hG hW using gate_real m hpre
  have hrow : ∀ c, ∃ N : ℕ → Fin 1024 → ℝ, ∀ (r : Fin 4096) k, Cert.Norm.nrm (fun k => inX m c (ix3 0 r k)) k = (N r k : EReal) := by
    intro c
    choose N hN using fun (r : Fin 4096) k => Cert.Norm.nrm_real (fun k => inX m c (ix3 0 r k)) k
    exact ⟨fun r k => if h : r < 4096 then N ⟨r, h⟩ k else 0, fun r k => by simp only [r.isLt, dite_true]; exact hN r k⟩
  choose N hN using hrow
  refine ⟨fun c => xSpec (inX m c) (inV m c) (N c) (G c) (W c), fun c => hSpec (N c) (G c),
    fun c => sSpec (N c) (G c) (W c), fun c => slopeSpec (N c) (G c) (W c), ?_, ?_⟩
  · refine (θ_run _ _ _).mono (fun r h c => ?_) (Cert.FfnFwdIdeal.Value.run_blocks m g)
    exact ⟨(h c).1.trans (kernel_x m c _ _ _ (hN c) (hG c) (hW c)), (h c).2.1.trans (kernel_h m c _ _ (hN c) (hG c)),
      (h c).2.2.1.trans (kernel_s m c _ _ _ (hN c) (hG c) (hW c)), (h c).2.2.2.1.trans (kernel_slope m c _ _ _ (hN c) (hG c) (hW c)), (h c).2.2.2.2⟩
  · refine (θ_run _ _ _).mono (fun r h c => ?_) (Cert.FfnFwdRefIdeal.Value.run m' g')
    obtain ⟨a0, a1, a2, a3⟩ := hargs c
    have kN : ∀ (r : Fin 4096) k, Cert.Norm.nrm (fun k => inX m' c (ix3 0 r k)) k = (N c r k : EReal) := fun r k =>
      (congrArg (fun x : FVec Ideal Cert.FfnFwdRefIdeal.S1x4096x1024 .f32 => Cert.Norm.nrm (fun k => x (ix3 0 r k)) k) a0).trans (hN c r k)
    have kG := fun k => (congrFun a1 (ix1 k)).trans (hG c k)
    have kW := fun a j => (congrFun a2 (ix2 a j)).trans (hW c a j)
    refine ⟨(h c).1.trans ((ref_x _ _ _ _ _ _ _ kN kG kW).trans ?_), (h c).2.1.trans (ref_h _ _ _ _ kN kG),
      (h c).2.2.1.trans (ref_s _ _ _ _ _ _ kN kG kW), (h c).2.2.2.1.trans (ref_slope _ _ _ _ _ _ kN kG kW), (h c).2.2.2.2⟩
    exact congrArg₂ (fun x v => xSpec x v (N c) (G c) (W c)) a0 a3

end Cert.Proof

end
-- ==== Proof.MergeFwdCases.lean ====
/- The gated merge's forward body, one grid point at a time: the tiles its outputs end with, and what it reads of the gates. -/
module

public import proofs.«01_k».proof.Proof.Gen.MergeFwdIdeal.Value
public import proofs.«01_k».proof.Proof.FfnFinal
public import Idealize.ShloMosaic.Lib.Tactic
public import Idealize.ShloMosaic.Lib.Pointwise
public import Idealize.ShloMosaic.Lib.VecWindow
public import Idealize.ShloMosaic.Lib.ValueLayout
public import Idealize.ShloMosaic.Lib.Claim

@[expose] public section

set_option maxRecDepth 16384

noncomputable section

namespace Cert.MergeFwdIdeal.Hand

open Cert.MergeFwdIdeal Cert.MergeFwdIdeal.Gen Idealize.ShloMosaic Idealize.ShloMosaic.TcCoe Idealize.SL.Sem
open Idealize.ShloMosaic.Pipeline (Dat)

theorem at_zero : (![0, 0] : Fin 2 → Nat) = fun _ => 0 := funext fun a => by fin_cases a <;> rfl

variable {F : FTy → Type} [FloatOps F] (m : (ℓ : Loc nD τ sig) → Buf (Elt F) ℓ) (c : Dev nD) (t : Fin cfg0.N)

/-- A branch's columns of a tile of `y`, and its matrix. -/
abbrev y0 : FVec F S512x512 .bf16 := View.ld (iblk m c 1 t) (Rect.unit ![0, 0] S512x512.size inb_S512x2048_S512x512_0_0)
abbrev y1 : FVec F S512x512 .bf16 := View.ld (iblk m c 1 t) (Rect.unit ![0, 512] S512x512.size inb_S512x2048_S512x512_0_512)
abbrev y2 : FVec F S512x512 .bf16 := View.ld (iblk m c 1 t) (Rect.unit ![0, 1024] S512x512.size inb_S512x2048_S512x512_0_1024)
abbrev y3 : FVec F S512x512 .bf16 := View.ld (iblk m c 1 t) (Rect.unit ![0, 1536] S512x512.size inb_S512x2048_S512x512_0_1536)
abbrev w0 : FVec F S1x512x1024 .bf16 := View.ld (iblk m c 2 t) (Rect.unit ![0, 0, 0] S1x512x1024.size inb_S4x512x1024_S1x512x1024_0_0_0)
abbrev w1 : FVec F S1x512x1024 .bf16 := View.ld (iblk m c 2 t) (Rect.unit ![1, 0, 0] S1x512x1024.size inb_S4x512x1024_S1x512x1024_1_0_0)
abbrev w2 : FVec F S1x512x1024 .bf16 := View.ld (iblk m c 2 t) (Rect.unit ![2, 0, 0] S1x512x1024.size inb_S4x512x1024_S1x512x1024_2_0_0)
abbrev w3 : FVec F S1x512x1024 .bf16 := View.ld (iblk m c 2 t) (Rect.unit ![3, 0, 0] S1x512x1024.size inb_S4x512x1024_S1x512x1024_3_0_0)
/-- The merged tile: the four branches' products, each times its gate's columns as the buffer holds them. -/
def mT : FVec F S512x1024 .bf16 :=
  k0_pay11 (k0_pay4 (y0 m c t) (w0 m c t) (kernelRun0_B.sl.v53 c t (V m c main_v4))) (k0_pay5 (y1 m c t) (w1 m c t)) (kernelRun0_B.sl.v67 c t (V m c main_v4))
    (y2 m c t) (w2 m c t) (kernelRun0_B.sl.v81 c t (V m c main_v4)) (y3 m c t) (w3 m c t) (kernelRun0_B.sl.v95 c t (V m c main_v4))

/-- The four products' tile: each branch's columns in turn. -/
def uT : Vec F S512x4096 .bf16 := View.canon [
  ⟨Rect.unit (s := S512x4096) ![0, 3072] S512x1024.size inb_S512x4096_S512x1024_0_3072, k0_pay10 (y3 m c t) (w3 m c t)⟩,
  ⟨Rect.unit (s := S512x4096) ![0, 2048] S512x1024.size inb_S512x4096_S512x1024_0_2048, k0_pay8 (y2 m c t) (w2 m c t)⟩,
  ⟨Rect.unit (s := S512x4096) ![0, 1024] S512x1024.size inb_S512x4096_S512x1024_0_1024, k0_pay6 (y1 m c t) (w1 m c t)⟩,
  ⟨Rect.unit (s := S512x4096) ![0, 0] S512x1024.size inb_S512x4096_S512x1024_0_0, k0_pay3 (y0 m c t) (w0 m c t)⟩]

set_option maxHeartbeats 2000000 in
/-- The three outputs of a tile. -/
theorem outs : outsAt0 m c t.val t.isLt = (k0_pay1 (mT m c t) (iblk m c 0 t) (iblk m c 3 t), mT m c t, uT m c t) := by
  have hN : t.val < 8 := lt_of_lt_of_eq t.isLt N_0
  by_cases h0 : t.val % 8 = 0
  rw [outsAt0_A m c t h0 (by omega)]
  rotate_left
  by_cases h1 : t.val < 6
  rw [outsAt0_B m c t h0 h1]
  rotate_left
  rw [outsAt0_C m c t h0 h1]
  all_goals
    refine Prod.ext ?_ (Prod.ext ?_ ?_) <;> dsimp only
    all_goals
      first
      | unfold out0_A_4; refine (View.read_writes_eq_canon _ _ _ fun _ => cover0_A_4 ..).trans ?_
      | unfold out0_A_5; refine (View.read_writes_eq_canon _ _ _ fun _ => cover0_A_5 ..).trans ?_
      | unfold out0_A_6; refine (View.read_writes_eq_canon _ _ _ fun _ => cover0_A_6 ..).trans ?_
      | unfold out0_B_4; refine (View.read_writes_eq_canon _ _ _ fun _ => cover0_B_4 ..).trans ?_
      | unfold out0_B_5; refine (View.read_writes_eq_canon _ _ _ fun _ => cover0_B_5 ..).trans ?_
      | unfold out0_B_6; refine (View.read_writes_eq_canon _ _ _ fun _ => cover0_B_6 ..).trans ?_
      | unfold out0_C_4; refine (View.read_writes_eq_canon _ _ _ fun _ => cover0_C_4 ..).trans ?_
      | unfold out0_C_5; refine (View.read_writes_eq_canon _ _ _ fun _ => cover0_C_5 ..).trans ?_
      | unfold out0_C_6; refine (View.read_writes_eq_canon _ _ _ fun _ => cover0_C_6 ..).trans ?_
      first | unfold kernelRun0_A | unfold kernelRun0_B | unfold kernelRun0_C
      dsimp only
      sl_unfold_words
      try rw [View.canon_unit_zero at_zero]
      simp only [View.readAt_eq_ld, (hs0_0 t).read_unread, (hs0_1 t).read_unread, (hs0_2 t).read_unread, (hs0_3 t).read_unread,
        View.ld_unit_zero (S := S512x1024) at_zero, View.ld_unit_zero (S := S1024x1024) at_zero]
      rfl

/-- A load from a slot of the buffer, at one row and column. -/
theorem slot_at (s : Fin 3) (o : ℕ) (ho : o + 1024 ≤ 4096) (inb) (W : S3x512x4096.Idx → Elt F .bf16) (a : Fin 512) (k : Fin 1024) :
    View.readAt (Elt F) scM0_0.view (Rect.unit (s := S3x512x4096) ![s.val, 0, o] S1x512x1024.size inb).toLoadRect W (ix3 0 a k)
      = (rslot0_0 s).view.read (Elt F) W (ix2 a ⟨o + k.val, by have := k.isLt; omega⟩) := by
  show W _ = W _
  congr 1
  have e : Shape.reshapeEquiv (s := ⟨3, ![1, 512, 4096]⟩) (s' := ⟨2, ![512, 4096]⟩) (by decide) (ix2 a ⟨o + k.val, by have := k.isLt; omega⟩) = ix3 0 a ⟨o + k.val, by have := k.isLt; omega⟩ :=
    ValueIdx.reshapeEquiv_ix2_1ab _ _ _
  funext b
  apply Fin.ext
  match b with
  | ⟨0, _⟩ => show s.val + 1 * 0 = s.val + 1 * (Shape.reshapeEquiv (s := ⟨3, ![1, 512, 4096]⟩) (s' := ⟨2, ![512, 4096]⟩) _ _ 0).val; rw [e]; rfl
  | ⟨1, _⟩ => show 0 + 1 * a.val = 0 + 1 * (Shape.reshapeEquiv (s := ⟨3, ![1, 512, 4096]⟩) (s' := ⟨2, ![512, 4096]⟩) _ _ 1).val; rw [e]; rfl
  | ⟨2, _⟩ => show o + 1 * k.val = 0 + 1 * (Shape.reshapeEquiv (s := ⟨3, ![1, 512, 4096]⟩) (s' := ⟨2, ![512, 4096]⟩) _ _ 2).val; rw [e]; show _ = 0 + 1 * (o + k.val); omega

/-- The same after the copy that fills the slot. -/
theorem slot_read (s : Fin 3) (o : ℕ) (ho : o + 1024 ≤ 4096) (off : Fin 3 → ℕ) (hoff : off = ![s.val, 0, o]) (inb) (f) (d : S512x4096.Idx → Elt F .bf16) (a : Fin 512) (k : Fin 1024) :
    View.readAt (Elt F) scM0_0.view (Rect.unit (s := S3x512x4096) off S1x512x1024.size inb).toLoadRect ((rslot0_0 s).view.writes (Elt F) f [⟨Rect.whole S512x4096, d⟩]) (ix3 0 a k)
      = d (ix2 a ⟨o + k.val, by have := k.isLt; omega⟩) := by
  subst hoff
  exact (slot_at s o ho inb _ a k).trans (congrFun (View.read_writes_full (Val := Elt F) (rslot0_0 s).view f (off := fun _ => 0) (fun _ => by omega) d []) _)

/-- A row and column of the block the copy takes. -/
theorem src_at (b : Fin 8) (P : S4096x8192.Idx → Elt F .bf16) (a : Fin 512) (j : Fin 4096) :
    View.read (Elt F) (srcB0_0 b).view P (ix2 a j) = P (ix2 ⟨512 * b.val + a.val, by have := a.isLt; have := b.isLt; omega⟩ ⟨4096 + j.val, by have := j.isLt; omega⟩) := by
  show P _ = P _
  congr 1
  funext i
  apply Fin.ext
  match i with
  | ⟨0, _⟩ => show 512 * b.val + 1 * a.val = 512 * b.val + a.val; omega
  | ⟨1, _⟩ => show 4096 + 1 * j.val = 4096 + j.val; omega

/-- What the buffer holds of the gates: the tile's rows, a branch's columns. -/
abbrev gateOf (o : ℕ) (ho : o + 1024 ≤ 4096) (a : Fin 512) (k : Fin 1024) : F .bf16 :=
  (V m c main_v4 : FVec F S4096x8192 .bf16) (ix2 ⟨512 * (Ring.bk 8 t.val).val + a.val, by have := a.isLt; have := (Ring.bk 8 t.val).isLt; omega⟩ ⟨4096 + (o + k.val), by have := k.isLt; omega⟩)
theorem gate0 (a : Fin 512) (k : Fin 1024) : kernelRun0_B.sl.v53 c t (V m c main_v4) (ix3 0 a k) = gateOf m c t 0 (by omega) a k :=
  (slot_read (Ring.sl 3 t.val) 0 (by omega) _ (coff0_0_13 t) _ _ _ a k).trans (src_at _ _ _ _)
theorem gate1 (a : Fin 512) (k : Fin 1024) : kernelRun0_B.sl.v67 c t (V m c main_v4) (ix3 0 a k) = gateOf m c t 1024 (by omega) a k :=
  (slot_read (Ring.sl 3 t.val) 1024 (by omega) _ (coff0_0_14 t) _ _ _ a k).trans (src_at _ _ _ _)
theorem gate2 (a : Fin 512) (k : Fin 1024) : kernelRun0_B.sl.v81 c t (V m c main_v4) (ix3 0 a k) = gateOf m c t 2048 (by omega) a k :=
  (slot_read (Ring.sl 3 t.val) 2048 (by omega) _ (coff0_0_15 t) _ _ _ a k).trans (src_at _ _ _ _)
theorem gate3 (a : Fin 512) (k : Fin 1024) : kernelRun0_B.sl.v95 c t (V m c main_v4) (ix3 0 a k) = gateOf m c t 3072 (by omega) a k :=
  (slot_read (Ring.sl 3 t.val) 3072 (by omega) _ (coff0_0_16 t) _ _ _ a k).trans (src_at _ _ _ _)

end Cert.MergeFwdIdeal.Hand

end
-- ==== Proof.MergeFwdTiles.lean ====
/- The gated merge's forward results after the run, of the arguments. -/
module

public import proofs.«01_k».proof.Proof.MergeFwdCases
public import proofs.«01_k».proof.Proof.Tiles

@[expose] public section

set_option maxRecDepth 16384

noncomputable section

namespace Cert.MergeFwdIdeal.Hand

open Cert.MergeFwdIdeal Cert.MergeFwdIdeal.Gen Idealize.ShloMosaic Idealize.ShloMosaic.TcCoe Idealize.SL.Sem
open Cert.FfnBwdIdeal.Hand (cols_in cols_out)
open Cert.Place (pos2)

/-- A branch's product at a row; the branches' products, each times its gate, added up; the call's three results. -/
def upAt (y : FVec Ideal S1x4096x4x512 .f32) (u : FVec Ideal S4x512x1024 .f32) (r : Fin 4096) (b : Fin 4) (d : Fin 1024) : EReal :=
  ∑ k : Fin 512, y (ix4 0 r b k) * u (ix3 b k d)
def mrgAt (y : FVec Ideal S1x4096x4x512 .f32) (p : FVec Ideal S1x4096x8192 .f32) (u : FVec Ideal S4x512x1024 .f32) (r : Fin 4096) (d : Fin 1024) : EReal :=
  ∑ b : Fin 4, Ideal.logistic (p (ix3 0 r ⟨4096 + (b.val * 1024 + d.val), by omega⟩)) * upAt y u r b d
def xSpec (x : FVec Ideal S1x4096x1024 .f32) (y : FVec Ideal S1x4096x4x512 .f32) (p : FVec Ideal S1x4096x8192 .f32) (u : FVec Ideal S4x512x1024 .f32) (w : FVec Ideal S1024x1024 .f32) :
    FVec Ideal S4096x1024 .f32 := fun i => x (ix3 0 (i 0) (i 1)) + ∑ e : Fin 1024, mrgAt y p u (i 0) e * w (ix2 e (i 1))
def mSpec (y : FVec Ideal S1x4096x4x512 .f32) (p : FVec Ideal S1x4096x8192 .f32) (u : FVec Ideal S4x512x1024 .f32) : FVec Ideal S4096x1024 .bf16 := fun i => mrgAt y p u (i 0) (i 1)
abbrev branch (j : Fin 4096) : Fin 4 := ⟨j.val / 1024, by omega⟩
abbrev lane (j : Fin 4096) : Fin 1024 := ⟨j.val % 1024, by omega⟩
def uSpec (y : FVec Ideal S1x4096x4x512 .f32) (u : FVec Ideal S4x512x1024 .f32) : FVec Ideal S4096x4096 .bf16 := fun i => upAt y u (i 0) (branch (i 1)) (lane (i 1))

variable (m : (ℓ : Loc nD τ sig) → Buf (Elt Ideal) ℓ) (c : Dev nD)

abbrev inX : FVec Ideal S1x4096x1024 .f32 := m ((c : Thread nD τ).loc main_arg0)
abbrev inY : FVec Ideal S1x4096x4x512 .f32 := m ((c : Thread nD τ).loc main_arg1)
abbrev inP : FVec Ideal S1x4096x8192 .f32 := m ((c : Thread nD τ).loc main_arg2)
abbrev inU : FVec Ideal S4x512x1024 .f32 := m ((c : Thread nD τ).loc main_arg3)
abbrev inW : FVec Ideal S1024x1024 .f32 := m ((c : Thread nD τ).loc main_arg4)

theorem val_X : V m c main_v0 = shapeCast S4096x1024 (inX m c) shapeCasts_S1x4096x1024_S4096x1024 := by
  unfold V; after_results_simp <;> rfl
theorem val_Y : V m c main_v2 = truncf .bf16 (shapeCast S4096x2048 (inY m c) shapeCasts_S1x4096x4x512_S4096x2048) bitsLt_bf16_f32 := by
  unfold V; after_results_simp <;> rfl
theorem val_P : V m c main_v4 = truncf .bf16 (shapeCast S4096x8192 (inP m c) shapeCasts_S1x4096x8192_S4096x8192) bitsLt_bf16_f32 := by
  unfold V; after_results_simp <;> rfl
theorem val_U : V m c main_v5 = truncf .bf16 (inU m c) bitsLt_bf16_f32 := by
  unfold V; after_results_simp <;> rfl
theorem val_W : V m c main_v6 = truncf .bf16 (inW m c) bitsLt_bf16_f32 := by
  unfold V; after_results_simp <;> rfl

/-- Row `a` of tile `t` is row `512 t + a` of the array. -/
abbrev rowAt (t : Fin cfg0.N) (a : Fin 512) : Fin 4096 :=
  ⟨512 * t.val + a.val, by have := lt_of_lt_of_eq t.isLt N_0; omega⟩
abbrev tileNo (r : Fin 4096) : Fin cfg0.N := ⟨r.val / 512, by rw [show cfg0.N = 8 from N_0]; omega⟩
abbrev placeIn (r : Fin 4096) : Fin 512 := ⟨r.val % 512, Nat.mod_lt _ (by decide)⟩
theorem row_of (r : Fin 4096) : rowAt (tileNo r) (placeIn r) = r := Fin.ext (by show 512 * (r.val / 512) + r.val % 512 = _; omega)

/-- Where each window's block stands at a grid point. -/
abbrev Stands (t : Fin cfg0.N) : Prop := (Ring.bk 8 t.val).val = t.val ∧ (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0) ∧ (win0_3.index t 0 = 0 ∧ win0_3.index t 1 = 0) ∧ (win0_4.index t 0 = t.val ∧ win0_4.index t 1 = 0)
    ∧ (win0_5.index t 0 = t.val ∧ win0_5.index t 1 = 0) ∧ win0_6.index t 0 = t.val ∧ win0_6.index t 1 = 0
theorem at_w : ∀ t : Fin cfg0.N, Stands t := (by decide +kernel : ∀ t : Fin grid0.N, Stands t)

/-- What the tile reads of the arguments. -/
theorem x_in (t : Fin cfg0.N) (a : Fin 512) (k : Fin 1024) : (iblk m c 0 t : Vec Ideal S512x1024 .f32) (ix2 a k) = inX m c (ix3 0 (rowAt t a) k) := by
  refine (pos2 (V m c main_v0 : FVec Ideal S4096x1024 .f32) _ (rowAt t a) k ?_ ?_).trans (by rw [val_X]; pointwise)
  · show win0_0.index t 0 * 512 + 1 * a.val = 512 * t.val + a.val; rw [(at_w t).2.1.1]; omega
  · show win0_0.index t 1 * 1024 + 1 * k.val = k.val; rw [(at_w t).2.1.2]; omega
theorem w_in (t : Fin cfg0.N) (e : Fin 1024) (k : Fin 1024) : (iblk m c 3 t : Vec Ideal S1024x1024 .bf16) (ix2 e k) = inW m c (ix2 e k) := by
  refine (pos2 (V m c main_v6 : FVec Ideal S1024x1024 .bf16) _ e k ?_ ?_).trans (by rw [val_W]; pointwise)
  · show win0_3.index t 0 * 1024 + 1 * e.val = e.val; rw [(at_w t).2.2.2.2.1.1]; omega
  · show win0_3.index t 1 * 1024 + 1 * k.val = k.val; rw [(at_w t).2.2.2.2.1.2]; omega
theorem y_in (t : Fin cfg0.N) (o : ℕ) (inb) (b : Fin 4) (ho : o = b.val * 512) (a k : Fin 512) :
    View.ld (iblk m c 1 t : Vec Ideal S512x2048 .bf16) (Rect.unit ![0, o] S512x512.size inb) (ix2 a k) = inY m c (ix4 0 (rowAt t a) b k) := by
  subst ho
  refine (pos2 (V m c main_v2 : FVec Ideal S4096x2048 .bf16) _ (rowAt t a) ⟨b.val * 512 + k.val, by omega⟩ ?_ ?_).trans (by rw [val_Y]; pointwise)
  · show win0_1.index t 0 * 512 + 1 * (0 + 1 * a.val) = 512 * t.val + a.val; rw [(at_w t).2.2.1.1]; omega
  · show win0_1.index t 1 * 2048 + 1 * (b.val * 512 + 1 * k.val) = b.val * 512 + k.val; rw [(at_w t).2.2.1.2]; omega
theorem u_in (t : Fin cfg0.N) (o : ℕ) (inb) (b : Fin 4) (ho : o = b.val) (k : Fin 512) (d : Fin 1024) :
    View.ld (iblk m c 2 t : Vec Ideal S4x512x1024 .bf16) (Rect.unit ![o, 0, 0] S1x512x1024.size inb) (ix3 0 k d) = inU m c (ix3 b k d) := by
  subst ho
  refine Eq.trans (b := (V m c main_v5 : FVec Ideal S4x512x1024 .bf16) (ix3 b k d)) ?_ (by rw [val_U]; pointwise)
  refine congrArg (V m c main_v5 : FVec Ideal S4x512x1024 .bf16) (funext fun i => Fin.ext ?_)
  match i with
  | ⟨0, _⟩ => show win0_2.index t 0 * 4 + 1 * (b.val + 1 * 0) = b.val; rw [(at_w t).2.2.2.1.1]; omega
  | ⟨1, _⟩ => show win0_2.index t 1 * 512 + 1 * (0 + 1 * k.val) = k.val; rw [(at_w t).2.2.2.1.2.1]; omega
  | ⟨2, _⟩ => show win0_2.index t 2 * 1024 + 1 * (0 + 1 * d.val) = d.val; rw [(at_w t).2.2.2.1.2.2]; omega
theorem p_in (t : Fin cfg0.N) (o : ℕ) (ho : o + 1024 ≤ 4096) (b : Fin 4) (hb : o = b.val * 1024) (a : Fin 512) (d : Fin 1024) :
    gateOf m c t o ho a d = inP m c (ix3 0 (rowAt t a) ⟨4096 + (b.val * 1024 + d.val), by omega⟩) := by
  subst hb
  refine (pos2 (V m c main_v4 : FVec Ideal S4096x8192 .bf16) _ (rowAt t a) ⟨4096 + (b.val * 1024 + d.val), by omega⟩ ?_ rfl).trans (by rw [val_P]; pointwise)
  show 512 * (Ring.bk 8 t.val).val + a.val = 512 * t.val + a.val
  rw [(at_w t).1]

/-- The merged tile and the products' tile. -/
theorem m_pay (y0 y1 y2 y3 : FVec Ideal S512x512 .bf16) (w0 w1 w2 w3 g0 g1 g2 g3 : FVec Ideal S1x512x1024 .bf16) (a : Fin 512) (d : Fin 1024) :
    (k0_pay11 (F := Ideal) (k0_pay4 y0 w0 g0) (k0_pay5 y1 w1) g1 y2 w2 g2 y3 w3 g3 (ix2 a d) : EReal)
      = Ideal.logistic (g0 (ix3 0 a d)) * (∑ k, y0 (ix2 a k) * w0 (ix3 0 k d)) + Ideal.logistic (g1 (ix3 0 a d)) * (∑ k, y1 (ix2 a k) * w1 (ix3 0 k d))
        + Ideal.logistic (g2 (ix3 0 a d)) * (∑ k, y2 (ix2 a k) * w2 (ix3 0 k d)) + Ideal.logistic (g3 (ix3 0 a d)) * ∑ k, y3 (ix2 a k) * w3 (ix3 0 k d) := by
  pointwise [k0_pay11, k0_pay4, k0_pay2, k0_pay5, k0_pay7, k0_pay9]
theorem up_in (yb : FVec Ideal S512x512 .bf16) (wb : FVec Ideal S1x512x1024 .bf16) (t : Fin cfg0.N) (b : Fin 4) (a : Fin 512) (d : Fin 1024)
    (hy : ∀ k, yb (ix2 a k) = inY m c (ix4 0 (rowAt t a) b k)) (hw : ∀ k, wb (ix3 0 k d) = inU m c (ix3 b k d)) :
    ∑ k, (yb (ix2 a k) * wb (ix3 0 k d) : EReal) = upAt (inY m c) (inU m c) (rowAt t a) b d :=
  Finset.sum_congr rfl fun k _ => congrArg₂ (α := EReal) (β := EReal) (· * ·) (hy k) (hw k)
theorem m_tile (t : Fin cfg0.N) (a : Fin 512) (d : Fin 1024) : mT m c t (ix2 a d) = mrgAt (inY m c) (inP m c) (inU m c) (rowAt t a) d := by
  refine (m_pay ..).trans (Eq.trans ?_ (Fin.sum_univ_four _).symm)
  refine congrArg₂ (· + ·) (congrArg₂ (· + ·) (congrArg₂ (· + ·) ?_ ?_) ?_) ?_
  · exact congrArg₂ (· * ·) (congrArg Ideal.logistic ((gate0 m c t a d).trans (p_in m c t 0 _ 0 rfl a d))) (up_in m c _ _ t 0 a d (y_in m c t _ _ 0 rfl a) fun k => u_in m c t _ _ 0 rfl k d)
  · exact congrArg₂ (· * ·) (congrArg Ideal.logistic ((gate1 m c t a d).trans (p_in m c t 1024 _ 1 rfl a d))) (up_in m c _ _ t 1 a d (y_in m c t _ _ 1 rfl a) fun k => u_in m c t _ _ 1 rfl k d)
  · exact congrArg₂ (· * ·) (congrArg Ideal.logistic ((gate2 m c t a d).trans (p_in m c t 2048 _ 2 rfl a d))) (up_in m c _ _ t 2 a d (y_in m c t _ _ 2 rfl a) fun k => u_in m c t _ _ 2 rfl k d)
  · exact congrArg₂ (· * ·) (congrArg Ideal.logistic ((gate3 m c t a d).trans (p_in m c t 3072 _ 3 rfl a d))) (up_in m c _ _ t 3 a d (y_in m c t _ _ 3 rfl a) fun k => u_in m c t _ _ 3 rfl k d)
theorem u_tile (t : Fin cfg0.N) (a : Fin 512) (b : Fin 4) (d : Fin 1024) :
    uT m c t (ix2 a ⟨b.val * 1024 + d.val, by omega⟩) = upAt (inY m c) (inU m c) (rowAt t a) b d := by
  unfold uT
  have hd := d.isLt
  match b with
  | 3 => rw [cols_in a d rfl rfl]; pointwise [k0_pay10, k0_pay9]; exact up_in m c _ _ t 3 a d (y_in m c t _ _ 3 rfl a) fun k => u_in m c t _ _ 3 rfl k d
  | 2 =>
    rw [cols_out (by show 2 * 1024 + d.val < 3072; omega), cols_in a d rfl rfl]
    pointwise [k0_pay8, k0_pay7]; exact up_in m c _ _ t 2 a d (y_in m c t _ _ 2 rfl a) fun k => u_in m c t _ _ 2 rfl k d
  | 1 =>
    rw [cols_out (by show 1 * 1024 + d.val < 3072; omega), cols_out (by show 1 * 1024 + d.val < 2048; omega), cols_in a d rfl rfl]
    pointwise [k0_pay6, k0_pay5]; exact up_in m c _ _ t 1 a d (y_in m c t _ _ 1 rfl a) fun k => u_in m c t _ _ 1 rfl k d
  | 0 =>
    rw [cols_out (by show 0 * 1024 + d.val < 3072; omega), cols_out (by show 0 * 1024 + d.val < 2048; omega), cols_out (by show 0 * 1024 + d.val < 1024; omega), cols_in a d rfl (by show 0 * 1024 + d.val = 0 + d.val; omega)]
    pointwise [k0_pay3, k0_pay2]; exact up_in m c _ _ t 0 a d (y_in m c t _ _ 0 rfl a) fun k => u_in m c t _ _ 0 rfl k d

theorem u_col (t : Fin cfg0.N) (a : Fin 512) (j : Fin 4096) : uT m c t (ix2 a j) = upAt (inY m c) (inU m c) (rowAt t a) (branch j) (lane j) :=
  Eq.trans (congrArg (fun j => uT m c t (ix2 a j)) (Fin.ext (by show j.val = j.val / 1024 * 1024 + j.val % 1024; omega))) (u_tile m c t a (branch j) (lane j))

/-- The three results after the run. -/
theorem kernel_x : ((dats m 0 c).arrAt 4 cfg0.N : Vec Ideal S4096x1024 .f32) = xSpec (inX m c) (inY m c) (inP m c) (inU m c) (inW m c) := by
  refine Cert.Tiles.ext2 (n0 := 4096) (n1 := 1024) _ _ fun r k => ?_
  have hb := congrFun ((Value.blocks4 m c (tileNo r) (flush0_4 (tileNo r))).trans (Value.flushed4 m c (tileNo r))) (ix2 (placeIn r) k)
  rw [outs, View.read_apply] at hb
  refine ((pos2 (n := 4096) (p := 1024) _ _ r k ?_ ?_).symm).trans (hb.trans ?_)
  · show win0_4.index (tileNo r) 0 * 512 + 1 * (r.val % 512) = r.val; rw [(at_w _).2.2.2.2.2.1.1]; dsimp only; omega
  · show win0_4.index (tileNo r) 1 * 1024 + 1 * k.val = k.val; rw [(at_w _).2.2.2.2.2.1.2]; omega
  · show k0_pay1 (mT m c (tileNo r)) (iblk m c 0 (tileNo r)) (iblk m c 3 (tileNo r)) (ix2 (placeIn r) k) = _
    pointwise [k0_pay1]
    simp only [x_in, w_in, m_tile, row_of]
    rfl
theorem kernel_m : ((dats m 0 c).arrAt 5 cfg0.N : Vec Ideal S4096x1024 .bf16) = mSpec (inY m c) (inP m c) (inU m c) := by
  refine Cert.Tiles.ext2 (n0 := 4096) (n1 := 1024) _ _ fun r k => ?_
  have hb := congrFun ((Value.blocks5 m c (tileNo r) (flush0_5 (tileNo r))).trans (Value.flushed5 m c (tileNo r))) (ix2 (placeIn r) k)
  rw [outs, View.read_apply] at hb
  refine ((pos2 (n := 4096) (p := 1024) _ _ r k ?_ ?_).symm).trans (hb.trans ((m_tile m c (tileNo r) (placeIn r) k).trans ?_))
  · show win0_5.index (tileNo r) 0 * 512 + 1 * (r.val % 512) = r.val; rw [(at_w _).2.2.2.2.2.2.1.1]; dsimp only; omega
  · show win0_5.index (tileNo r) 1 * 1024 + 1 * k.val = k.val; rw [(at_w _).2.2.2.2.2.2.1.2]; omega
  · rw [row_of]; rfl
theorem kernel_u : ((dats m 0 c).arrAt 6 cfg0.N : Vec Ideal S4096x4096 .bf16) = uSpec (inY m c) (inU m c) := by
  refine Cert.Tiles.ext2 (n0 := 4096) (n1 := 4096) _ _ fun r j => ?_
  have hb := congrFun ((Value.blocks6 m c (tileNo r) (flush0_6 (tileNo r))).trans (Value.flushed6 m c (tileNo r))) (ix2 (placeIn r) j)
  obtain ⟨f, hf⟩ : ∃ f : Vec Ideal S512x4096 .bf16, f = uT m c (tileNo r) := ⟨_, rfl⟩
  rw [outs, View.read_apply, ← hf] at hb
  refine ((pos2 (n := 4096) (p := 4096) _ _ r j ?_ ?_).symm).trans (hb.trans ?_)
  · show win0_6.index (tileNo r) 0 * 512 + 1 * (r.val % 512) = r.val; rw [(at_w _).2.2.2.2.2.2.2.1]; dsimp only; omega
  · show win0_6.index (tileNo r) 1 * 4096 + 1 * j.val = j.val; rw [(at_w _).2.2.2.2.2.2.2.2]; omega
  · show f (ix2 (placeIn r) j) = _
    rw [hf, u_col, row_of]
    rfl

end Cert.MergeFwdIdeal.Hand

end
-- ==== Proof.MergeFwdClaim.lean ====
/- The gated merge's forward call: its value claim, and the reference's own run. -/
module

public import proofs.«01_k».proof.Defs
public import proofs.«01_k».proof.Proof.Gen.MergeFwdRefIdeal
public import proofs.«01_k».proof.Proof.Gen.MergeFwdRefIdeal.Run
public import proofs.«01_k».proof.Proof.HostSum
public import proofs.«01_k».proof.Proof.MergeFwdTiles

@[expose] public section

set_option maxRecDepth 16384

noncomputable section

namespace Cert.MergeFwdRefIdeal.Hand

open Cert.MergeFwdRefIdeal Cert.MergeFwdRefIdeal.Gen Idealize.ShloMosaic Idealize.ShloMosaic.TcCoe Idealize.SL.Sem
open Cert.MergeFwdIdeal.Hand (upAt mrgAt xSpec mSpec uSpec branch lane)

/-- The reference's gates, its products, and their sum over the branches. -/
def gR (p : FVec Ideal S1x4096x8192 .f32) : FVec Ideal S1x4096x4x1024 .f32 :=
  Host.divf (F := Ideal) (φ := .f32) (broadcastInDim S1x4096x4x1024 ![] bcast_S_S1x4096x4x1024 (constant (F := Ideal) S_ .f32 0x3F800000#32))
    (addf (F := Ideal) (φ := .f32) (broadcastInDim S1x4096x4x1024 ![] bcast_S_S1x4096x4x1024 (constant (F := Ideal) S_ .f32 0x3F800000#32))
      (Host.exp (F := Ideal) (φ := .f32) (Host.negf (F := Ideal) (φ := .f32) (shapeCast S1x4096x4x1024 (extractStridedSlice S1x4096x4096 ![0, 0, 4096] p slices_S1x4096x8192_S1x4096x4096_0_0_4096) shapeCasts_S1x4096x4096_S1x4096x4x1024))))
def uR (y : FVec Ideal S1x4096x4x512 .f32) (u : FVec Ideal S4x512x1024 .f32) : FVec Ideal S1x4096x4x1024 .f32 :=
  transpose S1x4096x4x1024 [2, 3, 0, 1] (Host.dotGeneral (F := Ideal) (φ₁ := .f32) (φ₂ := .f32) dot_S4x512x1024_S1x4096x4x512_S4x1024x1x4096_1_3_2_01_0_2 none u y) transposes_S4x1024x1x4096_S1x4096x4x1024_2_3_0_1
def mR (y : FVec Ideal S1x4096x4x512 .f32) (p : FVec Ideal S1x4096x8192 .f32) (u : FVec Ideal S4x512x1024 .f32) : FVec Ideal S1x4096x1024 .f32 :=
  Host.reduceAdd (F := Ideal) (φ := .f32) (mulf (F := Ideal) (φ := .f32) (gR p) (uR y u)) (constant (F := Ideal) S_ .f32 0x00000000#32) reducesTo_S1x4096x4x1024_S1x4096x1024_d2 h_S_

/-- Each at one row. -/
theorem g_at (p : FVec Ideal S1x4096x8192 .f32) (r : Fin 4096) (b : Fin 4) (d : Fin 1024) :
    gR p (ix4 0 r b d) = Ideal.logistic (p (ix3 0 r ⟨4096 + (b.val * 1024 + d.val), by omega⟩)) := by
  pointwise [gR]
  rfl
theorem u_at (y : FVec Ideal S1x4096x4x512 .f32) (u : FVec Ideal S4x512x1024 .f32) (r : Fin 4096) (b : Fin 4) (d : Fin 1024) : uR y u (ix4 0 r b d) = upAt y u r b d := by
  pointwise [uR]
  exact Finset.sum_congr rfl fun k _ => mul_comm _ _
theorem m_at (y : FVec Ideal S1x4096x4x512 .f32) (p : FVec Ideal S1x4096x8192 .f32) (u : FVec Ideal S4x512x1024 .f32) (r : Fin 4096) (d : Fin 1024) : mR y p u (ix3 0 r d) = mrgAt y p u r d := by
  unfold mR
  show Ideal.hostReduceAdd _ _ _ _ = _
  rw [Cert.HostSum.hostReduceAdd_fiber _ _ _ _ (fun b : Fin 4 => ix4 0 r b d)]
  · pointwise
    simp only [g_at, u_at]
    rfl
  · intro a b hab; exact congrFun hab 2
  · intro b; funext i; match i with | ⟨0, _⟩ => rfl | ⟨1, _⟩ => rfl | ⟨2, _⟩ => rfl
  · intro i hi
    exact ⟨i 2, by funext k; match k with | ⟨0, _⟩ => exact (Subsingleton.elim (α := Fin 1) _ _) | ⟨1, _⟩ => exact (congrFun hi 1).symm | ⟨2, _⟩ => rfl | ⟨3, _⟩ => exact (congrFun hi 2).symm⟩

theorem ref_x (x : FVec Ideal S1x4096x1024 .f32) (y : FVec Ideal S1x4096x4x512 .f32) (p : FVec Ideal S1x4096x8192 .f32) (u : FVec Ideal S4x512x1024 .f32) (w : FVec Ideal S1024x1024 .f32) :
    shapeCast S4096x1024 (addf (F := Ideal) (φ := .f32) x (Host.dotGeneral (F := Ideal) (φ₁ := .f32) (φ₂ := .f32) dot_S1x4096x1024_S1024x1024_S1x4096x1024_2_0_01_1_n_n none (mR y p u) w)) shapeCasts_S1x4096x1024_S4096x1024
      = xSpec x y p u w := by
  refine Cert.Tiles.ext2 (n0 := 4096) (n1 := 1024) _ _ fun r d => ?_
  have h := m_at y p u r
  generalize mR y p u = z at h ⊢
  pointwise
  simp only [h]
  rfl
theorem ref_m (y : FVec Ideal S1x4096x4x512 .f32) (p : FVec Ideal S1x4096x8192 .f32) (u : FVec Ideal S4x512x1024 .f32) : truncf (F := Ideal) .bf16 (shapeCast S4096x1024 (mR y p u) shapeCasts_S1x4096x1024_S4096x1024) bitsLt_bf16_f32 = mSpec y p u := by
  refine Cert.Tiles.ext2 (n0 := 4096) (n1 := 1024) _ _ fun r d => ?_
  have h := m_at y p u r d
  generalize mR y p u = z at h ⊢
  exact Eq.trans (by pointwise) h
theorem ref_u (y : FVec Ideal S1x4096x4x512 .f32) (u : FVec Ideal S4x512x1024 .f32) : truncf (F := Ideal) .bf16 (shapeCast S4096x4096 (uR y u) shapeCasts_S1x4096x4x1024_S4096x4096) bitsLt_bf16_f32 = uSpec y u := by
  refine Cert.Tiles.ext2 (n0 := 4096) (n1 := 4096) _ _ fun r j => ?_
  have h := u_at y u r (branch j) (lane j)
  generalize uR y u = z at h ⊢
  exact Eq.trans (by pointwise) h

end Cert.MergeFwdRefIdeal.Hand

namespace Cert.Proof

open Idealize.ShloMosaic Idealize.SL.Sem Idealize.ShloMosaic.TcCoe

open Cert.MergeFwdRefIdeal in
/-- The reference's run changes no argument and moves no counter: it has none. -/
theorem mergefwd_ref_frame (m : (ℓ : Loc nD τ sig) → Buf (Elt Ideal) ℓ)
    (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems (by decide) r.2⟩) (Value.run m ρ)

open Cert.MergeFwdIdeal.Hand in
/-- The kernel and the reference end with equal outputs, merged rows and products. -/
theorem mergefwd_algebraic : Cert.algebraic_MergeFwdIdeal_MergeFwdRefIdeal (hMergeFwdIdeal := Cert.MergeFwdIdeal.Gen.facts)
    (hMergeFwdRefIdeal := Cert.MergeFwdRefIdeal.Gen.facts) := by
  intro m g m' g' _ hargs
  refine ⟨fun c => xSpec (inX m c) (inY m c) (inP m c) (inU m c) (inW m c), fun c => mSpec (inY m c) (inP m c) (inU m c), fun c => uSpec (inY m c) (inU m c), ?_, ?_⟩
  · refine (θ_run _ _ _).mono (fun r h c => ?_) (Cert.MergeFwdIdeal.Value.run_blocks m g)
    exact ⟨(h c).1.trans (kernel_x m c), (h c).2.1.trans (kernel_m m c), (h c).2.2.1.trans (kernel_u m c), (h c).2.2.2⟩
  · refine (θ_run _ _ _).mono (fun r h c => ?_) (Cert.MergeFwdRefIdeal.Value.run m' g')
    obtain ⟨a0, a1, a2, a3, a4⟩ := hargs c
    refine ⟨(h c).1.trans ((Cert.MergeFwdRefIdeal.Hand.ref_x _ _ _ _ _).trans ?_), (h c).2.1.trans ((Cert.MergeFwdRefIdeal.Hand.ref_m _ _ _).trans ?_), (h c).2.2.1.trans ((Cert.MergeFwdRefIdeal.Hand.ref_u _ _).trans ?_), (h c).2.2.2⟩
    · exact (congrArg₂ (fun x y => xSpec x y _ _ _) a0 a1).trans ((congrArg₂ (fun p u => xSpec _ _ p u _) a2 a3).trans (congrArg _ a4))
    · exact (congrArg₂ (fun y p => mSpec y p _) a1 a2).trans (congrArg _ a3)
    · exact congrArg₂ uSpec a1 a3

end Cert.Proof

end
-- ==== Proof.lean ====
/- The proof of every claim of the certificate. -/
module

public import proofs.«01_k».proof.Defs
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossRefIdeal
public import proofs.«01_k».proof.Proof.Gen.Pre_loss_finite
public import proofs.«01_k».proof.Proof.Gen.LossHeadIdeal.Value
public import proofs.«01_k».proof.Proof.Gen.LossRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.Pre_mix_finite
public import proofs.«01_k».proof.Proof.LossClaim
public import proofs.«01_k».proof.Proof.MixClaim
public import proofs.«01_k».proof.Proof.Gen.ProjBwd.Frame
public import proofs.«01_k».proof.Proof.Gen.ProjBwdIdeal.Frame
public import proofs.«01_k».proof.Proof.Gen.ProjBwdIdeal.Value
public import proofs.«01_k».proof.Proof.Gen.ProjRefIdeal.Run
public import proofs.«01_k».proof.Proof.Gen.Pre_proj_finite
public import proofs.«01_k».proof.Proof.ProjClaim
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnRefIdeal.Run
public import proofs.«01_k».proof.Proof.Gen.Pre_ffn_finite
public import proofs.«01_k».proof.Proof.FfnClaim
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.Pre_gate_finite
public import proofs.«01_k».proof.Proof.Gen.ProjFwd.Frame
public import proofs.«01_k».proof.Proof.Gen.ProjFwdIdeal.Frame
public import proofs.«01_k».proof.Proof.Gen.ProjFwdIdeal.Value
public import proofs.«01_k».proof.Proof.Gen.ProjFwdRefIdeal.Run
public import proofs.«01_k».proof.Proof.FfnFwdClaim
public import proofs.«01_k».proof.Proof.ProjFwdClaim
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal.Run
public import proofs.«01_k».proof.Proof.MergeFwdClaim
public import Idealize.ShloMosaic.Adequacy
public import Idealize.ShloMosaic.Init

@[expose] public section

noncomputable section

namespace Cert.Proof

open Idealize.ShloMosaic Idealize.SL.Sem Cert.LossHead

theorem claim : Cert.Claim := ⟨Cert.LossHead.Gen.facts, Cert.LossHeadIdeal.Gen.facts, Cert.LossRefIdeal.Gen.facts, Cert.Mix.Gen.facts,
  Cert.MixIdeal.Gen.facts, Cert.MixRefIdeal.Gen.facts, Cert.ProjBwd.Gen.facts,
  Cert.ProjBwdIdeal.Gen.facts, Cert.ProjRefIdeal.Gen.facts, Cert.FfnBwd.Gen.facts,
  Cert.FfnBwdIdeal.Gen.facts, Cert.FfnRefIdeal.Gen.facts, Cert.FfnFwd.Gen.facts,
  Cert.FfnFwdIdeal.Gen.facts, Cert.FfnFwdRefIdeal.Gen.facts, Cert.ProjFwd.Gen.facts,
  Cert.ProjFwdIdeal.Gen.facts, Cert.ProjFwdRefIdeal.Gen.facts,
  Cert.MergeFwd.Gen.facts, Cert.MergeFwdIdeal.Gen.facts, Cert.MergeFwdRefIdeal.Gen.facts, Cert.Pre_loss_finite.Gen.facts, Cert.Pre_mix_finite.Gen.facts, Cert.Pre_proj_finite.Gen.facts, Cert.Pre_ffn_finite.Gen.facts, Cert.Pre_gate_finite.Gen.facts,
  fun m ρ _ => Cert.LossHead.Gen.frame m ρ, fun m ρ _ => Cert.LossHeadIdeal.Gen.frame m ρ, fun m ρ _ => Cert.LossHeadIdeal.Gen.frame m ρ,
  fun m ρ _ => loss_ref_frame m ρ, fun m ρ _ => loss_ref_frame m ρ,
  fun m ρ _ => Cert.Mix.Gen.frame m ρ, fun m ρ _ => Cert.MixIdeal.Gen.frame m ρ, fun m ρ _ => Cert.MixIdeal.Gen.frame m ρ,
  fun m ρ _ => mix_ref_frame m ρ, fun m ρ _ => mix_ref_frame m ρ,
  fun m ρ _ => Cert.ProjBwd.Gen.frame m ρ, fun m ρ _ => Cert.ProjBwdIdeal.Gen.frame m ρ, fun m ρ _ => Cert.ProjBwdIdeal.Gen.frame m ρ,
  fun m ρ _ => proj_ref_frame m ρ, fun m ρ _ => proj_ref_frame m ρ,
  fun m ρ _ => Cert.FfnBwd.Gen.frame m ρ, fun m ρ _ => Cert.FfnBwdIdeal.Gen.frame m ρ, fun m ρ _ => Cert.FfnBwdIdeal.Gen.frame m ρ,
  fun m ρ _ => ffn_ref_frame m ρ, fun m ρ _ => ffn_ref_frame m ρ,
  fun m ρ _ => Cert.FfnFwd.Gen.frame m ρ, fun m ρ _ => Cert.FfnFwdIdeal.Gen.frame m ρ, fun m ρ _ => Cert.FfnFwdIdeal.Gen.frame m ρ,
  fun m ρ _ => ffnfwd_ref_frame m ρ, fun m ρ _ => ffnfwd_ref_frame m ρ,
  fun m ρ _ => Cert.ProjFwd.Gen.frame m ρ, fun m ρ _ => Cert.ProjFwdIdeal.Gen.frame m ρ, fun m ρ _ => projfwd_ref_frame m ρ,
  fun m ρ _ => Cert.MergeFwd.Gen.frame m ρ, fun m ρ _ => Cert.MergeFwdIdeal.Gen.frame m ρ, fun m ρ _ => mergefwd_ref_frame m ρ,
  trivial, loss_algebraic, ⟨IdealRules.named_const.statement _ _ _ _ _ rfl, IdealRules.named_const.statement _ _ _ _ _ rfl⟩, mix_algebraic,
  trivial, proj_algebraic,
  trivial, ffn_algebraic,
  trivial, ffnfwd_algebraic,
  trivial, projfwd_algebraic,
  trivial, mergefwd_algebraic⟩

end Cert.Proof

end
